-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelGw (m : (ℓ : Loc Cert.KernelGw.nD Cert.KernelGw.τ Cert.KernelGw.sig) → Buf (Elt Bits) ℓ) : Prop :=
  True

def Pre_KernelGwIdeal (m : (ℓ : Loc Cert.KernelGwIdeal.nD Cert.KernelGwIdeal.τ Cert.KernelGwIdeal.sig) → Buf (Elt Ideal) ℓ) : Prop :=
  True

def Pre_ReferenceGwIdeal (m : (ℓ : Loc Cert.ReferenceGwIdeal.nD Cert.ReferenceGwIdeal.τ Cert.ReferenceGwIdeal.sig) → Buf (Elt Ideal) ℓ) : Prop :=
  True

def Pre_KernelDu (m : (ℓ : Loc Cert.KernelDu.nD Cert.KernelDu.τ Cert.KernelDu.sig) → Buf (Elt Bits) ℓ) : Prop :=
  True

def Pre_KernelDuIdeal (m : (ℓ : Loc Cert.KernelDuIdeal.nD Cert.KernelDuIdeal.τ Cert.KernelDuIdeal.sig) → Buf (Elt Ideal) ℓ) : Prop :=
  True

def Pre_ReferenceDuIdeal (m : (ℓ : Loc Cert.ReferenceDuIdeal.nD Cert.ReferenceDuIdeal.τ Cert.ReferenceDuIdeal.sig) → Buf (Elt Ideal) ℓ) : Prop :=
  True

def Pre_KernelGm (m : (ℓ : Loc Cert.KernelGm.nD Cert.KernelGm.τ Cert.KernelGm.sig) → Buf (Elt Bits) ℓ) : Prop :=
  True

def Pre_KernelGmIdeal (m : (ℓ : Loc Cert.KernelGmIdeal.nD Cert.KernelGmIdeal.τ Cert.KernelGmIdeal.sig) → Buf (Elt Ideal) ℓ) : Prop :=
  True

def Pre_ReferenceGmIdeal (m : (ℓ : Loc Cert.ReferenceGmIdeal.nD Cert.ReferenceGmIdeal.τ Cert.ReferenceGmIdeal.sig) → Buf (Elt Ideal) ℓ) : Prop :=
  True

def Pre_KernelGo (m : (ℓ : Loc Cert.KernelGo.nD Cert.KernelGo.τ Cert.KernelGo.sig) → Buf (Elt Bits) ℓ) : Prop :=
  True

def Pre_KernelGoIdeal (m : (ℓ : Loc Cert.KernelGoIdeal.nD Cert.KernelGoIdeal.τ Cert.KernelGoIdeal.sig) → Buf (Elt Ideal) ℓ) : Prop :=
  True

def Pre_ReferenceGoIdeal (m : (ℓ : Loc Cert.ReferenceGoIdeal.nD Cert.ReferenceGoIdeal.τ Cert.ReferenceGoIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_KernelNormIdeal_numbers [hPre_numbers : Cert.Pre_numbers.Facts] (m : (ℓ : Loc Cert.KernelNormIdeal.nD Cert.KernelNormIdeal.τ Cert.KernelNormIdeal.sig) → Buf (Elt Ideal) ℓ) : Prop :=
  ∀ c : Dev Cert.KernelNormIdeal.nD,
    (Cert.Pre_numbers.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3)) (m ((c.tc : Thread Cert.KernelNormIdeal.nD Cert.KernelNormIdeal.τ).loc Cert.KernelNormIdeal.main_arg4))) = (fun _ => 1#1)

def Pre_ReferenceNormIdeal (m : (ℓ : Loc Cert.ReferenceNormIdeal.nD Cert.ReferenceNormIdeal.τ Cert.ReferenceNormIdeal.sig) → Buf (Elt Ideal) ℓ) : Prop :=
  True

def Pre_ReferenceNormIdeal_numbers [hPre_numbers : Cert.Pre_numbers.Facts] (m : (ℓ : Loc Cert.ReferenceNormIdeal.nD Cert.ReferenceNormIdeal.τ Cert.ReferenceNormIdeal.sig) → Buf (Elt Ideal) ℓ) : Prop :=
  ∀ c : Dev Cert.ReferenceNormIdeal.nD,
    (Cert.Pre_numbers.fn (F := Ideal) (m ((c.tc : Thread Cert.ReferenceNormIdeal.nD Cert.ReferenceNormIdeal.τ).loc Cert.ReferenceNormIdeal.main_arg0)) (m ((c.tc : Thread Cert.ReferenceNormIdeal.nD Cert.ReferenceNormIdeal.τ).loc Cert.ReferenceNormIdeal.main_arg1)) (m ((c.tc : Thread Cert.ReferenceNormIdeal.nD Cert.ReferenceNormIdeal.τ).loc Cert.ReferenceNormIdeal.main_arg2)) (m ((c.tc : Thread Cert.ReferenceNormIdeal.nD Cert.ReferenceNormIdeal.τ).loc Cert.ReferenceNormIdeal.main_arg3)) (m ((c.tc : Thread Cert.ReferenceNormIdeal.nD Cert.ReferenceNormIdeal.τ).loc Cert.ReferenceNormIdeal.main_arg4))) = (fun _ => 1#1)

def Pre_KernelSsd (m : (ℓ : Loc Cert.KernelSsd.nD Cert.KernelSsd.τ Cert.KernelSsd.sig) → Buf (Elt Bits) ℓ) : Prop :=
  True

def Pre_KernelSsdIdeal (m : (ℓ : Loc Cert.KernelSsdIdeal.nD Cert.KernelSsdIdeal.τ Cert.KernelSsdIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamAda (m : (ℓ : Loc Cert.KernelAdamAda.nD Cert.KernelAdamAda.τ Cert.KernelAdamAda.sig) → Buf (Elt Bits) ℓ) : Prop :=
  True

def Pre_KernelAdamAdaIdeal (m : (ℓ : Loc Cert.KernelAdamAdaIdeal.nD Cert.KernelAdamAdaIdeal.τ Cert.KernelAdamAdaIdeal.sig) → Buf (Elt Ideal) ℓ) : Prop :=
  True

def Pre_ReferenceAdamAdaIdeal (m : (ℓ : Loc Cert.ReferenceAdamAdaIdeal.nD Cert.ReferenceAdamAdaIdeal.τ Cert.ReferenceAdamAdaIdeal.sig) → Buf (Elt Ideal) ℓ) : Prop :=
  True

def Pre_KernelAdamProj (m : (ℓ : Loc Cert.KernelAdamProj.nD Cert.KernelAdamProj.τ Cert.KernelAdamProj.sig) → Buf (Elt Bits) ℓ) : Prop :=
  True

def Pre_KernelAdamProjIdeal (m : (ℓ : Loc Cert.KernelAdamProjIdeal.nD Cert.KernelAdamProjIdeal.τ Cert.KernelAdamProjIdeal.sig) → Buf (Elt Ideal) ℓ) : Prop :=
  True

def Pre_ReferenceAdamProjIdeal (m : (ℓ : Loc Cert.ReferenceAdamProjIdeal.nD Cert.ReferenceAdamProjIdeal.τ Cert.ReferenceAdamProjIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_ReferencePreIdeal (m : (ℓ : Loc Cert.ReferencePreIdeal.nD Cert.ReferencePreIdeal.τ Cert.ReferencePreIdeal.sig) → Buf (Elt Ideal) ℓ) : Prop :=
  True

def Pre_KernelAdamRest (m : (ℓ : Loc Cert.KernelAdamRest.nD Cert.KernelAdamRest.τ Cert.KernelAdamRest.sig) → Buf (Elt Bits) ℓ) : Prop :=
  True

def Pre_KernelAdamRestIdeal (m : (ℓ : Loc Cert.KernelAdamRestIdeal.nD Cert.KernelAdamRestIdeal.τ Cert.KernelAdamRestIdeal.sig) → Buf (Elt Ideal) ℓ) : Prop :=
  True

def Pre_ReferenceAdamRestIdeal (m : (ℓ : Loc Cert.ReferenceAdamRestIdeal.nD Cert.ReferenceAdamRestIdeal.τ Cert.ReferenceAdamRestIdeal.sig) → Buf (Elt Ideal) ℓ) : Prop :=
  True

def Pre_KernelCond (m : (ℓ : Loc Cert.KernelCond.nD Cert.KernelCond.τ Cert.KernelCond.sig) → Buf (Elt Bits) ℓ) : Prop :=
  True

def Pre_KernelCondIdeal (m : (ℓ : Loc Cert.KernelCondIdeal.nD Cert.KernelCondIdeal.τ Cert.KernelCondIdeal.sig) → Buf (Elt Ideal) ℓ) : Prop :=
  True

def Pre_ReferenceCondIdeal (m : (ℓ : Loc Cert.ReferenceCondIdeal.nD Cert.ReferenceCondIdeal.τ Cert.ReferenceCondIdeal.sig) → Buf (Elt Ideal) ℓ) : Prop :=
  True

def Pre_KernelCondW (m : (ℓ : Loc Cert.KernelCondW.nD Cert.KernelCondW.τ Cert.KernelCondW.sig) → Buf (Elt Bits) ℓ) : Prop :=
  True

def Pre_KernelCondWIdeal (m : (ℓ : Loc Cert.KernelCondWIdeal.nD Cert.KernelCondWIdeal.τ Cert.KernelCondWIdeal.sig) → Buf (Elt Ideal) ℓ) : Prop :=
  True

def Pre_ReferenceCondWIdeal (m : (ℓ : Loc Cert.ReferenceCondWIdeal.nD Cert.ReferenceCondWIdeal.τ Cert.ReferenceCondWIdeal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_KernelGw [hKernelGw : Cert.KernelGw.Facts] : Prop :=
  ∀ (m : (ℓ : Loc Cert.KernelGw.nD Cert.KernelGw.τ Cert.KernelGw.sig) → Buf (Elt Bits) ℓ) (g : Dev Cert.KernelGw.nD → PrngReg), Pre_KernelGw m →
    θ_run (Cert.KernelGw.defs (F := Bits)) (onTc (τ := Cert.KernelGw.τ) (Cert.KernelGw.main (F := Bits))) ⟨m, fun _ => 0, g⟩ (fun r => (∀ c : Dev Cert.KernelGw.nD,
      r.2.mem ((c.tc : Thread Cert.KernelGw.nD Cert.KernelGw.τ).loc Cert.KernelGw.main_arg0) = m ((c.tc : Thread Cert.KernelGw.nD Cert.KernelGw.τ).loc Cert.KernelGw.main_arg0)
      ∧ r.2.mem ((c.tc : Thread Cert.KernelGw.nD Cert.KernelGw.τ).loc Cert.KernelGw.main_arg1) = m ((c.tc : Thread Cert.KernelGw.nD Cert.KernelGw.τ).loc Cert.KernelGw.main_arg1))
      ∧ r.2.sem = fun _ => 0)

def quiescent_KernelGwIdeal [hKernelGwIdeal : Cert.KernelGwIdeal.Facts] : Prop :=
  ∀ (m : (ℓ : Loc Cert.KernelGwIdeal.nD Cert.KernelGwIdeal.τ Cert.KernelGwIdeal.sig) → Buf (Elt Ideal) ℓ) (g : Dev Cert.KernelGwIdeal.nD → PrngReg), Pre_KernelGwIdeal m →
    θ_run (Cert.KernelGwIdeal.defs (F := Ideal)) (onTc (τ := Cert.KernelGwIdeal.τ) (Cert.KernelGwIdeal.main (F := Ideal))) ⟨m, fun _ => 0, g⟩ (fun r => (∀ c : Dev Cert.KernelGwIdeal.nD,
      r.2.mem ((c.tc : Thread Cert.KernelGwIdeal.nD Cert.KernelGwIdeal.τ).loc Cert.KernelGwIdeal.main_arg0) = m ((c.tc : Thread Cert.KernelGwIdeal.nD Cert.KernelGwIdeal.τ).loc Cert.KernelGwIdeal.main_arg0)
      ∧ r.2.mem ((c.tc : Thread Cert.KernelGwIdeal.nD Cert.KernelGwIdeal.τ).loc Cert.KernelGwIdeal.main_arg1) = m ((c.tc : Thread Cert.KernelGwIdeal.nD Cert.KernelGwIdeal.τ).loc Cert.KernelGwIdeal.main_arg1))
      ∧ r.2.sem = fun _ => 0)

def quiescent_ReferenceGwIdeal [hReferenceGwIdeal : Cert.ReferenceGwIdeal.Facts] : Prop :=
  ∀ (m : (ℓ : Loc Cert.ReferenceGwIdeal.nD Cert.ReferenceGwIdeal.τ Cert.ReferenceGwIdeal.sig) → Buf (Elt Ideal) ℓ) (g : Dev Cert.ReferenceGwIdeal.nD → PrngReg), Pre_ReferenceGwIdeal m →
    θ_run (Cert.ReferenceGwIdeal.defs (F := Ideal)) (onTc (τ := Cert.ReferenceGwIdeal.τ) (Cert.ReferenceGwIdeal.main (F := Ideal))) ⟨m, fun _ => 0, g⟩ (fun r => (∀ c : Dev Cert.ReferenceGwIdeal.nD,
      r.2.mem ((c.tc : Thread Cert.ReferenceGwIdeal.nD Cert.ReferenceGwIdeal.τ).loc Cert.ReferenceGwIdeal.main_arg0) = m ((c.tc : Thread Cert.ReferenceGwIdeal.nD Cert.ReferenceGwIdeal.τ).loc Cert.ReferenceGwIdeal.main_arg0)
      ∧ r.2.mem ((c.tc : Thread Cert.ReferenceGwIdeal.nD Cert.ReferenceGwIdeal.τ).loc Cert.ReferenceGwIdeal.main_arg1) = m ((c.tc : Thread Cert.ReferenceGwIdeal.nD Cert.ReferenceGwIdeal.τ).loc Cert.ReferenceGwIdeal.main_arg1))
      ∧ r.2.sem = fun _ => 0)

def quiescent_KernelDu [hKernelDu : Cert.KernelDu.Facts] : Prop :=
  ∀ (m : (ℓ : Loc Cert.KernelDu.nD Cert.KernelDu.τ Cert.KernelDu.sig) → Buf (Elt Bits) ℓ) (g : Dev Cert.KernelDu.nD → PrngReg), Pre_KernelDu m →
    θ_run (Cert.KernelDu.defs (F := Bits)) (onTc (τ := Cert.KernelDu.τ) (Cert.KernelDu.main (F := Bits))) ⟨m, fun _ => 0, g⟩ (fun r => (∀ c : Dev Cert.KernelDu.nD,
      r.2.mem ((c.tc : Thread Cert.KernelDu.nD Cert.KernelDu.τ).loc Cert.KernelDu.main_arg0) = m ((c.tc : Thread Cert.KernelDu.nD Cert.KernelDu.τ).loc Cert.KernelDu.main_arg0)
      ∧ r.2.mem ((c.tc : Thread Cert.KernelDu.nD Cert.KernelDu.τ).loc Cert.KernelDu.main_arg1) = m ((c.tc : Thread Cert.KernelDu.nD Cert.KernelDu.τ).loc Cert.KernelDu.main_arg1))
      ∧ r.2.sem = fun _ => 0)

def quiescent_KernelDuIdeal [hKernelDuIdeal : Cert.KernelDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg), Pre_KernelDuIdeal m →
    θ_run (Cert.KernelDuIdeal.defs (F := Ideal)) (onTc (τ := Cert.KernelDuIdeal.τ) (Cert.KernelDuIdeal.main (F := Ideal))) ⟨m, fun _ => 0, g⟩ (fun r => (∀ c : Dev Cert.KernelDuIdeal.nD,
      r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
      ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1))
      ∧ r.2.sem = fun _ => 0)

def quiescent_ReferenceDuIdeal [hReferenceDuIdeal : Cert.ReferenceDuIdeal.Facts] : Prop :=
  ∀ (m : (ℓ : Loc Cert.ReferenceDuIdeal.nD Cert.ReferenceDuIdeal.τ Cert.ReferenceDuIdeal.sig) → Buf (Elt Ideal) ℓ) (g : Dev Cert.ReferenceDuIdeal.nD → PrngReg), Pre_ReferenceDuIdeal m →
    θ_run (Cert.ReferenceDuIdeal.defs (F := Ideal)) (onTc (τ := Cert.ReferenceDuIdeal.τ) (Cert.ReferenceDuIdeal.main (F := Ideal))) ⟨m, fun _ => 0, g⟩ (fun r => (∀ c : Dev Cert.ReferenceDuIdeal.nD,
      r.2.mem ((c.tc : Thread Cert.ReferenceDuIdeal.nD Cert.ReferenceDuIdeal.τ).loc Cert.ReferenceDuIdeal.main_arg0) = m ((c.tc : Thread Cert.ReferenceDuIdeal.nD Cert.ReferenceDuIdeal.τ).loc Cert.ReferenceDuIdeal.main_arg0)
      ∧ r.2.mem ((c.tc : Thread Cert.ReferenceDuIdeal.nD Cert.ReferenceDuIdeal.τ).loc Cert.ReferenceDuIdeal.main_arg1) = m ((c.tc : Thread Cert.ReferenceDuIdeal.nD Cert.ReferenceDuIdeal.τ).loc Cert.ReferenceDuIdeal.main_arg1))
      ∧ r.2.sem = fun _ => 0)

def quiescent_KernelGm [hKernelGm : Cert.KernelGm.Facts] : Prop :=
  ∀ (m : (ℓ : Loc Cert.KernelGm.nD Cert.KernelGm.τ Cert.KernelGm.sig) → Buf (Elt Bits) ℓ) (g : Dev Cert.KernelGm.nD → PrngReg), Pre_KernelGm m →
    θ_run (Cert.KernelGm.defs (F := Bits)) (onTc (τ := Cert.KernelGm.τ) (Cert.KernelGm.main (F := Bits))) ⟨m, fun _ => 0, g⟩ (fun r => (∀ c : Dev Cert.KernelGm.nD,
      r.2.mem ((c.tc : Thread Cert.KernelGm.nD Cert.KernelGm.τ).loc Cert.KernelGm.main_arg0) = m ((c.tc : Thread Cert.KernelGm.nD Cert.KernelGm.τ).loc Cert.KernelGm.main_arg0)
      ∧ r.2.mem ((c.tc : Thread Cert.KernelGm.nD Cert.KernelGm.τ).loc Cert.KernelGm.main_arg1) = m ((c.tc : Thread Cert.KernelGm.nD Cert.KernelGm.τ).loc Cert.KernelGm.main_arg1))
      ∧ r.2.sem = fun _ => 0)

def quiescent_KernelGmIdeal [hKernelGmIdeal : Cert.KernelGmIdeal.Facts] : Prop :=
  ∀ (m : (ℓ : Loc Cert.KernelGmIdeal.nD Cert.KernelGmIdeal.τ Cert.KernelGmIdeal.sig) → Buf (Elt Ideal) ℓ) (g : Dev Cert.KernelGmIdeal.nD → PrngReg), Pre_KernelGmIdeal m →
    θ_run (Cert.KernelGmIdeal.defs (F := Ideal)) (onTc (τ := Cert.KernelGmIdeal.τ) (Cert.KernelGmIdeal.main (F := Ideal))) ⟨m, fun _ => 0, g⟩ (fun r => (∀ c : Dev Cert.KernelGmIdeal.nD,
      r.2.mem ((c.tc : Thread Cert.KernelGmIdeal.nD Cert.KernelGmIdeal.τ).loc Cert.KernelGmIdeal.main_arg0) = m ((c.tc : Thread Cert.KernelGmIdeal.nD Cert.KernelGmIdeal.τ).loc Cert.KernelGmIdeal.main_arg0)
      ∧ r.2.mem ((c.tc : Thread Cert.KernelGmIdeal.nD Cert.KernelGmIdeal.τ).loc Cert.KernelGmIdeal.main_arg1) = m ((c.tc : Thread Cert.KernelGmIdeal.nD Cert.KernelGmIdeal.τ).loc Cert.KernelGmIdeal.main_arg1))
      ∧ r.2.sem = fun _ => 0)

def quiescent_ReferenceGmIdeal [hReferenceGmIdeal : Cert.ReferenceGmIdeal.Facts] : Prop :=
  ∀ (m : (ℓ : Loc Cert.ReferenceGmIdeal.nD Cert.ReferenceGmIdeal.τ Cert.ReferenceGmIdeal.sig) → Buf (Elt Ideal) ℓ) (g : Dev Cert.ReferenceGmIdeal.nD → PrngReg), Pre_ReferenceGmIdeal m →
    θ_run (Cert.ReferenceGmIdeal.defs (F := Ideal)) (onTc (τ := Cert.ReferenceGmIdeal.τ) (Cert.ReferenceGmIdeal.main (F := Ideal))) ⟨m, fun _ => 0, g⟩ (fun r => (∀ c : Dev Cert.ReferenceGmIdeal.nD,
      r.2.mem ((c.tc : Thread Cert.ReferenceGmIdeal.nD Cert.ReferenceGmIdeal.τ).loc Cert.ReferenceGmIdeal.main_arg0) = m ((c.tc : Thread Cert.ReferenceGmIdeal.nD Cert.ReferenceGmIdeal.τ).loc Cert.ReferenceGmIdeal.main_arg0)
      ∧ r.2.mem ((c.tc : Thread Cert.ReferenceGmIdeal.nD Cert.ReferenceGmIdeal.τ).loc Cert.ReferenceGmIdeal.main_arg1) = m ((c.tc : Thread Cert.ReferenceGmIdeal.nD Cert.ReferenceGmIdeal.τ).loc Cert.ReferenceGmIdeal.main_arg1))
      ∧ r.2.sem = fun _ => 0)

def quiescent_KernelGo [hKernelGo : Cert.KernelGo.Facts] : Prop :=
  ∀ (m : (ℓ : Loc Cert.KernelGo.nD Cert.KernelGo.τ Cert.KernelGo.sig) → Buf (Elt Bits) ℓ) (g : Dev Cert.KernelGo.nD → PrngReg), Pre_KernelGo m →
    θ_run (Cert.KernelGo.defs (F := Bits)) (onTc (τ := Cert.KernelGo.τ) (Cert.KernelGo.main (F := Bits))) ⟨m, fun _ => 0, g⟩ (fun r => (∀ c : Dev Cert.KernelGo.nD,
      r.2.mem ((c.tc : Thread Cert.KernelGo.nD Cert.KernelGo.τ).loc Cert.KernelGo.main_arg0) = m ((c.tc : Thread Cert.KernelGo.nD Cert.KernelGo.τ).loc Cert.KernelGo.main_arg0)
      ∧ r.2.mem ((c.tc : Thread Cert.KernelGo.nD Cert.KernelGo.τ).loc Cert.KernelGo.main_arg1) = m ((c.tc : Thread Cert.KernelGo.nD Cert.KernelGo.τ).loc Cert.KernelGo.main_arg1))
      ∧ r.2.sem = fun _ => 0)

def quiescent_KernelGoIdeal [hKernelGoIdeal : Cert.KernelGoIdeal.Facts] : Prop :=
  ∀ (m : (ℓ : Loc Cert.KernelGoIdeal.nD Cert.KernelGoIdeal.τ Cert.KernelGoIdeal.sig) → Buf (Elt Ideal) ℓ) (g : Dev Cert.KernelGoIdeal.nD → PrngReg), Pre_KernelGoIdeal m →
    θ_run (Cert.KernelGoIdeal.defs (F := Ideal)) (onTc (τ := Cert.KernelGoIdeal.τ) (Cert.KernelGoIdeal.main (F := Ideal))) ⟨m, fun _ => 0, g⟩ (fun r => (∀ c : Dev Cert.KernelGoIdeal.nD,
      r.2.mem ((c.tc : Thread Cert.KernelGoIdeal.nD Cert.KernelGoIdeal.τ).loc Cert.KernelGoIdeal.main_arg0) = m ((c.tc : Thread Cert.KernelGoIdeal.nD Cert.KernelGoIdeal.τ).loc Cert.KernelGoIdeal.main_arg0)
      ∧ r.2.mem ((c.tc : Thread Cert.KernelGoIdeal.nD Cert.KernelGoIdeal.τ).loc Cert.KernelGoIdeal.main_arg1) = m ((c.tc : Thread Cert.KernelGoIdeal.nD Cert.KernelGoIdeal.τ).loc Cert.KernelGoIdeal.main_arg1))
      ∧ r.2.sem = fun _ => 0)

def quiescent_ReferenceGoIdeal [hReferenceGoIdeal : Cert.ReferenceGoIdeal.Facts] : Prop :=
  ∀ (m : (ℓ : Loc Cert.ReferenceGoIdeal.nD Cert.ReferenceGoIdeal.τ Cert.ReferenceGoIdeal.sig) → Buf (Elt Ideal) ℓ) (g : Dev Cert.ReferenceGoIdeal.nD → PrngReg), Pre_ReferenceGoIdeal m →
    θ_run (Cert.ReferenceGoIdeal.defs (F := Ideal)) (onTc (τ := Cert.ReferenceGoIdeal.τ) (Cert.ReferenceGoIdeal.main (F := Ideal))) ⟨m, fun _ => 0, g⟩ (fun r => (∀ c : Dev Cert.ReferenceGoIdeal.nD,
      r.2.mem ((c.tc : Thread Cert.ReferenceGoIdeal.nD Cert.ReferenceGoIdeal.τ).loc Cert.ReferenceGoIdeal.main_arg0) = m ((c.tc : Thread Cert.ReferenceGoIdeal.nD Cert.ReferenceGoIdeal.τ).loc Cert.ReferenceGoIdeal.main_arg0)
      ∧ r.2.mem ((c.tc : Thread Cert.ReferenceGoIdeal.nD Cert.ReferenceGoIdeal.τ).loc Cert.ReferenceGoIdeal.main_arg1) = m ((c.tc : Thread Cert.ReferenceGoIdeal.nD Cert.ReferenceGoIdeal.τ).loc Cert.ReferenceGoIdeal.main_arg1))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3)
      ∧ r.2.mem ((c.tc : Thread Cert.KernelNorm.nD Cert.KernelNorm.τ).loc Cert.KernelNorm.main_arg4) = m ((c.tc : Thread Cert.KernelNorm.nD Cert.KernelNorm.τ).loc Cert.KernelNorm.main_arg4))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ r.2.sem = fun _ => 0)

def quiescent_KernelNormIdeal_pre_numbers [hKernelNormIdeal : Cert.KernelNormIdeal.Facts] [hPre_numbers : Cert.Pre_numbers.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal_numbers m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4))
      ∧ r.2.sem = fun _ => 0)

def quiescent_ReferenceNormIdeal_pre_numbers [hReferenceNormIdeal : Cert.ReferenceNormIdeal.Facts] [hPre_numbers : Cert.Pre_numbers.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal_numbers m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4))
      ∧ r.2.sem = fun _ => 0)

def quiescent_KernelSsd [hKernelSsd : Cert.KernelSsd.Facts] : Prop :=
  ∀ (m : (ℓ : Loc Cert.KernelSsd.nD Cert.KernelSsd.τ Cert.KernelSsd.sig) → Buf (Elt Bits) ℓ) (g : Dev Cert.KernelSsd.nD → PrngReg), Pre_KernelSsd m →
    θ_run (Cert.KernelSsd.defs (F := Bits)) (onTc (τ := Cert.KernelSsd.τ) (Cert.KernelSsd.main (F := Bits))) ⟨m, fun _ => 0, g⟩ (fun r => (∀ c : Dev Cert.KernelSsd.nD,
      r.2.mem ((c.tc : Thread Cert.KernelSsd.nD Cert.KernelSsd.τ).loc Cert.KernelSsd.main_arg0) = m ((c.tc : Thread Cert.KernelSsd.nD Cert.KernelSsd.τ).loc Cert.KernelSsd.main_arg0)
      ∧ r.2.mem ((c.tc : Thread Cert.KernelSsd.nD Cert.KernelSsd.τ).loc Cert.KernelSsd.main_arg1) = m ((c.tc : Thread Cert.KernelSsd.nD Cert.KernelSsd.τ).loc Cert.KernelSsd.main_arg1)
      ∧ r.2.mem ((c.tc : Thread Cert.KernelSsd.nD Cert.KernelSsd.τ).loc Cert.KernelSsd.main_arg2) = m ((c.tc : Thread Cert.KernelSsd.nD Cert.KernelSsd.τ).loc Cert.KernelSsd.main_arg2)
      ∧ r.2.mem ((c.tc : Thread Cert.KernelSsd.nD Cert.KernelSsd.τ).loc Cert.KernelSsd.main_arg3) = m ((c.tc : Thread Cert.KernelSsd.nD Cert.KernelSsd.τ).loc Cert.KernelSsd.main_arg3)
      ∧ r.2.mem ((c.tc : Thread Cert.KernelSsd.nD Cert.KernelSsd.τ).loc Cert.KernelSsd.main_arg4) = m ((c.tc : Thread Cert.KernelSsd.nD Cert.KernelSsd.τ).loc Cert.KernelSsd.main_arg4)
      ∧ r.2.mem ((c.tc : Thread Cert.KernelSsd.nD Cert.KernelSsd.τ).loc Cert.KernelSsd.main_arg5) = m ((c.tc : Thread Cert.KernelSsd.nD Cert.KernelSsd.τ).loc Cert.KernelSsd.main_arg5)
      ∧ r.2.mem ((c.tc : Thread Cert.KernelSsd.nD Cert.KernelSsd.τ).loc Cert.KernelSsd.main_arg6) = m ((c.tc : Thread Cert.KernelSsd.nD Cert.KernelSsd.τ).loc Cert.KernelSsd.main_arg6)
      ∧ r.2.mem ((c.tc : Thread Cert.KernelSsd.nD Cert.KernelSsd.τ).loc Cert.KernelSsd.main_arg7) = m ((c.tc : Thread Cert.KernelSsd.nD Cert.KernelSsd.τ).loc Cert.KernelSsd.main_arg7)
      ∧ r.2.mem ((c.tc : Thread Cert.KernelSsd.nD Cert.KernelSsd.τ).loc Cert.KernelSsd.main_arg8) = m ((c.tc : Thread Cert.KernelSsd.nD Cert.KernelSsd.τ).loc Cert.KernelSsd.main_arg8)
      ∧ r.2.mem ((c.tc : Thread Cert.KernelSsd.nD Cert.KernelSsd.τ).loc Cert.KernelSsd.main_arg9) = m ((c.tc : Thread Cert.KernelSsd.nD Cert.KernelSsd.τ).loc Cert.KernelSsd.main_arg9))
      ∧ r.2.sem = fun _ => 0)

def quiescent_KernelSsdIdeal [hKernelSsdIdeal : Cert.KernelSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg), Pre_KernelSsdIdeal m →
    θ_run (Cert.KernelSsdIdeal.defs (F := Ideal)) (onTc (τ := Cert.KernelSsdIdeal.τ) (Cert.KernelSsdIdeal.main (F := Ideal))) ⟨m, fun _ => 0, g⟩ (fun r => (∀ c : Dev Cert.KernelSsdIdeal.nD,
      r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
      ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
      ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
      ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
      ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
      ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5)
      ∧ r.2.mem ((c.tc : Thread Cert.KernelSsdIdeal.nD Cert.KernelSsdIdeal.τ).loc Cert.KernelSsdIdeal.main_arg6) = m ((c.tc : Thread Cert.KernelSsdIdeal.nD Cert.KernelSsdIdeal.τ).loc Cert.KernelSsdIdeal.main_arg6)
      ∧ r.2.mem ((c.tc : Thread Cert.KernelSsdIdeal.nD Cert.KernelSsdIdeal.τ).loc Cert.KernelSsdIdeal.main_arg7) = m ((c.tc : Thread Cert.KernelSsdIdeal.nD Cert.KernelSsdIdeal.τ).loc Cert.KernelSsdIdeal.main_arg7)
      ∧ r.2.mem ((c.tc : Thread Cert.KernelSsdIdeal.nD Cert.KernelSsdIdeal.τ).loc Cert.KernelSsdIdeal.main_arg8) = m ((c.tc : Thread Cert.KernelSsdIdeal.nD Cert.KernelSsdIdeal.τ).loc Cert.KernelSsdIdeal.main_arg8)
      ∧ r.2.mem ((c.tc : Thread Cert.KernelSsdIdeal.nD Cert.KernelSsdIdeal.τ).loc Cert.KernelSsdIdeal.main_arg9) = m ((c.tc : Thread Cert.KernelSsdIdeal.nD Cert.KernelSsdIdeal.τ).loc Cert.KernelSsdIdeal.main_arg9))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamAda [hKernelAdamAda : Cert.KernelAdamAda.Facts] : Prop :=
  ∀ (m : (ℓ : Loc Cert.KernelAdamAda.nD Cert.KernelAdamAda.τ Cert.KernelAdamAda.sig) → Buf (Elt Bits) ℓ) (g : Dev Cert.KernelAdamAda.nD → PrngReg), Pre_KernelAdamAda m →
    θ_run (Cert.KernelAdamAda.defs (F := Bits)) (onTc (τ := Cert.KernelAdamAda.τ) (Cert.KernelAdamAda.main (F := Bits))) ⟨m, fun _ => 0, g⟩ (fun r => (∀ c : Dev Cert.KernelAdamAda.nD,
      r.2.mem ((c.tc : Thread Cert.KernelAdamAda.nD Cert.KernelAdamAda.τ).loc Cert.KernelAdamAda.main_arg0) = m ((c.tc : Thread Cert.KernelAdamAda.nD Cert.KernelAdamAda.τ).loc Cert.KernelAdamAda.main_arg0)
      ∧ r.2.mem ((c.tc : Thread Cert.KernelAdamAda.nD Cert.KernelAdamAda.τ).loc Cert.KernelAdamAda.main_arg1) = m ((c.tc : Thread Cert.KernelAdamAda.nD Cert.KernelAdamAda.τ).loc Cert.KernelAdamAda.main_arg1)
      ∧ r.2.mem ((c.tc : Thread Cert.KernelAdamAda.nD Cert.KernelAdamAda.τ).loc Cert.KernelAdamAda.main_arg2) = m ((c.tc : Thread Cert.KernelAdamAda.nD Cert.KernelAdamAda.τ).loc Cert.KernelAdamAda.main_arg2)
      ∧ r.2.mem ((c.tc : Thread Cert.KernelAdamAda.nD Cert.KernelAdamAda.τ).loc Cert.KernelAdamAda.main_arg3) = m ((c.tc : Thread Cert.KernelAdamAda.nD Cert.KernelAdamAda.τ).loc Cert.KernelAdamAda.main_arg3))
      ∧ r.2.sem = fun _ => 0)

def quiescent_KernelAdamAdaIdeal [hKernelAdamAdaIdeal : Cert.KernelAdamAdaIdeal.Facts] : Prop :=
  ∀ (m : (ℓ : Loc Cert.KernelAdamAdaIdeal.nD Cert.KernelAdamAdaIdeal.τ Cert.KernelAdamAdaIdeal.sig) → Buf (Elt Ideal) ℓ) (g : Dev Cert.KernelAdamAdaIdeal.nD → PrngReg), Pre_KernelAdamAdaIdeal m →
    θ_run (Cert.KernelAdamAdaIdeal.defs (F := Ideal)) (onTc (τ := Cert.KernelAdamAdaIdeal.τ) (Cert.KernelAdamAdaIdeal.main (F := Ideal))) ⟨m, fun _ => 0, g⟩ (fun r => (∀ c : Dev Cert.KernelAdamAdaIdeal.nD,
      r.2.mem ((c.tc : Thread Cert.KernelAdamAdaIdeal.nD Cert.KernelAdamAdaIdeal.τ).loc Cert.KernelAdamAdaIdeal.main_arg0) = m ((c.tc : Thread Cert.KernelAdamAdaIdeal.nD Cert.KernelAdamAdaIdeal.τ).loc Cert.KernelAdamAdaIdeal.main_arg0)
      ∧ r.2.mem ((c.tc : Thread Cert.KernelAdamAdaIdeal.nD Cert.KernelAdamAdaIdeal.τ).loc Cert.KernelAdamAdaIdeal.main_arg1) = m ((c.tc : Thread Cert.KernelAdamAdaIdeal.nD Cert.KernelAdamAdaIdeal.τ).loc Cert.KernelAdamAdaIdeal.main_arg1)
      ∧ r.2.mem ((c.tc : Thread Cert.KernelAdamAdaIdeal.nD Cert.KernelAdamAdaIdeal.τ).loc Cert.KernelAdamAdaIdeal.main_arg2) = m ((c.tc : Thread Cert.KernelAdamAdaIdeal.nD Cert.KernelAdamAdaIdeal.τ).loc Cert.KernelAdamAdaIdeal.main_arg2)
      ∧ r.2.mem ((c.tc : Thread Cert.KernelAdamAdaIdeal.nD Cert.KernelAdamAdaIdeal.τ).loc Cert.KernelAdamAdaIdeal.main_arg3) = m ((c.tc : Thread Cert.KernelAdamAdaIdeal.nD Cert.KernelAdamAdaIdeal.τ).loc Cert.KernelAdamAdaIdeal.main_arg3))
      ∧ r.2.sem = fun _ => 0)

def quiescent_ReferenceAdamAdaIdeal [hReferenceAdamAdaIdeal : Cert.ReferenceAdamAdaIdeal.Facts] : Prop :=
  ∀ (m : (ℓ : Loc Cert.ReferenceAdamAdaIdeal.nD Cert.ReferenceAdamAdaIdeal.τ Cert.ReferenceAdamAdaIdeal.sig) → Buf (Elt Ideal) ℓ) (g : Dev Cert.ReferenceAdamAdaIdeal.nD → PrngReg), Pre_ReferenceAdamAdaIdeal m →
    θ_run (Cert.ReferenceAdamAdaIdeal.defs (F := Ideal)) (onTc (τ := Cert.ReferenceAdamAdaIdeal.τ) (Cert.ReferenceAdamAdaIdeal.main (F := Ideal))) ⟨m, fun _ => 0, g⟩ (fun r => (∀ c : Dev Cert.ReferenceAdamAdaIdeal.nD,
      r.2.mem ((c.tc : Thread Cert.ReferenceAdamAdaIdeal.nD Cert.ReferenceAdamAdaIdeal.τ).loc Cert.ReferenceAdamAdaIdeal.main_arg0) = m ((c.tc : Thread Cert.ReferenceAdamAdaIdeal.nD Cert.ReferenceAdamAdaIdeal.τ).loc Cert.ReferenceAdamAdaIdeal.main_arg0)
      ∧ r.2.mem ((c.tc : Thread Cert.ReferenceAdamAdaIdeal.nD Cert.ReferenceAdamAdaIdeal.τ).loc Cert.ReferenceAdamAdaIdeal.main_arg1) = m ((c.tc : Thread Cert.ReferenceAdamAdaIdeal.nD Cert.ReferenceAdamAdaIdeal.τ).loc Cert.ReferenceAdamAdaIdeal.main_arg1)
      ∧ r.2.mem ((c.tc : Thread Cert.ReferenceAdamAdaIdeal.nD Cert.ReferenceAdamAdaIdeal.τ).loc Cert.ReferenceAdamAdaIdeal.main_arg2) = m ((c.tc : Thread Cert.ReferenceAdamAdaIdeal.nD Cert.ReferenceAdamAdaIdeal.τ).loc Cert.ReferenceAdamAdaIdeal.main_arg2)
      ∧ r.2.mem ((c.tc : Thread Cert.ReferenceAdamAdaIdeal.nD Cert.ReferenceAdamAdaIdeal.τ).loc Cert.ReferenceAdamAdaIdeal.main_arg3) = m ((c.tc : Thread Cert.ReferenceAdamAdaIdeal.nD Cert.ReferenceAdamAdaIdeal.τ).loc Cert.ReferenceAdamAdaIdeal.main_arg3))
      ∧ r.2.sem = fun _ => 0)

def quiescent_KernelAdamProj [hKernelAdamProj : Cert.KernelAdamProj.Facts] : Prop :=
  ∀ (m : (ℓ : Loc Cert.KernelAdamProj.nD Cert.KernelAdamProj.τ Cert.KernelAdamProj.sig) → Buf (Elt Bits) ℓ) (g : Dev Cert.KernelAdamProj.nD → PrngReg), Pre_KernelAdamProj m →
    θ_run (Cert.KernelAdamProj.defs (F := Bits)) (onTc (τ := Cert.KernelAdamProj.τ) (Cert.KernelAdamProj.main (F := Bits))) ⟨m, fun _ => 0, g⟩ (fun r => (∀ c : Dev Cert.KernelAdamProj.nD,
      r.2.mem ((c.tc : Thread Cert.KernelAdamProj.nD Cert.KernelAdamProj.τ).loc Cert.KernelAdamProj.main_arg0) = m ((c.tc : Thread Cert.KernelAdamProj.nD Cert.KernelAdamProj.τ).loc Cert.KernelAdamProj.main_arg0)
      ∧ r.2.mem ((c.tc : Thread Cert.KernelAdamProj.nD Cert.KernelAdamProj.τ).loc Cert.KernelAdamProj.main_arg1) = m ((c.tc : Thread Cert.KernelAdamProj.nD Cert.KernelAdamProj.τ).loc Cert.KernelAdamProj.main_arg1)
      ∧ r.2.mem ((c.tc : Thread Cert.KernelAdamProj.nD Cert.KernelAdamProj.τ).loc Cert.KernelAdamProj.main_arg2) = m ((c.tc : Thread Cert.KernelAdamProj.nD Cert.KernelAdamProj.τ).loc Cert.KernelAdamProj.main_arg2)
      ∧ r.2.mem ((c.tc : Thread Cert.KernelAdamProj.nD Cert.KernelAdamProj.τ).loc Cert.KernelAdamProj.main_arg3) = m ((c.tc : Thread Cert.KernelAdamProj.nD Cert.KernelAdamProj.τ).loc Cert.KernelAdamProj.main_arg3))
      ∧ r.2.sem = fun _ => 0)

def quiescent_KernelAdamProjIdeal [hKernelAdamProjIdeal : Cert.KernelAdamProjIdeal.Facts] : Prop :=
  ∀ (m : (ℓ : Loc Cert.KernelAdamProjIdeal.nD Cert.KernelAdamProjIdeal.τ Cert.KernelAdamProjIdeal.sig) → Buf (Elt Ideal) ℓ) (g : Dev Cert.KernelAdamProjIdeal.nD → PrngReg), Pre_KernelAdamProjIdeal m →
    θ_run (Cert.KernelAdamProjIdeal.defs (F := Ideal)) (onTc (τ := Cert.KernelAdamProjIdeal.τ) (Cert.KernelAdamProjIdeal.main (F := Ideal))) ⟨m, fun _ => 0, g⟩ (fun r => (∀ c : Dev Cert.KernelAdamProjIdeal.nD,
      r.2.mem ((c.tc : Thread Cert.KernelAdamProjIdeal.nD Cert.KernelAdamProjIdeal.τ).loc Cert.KernelAdamProjIdeal.main_arg0) = m ((c.tc : Thread Cert.KernelAdamProjIdeal.nD Cert.KernelAdamProjIdeal.τ).loc Cert.KernelAdamProjIdeal.main_arg0)
      ∧ r.2.mem ((c.tc : Thread Cert.KernelAdamProjIdeal.nD Cert.KernelAdamProjIdeal.τ).loc Cert.KernelAdamProjIdeal.main_arg1) = m ((c.tc : Thread Cert.KernelAdamProjIdeal.nD Cert.KernelAdamProjIdeal.τ).loc Cert.KernelAdamProjIdeal.main_arg1)
      ∧ r.2.mem ((c.tc : Thread Cert.KernelAdamProjIdeal.nD Cert.KernelAdamProjIdeal.τ).loc Cert.KernelAdamProjIdeal.main_arg2) = m ((c.tc : Thread Cert.KernelAdamProjIdeal.nD Cert.KernelAdamProjIdeal.τ).loc Cert.KernelAdamProjIdeal.main_arg2)
      ∧ r.2.mem ((c.tc : Thread Cert.KernelAdamProjIdeal.nD Cert.KernelAdamProjIdeal.τ).loc Cert.KernelAdamProjIdeal.main_arg3) = m ((c.tc : Thread Cert.KernelAdamProjIdeal.nD Cert.KernelAdamProjIdeal.τ).loc Cert.KernelAdamProjIdeal.main_arg3))
      ∧ r.2.sem = fun _ => 0)

def quiescent_ReferenceAdamProjIdeal [hReferenceAdamProjIdeal : Cert.ReferenceAdamProjIdeal.Facts] : Prop :=
  ∀ (m : (ℓ : Loc Cert.ReferenceAdamProjIdeal.nD Cert.ReferenceAdamProjIdeal.τ Cert.ReferenceAdamProjIdeal.sig) → Buf (Elt Ideal) ℓ) (g : Dev Cert.ReferenceAdamProjIdeal.nD → PrngReg), Pre_ReferenceAdamProjIdeal m →
    θ_run (Cert.ReferenceAdamProjIdeal.defs (F := Ideal)) (onTc (τ := Cert.ReferenceAdamProjIdeal.τ) (Cert.ReferenceAdamProjIdeal.main (F := Ideal))) ⟨m, fun _ => 0, g⟩ (fun r => (∀ c : Dev Cert.ReferenceAdamProjIdeal.nD,
      r.2.mem ((c.tc : Thread Cert.ReferenceAdamProjIdeal.nD Cert.ReferenceAdamProjIdeal.τ).loc Cert.ReferenceAdamProjIdeal.main_arg0) = m ((c.tc : Thread Cert.ReferenceAdamProjIdeal.nD Cert.ReferenceAdamProjIdeal.τ).loc Cert.ReferenceAdamProjIdeal.main_arg0)
      ∧ r.2.mem ((c.tc : Thread Cert.ReferenceAdamProjIdeal.nD Cert.ReferenceAdamProjIdeal.τ).loc Cert.ReferenceAdamProjIdeal.main_arg1) = m ((c.tc : Thread Cert.ReferenceAdamProjIdeal.nD Cert.ReferenceAdamProjIdeal.τ).loc Cert.ReferenceAdamProjIdeal.main_arg1)
      ∧ r.2.mem ((c.tc : Thread Cert.ReferenceAdamProjIdeal.nD Cert.ReferenceAdamProjIdeal.τ).loc Cert.ReferenceAdamProjIdeal.main_arg2) = m ((c.tc : Thread Cert.ReferenceAdamProjIdeal.nD Cert.ReferenceAdamProjIdeal.τ).loc Cert.ReferenceAdamProjIdeal.main_arg2)
      ∧ r.2.mem ((c.tc : Thread Cert.ReferenceAdamProjIdeal.nD Cert.ReferenceAdamProjIdeal.τ).loc Cert.ReferenceAdamProjIdeal.main_arg3) = m ((c.tc : Thread Cert.ReferenceAdamProjIdeal.nD Cert.ReferenceAdamProjIdeal.τ).loc Cert.ReferenceAdamProjIdeal.main_arg3))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1)
      ∧ r.2.mem ((c.tc : Thread Cert.KernelPre.nD Cert.KernelPre.τ).loc Cert.KernelPre.main_arg2) = m ((c.tc : Thread Cert.KernelPre.nD Cert.KernelPre.τ).loc Cert.KernelPre.main_arg2)
      ∧ r.2.mem ((c.tc : Thread Cert.KernelPre.nD Cert.KernelPre.τ).loc Cert.KernelPre.main_arg3) = m ((c.tc : Thread Cert.KernelPre.nD Cert.KernelPre.τ).loc Cert.KernelPre.main_arg3))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
      ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
      ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2)
      ∧ r.2.mem ((c.tc : Thread Cert.ReferencePreIdeal.nD Cert.ReferencePreIdeal.τ).loc Cert.ReferencePreIdeal.main_arg3) = m ((c.tc : Thread Cert.ReferencePreIdeal.nD Cert.ReferencePreIdeal.τ).loc Cert.ReferencePreIdeal.main_arg3))
      ∧ r.2.sem = fun _ => 0)

def quiescent_KernelAdamRest [hKernelAdamRest : Cert.KernelAdamRest.Facts] : Prop :=
  ∀ (m : (ℓ : Loc Cert.KernelAdamRest.nD Cert.KernelAdamRest.τ Cert.KernelAdamRest.sig) → Buf (Elt Bits) ℓ) (g : Dev Cert.KernelAdamRest.nD → PrngReg), Pre_KernelAdamRest m →
    θ_run (Cert.KernelAdamRest.defs (F := Bits)) (onTc (τ := Cert.KernelAdamRest.τ) (Cert.KernelAdamRest.main (F := Bits))) ⟨m, fun _ => 0, g⟩ (fun r => (∀ c : Dev Cert.KernelAdamRest.nD,
      r.2.mem ((c.tc : Thread Cert.KernelAdamRest.nD Cert.KernelAdamRest.τ).loc Cert.KernelAdamRest.main_arg0) = m ((c.tc : Thread Cert.KernelAdamRest.nD Cert.KernelAdamRest.τ).loc Cert.KernelAdamRest.main_arg0)
      ∧ r.2.mem ((c.tc : Thread Cert.KernelAdamRest.nD Cert.KernelAdamRest.τ).loc Cert.KernelAdamRest.main_arg1) = m ((c.tc : Thread Cert.KernelAdamRest.nD Cert.KernelAdamRest.τ).loc Cert.KernelAdamRest.main_arg1)
      ∧ r.2.mem ((c.tc : Thread Cert.KernelAdamRest.nD Cert.KernelAdamRest.τ).loc Cert.KernelAdamRest.main_arg2) = m ((c.tc : Thread Cert.KernelAdamRest.nD Cert.KernelAdamRest.τ).loc Cert.KernelAdamRest.main_arg2)
      ∧ r.2.mem ((c.tc : Thread Cert.KernelAdamRest.nD Cert.KernelAdamRest.τ).loc Cert.KernelAdamRest.main_arg3) = m ((c.tc : Thread Cert.KernelAdamRest.nD Cert.KernelAdamRest.τ).loc Cert.KernelAdamRest.main_arg3)
      ∧ r.2.mem ((c.tc : Thread Cert.KernelAdamRest.nD Cert.KernelAdamRest.τ).loc Cert.KernelAdamRest.main_arg4) = m ((c.tc : Thread Cert.KernelAdamRest.nD Cert.KernelAdamRest.τ).loc Cert.KernelAdamRest.main_arg4)
      ∧ r.2.mem ((c.tc : Thread Cert.KernelAdamRest.nD Cert.KernelAdamRest.τ).loc Cert.KernelAdamRest.main_arg5) = m ((c.tc : Thread Cert.KernelAdamRest.nD Cert.KernelAdamRest.τ).loc Cert.KernelAdamRest.main_arg5)
      ∧ r.2.mem ((c.tc : Thread Cert.KernelAdamRest.nD Cert.KernelAdamRest.τ).loc Cert.KernelAdamRest.main_arg6) = m ((c.tc : Thread Cert.KernelAdamRest.nD Cert.KernelAdamRest.τ).loc Cert.KernelAdamRest.main_arg6)
      ∧ r.2.mem ((c.tc : Thread Cert.KernelAdamRest.nD Cert.KernelAdamRest.τ).loc Cert.KernelAdamRest.main_arg7) = m ((c.tc : Thread Cert.KernelAdamRest.nD Cert.KernelAdamRest.τ).loc Cert.KernelAdamRest.main_arg7)
      ∧ r.2.mem ((c.tc : Thread Cert.KernelAdamRest.nD Cert.KernelAdamRest.τ).loc Cert.KernelAdamRest.main_arg8) = m ((c.tc : Thread Cert.KernelAdamRest.nD Cert.KernelAdamRest.τ).loc Cert.KernelAdamRest.main_arg8)
      ∧ r.2.mem ((c.tc : Thread Cert.KernelAdamRest.nD Cert.KernelAdamRest.τ).loc Cert.KernelAdamRest.main_arg9) = m ((c.tc : Thread Cert.KernelAdamRest.nD Cert.KernelAdamRest.τ).loc Cert.KernelAdamRest.main_arg9)
      ∧ r.2.mem ((c.tc : Thread Cert.KernelAdamRest.nD Cert.KernelAdamRest.τ).loc Cert.KernelAdamRest.main_arg10) = m ((c.tc : Thread Cert.KernelAdamRest.nD Cert.KernelAdamRest.τ).loc Cert.KernelAdamRest.main_arg10)
      ∧ r.2.mem ((c.tc : Thread Cert.KernelAdamRest.nD Cert.KernelAdamRest.τ).loc Cert.KernelAdamRest.main_arg11) = m ((c.tc : Thread Cert.KernelAdamRest.nD Cert.KernelAdamRest.τ).loc Cert.KernelAdamRest.main_arg11)
      ∧ r.2.mem ((c.tc : Thread Cert.KernelAdamRest.nD Cert.KernelAdamRest.τ).loc Cert.KernelAdamRest.main_arg12) = m ((c.tc : Thread Cert.KernelAdamRest.nD Cert.KernelAdamRest.τ).loc Cert.KernelAdamRest.main_arg12)
      ∧ r.2.mem ((c.tc : Thread Cert.KernelAdamRest.nD Cert.KernelAdamRest.τ).loc Cert.KernelAdamRest.main_arg13) = m ((c.tc : Thread Cert.KernelAdamRest.nD Cert.KernelAdamRest.τ).loc Cert.KernelAdamRest.main_arg13)
      ∧ r.2.mem ((c.tc : Thread Cert.KernelAdamRest.nD Cert.KernelAdamRest.τ).loc Cert.KernelAdamRest.main_arg14) = m ((c.tc : Thread Cert.KernelAdamRest.nD Cert.KernelAdamRest.τ).loc Cert.KernelAdamRest.main_arg14)
      ∧ r.2.mem ((c.tc : Thread Cert.KernelAdamRest.nD Cert.KernelAdamRest.τ).loc Cert.KernelAdamRest.main_arg15) = m ((c.tc : Thread Cert.KernelAdamRest.nD Cert.KernelAdamRest.τ).loc Cert.KernelAdamRest.main_arg15)
      ∧ r.2.mem ((c.tc : Thread Cert.KernelAdamRest.nD Cert.KernelAdamRest.τ).loc Cert.KernelAdamRest.main_arg16) = m ((c.tc : Thread Cert.KernelAdamRest.nD Cert.KernelAdamRest.τ).loc Cert.KernelAdamRest.main_arg16)
      ∧ r.2.mem ((c.tc : Thread Cert.KernelAdamRest.nD Cert.KernelAdamRest.τ).loc Cert.KernelAdamRest.main_arg17) = m ((c.tc : Thread Cert.KernelAdamRest.nD Cert.KernelAdamRest.τ).loc Cert.KernelAdamRest.main_arg17)
      ∧ r.2.mem ((c.tc : Thread Cert.KernelAdamRest.nD Cert.KernelAdamRest.τ).loc Cert.KernelAdamRest.main_arg18) = m ((c.tc : Thread Cert.KernelAdamRest.nD Cert.KernelAdamRest.τ).loc Cert.KernelAdamRest.main_arg18)
      ∧ r.2.mem ((c.tc : Thread Cert.KernelAdamRest.nD Cert.KernelAdamRest.τ).loc Cert.KernelAdamRest.main_arg19) = m ((c.tc : Thread Cert.KernelAdamRest.nD Cert.KernelAdamRest.τ).loc Cert.KernelAdamRest.main_arg19)
      ∧ r.2.mem ((c.tc : Thread Cert.KernelAdamRest.nD Cert.KernelAdamRest.τ).loc Cert.KernelAdamRest.main_arg20) = m ((c.tc : Thread Cert.KernelAdamRest.nD Cert.KernelAdamRest.τ).loc Cert.KernelAdamRest.main_arg20)
      ∧ r.2.mem ((c.tc : Thread Cert.KernelAdamRest.nD Cert.KernelAdamRest.τ).loc Cert.KernelAdamRest.main_arg21) = m ((c.tc : Thread Cert.KernelAdamRest.nD Cert.KernelAdamRest.τ).loc Cert.KernelAdamRest.main_arg21)
      ∧ r.2.mem ((c.tc : Thread Cert.KernelAdamRest.nD Cert.KernelAdamRest.τ).loc Cert.KernelAdamRest.main_arg22) = m ((c.tc : Thread Cert.KernelAdamRest.nD Cert.KernelAdamRest.τ).loc Cert.KernelAdamRest.main_arg22)
      ∧ r.2.mem ((c.tc : Thread Cert.KernelAdamRest.nD Cert.KernelAdamRest.τ).loc Cert.KernelAdamRest.main_arg23) = m ((c.tc : Thread Cert.KernelAdamRest.nD Cert.KernelAdamRest.τ).loc Cert.KernelAdamRest.main_arg23)
      ∧ r.2.mem ((c.tc : Thread Cert.KernelAdamRest.nD Cert.KernelAdamRest.τ).loc Cert.KernelAdamRest.main_arg24) = m ((c.tc : Thread Cert.KernelAdamRest.nD Cert.KernelAdamRest.τ).loc Cert.KernelAdamRest.main_arg24)
      ∧ r.2.mem ((c.tc : Thread Cert.KernelAdamRest.nD Cert.KernelAdamRest.τ).loc Cert.KernelAdamRest.main_arg25) = m ((c.tc : Thread Cert.KernelAdamRest.nD Cert.KernelAdamRest.τ).loc Cert.KernelAdamRest.main_arg25)
      ∧ r.2.mem ((c.tc : Thread Cert.KernelAdamRest.nD Cert.KernelAdamRest.τ).loc Cert.KernelAdamRest.main_arg26) = m ((c.tc : Thread Cert.KernelAdamRest.nD Cert.KernelAdamRest.τ).loc Cert.KernelAdamRest.main_arg26)
      ∧ r.2.mem ((c.tc : Thread Cert.KernelAdamRest.nD Cert.KernelAdamRest.τ).loc Cert.KernelAdamRest.main_arg27) = m ((c.tc : Thread Cert.KernelAdamRest.nD Cert.KernelAdamRest.τ).loc Cert.KernelAdamRest.main_arg27)
      ∧ r.2.mem ((c.tc : Thread Cert.KernelAdamRest.nD Cert.KernelAdamRest.τ).loc Cert.KernelAdamRest.main_arg28) = m ((c.tc : Thread Cert.KernelAdamRest.nD Cert.KernelAdamRest.τ).loc Cert.KernelAdamRest.main_arg28)
      ∧ r.2.mem ((c.tc : Thread Cert.KernelAdamRest.nD Cert.KernelAdamRest.τ).loc Cert.KernelAdamRest.main_arg29) = m ((c.tc : Thread Cert.KernelAdamRest.nD Cert.KernelAdamRest.τ).loc Cert.KernelAdamRest.main_arg29)
      ∧ r.2.mem ((c.tc : Thread Cert.KernelAdamRest.nD Cert.KernelAdamRest.τ).loc Cert.KernelAdamRest.main_arg30) = m ((c.tc : Thread Cert.KernelAdamRest.nD Cert.KernelAdamRest.τ).loc Cert.KernelAdamRest.main_arg30)
      ∧ r.2.mem ((c.tc : Thread Cert.KernelAdamRest.nD Cert.KernelAdamRest.τ).loc Cert.KernelAdamRest.main_arg31) = m ((c.tc : Thread Cert.KernelAdamRest.nD Cert.KernelAdamRest.τ).loc Cert.KernelAdamRest.main_arg31)
      ∧ r.2.mem ((c.tc : Thread Cert.KernelAdamRest.nD Cert.KernelAdamRest.τ).loc Cert.KernelAdamRest.main_arg32) = m ((c.tc : Thread Cert.KernelAdamRest.nD Cert.KernelAdamRest.τ).loc Cert.KernelAdamRest.main_arg32)
      ∧ r.2.mem ((c.tc : Thread Cert.KernelAdamRest.nD Cert.KernelAdamRest.τ).loc Cert.KernelAdamRest.main_arg33) = m ((c.tc : Thread Cert.KernelAdamRest.nD Cert.KernelAdamRest.τ).loc Cert.KernelAdamRest.main_arg33)
      ∧ r.2.mem ((c.tc : Thread Cert.KernelAdamRest.nD Cert.KernelAdamRest.τ).loc Cert.KernelAdamRest.main_arg34) = m ((c.tc : Thread Cert.KernelAdamRest.nD Cert.KernelAdamRest.τ).loc Cert.KernelAdamRest.main_arg34)
      ∧ r.2.mem ((c.tc : Thread Cert.KernelAdamRest.nD Cert.KernelAdamRest.τ).loc Cert.KernelAdamRest.main_arg35) = m ((c.tc : Thread Cert.KernelAdamRest.nD Cert.KernelAdamRest.τ).loc Cert.KernelAdamRest.main_arg35)
      ∧ r.2.mem ((c.tc : Thread Cert.KernelAdamRest.nD Cert.KernelAdamRest.τ).loc Cert.KernelAdamRest.main_arg36) = m ((c.tc : Thread Cert.KernelAdamRest.nD Cert.KernelAdamRest.τ).loc Cert.KernelAdamRest.main_arg36)
      ∧ r.2.mem ((c.tc : Thread Cert.KernelAdamRest.nD Cert.KernelAdamRest.τ).loc Cert.KernelAdamRest.main_arg37) = m ((c.tc : Thread Cert.KernelAdamRest.nD Cert.KernelAdamRest.τ).loc Cert.KernelAdamRest.main_arg37)
      ∧ r.2.mem ((c.tc : Thread Cert.KernelAdamRest.nD Cert.KernelAdamRest.τ).loc Cert.KernelAdamRest.main_arg38) = m ((c.tc : Thread Cert.KernelAdamRest.nD Cert.KernelAdamRest.τ).loc Cert.KernelAdamRest.main_arg38)
      ∧ r.2.mem ((c.tc : Thread Cert.KernelAdamRest.nD Cert.KernelAdamRest.τ).loc Cert.KernelAdamRest.main_arg39) = m ((c.tc : Thread Cert.KernelAdamRest.nD Cert.KernelAdamRest.τ).loc Cert.KernelAdamRest.main_arg39)
      ∧ r.2.mem ((c.tc : Thread Cert.KernelAdamRest.nD Cert.KernelAdamRest.τ).loc Cert.KernelAdamRest.main_arg40) = m ((c.tc : Thread Cert.KernelAdamRest.nD Cert.KernelAdamRest.τ).loc Cert.KernelAdamRest.main_arg40)
      ∧ r.2.mem ((c.tc : Thread Cert.KernelAdamRest.nD Cert.KernelAdamRest.τ).loc Cert.KernelAdamRest.main_arg41) = m ((c.tc : Thread Cert.KernelAdamRest.nD Cert.KernelAdamRest.τ).loc Cert.KernelAdamRest.main_arg41)
      ∧ r.2.mem ((c.tc : Thread Cert.KernelAdamRest.nD Cert.KernelAdamRest.τ).loc Cert.KernelAdamRest.main_arg42) = m ((c.tc : Thread Cert.KernelAdamRest.nD Cert.KernelAdamRest.τ).loc Cert.KernelAdamRest.main_arg42)
      ∧ r.2.mem ((c.tc : Thread Cert.KernelAdamRest.nD Cert.KernelAdamRest.τ).loc Cert.KernelAdamRest.main_arg43) = m ((c.tc : Thread Cert.KernelAdamRest.nD Cert.KernelAdamRest.τ).loc Cert.KernelAdamRest.main_arg43)
      ∧ r.2.mem ((c.tc : Thread Cert.KernelAdamRest.nD Cert.KernelAdamRest.τ).loc Cert.KernelAdamRest.main_arg44) = m ((c.tc : Thread Cert.KernelAdamRest.nD Cert.KernelAdamRest.τ).loc Cert.KernelAdamRest.main_arg44)
      ∧ r.2.mem ((c.tc : Thread Cert.KernelAdamRest.nD Cert.KernelAdamRest.τ).loc Cert.KernelAdamRest.main_arg45) = m ((c.tc : Thread Cert.KernelAdamRest.nD Cert.KernelAdamRest.τ).loc Cert.KernelAdamRest.main_arg45)
      ∧ r.2.mem ((c.tc : Thread Cert.KernelAdamRest.nD Cert.KernelAdamRest.τ).loc Cert.KernelAdamRest.main_arg46) = m ((c.tc : Thread Cert.KernelAdamRest.nD Cert.KernelAdamRest.τ).loc Cert.KernelAdamRest.main_arg46)
      ∧ r.2.mem ((c.tc : Thread Cert.KernelAdamRest.nD Cert.KernelAdamRest.τ).loc Cert.KernelAdamRest.main_arg47) = m ((c.tc : Thread Cert.KernelAdamRest.nD Cert.KernelAdamRest.τ).loc Cert.KernelAdamRest.main_arg47))
      ∧ r.2.sem = fun _ => 0)

def quiescent_KernelAdamRestIdeal [hKernelAdamRestIdeal : Cert.KernelAdamRestIdeal.Facts] : Prop :=
  ∀ (m : (ℓ : Loc Cert.KernelAdamRestIdeal.nD Cert.KernelAdamRestIdeal.τ Cert.KernelAdamRestIdeal.sig) → Buf (Elt Ideal) ℓ) (g : Dev Cert.KernelAdamRestIdeal.nD → PrngReg), Pre_KernelAdamRestIdeal m →
    θ_run (Cert.KernelAdamRestIdeal.defs (F := Ideal)) (onTc (τ := Cert.KernelAdamRestIdeal.τ) (Cert.KernelAdamRestIdeal.main (F := Ideal))) ⟨m, fun _ => 0, g⟩ (fun r => (∀ c : Dev Cert.KernelAdamRestIdeal.nD,
      r.2.mem ((c.tc : Thread Cert.KernelAdamRestIdeal.nD Cert.KernelAdamRestIdeal.τ).loc Cert.KernelAdamRestIdeal.main_arg0) = m ((c.tc : Thread Cert.KernelAdamRestIdeal.nD Cert.KernelAdamRestIdeal.τ).loc Cert.KernelAdamRestIdeal.main_arg0)
      ∧ r.2.mem ((c.tc : Thread Cert.KernelAdamRestIdeal.nD Cert.KernelAdamRestIdeal.τ).loc Cert.KernelAdamRestIdeal.main_arg1) = m ((c.tc : Thread Cert.KernelAdamRestIdeal.nD Cert.KernelAdamRestIdeal.τ).loc Cert.KernelAdamRestIdeal.main_arg1)
      ∧ r.2.mem ((c.tc : Thread Cert.KernelAdamRestIdeal.nD Cert.KernelAdamRestIdeal.τ).loc Cert.KernelAdamRestIdeal.main_arg2) = m ((c.tc : Thread Cert.KernelAdamRestIdeal.nD Cert.KernelAdamRestIdeal.τ).loc Cert.KernelAdamRestIdeal.main_arg2)
      ∧ r.2.mem ((c.tc : Thread Cert.KernelAdamRestIdeal.nD Cert.KernelAdamRestIdeal.τ).loc Cert.KernelAdamRestIdeal.main_arg3) = m ((c.tc : Thread Cert.KernelAdamRestIdeal.nD Cert.KernelAdamRestIdeal.τ).loc Cert.KernelAdamRestIdeal.main_arg3)
      ∧ r.2.mem ((c.tc : Thread Cert.KernelAdamRestIdeal.nD Cert.KernelAdamRestIdeal.τ).loc Cert.KernelAdamRestIdeal.main_arg4) = m ((c.tc : Thread Cert.KernelAdamRestIdeal.nD Cert.KernelAdamRestIdeal.τ).loc Cert.KernelAdamRestIdeal.main_arg4)
      ∧ r.2.mem ((c.tc : Thread Cert.KernelAdamRestIdeal.nD Cert.KernelAdamRestIdeal.τ).loc Cert.KernelAdamRestIdeal.main_arg5) = m ((c.tc : Thread Cert.KernelAdamRestIdeal.nD Cert.KernelAdamRestIdeal.τ).loc Cert.KernelAdamRestIdeal.main_arg5)
      ∧ r.2.mem ((c.tc : Thread Cert.KernelAdamRestIdeal.nD Cert.KernelAdamRestIdeal.τ).loc Cert.KernelAdamRestIdeal.main_arg6) = m ((c.tc : Thread Cert.KernelAdamRestIdeal.nD Cert.KernelAdamRestIdeal.τ).loc Cert.KernelAdamRestIdeal.main_arg6)
      ∧ r.2.mem ((c.tc : Thread Cert.KernelAdamRestIdeal.nD Cert.KernelAdamRestIdeal.τ).loc Cert.KernelAdamRestIdeal.main_arg7) = m ((c.tc : Thread Cert.KernelAdamRestIdeal.nD Cert.KernelAdamRestIdeal.τ).loc Cert.KernelAdamRestIdeal.main_arg7)
      ∧ r.2.mem ((c.tc : Thread Cert.KernelAdamRestIdeal.nD Cert.KernelAdamRestIdeal.τ).loc Cert.KernelAdamRestIdeal.main_arg8) = m ((c.tc : Thread Cert.KernelAdamRestIdeal.nD Cert.KernelAdamRestIdeal.τ).loc Cert.KernelAdamRestIdeal.main_arg8)
      ∧ r.2.mem ((c.tc : Thread Cert.KernelAdamRestIdeal.nD Cert.KernelAdamRestIdeal.τ).loc Cert.KernelAdamRestIdeal.main_arg9) = m ((c.tc : Thread Cert.KernelAdamRestIdeal.nD Cert.KernelAdamRestIdeal.τ).loc Cert.KernelAdamRestIdeal.main_arg9)
      ∧ r.2.mem ((c.tc : Thread Cert.KernelAdamRestIdeal.nD Cert.KernelAdamRestIdeal.τ).loc Cert.KernelAdamRestIdeal.main_arg10) = m ((c.tc : Thread Cert.KernelAdamRestIdeal.nD Cert.KernelAdamRestIdeal.τ).loc Cert.KernelAdamRestIdeal.main_arg10)
      ∧ r.2.mem ((c.tc : Thread Cert.KernelAdamRestIdeal.nD Cert.KernelAdamRestIdeal.τ).loc Cert.KernelAdamRestIdeal.main_arg11) = m ((c.tc : Thread Cert.KernelAdamRestIdeal.nD Cert.KernelAdamRestIdeal.τ).loc Cert.KernelAdamRestIdeal.main_arg11)
      ∧ r.2.mem ((c.tc : Thread Cert.KernelAdamRestIdeal.nD Cert.KernelAdamRestIdeal.τ).loc Cert.KernelAdamRestIdeal.main_arg12) = m ((c.tc : Thread Cert.KernelAdamRestIdeal.nD Cert.KernelAdamRestIdeal.τ).loc Cert.KernelAdamRestIdeal.main_arg12)
      ∧ r.2.mem ((c.tc : Thread Cert.KernelAdamRestIdeal.nD Cert.KernelAdamRestIdeal.τ).loc Cert.KernelAdamRestIdeal.main_arg13) = m ((c.tc : Thread Cert.KernelAdamRestIdeal.nD Cert.KernelAdamRestIdeal.τ).loc Cert.KernelAdamRestIdeal.main_arg13)
      ∧ r.2.mem ((c.tc : Thread Cert.KernelAdamRestIdeal.nD Cert.KernelAdamRestIdeal.τ).loc Cert.KernelAdamRestIdeal.main_arg14) = m ((c.tc : Thread Cert.KernelAdamRestIdeal.nD Cert.KernelAdamRestIdeal.τ).loc Cert.KernelAdamRestIdeal.main_arg14)
      ∧ r.2.mem ((c.tc : Thread Cert.KernelAdamRestIdeal.nD Cert.KernelAdamRestIdeal.τ).loc Cert.KernelAdamRestIdeal.main_arg15) = m ((c.tc : Thread Cert.KernelAdamRestIdeal.nD Cert.KernelAdamRestIdeal.τ).loc Cert.KernelAdamRestIdeal.main_arg15)
      ∧ r.2.mem ((c.tc : Thread Cert.KernelAdamRestIdeal.nD Cert.KernelAdamRestIdeal.τ).loc Cert.KernelAdamRestIdeal.main_arg16) = m ((c.tc : Thread Cert.KernelAdamRestIdeal.nD Cert.KernelAdamRestIdeal.τ).loc Cert.KernelAdamRestIdeal.main_arg16)
      ∧ r.2.mem ((c.tc : Thread Cert.KernelAdamRestIdeal.nD Cert.KernelAdamRestIdeal.τ).loc Cert.KernelAdamRestIdeal.main_arg17) = m ((c.tc : Thread Cert.KernelAdamRestIdeal.nD Cert.KernelAdamRestIdeal.τ).loc Cert.KernelAdamRestIdeal.main_arg17)
      ∧ r.2.mem ((c.tc : Thread Cert.KernelAdamRestIdeal.nD Cert.KernelAdamRestIdeal.τ).loc Cert.KernelAdamRestIdeal.main_arg18) = m ((c.tc : Thread Cert.KernelAdamRestIdeal.nD Cert.KernelAdamRestIdeal.τ).loc Cert.KernelAdamRestIdeal.main_arg18)
      ∧ r.2.mem ((c.tc : Thread Cert.KernelAdamRestIdeal.nD Cert.KernelAdamRestIdeal.τ).loc Cert.KernelAdamRestIdeal.main_arg19) = m ((c.tc : Thread Cert.KernelAdamRestIdeal.nD Cert.KernelAdamRestIdeal.τ).loc Cert.KernelAdamRestIdeal.main_arg19)
      ∧ r.2.mem ((c.tc : Thread Cert.KernelAdamRestIdeal.nD Cert.KernelAdamRestIdeal.τ).loc Cert.KernelAdamRestIdeal.main_arg20) = m ((c.tc : Thread Cert.KernelAdamRestIdeal.nD Cert.KernelAdamRestIdeal.τ).loc Cert.KernelAdamRestIdeal.main_arg20)
      ∧ r.2.mem ((c.tc : Thread Cert.KernelAdamRestIdeal.nD Cert.KernelAdamRestIdeal.τ).loc Cert.KernelAdamRestIdeal.main_arg21) = m ((c.tc : Thread Cert.KernelAdamRestIdeal.nD Cert.KernelAdamRestIdeal.τ).loc Cert.KernelAdamRestIdeal.main_arg21)
      ∧ r.2.mem ((c.tc : Thread Cert.KernelAdamRestIdeal.nD Cert.KernelAdamRestIdeal.τ).loc Cert.KernelAdamRestIdeal.main_arg22) = m ((c.tc : Thread Cert.KernelAdamRestIdeal.nD Cert.KernelAdamRestIdeal.τ).loc Cert.KernelAdamRestIdeal.main_arg22)
      ∧ r.2.mem ((c.tc : Thread Cert.KernelAdamRestIdeal.nD Cert.KernelAdamRestIdeal.τ).loc Cert.KernelAdamRestIdeal.main_arg23) = m ((c.tc : Thread Cert.KernelAdamRestIdeal.nD Cert.KernelAdamRestIdeal.τ).loc Cert.KernelAdamRestIdeal.main_arg23)
      ∧ r.2.mem ((c.tc : Thread Cert.KernelAdamRestIdeal.nD Cert.KernelAdamRestIdeal.τ).loc Cert.KernelAdamRestIdeal.main_arg24) = m ((c.tc : Thread Cert.KernelAdamRestIdeal.nD Cert.KernelAdamRestIdeal.τ).loc Cert.KernelAdamRestIdeal.main_arg24)
      ∧ r.2.mem ((c.tc : Thread Cert.KernelAdamRestIdeal.nD Cert.KernelAdamRestIdeal.τ).loc Cert.KernelAdamRestIdeal.main_arg25) = m ((c.tc : Thread Cert.KernelAdamRestIdeal.nD Cert.KernelAdamRestIdeal.τ).loc Cert.KernelAdamRestIdeal.main_arg25)
      ∧ r.2.mem ((c.tc : Thread Cert.KernelAdamRestIdeal.nD Cert.KernelAdamRestIdeal.τ).loc Cert.KernelAdamRestIdeal.main_arg26) = m ((c.tc : Thread Cert.KernelAdamRestIdeal.nD Cert.KernelAdamRestIdeal.τ).loc Cert.KernelAdamRestIdeal.main_arg26)
      ∧ r.2.mem ((c.tc : Thread Cert.KernelAdamRestIdeal.nD Cert.KernelAdamRestIdeal.τ).loc Cert.KernelAdamRestIdeal.main_arg27) = m ((c.tc : Thread Cert.KernelAdamRestIdeal.nD Cert.KernelAdamRestIdeal.τ).loc Cert.KernelAdamRestIdeal.main_arg27)
      ∧ r.2.mem ((c.tc : Thread Cert.KernelAdamRestIdeal.nD Cert.KernelAdamRestIdeal.τ).loc Cert.KernelAdamRestIdeal.main_arg28) = m ((c.tc : Thread Cert.KernelAdamRestIdeal.nD Cert.KernelAdamRestIdeal.τ).loc Cert.KernelAdamRestIdeal.main_arg28)
      ∧ r.2.mem ((c.tc : Thread Cert.KernelAdamRestIdeal.nD Cert.KernelAdamRestIdeal.τ).loc Cert.KernelAdamRestIdeal.main_arg29) = m ((c.tc : Thread Cert.KernelAdamRestIdeal.nD Cert.KernelAdamRestIdeal.τ).loc Cert.KernelAdamRestIdeal.main_arg29)
      ∧ r.2.mem ((c.tc : Thread Cert.KernelAdamRestIdeal.nD Cert.KernelAdamRestIdeal.τ).loc Cert.KernelAdamRestIdeal.main_arg30) = m ((c.tc : Thread Cert.KernelAdamRestIdeal.nD Cert.KernelAdamRestIdeal.τ).loc Cert.KernelAdamRestIdeal.main_arg30)
      ∧ r.2.mem ((c.tc : Thread Cert.KernelAdamRestIdeal.nD Cert.KernelAdamRestIdeal.τ).loc Cert.KernelAdamRestIdeal.main_arg31) = m ((c.tc : Thread Cert.KernelAdamRestIdeal.nD Cert.KernelAdamRestIdeal.τ).loc Cert.KernelAdamRestIdeal.main_arg31)
      ∧ r.2.mem ((c.tc : Thread Cert.KernelAdamRestIdeal.nD Cert.KernelAdamRestIdeal.τ).loc Cert.KernelAdamRestIdeal.main_arg32) = m ((c.tc : Thread Cert.KernelAdamRestIdeal.nD Cert.KernelAdamRestIdeal.τ).loc Cert.KernelAdamRestIdeal.main_arg32)
      ∧ r.2.mem ((c.tc : Thread Cert.KernelAdamRestIdeal.nD Cert.KernelAdamRestIdeal.τ).loc Cert.KernelAdamRestIdeal.main_arg33) = m ((c.tc : Thread Cert.KernelAdamRestIdeal.nD Cert.KernelAdamRestIdeal.τ).loc Cert.KernelAdamRestIdeal.main_arg33)
      ∧ r.2.mem ((c.tc : Thread Cert.KernelAdamRestIdeal.nD Cert.KernelAdamRestIdeal.τ).loc Cert.KernelAdamRestIdeal.main_arg34) = m ((c.tc : Thread Cert.KernelAdamRestIdeal.nD Cert.KernelAdamRestIdeal.τ).loc Cert.KernelAdamRestIdeal.main_arg34)
      ∧ r.2.mem ((c.tc : Thread Cert.KernelAdamRestIdeal.nD Cert.KernelAdamRestIdeal.τ).loc Cert.KernelAdamRestIdeal.main_arg35) = m ((c.tc : Thread Cert.KernelAdamRestIdeal.nD Cert.KernelAdamRestIdeal.τ).loc Cert.KernelAdamRestIdeal.main_arg35)
      ∧ r.2.mem ((c.tc : Thread Cert.KernelAdamRestIdeal.nD Cert.KernelAdamRestIdeal.τ).loc Cert.KernelAdamRestIdeal.main_arg36) = m ((c.tc : Thread Cert.KernelAdamRestIdeal.nD Cert.KernelAdamRestIdeal.τ).loc Cert.KernelAdamRestIdeal.main_arg36)
      ∧ r.2.mem ((c.tc : Thread Cert.KernelAdamRestIdeal.nD Cert.KernelAdamRestIdeal.τ).loc Cert.KernelAdamRestIdeal.main_arg37) = m ((c.tc : Thread Cert.KernelAdamRestIdeal.nD Cert.KernelAdamRestIdeal.τ).loc Cert.KernelAdamRestIdeal.main_arg37)
      ∧ r.2.mem ((c.tc : Thread Cert.KernelAdamRestIdeal.nD Cert.KernelAdamRestIdeal.τ).loc Cert.KernelAdamRestIdeal.main_arg38) = m ((c.tc : Thread Cert.KernelAdamRestIdeal.nD Cert.KernelAdamRestIdeal.τ).loc Cert.KernelAdamRestIdeal.main_arg38)
      ∧ r.2.mem ((c.tc : Thread Cert.KernelAdamRestIdeal.nD Cert.KernelAdamRestIdeal.τ).loc Cert.KernelAdamRestIdeal.main_arg39) = m ((c.tc : Thread Cert.KernelAdamRestIdeal.nD Cert.KernelAdamRestIdeal.τ).loc Cert.KernelAdamRestIdeal.main_arg39)
      ∧ r.2.mem ((c.tc : Thread Cert.KernelAdamRestIdeal.nD Cert.KernelAdamRestIdeal.τ).loc Cert.KernelAdamRestIdeal.main_arg40) = m ((c.tc : Thread Cert.KernelAdamRestIdeal.nD Cert.KernelAdamRestIdeal.τ).loc Cert.KernelAdamRestIdeal.main_arg40)
      ∧ r.2.mem ((c.tc : Thread Cert.KernelAdamRestIdeal.nD Cert.KernelAdamRestIdeal.τ).loc Cert.KernelAdamRestIdeal.main_arg41) = m ((c.tc : Thread Cert.KernelAdamRestIdeal.nD Cert.KernelAdamRestIdeal.τ).loc Cert.KernelAdamRestIdeal.main_arg41)
      ∧ r.2.mem ((c.tc : Thread Cert.KernelAdamRestIdeal.nD Cert.KernelAdamRestIdeal.τ).loc Cert.KernelAdamRestIdeal.main_arg42) = m ((c.tc : Thread Cert.KernelAdamRestIdeal.nD Cert.KernelAdamRestIdeal.τ).loc Cert.KernelAdamRestIdeal.main_arg42)
      ∧ r.2.mem ((c.tc : Thread Cert.KernelAdamRestIdeal.nD Cert.KernelAdamRestIdeal.τ).loc Cert.KernelAdamRestIdeal.main_arg43) = m ((c.tc : Thread Cert.KernelAdamRestIdeal.nD Cert.KernelAdamRestIdeal.τ).loc Cert.KernelAdamRestIdeal.main_arg43)
      ∧ r.2.mem ((c.tc : Thread Cert.KernelAdamRestIdeal.nD Cert.KernelAdamRestIdeal.τ).loc Cert.KernelAdamRestIdeal.main_arg44) = m ((c.tc : Thread Cert.KernelAdamRestIdeal.nD Cert.KernelAdamRestIdeal.τ).loc Cert.KernelAdamRestIdeal.main_arg44)
      ∧ r.2.mem ((c.tc : Thread Cert.KernelAdamRestIdeal.nD Cert.KernelAdamRestIdeal.τ).loc Cert.KernelAdamRestIdeal.main_arg45) = m ((c.tc : Thread Cert.KernelAdamRestIdeal.nD Cert.KernelAdamRestIdeal.τ).loc Cert.KernelAdamRestIdeal.main_arg45)
      ∧ r.2.mem ((c.tc : Thread Cert.KernelAdamRestIdeal.nD Cert.KernelAdamRestIdeal.τ).loc Cert.KernelAdamRestIdeal.main_arg46) = m ((c.tc : Thread Cert.KernelAdamRestIdeal.nD Cert.KernelAdamRestIdeal.τ).loc Cert.KernelAdamRestIdeal.main_arg46)
      ∧ r.2.mem ((c.tc : Thread Cert.KernelAdamRestIdeal.nD Cert.KernelAdamRestIdeal.τ).loc Cert.KernelAdamRestIdeal.main_arg47) = m ((c.tc : Thread Cert.KernelAdamRestIdeal.nD Cert.KernelAdamRestIdeal.τ).loc Cert.KernelAdamRestIdeal.main_arg47))
      ∧ r.2.sem = fun _ => 0)

def quiescent_ReferenceAdamRestIdeal [hReferenceAdamRestIdeal : Cert.ReferenceAdamRestIdeal.Facts] : Prop :=
  ∀ (m : (ℓ : Loc Cert.ReferenceAdamRestIdeal.nD Cert.ReferenceAdamRestIdeal.τ Cert.ReferenceAdamRestIdeal.sig) → Buf (Elt Ideal) ℓ) (g : Dev Cert.ReferenceAdamRestIdeal.nD → PrngReg), Pre_ReferenceAdamRestIdeal m →
    θ_run (Cert.ReferenceAdamRestIdeal.defs (F := Ideal)) (onTc (τ := Cert.ReferenceAdamRestIdeal.τ) (Cert.ReferenceAdamRestIdeal.main (F := Ideal))) ⟨m, fun _ => 0, g⟩ (fun r => (∀ c : Dev Cert.ReferenceAdamRestIdeal.nD,
      r.2.mem ((c.tc : Thread Cert.ReferenceAdamRestIdeal.nD Cert.ReferenceAdamRestIdeal.τ).loc Cert.ReferenceAdamRestIdeal.main_arg0) = m ((c.tc : Thread Cert.ReferenceAdamRestIdeal.nD Cert.ReferenceAdamRestIdeal.τ).loc Cert.ReferenceAdamRestIdeal.main_arg0)
      ∧ r.2.mem ((c.tc : Thread Cert.ReferenceAdamRestIdeal.nD Cert.ReferenceAdamRestIdeal.τ).loc Cert.ReferenceAdamRestIdeal.main_arg1) = m ((c.tc : Thread Cert.ReferenceAdamRestIdeal.nD Cert.ReferenceAdamRestIdeal.τ).loc Cert.ReferenceAdamRestIdeal.main_arg1)
      ∧ r.2.mem ((c.tc : Thread Cert.ReferenceAdamRestIdeal.nD Cert.ReferenceAdamRestIdeal.τ).loc Cert.ReferenceAdamRestIdeal.main_arg2) = m ((c.tc : Thread Cert.ReferenceAdamRestIdeal.nD Cert.ReferenceAdamRestIdeal.τ).loc Cert.ReferenceAdamRestIdeal.main_arg2)
      ∧ r.2.mem ((c.tc : Thread Cert.ReferenceAdamRestIdeal.nD Cert.ReferenceAdamRestIdeal.τ).loc Cert.ReferenceAdamRestIdeal.main_arg3) = m ((c.tc : Thread Cert.ReferenceAdamRestIdeal.nD Cert.ReferenceAdamRestIdeal.τ).loc Cert.ReferenceAdamRestIdeal.main_arg3)
      ∧ r.2.mem ((c.tc : Thread Cert.ReferenceAdamRestIdeal.nD Cert.ReferenceAdamRestIdeal.τ).loc Cert.ReferenceAdamRestIdeal.main_arg4) = m ((c.tc : Thread Cert.ReferenceAdamRestIdeal.nD Cert.ReferenceAdamRestIdeal.τ).loc Cert.ReferenceAdamRestIdeal.main_arg4)
      ∧ r.2.mem ((c.tc : Thread Cert.ReferenceAdamRestIdeal.nD Cert.ReferenceAdamRestIdeal.τ).loc Cert.ReferenceAdamRestIdeal.main_arg5) = m ((c.tc : Thread Cert.ReferenceAdamRestIdeal.nD Cert.ReferenceAdamRestIdeal.τ).loc Cert.ReferenceAdamRestIdeal.main_arg5)
      ∧ r.2.mem ((c.tc : Thread Cert.ReferenceAdamRestIdeal.nD Cert.ReferenceAdamRestIdeal.τ).loc Cert.ReferenceAdamRestIdeal.main_arg6) = m ((c.tc : Thread Cert.ReferenceAdamRestIdeal.nD Cert.ReferenceAdamRestIdeal.τ).loc Cert.ReferenceAdamRestIdeal.main_arg6)
      ∧ r.2.mem ((c.tc : Thread Cert.ReferenceAdamRestIdeal.nD Cert.ReferenceAdamRestIdeal.τ).loc Cert.ReferenceAdamRestIdeal.main_arg7) = m ((c.tc : Thread Cert.ReferenceAdamRestIdeal.nD Cert.ReferenceAdamRestIdeal.τ).loc Cert.ReferenceAdamRestIdeal.main_arg7)
      ∧ r.2.mem ((c.tc : Thread Cert.ReferenceAdamRestIdeal.nD Cert.ReferenceAdamRestIdeal.τ).loc Cert.ReferenceAdamRestIdeal.main_arg8) = m ((c.tc : Thread Cert.ReferenceAdamRestIdeal.nD Cert.ReferenceAdamRestIdeal.τ).loc Cert.ReferenceAdamRestIdeal.main_arg8)
      ∧ r.2.mem ((c.tc : Thread Cert.ReferenceAdamRestIdeal.nD Cert.ReferenceAdamRestIdeal.τ).loc Cert.ReferenceAdamRestIdeal.main_arg9) = m ((c.tc : Thread Cert.ReferenceAdamRestIdeal.nD Cert.ReferenceAdamRestIdeal.τ).loc Cert.ReferenceAdamRestIdeal.main_arg9)
      ∧ r.2.mem ((c.tc : Thread Cert.ReferenceAdamRestIdeal.nD Cert.ReferenceAdamRestIdeal.τ).loc Cert.ReferenceAdamRestIdeal.main_arg10) = m ((c.tc : Thread Cert.ReferenceAdamRestIdeal.nD Cert.ReferenceAdamRestIdeal.τ).loc Cert.ReferenceAdamRestIdeal.main_arg10)
      ∧ r.2.mem ((c.tc : Thread Cert.ReferenceAdamRestIdeal.nD Cert.ReferenceAdamRestIdeal.τ).loc Cert.ReferenceAdamRestIdeal.main_arg11) = m ((c.tc : Thread Cert.ReferenceAdamRestIdeal.nD Cert.ReferenceAdamRestIdeal.τ).loc Cert.ReferenceAdamRestIdeal.main_arg11)
      ∧ r.2.mem ((c.tc : Thread Cert.ReferenceAdamRestIdeal.nD Cert.ReferenceAdamRestIdeal.τ).loc Cert.ReferenceAdamRestIdeal.main_arg12) = m ((c.tc : Thread Cert.ReferenceAdamRestIdeal.nD Cert.ReferenceAdamRestIdeal.τ).loc Cert.ReferenceAdamRestIdeal.main_arg12)
      ∧ r.2.mem ((c.tc : Thread Cert.ReferenceAdamRestIdeal.nD Cert.ReferenceAdamRestIdeal.τ).loc Cert.ReferenceAdamRestIdeal.main_arg13) = m ((c.tc : Thread Cert.ReferenceAdamRestIdeal.nD Cert.ReferenceAdamRestIdeal.τ).loc Cert.ReferenceAdamRestIdeal.main_arg13)
      ∧ r.2.mem ((c.tc : Thread Cert.ReferenceAdamRestIdeal.nD Cert.ReferenceAdamRestIdeal.τ).loc Cert.ReferenceAdamRestIdeal.main_arg14) = m ((c.tc : Thread Cert.ReferenceAdamRestIdeal.nD Cert.ReferenceAdamRestIdeal.τ).loc Cert.ReferenceAdamRestIdeal.main_arg14)
      ∧ r.2.mem ((c.tc : Thread Cert.ReferenceAdamRestIdeal.nD Cert.ReferenceAdamRestIdeal.τ).loc Cert.ReferenceAdamRestIdeal.main_arg15) = m ((c.tc : Thread Cert.ReferenceAdamRestIdeal.nD Cert.ReferenceAdamRestIdeal.τ).loc Cert.ReferenceAdamRestIdeal.main_arg15)
      ∧ r.2.mem ((c.tc : Thread Cert.ReferenceAdamRestIdeal.nD Cert.ReferenceAdamRestIdeal.τ).loc Cert.ReferenceAdamRestIdeal.main_arg16) = m ((c.tc : Thread Cert.ReferenceAdamRestIdeal.nD Cert.ReferenceAdamRestIdeal.τ).loc Cert.ReferenceAdamRestIdeal.main_arg16)
      ∧ r.2.mem ((c.tc : Thread Cert.ReferenceAdamRestIdeal.nD Cert.ReferenceAdamRestIdeal.τ).loc Cert.ReferenceAdamRestIdeal.main_arg17) = m ((c.tc : Thread Cert.ReferenceAdamRestIdeal.nD Cert.ReferenceAdamRestIdeal.τ).loc Cert.ReferenceAdamRestIdeal.main_arg17)
      ∧ r.2.mem ((c.tc : Thread Cert.ReferenceAdamRestIdeal.nD Cert.ReferenceAdamRestIdeal.τ).loc Cert.ReferenceAdamRestIdeal.main_arg18) = m ((c.tc : Thread Cert.ReferenceAdamRestIdeal.nD Cert.ReferenceAdamRestIdeal.τ).loc Cert.ReferenceAdamRestIdeal.main_arg18)
      ∧ r.2.mem ((c.tc : Thread Cert.ReferenceAdamRestIdeal.nD Cert.ReferenceAdamRestIdeal.τ).loc Cert.ReferenceAdamRestIdeal.main_arg19) = m ((c.tc : Thread Cert.ReferenceAdamRestIdeal.nD Cert.ReferenceAdamRestIdeal.τ).loc Cert.ReferenceAdamRestIdeal.main_arg19)
      ∧ r.2.mem ((c.tc : Thread Cert.ReferenceAdamRestIdeal.nD Cert.ReferenceAdamRestIdeal.τ).loc Cert.ReferenceAdamRestIdeal.main_arg20) = m ((c.tc : Thread Cert.ReferenceAdamRestIdeal.nD Cert.ReferenceAdamRestIdeal.τ).loc Cert.ReferenceAdamRestIdeal.main_arg20)
      ∧ r.2.mem ((c.tc : Thread Cert.ReferenceAdamRestIdeal.nD Cert.ReferenceAdamRestIdeal.τ).loc Cert.ReferenceAdamRestIdeal.main_arg21) = m ((c.tc : Thread Cert.ReferenceAdamRestIdeal.nD Cert.ReferenceAdamRestIdeal.τ).loc Cert.ReferenceAdamRestIdeal.main_arg21)
      ∧ r.2.mem ((c.tc : Thread Cert.ReferenceAdamRestIdeal.nD Cert.ReferenceAdamRestIdeal.τ).loc Cert.ReferenceAdamRestIdeal.main_arg22) = m ((c.tc : Thread Cert.ReferenceAdamRestIdeal.nD Cert.ReferenceAdamRestIdeal.τ).loc Cert.ReferenceAdamRestIdeal.main_arg22)
      ∧ r.2.mem ((c.tc : Thread Cert.ReferenceAdamRestIdeal.nD Cert.ReferenceAdamRestIdeal.τ).loc Cert.ReferenceAdamRestIdeal.main_arg23) = m ((c.tc : Thread Cert.ReferenceAdamRestIdeal.nD Cert.ReferenceAdamRestIdeal.τ).loc Cert.ReferenceAdamRestIdeal.main_arg23)
      ∧ r.2.mem ((c.tc : Thread Cert.ReferenceAdamRestIdeal.nD Cert.ReferenceAdamRestIdeal.τ).loc Cert.ReferenceAdamRestIdeal.main_arg24) = m ((c.tc : Thread Cert.ReferenceAdamRestIdeal.nD Cert.ReferenceAdamRestIdeal.τ).loc Cert.ReferenceAdamRestIdeal.main_arg24)
      ∧ r.2.mem ((c.tc : Thread Cert.ReferenceAdamRestIdeal.nD Cert.ReferenceAdamRestIdeal.τ).loc Cert.ReferenceAdamRestIdeal.main_arg25) = m ((c.tc : Thread Cert.ReferenceAdamRestIdeal.nD Cert.ReferenceAdamRestIdeal.τ).loc Cert.ReferenceAdamRestIdeal.main_arg25)
      ∧ r.2.mem ((c.tc : Thread Cert.ReferenceAdamRestIdeal.nD Cert.ReferenceAdamRestIdeal.τ).loc Cert.ReferenceAdamRestIdeal.main_arg26) = m ((c.tc : Thread Cert.ReferenceAdamRestIdeal.nD Cert.ReferenceAdamRestIdeal.τ).loc Cert.ReferenceAdamRestIdeal.main_arg26)
      ∧ r.2.mem ((c.tc : Thread Cert.ReferenceAdamRestIdeal.nD Cert.ReferenceAdamRestIdeal.τ).loc Cert.ReferenceAdamRestIdeal.main_arg27) = m ((c.tc : Thread Cert.ReferenceAdamRestIdeal.nD Cert.ReferenceAdamRestIdeal.τ).loc Cert.ReferenceAdamRestIdeal.main_arg27)
      ∧ r.2.mem ((c.tc : Thread Cert.ReferenceAdamRestIdeal.nD Cert.ReferenceAdamRestIdeal.τ).loc Cert.ReferenceAdamRestIdeal.main_arg28) = m ((c.tc : Thread Cert.ReferenceAdamRestIdeal.nD Cert.ReferenceAdamRestIdeal.τ).loc Cert.ReferenceAdamRestIdeal.main_arg28)
      ∧ r.2.mem ((c.tc : Thread Cert.ReferenceAdamRestIdeal.nD Cert.ReferenceAdamRestIdeal.τ).loc Cert.ReferenceAdamRestIdeal.main_arg29) = m ((c.tc : Thread Cert.ReferenceAdamRestIdeal.nD Cert.ReferenceAdamRestIdeal.τ).loc Cert.ReferenceAdamRestIdeal.main_arg29)
      ∧ r.2.mem ((c.tc : Thread Cert.ReferenceAdamRestIdeal.nD Cert.ReferenceAdamRestIdeal.τ).loc Cert.ReferenceAdamRestIdeal.main_arg30) = m ((c.tc : Thread Cert.ReferenceAdamRestIdeal.nD Cert.ReferenceAdamRestIdeal.τ).loc Cert.ReferenceAdamRestIdeal.main_arg30)
      ∧ r.2.mem ((c.tc : Thread Cert.ReferenceAdamRestIdeal.nD Cert.ReferenceAdamRestIdeal.τ).loc Cert.ReferenceAdamRestIdeal.main_arg31) = m ((c.tc : Thread Cert.ReferenceAdamRestIdeal.nD Cert.ReferenceAdamRestIdeal.τ).loc Cert.ReferenceAdamRestIdeal.main_arg31)
      ∧ r.2.mem ((c.tc : Thread Cert.ReferenceAdamRestIdeal.nD Cert.ReferenceAdamRestIdeal.τ).loc Cert.ReferenceAdamRestIdeal.main_arg32) = m ((c.tc : Thread Cert.ReferenceAdamRestIdeal.nD Cert.ReferenceAdamRestIdeal.τ).loc Cert.ReferenceAdamRestIdeal.main_arg32)
      ∧ r.2.mem ((c.tc : Thread Cert.ReferenceAdamRestIdeal.nD Cert.ReferenceAdamRestIdeal.τ).loc Cert.ReferenceAdamRestIdeal.main_arg33) = m ((c.tc : Thread Cert.ReferenceAdamRestIdeal.nD Cert.ReferenceAdamRestIdeal.τ).loc Cert.ReferenceAdamRestIdeal.main_arg33)
      ∧ r.2.mem ((c.tc : Thread Cert.ReferenceAdamRestIdeal.nD Cert.ReferenceAdamRestIdeal.τ).loc Cert.ReferenceAdamRestIdeal.main_arg34) = m ((c.tc : Thread Cert.ReferenceAdamRestIdeal.nD Cert.ReferenceAdamRestIdeal.τ).loc Cert.ReferenceAdamRestIdeal.main_arg34)
      ∧ r.2.mem ((c.tc : Thread Cert.ReferenceAdamRestIdeal.nD Cert.ReferenceAdamRestIdeal.τ).loc Cert.ReferenceAdamRestIdeal.main_arg35) = m ((c.tc : Thread Cert.ReferenceAdamRestIdeal.nD Cert.ReferenceAdamRestIdeal.τ).loc Cert.ReferenceAdamRestIdeal.main_arg35)
      ∧ r.2.mem ((c.tc : Thread Cert.ReferenceAdamRestIdeal.nD Cert.ReferenceAdamRestIdeal.τ).loc Cert.ReferenceAdamRestIdeal.main_arg36) = m ((c.tc : Thread Cert.ReferenceAdamRestIdeal.nD Cert.ReferenceAdamRestIdeal.τ).loc Cert.ReferenceAdamRestIdeal.main_arg36)
      ∧ r.2.mem ((c.tc : Thread Cert.ReferenceAdamRestIdeal.nD Cert.ReferenceAdamRestIdeal.τ).loc Cert.ReferenceAdamRestIdeal.main_arg37) = m ((c.tc : Thread Cert.ReferenceAdamRestIdeal.nD Cert.ReferenceAdamRestIdeal.τ).loc Cert.ReferenceAdamRestIdeal.main_arg37)
      ∧ r.2.mem ((c.tc : Thread Cert.ReferenceAdamRestIdeal.nD Cert.ReferenceAdamRestIdeal.τ).loc Cert.ReferenceAdamRestIdeal.main_arg38) = m ((c.tc : Thread Cert.ReferenceAdamRestIdeal.nD Cert.ReferenceAdamRestIdeal.τ).loc Cert.ReferenceAdamRestIdeal.main_arg38)
      ∧ r.2.mem ((c.tc : Thread Cert.ReferenceAdamRestIdeal.nD Cert.ReferenceAdamRestIdeal.τ).loc Cert.ReferenceAdamRestIdeal.main_arg39) = m ((c.tc : Thread Cert.ReferenceAdamRestIdeal.nD Cert.ReferenceAdamRestIdeal.τ).loc Cert.ReferenceAdamRestIdeal.main_arg39)
      ∧ r.2.mem ((c.tc : Thread Cert.ReferenceAdamRestIdeal.nD Cert.ReferenceAdamRestIdeal.τ).loc Cert.ReferenceAdamRestIdeal.main_arg40) = m ((c.tc : Thread Cert.ReferenceAdamRestIdeal.nD Cert.ReferenceAdamRestIdeal.τ).loc Cert.ReferenceAdamRestIdeal.main_arg40)
      ∧ r.2.mem ((c.tc : Thread Cert.ReferenceAdamRestIdeal.nD Cert.ReferenceAdamRestIdeal.τ).loc Cert.ReferenceAdamRestIdeal.main_arg41) = m ((c.tc : Thread Cert.ReferenceAdamRestIdeal.nD Cert.ReferenceAdamRestIdeal.τ).loc Cert.ReferenceAdamRestIdeal.main_arg41)
      ∧ r.2.mem ((c.tc : Thread Cert.ReferenceAdamRestIdeal.nD Cert.ReferenceAdamRestIdeal.τ).loc Cert.ReferenceAdamRestIdeal.main_arg42) = m ((c.tc : Thread Cert.ReferenceAdamRestIdeal.nD Cert.ReferenceAdamRestIdeal.τ).loc Cert.ReferenceAdamRestIdeal.main_arg42)
      ∧ r.2.mem ((c.tc : Thread Cert.ReferenceAdamRestIdeal.nD Cert.ReferenceAdamRestIdeal.τ).loc Cert.ReferenceAdamRestIdeal.main_arg43) = m ((c.tc : Thread Cert.ReferenceAdamRestIdeal.nD Cert.ReferenceAdamRestIdeal.τ).loc Cert.ReferenceAdamRestIdeal.main_arg43)
      ∧ r.2.mem ((c.tc : Thread Cert.ReferenceAdamRestIdeal.nD Cert.ReferenceAdamRestIdeal.τ).loc Cert.ReferenceAdamRestIdeal.main_arg44) = m ((c.tc : Thread Cert.ReferenceAdamRestIdeal.nD Cert.ReferenceAdamRestIdeal.τ).loc Cert.ReferenceAdamRestIdeal.main_arg44)
      ∧ r.2.mem ((c.tc : Thread Cert.ReferenceAdamRestIdeal.nD Cert.ReferenceAdamRestIdeal.τ).loc Cert.ReferenceAdamRestIdeal.main_arg45) = m ((c.tc : Thread Cert.ReferenceAdamRestIdeal.nD Cert.ReferenceAdamRestIdeal.τ).loc Cert.ReferenceAdamRestIdeal.main_arg45)
      ∧ r.2.mem ((c.tc : Thread Cert.ReferenceAdamRestIdeal.nD Cert.ReferenceAdamRestIdeal.τ).loc Cert.ReferenceAdamRestIdeal.main_arg46) = m ((c.tc : Thread Cert.ReferenceAdamRestIdeal.nD Cert.ReferenceAdamRestIdeal.τ).loc Cert.ReferenceAdamRestIdeal.main_arg46)
      ∧ r.2.mem ((c.tc : Thread Cert.ReferenceAdamRestIdeal.nD Cert.ReferenceAdamRestIdeal.τ).loc Cert.ReferenceAdamRestIdeal.main_arg47) = m ((c.tc : Thread Cert.ReferenceAdamRestIdeal.nD Cert.ReferenceAdamRestIdeal.τ).loc Cert.ReferenceAdamRestIdeal.main_arg47))
      ∧ r.2.sem = fun _ => 0)

def quiescent_KernelCond [hKernelCond : Cert.KernelCond.Facts] : Prop :=
  ∀ (m : (ℓ : Loc Cert.KernelCond.nD Cert.KernelCond.τ Cert.KernelCond.sig) → Buf (Elt Bits) ℓ) (g : Dev Cert.KernelCond.nD → PrngReg), Pre_KernelCond m →
    θ_run (Cert.KernelCond.defs (F := Bits)) (onTc (τ := Cert.KernelCond.τ) (Cert.KernelCond.main (F := Bits))) ⟨m, fun _ => 0, g⟩ (fun r => (∀ c : Dev Cert.KernelCond.nD,
      r.2.mem ((c.tc : Thread Cert.KernelCond.nD Cert.KernelCond.τ).loc Cert.KernelCond.main_arg0) = m ((c.tc : Thread Cert.KernelCond.nD Cert.KernelCond.τ).loc Cert.KernelCond.main_arg0)
      ∧ r.2.mem ((c.tc : Thread Cert.KernelCond.nD Cert.KernelCond.τ).loc Cert.KernelCond.main_arg1) = m ((c.tc : Thread Cert.KernelCond.nD Cert.KernelCond.τ).loc Cert.KernelCond.main_arg1)
      ∧ r.2.mem ((c.tc : Thread Cert.KernelCond.nD Cert.KernelCond.τ).loc Cert.KernelCond.main_arg2) = m ((c.tc : Thread Cert.KernelCond.nD Cert.KernelCond.τ).loc Cert.KernelCond.main_arg2))
      ∧ r.2.sem = fun _ => 0)

def quiescent_KernelCondIdeal [hKernelCondIdeal : Cert.KernelCondIdeal.Facts] : Prop :=
  ∀ (m : (ℓ : Loc Cert.KernelCondIdeal.nD Cert.KernelCondIdeal.τ Cert.KernelCondIdeal.sig) → Buf (Elt Ideal) ℓ) (g : Dev Cert.KernelCondIdeal.nD → PrngReg), Pre_KernelCondIdeal m →
    θ_run (Cert.KernelCondIdeal.defs (F := Ideal)) (onTc (τ := Cert.KernelCondIdeal.τ) (Cert.KernelCondIdeal.main (F := Ideal))) ⟨m, fun _ => 0, g⟩ (fun r => (∀ c : Dev Cert.KernelCondIdeal.nD,
      r.2.mem ((c.tc : Thread Cert.KernelCondIdeal.nD Cert.KernelCondIdeal.τ).loc Cert.KernelCondIdeal.main_arg0) = m ((c.tc : Thread Cert.KernelCondIdeal.nD Cert.KernelCondIdeal.τ).loc Cert.KernelCondIdeal.main_arg0)
      ∧ r.2.mem ((c.tc : Thread Cert.KernelCondIdeal.nD Cert.KernelCondIdeal.τ).loc Cert.KernelCondIdeal.main_arg1) = m ((c.tc : Thread Cert.KernelCondIdeal.nD Cert.KernelCondIdeal.τ).loc Cert.KernelCondIdeal.main_arg1)
      ∧ r.2.mem ((c.tc : Thread Cert.KernelCondIdeal.nD Cert.KernelCondIdeal.τ).loc Cert.KernelCondIdeal.main_arg2) = m ((c.tc : Thread Cert.KernelCondIdeal.nD Cert.KernelCondIdeal.τ).loc Cert.KernelCondIdeal.main_arg2))
      ∧ r.2.sem = fun _ => 0)

def quiescent_ReferenceCondIdeal [hReferenceCondIdeal : Cert.ReferenceCondIdeal.Facts] : Prop :=
  ∀ (m : (ℓ : Loc Cert.ReferenceCondIdeal.nD Cert.ReferenceCondIdeal.τ Cert.ReferenceCondIdeal.sig) → Buf (Elt Ideal) ℓ) (g : Dev Cert.ReferenceCondIdeal.nD → PrngReg), Pre_ReferenceCondIdeal m →
    θ_run (Cert.ReferenceCondIdeal.defs (F := Ideal)) (onTc (τ := Cert.ReferenceCondIdeal.τ) (Cert.ReferenceCondIdeal.main (F := Ideal))) ⟨m, fun _ => 0, g⟩ (fun r => (∀ c : Dev Cert.ReferenceCondIdeal.nD,
      r.2.mem ((c.tc : Thread Cert.ReferenceCondIdeal.nD Cert.ReferenceCondIdeal.τ).loc Cert.ReferenceCondIdeal.main_arg0) = m ((c.tc : Thread Cert.ReferenceCondIdeal.nD Cert.ReferenceCondIdeal.τ).loc Cert.ReferenceCondIdeal.main_arg0)
      ∧ r.2.mem ((c.tc : Thread Cert.ReferenceCondIdeal.nD Cert.ReferenceCondIdeal.τ).loc Cert.ReferenceCondIdeal.main_arg1) = m ((c.tc : Thread Cert.ReferenceCondIdeal.nD Cert.ReferenceCondIdeal.τ).loc Cert.ReferenceCondIdeal.main_arg1)
      ∧ r.2.mem ((c.tc : Thread Cert.ReferenceCondIdeal.nD Cert.ReferenceCondIdeal.τ).loc Cert.ReferenceCondIdeal.main_arg2) = m ((c.tc : Thread Cert.ReferenceCondIdeal.nD Cert.ReferenceCondIdeal.τ).loc Cert.ReferenceCondIdeal.main_arg2))
      ∧ r.2.sem = fun _ => 0)

def quiescent_KernelCondW [hKernelCondW : Cert.KernelCondW.Facts] : Prop :=
  ∀ (m : (ℓ : Loc Cert.KernelCondW.nD Cert.KernelCondW.τ Cert.KernelCondW.sig) → Buf (Elt Bits) ℓ) (g : Dev Cert.KernelCondW.nD → PrngReg), Pre_KernelCondW m →
    θ_run (Cert.KernelCondW.defs (F := Bits)) (onTc (τ := Cert.KernelCondW.τ) (Cert.KernelCondW.main (F := Bits))) ⟨m, fun _ => 0, g⟩ (fun r => (∀ c : Dev Cert.KernelCondW.nD,
      r.2.mem ((c.tc : Thread Cert.KernelCondW.nD Cert.KernelCondW.τ).loc Cert.KernelCondW.main_arg0) = m ((c.tc : Thread Cert.KernelCondW.nD Cert.KernelCondW.τ).loc Cert.KernelCondW.main_arg0)
      ∧ r.2.mem ((c.tc : Thread Cert.KernelCondW.nD Cert.KernelCondW.τ).loc Cert.KernelCondW.main_arg1) = m ((c.tc : Thread Cert.KernelCondW.nD Cert.KernelCondW.τ).loc Cert.KernelCondW.main_arg1))
      ∧ r.2.sem = fun _ => 0)

def quiescent_KernelCondWIdeal [hKernelCondWIdeal : Cert.KernelCondWIdeal.Facts] : Prop :=
  ∀ (m : (ℓ : Loc Cert.KernelCondWIdeal.nD Cert.KernelCondWIdeal.τ Cert.KernelCondWIdeal.sig) → Buf (Elt Ideal) ℓ) (g : Dev Cert.KernelCondWIdeal.nD → PrngReg), Pre_KernelCondWIdeal m →
    θ_run (Cert.KernelCondWIdeal.defs (F := Ideal)) (onTc (τ := Cert.KernelCondWIdeal.τ) (Cert.KernelCondWIdeal.main (F := Ideal))) ⟨m, fun _ => 0, g⟩ (fun r => (∀ c : Dev Cert.KernelCondWIdeal.nD,
      r.2.mem ((c.tc : Thread Cert.KernelCondWIdeal.nD Cert.KernelCondWIdeal.τ).loc Cert.KernelCondWIdeal.main_arg0) = m ((c.tc : Thread Cert.KernelCondWIdeal.nD Cert.KernelCondWIdeal.τ).loc Cert.KernelCondWIdeal.main_arg0)
      ∧ r.2.mem ((c.tc : Thread Cert.KernelCondWIdeal.nD Cert.KernelCondWIdeal.τ).loc Cert.KernelCondWIdeal.main_arg1) = m ((c.tc : Thread Cert.KernelCondWIdeal.nD Cert.KernelCondWIdeal.τ).loc Cert.KernelCondWIdeal.main_arg1))
      ∧ r.2.sem = fun _ => 0)

def quiescent_ReferenceCondWIdeal [hReferenceCondWIdeal : Cert.ReferenceCondWIdeal.Facts] : Prop :=
  ∀ (m : (ℓ : Loc Cert.ReferenceCondWIdeal.nD Cert.ReferenceCondWIdeal.τ Cert.ReferenceCondWIdeal.sig) → Buf (Elt Ideal) ℓ) (g : Dev Cert.ReferenceCondWIdeal.nD → PrngReg), Pre_ReferenceCondWIdeal m →
    θ_run (Cert.ReferenceCondWIdeal.defs (F := Ideal)) (onTc (τ := Cert.ReferenceCondWIdeal.τ) (Cert.ReferenceCondWIdeal.main (F := Ideal))) ⟨m, fun _ => 0, g⟩ (fun r => (∀ c : Dev Cert.ReferenceCondWIdeal.nD,
      r.2.mem ((c.tc : Thread Cert.ReferenceCondWIdeal.nD Cert.ReferenceCondWIdeal.τ).loc Cert.ReferenceCondWIdeal.main_arg0) = m ((c.tc : Thread Cert.ReferenceCondWIdeal.nD Cert.ReferenceCondWIdeal.τ).loc Cert.ReferenceCondWIdeal.main_arg0)
      ∧ r.2.mem ((c.tc : Thread Cert.ReferenceCondWIdeal.nD Cert.ReferenceCondWIdeal.τ).loc Cert.ReferenceCondWIdeal.main_arg1) = m ((c.tc : Thread Cert.ReferenceCondWIdeal.nD Cert.ReferenceCondWIdeal.τ).loc Cert.ReferenceCondWIdeal.main_arg1))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3)
      ∧ r.2.mem ((c.tc : Thread Cert.KernelPost.nD Cert.KernelPost.τ).loc Cert.KernelPost.main_arg4) = m ((c.tc : Thread Cert.KernelPost.nD Cert.KernelPost.τ).loc Cert.KernelPost.main_arg4))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
      ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3)
      ∧ r.2.mem ((c.tc : Thread Cert.ReferencePostIdeal.nD Cert.ReferencePostIdeal.τ).loc Cert.ReferencePostIdeal.main_arg4) = m ((c.tc : Thread Cert.ReferencePostIdeal.nD Cert.ReferencePostIdeal.τ).loc Cert.ReferencePostIdeal.main_arg4))
      ∧ r.2.sem = fun _ => 0)

def preserves_Kernel_KernelIdeal : Prop :=
  True

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)) (v7 : (c : Dev Cert.KernelIdeal.nD) → Buf (Elt Ideal) ((c.tc : Thread Cert.KernelIdeal.nD Cert.KernelIdeal.τ).loc Cert.KernelIdeal.main_v3_7)) (v8 : (c : Dev Cert.KernelIdeal.nD) → Buf (Elt Ideal) ((c.tc : Thread Cert.KernelIdeal.nD Cert.KernelIdeal.τ).loc Cert.KernelIdeal.main_v3_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.KernelIdeal.nD Cert.KernelIdeal.τ).loc Cert.KernelIdeal.main_v3_0) i = v0 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.KernelIdeal.nD Cert.KernelIdeal.τ).loc Cert.KernelIdeal.main_v3_1) i = v1 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.KernelIdeal.nD Cert.KernelIdeal.τ).loc Cert.KernelIdeal.main_v3_2) i = v2 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 i = 1#1 → r.2.mem ((c.tc : Thread Cert.KernelIdeal.nD Cert.KernelIdeal.τ).loc Cert.KernelIdeal.main_v3_3) i = v3 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 i = 1#1 → r.2.mem ((c.tc : Thread Cert.KernelIdeal.nD Cert.KernelIdeal.τ).loc Cert.KernelIdeal.main_v3_4) i = v4 c i)
          ∧ (∀ i : (⟨2, ![8192, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 i = 1#1 → r.2.mem ((c.tc : Thread Cert.KernelIdeal.nD Cert.KernelIdeal.τ).loc Cert.KernelIdeal.main_v3_5) i = v5 c i)
          ∧ (∀ i : (⟨2, ![8192, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 i = 1#1 → r.2.mem ((c.tc : Thread Cert.KernelIdeal.nD Cert.KernelIdeal.τ).loc Cert.KernelIdeal.main_v3_6) i = v6 c i)
          ∧ (∀ i : (⟨2, ![8192, 15872]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 i = 1#1 → r.2.mem ((c.tc : Thread Cert.KernelIdeal.nD Cert.KernelIdeal.τ).loc Cert.KernelIdeal.main_v3_7) i = v7 c i)
          ∧ (∀ i : (⟨2, ![8, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 i = 1#1 → r.2.mem ((c.tc : Thread Cert.KernelIdeal.nD Cert.KernelIdeal.τ).loc Cert.KernelIdeal.main_v3_8) i = v8 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.ReferenceIdeal.nD Cert.ReferenceIdeal.τ).loc Cert.ReferenceIdeal.main_v75) i = v0 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.ReferenceIdeal.nD Cert.ReferenceIdeal.τ).loc Cert.ReferenceIdeal.main_v95) i = v1 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.ReferenceIdeal.nD Cert.ReferenceIdeal.τ).loc Cert.ReferenceIdeal.main_v96) i = v2 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 i = 1#1 → r.2.mem ((c.tc : Thread Cert.ReferenceIdeal.nD Cert.ReferenceIdeal.τ).loc Cert.ReferenceIdeal.main_v97) i = v3 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 i = 1#1 → r.2.mem ((c.tc : Thread Cert.ReferenceIdeal.nD Cert.ReferenceIdeal.τ).loc Cert.ReferenceIdeal.main_v98) i = v4 c i)
          ∧ (∀ i : (⟨2, ![8192, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 i = 1#1 → r.2.mem ((c.tc : Thread Cert.ReferenceIdeal.nD Cert.ReferenceIdeal.τ).loc Cert.ReferenceIdeal.main_v99) i = v5 c i)
          ∧ (∀ i : (⟨2, ![8192, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 i = 1#1 → r.2.mem ((c.tc : Thread Cert.ReferenceIdeal.nD Cert.ReferenceIdeal.τ).loc Cert.ReferenceIdeal.main_v100) i = v6 c i)
          ∧ (∀ i : (⟨2, ![8192, 15872]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 i = 1#1 → r.2.mem ((c.tc : Thread Cert.ReferenceIdeal.nD Cert.ReferenceIdeal.τ).loc Cert.ReferenceIdeal.main_v101) i = v7 c i)
          ∧ (∀ i : (⟨2, ![8, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 i = 1#1 → r.2.mem ((c.tc : Thread Cert.ReferenceIdeal.nD Cert.ReferenceIdeal.τ).loc Cert.ReferenceIdeal.main_v93) i = v8 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_KernelGw_KernelGwIdeal : Prop :=
  True

def algebraic_KernelGwIdeal_ReferenceGwIdeal [hKernelGwIdeal : Cert.KernelGwIdeal.Facts] [hReferenceGwIdeal : Cert.ReferenceGwIdeal.Facts] : Prop :=
  ∀ (m : (ℓ : Loc Cert.KernelGwIdeal.nD Cert.KernelGwIdeal.τ Cert.KernelGwIdeal.sig) → Buf (Elt Ideal) ℓ) (g : Dev Cert.KernelGwIdeal.nD → PrngReg)
    (m' : (ℓ : Loc Cert.ReferenceGwIdeal.nD Cert.ReferenceGwIdeal.τ Cert.ReferenceGwIdeal.sig) → Buf (Elt Ideal) ℓ) (g' : Dev Cert.ReferenceGwIdeal.nD → PrngReg), Pre_KernelGwIdeal m →
    (∀ c : Dev Cert.KernelGwIdeal.nD,
      m' ((c.tc : Thread Cert.ReferenceGwIdeal.nD Cert.ReferenceGwIdeal.τ).loc Cert.ReferenceGwIdeal.main_arg0) = m ((c.tc : Thread Cert.KernelGwIdeal.nD Cert.KernelGwIdeal.τ).loc Cert.KernelGwIdeal.main_arg0)
      ∧ m' ((c.tc : Thread Cert.ReferenceGwIdeal.nD Cert.ReferenceGwIdeal.τ).loc Cert.ReferenceGwIdeal.main_arg1) = m ((c.tc : Thread Cert.KernelGwIdeal.nD Cert.KernelGwIdeal.τ).loc Cert.KernelGwIdeal.main_arg1)) →
    ∃ (v0 : (c : Dev Cert.KernelGwIdeal.nD) → Buf (Elt Ideal) ((c.tc : Thread Cert.KernelGwIdeal.nD Cert.KernelGwIdeal.τ).loc Cert.KernelGwIdeal.main_v1_0)) (v1 : (c : Dev Cert.KernelGwIdeal.nD) → Buf (Elt Ideal) ((c.tc : Thread Cert.KernelGwIdeal.nD Cert.KernelGwIdeal.τ).loc Cert.KernelGwIdeal.main_v1_1)),
      θ_run (Cert.KernelGwIdeal.defs (F := Ideal)) (onTc (τ := Cert.KernelGwIdeal.τ) (Cert.KernelGwIdeal.main (F := Ideal))) ⟨m, fun _ => 0, g⟩ (fun r => ∀ c : Dev Cert.KernelGwIdeal.nD,
          r.2.mem ((c.tc : Thread Cert.KernelGwIdeal.nD Cert.KernelGwIdeal.τ).loc Cert.KernelGwIdeal.main_v1_0) = v0 c
          ∧ r.2.mem ((c.tc : Thread Cert.KernelGwIdeal.nD Cert.KernelGwIdeal.τ).loc Cert.KernelGwIdeal.main_v1_1) = v1 c
          ∧ r.2.mem ((c.tc : Thread Cert.KernelGwIdeal.nD Cert.KernelGwIdeal.τ).loc Cert.KernelGwIdeal.main_arg0) = m ((c.tc : Thread Cert.KernelGwIdeal.nD Cert.KernelGwIdeal.τ).loc Cert.KernelGwIdeal.main_arg0)
          ∧ r.2.mem ((c.tc : Thread Cert.KernelGwIdeal.nD Cert.KernelGwIdeal.τ).loc Cert.KernelGwIdeal.main_arg1) = m ((c.tc : Thread Cert.KernelGwIdeal.nD Cert.KernelGwIdeal.τ).loc Cert.KernelGwIdeal.main_arg1))
      ∧ θ_run (Cert.ReferenceGwIdeal.defs (F := Ideal)) (onTc (τ := Cert.ReferenceGwIdeal.τ) (Cert.ReferenceGwIdeal.main (F := Ideal))) ⟨m', fun _ => 0, g'⟩ (fun r => ∀ c : Dev Cert.ReferenceGwIdeal.nD,
          r.2.mem ((c.tc : Thread Cert.ReferenceGwIdeal.nD Cert.ReferenceGwIdeal.τ).loc Cert.ReferenceGwIdeal.main_v11) = v0 c
          ∧ r.2.mem ((c.tc : Thread Cert.ReferenceGwIdeal.nD Cert.ReferenceGwIdeal.τ).loc Cert.ReferenceGwIdeal.main_v8) = v1 c
          ∧ r.2.mem ((c.tc : Thread Cert.ReferenceGwIdeal.nD Cert.ReferenceGwIdeal.τ).loc Cert.ReferenceGwIdeal.main_arg0) = m' ((c.tc : Thread Cert.ReferenceGwIdeal.nD Cert.ReferenceGwIdeal.τ).loc Cert.ReferenceGwIdeal.main_arg0)
          ∧ r.2.mem ((c.tc : Thread Cert.ReferenceGwIdeal.nD Cert.ReferenceGwIdeal.τ).loc Cert.ReferenceGwIdeal.main_arg1) = m' ((c.tc : Thread Cert.ReferenceGwIdeal.nD Cert.ReferenceGwIdeal.τ).loc Cert.ReferenceGwIdeal.main_arg1))

def preserves_KernelDu_KernelDuIdeal : Prop :=
  True

def algebraic_KernelDuIdeal_ReferenceDuIdeal [hKernelDuIdeal : Cert.KernelDuIdeal.Facts] [hReferenceDuIdeal : Cert.ReferenceDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg)
    (m' : (ℓ : Loc Cert.ReferenceDuIdeal.nD Cert.ReferenceDuIdeal.τ Cert.ReferenceDuIdeal.sig) → Buf (Elt Ideal) ℓ) (g' : Dev Cert.ReferenceDuIdeal.nD → PrngReg), Pre_KernelDuIdeal m →
    (∀ c : Dev Cert.KernelDuIdeal.nD,
      m' ((c.tc : Thread Cert.ReferenceDuIdeal.nD Cert.ReferenceDuIdeal.τ).loc Cert.ReferenceDuIdeal.main_arg0) = m ((c.tc : Thread Cert.KernelDuIdeal.nD Cert.KernelDuIdeal.τ).loc Cert.KernelDuIdeal.main_arg0)
      ∧ m' ((c.tc : Thread Cert.ReferenceDuIdeal.nD Cert.ReferenceDuIdeal.τ).loc Cert.ReferenceDuIdeal.main_arg1) = m ((c.tc : Thread Cert.KernelDuIdeal.nD Cert.KernelDuIdeal.τ).loc Cert.KernelDuIdeal.main_arg1)) →
    ∃ (v0 : (c : Dev Cert.KernelDuIdeal.nD) → Buf (Elt Ideal) ((c.tc : Thread Cert.KernelDuIdeal.nD Cert.KernelDuIdeal.τ).loc Cert.KernelDuIdeal.main_v0)),
      θ_run (Cert.KernelDuIdeal.defs (F := Ideal)) (onTc (τ := Cert.KernelDuIdeal.τ) (Cert.KernelDuIdeal.main (F := Ideal))) ⟨m, fun _ => 0, g⟩ (fun r => ∀ c : Dev Cert.KernelDuIdeal.nD,
          r.2.mem ((c.tc : Thread Cert.KernelDuIdeal.nD Cert.KernelDuIdeal.τ).loc Cert.KernelDuIdeal.main_v0) = v0 c
          ∧ r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
          ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1))
      ∧ θ_run (Cert.ReferenceDuIdeal.defs (F := Ideal)) (onTc (τ := Cert.ReferenceDuIdeal.τ) (Cert.ReferenceDuIdeal.main (F := Ideal))) ⟨m', fun _ => 0, g'⟩ (fun r => ∀ c : Dev Cert.ReferenceDuIdeal.nD,
          r.2.mem ((c.tc : Thread Cert.ReferenceDuIdeal.nD Cert.ReferenceDuIdeal.τ).loc Cert.ReferenceDuIdeal.main_v7) = v0 c
          ∧ r.2.mem ((c.tc : Thread Cert.ReferenceDuIdeal.nD Cert.ReferenceDuIdeal.τ).loc Cert.ReferenceDuIdeal.main_arg0) = m' ((c.tc : Thread Cert.ReferenceDuIdeal.nD Cert.ReferenceDuIdeal.τ).loc Cert.ReferenceDuIdeal.main_arg0)
          ∧ r.2.mem ((c.tc : Thread Cert.ReferenceDuIdeal.nD Cert.ReferenceDuIdeal.τ).loc Cert.ReferenceDuIdeal.main_arg1) = m' ((c.tc : Thread Cert.ReferenceDuIdeal.nD Cert.ReferenceDuIdeal.τ).loc Cert.ReferenceDuIdeal.main_arg1))

def preserves_KernelGm_KernelGmIdeal : Prop :=
  True

def algebraic_KernelGmIdeal_ReferenceGmIdeal [hKernelGmIdeal : Cert.KernelGmIdeal.Facts] [hReferenceGmIdeal : Cert.ReferenceGmIdeal.Facts] : Prop :=
  ∀ (m : (ℓ : Loc Cert.KernelGmIdeal.nD Cert.KernelGmIdeal.τ Cert.KernelGmIdeal.sig) → Buf (Elt Ideal) ℓ) (g : Dev Cert.KernelGmIdeal.nD → PrngReg)
    (m' : (ℓ : Loc Cert.ReferenceGmIdeal.nD Cert.ReferenceGmIdeal.τ Cert.ReferenceGmIdeal.sig) → Buf (Elt Ideal) ℓ) (g' : Dev Cert.ReferenceGmIdeal.nD → PrngReg), Pre_KernelGmIdeal m →
    (∀ c : Dev Cert.KernelGmIdeal.nD,
      m' ((c.tc : Thread Cert.ReferenceGmIdeal.nD Cert.ReferenceGmIdeal.τ).loc Cert.ReferenceGmIdeal.main_arg0) = m ((c.tc : Thread Cert.KernelGmIdeal.nD Cert.KernelGmIdeal.τ).loc Cert.KernelGmIdeal.main_arg0)
      ∧ m' ((c.tc : Thread Cert.ReferenceGmIdeal.nD Cert.ReferenceGmIdeal.τ).loc Cert.ReferenceGmIdeal.main_arg1) = m ((c.tc : Thread Cert.KernelGmIdeal.nD Cert.KernelGmIdeal.τ).loc Cert.KernelGmIdeal.main_arg1)) →
    ∃ (v0 : (c : Dev Cert.KernelGmIdeal.nD) → Buf (Elt Ideal) ((c.tc : Thread Cert.KernelGmIdeal.nD Cert.KernelGmIdeal.τ).loc Cert.KernelGmIdeal.main_v0)),
      θ_run (Cert.KernelGmIdeal.defs (F := Ideal)) (onTc (τ := Cert.KernelGmIdeal.τ) (Cert.KernelGmIdeal.main (F := Ideal))) ⟨m, fun _ => 0, g⟩ (fun r => ∀ c : Dev Cert.KernelGmIdeal.nD,
          r.2.mem ((c.tc : Thread Cert.KernelGmIdeal.nD Cert.KernelGmIdeal.τ).loc Cert.KernelGmIdeal.main_v0) = v0 c
          ∧ r.2.mem ((c.tc : Thread Cert.KernelGmIdeal.nD Cert.KernelGmIdeal.τ).loc Cert.KernelGmIdeal.main_arg0) = m ((c.tc : Thread Cert.KernelGmIdeal.nD Cert.KernelGmIdeal.τ).loc Cert.KernelGmIdeal.main_arg0)
          ∧ r.2.mem ((c.tc : Thread Cert.KernelGmIdeal.nD Cert.KernelGmIdeal.τ).loc Cert.KernelGmIdeal.main_arg1) = m ((c.tc : Thread Cert.KernelGmIdeal.nD Cert.KernelGmIdeal.τ).loc Cert.KernelGmIdeal.main_arg1))
      ∧ θ_run (Cert.ReferenceGmIdeal.defs (F := Ideal)) (onTc (τ := Cert.ReferenceGmIdeal.τ) (Cert.ReferenceGmIdeal.main (F := Ideal))) ⟨m', fun _ => 0, g'⟩ (fun r => ∀ c : Dev Cert.ReferenceGmIdeal.nD,
          r.2.mem ((c.tc : Thread Cert.ReferenceGmIdeal.nD Cert.ReferenceGmIdeal.τ).loc Cert.ReferenceGmIdeal.main_v6) = v0 c
          ∧ r.2.mem ((c.tc : Thread Cert.ReferenceGmIdeal.nD Cert.ReferenceGmIdeal.τ).loc Cert.ReferenceGmIdeal.main_arg0) = m' ((c.tc : Thread Cert.ReferenceGmIdeal.nD Cert.ReferenceGmIdeal.τ).loc Cert.ReferenceGmIdeal.main_arg0)
          ∧ r.2.mem ((c.tc : Thread Cert.ReferenceGmIdeal.nD Cert.ReferenceGmIdeal.τ).loc Cert.ReferenceGmIdeal.main_arg1) = m' ((c.tc : Thread Cert.ReferenceGmIdeal.nD Cert.ReferenceGmIdeal.τ).loc Cert.ReferenceGmIdeal.main_arg1))

def preserves_KernelGo_KernelGoIdeal : Prop :=
  True

def algebraic_KernelGoIdeal_ReferenceGoIdeal [hKernelGoIdeal : Cert.KernelGoIdeal.Facts] [hReferenceGoIdeal : Cert.ReferenceGoIdeal.Facts] : Prop :=
  ∀ (m : (ℓ : Loc Cert.KernelGoIdeal.nD Cert.KernelGoIdeal.τ Cert.KernelGoIdeal.sig) → Buf (Elt Ideal) ℓ) (g : Dev Cert.KernelGoIdeal.nD → PrngReg)
    (m' : (ℓ : Loc Cert.ReferenceGoIdeal.nD Cert.ReferenceGoIdeal.τ Cert.ReferenceGoIdeal.sig) → Buf (Elt Ideal) ℓ) (g' : Dev Cert.ReferenceGoIdeal.nD → PrngReg), Pre_KernelGoIdeal m →
    (∀ c : Dev Cert.KernelGoIdeal.nD,
      m' ((c.tc : Thread Cert.ReferenceGoIdeal.nD Cert.ReferenceGoIdeal.τ).loc Cert.ReferenceGoIdeal.main_arg0) = m ((c.tc : Thread Cert.KernelGoIdeal.nD Cert.KernelGoIdeal.τ).loc Cert.KernelGoIdeal.main_arg0)
      ∧ m' ((c.tc : Thread Cert.ReferenceGoIdeal.nD Cert.ReferenceGoIdeal.τ).loc Cert.ReferenceGoIdeal.main_arg1) = m ((c.tc : Thread Cert.KernelGoIdeal.nD Cert.KernelGoIdeal.τ).loc Cert.KernelGoIdeal.main_arg1)) →
    ∃ (v0 : (c : Dev Cert.KernelGoIdeal.nD) → Buf (Elt Ideal) ((c.tc : Thread Cert.KernelGoIdeal.nD Cert.KernelGoIdeal.τ).loc Cert.KernelGoIdeal.main_v0)),
      θ_run (Cert.KernelGoIdeal.defs (F := Ideal)) (onTc (τ := Cert.KernelGoIdeal.τ) (Cert.KernelGoIdeal.main (F := Ideal))) ⟨m, fun _ => 0, g⟩ (fun r => ∀ c : Dev Cert.KernelGoIdeal.nD,
          r.2.mem ((c.tc : Thread Cert.KernelGoIdeal.nD Cert.KernelGoIdeal.τ).loc Cert.KernelGoIdeal.main_v0) = v0 c
          ∧ r.2.mem ((c.tc : Thread Cert.KernelGoIdeal.nD Cert.KernelGoIdeal.τ).loc Cert.KernelGoIdeal.main_arg0) = m ((c.tc : Thread Cert.KernelGoIdeal.nD Cert.KernelGoIdeal.τ).loc Cert.KernelGoIdeal.main_arg0)
          ∧ r.2.mem ((c.tc : Thread Cert.KernelGoIdeal.nD Cert.KernelGoIdeal.τ).loc Cert.KernelGoIdeal.main_arg1) = m ((c.tc : Thread Cert.KernelGoIdeal.nD Cert.KernelGoIdeal.τ).loc Cert.KernelGoIdeal.main_arg1))
      ∧ θ_run (Cert.ReferenceGoIdeal.defs (F := Ideal)) (onTc (τ := Cert.ReferenceGoIdeal.τ) (Cert.ReferenceGoIdeal.main (F := Ideal))) ⟨m', fun _ => 0, g'⟩ (fun r => ∀ c : Dev Cert.ReferenceGoIdeal.nD,
          r.2.mem ((c.tc : Thread Cert.ReferenceGoIdeal.nD Cert.ReferenceGoIdeal.τ).loc Cert.ReferenceGoIdeal.main_v6) = v0 c
          ∧ r.2.mem ((c.tc : Thread Cert.ReferenceGoIdeal.nD Cert.ReferenceGoIdeal.τ).loc Cert.ReferenceGoIdeal.main_arg0) = m' ((c.tc : Thread Cert.ReferenceGoIdeal.nD Cert.ReferenceGoIdeal.τ).loc Cert.ReferenceGoIdeal.main_arg0)
          ∧ r.2.mem ((c.tc : Thread Cert.ReferenceGoIdeal.nD Cert.ReferenceGoIdeal.τ).loc Cert.ReferenceGoIdeal.main_arg1) = m' ((c.tc : Thread Cert.ReferenceGoIdeal.nD Cert.ReferenceGoIdeal.τ).loc Cert.ReferenceGoIdeal.main_arg1))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v0)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v6) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)) →
    ∃ (v0 : (c : Dev Cert.KernelGatesIdeal.nD) → Buf (Elt Ideal) ((c.tc : Thread Cert.KernelGatesIdeal.nD Cert.KernelGatesIdeal.τ).loc Cert.KernelGatesIdeal.main_v0)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v0) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v5) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2))

def preserves_KernelNorm_KernelNormIdeal : Prop :=
  True

def algebraic_KernelNormIdeal_ReferenceNormIdeal_on_shifts [hKernelNormIdeal : Cert.KernelNormIdeal.Facts] [hReferenceNormIdeal : Cert.ReferenceNormIdeal.Facts] [hOn_shifts : Cert.On_shifts.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)
      ∧ m' ((c.tc : Thread Cert.ReferenceNormIdeal.nD Cert.ReferenceNormIdeal.τ).loc Cert.ReferenceNormIdeal.main_arg4) = m ((c.tc : Thread Cert.KernelNormIdeal.nD Cert.KernelNormIdeal.τ).loc Cert.KernelNormIdeal.main_arg4)) →
    ∃ (v0 : (c : Dev Cert.KernelNormIdeal.nD) → Buf (Elt Ideal) ((c.tc : Thread Cert.KernelNormIdeal.nD Cert.KernelNormIdeal.τ).loc Cert.KernelNormIdeal.main_v0_0)) (v1 : (c : Dev Cert.KernelNormIdeal.nD) → Buf (Elt Ideal) ((c.tc : Thread Cert.KernelNormIdeal.nD Cert.KernelNormIdeal.τ).loc Cert.KernelNormIdeal.main_v0_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          (∀ i : (⟨2, ![8192, 1024]⟩ : Shape).Idx, (Cert.On_shifts.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3)) (m ((c.tc : Thread Cert.KernelNormIdeal.nD Cert.KernelNormIdeal.τ).loc Cert.KernelNormIdeal.main_arg4))).1 i = 1#1 → r.2.mem ((c.tc : Thread Cert.KernelNormIdeal.nD Cert.KernelNormIdeal.τ).loc Cert.KernelNormIdeal.main_v0_0) i = v0 c i)
          ∧ (∀ i : (⟨2, ![8, 1024]⟩ : Shape).Idx, (Cert.On_shifts.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3)) (m ((c.tc : Thread Cert.KernelNormIdeal.nD Cert.KernelNormIdeal.τ).loc Cert.KernelNormIdeal.main_arg4))).2 i = 1#1 → r.2.mem ((c.tc : Thread Cert.KernelNormIdeal.nD Cert.KernelNormIdeal.τ).loc Cert.KernelNormIdeal.main_v0_1) i = v1 c i)
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
          ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          (∀ i : (⟨2, ![8192, 1024]⟩ : Shape).Idx, (Cert.On_shifts.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3)) (m ((c.tc : Thread Cert.KernelNormIdeal.nD Cert.KernelNormIdeal.τ).loc Cert.KernelNormIdeal.main_arg4))).1 i = 1#1 → r.2.mem ((c.tc : Thread Cert.ReferenceNormIdeal.nD Cert.ReferenceNormIdeal.τ).loc Cert.ReferenceNormIdeal.main_v49) i = v0 c i)
          ∧ (∀ i : (⟨2, ![8, 1024]⟩ : Shape).Idx, (Cert.On_shifts.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3)) (m ((c.tc : Thread Cert.KernelNormIdeal.nD Cert.KernelNormIdeal.τ).loc Cert.KernelNormIdeal.main_arg4))).2 i = 1#1 → r.2.mem ((c.tc : Thread Cert.ReferenceNormIdeal.nD Cert.ReferenceNormIdeal.τ).loc Cert.ReferenceNormIdeal.main_v51) i = v1 c i)
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3)
          ∧ r.2.mem ((c.tc : Thread Cert.ReferenceNormIdeal.nD Cert.ReferenceNormIdeal.τ).loc Cert.ReferenceNormIdeal.main_arg4) = m' ((c.tc : Thread Cert.ReferenceNormIdeal.nD Cert.ReferenceNormIdeal.τ).loc Cert.ReferenceNormIdeal.main_arg4))

def algebraic_KernelNormIdeal_ReferenceNormIdeal_pre_numbers [hKernelNormIdeal : Cert.KernelNormIdeal.Facts] [hReferenceNormIdeal : Cert.ReferenceNormIdeal.Facts] [hPre_numbers : Cert.Pre_numbers.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal_numbers m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)
      ∧ m' ((c.tc : Thread Cert.ReferenceNormIdeal.nD Cert.ReferenceNormIdeal.τ).loc Cert.ReferenceNormIdeal.main_arg4) = m ((c.tc : Thread Cert.KernelNormIdeal.nD Cert.KernelNormIdeal.τ).loc Cert.KernelNormIdeal.main_arg4)) →
    ∃ (v0 : (c : Dev Cert.KernelNormIdeal.nD) → Buf (Elt Ideal) ((c.tc : Thread Cert.KernelNormIdeal.nD Cert.KernelNormIdeal.τ).loc Cert.KernelNormIdeal.main_v0_0)) (v1 : (c : Dev Cert.KernelNormIdeal.nD) → Buf (Elt Ideal) ((c.tc : Thread Cert.KernelNormIdeal.nD Cert.KernelNormIdeal.τ).loc Cert.KernelNormIdeal.main_v0_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v0_0) = v0 c
          ∧ r.2.mem ((c.tc : Thread Cert.KernelNormIdeal.nD Cert.KernelNormIdeal.τ).loc Cert.KernelNormIdeal.main_v0_1) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
          ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v49) = v0 c
          ∧ r.2.mem ((c.tc : Thread Cert.ReferenceNormIdeal.nD Cert.ReferenceNormIdeal.τ).loc Cert.ReferenceNormIdeal.main_v51) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3)
          ∧ r.2.mem ((c.tc : Thread Cert.ReferenceNormIdeal.nD Cert.ReferenceNormIdeal.τ).loc Cert.ReferenceNormIdeal.main_arg4) = m' ((c.tc : Thread Cert.ReferenceNormIdeal.nD Cert.ReferenceNormIdeal.τ).loc Cert.ReferenceNormIdeal.main_arg4))

def preserves_KernelSsd_KernelSsdIdeal : Prop :=
  True

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v7_0)) (v1 : (c : Dev Cert.KernelAdamInIdeal.nD) → Buf (Elt Ideal) ((c.tc : Thread Cert.KernelAdamInIdeal.nD Cert.KernelAdamInIdeal.τ).loc Cert.KernelAdamInIdeal.main_v7_1)) (v2 : (c : Dev Cert.KernelAdamInIdeal.nD) → Buf (Elt Ideal) ((c.tc : Thread Cert.KernelAdamInIdeal.nD Cert.KernelAdamInIdeal.τ).loc Cert.KernelAdamInIdeal.main_v7_2)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v7_0) = v0 c
          ∧ r.2.mem ((c.tc : Thread Cert.KernelAdamInIdeal.nD Cert.KernelAdamInIdeal.τ).loc Cert.KernelAdamInIdeal.main_v7_1) = v1 c
          ∧ r.2.mem ((c.tc : Thread Cert.KernelAdamInIdeal.nD Cert.KernelAdamInIdeal.τ).loc Cert.KernelAdamInIdeal.main_v7_2) = v2 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v26) = v0 c
          ∧ r.2.mem ((c.tc : Thread Cert.ReferenceAdamInIdeal.nD Cert.ReferenceAdamInIdeal.τ).loc Cert.ReferenceAdamInIdeal.main_v28) = v1 c
          ∧ r.2.mem ((c.tc : Thread Cert.ReferenceAdamInIdeal.nD Cert.ReferenceAdamInIdeal.τ).loc Cert.ReferenceAdamInIdeal.main_v30) = v2 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamAda_KernelAdamAdaIdeal : Prop :=
  True

def algebraic_KernelAdamAdaIdeal_ReferenceAdamAdaIdeal [hKernelAdamAdaIdeal : Cert.KernelAdamAdaIdeal.Facts] [hReferenceAdamAdaIdeal : Cert.ReferenceAdamAdaIdeal.Facts] : Prop :=
  ∀ (m : (ℓ : Loc Cert.KernelAdamAdaIdeal.nD Cert.KernelAdamAdaIdeal.τ Cert.KernelAdamAdaIdeal.sig) → Buf (Elt Ideal) ℓ) (g : Dev Cert.KernelAdamAdaIdeal.nD → PrngReg)
    (m' : (ℓ : Loc Cert.ReferenceAdamAdaIdeal.nD Cert.ReferenceAdamAdaIdeal.τ Cert.ReferenceAdamAdaIdeal.sig) → Buf (Elt Ideal) ℓ) (g' : Dev Cert.ReferenceAdamAdaIdeal.nD → PrngReg), Pre_KernelAdamAdaIdeal m →
    (∀ c : Dev Cert.KernelAdamAdaIdeal.nD,
      m' ((c.tc : Thread Cert.ReferenceAdamAdaIdeal.nD Cert.ReferenceAdamAdaIdeal.τ).loc Cert.ReferenceAdamAdaIdeal.main_arg0) = m ((c.tc : Thread Cert.KernelAdamAdaIdeal.nD Cert.KernelAdamAdaIdeal.τ).loc Cert.KernelAdamAdaIdeal.main_arg0)
      ∧ m' ((c.tc : Thread Cert.ReferenceAdamAdaIdeal.nD Cert.ReferenceAdamAdaIdeal.τ).loc Cert.ReferenceAdamAdaIdeal.main_arg1) = m ((c.tc : Thread Cert.KernelAdamAdaIdeal.nD Cert.KernelAdamAdaIdeal.τ).loc Cert.KernelAdamAdaIdeal.main_arg1)
      ∧ m' ((c.tc : Thread Cert.ReferenceAdamAdaIdeal.nD Cert.ReferenceAdamAdaIdeal.τ).loc Cert.ReferenceAdamAdaIdeal.main_arg2) = m ((c.tc : Thread Cert.KernelAdamAdaIdeal.nD Cert.KernelAdamAdaIdeal.τ).loc Cert.KernelAdamAdaIdeal.main_arg2)
      ∧ m' ((c.tc : Thread Cert.ReferenceAdamAdaIdeal.nD Cert.ReferenceAdamAdaIdeal.τ).loc Cert.ReferenceAdamAdaIdeal.main_arg3) = m ((c.tc : Thread Cert.KernelAdamAdaIdeal.nD Cert.KernelAdamAdaIdeal.τ).loc Cert.KernelAdamAdaIdeal.main_arg3)) →
    ∃ (v0 : (c : Dev Cert.KernelAdamAdaIdeal.nD) → Buf (Elt Ideal) ((c.tc : Thread Cert.KernelAdamAdaIdeal.nD Cert.KernelAdamAdaIdeal.τ).loc Cert.KernelAdamAdaIdeal.main_v1_0)) (v1 : (c : Dev Cert.KernelAdamAdaIdeal.nD) → Buf (Elt Ideal) ((c.tc : Thread Cert.KernelAdamAdaIdeal.nD Cert.KernelAdamAdaIdeal.τ).loc Cert.KernelAdamAdaIdeal.main_v1_1)) (v2 : (c : Dev Cert.KernelAdamAdaIdeal.nD) → Buf (Elt Ideal) ((c.tc : Thread Cert.KernelAdamAdaIdeal.nD Cert.KernelAdamAdaIdeal.τ).loc Cert.KernelAdamAdaIdeal.main_v1_2)),
      θ_run (Cert.KernelAdamAdaIdeal.defs (F := Ideal)) (onTc (τ := Cert.KernelAdamAdaIdeal.τ) (Cert.KernelAdamAdaIdeal.main (F := Ideal))) ⟨m, fun _ => 0, g⟩ (fun r => ∀ c : Dev Cert.KernelAdamAdaIdeal.nD,
          r.2.mem ((c.tc : Thread Cert.KernelAdamAdaIdeal.nD Cert.KernelAdamAdaIdeal.τ).loc Cert.KernelAdamAdaIdeal.main_v1_0) = v0 c
          ∧ r.2.mem ((c.tc : Thread Cert.KernelAdamAdaIdeal.nD Cert.KernelAdamAdaIdeal.τ).loc Cert.KernelAdamAdaIdeal.main_v1_1) = v1 c
          ∧ r.2.mem ((c.tc : Thread Cert.KernelAdamAdaIdeal.nD Cert.KernelAdamAdaIdeal.τ).loc Cert.KernelAdamAdaIdeal.main_v1_2) = v2 c
          ∧ r.2.mem ((c.tc : Thread Cert.KernelAdamAdaIdeal.nD Cert.KernelAdamAdaIdeal.τ).loc Cert.KernelAdamAdaIdeal.main_arg0) = m ((c.tc : Thread Cert.KernelAdamAdaIdeal.nD Cert.KernelAdamAdaIdeal.τ).loc Cert.KernelAdamAdaIdeal.main_arg0)
          ∧ r.2.mem ((c.tc : Thread Cert.KernelAdamAdaIdeal.nD Cert.KernelAdamAdaIdeal.τ).loc Cert.KernelAdamAdaIdeal.main_arg1) = m ((c.tc : Thread Cert.KernelAdamAdaIdeal.nD Cert.KernelAdamAdaIdeal.τ).loc Cert.KernelAdamAdaIdeal.main_arg1)
          ∧ r.2.mem ((c.tc : Thread Cert.KernelAdamAdaIdeal.nD Cert.KernelAdamAdaIdeal.τ).loc Cert.KernelAdamAdaIdeal.main_arg2) = m ((c.tc : Thread Cert.KernelAdamAdaIdeal.nD Cert.KernelAdamAdaIdeal.τ).loc Cert.KernelAdamAdaIdeal.main_arg2)
          ∧ r.2.mem ((c.tc : Thread Cert.KernelAdamAdaIdeal.nD Cert.KernelAdamAdaIdeal.τ).loc Cert.KernelAdamAdaIdeal.main_arg3) = m ((c.tc : Thread Cert.KernelAdamAdaIdeal.nD Cert.KernelAdamAdaIdeal.τ).loc Cert.KernelAdamAdaIdeal.main_arg3))
      ∧ θ_run (Cert.ReferenceAdamAdaIdeal.defs (F := Ideal)) (onTc (τ := Cert.ReferenceAdamAdaIdeal.τ) (Cert.ReferenceAdamAdaIdeal.main (F := Ideal))) ⟨m', fun _ => 0, g'⟩ (fun r => ∀ c : Dev Cert.ReferenceAdamAdaIdeal.nD,
          r.2.mem ((c.tc : Thread Cert.ReferenceAdamAdaIdeal.nD Cert.ReferenceAdamAdaIdeal.τ).loc Cert.ReferenceAdamAdaIdeal.main_v24) = v0 c
          ∧ r.2.mem ((c.tc : Thread Cert.ReferenceAdamAdaIdeal.nD Cert.ReferenceAdamAdaIdeal.τ).loc Cert.ReferenceAdamAdaIdeal.main_v5) = v1 c
          ∧ r.2.mem ((c.tc : Thread Cert.ReferenceAdamAdaIdeal.nD Cert.ReferenceAdamAdaIdeal.τ).loc Cert.ReferenceAdamAdaIdeal.main_v11) = v2 c
          ∧ r.2.mem ((c.tc : Thread Cert.ReferenceAdamAdaIdeal.nD Cert.ReferenceAdamAdaIdeal.τ).loc Cert.ReferenceAdamAdaIdeal.main_arg0) = m' ((c.tc : Thread Cert.ReferenceAdamAdaIdeal.nD Cert.ReferenceAdamAdaIdeal.τ).loc Cert.ReferenceAdamAdaIdeal.main_arg0)
          ∧ r.2.mem ((c.tc : Thread Cert.ReferenceAdamAdaIdeal.nD Cert.ReferenceAdamAdaIdeal.τ).loc Cert.ReferenceAdamAdaIdeal.main_arg1) = m' ((c.tc : Thread Cert.ReferenceAdamAdaIdeal.nD Cert.ReferenceAdamAdaIdeal.τ).loc Cert.ReferenceAdamAdaIdeal.main_arg1)
          ∧ r.2.mem ((c.tc : Thread Cert.ReferenceAdamAdaIdeal.nD Cert.ReferenceAdamAdaIdeal.τ).loc Cert.ReferenceAdamAdaIdeal.main_arg2) = m' ((c.tc : Thread Cert.ReferenceAdamAdaIdeal.nD Cert.ReferenceAdamAdaIdeal.τ).loc Cert.ReferenceAdamAdaIdeal.main_arg2)
          ∧ r.2.mem ((c.tc : Thread Cert.ReferenceAdamAdaIdeal.nD Cert.ReferenceAdamAdaIdeal.τ).loc Cert.ReferenceAdamAdaIdeal.main_arg3) = m' ((c.tc : Thread Cert.ReferenceAdamAdaIdeal.nD Cert.ReferenceAdamAdaIdeal.τ).loc Cert.ReferenceAdamAdaIdeal.main_arg3))

def preserves_KernelAdamProj_KernelAdamProjIdeal : Prop :=
  True

def algebraic_KernelAdamProjIdeal_ReferenceAdamProjIdeal [hKernelAdamProjIdeal : Cert.KernelAdamProjIdeal.Facts] [hReferenceAdamProjIdeal : Cert.ReferenceAdamProjIdeal.Facts] : Prop :=
  ∀ (m : (ℓ : Loc Cert.KernelAdamProjIdeal.nD Cert.KernelAdamProjIdeal.τ Cert.KernelAdamProjIdeal.sig) → Buf (Elt Ideal) ℓ) (g : Dev Cert.KernelAdamProjIdeal.nD → PrngReg)
    (m' : (ℓ : Loc Cert.ReferenceAdamProjIdeal.nD Cert.ReferenceAdamProjIdeal.τ Cert.ReferenceAdamProjIdeal.sig) → Buf (Elt Ideal) ℓ) (g' : Dev Cert.ReferenceAdamProjIdeal.nD → PrngReg), Pre_KernelAdamProjIdeal m →
    (∀ c : Dev Cert.KernelAdamProjIdeal.nD,
      m' ((c.tc : Thread Cert.ReferenceAdamProjIdeal.nD Cert.ReferenceAdamProjIdeal.τ).loc Cert.ReferenceAdamProjIdeal.main_arg0) = m ((c.tc : Thread Cert.KernelAdamProjIdeal.nD Cert.KernelAdamProjIdeal.τ).loc Cert.KernelAdamProjIdeal.main_arg0)
      ∧ m' ((c.tc : Thread Cert.ReferenceAdamProjIdeal.nD Cert.ReferenceAdamProjIdeal.τ).loc Cert.ReferenceAdamProjIdeal.main_arg1) = m ((c.tc : Thread Cert.KernelAdamProjIdeal.nD Cert.KernelAdamProjIdeal.τ).loc Cert.KernelAdamProjIdeal.main_arg1)
      ∧ m' ((c.tc : Thread Cert.ReferenceAdamProjIdeal.nD Cert.ReferenceAdamProjIdeal.τ).loc Cert.ReferenceAdamProjIdeal.main_arg2) = m ((c.tc : Thread Cert.KernelAdamProjIdeal.nD Cert.KernelAdamProjIdeal.τ).loc Cert.KernelAdamProjIdeal.main_arg2)
      ∧ m' ((c.tc : Thread Cert.ReferenceAdamProjIdeal.nD Cert.ReferenceAdamProjIdeal.τ).loc Cert.ReferenceAdamProjIdeal.main_arg3) = m ((c.tc : Thread Cert.KernelAdamProjIdeal.nD Cert.KernelAdamProjIdeal.τ).loc Cert.KernelAdamProjIdeal.main_arg3)) →
    ∃ (v0 : (c : Dev Cert.KernelAdamProjIdeal.nD) → Buf (Elt Ideal) ((c.tc : Thread Cert.KernelAdamProjIdeal.nD Cert.KernelAdamProjIdeal.τ).loc Cert.KernelAdamProjIdeal.main_v1_0)) (v1 : (c : Dev Cert.KernelAdamProjIdeal.nD) → Buf (Elt Ideal) ((c.tc : Thread Cert.KernelAdamProjIdeal.nD Cert.KernelAdamProjIdeal.τ).loc Cert.KernelAdamProjIdeal.main_v1_1)) (v2 : (c : Dev Cert.KernelAdamProjIdeal.nD) → Buf (Elt Ideal) ((c.tc : Thread Cert.KernelAdamProjIdeal.nD Cert.KernelAdamProjIdeal.τ).loc Cert.KernelAdamProjIdeal.main_v1_2)),
      θ_run (Cert.KernelAdamProjIdeal.defs (F := Ideal)) (onTc (τ := Cert.KernelAdamProjIdeal.τ) (Cert.KernelAdamProjIdeal.main (F := Ideal))) ⟨m, fun _ => 0, g⟩ (fun r => ∀ c : Dev Cert.KernelAdamProjIdeal.nD,
          r.2.mem ((c.tc : Thread Cert.KernelAdamProjIdeal.nD Cert.KernelAdamProjIdeal.τ).loc Cert.KernelAdamProjIdeal.main_v1_0) = v0 c
          ∧ r.2.mem ((c.tc : Thread Cert.KernelAdamProjIdeal.nD Cert.KernelAdamProjIdeal.τ).loc Cert.KernelAdamProjIdeal.main_v1_1) = v1 c
          ∧ r.2.mem ((c.tc : Thread Cert.KernelAdamProjIdeal.nD Cert.KernelAdamProjIdeal.τ).loc Cert.KernelAdamProjIdeal.main_v1_2) = v2 c
          ∧ r.2.mem ((c.tc : Thread Cert.KernelAdamProjIdeal.nD Cert.KernelAdamProjIdeal.τ).loc Cert.KernelAdamProjIdeal.main_arg0) = m ((c.tc : Thread Cert.KernelAdamProjIdeal.nD Cert.KernelAdamProjIdeal.τ).loc Cert.KernelAdamProjIdeal.main_arg0)
          ∧ r.2.mem ((c.tc : Thread Cert.KernelAdamProjIdeal.nD Cert.KernelAdamProjIdeal.τ).loc Cert.KernelAdamProjIdeal.main_arg1) = m ((c.tc : Thread Cert.KernelAdamProjIdeal.nD Cert.KernelAdamProjIdeal.τ).loc Cert.KernelAdamProjIdeal.main_arg1)
          ∧ r.2.mem ((c.tc : Thread Cert.KernelAdamProjIdeal.nD Cert.KernelAdamProjIdeal.τ).loc Cert.KernelAdamProjIdeal.main_arg2) = m ((c.tc : Thread Cert.KernelAdamProjIdeal.nD Cert.KernelAdamProjIdeal.τ).loc Cert.KernelAdamProjIdeal.main_arg2)
          ∧ r.2.mem ((c.tc : Thread Cert.KernelAdamProjIdeal.nD Cert.KernelAdamProjIdeal.τ).loc Cert.KernelAdamProjIdeal.main_arg3) = m ((c.tc : Thread Cert.KernelAdamProjIdeal.nD Cert.KernelAdamProjIdeal.τ).loc Cert.KernelAdamProjIdeal.main_arg3))
      ∧ θ_run (Cert.ReferenceAdamProjIdeal.defs (F := Ideal)) (onTc (τ := Cert.ReferenceAdamProjIdeal.τ) (Cert.ReferenceAdamProjIdeal.main (F := Ideal))) ⟨m', fun _ => 0, g'⟩ (fun r => ∀ c : Dev Cert.ReferenceAdamProjIdeal.nD,
          r.2.mem ((c.tc : Thread Cert.ReferenceAdamProjIdeal.nD Cert.ReferenceAdamProjIdeal.τ).loc Cert.ReferenceAdamProjIdeal.main_v24) = v0 c
          ∧ r.2.mem ((c.tc : Thread Cert.ReferenceAdamProjIdeal.nD Cert.ReferenceAdamProjIdeal.τ).loc Cert.ReferenceAdamProjIdeal.main_v5) = v1 c
          ∧ r.2.mem ((c.tc : Thread Cert.ReferenceAdamProjIdeal.nD Cert.ReferenceAdamProjIdeal.τ).loc Cert.ReferenceAdamProjIdeal.main_v11) = v2 c
          ∧ r.2.mem ((c.tc : Thread Cert.ReferenceAdamProjIdeal.nD Cert.ReferenceAdamProjIdeal.τ).loc Cert.ReferenceAdamProjIdeal.main_arg0) = m' ((c.tc : Thread Cert.ReferenceAdamProjIdeal.nD Cert.ReferenceAdamProjIdeal.τ).loc Cert.ReferenceAdamProjIdeal.main_arg0)
          ∧ r.2.mem ((c.tc : Thread Cert.ReferenceAdamProjIdeal.nD Cert.ReferenceAdamProjIdeal.τ).loc Cert.ReferenceAdamProjIdeal.main_arg1) = m' ((c.tc : Thread Cert.ReferenceAdamProjIdeal.nD Cert.ReferenceAdamProjIdeal.τ).loc Cert.ReferenceAdamProjIdeal.main_arg1)
          ∧ r.2.mem ((c.tc : Thread Cert.ReferenceAdamProjIdeal.nD Cert.ReferenceAdamProjIdeal.τ).loc Cert.ReferenceAdamProjIdeal.main_arg2) = m' ((c.tc : Thread Cert.ReferenceAdamProjIdeal.nD Cert.ReferenceAdamProjIdeal.τ).loc Cert.ReferenceAdamProjIdeal.main_arg2)
          ∧ r.2.mem ((c.tc : Thread Cert.ReferenceAdamProjIdeal.nD Cert.ReferenceAdamProjIdeal.τ).loc Cert.ReferenceAdamProjIdeal.main_arg3) = m' ((c.tc : Thread Cert.ReferenceAdamProjIdeal.nD Cert.ReferenceAdamProjIdeal.τ).loc Cert.ReferenceAdamProjIdeal.main_arg3))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v1_0)) (v1 : (c : Dev Cert.KernelAdamOutIdeal.nD) → Buf (Elt Ideal) ((c.tc : Thread Cert.KernelAdamOutIdeal.nD Cert.KernelAdamOutIdeal.τ).loc Cert.KernelAdamOutIdeal.main_v1_1)) (v2 : (c : Dev Cert.KernelAdamOutIdeal.nD) → Buf (Elt Ideal) ((c.tc : Thread Cert.KernelAdamOutIdeal.nD Cert.KernelAdamOutIdeal.τ).loc Cert.KernelAdamOutIdeal.main_v1_2)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v1_0) = v0 c
          ∧ r.2.mem ((c.tc : Thread Cert.KernelAdamOutIdeal.nD Cert.KernelAdamOutIdeal.τ).loc Cert.KernelAdamOutIdeal.main_v1_1) = v1 c
          ∧ r.2.mem ((c.tc : Thread Cert.KernelAdamOutIdeal.nD Cert.KernelAdamOutIdeal.τ).loc Cert.KernelAdamOutIdeal.main_v1_2) = v2 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v24) = v0 c
          ∧ r.2.mem ((c.tc : Thread Cert.ReferenceAdamOutIdeal.nD Cert.ReferenceAdamOutIdeal.τ).loc Cert.ReferenceAdamOutIdeal.main_v5) = v1 c
          ∧ r.2.mem ((c.tc : Thread Cert.ReferenceAdamOutIdeal.nD Cert.ReferenceAdamOutIdeal.τ).loc Cert.ReferenceAdamOutIdeal.main_v11) = v2 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def preserves_KernelPre_KernelPreIdeal : Prop :=
  True

def algebraic_KernelPreIdeal_ReferencePreIdeal [hKernelPreIdeal : Cert.KernelPreIdeal.Facts] [hReferencePreIdeal : Cert.ReferencePreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg)
    (m' : (ℓ : Loc Cert.ReferencePreIdeal.nD Cert.ReferencePreIdeal.τ Cert.ReferencePreIdeal.sig) → Buf (Elt Ideal) ℓ) (g' : Dev Cert.ReferencePreIdeal.nD → PrngReg), Pre_KernelPreIdeal m →
    (∀ c : Dev Cert.KernelPreIdeal.nD,
      m' ((c.tc : Thread Cert.ReferencePreIdeal.nD Cert.ReferencePreIdeal.τ).loc Cert.ReferencePreIdeal.main_arg0) = m ((c.tc : Thread Cert.KernelPreIdeal.nD Cert.KernelPreIdeal.τ).loc Cert.KernelPreIdeal.main_arg0)
      ∧ m' ((c.tc : Thread Cert.ReferencePreIdeal.nD Cert.ReferencePreIdeal.τ).loc Cert.ReferencePreIdeal.main_arg1) = m ((c.tc : Thread Cert.KernelPreIdeal.nD Cert.KernelPreIdeal.τ).loc Cert.KernelPreIdeal.main_arg1)
      ∧ m' ((c.tc : Thread Cert.ReferencePreIdeal.nD Cert.ReferencePreIdeal.τ).loc Cert.ReferencePreIdeal.main_arg2) = m ((c.tc : Thread Cert.KernelPreIdeal.nD Cert.KernelPreIdeal.τ).loc Cert.KernelPreIdeal.main_arg2)
      ∧ m' ((c.tc : Thread Cert.ReferencePreIdeal.nD Cert.ReferencePreIdeal.τ).loc Cert.ReferencePreIdeal.main_arg3) = m ((c.tc : Thread Cert.KernelPreIdeal.nD Cert.KernelPreIdeal.τ).loc Cert.KernelPreIdeal.main_arg3)) →
    ∃ (v0 : (c : Dev Cert.KernelPreIdeal.nD) → Buf (Elt Ideal) ((c.tc : Thread Cert.KernelPreIdeal.nD Cert.KernelPreIdeal.τ).loc Cert.KernelPreIdeal.main_v0_0)) (v1 : (c : Dev Cert.KernelPreIdeal.nD) → Buf (Elt Ideal) ((c.tc : Thread Cert.KernelPreIdeal.nD Cert.KernelPreIdeal.τ).loc Cert.KernelPreIdeal.main_v0_1)),
      θ_run (Cert.KernelPreIdeal.defs (F := Ideal)) (onTc (τ := Cert.KernelPreIdeal.τ) (Cert.KernelPreIdeal.main (F := Ideal))) ⟨m, fun _ => 0, g⟩ (fun r => ∀ c : Dev Cert.KernelPreIdeal.nD,
          r.2.mem ((c.tc : Thread Cert.KernelPreIdeal.nD Cert.KernelPreIdeal.τ).loc Cert.KernelPreIdeal.main_v0_0) = v0 c
          ∧ r.2.mem ((c.tc : Thread Cert.KernelPreIdeal.nD Cert.KernelPreIdeal.τ).loc Cert.KernelPreIdeal.main_v0_1) = v1 c
          ∧ r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
          ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
          ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
          ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3))
      ∧ θ_run (Cert.ReferencePreIdeal.defs (F := Ideal)) (onTc (τ := Cert.ReferencePreIdeal.τ) (Cert.ReferencePreIdeal.main (F := Ideal))) ⟨m', fun _ => 0, g'⟩ (fun r => ∀ c : Dev Cert.ReferencePreIdeal.nD,
          r.2.mem ((c.tc : Thread Cert.ReferencePreIdeal.nD Cert.ReferencePreIdeal.τ).loc Cert.ReferencePreIdeal.main_v18) = v0 c
          ∧ r.2.mem ((c.tc : Thread Cert.ReferencePreIdeal.nD Cert.ReferencePreIdeal.τ).loc Cert.ReferencePreIdeal.main_v19) = v1 c
          ∧ r.2.mem ((c.tc : Thread Cert.ReferencePreIdeal.nD Cert.ReferencePreIdeal.τ).loc Cert.ReferencePreIdeal.main_arg0) = m' ((c.tc : Thread Cert.ReferencePreIdeal.nD Cert.ReferencePreIdeal.τ).loc Cert.ReferencePreIdeal.main_arg0)
          ∧ r.2.mem ((c.tc : Thread Cert.ReferencePreIdeal.nD Cert.ReferencePreIdeal.τ).loc Cert.ReferencePreIdeal.main_arg1) = m' ((c.tc : Thread Cert.ReferencePreIdeal.nD Cert.ReferencePreIdeal.τ).loc Cert.ReferencePreIdeal.main_arg1)
          ∧ r.2.mem ((c.tc : Thread Cert.ReferencePreIdeal.nD Cert.ReferencePreIdeal.τ).loc Cert.ReferencePreIdeal.main_arg2) = m' ((c.tc : Thread Cert.ReferencePreIdeal.nD Cert.ReferencePreIdeal.τ).loc Cert.ReferencePreIdeal.main_arg2)
          ∧ r.2.mem ((c.tc : Thread Cert.ReferencePreIdeal.nD Cert.ReferencePreIdeal.τ).loc Cert.ReferencePreIdeal.main_arg3) = m' ((c.tc : Thread Cert.ReferencePreIdeal.nD Cert.ReferencePreIdeal.τ).loc Cert.ReferencePreIdeal.main_arg3))

def preserves_KernelAdamRest_KernelAdamRestIdeal : Prop :=
  True

def algebraic_KernelAdamRestIdeal_ReferenceAdamRestIdeal [hKernelAdamRestIdeal : Cert.KernelAdamRestIdeal.Facts] [hReferenceAdamRestIdeal : Cert.ReferenceAdamRestIdeal.Facts] : Prop :=
  ∀ (m : (ℓ : Loc Cert.KernelAdamRestIdeal.nD Cert.KernelAdamRestIdeal.τ Cert.KernelAdamRestIdeal.sig) → Buf (Elt Ideal) ℓ) (g : Dev Cert.KernelAdamRestIdeal.nD → PrngReg)
    (m' : (ℓ : Loc Cert.ReferenceAdamRestIdeal.nD Cert.ReferenceAdamRestIdeal.τ Cert.ReferenceAdamRestIdeal.sig) → Buf (Elt Ideal) ℓ) (g' : Dev Cert.ReferenceAdamRestIdeal.nD → PrngReg), Pre_KernelAdamRestIdeal m →
    (∀ c : Dev Cert.KernelAdamRestIdeal.nD,
      m' ((c.tc : Thread Cert.ReferenceAdamRestIdeal.nD Cert.ReferenceAdamRestIdeal.τ).loc Cert.ReferenceAdamRestIdeal.main_arg0) = m ((c.tc : Thread Cert.KernelAdamRestIdeal.nD Cert.KernelAdamRestIdeal.τ).loc Cert.KernelAdamRestIdeal.main_arg0)
      ∧ m' ((c.tc : Thread Cert.ReferenceAdamRestIdeal.nD Cert.ReferenceAdamRestIdeal.τ).loc Cert.ReferenceAdamRestIdeal.main_arg1) = m ((c.tc : Thread Cert.KernelAdamRestIdeal.nD Cert.KernelAdamRestIdeal.τ).loc Cert.KernelAdamRestIdeal.main_arg1)
      ∧ m' ((c.tc : Thread Cert.ReferenceAdamRestIdeal.nD Cert.ReferenceAdamRestIdeal.τ).loc Cert.ReferenceAdamRestIdeal.main_arg2) = m ((c.tc : Thread Cert.KernelAdamRestIdeal.nD Cert.KernelAdamRestIdeal.τ).loc Cert.KernelAdamRestIdeal.main_arg2)
      ∧ m' ((c.tc : Thread Cert.ReferenceAdamRestIdeal.nD Cert.ReferenceAdamRestIdeal.τ).loc Cert.ReferenceAdamRestIdeal.main_arg3) = m ((c.tc : Thread Cert.KernelAdamRestIdeal.nD Cert.KernelAdamRestIdeal.τ).loc Cert.KernelAdamRestIdeal.main_arg3)
      ∧ m' ((c.tc : Thread Cert.ReferenceAdamRestIdeal.nD Cert.ReferenceAdamRestIdeal.τ).loc Cert.ReferenceAdamRestIdeal.main_arg4) = m ((c.tc : Thread Cert.KernelAdamRestIdeal.nD Cert.KernelAdamRestIdeal.τ).loc Cert.KernelAdamRestIdeal.main_arg4)
      ∧ m' ((c.tc : Thread Cert.ReferenceAdamRestIdeal.nD Cert.ReferenceAdamRestIdeal.τ).loc Cert.ReferenceAdamRestIdeal.main_arg5) = m ((c.tc : Thread Cert.KernelAdamRestIdeal.nD Cert.KernelAdamRestIdeal.τ).loc Cert.KernelAdamRestIdeal.main_arg5)
      ∧ m' ((c.tc : Thread Cert.ReferenceAdamRestIdeal.nD Cert.ReferenceAdamRestIdeal.τ).loc Cert.ReferenceAdamRestIdeal.main_arg6) = m ((c.tc : Thread Cert.KernelAdamRestIdeal.nD Cert.KernelAdamRestIdeal.τ).loc Cert.KernelAdamRestIdeal.main_arg6)
      ∧ m' ((c.tc : Thread Cert.ReferenceAdamRestIdeal.nD Cert.ReferenceAdamRestIdeal.τ).loc Cert.ReferenceAdamRestIdeal.main_arg7) = m ((c.tc : Thread Cert.KernelAdamRestIdeal.nD Cert.KernelAdamRestIdeal.τ).loc Cert.KernelAdamRestIdeal.main_arg7)
      ∧ m' ((c.tc : Thread Cert.ReferenceAdamRestIdeal.nD Cert.ReferenceAdamRestIdeal.τ).loc Cert.ReferenceAdamRestIdeal.main_arg8) = m ((c.tc : Thread Cert.KernelAdamRestIdeal.nD Cert.KernelAdamRestIdeal.τ).loc Cert.KernelAdamRestIdeal.main_arg8)
      ∧ m' ((c.tc : Thread Cert.ReferenceAdamRestIdeal.nD Cert.ReferenceAdamRestIdeal.τ).loc Cert.ReferenceAdamRestIdeal.main_arg9) = m ((c.tc : Thread Cert.KernelAdamRestIdeal.nD Cert.KernelAdamRestIdeal.τ).loc Cert.KernelAdamRestIdeal.main_arg9)
      ∧ m' ((c.tc : Thread Cert.ReferenceAdamRestIdeal.nD Cert.ReferenceAdamRestIdeal.τ).loc Cert.ReferenceAdamRestIdeal.main_arg10) = m ((c.tc : Thread Cert.KernelAdamRestIdeal.nD Cert.KernelAdamRestIdeal.τ).loc Cert.KernelAdamRestIdeal.main_arg10)
      ∧ m' ((c.tc : Thread Cert.ReferenceAdamRestIdeal.nD Cert.ReferenceAdamRestIdeal.τ).loc Cert.ReferenceAdamRestIdeal.main_arg11) = m ((c.tc : Thread Cert.KernelAdamRestIdeal.nD Cert.KernelAdamRestIdeal.τ).loc Cert.KernelAdamRestIdeal.main_arg11)
      ∧ m' ((c.tc : Thread Cert.ReferenceAdamRestIdeal.nD Cert.ReferenceAdamRestIdeal.τ).loc Cert.ReferenceAdamRestIdeal.main_arg12) = m ((c.tc : Thread Cert.KernelAdamRestIdeal.nD Cert.KernelAdamRestIdeal.τ).loc Cert.KernelAdamRestIdeal.main_arg12)
      ∧ m' ((c.tc : Thread Cert.ReferenceAdamRestIdeal.nD Cert.ReferenceAdamRestIdeal.τ).loc Cert.ReferenceAdamRestIdeal.main_arg13) = m ((c.tc : Thread Cert.KernelAdamRestIdeal.nD Cert.KernelAdamRestIdeal.τ).loc Cert.KernelAdamRestIdeal.main_arg13)
      ∧ m' ((c.tc : Thread Cert.ReferenceAdamRestIdeal.nD Cert.ReferenceAdamRestIdeal.τ).loc Cert.ReferenceAdamRestIdeal.main_arg14) = m ((c.tc : Thread Cert.KernelAdamRestIdeal.nD Cert.KernelAdamRestIdeal.τ).loc Cert.KernelAdamRestIdeal.main_arg14)
      ∧ m' ((c.tc : Thread Cert.ReferenceAdamRestIdeal.nD Cert.ReferenceAdamRestIdeal.τ).loc Cert.ReferenceAdamRestIdeal.main_arg15) = m ((c.tc : Thread Cert.KernelAdamRestIdeal.nD Cert.KernelAdamRestIdeal.τ).loc Cert.KernelAdamRestIdeal.main_arg15)
      ∧ m' ((c.tc : Thread Cert.ReferenceAdamRestIdeal.nD Cert.ReferenceAdamRestIdeal.τ).loc Cert.ReferenceAdamRestIdeal.main_arg16) = m ((c.tc : Thread Cert.KernelAdamRestIdeal.nD Cert.KernelAdamRestIdeal.τ).loc Cert.KernelAdamRestIdeal.main_arg16)
      ∧ m' ((c.tc : Thread Cert.ReferenceAdamRestIdeal.nD Cert.ReferenceAdamRestIdeal.τ).loc Cert.ReferenceAdamRestIdeal.main_arg17) = m ((c.tc : Thread Cert.KernelAdamRestIdeal.nD Cert.KernelAdamRestIdeal.τ).loc Cert.KernelAdamRestIdeal.main_arg17)
      ∧ m' ((c.tc : Thread Cert.ReferenceAdamRestIdeal.nD Cert.ReferenceAdamRestIdeal.τ).loc Cert.ReferenceAdamRestIdeal.main_arg18) = m ((c.tc : Thread Cert.KernelAdamRestIdeal.nD Cert.KernelAdamRestIdeal.τ).loc Cert.KernelAdamRestIdeal.main_arg18)
      ∧ m' ((c.tc : Thread Cert.ReferenceAdamRestIdeal.nD Cert.ReferenceAdamRestIdeal.τ).loc Cert.ReferenceAdamRestIdeal.main_arg19) = m ((c.tc : Thread Cert.KernelAdamRestIdeal.nD Cert.KernelAdamRestIdeal.τ).loc Cert.KernelAdamRestIdeal.main_arg19)
      ∧ m' ((c.tc : Thread Cert.ReferenceAdamRestIdeal.nD Cert.ReferenceAdamRestIdeal.τ).loc Cert.ReferenceAdamRestIdeal.main_arg20) = m ((c.tc : Thread Cert.KernelAdamRestIdeal.nD Cert.KernelAdamRestIdeal.τ).loc Cert.KernelAdamRestIdeal.main_arg20)
      ∧ m' ((c.tc : Thread Cert.ReferenceAdamRestIdeal.nD Cert.ReferenceAdamRestIdeal.τ).loc Cert.ReferenceAdamRestIdeal.main_arg21) = m ((c.tc : Thread Cert.KernelAdamRestIdeal.nD Cert.KernelAdamRestIdeal.τ).loc Cert.KernelAdamRestIdeal.main_arg21)
      ∧ m' ((c.tc : Thread Cert.ReferenceAdamRestIdeal.nD Cert.ReferenceAdamRestIdeal.τ).loc Cert.ReferenceAdamRestIdeal.main_arg22) = m ((c.tc : Thread Cert.KernelAdamRestIdeal.nD Cert.KernelAdamRestIdeal.τ).loc Cert.KernelAdamRestIdeal.main_arg22)
      ∧ m' ((c.tc : Thread Cert.ReferenceAdamRestIdeal.nD Cert.ReferenceAdamRestIdeal.τ).loc Cert.ReferenceAdamRestIdeal.main_arg23) = m ((c.tc : Thread Cert.KernelAdamRestIdeal.nD Cert.KernelAdamRestIdeal.τ).loc Cert.KernelAdamRestIdeal.main_arg23)
      ∧ m' ((c.tc : Thread Cert.ReferenceAdamRestIdeal.nD Cert.ReferenceAdamRestIdeal.τ).loc Cert.ReferenceAdamRestIdeal.main_arg24) = m ((c.tc : Thread Cert.KernelAdamRestIdeal.nD Cert.KernelAdamRestIdeal.τ).loc Cert.KernelAdamRestIdeal.main_arg24)
      ∧ m' ((c.tc : Thread Cert.ReferenceAdamRestIdeal.nD Cert.ReferenceAdamRestIdeal.τ).loc Cert.ReferenceAdamRestIdeal.main_arg25) = m ((c.tc : Thread Cert.KernelAdamRestIdeal.nD Cert.KernelAdamRestIdeal.τ).loc Cert.KernelAdamRestIdeal.main_arg25)
      ∧ m' ((c.tc : Thread Cert.ReferenceAdamRestIdeal.nD Cert.ReferenceAdamRestIdeal.τ).loc Cert.ReferenceAdamRestIdeal.main_arg26) = m ((c.tc : Thread Cert.KernelAdamRestIdeal.nD Cert.KernelAdamRestIdeal.τ).loc Cert.KernelAdamRestIdeal.main_arg26)
      ∧ m' ((c.tc : Thread Cert.ReferenceAdamRestIdeal.nD Cert.ReferenceAdamRestIdeal.τ).loc Cert.ReferenceAdamRestIdeal.main_arg27) = m ((c.tc : Thread Cert.KernelAdamRestIdeal.nD Cert.KernelAdamRestIdeal.τ).loc Cert.KernelAdamRestIdeal.main_arg27)
      ∧ m' ((c.tc : Thread Cert.ReferenceAdamRestIdeal.nD Cert.ReferenceAdamRestIdeal.τ).loc Cert.ReferenceAdamRestIdeal.main_arg28) = m ((c.tc : Thread Cert.KernelAdamRestIdeal.nD Cert.KernelAdamRestIdeal.τ).loc Cert.KernelAdamRestIdeal.main_arg28)
      ∧ m' ((c.tc : Thread Cert.ReferenceAdamRestIdeal.nD Cert.ReferenceAdamRestIdeal.τ).loc Cert.ReferenceAdamRestIdeal.main_arg29) = m ((c.tc : Thread Cert.KernelAdamRestIdeal.nD Cert.KernelAdamRestIdeal.τ).loc Cert.KernelAdamRestIdeal.main_arg29)
      ∧ m' ((c.tc : Thread Cert.ReferenceAdamRestIdeal.nD Cert.ReferenceAdamRestIdeal.τ).loc Cert.ReferenceAdamRestIdeal.main_arg30) = m ((c.tc : Thread Cert.KernelAdamRestIdeal.nD Cert.KernelAdamRestIdeal.τ).loc Cert.KernelAdamRestIdeal.main_arg30)
      ∧ m' ((c.tc : Thread Cert.ReferenceAdamRestIdeal.nD Cert.ReferenceAdamRestIdeal.τ).loc Cert.ReferenceAdamRestIdeal.main_arg31) = m ((c.tc : Thread Cert.KernelAdamRestIdeal.nD Cert.KernelAdamRestIdeal.τ).loc Cert.KernelAdamRestIdeal.main_arg31)
      ∧ m' ((c.tc : Thread Cert.ReferenceAdamRestIdeal.nD Cert.ReferenceAdamRestIdeal.τ).loc Cert.ReferenceAdamRestIdeal.main_arg32) = m ((c.tc : Thread Cert.KernelAdamRestIdeal.nD Cert.KernelAdamRestIdeal.τ).loc Cert.KernelAdamRestIdeal.main_arg32)
      ∧ m' ((c.tc : Thread Cert.ReferenceAdamRestIdeal.nD Cert.ReferenceAdamRestIdeal.τ).loc Cert.ReferenceAdamRestIdeal.main_arg33) = m ((c.tc : Thread Cert.KernelAdamRestIdeal.nD Cert.KernelAdamRestIdeal.τ).loc Cert.KernelAdamRestIdeal.main_arg33)
      ∧ m' ((c.tc : Thread Cert.ReferenceAdamRestIdeal.nD Cert.ReferenceAdamRestIdeal.τ).loc Cert.ReferenceAdamRestIdeal.main_arg34) = m ((c.tc : Thread Cert.KernelAdamRestIdeal.nD Cert.KernelAdamRestIdeal.τ).loc Cert.KernelAdamRestIdeal.main_arg34)
      ∧ m' ((c.tc : Thread Cert.ReferenceAdamRestIdeal.nD Cert.ReferenceAdamRestIdeal.τ).loc Cert.ReferenceAdamRestIdeal.main_arg35) = m ((c.tc : Thread Cert.KernelAdamRestIdeal.nD Cert.KernelAdamRestIdeal.τ).loc Cert.KernelAdamRestIdeal.main_arg35)
      ∧ m' ((c.tc : Thread Cert.ReferenceAdamRestIdeal.nD Cert.ReferenceAdamRestIdeal.τ).loc Cert.ReferenceAdamRestIdeal.main_arg36) = m ((c.tc : Thread Cert.KernelAdamRestIdeal.nD Cert.KernelAdamRestIdeal.τ).loc Cert.KernelAdamRestIdeal.main_arg36)
      ∧ m' ((c.tc : Thread Cert.ReferenceAdamRestIdeal.nD Cert.ReferenceAdamRestIdeal.τ).loc Cert.ReferenceAdamRestIdeal.main_arg37) = m ((c.tc : Thread Cert.KernelAdamRestIdeal.nD Cert.KernelAdamRestIdeal.τ).loc Cert.KernelAdamRestIdeal.main_arg37)
      ∧ m' ((c.tc : Thread Cert.ReferenceAdamRestIdeal.nD Cert.ReferenceAdamRestIdeal.τ).loc Cert.ReferenceAdamRestIdeal.main_arg38) = m ((c.tc : Thread Cert.KernelAdamRestIdeal.nD Cert.KernelAdamRestIdeal.τ).loc Cert.KernelAdamRestIdeal.main_arg38)
      ∧ m' ((c.tc : Thread Cert.ReferenceAdamRestIdeal.nD Cert.ReferenceAdamRestIdeal.τ).loc Cert.ReferenceAdamRestIdeal.main_arg39) = m ((c.tc : Thread Cert.KernelAdamRestIdeal.nD Cert.KernelAdamRestIdeal.τ).loc Cert.KernelAdamRestIdeal.main_arg39)
      ∧ m' ((c.tc : Thread Cert.ReferenceAdamRestIdeal.nD Cert.ReferenceAdamRestIdeal.τ).loc Cert.ReferenceAdamRestIdeal.main_arg40) = m ((c.tc : Thread Cert.KernelAdamRestIdeal.nD Cert.KernelAdamRestIdeal.τ).loc Cert.KernelAdamRestIdeal.main_arg40)
      ∧ m' ((c.tc : Thread Cert.ReferenceAdamRestIdeal.nD Cert.ReferenceAdamRestIdeal.τ).loc Cert.ReferenceAdamRestIdeal.main_arg41) = m ((c.tc : Thread Cert.KernelAdamRestIdeal.nD Cert.KernelAdamRestIdeal.τ).loc Cert.KernelAdamRestIdeal.main_arg41)
      ∧ m' ((c.tc : Thread Cert.ReferenceAdamRestIdeal.nD Cert.ReferenceAdamRestIdeal.τ).loc Cert.ReferenceAdamRestIdeal.main_arg42) = m ((c.tc : Thread Cert.KernelAdamRestIdeal.nD Cert.KernelAdamRestIdeal.τ).loc Cert.KernelAdamRestIdeal.main_arg42)
      ∧ m' ((c.tc : Thread Cert.ReferenceAdamRestIdeal.nD Cert.ReferenceAdamRestIdeal.τ).loc Cert.ReferenceAdamRestIdeal.main_arg43) = m ((c.tc : Thread Cert.KernelAdamRestIdeal.nD Cert.KernelAdamRestIdeal.τ).loc Cert.KernelAdamRestIdeal.main_arg43)
      ∧ m' ((c.tc : Thread Cert.ReferenceAdamRestIdeal.nD Cert.ReferenceAdamRestIdeal.τ).loc Cert.ReferenceAdamRestIdeal.main_arg44) = m ((c.tc : Thread Cert.KernelAdamRestIdeal.nD Cert.KernelAdamRestIdeal.τ).loc Cert.KernelAdamRestIdeal.main_arg44)
      ∧ m' ((c.tc : Thread Cert.ReferenceAdamRestIdeal.nD Cert.ReferenceAdamRestIdeal.τ).loc Cert.ReferenceAdamRestIdeal.main_arg45) = m ((c.tc : Thread Cert.KernelAdamRestIdeal.nD Cert.KernelAdamRestIdeal.τ).loc Cert.KernelAdamRestIdeal.main_arg45)
      ∧ m' ((c.tc : Thread Cert.ReferenceAdamRestIdeal.nD Cert.ReferenceAdamRestIdeal.τ).loc Cert.ReferenceAdamRestIdeal.main_arg46) = m ((c.tc : Thread Cert.KernelAdamRestIdeal.nD Cert.KernelAdamRestIdeal.τ).loc Cert.KernelAdamRestIdeal.main_arg46)
      ∧ m' ((c.tc : Thread Cert.ReferenceAdamRestIdeal.nD Cert.ReferenceAdamRestIdeal.τ).loc Cert.ReferenceAdamRestIdeal.main_arg47) = m ((c.tc : Thread Cert.KernelAdamRestIdeal.nD Cert.KernelAdamRestIdeal.τ).loc Cert.KernelAdamRestIdeal.main_arg47)) →
    ∃ (v0 : (c : Dev Cert.KernelAdamRestIdeal.nD) → Buf (Elt Ideal) ((c.tc : Thread Cert.KernelAdamRestIdeal.nD Cert.KernelAdamRestIdeal.τ).loc Cert.KernelAdamRestIdeal.main_v47_0)) (v1 : (c : Dev Cert.KernelAdamRestIdeal.nD) → Buf (Elt Ideal) ((c.tc : Thread Cert.KernelAdamRestIdeal.nD Cert.KernelAdamRestIdeal.τ).loc Cert.KernelAdamRestIdeal.main_v47_1)) (v2 : (c : Dev Cert.KernelAdamRestIdeal.nD) → Buf (Elt Ideal) ((c.tc : Thread Cert.KernelAdamRestIdeal.nD Cert.KernelAdamRestIdeal.τ).loc Cert.KernelAdamRestIdeal.main_v47_2)),
      θ_run (Cert.KernelAdamRestIdeal.defs (F := Ideal)) (onTc (τ := Cert.KernelAdamRestIdeal.τ) (Cert.KernelAdamRestIdeal.main (F := Ideal))) ⟨m, fun _ => 0, g⟩ (fun r => ∀ c : Dev Cert.KernelAdamRestIdeal.nD,
          r.2.mem ((c.tc : Thread Cert.KernelAdamRestIdeal.nD Cert.KernelAdamRestIdeal.τ).loc Cert.KernelAdamRestIdeal.main_v47_0) = v0 c
          ∧ r.2.mem ((c.tc : Thread Cert.KernelAdamRestIdeal.nD Cert.KernelAdamRestIdeal.τ).loc Cert.KernelAdamRestIdeal.main_v47_1) = v1 c
          ∧ r.2.mem ((c.tc : Thread Cert.KernelAdamRestIdeal.nD Cert.KernelAdamRestIdeal.τ).loc Cert.KernelAdamRestIdeal.main_v47_2) = v2 c
          ∧ r.2.mem ((c.tc : Thread Cert.KernelAdamRestIdeal.nD Cert.KernelAdamRestIdeal.τ).loc Cert.KernelAdamRestIdeal.main_arg0) = m ((c.tc : Thread Cert.KernelAdamRestIdeal.nD Cert.KernelAdamRestIdeal.τ).loc Cert.KernelAdamRestIdeal.main_arg0)
          ∧ r.2.mem ((c.tc : Thread Cert.KernelAdamRestIdeal.nD Cert.KernelAdamRestIdeal.τ).loc Cert.KernelAdamRestIdeal.main_arg1) = m ((c.tc : Thread Cert.KernelAdamRestIdeal.nD Cert.KernelAdamRestIdeal.τ).loc Cert.KernelAdamRestIdeal.main_arg1)
          ∧ r.2.mem ((c.tc : Thread Cert.KernelAdamRestIdeal.nD Cert.KernelAdamRestIdeal.τ).loc Cert.KernelAdamRestIdeal.main_arg2) = m ((c.tc : Thread Cert.KernelAdamRestIdeal.nD Cert.KernelAdamRestIdeal.τ).loc Cert.KernelAdamRestIdeal.main_arg2)
          ∧ r.2.mem ((c.tc : Thread Cert.KernelAdamRestIdeal.nD Cert.KernelAdamRestIdeal.τ).loc Cert.KernelAdamRestIdeal.main_arg3) = m ((c.tc : Thread Cert.KernelAdamRestIdeal.nD Cert.KernelAdamRestIdeal.τ).loc Cert.KernelAdamRestIdeal.main_arg3)
          ∧ r.2.mem ((c.tc : Thread Cert.KernelAdamRestIdeal.nD Cert.KernelAdamRestIdeal.τ).loc Cert.KernelAdamRestIdeal.main_arg4) = m ((c.tc : Thread Cert.KernelAdamRestIdeal.nD Cert.KernelAdamRestIdeal.τ).loc Cert.KernelAdamRestIdeal.main_arg4)
          ∧ r.2.mem ((c.tc : Thread Cert.KernelAdamRestIdeal.nD Cert.KernelAdamRestIdeal.τ).loc Cert.KernelAdamRestIdeal.main_arg5) = m ((c.tc : Thread Cert.KernelAdamRestIdeal.nD Cert.KernelAdamRestIdeal.τ).loc Cert.KernelAdamRestIdeal.main_arg5)
          ∧ r.2.mem ((c.tc : Thread Cert.KernelAdamRestIdeal.nD Cert.KernelAdamRestIdeal.τ).loc Cert.KernelAdamRestIdeal.main_arg6) = m ((c.tc : Thread Cert.KernelAdamRestIdeal.nD Cert.KernelAdamRestIdeal.τ).loc Cert.KernelAdamRestIdeal.main_arg6)
          ∧ r.2.mem ((c.tc : Thread Cert.KernelAdamRestIdeal.nD Cert.KernelAdamRestIdeal.τ).loc Cert.KernelAdamRestIdeal.main_arg7) = m ((c.tc : Thread Cert.KernelAdamRestIdeal.nD Cert.KernelAdamRestIdeal.τ).loc Cert.KernelAdamRestIdeal.main_arg7)
          ∧ r.2.mem ((c.tc : Thread Cert.KernelAdamRestIdeal.nD Cert.KernelAdamRestIdeal.τ).loc Cert.KernelAdamRestIdeal.main_arg8) = m ((c.tc : Thread Cert.KernelAdamRestIdeal.nD Cert.KernelAdamRestIdeal.τ).loc Cert.KernelAdamRestIdeal.main_arg8)
          ∧ r.2.mem ((c.tc : Thread Cert.KernelAdamRestIdeal.nD Cert.KernelAdamRestIdeal.τ).loc Cert.KernelAdamRestIdeal.main_arg9) = m ((c.tc : Thread Cert.KernelAdamRestIdeal.nD Cert.KernelAdamRestIdeal.τ).loc Cert.KernelAdamRestIdeal.main_arg9)
          ∧ r.2.mem ((c.tc : Thread Cert.KernelAdamRestIdeal.nD Cert.KernelAdamRestIdeal.τ).loc Cert.KernelAdamRestIdeal.main_arg10) = m ((c.tc : Thread Cert.KernelAdamRestIdeal.nD Cert.KernelAdamRestIdeal.τ).loc Cert.KernelAdamRestIdeal.main_arg10)
          ∧ r.2.mem ((c.tc : Thread Cert.KernelAdamRestIdeal.nD Cert.KernelAdamRestIdeal.τ).loc Cert.KernelAdamRestIdeal.main_arg11) = m ((c.tc : Thread Cert.KernelAdamRestIdeal.nD Cert.KernelAdamRestIdeal.τ).loc Cert.KernelAdamRestIdeal.main_arg11)
          ∧ r.2.mem ((c.tc : Thread Cert.KernelAdamRestIdeal.nD Cert.KernelAdamRestIdeal.τ).loc Cert.KernelAdamRestIdeal.main_arg12) = m ((c.tc : Thread Cert.KernelAdamRestIdeal.nD Cert.KernelAdamRestIdeal.τ).loc Cert.KernelAdamRestIdeal.main_arg12)
          ∧ r.2.mem ((c.tc : Thread Cert.KernelAdamRestIdeal.nD Cert.KernelAdamRestIdeal.τ).loc Cert.KernelAdamRestIdeal.main_arg13) = m ((c.tc : Thread Cert.KernelAdamRestIdeal.nD Cert.KernelAdamRestIdeal.τ).loc Cert.KernelAdamRestIdeal.main_arg13)
          ∧ r.2.mem ((c.tc : Thread Cert.KernelAdamRestIdeal.nD Cert.KernelAdamRestIdeal.τ).loc Cert.KernelAdamRestIdeal.main_arg14) = m ((c.tc : Thread Cert.KernelAdamRestIdeal.nD Cert.KernelAdamRestIdeal.τ).loc Cert.KernelAdamRestIdeal.main_arg14)
          ∧ r.2.mem ((c.tc : Thread Cert.KernelAdamRestIdeal.nD Cert.KernelAdamRestIdeal.τ).loc Cert.KernelAdamRestIdeal.main_arg15) = m ((c.tc : Thread Cert.KernelAdamRestIdeal.nD Cert.KernelAdamRestIdeal.τ).loc Cert.KernelAdamRestIdeal.main_arg15)
          ∧ r.2.mem ((c.tc : Thread Cert.KernelAdamRestIdeal.nD Cert.KernelAdamRestIdeal.τ).loc Cert.KernelAdamRestIdeal.main_arg16) = m ((c.tc : Thread Cert.KernelAdamRestIdeal.nD Cert.KernelAdamRestIdeal.τ).loc Cert.KernelAdamRestIdeal.main_arg16)
          ∧ r.2.mem ((c.tc : Thread Cert.KernelAdamRestIdeal.nD Cert.KernelAdamRestIdeal.τ).loc Cert.KernelAdamRestIdeal.main_arg17) = m ((c.tc : Thread Cert.KernelAdamRestIdeal.nD Cert.KernelAdamRestIdeal.τ).loc Cert.KernelAdamRestIdeal.main_arg17)
          ∧ r.2.mem ((c.tc : Thread Cert.KernelAdamRestIdeal.nD Cert.KernelAdamRestIdeal.τ).loc Cert.KernelAdamRestIdeal.main_arg18) = m ((c.tc : Thread Cert.KernelAdamRestIdeal.nD Cert.KernelAdamRestIdeal.τ).loc Cert.KernelAdamRestIdeal.main_arg18)
          ∧ r.2.mem ((c.tc : Thread Cert.KernelAdamRestIdeal.nD Cert.KernelAdamRestIdeal.τ).loc Cert.KernelAdamRestIdeal.main_arg19) = m ((c.tc : Thread Cert.KernelAdamRestIdeal.nD Cert.KernelAdamRestIdeal.τ).loc Cert.KernelAdamRestIdeal.main_arg19)
          ∧ r.2.mem ((c.tc : Thread Cert.KernelAdamRestIdeal.nD Cert.KernelAdamRestIdeal.τ).loc Cert.KernelAdamRestIdeal.main_arg20) = m ((c.tc : Thread Cert.KernelAdamRestIdeal.nD Cert.KernelAdamRestIdeal.τ).loc Cert.KernelAdamRestIdeal.main_arg20)
          ∧ r.2.mem ((c.tc : Thread Cert.KernelAdamRestIdeal.nD Cert.KernelAdamRestIdeal.τ).loc Cert.KernelAdamRestIdeal.main_arg21) = m ((c.tc : Thread Cert.KernelAdamRestIdeal.nD Cert.KernelAdamRestIdeal.τ).loc Cert.KernelAdamRestIdeal.main_arg21)
          ∧ r.2.mem ((c.tc : Thread Cert.KernelAdamRestIdeal.nD Cert.KernelAdamRestIdeal.τ).loc Cert.KernelAdamRestIdeal.main_arg22) = m ((c.tc : Thread Cert.KernelAdamRestIdeal.nD Cert.KernelAdamRestIdeal.τ).loc Cert.KernelAdamRestIdeal.main_arg22)
          ∧ r.2.mem ((c.tc : Thread Cert.KernelAdamRestIdeal.nD Cert.KernelAdamRestIdeal.τ).loc Cert.KernelAdamRestIdeal.main_arg23) = m ((c.tc : Thread Cert.KernelAdamRestIdeal.nD Cert.KernelAdamRestIdeal.τ).loc Cert.KernelAdamRestIdeal.main_arg23)
          ∧ r.2.mem ((c.tc : Thread Cert.KernelAdamRestIdeal.nD Cert.KernelAdamRestIdeal.τ).loc Cert.KernelAdamRestIdeal.main_arg24) = m ((c.tc : Thread Cert.KernelAdamRestIdeal.nD Cert.KernelAdamRestIdeal.τ).loc Cert.KernelAdamRestIdeal.main_arg24)
          ∧ r.2.mem ((c.tc : Thread Cert.KernelAdamRestIdeal.nD Cert.KernelAdamRestIdeal.τ).loc Cert.KernelAdamRestIdeal.main_arg25) = m ((c.tc : Thread Cert.KernelAdamRestIdeal.nD Cert.KernelAdamRestIdeal.τ).loc Cert.KernelAdamRestIdeal.main_arg25)
          ∧ r.2.mem ((c.tc : Thread Cert.KernelAdamRestIdeal.nD Cert.KernelAdamRestIdeal.τ).loc Cert.KernelAdamRestIdeal.main_arg26) = m ((c.tc : Thread Cert.KernelAdamRestIdeal.nD Cert.KernelAdamRestIdeal.τ).loc Cert.KernelAdamRestIdeal.main_arg26)
          ∧ r.2.mem ((c.tc : Thread Cert.KernelAdamRestIdeal.nD Cert.KernelAdamRestIdeal.τ).loc Cert.KernelAdamRestIdeal.main_arg27) = m ((c.tc : Thread Cert.KernelAdamRestIdeal.nD Cert.KernelAdamRestIdeal.τ).loc Cert.KernelAdamRestIdeal.main_arg27)
          ∧ r.2.mem ((c.tc : Thread Cert.KernelAdamRestIdeal.nD Cert.KernelAdamRestIdeal.τ).loc Cert.KernelAdamRestIdeal.main_arg28) = m ((c.tc : Thread Cert.KernelAdamRestIdeal.nD Cert.KernelAdamRestIdeal.τ).loc Cert.KernelAdamRestIdeal.main_arg28)
          ∧ r.2.mem ((c.tc : Thread Cert.KernelAdamRestIdeal.nD Cert.KernelAdamRestIdeal.τ).loc Cert.KernelAdamRestIdeal.main_arg29) = m ((c.tc : Thread Cert.KernelAdamRestIdeal.nD Cert.KernelAdamRestIdeal.τ).loc Cert.KernelAdamRestIdeal.main_arg29)
          ∧ r.2.mem ((c.tc : Thread Cert.KernelAdamRestIdeal.nD Cert.KernelAdamRestIdeal.τ).loc Cert.KernelAdamRestIdeal.main_arg30) = m ((c.tc : Thread Cert.KernelAdamRestIdeal.nD Cert.KernelAdamRestIdeal.τ).loc Cert.KernelAdamRestIdeal.main_arg30)
          ∧ r.2.mem ((c.tc : Thread Cert.KernelAdamRestIdeal.nD Cert.KernelAdamRestIdeal.τ).loc Cert.KernelAdamRestIdeal.main_arg31) = m ((c.tc : Thread Cert.KernelAdamRestIdeal.nD Cert.KernelAdamRestIdeal.τ).loc Cert.KernelAdamRestIdeal.main_arg31)
          ∧ r.2.mem ((c.tc : Thread Cert.KernelAdamRestIdeal.nD Cert.KernelAdamRestIdeal.τ).loc Cert.KernelAdamRestIdeal.main_arg32) = m ((c.tc : Thread Cert.KernelAdamRestIdeal.nD Cert.KernelAdamRestIdeal.τ).loc Cert.KernelAdamRestIdeal.main_arg32)
          ∧ r.2.mem ((c.tc : Thread Cert.KernelAdamRestIdeal.nD Cert.KernelAdamRestIdeal.τ).loc Cert.KernelAdamRestIdeal.main_arg33) = m ((c.tc : Thread Cert.KernelAdamRestIdeal.nD Cert.KernelAdamRestIdeal.τ).loc Cert.KernelAdamRestIdeal.main_arg33)
          ∧ r.2.mem ((c.tc : Thread Cert.KernelAdamRestIdeal.nD Cert.KernelAdamRestIdeal.τ).loc Cert.KernelAdamRestIdeal.main_arg34) = m ((c.tc : Thread Cert.KernelAdamRestIdeal.nD Cert.KernelAdamRestIdeal.τ).loc Cert.KernelAdamRestIdeal.main_arg34)
          ∧ r.2.mem ((c.tc : Thread Cert.KernelAdamRestIdeal.nD Cert.KernelAdamRestIdeal.τ).loc Cert.KernelAdamRestIdeal.main_arg35) = m ((c.tc : Thread Cert.KernelAdamRestIdeal.nD Cert.KernelAdamRestIdeal.τ).loc Cert.KernelAdamRestIdeal.main_arg35)
          ∧ r.2.mem ((c.tc : Thread Cert.KernelAdamRestIdeal.nD Cert.KernelAdamRestIdeal.τ).loc Cert.KernelAdamRestIdeal.main_arg36) = m ((c.tc : Thread Cert.KernelAdamRestIdeal.nD Cert.KernelAdamRestIdeal.τ).loc Cert.KernelAdamRestIdeal.main_arg36)
          ∧ r.2.mem ((c.tc : Thread Cert.KernelAdamRestIdeal.nD Cert.KernelAdamRestIdeal.τ).loc Cert.KernelAdamRestIdeal.main_arg37) = m ((c.tc : Thread Cert.KernelAdamRestIdeal.nD Cert.KernelAdamRestIdeal.τ).loc Cert.KernelAdamRestIdeal.main_arg37)
          ∧ r.2.mem ((c.tc : Thread Cert.KernelAdamRestIdeal.nD Cert.KernelAdamRestIdeal.τ).loc Cert.KernelAdamRestIdeal.main_arg38) = m ((c.tc : Thread Cert.KernelAdamRestIdeal.nD Cert.KernelAdamRestIdeal.τ).loc Cert.KernelAdamRestIdeal.main_arg38)
          ∧ r.2.mem ((c.tc : Thread Cert.KernelAdamRestIdeal.nD Cert.KernelAdamRestIdeal.τ).loc Cert.KernelAdamRestIdeal.main_arg39) = m ((c.tc : Thread Cert.KernelAdamRestIdeal.nD Cert.KernelAdamRestIdeal.τ).loc Cert.KernelAdamRestIdeal.main_arg39)
          ∧ r.2.mem ((c.tc : Thread Cert.KernelAdamRestIdeal.nD Cert.KernelAdamRestIdeal.τ).loc Cert.KernelAdamRestIdeal.main_arg40) = m ((c.tc : Thread Cert.KernelAdamRestIdeal.nD Cert.KernelAdamRestIdeal.τ).loc Cert.KernelAdamRestIdeal.main_arg40)
          ∧ r.2.mem ((c.tc : Thread Cert.KernelAdamRestIdeal.nD Cert.KernelAdamRestIdeal.τ).loc Cert.KernelAdamRestIdeal.main_arg41) = m ((c.tc : Thread Cert.KernelAdamRestIdeal.nD Cert.KernelAdamRestIdeal.τ).loc Cert.KernelAdamRestIdeal.main_arg41)
          ∧ r.2.mem ((c.tc : Thread Cert.KernelAdamRestIdeal.nD Cert.KernelAdamRestIdeal.τ).loc Cert.KernelAdamRestIdeal.main_arg42) = m ((c.tc : Thread Cert.KernelAdamRestIdeal.nD Cert.KernelAdamRestIdeal.τ).loc Cert.KernelAdamRestIdeal.main_arg42)
          ∧ r.2.mem ((c.tc : Thread Cert.KernelAdamRestIdeal.nD Cert.KernelAdamRestIdeal.τ).loc Cert.KernelAdamRestIdeal.main_arg43) = m ((c.tc : Thread Cert.KernelAdamRestIdeal.nD Cert.KernelAdamRestIdeal.τ).loc Cert.KernelAdamRestIdeal.main_arg43)
          ∧ r.2.mem ((c.tc : Thread Cert.KernelAdamRestIdeal.nD Cert.KernelAdamRestIdeal.τ).loc Cert.KernelAdamRestIdeal.main_arg44) = m ((c.tc : Thread Cert.KernelAdamRestIdeal.nD Cert.KernelAdamRestIdeal.τ).loc Cert.KernelAdamRestIdeal.main_arg44)
          ∧ r.2.mem ((c.tc : Thread Cert.KernelAdamRestIdeal.nD Cert.KernelAdamRestIdeal.τ).loc Cert.KernelAdamRestIdeal.main_arg45) = m ((c.tc : Thread Cert.KernelAdamRestIdeal.nD Cert.KernelAdamRestIdeal.τ).loc Cert.KernelAdamRestIdeal.main_arg45)
          ∧ r.2.mem ((c.tc : Thread Cert.KernelAdamRestIdeal.nD Cert.KernelAdamRestIdeal.τ).loc Cert.KernelAdamRestIdeal.main_arg46) = m ((c.tc : Thread Cert.KernelAdamRestIdeal.nD Cert.KernelAdamRestIdeal.τ).loc Cert.KernelAdamRestIdeal.main_arg46)
          ∧ r.2.mem ((c.tc : Thread Cert.KernelAdamRestIdeal.nD Cert.KernelAdamRestIdeal.τ).loc Cert.KernelAdamRestIdeal.main_arg47) = m ((c.tc : Thread Cert.KernelAdamRestIdeal.nD Cert.KernelAdamRestIdeal.τ).loc Cert.KernelAdamRestIdeal.main_arg47))
      ∧ θ_run (Cert.ReferenceAdamRestIdeal.defs (F := Ideal)) (onTc (τ := Cert.ReferenceAdamRestIdeal.τ) (Cert.ReferenceAdamRestIdeal.main (F := Ideal))) ⟨m', fun _ => 0, g'⟩ (fun r => ∀ c : Dev Cert.ReferenceAdamRestIdeal.nD,
          r.2.mem ((c.tc : Thread Cert.ReferenceAdamRestIdeal.nD Cert.ReferenceAdamRestIdeal.τ).loc Cert.ReferenceAdamRestIdeal.main_v312) = v0 c
          ∧ r.2.mem ((c.tc : Thread Cert.ReferenceAdamRestIdeal.nD Cert.ReferenceAdamRestIdeal.τ).loc Cert.ReferenceAdamRestIdeal.main_v326) = v1 c
          ∧ r.2.mem ((c.tc : Thread Cert.ReferenceAdamRestIdeal.nD Cert.ReferenceAdamRestIdeal.τ).loc Cert.ReferenceAdamRestIdeal.main_v340) = v2 c
          ∧ r.2.mem ((c.tc : Thread Cert.ReferenceAdamRestIdeal.nD Cert.ReferenceAdamRestIdeal.τ).loc Cert.ReferenceAdamRestIdeal.main_arg0) = m' ((c.tc : Thread Cert.ReferenceAdamRestIdeal.nD Cert.ReferenceAdamRestIdeal.τ).loc Cert.ReferenceAdamRestIdeal.main_arg0)
          ∧ r.2.mem ((c.tc : Thread Cert.ReferenceAdamRestIdeal.nD Cert.ReferenceAdamRestIdeal.τ).loc Cert.ReferenceAdamRestIdeal.main_arg1) = m' ((c.tc : Thread Cert.ReferenceAdamRestIdeal.nD Cert.ReferenceAdamRestIdeal.τ).loc Cert.ReferenceAdamRestIdeal.main_arg1)
          ∧ r.2.mem ((c.tc : Thread Cert.ReferenceAdamRestIdeal.nD Cert.ReferenceAdamRestIdeal.τ).loc Cert.ReferenceAdamRestIdeal.main_arg2) = m' ((c.tc : Thread Cert.ReferenceAdamRestIdeal.nD Cert.ReferenceAdamRestIdeal.τ).loc Cert.ReferenceAdamRestIdeal.main_arg2)
          ∧ r.2.mem ((c.tc : Thread Cert.ReferenceAdamRestIdeal.nD Cert.ReferenceAdamRestIdeal.τ).loc Cert.ReferenceAdamRestIdeal.main_arg3) = m' ((c.tc : Thread Cert.ReferenceAdamRestIdeal.nD Cert.ReferenceAdamRestIdeal.τ).loc Cert.ReferenceAdamRestIdeal.main_arg3)
          ∧ r.2.mem ((c.tc : Thread Cert.ReferenceAdamRestIdeal.nD Cert.ReferenceAdamRestIdeal.τ).loc Cert.ReferenceAdamRestIdeal.main_arg4) = m' ((c.tc : Thread Cert.ReferenceAdamRestIdeal.nD Cert.ReferenceAdamRestIdeal.τ).loc Cert.ReferenceAdamRestIdeal.main_arg4)
          ∧ r.2.mem ((c.tc : Thread Cert.ReferenceAdamRestIdeal.nD Cert.ReferenceAdamRestIdeal.τ).loc Cert.ReferenceAdamRestIdeal.main_arg5) = m' ((c.tc : Thread Cert.ReferenceAdamRestIdeal.nD Cert.ReferenceAdamRestIdeal.τ).loc Cert.ReferenceAdamRestIdeal.main_arg5)
          ∧ r.2.mem ((c.tc : Thread Cert.ReferenceAdamRestIdeal.nD Cert.ReferenceAdamRestIdeal.τ).loc Cert.ReferenceAdamRestIdeal.main_arg6) = m' ((c.tc : Thread Cert.ReferenceAdamRestIdeal.nD Cert.ReferenceAdamRestIdeal.τ).loc Cert.ReferenceAdamRestIdeal.main_arg6)
          ∧ r.2.mem ((c.tc : Thread Cert.ReferenceAdamRestIdeal.nD Cert.ReferenceAdamRestIdeal.τ).loc Cert.ReferenceAdamRestIdeal.main_arg7) = m' ((c.tc : Thread Cert.ReferenceAdamRestIdeal.nD Cert.ReferenceAdamRestIdeal.τ).loc Cert.ReferenceAdamRestIdeal.main_arg7)
          ∧ r.2.mem ((c.tc : Thread Cert.ReferenceAdamRestIdeal.nD Cert.ReferenceAdamRestIdeal.τ).loc Cert.ReferenceAdamRestIdeal.main_arg8) = m' ((c.tc : Thread Cert.ReferenceAdamRestIdeal.nD Cert.ReferenceAdamRestIdeal.τ).loc Cert.ReferenceAdamRestIdeal.main_arg8)
          ∧ r.2.mem ((c.tc : Thread Cert.ReferenceAdamRestIdeal.nD Cert.ReferenceAdamRestIdeal.τ).loc Cert.ReferenceAdamRestIdeal.main_arg9) = m' ((c.tc : Thread Cert.ReferenceAdamRestIdeal.nD Cert.ReferenceAdamRestIdeal.τ).loc Cert.ReferenceAdamRestIdeal.main_arg9)
          ∧ r.2.mem ((c.tc : Thread Cert.ReferenceAdamRestIdeal.nD Cert.ReferenceAdamRestIdeal.τ).loc Cert.ReferenceAdamRestIdeal.main_arg10) = m' ((c.tc : Thread Cert.ReferenceAdamRestIdeal.nD Cert.ReferenceAdamRestIdeal.τ).loc Cert.ReferenceAdamRestIdeal.main_arg10)
          ∧ r.2.mem ((c.tc : Thread Cert.ReferenceAdamRestIdeal.nD Cert.ReferenceAdamRestIdeal.τ).loc Cert.ReferenceAdamRestIdeal.main_arg11) = m' ((c.tc : Thread Cert.ReferenceAdamRestIdeal.nD Cert.ReferenceAdamRestIdeal.τ).loc Cert.ReferenceAdamRestIdeal.main_arg11)
          ∧ r.2.mem ((c.tc : Thread Cert.ReferenceAdamRestIdeal.nD Cert.ReferenceAdamRestIdeal.τ).loc Cert.ReferenceAdamRestIdeal.main_arg12) = m' ((c.tc : Thread Cert.ReferenceAdamRestIdeal.nD Cert.ReferenceAdamRestIdeal.τ).loc Cert.ReferenceAdamRestIdeal.main_arg12)
          ∧ r.2.mem ((c.tc : Thread Cert.ReferenceAdamRestIdeal.nD Cert.ReferenceAdamRestIdeal.τ).loc Cert.ReferenceAdamRestIdeal.main_arg13) = m' ((c.tc : Thread Cert.ReferenceAdamRestIdeal.nD Cert.ReferenceAdamRestIdeal.τ).loc Cert.ReferenceAdamRestIdeal.main_arg13)
          ∧ r.2.mem ((c.tc : Thread Cert.ReferenceAdamRestIdeal.nD Cert.ReferenceAdamRestIdeal.τ).loc Cert.ReferenceAdamRestIdeal.main_arg14) = m' ((c.tc : Thread Cert.ReferenceAdamRestIdeal.nD Cert.ReferenceAdamRestIdeal.τ).loc Cert.ReferenceAdamRestIdeal.main_arg14)
          ∧ r.2.mem ((c.tc : Thread Cert.ReferenceAdamRestIdeal.nD Cert.ReferenceAdamRestIdeal.τ).loc Cert.ReferenceAdamRestIdeal.main_arg15) = m' ((c.tc : Thread Cert.ReferenceAdamRestIdeal.nD Cert.ReferenceAdamRestIdeal.τ).loc Cert.ReferenceAdamRestIdeal.main_arg15)
          ∧ r.2.mem ((c.tc : Thread Cert.ReferenceAdamRestIdeal.nD Cert.ReferenceAdamRestIdeal.τ).loc Cert.ReferenceAdamRestIdeal.main_arg16) = m' ((c.tc : Thread Cert.ReferenceAdamRestIdeal.nD Cert.ReferenceAdamRestIdeal.τ).loc Cert.ReferenceAdamRestIdeal.main_arg16)
          ∧ r.2.mem ((c.tc : Thread Cert.ReferenceAdamRestIdeal.nD Cert.ReferenceAdamRestIdeal.τ).loc Cert.ReferenceAdamRestIdeal.main_arg17) = m' ((c.tc : Thread Cert.ReferenceAdamRestIdeal.nD Cert.ReferenceAdamRestIdeal.τ).loc Cert.ReferenceAdamRestIdeal.main_arg17)
          ∧ r.2.mem ((c.tc : Thread Cert.ReferenceAdamRestIdeal.nD Cert.ReferenceAdamRestIdeal.τ).loc Cert.ReferenceAdamRestIdeal.main_arg18) = m' ((c.tc : Thread Cert.ReferenceAdamRestIdeal.nD Cert.ReferenceAdamRestIdeal.τ).loc Cert.ReferenceAdamRestIdeal.main_arg18)
          ∧ r.2.mem ((c.tc : Thread Cert.ReferenceAdamRestIdeal.nD Cert.ReferenceAdamRestIdeal.τ).loc Cert.ReferenceAdamRestIdeal.main_arg19) = m' ((c.tc : Thread Cert.ReferenceAdamRestIdeal.nD Cert.ReferenceAdamRestIdeal.τ).loc Cert.ReferenceAdamRestIdeal.main_arg19)
          ∧ r.2.mem ((c.tc : Thread Cert.ReferenceAdamRestIdeal.nD Cert.ReferenceAdamRestIdeal.τ).loc Cert.ReferenceAdamRestIdeal.main_arg20) = m' ((c.tc : Thread Cert.ReferenceAdamRestIdeal.nD Cert.ReferenceAdamRestIdeal.τ).loc Cert.ReferenceAdamRestIdeal.main_arg20)
          ∧ r.2.mem ((c.tc : Thread Cert.ReferenceAdamRestIdeal.nD Cert.ReferenceAdamRestIdeal.τ).loc Cert.ReferenceAdamRestIdeal.main_arg21) = m' ((c.tc : Thread Cert.ReferenceAdamRestIdeal.nD Cert.ReferenceAdamRestIdeal.τ).loc Cert.ReferenceAdamRestIdeal.main_arg21)
          ∧ r.2.mem ((c.tc : Thread Cert.ReferenceAdamRestIdeal.nD Cert.ReferenceAdamRestIdeal.τ).loc Cert.ReferenceAdamRestIdeal.main_arg22) = m' ((c.tc : Thread Cert.ReferenceAdamRestIdeal.nD Cert.ReferenceAdamRestIdeal.τ).loc Cert.ReferenceAdamRestIdeal.main_arg22)
          ∧ r.2.mem ((c.tc : Thread Cert.ReferenceAdamRestIdeal.nD Cert.ReferenceAdamRestIdeal.τ).loc Cert.ReferenceAdamRestIdeal.main_arg23) = m' ((c.tc : Thread Cert.ReferenceAdamRestIdeal.nD Cert.ReferenceAdamRestIdeal.τ).loc Cert.ReferenceAdamRestIdeal.main_arg23)
          ∧ r.2.mem ((c.tc : Thread Cert.ReferenceAdamRestIdeal.nD Cert.ReferenceAdamRestIdeal.τ).loc Cert.ReferenceAdamRestIdeal.main_arg24) = m' ((c.tc : Thread Cert.ReferenceAdamRestIdeal.nD Cert.ReferenceAdamRestIdeal.τ).loc Cert.ReferenceAdamRestIdeal.main_arg24)
          ∧ r.2.mem ((c.tc : Thread Cert.ReferenceAdamRestIdeal.nD Cert.ReferenceAdamRestIdeal.τ).loc Cert.ReferenceAdamRestIdeal.main_arg25) = m' ((c.tc : Thread Cert.ReferenceAdamRestIdeal.nD Cert.ReferenceAdamRestIdeal.τ).loc Cert.ReferenceAdamRestIdeal.main_arg25)
          ∧ r.2.mem ((c.tc : Thread Cert.ReferenceAdamRestIdeal.nD Cert.ReferenceAdamRestIdeal.τ).loc Cert.ReferenceAdamRestIdeal.main_arg26) = m' ((c.tc : Thread Cert.ReferenceAdamRestIdeal.nD Cert.ReferenceAdamRestIdeal.τ).loc Cert.ReferenceAdamRestIdeal.main_arg26)
          ∧ r.2.mem ((c.tc : Thread Cert.ReferenceAdamRestIdeal.nD Cert.ReferenceAdamRestIdeal.τ).loc Cert.ReferenceAdamRestIdeal.main_arg27) = m' ((c.tc : Thread Cert.ReferenceAdamRestIdeal.nD Cert.ReferenceAdamRestIdeal.τ).loc Cert.ReferenceAdamRestIdeal.main_arg27)
          ∧ r.2.mem ((c.tc : Thread Cert.ReferenceAdamRestIdeal.nD Cert.ReferenceAdamRestIdeal.τ).loc Cert.ReferenceAdamRestIdeal.main_arg28) = m' ((c.tc : Thread Cert.ReferenceAdamRestIdeal.nD Cert.ReferenceAdamRestIdeal.τ).loc Cert.ReferenceAdamRestIdeal.main_arg28)
          ∧ r.2.mem ((c.tc : Thread Cert.ReferenceAdamRestIdeal.nD Cert.ReferenceAdamRestIdeal.τ).loc Cert.ReferenceAdamRestIdeal.main_arg29) = m' ((c.tc : Thread Cert.ReferenceAdamRestIdeal.nD Cert.ReferenceAdamRestIdeal.τ).loc Cert.ReferenceAdamRestIdeal.main_arg29)
          ∧ r.2.mem ((c.tc : Thread Cert.ReferenceAdamRestIdeal.nD Cert.ReferenceAdamRestIdeal.τ).loc Cert.ReferenceAdamRestIdeal.main_arg30) = m' ((c.tc : Thread Cert.ReferenceAdamRestIdeal.nD Cert.ReferenceAdamRestIdeal.τ).loc Cert.ReferenceAdamRestIdeal.main_arg30)
          ∧ r.2.mem ((c.tc : Thread Cert.ReferenceAdamRestIdeal.nD Cert.ReferenceAdamRestIdeal.τ).loc Cert.ReferenceAdamRestIdeal.main_arg31) = m' ((c.tc : Thread Cert.ReferenceAdamRestIdeal.nD Cert.ReferenceAdamRestIdeal.τ).loc Cert.ReferenceAdamRestIdeal.main_arg31)
          ∧ r.2.mem ((c.tc : Thread Cert.ReferenceAdamRestIdeal.nD Cert.ReferenceAdamRestIdeal.τ).loc Cert.ReferenceAdamRestIdeal.main_arg32) = m' ((c.tc : Thread Cert.ReferenceAdamRestIdeal.nD Cert.ReferenceAdamRestIdeal.τ).loc Cert.ReferenceAdamRestIdeal.main_arg32)
          ∧ r.2.mem ((c.tc : Thread Cert.ReferenceAdamRestIdeal.nD Cert.ReferenceAdamRestIdeal.τ).loc Cert.ReferenceAdamRestIdeal.main_arg33) = m' ((c.tc : Thread Cert.ReferenceAdamRestIdeal.nD Cert.ReferenceAdamRestIdeal.τ).loc Cert.ReferenceAdamRestIdeal.main_arg33)
          ∧ r.2.mem ((c.tc : Thread Cert.ReferenceAdamRestIdeal.nD Cert.ReferenceAdamRestIdeal.τ).loc Cert.ReferenceAdamRestIdeal.main_arg34) = m' ((c.tc : Thread Cert.ReferenceAdamRestIdeal.nD Cert.ReferenceAdamRestIdeal.τ).loc Cert.ReferenceAdamRestIdeal.main_arg34)
          ∧ r.2.mem ((c.tc : Thread Cert.ReferenceAdamRestIdeal.nD Cert.ReferenceAdamRestIdeal.τ).loc Cert.ReferenceAdamRestIdeal.main_arg35) = m' ((c.tc : Thread Cert.ReferenceAdamRestIdeal.nD Cert.ReferenceAdamRestIdeal.τ).loc Cert.ReferenceAdamRestIdeal.main_arg35)
          ∧ r.2.mem ((c.tc : Thread Cert.ReferenceAdamRestIdeal.nD Cert.ReferenceAdamRestIdeal.τ).loc Cert.ReferenceAdamRestIdeal.main_arg36) = m' ((c.tc : Thread Cert.ReferenceAdamRestIdeal.nD Cert.ReferenceAdamRestIdeal.τ).loc Cert.ReferenceAdamRestIdeal.main_arg36)
          ∧ r.2.mem ((c.tc : Thread Cert.ReferenceAdamRestIdeal.nD Cert.ReferenceAdamRestIdeal.τ).loc Cert.ReferenceAdamRestIdeal.main_arg37) = m' ((c.tc : Thread Cert.ReferenceAdamRestIdeal.nD Cert.ReferenceAdamRestIdeal.τ).loc Cert.ReferenceAdamRestIdeal.main_arg37)
          ∧ r.2.mem ((c.tc : Thread Cert.ReferenceAdamRestIdeal.nD Cert.ReferenceAdamRestIdeal.τ).loc Cert.ReferenceAdamRestIdeal.main_arg38) = m' ((c.tc : Thread Cert.ReferenceAdamRestIdeal.nD Cert.ReferenceAdamRestIdeal.τ).loc Cert.ReferenceAdamRestIdeal.main_arg38)
          ∧ r.2.mem ((c.tc : Thread Cert.ReferenceAdamRestIdeal.nD Cert.ReferenceAdamRestIdeal.τ).loc Cert.ReferenceAdamRestIdeal.main_arg39) = m' ((c.tc : Thread Cert.ReferenceAdamRestIdeal.nD Cert.ReferenceAdamRestIdeal.τ).loc Cert.ReferenceAdamRestIdeal.main_arg39)
          ∧ r.2.mem ((c.tc : Thread Cert.ReferenceAdamRestIdeal.nD Cert.ReferenceAdamRestIdeal.τ).loc Cert.ReferenceAdamRestIdeal.main_arg40) = m' ((c.tc : Thread Cert.ReferenceAdamRestIdeal.nD Cert.ReferenceAdamRestIdeal.τ).loc Cert.ReferenceAdamRestIdeal.main_arg40)
          ∧ r.2.mem ((c.tc : Thread Cert.ReferenceAdamRestIdeal.nD Cert.ReferenceAdamRestIdeal.τ).loc Cert.ReferenceAdamRestIdeal.main_arg41) = m' ((c.tc : Thread Cert.ReferenceAdamRestIdeal.nD Cert.ReferenceAdamRestIdeal.τ).loc Cert.ReferenceAdamRestIdeal.main_arg41)
          ∧ r.2.mem ((c.tc : Thread Cert.ReferenceAdamRestIdeal.nD Cert.ReferenceAdamRestIdeal.τ).loc Cert.ReferenceAdamRestIdeal.main_arg42) = m' ((c.tc : Thread Cert.ReferenceAdamRestIdeal.nD Cert.ReferenceAdamRestIdeal.τ).loc Cert.ReferenceAdamRestIdeal.main_arg42)
          ∧ r.2.mem ((c.tc : Thread Cert.ReferenceAdamRestIdeal.nD Cert.ReferenceAdamRestIdeal.τ).loc Cert.ReferenceAdamRestIdeal.main_arg43) = m' ((c.tc : Thread Cert.ReferenceAdamRestIdeal.nD Cert.ReferenceAdamRestIdeal.τ).loc Cert.ReferenceAdamRestIdeal.main_arg43)
          ∧ r.2.mem ((c.tc : Thread Cert.ReferenceAdamRestIdeal.nD Cert.ReferenceAdamRestIdeal.τ).loc Cert.ReferenceAdamRestIdeal.main_arg44) = m' ((c.tc : Thread Cert.ReferenceAdamRestIdeal.nD Cert.ReferenceAdamRestIdeal.τ).loc Cert.ReferenceAdamRestIdeal.main_arg44)
          ∧ r.2.mem ((c.tc : Thread Cert.ReferenceAdamRestIdeal.nD Cert.ReferenceAdamRestIdeal.τ).loc Cert.ReferenceAdamRestIdeal.main_arg45) = m' ((c.tc : Thread Cert.ReferenceAdamRestIdeal.nD Cert.ReferenceAdamRestIdeal.τ).loc Cert.ReferenceAdamRestIdeal.main_arg45)
          ∧ r.2.mem ((c.tc : Thread Cert.ReferenceAdamRestIdeal.nD Cert.ReferenceAdamRestIdeal.τ).loc Cert.ReferenceAdamRestIdeal.main_arg46) = m' ((c.tc : Thread Cert.ReferenceAdamRestIdeal.nD Cert.ReferenceAdamRestIdeal.τ).loc Cert.ReferenceAdamRestIdeal.main_arg46)
          ∧ r.2.mem ((c.tc : Thread Cert.ReferenceAdamRestIdeal.nD Cert.ReferenceAdamRestIdeal.τ).loc Cert.ReferenceAdamRestIdeal.main_arg47) = m' ((c.tc : Thread Cert.ReferenceAdamRestIdeal.nD Cert.ReferenceAdamRestIdeal.τ).loc Cert.ReferenceAdamRestIdeal.main_arg47))

def preserves_KernelCond_KernelCondIdeal : Prop :=
  True

def algebraic_KernelCondIdeal_ReferenceCondIdeal [hKernelCondIdeal : Cert.KernelCondIdeal.Facts] [hReferenceCondIdeal : Cert.ReferenceCondIdeal.Facts] : Prop :=
  ∀ (m : (ℓ : Loc Cert.KernelCondIdeal.nD Cert.KernelCondIdeal.τ Cert.KernelCondIdeal.sig) → Buf (Elt Ideal) ℓ) (g : Dev Cert.KernelCondIdeal.nD → PrngReg)
    (m' : (ℓ : Loc Cert.ReferenceCondIdeal.nD Cert.ReferenceCondIdeal.τ Cert.ReferenceCondIdeal.sig) → Buf (Elt Ideal) ℓ) (g' : Dev Cert.ReferenceCondIdeal.nD → PrngReg), Pre_KernelCondIdeal m →
    (∀ c : Dev Cert.KernelCondIdeal.nD,
      m' ((c.tc : Thread Cert.ReferenceCondIdeal.nD Cert.ReferenceCondIdeal.τ).loc Cert.ReferenceCondIdeal.main_arg0) = m ((c.tc : Thread Cert.KernelCondIdeal.nD Cert.KernelCondIdeal.τ).loc Cert.KernelCondIdeal.main_arg0)
      ∧ m' ((c.tc : Thread Cert.ReferenceCondIdeal.nD Cert.ReferenceCondIdeal.τ).loc Cert.ReferenceCondIdeal.main_arg1) = m ((c.tc : Thread Cert.KernelCondIdeal.nD Cert.KernelCondIdeal.τ).loc Cert.KernelCondIdeal.main_arg1)
      ∧ m' ((c.tc : Thread Cert.ReferenceCondIdeal.nD Cert.ReferenceCondIdeal.τ).loc Cert.ReferenceCondIdeal.main_arg2) = m ((c.tc : Thread Cert.KernelCondIdeal.nD Cert.KernelCondIdeal.τ).loc Cert.KernelCondIdeal.main_arg2)) →
    ∃ (v0 : (c : Dev Cert.KernelCondIdeal.nD) → Buf (Elt Ideal) ((c.tc : Thread Cert.KernelCondIdeal.nD Cert.KernelCondIdeal.τ).loc Cert.KernelCondIdeal.main_v0)),
      θ_run (Cert.KernelCondIdeal.defs (F := Ideal)) (onTc (τ := Cert.KernelCondIdeal.τ) (Cert.KernelCondIdeal.main (F := Ideal))) ⟨m, fun _ => 0, g⟩ (fun r => ∀ c : Dev Cert.KernelCondIdeal.nD,
          r.2.mem ((c.tc : Thread Cert.KernelCondIdeal.nD Cert.KernelCondIdeal.τ).loc Cert.KernelCondIdeal.main_v0) = v0 c
          ∧ r.2.mem ((c.tc : Thread Cert.KernelCondIdeal.nD Cert.KernelCondIdeal.τ).loc Cert.KernelCondIdeal.main_arg0) = m ((c.tc : Thread Cert.KernelCondIdeal.nD Cert.KernelCondIdeal.τ).loc Cert.KernelCondIdeal.main_arg0)
          ∧ r.2.mem ((c.tc : Thread Cert.KernelCondIdeal.nD Cert.KernelCondIdeal.τ).loc Cert.KernelCondIdeal.main_arg1) = m ((c.tc : Thread Cert.KernelCondIdeal.nD Cert.KernelCondIdeal.τ).loc Cert.KernelCondIdeal.main_arg1)
          ∧ r.2.mem ((c.tc : Thread Cert.KernelCondIdeal.nD Cert.KernelCondIdeal.τ).loc Cert.KernelCondIdeal.main_arg2) = m ((c.tc : Thread Cert.KernelCondIdeal.nD Cert.KernelCondIdeal.τ).loc Cert.KernelCondIdeal.main_arg2))
      ∧ θ_run (Cert.ReferenceCondIdeal.defs (F := Ideal)) (onTc (τ := Cert.ReferenceCondIdeal.τ) (Cert.ReferenceCondIdeal.main (F := Ideal))) ⟨m', fun _ => 0, g'⟩ (fun r => ∀ c : Dev Cert.ReferenceCondIdeal.nD,
          r.2.mem ((c.tc : Thread Cert.ReferenceCondIdeal.nD Cert.ReferenceCondIdeal.τ).loc Cert.ReferenceCondIdeal.main_v3) = v0 c
          ∧ r.2.mem ((c.tc : Thread Cert.ReferenceCondIdeal.nD Cert.ReferenceCondIdeal.τ).loc Cert.ReferenceCondIdeal.main_arg0) = m' ((c.tc : Thread Cert.ReferenceCondIdeal.nD Cert.ReferenceCondIdeal.τ).loc Cert.ReferenceCondIdeal.main_arg0)
          ∧ r.2.mem ((c.tc : Thread Cert.ReferenceCondIdeal.nD Cert.ReferenceCondIdeal.τ).loc Cert.ReferenceCondIdeal.main_arg1) = m' ((c.tc : Thread Cert.ReferenceCondIdeal.nD Cert.ReferenceCondIdeal.τ).loc Cert.ReferenceCondIdeal.main_arg1)
          ∧ r.2.mem ((c.tc : Thread Cert.ReferenceCondIdeal.nD Cert.ReferenceCondIdeal.τ).loc Cert.ReferenceCondIdeal.main_arg2) = m' ((c.tc : Thread Cert.ReferenceCondIdeal.nD Cert.ReferenceCondIdeal.τ).loc Cert.ReferenceCondIdeal.main_arg2))

def preserves_KernelCondW_KernelCondWIdeal : Prop :=
  True

def algebraic_KernelCondWIdeal_ReferenceCondWIdeal [hKernelCondWIdeal : Cert.KernelCondWIdeal.Facts] [hReferenceCondWIdeal : Cert.ReferenceCondWIdeal.Facts] : Prop :=
  ∀ (m : (ℓ : Loc Cert.KernelCondWIdeal.nD Cert.KernelCondWIdeal.τ Cert.KernelCondWIdeal.sig) → Buf (Elt Ideal) ℓ) (g : Dev Cert.KernelCondWIdeal.nD → PrngReg)
    (m' : (ℓ : Loc Cert.ReferenceCondWIdeal.nD Cert.ReferenceCondWIdeal.τ Cert.ReferenceCondWIdeal.sig) → Buf (Elt Ideal) ℓ) (g' : Dev Cert.ReferenceCondWIdeal.nD → PrngReg), Pre_KernelCondWIdeal m →
    (∀ c : Dev Cert.KernelCondWIdeal.nD,
      m' ((c.tc : Thread Cert.ReferenceCondWIdeal.nD Cert.ReferenceCondWIdeal.τ).loc Cert.ReferenceCondWIdeal.main_arg0) = m ((c.tc : Thread Cert.KernelCondWIdeal.nD Cert.KernelCondWIdeal.τ).loc Cert.KernelCondWIdeal.main_arg0)
      ∧ m' ((c.tc : Thread Cert.ReferenceCondWIdeal.nD Cert.ReferenceCondWIdeal.τ).loc Cert.ReferenceCondWIdeal.main_arg1) = m ((c.tc : Thread Cert.KernelCondWIdeal.nD Cert.KernelCondWIdeal.τ).loc Cert.KernelCondWIdeal.main_arg1)) →
    ∃ (v0 : (c : Dev Cert.KernelCondWIdeal.nD) → Buf (Elt Ideal) ((c.tc : Thread Cert.KernelCondWIdeal.nD Cert.KernelCondWIdeal.τ).loc Cert.KernelCondWIdeal.main_v0)),
      θ_run (Cert.KernelCondWIdeal.defs (F := Ideal)) (onTc (τ := Cert.KernelCondWIdeal.τ) (Cert.KernelCondWIdeal.main (F := Ideal))) ⟨m, fun _ => 0, g⟩ (fun r => ∀ c : Dev Cert.KernelCondWIdeal.nD,
          r.2.mem ((c.tc : Thread Cert.KernelCondWIdeal.nD Cert.KernelCondWIdeal.τ).loc Cert.KernelCondWIdeal.main_v0) = v0 c
          ∧ r.2.mem ((c.tc : Thread Cert.KernelCondWIdeal.nD Cert.KernelCondWIdeal.τ).loc Cert.KernelCondWIdeal.main_arg0) = m ((c.tc : Thread Cert.KernelCondWIdeal.nD Cert.KernelCondWIdeal.τ).loc Cert.KernelCondWIdeal.main_arg0)
          ∧ r.2.mem ((c.tc : Thread Cert.KernelCondWIdeal.nD Cert.KernelCondWIdeal.τ).loc Cert.KernelCondWIdeal.main_arg1) = m ((c.tc : Thread Cert.KernelCondWIdeal.nD Cert.KernelCondWIdeal.τ).loc Cert.KernelCondWIdeal.main_arg1))
      ∧ θ_run (Cert.ReferenceCondWIdeal.defs (F := Ideal)) (onTc (τ := Cert.ReferenceCondWIdeal.τ) (Cert.ReferenceCondWIdeal.main (F := Ideal))) ⟨m', fun _ => 0, g'⟩ (fun r => ∀ c : Dev Cert.ReferenceCondWIdeal.nD,
          r.2.mem ((c.tc : Thread Cert.ReferenceCondWIdeal.nD Cert.ReferenceCondWIdeal.τ).loc Cert.ReferenceCondWIdeal.main_v7) = v0 c
          ∧ r.2.mem ((c.tc : Thread Cert.ReferenceCondWIdeal.nD Cert.ReferenceCondWIdeal.τ).loc Cert.ReferenceCondWIdeal.main_arg0) = m' ((c.tc : Thread Cert.ReferenceCondWIdeal.nD Cert.ReferenceCondWIdeal.τ).loc Cert.ReferenceCondWIdeal.main_arg0)
          ∧ r.2.mem ((c.tc : Thread Cert.ReferenceCondWIdeal.nD Cert.ReferenceCondWIdeal.τ).loc Cert.ReferenceCondWIdeal.main_arg1) = m' ((c.tc : Thread Cert.ReferenceCondWIdeal.nD Cert.ReferenceCondWIdeal.τ).loc Cert.ReferenceCondWIdeal.main_arg1))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)
      ∧ m' ((c.tc : Thread Cert.ReferencePostIdeal.nD Cert.ReferencePostIdeal.τ).loc Cert.ReferencePostIdeal.main_arg4) = m ((c.tc : Thread Cert.KernelPostIdeal.nD Cert.KernelPostIdeal.τ).loc Cert.KernelPostIdeal.main_arg4)) →
    ∃ (v0 : (c : Dev Cert.KernelPostIdeal.nD) → Buf (Elt Ideal) ((c.tc : Thread Cert.KernelPostIdeal.nD Cert.KernelPostIdeal.τ).loc Cert.KernelPostIdeal.main_v0_0)) (v1 : (c : Dev Cert.KernelPostIdeal.nD) → Buf (Elt Ideal) ((c.tc : Thread Cert.KernelPostIdeal.nD Cert.KernelPostIdeal.τ).loc Cert.KernelPostIdeal.main_v0_1)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v0_0) = v0 c
          ∧ r.2.mem ((c.tc : Thread Cert.KernelPostIdeal.nD Cert.KernelPostIdeal.τ).loc Cert.KernelPostIdeal.main_v0_1) = v1 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
          ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v49) = v0 c
          ∧ r.2.mem ((c.tc : Thread Cert.ReferencePostIdeal.nD Cert.ReferencePostIdeal.τ).loc Cert.ReferencePostIdeal.main_v50) = v1 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3)
          ∧ r.2.mem ((c.tc : Thread Cert.ReferencePostIdeal.nD Cert.ReferencePostIdeal.τ).loc Cert.ReferencePostIdeal.main_arg4) = m' ((c.tc : Thread Cert.ReferencePostIdeal.nD Cert.ReferencePostIdeal.τ).loc Cert.ReferencePostIdeal.main_arg4))

def Claim : Prop :=
  ∃ (hKernel : Cert.Kernel.Facts) (hKernelIdeal : Cert.KernelIdeal.Facts) (hReferenceIdeal : Cert.ReferenceIdeal.Facts) (hKernelGw : Cert.KernelGw.Facts) (hKernelGwIdeal : Cert.KernelGwIdeal.Facts) (hReferenceGwIdeal : Cert.ReferenceGwIdeal.Facts) (hKernelDu : Cert.KernelDu.Facts) (hKernelDuIdeal : Cert.KernelDuIdeal.Facts) (hReferenceDuIdeal : Cert.ReferenceDuIdeal.Facts) (hKernelGm : Cert.KernelGm.Facts) (hKernelGmIdeal : Cert.KernelGmIdeal.Facts) (hReferenceGmIdeal : Cert.ReferenceGmIdeal.Facts) (hKernelGo : Cert.KernelGo.Facts) (hKernelGoIdeal : Cert.KernelGoIdeal.Facts) (hReferenceGoIdeal : Cert.ReferenceGoIdeal.Facts) (hKernelProj : Cert.KernelProj.Facts) (hKernelProjIdeal : Cert.KernelProjIdeal.Facts) (hReferenceProjIdeal : Cert.ReferenceProjIdeal.Facts) (hKernelGates : Cert.KernelGates.Facts) (hKernelGatesIdeal : Cert.KernelGatesIdeal.Facts) (hReferenceGatesIdeal : Cert.ReferenceGatesIdeal.Facts) (hKernelNorm : Cert.KernelNorm.Facts) (hKernelNormIdeal : Cert.KernelNormIdeal.Facts) (hReferenceNormIdeal : Cert.ReferenceNormIdeal.Facts) (hKernelSsd : Cert.KernelSsd.Facts) (hKernelSsdIdeal : Cert.KernelSsdIdeal.Facts) (hKernelAdamIn : Cert.KernelAdamIn.Facts) (hKernelAdamInIdeal : Cert.KernelAdamInIdeal.Facts) (hReferenceAdamInIdeal : Cert.ReferenceAdamInIdeal.Facts) (hKernelAdamAda : Cert.KernelAdamAda.Facts) (hKernelAdamAdaIdeal : Cert.KernelAdamAdaIdeal.Facts) (hReferenceAdamAdaIdeal : Cert.ReferenceAdamAdaIdeal.Facts) (hKernelAdamProj : Cert.KernelAdamProj.Facts) (hKernelAdamProjIdeal : Cert.KernelAdamProjIdeal.Facts) (hReferenceAdamProjIdeal : Cert.ReferenceAdamProjIdeal.Facts) (hKernelAdamOut : Cert.KernelAdamOut.Facts) (hKernelAdamOutIdeal : Cert.KernelAdamOutIdeal.Facts) (hReferenceAdamOutIdeal : Cert.ReferenceAdamOutIdeal.Facts) (hKernelPre : Cert.KernelPre.Facts) (hKernelPreIdeal : Cert.KernelPreIdeal.Facts) (hReferencePreIdeal : Cert.ReferencePreIdeal.Facts) (hKernelAdamRest : Cert.KernelAdamRest.Facts) (hKernelAdamRestIdeal : Cert.KernelAdamRestIdeal.Facts) (hReferenceAdamRestIdeal : Cert.ReferenceAdamRestIdeal.Facts) (hKernelCond : Cert.KernelCond.Facts) (hKernelCondIdeal : Cert.KernelCondIdeal.Facts) (hReferenceCondIdeal : Cert.ReferenceCondIdeal.Facts) (hKernelCondW : Cert.KernelCondW.Facts) (hKernelCondWIdeal : Cert.KernelCondWIdeal.Facts) (hReferenceCondWIdeal : Cert.ReferenceCondWIdeal.Facts) (hKernelPost : Cert.KernelPost.Facts) (hKernelPostIdeal : Cert.KernelPostIdeal.Facts) (hReferencePostIdeal : Cert.ReferencePostIdeal.Facts) (hPre_numbers : Cert.Pre_numbers.Facts) (hOn_written : Cert.On_written.Facts) (hOn_shifts : Cert.On_shifts.Facts),
    quiescent_Kernel (hKernel := hKernel)
    ∧ quiescent_KernelIdeal (hKernelIdeal := hKernelIdeal)
    ∧ quiescent_ReferenceIdeal (hReferenceIdeal := hReferenceIdeal)
    ∧ quiescent_KernelGw (hKernelGw := hKernelGw)
    ∧ quiescent_KernelGwIdeal (hKernelGwIdeal := hKernelGwIdeal)
    ∧ quiescent_ReferenceGwIdeal (hReferenceGwIdeal := hReferenceGwIdeal)
    ∧ quiescent_KernelDu (hKernelDu := hKernelDu)
    ∧ quiescent_KernelDuIdeal (hKernelDuIdeal := hKernelDuIdeal)
    ∧ quiescent_ReferenceDuIdeal (hReferenceDuIdeal := hReferenceDuIdeal)
    ∧ quiescent_KernelGm (hKernelGm := hKernelGm)
    ∧ quiescent_KernelGmIdeal (hKernelGmIdeal := hKernelGmIdeal)
    ∧ quiescent_ReferenceGmIdeal (hReferenceGmIdeal := hReferenceGmIdeal)
    ∧ quiescent_KernelGo (hKernelGo := hKernelGo)
    ∧ quiescent_KernelGoIdeal (hKernelGoIdeal := hKernelGoIdeal)
    ∧ quiescent_ReferenceGoIdeal (hReferenceGoIdeal := hReferenceGoIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelNorm (hKernelNorm := hKernelNorm)
    ∧ quiescent_KernelNormIdeal (hKernelNormIdeal := hKernelNormIdeal)
    ∧ quiescent_KernelNormIdeal_pre_numbers (hKernelNormIdeal := hKernelNormIdeal) (hPre_numbers := hPre_numbers)
    ∧ quiescent_ReferenceNormIdeal (hReferenceNormIdeal := hReferenceNormIdeal)
    ∧ quiescent_ReferenceNormIdeal_pre_numbers (hReferenceNormIdeal := hReferenceNormIdeal) (hPre_numbers := hPre_numbers)
    ∧ quiescent_KernelSsd (hKernelSsd := hKernelSsd)
    ∧ quiescent_KernelSsdIdeal (hKernelSsdIdeal := hKernelSsdIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamAda (hKernelAdamAda := hKernelAdamAda)
    ∧ quiescent_KernelAdamAdaIdeal (hKernelAdamAdaIdeal := hKernelAdamAdaIdeal)
    ∧ quiescent_ReferenceAdamAdaIdeal (hReferenceAdamAdaIdeal := hReferenceAdamAdaIdeal)
    ∧ quiescent_KernelAdamProj (hKernelAdamProj := hKernelAdamProj)
    ∧ quiescent_KernelAdamProjIdeal (hKernelAdamProjIdeal := hKernelAdamProjIdeal)
    ∧ quiescent_ReferenceAdamProjIdeal (hReferenceAdamProjIdeal := hReferenceAdamProjIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelPre (hKernelPre := hKernelPre)
    ∧ quiescent_KernelPreIdeal (hKernelPreIdeal := hKernelPreIdeal)
    ∧ quiescent_ReferencePreIdeal (hReferencePreIdeal := hReferencePreIdeal)
    ∧ quiescent_KernelAdamRest (hKernelAdamRest := hKernelAdamRest)
    ∧ quiescent_KernelAdamRestIdeal (hKernelAdamRestIdeal := hKernelAdamRestIdeal)
    ∧ quiescent_ReferenceAdamRestIdeal (hReferenceAdamRestIdeal := hReferenceAdamRestIdeal)
    ∧ quiescent_KernelCond (hKernelCond := hKernelCond)
    ∧ quiescent_KernelCondIdeal (hKernelCondIdeal := hKernelCondIdeal)
    ∧ quiescent_ReferenceCondIdeal (hReferenceCondIdeal := hReferenceCondIdeal)
    ∧ quiescent_KernelCondW (hKernelCondW := hKernelCondW)
    ∧ quiescent_KernelCondWIdeal (hKernelCondWIdeal := hKernelCondWIdeal)
    ∧ quiescent_ReferenceCondWIdeal (hReferenceCondWIdeal := hReferenceCondWIdeal)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ preserves_Kernel_KernelIdeal
    ∧ algebraic_KernelIdeal_ReferenceIdeal_on_written (hKernelIdeal := hKernelIdeal) (hReferenceIdeal := hReferenceIdeal) (hOn_written := hOn_written)
    ∧ preserves_KernelGw_KernelGwIdeal
    ∧ algebraic_KernelGwIdeal_ReferenceGwIdeal (hKernelGwIdeal := hKernelGwIdeal) (hReferenceGwIdeal := hReferenceGwIdeal)
    ∧ preserves_KernelDu_KernelDuIdeal
    ∧ algebraic_KernelDuIdeal_ReferenceDuIdeal (hKernelDuIdeal := hKernelDuIdeal) (hReferenceDuIdeal := hReferenceDuIdeal)
    ∧ preserves_KernelGm_KernelGmIdeal
    ∧ algebraic_KernelGmIdeal_ReferenceGmIdeal (hKernelGmIdeal := hKernelGmIdeal) (hReferenceGmIdeal := hReferenceGmIdeal)
    ∧ preserves_KernelGo_KernelGoIdeal
    ∧ algebraic_KernelGoIdeal_ReferenceGoIdeal (hKernelGoIdeal := hKernelGoIdeal) (hReferenceGoIdeal := hReferenceGoIdeal)
    ∧ preserves_KernelProj_KernelProjIdeal
    ∧ algebraic_KernelProjIdeal_ReferenceProjIdeal (hKernelProjIdeal := hKernelProjIdeal) (hReferenceProjIdeal := hReferenceProjIdeal)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelNorm_KernelNormIdeal
    ∧ algebraic_KernelNormIdeal_ReferenceNormIdeal_on_shifts (hKernelNormIdeal := hKernelNormIdeal) (hReferenceNormIdeal := hReferenceNormIdeal) (hOn_shifts := hOn_shifts)
    ∧ algebraic_KernelNormIdeal_ReferenceNormIdeal_pre_numbers (hKernelNormIdeal := hKernelNormIdeal) (hReferenceNormIdeal := hReferenceNormIdeal) (hPre_numbers := hPre_numbers)
    ∧ preserves_KernelSsd_KernelSsdIdeal
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamAda_KernelAdamAdaIdeal
    ∧ algebraic_KernelAdamAdaIdeal_ReferenceAdamAdaIdeal (hKernelAdamAdaIdeal := hKernelAdamAdaIdeal) (hReferenceAdamAdaIdeal := hReferenceAdamAdaIdeal)
    ∧ preserves_KernelAdamProj_KernelAdamProjIdeal
    ∧ algebraic_KernelAdamProjIdeal_ReferenceAdamProjIdeal (hKernelAdamProjIdeal := hKernelAdamProjIdeal) (hReferenceAdamProjIdeal := hReferenceAdamProjIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelPre_KernelPreIdeal
    ∧ algebraic_KernelPreIdeal_ReferencePreIdeal (hKernelPreIdeal := hKernelPreIdeal) (hReferencePreIdeal := hReferencePreIdeal)
    ∧ preserves_KernelAdamRest_KernelAdamRestIdeal
    ∧ algebraic_KernelAdamRestIdeal_ReferenceAdamRestIdeal (hKernelAdamRestIdeal := hKernelAdamRestIdeal) (hReferenceAdamRestIdeal := hReferenceAdamRestIdeal)
    ∧ preserves_KernelCond_KernelCondIdeal
    ∧ algebraic_KernelCondIdeal_ReferenceCondIdeal (hKernelCondIdeal := hKernelCondIdeal) (hReferenceCondIdeal := hReferenceCondIdeal)
    ∧ preserves_KernelCondW_KernelCondWIdeal
    ∧ algebraic_KernelCondWIdeal_ReferenceCondWIdeal (hKernelCondWIdeal := hKernelCondWIdeal) (hReferenceCondWIdeal := hReferenceCondWIdeal)
    ∧ preserves_KernelPost_KernelPostIdeal
    ∧ algebraic_KernelPostIdeal_ReferencePostIdeal (hKernelPostIdeal := hKernelPostIdeal) (hReferencePostIdeal := hReferencePostIdeal)
-- ==== On_shifts.lean ====
abbrev S8192x1024 : Shape := ⟨2, ![8192, 1024]⟩
abbrev S1x1024 : Shape := ⟨2, ![1, 1024]⟩
abbrev S8x1024 : Shape := ⟨2, ![8, 1024]⟩
abbrev S_ : Shape := ⟨0, ![]⟩

class Facts : Prop where
  bcast_S_S8192x1024 : S_.BroadcastsInDim S8192x1024 (![] : Fin 0 → Fin S8192x1024.rank)
  bcast_S_S8x1024 : S_.BroadcastsInDim S8x1024 (![] : Fin 0 → Fin S8x1024.rank)

variable [Facts]

def fn {F : FTy → Type} [FloatOps F] (main_arg0 : FVec F S8192x1024 .f32) (main_arg1 : FVec F S8192x1024 .f32) (main_arg2 : FVec F S8192x1024 .f32) (main_arg3 : FVec F S1x1024 .f32) (main_arg4 : FVec F S1x1024 .f32) : IVec S8192x1024 1 × IVec S8x1024 1 :=
  let main_v0 : IVec S8x1024 32 := iotaInDim S8x1024 32 0
  let main_c : IVec S_ 1 := constantI S_ 1 1#1
  let main_v1 : IVec S8192x1024 1 := broadcastInDim S8192x1024 ![] bcast_S_S8192x1024 main_c
  let main_c_0 : IVec S_ 32 := constantI S_ 32 2#32
  let main_v2 : IVec S8x1024 32 := broadcastInDim S8x1024 ![] bcast_S_S8x1024 main_c_0
  let main_v3 : IVec S8x1024 1 := cmpi .sge main_v0 main_v2
  (main_v1, main_v3)
-- ==== On_written.lean ====
abbrev S8192x1024 : Shape := ⟨2, ![8192, 1024]⟩
abbrev S8192x2048 : Shape := ⟨2, ![8192, 2048]⟩
abbrev S8192x15872 : Shape := ⟨2, ![8192, 15872]⟩
abbrev S1x1024 : Shape := ⟨2, ![1, 1024]⟩
abbrev S2048x1024 : Shape := ⟨2, ![2048, 1024]⟩
abbrev S1024x1024 : Shape := ⟨2, ![1024, 1024]⟩
abbrev S_ : Shape := ⟨0, ![]⟩
abbrev S8x1024 : Shape := ⟨2, ![8, 1024]⟩

class Facts : Prop where
  bcast_S_S8192x1024 : S_.BroadcastsInDim S8192x1024 (![] : Fin 0 → Fin S8192x1024.rank)
  bcast_S_S8192x2048 : S_.BroadcastsInDim S8192x2048 (![] : Fin 0 → Fin S8192x2048.rank)
  bcast_S_S8192x15872 : S_.BroadcastsInDim S8192x15872 (![] : Fin 0 → Fin S8192x15872.rank)
  bcast_S_S8x1024 : S_.BroadcastsInDim S8x1024 (![] : Fin 0 → Fin S8x1024.rank)

variable [Facts]

def fn {F : FTy → Type} [FloatOps F] (main_arg0 : FVec F S8192x1024 .f32) (main_arg1 : FVec F S8192x2048 .bf16) (main_arg2 : FVec F S8192x2048 .bf16) (main_arg3 : FVec F S8192x15872 .bf16) (main_arg4 : FVec F S8192x1024 .f32) (main_arg5 : FVec F S1x1024 .f32) (main_arg6 : FVec F S1x1024 .f32) (main_arg7 : FVec F S2048x1024 .bf16) (main_arg8 : FVec F S2048x1024 .bf16) (main_arg9 : FVec F S1024x1024 .bf16) : IVec S8192x1024 1 × IVec S8192x1024 1 × IVec S8192x1024 1 × IVec S8192x1024 1 × IVec S8192x1024 1 × IVec S8192x2048 1 × IVec S8192x2048 1 × IVec S8192x15872 1 × IVec S8x1024 1 :=
  let main_v0 : IVec S8192x15872 32 := iotaInDim S8192x15872 32 1
  let main_c : IVec S_ 1 := constantI S_ 1 1#1
  let main_v1 : IVec S8192x1024 1 := broadcastInDim S8192x1024 ![] bcast_S_S8192x1024 main_c
  let main_c_0 : IVec S_ 1 := constantI S_ 1 1#1
  let main_v2 : IVec S8192x2048 1 := broadcastInDim S8192x2048 ![] bcast_S_S8192x2048 main_c_0
  let main_c_1 : IVec S_ 32 := constantI S_ 32 6144#32
  let main_v3 : IVec S8192x15872 32 := broadcastInDim S8192x15872 ![] bcast_S_S8192x15872 main_c_1
  let main_v4 : IVec S8192x15872 1 := cmpi .sge main_v0 main_v3
  let main_c_2 : IVec S_ 32 := constantI S_ 32 8192#32
  let main_v5 : IVec S8192x15872 32 := broadcastInDim S8192x15872 ![] bcast_S_S8192x15872 main_c_2
  let main_v6 : IVec S8192x15872 1 := cmpi .slt main_v0 main_v5
  let main_v7 : IVec S8192x15872 1 := andi main_v4 main_v6
  let main_c_3 : IVec S_ 1 := constantI S_ 1 1#1
  let main_v8 : IVec S8x1024 1 := broadcastInDim S8x1024 ![] bcast_S_S8x1024 main_c_3
  (main_v1, main_v1, main_v1, main_v1, main_v1, main_v2, main_v2, main_v7, main_v8)
-- ==== Pre_numbers.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  main_v19

def fn {F : FTy → Type} [FloatOps F] (main_arg0 : FVec F S8192x1024 .f32) (main_arg1 : FVec F S8192x1024 .f32) (main_arg2 : FVec F S8192x1024 .f32) (main_arg3 : FVec F S1x1024 .f32) (main_arg4 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S8192x1024 .f32 := Host.absf main_arg1
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_v5 main_v6
  let main_c_2 : IVec S_ 1 := constantI S_ 1 1#1
  let main_v8 : IVec S_ 1 := (fun x v => Host.reduce IntOp.andi x v reducesTo_S8192x1024_S_d0_1 h_S_) main_v7 main_c_2
  let main_v9 : IVec S_ 1 := andi main_v4 main_v8
  let main_v10 : FVec F S1x1024 .f32 := Host.absf main_arg3
  let main_cst_3 : FVec F S_ .f32 := constant S_ .f32 0x7F800000#32
  let main_v11 : FVec F S1x1024 .f32 := broadcastInDim S1x1024 ![] bcast_S_S1x1024 main_cst_3
  let main_v12 : IVec S1x1024 1 := cmpf .olt main_v10 main_v11
  let main_c_4 : IVec S_ 1 := constantI S_ 1 1#1
  let main_v13 : IVec S_ 1 := (fun x v => Host.reduce IntOp.andi x v reducesTo_S1x1024_S_d0_1 h_S_) main_v12 main_c_4
  let main_v14 : IVec S_ 1 := andi main_v9 main_v13
  let main_v15 : FVec F S1x1024 .f32 := Host.absf main_arg4
  let main_cst_5 : FVec F S_ .f32 := constant S_ .f32 0x7F800000#32
  fn_part1 (F := F) main_v14 main_v15 main_cst_5
-- ==== Kernel.lean ====
abbrev S8192x1024 : Shape := ⟨2, ![8192, 1024]⟩
abbrev S8192x2048 : Shape := ⟨2, ![8192, 2048]⟩
abbrev S8192x15872 : Shape := ⟨2, ![8192, 15872]⟩
abbrev S1x1024 : Shape := ⟨2, ![1, 1024]⟩
abbrev S2048x1024 : Shape := ⟨2, ![2048, 1024]⟩
abbrev S1024x1024 : Shape := ⟨2, ![1024, 1024]⟩
abbrev S1024x2048 : Shape := ⟨2, ![1024, 2048]⟩
abbrev S8x1024 : Shape := ⟨2, ![8, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 22
  | .vmem => 35
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S8192x2048, .bf16⟩
  | .hbm, ⟨3, _⟩ => ⟨S8192x15872, .bf16⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S2048x1024, .bf16⟩
  | .hbm, ⟨8, _⟩ => ⟨S2048x1024, .bf16⟩
  | .hbm, ⟨9, _⟩ => ⟨S1024x1024, .bf16⟩
  | .hbm, ⟨10, _⟩ => ⟨S1024x2048, .bf16⟩
  | .hbm, ⟨11, _⟩ => ⟨S1024x2048, .bf16⟩
  | .hbm, ⟨12, _⟩ => ⟨S1024x1024, .bf16⟩
  | .hbm, ⟨13, _⟩ => ⟨S8192x1024, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x2048, .bf16⟩
  | .hbm, ⟨19, _⟩ => ⟨S8192x2048, .bf16⟩
  | .hbm, ⟨20, _⟩ => ⟨S8192x15872, .bf16⟩
  | .hbm, ⟨21, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S2048x1024, .bf16⟩
  | .local _ .vmem, ⟨13, _⟩ => ⟨S2048x1024, .bf16⟩
  | .local _ .vmem, ⟨14, _⟩ => ⟨S1024x1024, .bf16⟩
  | .local _ .vmem, ⟨15, _⟩ => ⟨S1024x2048, .bf16⟩
  | .local _ .vmem, ⟨16, _⟩ => ⟨S1024x2048, .bf16⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x2048, .bf16⟩
  | .local _ .vmem, ⟨29, _⟩ => ⟨S256x2048, .bf16⟩
  | .local _ .vmem, ⟨30, _⟩ => ⟨S256x2048, .bf16⟩
  | .local _ .vmem, ⟨31, _⟩ => ⟨S256x2048, .bf16⟩
  | .local _ .vmem, ⟨32, _⟩ => ⟨S256x2048, .bf16⟩
  | .local _ .vmem, ⟨33, _⟩ => ⟨S256x2048, .bf16⟩
  | .local _ .vmem, ⟨34, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev main_v3_7 : Ref sig .tc := ⟨.hbm, 20, rfl⟩
abbrev main_v3_8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceIdeal.lean ====
abbrev S8192x1024 : Shape := ⟨2, ![8192, 1024]⟩
abbrev S8192x2048 : Shape := ⟨2, ![8192, 2048]⟩
abbrev S8192x15872 : Shape := ⟨2, ![8192, 15872]⟩
abbrev S1x1024 : Shape := ⟨2, ![1, 1024]⟩
abbrev S2048x1024 : Shape := ⟨2, ![2048, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩
abbrev S5x1024 : Shape := ⟨2, ![5, 1024]⟩
abbrev S8x1024 : Shape := ⟨2, ![8, 1024]⟩

abbrev nBuf : Space → Nat
  | .hbm => 135
  | .vmem => 0
  | .smem => 0
  | _ => 0

abbrev hbmTy0_0 (i : Nat) : BufTy := match i % 128 with
  | 0 => ⟨S8192x1024, .f32⟩
  | 1 => ⟨S8192x2048, .bf16⟩
  | 2 => ⟨S8192x2048, .bf16⟩
  | 3 => ⟨S8192x15872, .bf16⟩
  | 4 => ⟨S8192x1024, .f32⟩
  | 5 => ⟨S1x1024, .f32⟩
  | 6 => ⟨S1x1024, .f32⟩
  | 7 => ⟨S2048x1024, .bf16⟩
  | 8 => ⟨S2048x1024, .bf16⟩
  | 9 => ⟨S1024x1024, .bf16⟩
  | 10 => ⟨S8192x2048, .f32⟩
  | 11 => ⟨S8192x2048, .f32⟩
  | 12 => ⟨S2048x1024, .f32⟩
  | 13 => ⟨S2048x1024, .f32⟩
  | 14 => ⟨S1024x1024, .f32⟩
  | 15 => ⟨S8192x2048, .bf16⟩
  | 16 => ⟨S8192x2048, .f32⟩
  | 17 => ⟨S8192x1024, .f32⟩
  | 18 => ⟨S8192x1024, .f32⟩
  | 19 => ⟨S8192x2048, .f32⟩
  | 20 => ⟨S8192x2048, .f32⟩
  | 21 => ⟨S_, .f32⟩
  | 22 => ⟨S8192x2048, .f32⟩
  | 23 => ⟨S8192x2048, .f32⟩
  | 24 => ⟨S_, .f32⟩
  | 25 => ⟨S8192x2048, .f32⟩
  | 26 => ⟨S8192x2048, .f32⟩
  | 27 => ⟨S_, .f32⟩
  | 28 => ⟨S8192x2048, .f32⟩
  | 29 => ⟨S8192x2048, .f32⟩
  | 30 => ⟨S8192x2048, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S_, .f32⟩
  | 42 => ⟨S8192, .f32⟩
  | 43 => ⟨S8192x1, .f32⟩
  | 44 => ⟨S_, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S_, .f32⟩
  | 65 => ⟨S8192, .f32⟩
  | 66 => ⟨S_, .f32⟩
  | 67 => ⟨S8192, .f32⟩
  | 68 => ⟨S8192, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S8192, .f32⟩
  | 77 => ⟨S_, .f32⟩
  | 78 => ⟨S8192, .f32⟩
  | 79 => ⟨S8192, .f32⟩
  | 80 => ⟨S8192x1024, .f32⟩
  | 81 => ⟨S8192x1024, .f32⟩
  | 82 => ⟨S8192x1024, .f32⟩
  | 83 => ⟨S_, .f32⟩
  | 84 => ⟨S1024, .f32⟩
  | 85 => ⟨S1x1024, .f32⟩
  | 86 => ⟨S8192x1024, .f32⟩
  | 87 => ⟨S8192x1024, .f32⟩
  | 88 => ⟨S8192x1024, .f32⟩
  | 89 => ⟨S_, .f32⟩
  | 90 => ⟨S8192, .f32⟩
  | 91 => ⟨S8192x1, .f32⟩
  | 92 => ⟨S8192x1024, .f32⟩
  | 93 => ⟨S8192x1024, .f32⟩
  | 94 => ⟨S8192x1, .f32⟩
  | 95 => ⟨S_, .f32⟩
  | 96 => ⟨S8192x1, .f32⟩
  | 97 => ⟨S8192x1, .f32⟩
  | 98 => ⟨S_, .f32⟩
  | 99 => ⟨S8192, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S_, .f32⟩
  | 109 => ⟨S1024, .f32⟩
  | 110 => ⟨S1x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x2048, .f32⟩
  | 117 => ⟨S8192x2048, .f32⟩
  | 118 => ⟨S8192x2048, .f32⟩
  | 119 => ⟨S8192x2048, .f32⟩
  | 120 => ⟨S1x1, .f32⟩
  | 121 => ⟨S1x1024, .f32⟩
  | 122 => ⟨S_, .f32⟩
  | 123 => ⟨S5x1024, .f32⟩
  | 124 => ⟨S8x1024, .f32⟩
  | 125 => ⟨S_, .i32⟩
  | 126 => ⟨S_, .f32⟩
  | 127 => ⟨S8192x15872, .f32⟩
  | _ => ⟨S8192x1024, .f32⟩

abbrev hbmTy0_1 (i : Nat) : BufTy := match i % 128 with
  | 0 => ⟨S8192x1024, .bf16⟩
  | 1 => ⟨S8192x1024, .bf16⟩
  | 2 => ⟨S8192x1024, .bf16⟩
  | 3 => ⟨S8192x1024, .bf16⟩
  | 4 => ⟨S8192x2048, .bf16⟩
  | 5 => ⟨S8192x2048, .bf16⟩
  | 6 => ⟨S8192x15872, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_cst_11 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_16 : Ref sig .tc := ⟨.hbm, 95, rfl⟩
abbrev main_v68 : Ref sig .tc := ⟨.hbm, 96, rfl⟩
abbrev main_v69 : Ref sig .tc := ⟨.hbm, 97, rfl⟩
abbrev main_cst_17 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_18 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_19 : Ref sig .tc := ⟨.hbm, 122, rfl⟩
abbrev main_v92 : Ref sig .tc := ⟨.hbm, 123, rfl⟩
abbrev main_v93 : Ref sig .tc := ⟨.hbm, 124, rfl⟩
abbrev main_c : Ref sig .tc := ⟨.hbm, 125, rfl⟩
abbrev main_call0_v0 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩

abbrev nD : Nat := 1
abbrev τ : Topo := Topo.v7x

variable {F : FTy → Type} [FloatOps F]
-- ==== KernelGw.lean ====
abbrev S8192x1024 : Shape := ⟨2, ![8192, 1024]⟩
abbrev S8192x15872 : Shape := ⟨2, ![8192, 15872]⟩
abbrev S1024x8192 : Shape := ⟨2, ![1024, 8192]⟩
abbrev S1024x15872 : Shape := ⟨2, ![1024, 15872]⟩
abbrev S1x15872 : Shape := ⟨2, ![1, 15872]⟩
abbrev S1024x4096 : Shape := ⟨2, ![1024, 4096]⟩
abbrev S4096x512 : Shape := ⟨2, ![4096, 512]⟩
abbrev S1024x512 : Shape := ⟨2, ![1024, 512]⟩
abbrev S1x512 : Shape := ⟨2, ![1, 512]⟩
abbrev S512 : Shape := ⟨1, ![512]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x15872, .bf16⟩
  | .hbm, ⟨2, _⟩ => ⟨S1024x8192, .bf16⟩
  | .hbm, ⟨3, _⟩ => ⟨S1024x15872, .bf16⟩
  | .hbm, ⟨4, _⟩ => ⟨S1x15872, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1x512, .f32⟩
  | .local _ .vmem, ⟨7, _⟩ => ⟨S1x512, .f32⟩
  | .local _ .vmem, ⟨8, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![31, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceGwIdeal.lean ====
abbrev S8192x1024 : Shape := ⟨2, ![8192, 1024]⟩
abbrev S8192x15872 : Shape := ⟨2, ![8192, 15872]⟩
abbrev S_ : Shape := ⟨0, ![]⟩
abbrev S1024x15872 : Shape := ⟨2, ![1024, 15872]⟩
abbrev S1x15872 : Shape := ⟨2, ![1, 15872]⟩
abbrev S15872 : Shape := ⟨1, ![15872]⟩
abbrev S15872x1024 : Shape := ⟨2, ![15872, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x15872, .bf16⟩
  | .hbm, ⟨2, _⟩ => ⟨S8192x1024, .f32⟩
  | .hbm, ⟨3, _⟩ => ⟨S_, .f32⟩
  | .hbm, ⟨4, _⟩ => ⟨S1024x15872, .f32⟩
  | .hbm, ⟨5, _⟩ => ⟨S_, .f32⟩
  | .hbm, ⟨6, _⟩ => ⟨S1x15872, .f32⟩
  | .hbm, ⟨7, _⟩ => ⟨S8192x15872, .f32⟩
  | .hbm, ⟨8, _⟩ => ⟨S8192x15872, .f32⟩
  | .hbm, ⟨9, _⟩ => ⟨S8192x15872, .f32⟩
  | .hbm, ⟨10, _⟩ => ⟨S8192x15872, .f32⟩
  | .hbm, ⟨11, _⟩ => ⟨S_, .f32⟩
  | .hbm, ⟨12, _⟩ => ⟨S15872, .f32⟩
  | .hbm, ⟨13, _⟩ => ⟨S1x15872, .f32⟩
  | .hbm, ⟨14, _⟩ => ⟨S15872x1024, .f32⟩
  | .hbm, ⟨15, _⟩ => ⟨S1024x15872, .f32⟩
  | .hbm, ⟨16, _⟩ => ⟨S1024x15872, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== KernelDu.lean ====
abbrev S8192x15872 : Shape := ⟨2, ![8192, 15872]⟩
abbrev S1024x15872 : Shape := ⟨2, ![1024, 15872]⟩
abbrev S8192x1024 : Shape := ⟨2, ![8192, 1024]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x15872, .bf16⟩
  | .hbm, ⟨1, _⟩ => ⟨S1024x15872, .bf16⟩
  | .hbm, ⟨2, _⟩ => ⟨S8192x1024, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | _, _ => ⟨S8192x15872, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 31], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDuIdeal.lean ====
abbrev S8192x15872 : Shape := ⟨2, ![8192, 15872]⟩
abbrev S1024x15872 : Shape := ⟨2, ![1024, 15872]⟩
abbrev S_ : Shape := ⟨0, ![]⟩
abbrev S8192x1024 : Shape := ⟨2, ![8192, 1024]⟩
abbrev S1x15872 : Shape := ⟨2, ![1, 15872]⟩

abbrev nBuf : Space → Nat
  | .hbm => 12
  | .vmem => 0
  | .smem => 0
  | _ => 0

abbrev bufTy : (tb : Table) → Fin (tcTables nBuf tb) → BufTy
  | .hbm, ⟨0, _⟩ => ⟨S8192x15872, .bf16⟩
  | .hbm, ⟨1, _⟩ => ⟨S1024x15872, .bf16⟩
  | .hbm, ⟨2, _⟩ => ⟨S1024x15872, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S1x15872, .f32⟩
  | .hbm, ⟨7, _⟩ => ⟨S8192x15872, .f32⟩
  | .hbm, ⟨8, _⟩ => ⟨S8192x15872, .f32⟩
  | .hbm, ⟨9, _⟩ => ⟨S8192x15872, .f32⟩
  | .hbm, ⟨10, _⟩ => ⟨S8192x15872, .f32⟩
  | .hbm, ⟨11, _⟩ => ⟨S8192x1024, .f32⟩
  | _, _ => ⟨S8192x15872, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelGm.lean ====
abbrev S8192x2048 : Shape := ⟨2, ![8192, 2048]⟩
abbrev S8192x1024 : Shape := ⟨2, ![8192, 1024]⟩
abbrev S2048x1024 : Shape := ⟨2, ![2048, 1024]⟩
abbrev S2048x2048 : Shape := ⟨2, ![2048, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== KernelGmIdeal.lean ====
abbrev S8192x2048 : Shape := ⟨2, ![8192, 2048]⟩
abbrev S8192x1024 : Shape := ⟨2, ![8192, 1024]⟩
abbrev S2048x1024 : Shape := ⟨2, ![2048, 1024]⟩
abbrev S2048x2048 : Shape := ⟨2, ![2048, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceGmIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S_, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGo.lean ====
abbrev S8192x1024 : Shape := ⟨2, ![8192, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceGoIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelProj.lean ====
abbrev S8192x1024 : Shape := ⟨2, ![8192, 1024]⟩
abbrev S1024x15872 : Shape := ⟨2, ![1024, 15872]⟩
abbrev S1x15872 : Shape := ⟨2, ![1, 15872]⟩
abbrev S8192x15360 : Shape := ⟨2, ![8192, 15360]⟩
abbrev S4096x1024 : Shape := ⟨2, ![4096, 1024]⟩
abbrev S1024x512 : Shape := ⟨2, ![1024, 512]⟩
abbrev S1x512 : Shape := ⟨2, ![1, 512]⟩
abbrev S4096x512 : Shape := ⟨2, ![4096, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x15872, .bf16⟩
  | .hbm, ⟨2, _⟩ => ⟨S1x15872, .f32⟩
  | .hbm, ⟨3, _⟩ => ⟨S8192x15360, .bf16⟩
  | .local _ .vmem, ⟨0, _⟩ => ⟨S4096x1024, .bf16⟩
  | .local _ .vmem, ⟨1, _⟩ => ⟨S4096x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S4096x512, .bf16⟩
  | .local _ .vmem, ⟨7, _⟩ => ⟨S4096x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 30], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceProjIdeal.lean ====
abbrev S8192x1024 : Shape := ⟨2, ![8192, 1024]⟩
abbrev S1024x15872 : Shape := ⟨2, ![1024, 15872]⟩
abbrev S1x15872 : Shape := ⟨2, ![1, 15872]⟩
abbrev S8192x15872 : Shape := ⟨2, ![8192, 15872]⟩
abbrev S8192x15360 : Shape := ⟨2, ![8192, 15360]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x15872, .bf16⟩
  | .hbm, ⟨2, _⟩ => ⟨S1x15872, .f32⟩
  | .hbm, ⟨3, _⟩ => ⟨S8192x1024, .f32⟩
  | .hbm, ⟨4, _⟩ => ⟨S1024x15872, .f32⟩
  | .hbm, ⟨5, _⟩ => ⟨S8192x15872, .f32⟩
  | .hbm, ⟨6, _⟩ => ⟨S8192x15872, .f32⟩
  | .hbm, ⟨7, _⟩ => ⟨S8192x15872, .f32⟩
  | .hbm, ⟨8, _⟩ => ⟨S8192x15360, .f32⟩
  | .hbm, ⟨9, _⟩ => ⟨S8192x15360, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGates.lean ====
abbrev S8192x1024 : Shape := ⟨2, ![8192, 1024]⟩
abbrev S1024x15872 : Shape := ⟨2, ![1024, 15872]⟩
abbrev S1x15872 : Shape := ⟨2, ![1, 15872]⟩
abbrev S8192x512 : Shape := ⟨2, ![8192, 512]⟩
abbrev S4096x1024 : Shape := ⟨2, ![4096, 1024]⟩
abbrev S1024x512 : Shape := ⟨2, ![1024, 512]⟩
abbrev S1x512 : Shape := ⟨2, ![1, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x15872, .bf16⟩
  | .hbm, ⟨2, _⟩ => ⟨S1x15872, .f32⟩
  | .hbm, ⟨3, _⟩ => ⟨S8192x512, .f32⟩
  | .local _ .vmem, ⟨0, _⟩ => ⟨S4096x1024, .bf16⟩
  | .local _ .vmem, ⟨1, _⟩ => ⟨S4096x1024, .bf16⟩
  | .local _ .vmem, ⟨2, _⟩ => ⟨S1024x512, .bf16⟩
  | .local _ .vmem, ⟨3, _⟩ => ⟨S1x512, .f32⟩
  | .local _ .vmem, ⟨4, _⟩ => ⟨S4096x512, .f32⟩
  | .local _ .vmem, ⟨5, _⟩ => ⟨S4096x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGatesIdeal.lean ====
abbrev S8192x1024 : Shape := ⟨2, ![8192, 1024]⟩
abbrev S1024x15872 : Shape := ⟨2, ![1024, 15872]⟩
abbrev S1x15872 : Shape := ⟨2, ![1, 15872]⟩
abbrev S8192x15872 : Shape := ⟨2, ![8192, 15872]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x15872, .bf16⟩
  | .hbm, ⟨2, _⟩ => ⟨S1x15872, .f32⟩
  | .hbm, ⟨3, _⟩ => ⟨S8192x1024, .f32⟩
  | .hbm, ⟨4, _⟩ => ⟨S1024x15872, .f32⟩
  | .hbm, ⟨5, _⟩ => ⟨S8192x15872, .f32⟩
  | .hbm, ⟨6, _⟩ => ⟨S8192x15872, .f32⟩
  | .hbm, ⟨7, _⟩ => ⟨S8192x15872, .f32⟩
  | .hbm, ⟨8, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelNorm.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceNormIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S5x1024, .f32⟩
  | .hbm, ⟨69, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== KernelSsd.lean ====
abbrev S8192x3072 : Shape := ⟨2, ![8192, 3072]⟩
abbrev S8192x512 : Shape := ⟨2, ![8192, 512]⟩
abbrev S128x8192 : Shape := ⟨2, ![128, 8192]⟩
abbrev S1x128 : Shape := ⟨2, ![1, 128]⟩
abbrev S128x1 : Shape := ⟨2, ![128, 1]⟩
abbrev S1x2048 : Shape := ⟨2, ![1, 2048]⟩
abbrev S128x2048 : Shape := ⟨2, ![128, 2048]⟩
abbrev S2048x128 : Shape := ⟨2, ![2048, 128]⟩
abbrev S8192x2048 : Shape := ⟨2, ![8192, 2048]⟩
abbrev S64x4x128x512 : Shape := ⟨4, ![64, 4, 128, 512]⟩
abbrev S8192x256 : Shape := ⟨2, ![8192, 256]⟩
abbrev S8x2048 : Shape := ⟨2, ![8, 2048]⟩
abbrev S8x128 : Shape := ⟨2, ![8, 128]⟩
abbrev S128x3072 : Shape := ⟨2, ![128, 3072]⟩
abbrev S128x128 : Shape := ⟨2, ![128, 128]⟩
abbrev S1x4x128x512 : Shape := ⟨4, ![1, 4, 128, 512]⟩
abbrev S128x256 : Shape := ⟨2, ![128, 256]⟩
abbrev S4x128x512 : Shape := ⟨3, ![4, 128, 512]⟩
abbrev S128x512 : Shape := ⟨2, ![128, 512]⟩
abbrev S1x512 : Shape := ⟨2, ![1, 512]⟩
abbrev S1x1x128x512 : Shape := ⟨4, ![1, 1, 128, 512]⟩
abbrev S1x128x512 : Shape := ⟨3, ![1, 128, 512]⟩
abbrev S128 : Shape := ⟨1, ![128]⟩
abbrev S256x128 : Shape := ⟨2, ![256, 128]⟩
abbrev S128x1024 : Shape := ⟨2, ![128, 1024]⟩
abbrev S512x128 : Shape := ⟨2, ![512, 128]⟩
abbrev S512 : Shape := ⟨1, ![512]⟩

abbrev nBuf : Space → Nat
  | .hbm => 14
  | .vmem => 24
  | .smem => 0
  | _ => 0

abbrev bufTy : (tb : Table) → Fin (tcTables nBuf tb) → BufTy
  | .hbm, ⟨0, _⟩ => ⟨S8192x3072, .f32⟩
  | .hbm, ⟨1, _⟩ => ⟨S8192x512, .f32⟩
  | .hbm, ⟨2, _⟩ => ⟨S128x8192, .f32⟩
  | .hbm, ⟨3, _⟩ => ⟨S1x128, .f32⟩
  | .hbm, ⟨4, _⟩ => ⟨S128x1, .f32⟩
  | .hbm, ⟨5, _⟩ => ⟨S1x2048, .f32⟩
  | .hbm, ⟨6, _⟩ => ⟨S128x2048, .f32⟩
  | .hbm, ⟨7, _⟩ => ⟨S2048x128, .f32⟩
  | .hbm, ⟨8, _⟩ => ⟨S8192x2048, .bf16⟩
  | .hbm, ⟨9, _⟩ => ⟨S64x4x128x512, .f32⟩
  | .hbm, ⟨10, _⟩ => ⟨S8192x3072, .bf16⟩
  | .hbm, ⟨11, _⟩ => ⟨S8192x256, .bf16⟩
  | .hbm, ⟨12, _⟩ => ⟨S8x2048, .f32⟩
  | .hbm, ⟨13, _⟩ => ⟨S8x128, .f32⟩
  | .local _ .vmem, ⟨0, _⟩ => ⟨S128x3072, .f32⟩
  | .local _ .vmem, ⟨1, _⟩ => ⟨S128x3072, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x1, .f32⟩
  | .local _ .vmem, ⟨8, _⟩ => ⟨S1x2048, .f32⟩
  | .local _ .vmem, ⟨9, _⟩ => ⟨S128x2048, .f32⟩
  | .local _ .vmem, ⟨10, _⟩ => ⟨S2048x128, .f32⟩
  | .local _ .vmem, ⟨11, _⟩ => ⟨S128x2048, .bf16⟩
  | .local _ .vmem, ⟨12, _⟩ => ⟨S128x2048, .bf16⟩
  | .local _ .vmem, ⟨13, _⟩ => ⟨S1x4x128x512, .f32⟩
  | .local _ .vmem, ⟨14, _⟩ => ⟨S1x4x128x512, .f32⟩
  | .local _ .vmem, ⟨15, _⟩ => ⟨S128x3072, .bf16⟩
  | .local _ .vmem, ⟨16, _⟩ => ⟨S128x3072, .bf16⟩
  | .local _ .vmem, ⟨17, _⟩ => ⟨S128x256, .bf16⟩
  | .local _ .vmem, ⟨18, _⟩ => ⟨S128x256, .bf16⟩
  | .local _ .vmem, ⟨19, _⟩ => ⟨S8x2048, .f32⟩
  | .local _ .vmem, ⟨20, _⟩ => ⟨S8x128, .f32⟩
  | .local _ .vmem, ⟨21, _⟩ => ⟨S4x128x512, .f32⟩
  | .local _ .vmem, ⟨22, _⟩ => ⟨S128x128, .f32⟩
  | .local _ .vmem, ⟨23, _⟩ => ⟨S128x512, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelAdamIn.lean ====
abbrev S1x1024x3852 : Shape := ⟨3, ![1, 1024, 3852]⟩
abbrev S1024x3852 : Shape := ⟨2, ![1024, 3852]⟩
abbrev S3852x1024 : Shape := ⟨2, ![3852, 1024]⟩
abbrev S3852x128 : Shape := ⟨2, ![3852, 128]⟩

abbrev nBuf : Space → Nat
  | .hbm => 14
  | .vmem => 14
  | .smem => 0
  | _ => 0

abbrev bufTy : (tb : Table) → Fin (tcTables nBuf tb) → BufTy
  | .hbm, ⟨0, _⟩ => ⟨S1x1024x3852, .f32⟩
  | .hbm, ⟨1, _⟩ => ⟨S1024x3852, .f32⟩
  | .hbm, ⟨2, _⟩ => ⟨S1x1024x3852, .f32⟩
  | .hbm, ⟨3, _⟩ => ⟨S1x1024x3852, .f32⟩
  | .hbm, ⟨4, _⟩ => ⟨S1024x3852, .f32⟩
  | .hbm, ⟨5, _⟩ => ⟨S3852x1024, .f32⟩
  | .hbm, ⟨6, _⟩ => ⟨S3852x1024, .f32⟩
  | .hbm, ⟨7, _⟩ => ⟨S1024x3852, .f32⟩
  | .hbm, ⟨8, _⟩ => ⟨S3852x1024, .f32⟩
  | .hbm, ⟨9, _⟩ => ⟨S1024x3852, .f32⟩
  | .hbm, ⟨10, _⟩ => ⟨S3852x1024, .f32⟩
  | .hbm, ⟨11, _⟩ => ⟨S3852x1024, .f32⟩
  | .hbm, ⟨12, _⟩ => ⟨S3852x1024, .f32⟩
  | .hbm, ⟨13, _⟩ => ⟨S3852x1024, .f32⟩
  | .local _ .vmem, ⟨0, _⟩ => ⟨S3852x128, .f32⟩
  | .local _ .vmem, ⟨1, _⟩ => ⟨S3852x128, .f32⟩
  | .local _ .vmem, ⟨2, _⟩ => ⟨S3852x128, .f32⟩
  | .local _ .vmem, ⟨3, _⟩ => ⟨S3852x128, .f32⟩
  | .local _ .vmem, ⟨4, _⟩ => ⟨S3852x128, .f32⟩
  | .local _ .vmem, ⟨5, _⟩ => ⟨S3852x128, .f32⟩
  | .local _ .vmem, ⟨6, _⟩ => ⟨S3852x128, .f32⟩
  | .local _ .vmem, ⟨7, _⟩ => ⟨S3852x128, .f32⟩
  | .local _ .vmem, ⟨8, _⟩ => ⟨S3852x128, .f32⟩
  | .local _ .vmem, ⟨9, _⟩ => ⟨S3852x128, .f32⟩
  | .local _ .vmem, ⟨10, _⟩ => ⟨S3852x128, .f32⟩
  | .local _ .vmem, ⟨11, _⟩ => ⟨S3852x128, .f32⟩
  | .local _ .vmem, ⟨12, _⟩ => ⟨S3852x128, .f32⟩
  | .local _ .vmem, ⟨13, _⟩ => ⟨S3852x128, .f32⟩
  | _, _ => ⟨S1x1024x3852, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3852x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3852x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3852x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3852x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3852x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3852x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3852x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamInIdeal.lean ====
abbrev S1x1024x3852 : Shape := ⟨3, ![1, 1024, 3852]⟩
abbrev S1024x3852 : Shape := ⟨2, ![1024, 3852]⟩
abbrev S_ : Shape := ⟨0, ![]⟩
abbrev S3852x1024 : Shape := ⟨2, ![3852, 1024]⟩

abbrev nBuf : Space → Nat
  | .hbm => 44
  | .vmem => 0
  | .smem => 0
  | _ => 0

abbrev bufTy : (tb : Table) → Fin (tcTables nBuf tb) → BufTy
  | .hbm, ⟨0, _⟩ => ⟨S1x1024x3852, .f32⟩
  | .hbm, ⟨1, _⟩ => ⟨S1024x3852, .f32⟩
  | .hbm, ⟨2, _⟩ => ⟨S1x1024x3852, .f32⟩
  | .hbm, ⟨3, _⟩ => ⟨S1x1024x3852, .f32⟩
  | .hbm, ⟨4, _⟩ => ⟨S1x1024x3852, .f32⟩
  | .hbm, ⟨5, _⟩ => ⟨S_, .f32⟩
  | .hbm, ⟨6, _⟩ => ⟨S1x1024x3852, .f32⟩
  | .hbm, ⟨7, _⟩ => ⟨S1x1024x3852, .f32⟩
  | .hbm, ⟨8, _⟩ => ⟨S_, .f32⟩
  | .hbm, ⟨9, _⟩ => ⟨S1x1024x3852, .f32⟩
  | .hbm, ⟨10, _⟩ => ⟨S1x1024x3852, .f32⟩
  | .hbm, ⟨11, _⟩ => ⟨S1x1024x3852, .f32⟩
  | .hbm, ⟨12, _⟩ => ⟨S_, .f32⟩
  | .hbm, ⟨13, _⟩ => ⟨S1x1024x3852, .f32⟩
  | .hbm, ⟨14, _⟩ => ⟨S1x1024x3852, .f32⟩
  | .hbm, ⟨15, _⟩ => ⟨S1x1024x3852, .f32⟩
  | .hbm, ⟨16, _⟩ => ⟨S_, .f32⟩
  | .hbm, ⟨17, _⟩ => ⟨S1x1024x3852, .f32⟩
  | .hbm, ⟨18, _⟩ => ⟨S1x1024x3852, .f32⟩
  | .hbm, ⟨19, _⟩ => ⟨S1x1024x3852, .f32⟩
  | .hbm, ⟨20, _⟩ => ⟨S_, .f32⟩
  | .hbm, ⟨21, _⟩ => ⟨S1x1024x3852, .f32⟩
  | .hbm, ⟨22, _⟩ => ⟨S1x1024x3852, .f32⟩
  | .hbm, ⟨23, _⟩ => ⟨S_, .f32⟩
  | .hbm, ⟨24, _⟩ => ⟨S1x1024x3852, .f32⟩
  | .hbm, ⟨25, _⟩ => ⟨S1x1024x3852, .f32⟩
  | .hbm, ⟨26, _⟩ => ⟨S1x1024x3852, .f32⟩
  | .hbm, ⟨27, _⟩ => ⟨S_, .f32⟩
  | .hbm, ⟨28, _⟩ => ⟨S1x1024x3852, .f32⟩
  | .hbm, ⟨29, _⟩ => ⟨S1x1024x3852, .f32⟩
  | .hbm, ⟨30, _⟩ => ⟨S1x1024x3852, .f32⟩
  | .hbm, ⟨31, _⟩ => ⟨S_, .f32⟩
  | .hbm, ⟨32, _⟩ => ⟨S1x1024x3852, .f32⟩
  | .hbm, ⟨33, _⟩ => ⟨S1x1024x3852, .f32⟩
  | .hbm, ⟨34, _⟩ => ⟨S1x1024x3852, .f32⟩
  | .hbm, ⟨35, _⟩ => ⟨S_, .f32⟩
  | .hbm, ⟨36, _⟩ => ⟨S1x1024x3852, .f32⟩
  | .hbm, ⟨37, _⟩ => ⟨S1x1024x3852, .f32⟩
  | .hbm, ⟨38, _⟩ => ⟨S1024x3852, .f32⟩
  | .hbm, ⟨39, _⟩ => ⟨S3852x1024, .f32⟩
  | .hbm, ⟨40, _⟩ => ⟨S1024x3852, .f32⟩
  | .hbm, ⟨41, _⟩ => ⟨S3852x1024, .f32⟩
  | .hbm, ⟨42, _⟩ => ⟨S1024x3852, .f32⟩
  | .hbm, ⟨43, _⟩ => ⟨S3852x1024, .f32⟩
  | _, _ => ⟨S1x1024x3852, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== KernelAdamAda.lean ====
abbrev S1x1024x768 : Shape := ⟨3, ![1, 1024, 768]⟩
abbrev S1024x768 : Shape := ⟨2, ![1024, 768]⟩
abbrev S1x256x768 : Shape := ⟨3, ![1, 256, 768]⟩
abbrev S256x768 : Shape := ⟨2, ![256, 768]⟩

abbrev nBuf : Space → Nat
  | .hbm => 8
  | .vmem => 14
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamAdaIdeal.lean ====
abbrev S1x1024x768 : Shape := ⟨3, ![1, 1024, 768]⟩
abbrev S1024x768 : Shape := ⟨2, ![1024, 768]⟩
abbrev S1x256x768 : Shape := ⟨3, ![1, 256, 768]⟩
abbrev S256x768 : Shape := ⟨2, ![256, 768]⟩

abbrev nBuf : Space → Nat
  | .hbm => 8
  | .vmem => 14
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamAdaIdeal.lean ====
abbrev S1x1024x768 : Shape := ⟨3, ![1, 1024, 768]⟩
abbrev S1024x768 : Shape := ⟨2, ![1024, 768]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S_, .f32⟩
  | .hbm, ⟨6, _⟩ => ⟨S1x1024x768, .f32⟩
  | .hbm, ⟨7, _⟩ => ⟨S1x1024x768, .f32⟩
  | .hbm, ⟨8, _⟩ => ⟨S_, .f32⟩
  | .hbm, ⟨9, _⟩ => ⟨S1x1024x768, .f32⟩
  | .hbm, ⟨10, _⟩ => ⟨S1x1024x768, .f32⟩
  | .hbm, ⟨11, _⟩ => ⟨S1x1024x768, .f32⟩
  | .hbm, ⟨12, _⟩ => ⟨S_, .f32⟩
  | .hbm, ⟨13, _⟩ => ⟨S1x1024x768, .f32⟩
  | .hbm, ⟨14, _⟩ => ⟨S1x1024x768, .f32⟩
  | .hbm, ⟨15, _⟩ => ⟨S1x1024x768, .f32⟩
  | .hbm, ⟨16, _⟩ => ⟨S_, .f32⟩
  | .hbm, ⟨17, _⟩ => ⟨S1x1024x768, .f32⟩
  | .hbm, ⟨18, _⟩ => ⟨S1x1024x768, .f32⟩
  | .hbm, ⟨19, _⟩ => ⟨S1x1024x768, .f32⟩
  | .hbm, ⟨20, _⟩ => ⟨S_, .f32⟩
  | .hbm, ⟨21, _⟩ => ⟨S1x1024x768, .f32⟩
  | .hbm, ⟨22, _⟩ => ⟨S1x1024x768, .f32⟩
  | .hbm, ⟨23, _⟩ => ⟨S_, .f32⟩
  | .hbm, ⟨24, _⟩ => ⟨S1x1024x768, .f32⟩
  | .hbm, ⟨25, _⟩ => ⟨S1x1024x768, .f32⟩
  | .hbm, ⟨26, _⟩ => ⟨S1x1024x768, .f32⟩
  | .hbm, ⟨27, _⟩ => ⟨S_, .f32⟩
  | .hbm, ⟨28, _⟩ => ⟨S1x1024x768, .f32⟩
  | .hbm, ⟨29, _⟩ => ⟨S1x1024x768, .f32⟩
  | .hbm, ⟨30, _⟩ => ⟨S1x1024x768, .f32⟩
  | .hbm, ⟨31, _⟩ => ⟨S_, .f32⟩
  | .hbm, ⟨32, _⟩ => ⟨S1x1024x768, .f32⟩
  | .hbm, ⟨33, _⟩ => ⟨S1x1024x768, .f32⟩
  | .hbm, ⟨34, _⟩ => ⟨S1x1024x768, .f32⟩
  | .hbm, ⟨35, _⟩ => ⟨S_, .f32⟩
  | .hbm, ⟨36, _⟩ => ⟨S1x1024x768, .f32⟩
  | .hbm, ⟨37, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== KernelAdamProj.lean ====
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 8
  | .vmem => 14
  | .smem => 0
  | _ => 0

abbrev bufTy : (tb : Table) → Fin (tcTables nBuf tb) → BufTy
  | .hbm, ⟨0, _⟩ => ⟨S1x512x1024, .f32⟩
  | .hbm, ⟨1, _⟩ => ⟨S512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamProjIdeal.lean ====
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 8
  | .vmem => 14
  | .smem => 0
  | _ => 0

abbrev bufTy : (tb : Table) → Fin (tcTables nBuf tb) → BufTy
  | .hbm, ⟨0, _⟩ => ⟨S1x512x1024, .f32⟩
  | .hbm, ⟨1, _⟩ => ⟨S512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamProjIdeal.lean ====
abbrev S1x512x1024 : Shape := ⟨3, ![1, 512, 1024]⟩
abbrev S512x1024 : Shape := ⟨2, ![512, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S_, .f32⟩
  | .hbm, ⟨6, _⟩ => ⟨S1x512x1024, .f32⟩
  | .hbm, ⟨7, _⟩ => ⟨S1x512x1024, .f32⟩
  | .hbm, ⟨8, _⟩ => ⟨S_, .f32⟩
  | .hbm, ⟨9, _⟩ => ⟨S1x512x1024, .f32⟩
  | .hbm, ⟨10, _⟩ => ⟨S1x512x1024, .f32⟩
  | .hbm, ⟨11, _⟩ => ⟨S1x512x1024, .f32⟩
  | .hbm, ⟨12, _⟩ => ⟨S_, .f32⟩
  | .hbm, ⟨13, _⟩ => ⟨S1x512x1024, .f32⟩
  | .hbm, ⟨14, _⟩ => ⟨S1x512x1024, .f32⟩
  | .hbm, ⟨15, _⟩ => ⟨S1x512x1024, .f32⟩
  | .hbm, ⟨16, _⟩ => ⟨S_, .f32⟩
  | .hbm, ⟨17, _⟩ => ⟨S1x512x1024, .f32⟩
  | .hbm, ⟨18, _⟩ => ⟨S1x512x1024, .f32⟩
  | .hbm, ⟨19, _⟩ => ⟨S1x512x1024, .f32⟩
  | .hbm, ⟨20, _⟩ => ⟨S_, .f32⟩
  | .hbm, ⟨21, _⟩ => ⟨S1x512x1024, .f32⟩
  | .hbm, ⟨22, _⟩ => ⟨S1x512x1024, .f32⟩
  | .hbm, ⟨23, _⟩ => ⟨S_, .f32⟩
  | .hbm, ⟨24, _⟩ => ⟨S1x512x1024, .f32⟩
  | .hbm, ⟨25, _⟩ => ⟨S1x512x1024, .f32⟩
  | .hbm, ⟨26, _⟩ => ⟨S1x512x1024, .f32⟩
  | .hbm, ⟨27, _⟩ => ⟨S_, .f32⟩
  | .hbm, ⟨28, _⟩ => ⟨S1x512x1024, .f32⟩
  | .hbm, ⟨29, _⟩ => ⟨S1x512x1024, .f32⟩
  | .hbm, ⟨30, _⟩ => ⟨S1x512x1024, .f32⟩
  | .hbm, ⟨31, _⟩ => ⟨S_, .f32⟩
  | .hbm, ⟨32, _⟩ => ⟨S1x512x1024, .f32⟩
  | .hbm, ⟨33, _⟩ => ⟨S1x512x1024, .f32⟩
  | .hbm, ⟨34, _⟩ => ⟨S1x512x1024, .f32⟩
  | .hbm, ⟨35, _⟩ => ⟨S_, .f32⟩
  | .hbm, ⟨36, _⟩ => ⟨S1x512x1024, .f32⟩
  | .hbm, ⟨37, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== KernelAdamOut.lean ====
abbrev S1x256x1024 : Shape := ⟨3, ![1, 256, 1024]⟩
abbrev S256x1024 : Shape := ⟨2, ![256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamOutIdeal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S_, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== KernelPre.lean ====
abbrev S8192x1024 : Shape := ⟨2, ![8192, 1024]⟩
abbrev S1x1024 : Shape := ⟨2, ![1, 1024]⟩
abbrev S1024x8192 : Shape := ⟨2, ![1024, 8192]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .hbm, ⟨5, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1024x512, .bf16⟩
  | .local _ .vmem, ⟨8, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferencePreIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== KernelAdamRest.lean ====
abbrev S1x1024 : Shape := ⟨2, ![1, 1024]⟩
abbrev S1x3072 : Shape := ⟨2, ![1, 3072]⟩
abbrev S1x15408 : Shape := ⟨2, ![1, 15408]⟩
abbrev S1x4x512 : Shape := ⟨3, ![1, 4, 512]⟩
abbrev S1x2048 : Shape := ⟨2, ![1, 2048]⟩
abbrev S1x4x768 : Shape := ⟨3, ![1, 4, 768]⟩
abbrev S1x32 : Shape := ⟨2, ![1, 32]⟩
abbrev S1024 : Shape := ⟨1, ![1024]⟩
abbrev S3072 : Shape := ⟨1, ![3072]⟩
abbrev S15408 : Shape := ⟨1, ![15408]⟩
abbrev S4x512 : Shape := ⟨2, ![4, 512]⟩
abbrev S2048 : Shape := ⟨1, ![2048]⟩
abbrev S4x768 : Shape := ⟨2, ![4, 768]⟩
abbrev S32 : Shape := ⟨1, ![32]⟩
abbrev S34928 : Shape := ⟨1, ![34928]⟩
abbrev S_ : Shape := ⟨0, ![]⟩
abbrev S35840 : Shape := ⟨1, ![35840]⟩
abbrev S280x128 : Shape := ⟨2, ![280, 128]⟩

abbrev nBuf : Space → Nat
  | .hbm => 106
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x3072, .f32⟩
  | .hbm, ⟨2, _⟩ => ⟨S1x15408, .f32⟩
  | .hbm, ⟨3, _⟩ => ⟨S1x4x512, .f32⟩
  | .hbm, ⟨4, _⟩ => ⟨S1x2048, .f32⟩
  | .hbm, ⟨5, _⟩ => ⟨S1x2048, .f32⟩
  | .hbm, ⟨6, _⟩ => ⟨S1x4x768, .f32⟩
  | .hbm, ⟨7, _⟩ => ⟨S1x3072, .f32⟩
  | .hbm, ⟨8, _⟩ => ⟨S1x32, .f32⟩
  | .hbm, ⟨9, _⟩ => ⟨S1x32, .f32⟩
  | .hbm, ⟨10, _⟩ => ⟨S1x2048, .f32⟩
  | .hbm, ⟨11, _⟩ => ⟨S1024, .f32⟩
  | .hbm, ⟨12, _⟩ => ⟨S1024, .f32⟩
  | .hbm, ⟨13, _⟩ => ⟨S3072, .f32⟩
  | .hbm, ⟨14, _⟩ => ⟨S15408, .f32⟩
  | .hbm, ⟨15, _⟩ => ⟨S4x512, .f32⟩
  | .hbm, ⟨16, _⟩ => ⟨S2048, .f32⟩
  | .hbm, ⟨17, _⟩ => ⟨S2048, .f32⟩
  | .hbm, ⟨18, _⟩ => ⟨S4x768, .f32⟩
  | .hbm, ⟨19, _⟩ => ⟨S3072, .f32⟩
  | .hbm, ⟨20, _⟩ => ⟨S32, .f32⟩
  | .hbm, ⟨21, _⟩ => ⟨S32, .f32⟩
  | .hbm, ⟨22, _⟩ => ⟨S2048, .f32⟩
  | .hbm, ⟨23, _⟩ => ⟨S1024, .f32⟩
  | .hbm, ⟨24, _⟩ => ⟨S1x1024, .f32⟩
  | .hbm, ⟨25, _⟩ => ⟨S1x3072, .f32⟩
  | .hbm, ⟨26, _⟩ => ⟨S1x15408, .f32⟩
  | .hbm, ⟨27, _⟩ => ⟨S1x4x512, .f32⟩
  | .hbm, ⟨28, _⟩ => ⟨S1x2048, .f32⟩
  | .hbm, ⟨29, _⟩ => ⟨S1x2048, .f32⟩
  | .hbm, ⟨30, _⟩ => ⟨S1x4x768, .f32⟩
  | .hbm, ⟨31, _⟩ => ⟨S1x3072, .f32⟩
  | .hbm, ⟨32, _⟩ => ⟨S1x32, .f32⟩
  | .hbm, ⟨33, _⟩ => ⟨S1x32, .f32⟩
  | .hbm, ⟨34, _⟩ => ⟨S1x2048, .f32⟩
  | .hbm, ⟨35, _⟩ => ⟨S1024, .f32⟩
  | .hbm, ⟨36, _⟩ => ⟨S1x1024, .f32⟩
  | .hbm, ⟨37, _⟩ => ⟨S1x3072, .f32⟩
  | .hbm, ⟨38, _⟩ => ⟨S1x15408, .f32⟩
  | .hbm, ⟨39, _⟩ => ⟨S1x4x512, .f32⟩
  | .hbm, ⟨40, _⟩ => ⟨S1x2048, .f32⟩
  | .hbm, ⟨41, _⟩ => ⟨S1x2048, .f32⟩
  | .hbm, ⟨42, _⟩ => ⟨S1x4x768, .f32⟩
  | .hbm, ⟨43, _⟩ => ⟨S1x3072, .f32⟩
  | .hbm, ⟨44, _⟩ => ⟨S1x32, .f32⟩
  | .hbm, ⟨45, _⟩ => ⟨S1x32, .f32⟩
  | .hbm, ⟨46, _⟩ => ⟨S1x2048, .f32⟩
  | .hbm, ⟨47, _⟩ => ⟨S1024, .f32⟩
  | .hbm, ⟨48, _⟩ => ⟨S1024, .f32⟩
  | .hbm, ⟨49, _⟩ => ⟨S3072, .f32⟩
  | .hbm, ⟨50, _⟩ => ⟨S15408, .f32⟩
  | .hbm, ⟨51, _⟩ => ⟨S2048, .f32⟩
  | .hbm, ⟨52, _⟩ => ⟨S2048, .f32⟩
  | .hbm, ⟨53, _⟩ => ⟨S2048, .f32⟩
  | .hbm, ⟨54, _⟩ => ⟨S3072, .f32⟩
  | .hbm, ⟨55, _⟩ => ⟨S3072, .f32⟩
  | .hbm, ⟨56, _⟩ => ⟨S32, .f32⟩
  | .hbm, ⟨57, _⟩ => ⟨S32, .f32⟩
  | .hbm, ⟨58, _⟩ => ⟨S2048, .f32⟩
  | .hbm, ⟨59, _⟩ => ⟨S34928, .f32⟩
  | .hbm, ⟨60, _⟩ => ⟨S_, .i32⟩
  | .hbm, ⟨61, _⟩ => ⟨S_, .f32⟩
  | .hbm, ⟨62, _⟩ => ⟨S35840, .f32⟩
  | .hbm, ⟨63, _⟩ => ⟨S280x128, .f32⟩
  | .hbm, ⟨64, _⟩ => ⟨S2048, .f32⟩
  | .hbm, ⟨65, _⟩ => ⟨S3072, .f32⟩
  | .hbm, ⟨66, _⟩ => ⟨S34928, .f32⟩
  | .hbm, ⟨67, _⟩ => ⟨S_, .i32⟩
  | .hbm, ⟨68, _⟩ => ⟨S_, .f32⟩
  | .hbm, ⟨69, _⟩ => ⟨S35840, .f32⟩
  | .hbm, ⟨70, _⟩ => ⟨S280x128, .f32⟩
  | .hbm, ⟨71, _⟩ => ⟨S1024, .f32⟩
  | .hbm, ⟨72, _⟩ => ⟨S3072, .f32⟩
  | .hbm, ⟨73, _⟩ => ⟨S15408, .f32⟩
  | .hbm, ⟨74, _⟩ => ⟨S2048, .f32⟩
  | .hbm, ⟨75, _⟩ => ⟨S2048, .f32⟩
  | .hbm, ⟨76, _⟩ => ⟨S2048, .f32⟩
  | .hbm, ⟨77, _⟩ => ⟨S3072, .f32⟩
  | .hbm, ⟨78, _⟩ => ⟨S3072, .f32⟩
  | .hbm, ⟨79, _⟩ => ⟨S32, .f32⟩
  | .hbm, ⟨80, _⟩ => ⟨S32, .f32⟩
  | .hbm, ⟨81, _⟩ => ⟨S2048, .f32⟩
  | .hbm, ⟨82, _⟩ => ⟨S34928, .f32⟩
  | .hbm, ⟨83, _⟩ => ⟨S_, .i32⟩
  | .hbm, ⟨84, _⟩ => ⟨S_, .f32⟩
  | .hbm, ⟨85, _⟩ => ⟨S35840, .f32⟩
  | .hbm, ⟨86, _⟩ => ⟨S280x128, .f32⟩
  | .hbm, ⟨87, _⟩ => ⟨S1024, .f32⟩
  | .hbm, ⟨88, _⟩ => ⟨S3072, .f32⟩
  | .hbm, ⟨89, _⟩ => ⟨S15408, .f32⟩
  | .hbm, ⟨90, _⟩ => ⟨S2048, .f32⟩
  | .hbm, ⟨91, _⟩ => ⟨S2048, .f32⟩
  | .hbm, ⟨92, _⟩ => ⟨S2048, .f32⟩
  | .hbm, ⟨93, _⟩ => ⟨S3072, .f32⟩
  | .hbm, ⟨94, _⟩ => ⟨S3072, .f32⟩
  | .hbm, ⟨95, _⟩ => ⟨S32, .f32⟩
  | .hbm, ⟨96, _⟩ => ⟨S32, .f32⟩
  | .hbm, ⟨97, _⟩ => ⟨S2048, .f32⟩
  | .hbm, ⟨98, _⟩ => ⟨S34928, .f32⟩
  | .hbm, ⟨99, _⟩ => ⟨S_, .i32⟩
  | .hbm, ⟨100, _⟩ => ⟨S_, .f32⟩
  | .hbm, ⟨101, _⟩ => ⟨S35840, .f32⟩
  | .hbm, ⟨102, _⟩ => ⟨S280x128, .f32⟩
  | .hbm, ⟨103, _⟩ => ⟨S280x128, .f32⟩
  | .hbm, ⟨104, _⟩ => ⟨S280x128, .f32⟩
  | .hbm, ⟨105, _⟩ => ⟨S280x128, .f32⟩
  | .local _ .vmem, ⟨0, _⟩ => ⟨S280x128, .f32⟩
  | .local _ .vmem, ⟨1, _⟩ => ⟨S280x128, .f32⟩
  | .local _ .vmem, ⟨2, _⟩ => ⟨S280x128, .f32⟩
  | .local _ .vmem, ⟨3, _⟩ => ⟨S280x128, .f32⟩
  | .local _ .vmem, ⟨4, _⟩ => ⟨S280x128, .f32⟩
  | .local _ .vmem, ⟨5, _⟩ => ⟨S280x128, .f32⟩
  | .local _ .vmem, ⟨6, _⟩ => ⟨S280x128, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_c : Ref sig .tc := ⟨.hbm, 60, rfl⟩
abbrev main_call0_v0 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_c_0 : Ref sig .tc := ⟨.hbm, 67, rfl⟩
abbrev main_call1_v0 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_c_1 : Ref sig .tc := ⟨.hbm, 83, rfl⟩
abbrev main_call2_v0 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_c_2 : Ref sig .tc := ⟨.hbm, 99, rfl⟩
abbrev main_call3_v0 : Ref sig .tc := ⟨.hbm, 100, rfl⟩
abbrev main_v45 : Ref sig .tc := ⟨.hbm, 101, rfl⟩
abbrev main_v46 : Ref sig .tc := ⟨.hbm, 102, rfl⟩
abbrev main_v47_0 : Ref sig .tc := ⟨.hbm, 103, rfl⟩
abbrev main_v47_1 : Ref sig .tc := ⟨.hbm, 104, rfl⟩
abbrev main_v47_2 : Ref sig .tc := ⟨.hbm, 105, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S280x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S280x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S280x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S280x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S280x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S280x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamRestIdeal.lean ====
abbrev S1x1024 : Shape := ⟨2, ![1, 1024]⟩
abbrev S1x3072 : Shape := ⟨2, ![1, 3072]⟩
abbrev S1x15408 : Shape := ⟨2, ![1, 15408]⟩
abbrev S1x4x512 : Shape := ⟨3, ![1, 4, 512]⟩
abbrev S1x2048 : Shape := ⟨2, ![1, 2048]⟩
abbrev S1x4x768 : Shape := ⟨3, ![1, 4, 768]⟩
abbrev S1x32 : Shape := ⟨2, ![1, 32]⟩
abbrev S1024 : Shape := ⟨1, ![1024]⟩
abbrev S3072 : Shape := ⟨1, ![3072]⟩
abbrev S15408 : Shape := ⟨1, ![15408]⟩
abbrev S4x512 : Shape := ⟨2, ![4, 512]⟩
abbrev S2048 : Shape := ⟨1, ![2048]⟩
abbrev S4x768 : Shape := ⟨2, ![4, 768]⟩
abbrev S32 : Shape := ⟨1, ![32]⟩
abbrev S_ : Shape := ⟨0, ![]⟩
abbrev S34928 : Shape := ⟨1, ![34928]⟩
abbrev S35840 : Shape := ⟨1, ![35840]⟩
abbrev S280x128 : Shape := ⟨2, ![280, 128]⟩

abbrev nBuf : Space → Nat
  | .hbm => 503
  | .vmem => 0
  | .smem => 0
  | _ => 0

abbrev hbmTy0_0 (i : Nat) : BufTy := match i % 128 with
  | 0 => ⟨S1x1024, .f32⟩
  | 1 => ⟨S1x3072, .f32⟩
  | 2 => ⟨S1x15408, .f32⟩
  | 3 => ⟨S1x4x512, .f32⟩
  | 4 => ⟨S1x2048, .f32⟩
  | 5 => ⟨S1x2048, .f32⟩
  | 6 => ⟨S1x4x768, .f32⟩
  | 7 => ⟨S1x3072, .f32⟩
  | 8 => ⟨S1x32, .f32⟩
  | 9 => ⟨S1x32, .f32⟩
  | 10 => ⟨S1x2048, .f32⟩
  | 11 => ⟨S1024, .f32⟩
  | 12 => ⟨S1024, .f32⟩
  | 13 => ⟨S3072, .f32⟩
  | 14 => ⟨S15408, .f32⟩
  | 15 => ⟨S4x512, .f32⟩
  | 16 => ⟨S2048, .f32⟩
  | 17 => ⟨S2048, .f32⟩
  | 18 => ⟨S4x768, .f32⟩
  | 19 => ⟨S3072, .f32⟩
  | 20 => ⟨S32, .f32⟩
  | 21 => ⟨S32, .f32⟩
  | 22 => ⟨S2048, .f32⟩
  | 23 => ⟨S1024, .f32⟩
  | 24 => ⟨S1x1024, .f32⟩
  | 25 => ⟨S1x3072, .f32⟩
  | 26 => ⟨S1x15408, .f32⟩
  | 27 => ⟨S1x4x512, .f32⟩
  | 28 => ⟨S1x2048, .f32⟩
  | 29 => ⟨S1x2048, .f32⟩
  | 30 => ⟨S1x4x768, .f32⟩
  | 31 => ⟨S1x3072, .f32⟩
  | 32 => ⟨S1x32, .f32⟩
  | 33 => ⟨S1x32, .f32⟩
  | 34 => ⟨S1x2048, .f32⟩
  | 35 => ⟨S1024, .f32⟩
  | 36 => ⟨S1x1024, .f32⟩
  | 37 => ⟨S1x3072, .f32⟩
  | 38 => ⟨S1x15408, .f32⟩
  | 39 => ⟨S1x4x512, .f32⟩
  | 40 => ⟨S1x2048, .f32⟩
  | 41 => ⟨S1x2048, .f32⟩
  | 42 => ⟨S1x4x768, .f32⟩
  | 43 => ⟨S1x3072, .f32⟩
  | 44 => ⟨S1x32, .f32⟩
  | 45 => ⟨S1x32, .f32⟩
  | 46 => ⟨S1x2048, .f32⟩
  | 47 => ⟨S1024, .f32⟩
  | 48 => ⟨S1x1024, .f32⟩
  | 49 => ⟨S_, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x3072, .f32⟩
  | 83 => ⟨S_, .f32⟩
  | 84 => ⟨S1x3072, .f32⟩
  | 85 => ⟨S1x3072, .f32⟩
  | 86 => ⟨S_, .f32⟩
  | 87 => ⟨S1x3072, .f32⟩
  | 88 => ⟨S1x3072, .f32⟩
  | 89 => ⟨S1x3072, .f32⟩
  | 90 => ⟨S_, .f32⟩
  | 91 => ⟨S1x3072, .f32⟩
  | 92 => ⟨S1x3072, .f32⟩
  | 93 => ⟨S1x3072, .f32⟩
  | 94 => ⟨S_, .f32⟩
  | 95 => ⟨S1x3072, .f32⟩
  | 96 => ⟨S1x3072, .f32⟩
  | 97 => ⟨S1x3072, .f32⟩
  | 98 => ⟨S_, .f32⟩
  | 99 => ⟨S1x3072, .f32⟩
  | 100 => ⟨S1x3072, .f32⟩
  | 101 => ⟨S_, .f32⟩
  | 102 => ⟨S1x3072, .f32⟩
  | 103 => ⟨S1x3072, .f32⟩
  | 104 => ⟨S1x3072, .f32⟩
  | 105 => ⟨S_, .f32⟩
  | 106 => ⟨S1x3072, .f32⟩
  | 107 => ⟨S1x3072, .f32⟩
  | 108 => ⟨S1x3072, .f32⟩
  | 109 => ⟨S_, .f32⟩
  | 110 => ⟨S1x3072, .f32⟩
  | 111 => ⟨S1x3072, .f32⟩
  | 112 => ⟨S1x3072, .f32⟩
  | 113 => ⟨S_, .f32⟩
  | 114 => ⟨S1x3072, .f32⟩
  | 115 => ⟨S1x3072, .f32⟩
  | 116 => ⟨S1x15408, .f32⟩
  | 117 => ⟨S_, .f32⟩
  | 118 => ⟨S1x15408, .f32⟩
  | 119 => ⟨S1x15408, .f32⟩
  | 120 => ⟨S_, .f32⟩
  | 121 => ⟨S1x15408, .f32⟩
  | 122 => ⟨S1x15408, .f32⟩
  | 123 => ⟨S1x15408, .f32⟩
  | 124 => ⟨S_, .f32⟩
  | 125 => ⟨S1x15408, .f32⟩
  | 126 => ⟨S1x15408, .f32⟩
  | 127 => ⟨S1x15408, .f32⟩
  | _ => ⟨S1x1024, .f32⟩

abbrev hbmTy0_1 (i : Nat) : BufTy := match i % 128 with
  | 0 => ⟨S_, .f32⟩
  | 1 => ⟨S1x15408, .f32⟩
  | 2 => ⟨S1x15408, .f32⟩
  | 3 => ⟨S1x15408, .f32⟩
  | 4 => ⟨S_, .f32⟩
  | 5 => ⟨S1x15408, .f32⟩
  | 6 => ⟨S1x15408, .f32⟩
  | 7 => ⟨S_, .f32⟩
  | 8 => ⟨S1x15408, .f32⟩
  | 9 => ⟨S1x15408, .f32⟩
  | 10 => ⟨S1x15408, .f32⟩
  | 11 => ⟨S_, .f32⟩
  | 12 => ⟨S1x15408, .f32⟩
  | 13 => ⟨S1x15408, .f32⟩
  | 14 => ⟨S1x15408, .f32⟩
  | 15 => ⟨S_, .f32⟩
  | 16 => ⟨S1x15408, .f32⟩
  | 17 => ⟨S1x15408, .f32⟩
  | 18 => ⟨S1x15408, .f32⟩
  | 19 => ⟨S_, .f32⟩
  | 20 => ⟨S1x15408, .f32⟩
  | 21 => ⟨S1x15408, .f32⟩
  | 22 => ⟨S1x4x512, .f32⟩
  | 23 => ⟨S_, .f32⟩
  | 24 => ⟨S1x4x512, .f32⟩
  | 25 => ⟨S1x4x512, .f32⟩
  | 26 => ⟨S_, .f32⟩
  | 27 => ⟨S1x4x512, .f32⟩
  | 28 => ⟨S1x4x512, .f32⟩
  | 29 => ⟨S1x4x512, .f32⟩
  | 30 => ⟨S_, .f32⟩
  | 31 => ⟨S1x4x512, .f32⟩
  | 32 => ⟨S1x4x512, .f32⟩
  | 33 => ⟨S1x4x512, .f32⟩
  | 34 => ⟨S_, .f32⟩
  | 35 => ⟨S1x4x512, .f32⟩
  | 36 => ⟨S1x4x512, .f32⟩
  | 37 => ⟨S1x4x512, .f32⟩
  | 38 => ⟨S_, .f32⟩
  | 39 => ⟨S1x4x512, .f32⟩
  | 40 => ⟨S1x4x512, .f32⟩
  | 41 => ⟨S_, .f32⟩
  | 42 => ⟨S1x4x512, .f32⟩
  | 43 => ⟨S1x4x512, .f32⟩
  | 44 => ⟨S1x4x512, .f32⟩
  | 45 => ⟨S_, .f32⟩
  | 46 => ⟨S1x4x512, .f32⟩
  | 47 => ⟨S1x4x512, .f32⟩
  | 48 => ⟨S1x4x512, .f32⟩
  | 49 => ⟨S_, .f32⟩
  | 50 => ⟨S1x4x512, .f32⟩
  | 51 => ⟨S1x4x512, .f32⟩
  | 52 => ⟨S1x4x512, .f32⟩
  | 53 => ⟨S_, .f32⟩
  | 54 => ⟨S1x4x512, .f32⟩
  | 55 => ⟨S1x4x512, .f32⟩
  | 56 => ⟨S1x2048, .f32⟩
  | 57 => ⟨S_, .f32⟩
  | 58 => ⟨S1x2048, .f32⟩
  | 59 => ⟨S1x2048, .f32⟩
  | 60 => ⟨S_, .f32⟩
  | 61 => ⟨S1x2048, .f32⟩
  | 62 => ⟨S1x2048, .f32⟩
  | 63 => ⟨S1x2048, .f32⟩
  | 64 => ⟨S_, .f32⟩
  | 65 => ⟨S1x2048, .f32⟩
  | 66 => ⟨S1x2048, .f32⟩
  | 67 => ⟨S1x2048, .f32⟩
  | 68 => ⟨S_, .f32⟩
  | 69 => ⟨S1x2048, .f32⟩
  | 70 => ⟨S1x2048, .f32⟩
  | 71 => ⟨S1x2048, .f32⟩
  | 72 => ⟨S_, .f32⟩
  | 73 => ⟨S1x2048, .f32⟩
  | 74 => ⟨S1x2048, .f32⟩
  | 75 => ⟨S_, .f32⟩
  | 76 => ⟨S1x2048, .f32⟩
  | 77 => ⟨S1x2048, .f32⟩
  | 78 => ⟨S1x2048, .f32⟩
  | 79 => ⟨S_, .f32⟩
  | 80 => ⟨S1x2048, .f32⟩
  | 81 => ⟨S1x2048, .f32⟩
  | 82 => ⟨S1x2048, .f32⟩
  | 83 => ⟨S_, .f32⟩
  | 84 => ⟨S1x2048, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S_, .f32⟩
  | 95 => ⟨S1x2048, .f32⟩
  | 96 => ⟨S1x2048, .f32⟩
  | 97 => ⟨S1x2048, .f32⟩
  | 98 => ⟨S_, .f32⟩
  | 99 => ⟨S1x2048, .f32⟩
  | 100 => ⟨S1x2048, .f32⟩
  | 101 => ⟨S1x2048, .f32⟩
  | 102 => ⟨S_, .f32⟩
  | 103 => ⟨S1x2048, .f32⟩
  | 104 => ⟨S1x2048, .f32⟩
  | 105 => ⟨S1x2048, .f32⟩
  | 106 => ⟨S_, .f32⟩
  | 107 => ⟨S1x2048, .f32⟩
  | 108 => ⟨S1x2048, .f32⟩
  | 109 => ⟨S_, .f32⟩
  | 110 => ⟨S1x2048, .f32⟩
  | 111 => ⟨S1x2048, .f32⟩
  | 112 => ⟨S1x2048, .f32⟩
  | 113 => ⟨S_, .f32⟩
  | 114 => ⟨S1x2048, .f32⟩
  | 115 => ⟨S1x2048, .f32⟩
  | 116 => ⟨S1x2048, .f32⟩
  | 117 => ⟨S_, .f32⟩
  | 118 => ⟨S1x2048, .f32⟩
  | 119 => ⟨S1x2048, .f32⟩
  | 120 => ⟨S1x2048, .f32⟩
  | 121 => ⟨S_, .f32⟩
  | 122 => ⟨S1x2048, .f32⟩
  | 123 => ⟨S1x2048, .f32⟩
  | 124 => ⟨S1x4x768, .f32⟩
  | 125 => ⟨S_, .f32⟩
  | 126 => ⟨S1x4x768, .f32⟩
  | 127 => ⟨S1x4x768, .f32⟩
  | _ => ⟨S1x1024, .f32⟩

abbrev hbmTy0_2 (i : Nat) : BufTy := match i % 128 with
  | 0 => ⟨S_, .f32⟩
  | 1 => ⟨S1x4x768, .f32⟩
  | 2 => ⟨S1x4x768, .f32⟩
  | 3 => ⟨S1x4x768, .f32⟩
  | 4 => ⟨S_, .f32⟩
  | 5 => ⟨S1x4x768, .f32⟩
  | 6 => ⟨S1x4x768, .f32⟩
  | 7 => ⟨S1x4x768, .f32⟩
  | 8 => ⟨S_, .f32⟩
  | 9 => ⟨S1x4x768, .f32⟩
  | 10 => ⟨S1x4x768, .f32⟩
  | 11 => ⟨S1x4x768, .f32⟩
  | 12 => ⟨S_, .f32⟩
  | 13 => ⟨S1x4x768, .f32⟩
  | 14 => ⟨S1x4x768, .f32⟩
  | 15 => ⟨S_, .f32⟩
  | 16 => ⟨S1x4x768, .f32⟩
  | 17 => ⟨S1x4x768, .f32⟩
  | 18 => ⟨S1x4x768, .f32⟩
  | 19 => ⟨S_, .f32⟩
  | 20 => ⟨S1x4x768, .f32⟩
  | 21 => ⟨S1x4x768, .f32⟩
  | 22 => ⟨S1x4x768, .f32⟩
  | 23 => ⟨S_, .f32⟩
  | 24 => ⟨S1x4x768, .f32⟩
  | 25 => ⟨S1x4x768, .f32⟩
  | 26 => ⟨S1x4x768, .f32⟩
  | 27 => ⟨S_, .f32⟩
  | 28 => ⟨S1x4x768, .f32⟩
  | 29 => ⟨S1x4x768, .f32⟩
  | 30 => ⟨S1x3072, .f32⟩
  | 31 => ⟨S_, .f32⟩
  | 32 => ⟨S1x3072, .f32⟩
  | 33 => ⟨S1x3072, .f32⟩
  | 34 => ⟨S_, .f32⟩
  | 35 => ⟨S1x3072, .f32⟩
  | 36 => ⟨S1x3072, .f32⟩
  | 37 => ⟨S1x3072, .f32⟩
  | 38 => ⟨S_, .f32⟩
  | 39 => ⟨S1x3072, .f32⟩
  | 40 => ⟨S1x3072, .f32⟩
  | 41 => ⟨S1x3072, .f32⟩
  | 42 => ⟨S_, .f32⟩
  | 43 => ⟨S1x3072, .f32⟩
  | 44 => ⟨S1x3072, .f32⟩
  | 45 => ⟨S1x3072, .f32⟩
  | 46 => ⟨S_, .f32⟩
  | 47 => ⟨S1x3072, .f32⟩
  | 48 => ⟨S1x3072, .f32⟩
  | 49 => ⟨S_, .f32⟩
  | 50 => ⟨S1x3072, .f32⟩
  | 51 => ⟨S1x3072, .f32⟩
  | 52 => ⟨S1x3072, .f32⟩
  | 53 => ⟨S_, .f32⟩
  | 54 => ⟨S1x3072, .f32⟩
  | 55 => ⟨S1x3072, .f32⟩
  | 56 => ⟨S1x3072, .f32⟩
  | 57 => ⟨S_, .f32⟩
  | 58 => ⟨S1x3072, .f32⟩
  | 59 => ⟨S1x3072, .f32⟩
  | 60 => ⟨S1x3072, .f32⟩
  | 61 => ⟨S_, .f32⟩
  | 62 => ⟨S1x3072, .f32⟩
  | 63 => ⟨S1x3072, .f32⟩
  | 64 => ⟨S1x32, .f32⟩
  | 65 => ⟨S_, .f32⟩
  | 66 => ⟨S1x32, .f32⟩
  | 67 => ⟨S1x32, .f32⟩
  | 68 => ⟨S_, .f32⟩
  | 69 => ⟨S1x32, .f32⟩
  | 70 => ⟨S1x32, .f32⟩
  | 71 => ⟨S1x32, .f32⟩
  | 72 => ⟨S_, .f32⟩
  | 73 => ⟨S1x32, .f32⟩
  | 74 => ⟨S1x32, .f32⟩
  | 75 => ⟨S1x32, .f32⟩
  | 76 => ⟨S_, .f32⟩
  | 77 => ⟨S1x32, .f32⟩
  | 78 => ⟨S1x32, .f32⟩
  | 79 => ⟨S1x32, .f32⟩
  | 80 => ⟨S_, .f32⟩
  | 81 => ⟨S1x32, .f32⟩
  | 82 => ⟨S1x32, .f32⟩
  | 83 => ⟨S_, .f32⟩
  | 84 => ⟨S1x32, .f32⟩
  | 85 => ⟨S1x32, .f32⟩
  | 86 => ⟨S1x32, .f32⟩
  | 87 => ⟨S_, .f32⟩
  | 88 => ⟨S1x32, .f32⟩
  | 89 => ⟨S1x32, .f32⟩
  | 90 => ⟨S1x32, .f32⟩
  | 91 => ⟨S_, .f32⟩
  | 92 => ⟨S1x32, .f32⟩
  | 93 => ⟨S1x32, .f32⟩
  | 94 => ⟨S1x32, .f32⟩
  | 95 => ⟨S_, .f32⟩
  | 96 => ⟨S1x32, .f32⟩
  | 97 => ⟨S1x32, .f32⟩
  | 98 => ⟨S1x32, .f32⟩
  | 99 => ⟨S_, .f32⟩
  | 100 => ⟨S1x32, .f32⟩
  | 101 => ⟨S1x32, .f32⟩
  | 102 => ⟨S_, .f32⟩
  | 103 => ⟨S1x32, .f32⟩
  | 104 => ⟨S1x32, .f32⟩
  | 105 => ⟨S1x32, .f32⟩
  | 106 => ⟨S_, .f32⟩
  | 107 => ⟨S1x32, .f32⟩
  | 108 => ⟨S1x32, .f32⟩
  | 109 => ⟨S1x32, .f32⟩
  | 110 => ⟨S_, .f32⟩
  | 111 => ⟨S1x32, .f32⟩
  | 112 => ⟨S1x32, .f32⟩
  | 113 => ⟨S1x32, .f32⟩
  | 114 => ⟨S_, .f32⟩
  | 115 => ⟨S1x32, .f32⟩
  | 116 => ⟨S1x32, .f32⟩
  | 117 => ⟨S_, .f32⟩
  | 118 => ⟨S1x32, .f32⟩
  | 119 => ⟨S1x32, .f32⟩
  | 120 => ⟨S1x32, .f32⟩
  | 121 => ⟨S_, .f32⟩
  | 122 => ⟨S1x32, .f32⟩
  | 123 => ⟨S1x32, .f32⟩
  | 124 => ⟨S1x32, .f32⟩
  | 125 => ⟨S_, .f32⟩
  | 126 => ⟨S1x32, .f32⟩
  | 127 => ⟨S1x32, .f32⟩
  | _ => ⟨S1x1024, .f32⟩

abbrev hbmTy0_3 (i : Nat) : BufTy := match i % 128 with
  | 0 => ⟨S1x32, .f32⟩
  | 1 => ⟨S_, .f32⟩
  | 2 => ⟨S1x32, .f32⟩
  | 3 => ⟨S1x32, .f32⟩
  | 4 => ⟨S1x2048, .f32⟩
  | 5 => ⟨S_, .f32⟩
  | 6 => ⟨S1x2048, .f32⟩
  | 7 => ⟨S1x2048, .f32⟩
  | 8 => ⟨S_, .f32⟩
  | 9 => ⟨S1x2048, .f32⟩
  | 10 => ⟨S1x2048, .f32⟩
  | 11 => ⟨S1x2048, .f32⟩
  | 12 => ⟨S_, .f32⟩
  | 13 => ⟨S1x2048, .f32⟩
  | 14 => ⟨S1x2048, .f32⟩
  | 15 => ⟨S1x2048, .f32⟩
  | 16 => ⟨S_, .f32⟩
  | 17 => ⟨S1x2048, .f32⟩
  | 18 => ⟨S1x2048, .f32⟩
  | 19 => ⟨S1x2048, .f32⟩
  | 20 => ⟨S_, .f32⟩
  | 21 => ⟨S1x2048, .f32⟩
  | 22 => ⟨S1x2048, .f32⟩
  | 23 => ⟨S_, .f32⟩
  | 24 => ⟨S1x2048, .f32⟩
  | 25 => ⟨S1x2048, .f32⟩
  | 26 => ⟨S1x2048, .f32⟩
  | 27 => ⟨S_, .f32⟩
  | 28 => ⟨S1x2048, .f32⟩
  | 29 => ⟨S1x2048, .f32⟩
  | 30 => ⟨S1x2048, .f32⟩
  | 31 => ⟨S_, .f32⟩
  | 32 => ⟨S1x2048, .f32⟩
  | 33 => ⟨S1x2048, .f32⟩
  | 34 => ⟨S1x2048, .f32⟩
  | 35 => ⟨S_, .f32⟩
  | 36 => ⟨S1x2048, .f32⟩
  | 37 => ⟨S1x2048, .f32⟩
  | 38 => ⟨S_, .f32⟩
  | 39 => ⟨S1024, .f32⟩
  | 40 => ⟨S1024, .f32⟩
  | 41 => ⟨S_, .f32⟩
  | 42 => ⟨S1024, .f32⟩
  | 43 => ⟨S1024, .f32⟩
  | 44 => ⟨S1024, .f32⟩
  | 45 => ⟨S_, .f32⟩
  | 46 => ⟨S1024, .f32⟩
  | 47 => ⟨S1024, .f32⟩
  | 48 => ⟨S1024, .f32⟩
  | 49 => ⟨S_, .f32⟩
  | 50 => ⟨S1024, .f32⟩
  | 51 => ⟨S1024, .f32⟩
  | 52 => ⟨S1024, .f32⟩
  | 53 => ⟨S_, .f32⟩
  | 54 => ⟨S1024, .f32⟩
  | 55 => ⟨S1024, .f32⟩
  | 56 => ⟨S_, .f32⟩
  | 57 => ⟨S1024, .f32⟩
  | 58 => ⟨S1024, .f32⟩
  | 59 => ⟨S1024, .f32⟩
  | 60 => ⟨S_, .f32⟩
  | 61 => ⟨S1024, .f32⟩
  | 62 => ⟨S1024, .f32⟩
  | 63 => ⟨S1024, .f32⟩
  | 64 => ⟨S_, .f32⟩
  | 65 => ⟨S1024, .f32⟩
  | 66 => ⟨S1024, .f32⟩
  | 67 => ⟨S1024, .f32⟩
  | 68 => ⟨S_, .f32⟩
  | 69 => ⟨S1024, .f32⟩
  | 70 => ⟨S1024, .f32⟩
  | 71 => ⟨S1024, .f32⟩
  | 72 => ⟨S3072, .f32⟩
  | 73 => ⟨S15408, .f32⟩
  | 74 => ⟨S2048, .f32⟩
  | 75 => ⟨S2048, .f32⟩
  | 76 => ⟨S2048, .f32⟩
  | 77 => ⟨S3072, .f32⟩
  | 78 => ⟨S3072, .f32⟩
  | 79 => ⟨S32, .f32⟩
  | 80 => ⟨S32, .f32⟩
  | 81 => ⟨S2048, .f32⟩
  | 82 => ⟨S34928, .f32⟩
  | 83 => ⟨S_, .i32⟩
  | 84 => ⟨S_, .f32⟩
  | 85 => ⟨S35840, .f32⟩
  | 86 => ⟨S280x128, .f32⟩
  | 87 => ⟨S1024, .f32⟩
  | 88 => ⟨S3072, .f32⟩
  | 89 => ⟨S15408, .f32⟩
  | 90 => ⟨S2048, .f32⟩
  | 91 => ⟨S2048, .f32⟩
  | 92 => ⟨S2048, .f32⟩
  | 93 => ⟨S3072, .f32⟩
  | 94 => ⟨S3072, .f32⟩
  | 95 => ⟨S32, .f32⟩
  | 96 => ⟨S32, .f32⟩
  | 97 => ⟨S2048, .f32⟩
  | 98 => ⟨S34928, .f32⟩
  | 99 => ⟨S_, .i32⟩
  | 100 => ⟨S_, .f32⟩
  | 101 => ⟨S35840, .f32⟩
  | 102 => ⟨S280x128, .f32⟩
  | 103 => ⟨S1024, .f32⟩
  | 104 => ⟨S3072, .f32⟩
  | 105 => ⟨S15408, .f32⟩
  | 106 => ⟨S2048, .f32⟩
  | 107 => ⟨S2048, .f32⟩
  | 108 => ⟨S2048, .f32⟩
  | 109 => ⟨S3072, .f32⟩
  | 110 => ⟨S3072, .f32⟩
  | 111 => ⟨S32, .f32⟩
  | 112 => ⟨S32, .f32⟩
  | 113 => ⟨S2048, .f32⟩
  | 114 => ⟨S34928, .f32⟩
  | 115 => ⟨S_, .i32⟩
  | 116 => ⟨S_, .f32⟩
  | 117 => ⟨S35840, .f32⟩
  | 118 => ⟨S280x128, .f32⟩
  | _ => ⟨S1x1024, .f32⟩

abbrev hbmTy (i : Nat) : BufTy := match i / 128 with
  | 0 => hbmTy0_0 i
  | 1 => hbmTy0_1 i
  | 2 => hbmTy0_2 i
  | 3 => hbmTy0_3 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_cst : Ref sig .tc := ⟨.hbm, 49, rfl⟩
abbrev main_v1 : Ref sig .tc := ⟨.hbm, 50, rfl⟩
abbrev main_v2 : Ref sig .tc := ⟨.hbm, 51, rfl⟩
abbrev main_cst_0 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_cst_1 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_cst_2 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_cst_3 : Ref sig .tc := ⟨.hbm, 64, rfl⟩
abbrev main_v12 : Ref sig .tc := ⟨.hbm, 65, rfl⟩
abbrev main_v13 : Ref sig .tc := ⟨.hbm, 66, rfl⟩
abbrev main_cst_4 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_cst_5 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_cst_6 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_cst_7 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_cst_8 : Ref sig .tc := ⟨.hbm, 83, rfl⟩
abbrev main_v26 : Ref sig .tc := ⟨.hbm, 84, rfl⟩
abbrev main_v27 : Ref sig .tc := ⟨.hbm, 85, rfl⟩
abbrev main_cst_9 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_cst_10 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_cst_11 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_cst_12 : Ref sig .tc := ⟨.hbm, 98, rfl⟩
abbrev main_v37 : Ref sig .tc := ⟨.hbm, 99, rfl⟩
abbrev main_v38 : Ref sig .tc := ⟨.hbm, 100, rfl⟩
abbrev main_cst_13 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_cst_14 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_cst_15 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_cst_16 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_cst_17 : Ref sig .tc := ⟨.hbm, 117, rfl⟩
abbrev main_v51 : Ref sig .tc := ⟨.hbm, 118, rfl⟩
abbrev main_v52 : Ref sig .tc := ⟨.hbm, 119, rfl⟩
abbrev main_cst_18 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_cst_19 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_cst_20 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_cst_21 : Ref sig .tc := ⟨.hbm, 132, rfl⟩
abbrev main_v62 : Ref sig .tc := ⟨.hbm, 133, rfl⟩
abbrev main_v63 : Ref sig .tc := ⟨.hbm, 134, rfl⟩
abbrev main_cst_22 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_cst_23 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_cst_24 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_cst_25 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_cst_26 : Ref sig .tc := ⟨.hbm, 151, rfl⟩
abbrev main_v76 : Ref sig .tc := ⟨.hbm, 152, rfl⟩
abbrev main_v77 : Ref sig .tc := ⟨.hbm, 153, rfl⟩
abbrev main_cst_27 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_cst_28 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_cst_29 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_cst_30 : Ref sig .tc := ⟨.hbm, 166, rfl⟩
abbrev main_v87 : Ref sig .tc := ⟨.hbm, 167, rfl⟩
abbrev main_v88 : Ref sig .tc := ⟨.hbm, 168, rfl⟩
abbrev main_cst_31 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_cst_32 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_cst_33 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_cst_34 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_cst_35 : Ref sig .tc := ⟨.hbm, 185, rfl⟩
abbrev main_v101 : Ref sig .tc := ⟨.hbm, 186, rfl⟩
abbrev main_v102 : Ref sig .tc := ⟨.hbm, 187, rfl⟩
abbrev main_cst_36 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_cst_37 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_cst_38 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_cst_39 : Ref sig .tc := ⟨.hbm, 200, rfl⟩
abbrev main_v112 : Ref sig .tc := ⟨.hbm, 201, rfl⟩
abbrev main_v113 : Ref sig .tc := ⟨.hbm, 202, rfl⟩
abbrev main_cst_40 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_cst_41 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_cst_42 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_cst_43 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_cst_44 : Ref sig .tc := ⟨.hbm, 219, rfl⟩
abbrev main_v126 : Ref sig .tc := ⟨.hbm, 220, rfl⟩
abbrev main_v127 : Ref sig .tc := ⟨.hbm, 221, rfl⟩
abbrev main_cst_45 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_cst_46 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_cst_47 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_cst_48 : Ref sig .tc := ⟨.hbm, 234, rfl⟩
abbrev main_v137 : Ref sig .tc := ⟨.hbm, 235, rfl⟩
abbrev main_v138 : Ref sig .tc := ⟨.hbm, 236, rfl⟩
abbrev main_cst_49 : Ref sig .tc := ⟨.hbm, 237, rfl⟩
abbrev main_v139 : Ref sig .tc := ⟨.hbm, 238, rfl⟩
abbrev main_v140 : Ref sig .tc := ⟨.hbm, 239, rfl⟩
abbrev main_v141 : Ref sig .tc := ⟨.hbm, 240, rfl⟩
abbrev main_cst_50 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_cst_51 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_cst_52 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_cst_53 : Ref sig .tc := ⟨.hbm, 253, rfl⟩
abbrev main_v151 : Ref sig .tc := ⟨.hbm, 254, rfl⟩
abbrev main_v152 : Ref sig .tc := ⟨.hbm, 255, rfl⟩
abbrev main_cst_54 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_cst_55 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_cst_56 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_cst_57 : Ref sig .tc := ⟨.hbm, 268, rfl⟩
abbrev main_v162 : Ref sig .tc := ⟨.hbm, 269, rfl⟩
abbrev main_v163 : Ref sig .tc := ⟨.hbm, 270, rfl⟩
abbrev main_cst_58 : Ref sig .tc := ⟨.hbm, 271, rfl⟩
abbrev main_v164 : Ref sig .tc := ⟨.hbm, 272, rfl⟩
abbrev main_v165 : Ref sig .tc := ⟨.hbm, 273, rfl⟩
abbrev main_v166 : Ref sig .tc := ⟨.hbm, 274, rfl⟩
abbrev main_cst_59 : Ref sig .tc := ⟨.hbm, 275, rfl⟩
abbrev main_v167 : Ref sig .tc := ⟨.hbm, 276, rfl⟩
abbrev main_v168 : Ref sig .tc := ⟨.hbm, 277, rfl⟩
abbrev main_v169 : Ref sig .tc := ⟨.hbm, 278, rfl⟩
abbrev main_cst_60 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_cst_61 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_cst_62 : Ref sig .tc := ⟨.hbm, 287, rfl⟩
abbrev main_v176 : Ref sig .tc := ⟨.hbm, 288, rfl⟩
abbrev main_v177 : Ref sig .tc := ⟨.hbm, 289, rfl⟩
abbrev main_cst_63 : Ref sig .tc := ⟨.hbm, 290, rfl⟩
abbrev main_v178 : Ref sig .tc := ⟨.hbm, 291, rfl⟩
abbrev main_v179 : Ref sig .tc := ⟨.hbm, 292, rfl⟩
abbrev main_v180 : Ref sig .tc := ⟨.hbm, 293, rfl⟩
abbrev main_cst_64 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_cst_65 : Ref sig .tc := ⟨.hbm, 298, rfl⟩
abbrev main_v184 : Ref sig .tc := ⟨.hbm, 299, rfl⟩
abbrev main_v185 : Ref sig .tc := ⟨.hbm, 300, rfl⟩
abbrev main_v186 : Ref sig .tc := ⟨.hbm, 301, rfl⟩
abbrev main_cst_66 : Ref sig .tc := ⟨.hbm, 302, rfl⟩
abbrev main_v187 : Ref sig .tc := ⟨.hbm, 303, rfl⟩
abbrev main_v188 : Ref sig .tc := ⟨.hbm, 304, rfl⟩
abbrev main_cst_67 : Ref sig .tc := ⟨.hbm, 305, rfl⟩
abbrev main_v189 : Ref sig .tc := ⟨.hbm, 306, rfl⟩
abbrev main_v190 : Ref sig .tc := ⟨.hbm, 307, rfl⟩
abbrev main_v191 : Ref sig .tc := ⟨.hbm, 308, rfl⟩
abbrev main_cst_68 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_cst_69 : Ref sig .tc := ⟨.hbm, 313, rfl⟩
abbrev main_v195 : Ref sig .tc := ⟨.hbm, 314, rfl⟩
abbrev main_v196 : Ref sig .tc := ⟨.hbm, 315, rfl⟩
abbrev main_v197 : Ref sig .tc := ⟨.hbm, 316, rfl⟩
abbrev main_cst_70 : Ref sig .tc := ⟨.hbm, 317, rfl⟩
abbrev main_v198 : Ref sig .tc := ⟨.hbm, 318, rfl⟩
abbrev main_v199 : Ref sig .tc := ⟨.hbm, 319, rfl⟩
abbrev main_v200 : Ref sig .tc := ⟨.hbm, 320, rfl⟩
abbrev main_cst_71 : Ref sig .tc := ⟨.hbm, 321, rfl⟩
abbrev main_v201 : Ref sig .tc := ⟨.hbm, 322, rfl⟩
abbrev main_v202 : Ref sig .tc := ⟨.hbm, 323, rfl⟩
abbrev main_cst_72 : Ref sig .tc := ⟨.hbm, 324, rfl⟩
abbrev main_v203 : Ref sig .tc := ⟨.hbm, 325, rfl⟩
abbrev main_v204 : Ref sig .tc := ⟨.hbm, 326, rfl⟩
abbrev main_v205 : Ref sig .tc := ⟨.hbm, 327, rfl⟩
abbrev main_cst_73 : Ref sig .tc := ⟨.hbm, 328, rfl⟩
abbrev main_v206 : Ref sig .tc := ⟨.hbm, 329, rfl⟩
abbrev main_v207 : Ref sig .tc := ⟨.hbm, 330, rfl⟩
abbrev main_v208 : Ref sig .tc := ⟨.hbm, 331, rfl⟩
abbrev main_cst_74 : Ref sig .tc := ⟨.hbm, 332, rfl⟩
abbrev main_v209 : Ref sig .tc := ⟨.hbm, 333, rfl⟩
abbrev main_v210 : Ref sig .tc := ⟨.hbm, 334, rfl⟩
abbrev main_v211 : Ref sig .tc := ⟨.hbm, 335, rfl⟩
abbrev main_cst_75 : Ref sig .tc := ⟨.hbm, 336, rfl⟩
abbrev main_v212 : Ref sig .tc := ⟨.hbm, 337, rfl⟩
abbrev main_v213 : Ref sig .tc := ⟨.hbm, 338, rfl⟩
abbrev main_cst_76 : Ref sig .tc := ⟨.hbm, 339, rfl⟩
abbrev main_v214 : Ref sig .tc := ⟨.hbm, 340, rfl⟩
abbrev main_v215 : Ref sig .tc := ⟨.hbm, 341, rfl⟩
abbrev main_v216 : Ref sig .tc := ⟨.hbm, 342, rfl⟩
abbrev main_cst_77 : Ref sig .tc := ⟨.hbm, 343, rfl⟩
abbrev main_v217 : Ref sig .tc := ⟨.hbm, 344, rfl⟩
abbrev main_v218 : Ref sig .tc := ⟨.hbm, 345, rfl⟩
abbrev main_v219 : Ref sig .tc := ⟨.hbm, 346, rfl⟩
abbrev main_cst_78 : Ref sig .tc := ⟨.hbm, 347, rfl⟩
abbrev main_v220 : Ref sig .tc := ⟨.hbm, 348, rfl⟩
abbrev main_v221 : Ref sig .tc := ⟨.hbm, 349, rfl⟩
abbrev main_v222 : Ref sig .tc := ⟨.hbm, 350, rfl⟩
abbrev main_cst_79 : Ref sig .tc := ⟨.hbm, 351, rfl⟩
abbrev main_v223 : Ref sig .tc := ⟨.hbm, 352, rfl⟩
abbrev main_v224 : Ref sig .tc := ⟨.hbm, 353, rfl⟩
abbrev main_v225 : Ref sig .tc := ⟨.hbm, 354, rfl⟩
abbrev main_cst_80 : Ref sig .tc := ⟨.hbm, 355, rfl⟩
abbrev main_v226 : Ref sig .tc := ⟨.hbm, 356, rfl⟩
abbrev main_v227 : Ref sig .tc := ⟨.hbm, 357, rfl⟩
abbrev main_cst_81 : Ref sig .tc := ⟨.hbm, 358, rfl⟩
abbrev main_v228 : Ref sig .tc := ⟨.hbm, 359, rfl⟩
abbrev main_v229 : Ref sig .tc := ⟨.hbm, 360, rfl⟩
abbrev main_v230 : Ref sig .tc := ⟨.hbm, 361, rfl⟩
abbrev main_cst_82 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_cst_83 : Ref sig .tc := ⟨.hbm, 366, rfl⟩
abbrev main_v234 : Ref sig .tc := ⟨.hbm, 367, rfl⟩
abbrev main_v235 : Ref sig .tc := ⟨.hbm, 368, rfl⟩
abbrev main_v236 : Ref sig .tc := ⟨.hbm, 369, rfl⟩
abbrev main_cst_84 : Ref sig .tc := ⟨.hbm, 370, rfl⟩
abbrev main_v237 : Ref sig .tc := ⟨.hbm, 371, rfl⟩
abbrev main_v238 : Ref sig .tc := ⟨.hbm, 372, rfl⟩
abbrev main_cst_85 : Ref sig .tc := ⟨.hbm, 373, rfl⟩
abbrev main_v239 : Ref sig .tc := ⟨.hbm, 374, rfl⟩
abbrev main_v240 : Ref sig .tc := ⟨.hbm, 375, rfl⟩
abbrev main_v241 : Ref sig .tc := ⟨.hbm, 376, rfl⟩
abbrev main_cst_86 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_87 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_88 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_89 : Ref sig .tc := ⟨.hbm, 389, rfl⟩
abbrev main_v251 : Ref sig .tc := ⟨.hbm, 390, rfl⟩
abbrev main_v252 : Ref sig .tc := ⟨.hbm, 391, rfl⟩
abbrev main_cst_90 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_91 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_92 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_93 : Ref sig .tc := ⟨.hbm, 404, rfl⟩
abbrev main_v262 : Ref sig .tc := ⟨.hbm, 405, rfl⟩
abbrev main_v263 : Ref sig .tc := ⟨.hbm, 406, rfl⟩
abbrev main_cst_94 : Ref sig .tc := ⟨.hbm, 407, rfl⟩
abbrev main_v264 : Ref sig .tc := ⟨.hbm, 408, rfl⟩
abbrev main_v265 : Ref sig .tc := ⟨.hbm, 409, rfl⟩
abbrev main_v266 : Ref sig .tc := ⟨.hbm, 410, rfl⟩
abbrev main_cst_95 : Ref sig .tc := ⟨.hbm, 411, rfl⟩
abbrev main_v267 : Ref sig .tc := ⟨.hbm, 412, rfl⟩
abbrev main_v268 : Ref sig .tc := ⟨.hbm, 413, rfl⟩
abbrev main_v269 : Ref sig .tc := ⟨.hbm, 414, rfl⟩
abbrev main_cst_96 : Ref sig .tc := ⟨.hbm, 415, rfl⟩
abbrev main_v270 : Ref sig .tc := ⟨.hbm, 416, rfl⟩
abbrev main_v271 : Ref sig .tc := ⟨.hbm, 417, rfl⟩
abbrev main_v272 : Ref sig .tc := ⟨.hbm, 418, rfl⟩
abbrev main_cst_97 : Ref sig .tc := ⟨.hbm, 419, rfl⟩
abbrev main_v273 : Ref sig .tc := ⟨.hbm, 420, rfl⟩
abbrev main_v274 : Ref sig .tc := ⟨.hbm, 421, rfl⟩
abbrev main_cst_98 : Ref sig .tc := ⟨.hbm, 422, rfl⟩
abbrev main_v275 : Ref sig .tc := ⟨.hbm, 423, rfl⟩
abbrev main_v276 : Ref sig .tc := ⟨.hbm, 424, rfl⟩
abbrev main_cst_99 : Ref sig .tc := ⟨.hbm, 425, rfl⟩
abbrev main_v277 : Ref sig .tc := ⟨.hbm, 426, rfl⟩
abbrev main_v278 : Ref sig .tc := ⟨.hbm, 427, rfl⟩
abbrev main_v279 : Ref sig .tc := ⟨.hbm, 428, rfl⟩
abbrev main_cst_100 : Ref sig .tc := ⟨.hbm, 429, rfl⟩
abbrev main_v280 : Ref sig .tc := ⟨.hbm, 430, rfl⟩
abbrev main_v281 : Ref sig .tc := ⟨.hbm, 431, rfl⟩
abbrev main_v282 : Ref sig .tc := ⟨.hbm, 432, rfl⟩
abbrev main_cst_101 : Ref sig .tc := ⟨.hbm, 433, rfl⟩
abbrev main_v283 : Ref sig .tc := ⟨.hbm, 434, rfl⟩
abbrev main_v284 : Ref sig .tc := ⟨.hbm, 435, rfl⟩
abbrev main_v285 : Ref sig .tc := ⟨.hbm, 436, rfl⟩
abbrev main_cst_102 : Ref sig .tc := ⟨.hbm, 437, rfl⟩
abbrev main_v286 : Ref sig .tc := ⟨.hbm, 438, rfl⟩
abbrev main_v287 : Ref sig .tc := ⟨.hbm, 439, rfl⟩
abbrev main_cst_103 : Ref sig .tc := ⟨.hbm, 440, rfl⟩
abbrev main_v288 : Ref sig .tc := ⟨.hbm, 441, rfl⟩
abbrev main_v289 : Ref sig .tc := ⟨.hbm, 442, rfl⟩
abbrev main_v290 : Ref sig .tc := ⟨.hbm, 443, rfl⟩
abbrev main_cst_104 : Ref sig .tc := ⟨.hbm, 444, rfl⟩
abbrev main_v291 : Ref sig .tc := ⟨.hbm, 445, rfl⟩
abbrev main_v292 : Ref sig .tc := ⟨.hbm, 446, rfl⟩
abbrev main_v293 : Ref sig .tc := ⟨.hbm, 447, rfl⟩
abbrev main_cst_105 : Ref sig .tc := ⟨.hbm, 448, rfl⟩
abbrev main_v294 : Ref sig .tc := ⟨.hbm, 449, rfl⟩
abbrev main_v295 : Ref sig .tc := ⟨.hbm, 450, rfl⟩
abbrev main_v296 : Ref sig .tc := ⟨.hbm, 451, rfl⟩
abbrev main_cst_106 : Ref sig .tc := ⟨.hbm, 452, rfl⟩
abbrev main_v297 : Ref sig .tc := ⟨.hbm, 453, rfl⟩
abbrev main_v298 : Ref sig .tc := ⟨.hbm, 454, rfl⟩
abbrev main_v299 : Ref sig .tc := ⟨.hbm, 455, rfl⟩
abbrev main_v300 : Ref sig .tc := ⟨.hbm, 456, rfl⟩
abbrev main_v301 : Ref sig .tc := ⟨.hbm, 457, rfl⟩
abbrev main_v302 : Ref sig .tc := ⟨.hbm, 458, rfl⟩
abbrev main_v303 : Ref sig .tc := ⟨.hbm, 459, rfl⟩
abbrev main_v304 : Ref sig .tc := ⟨.hbm, 460, rfl⟩
abbrev main_v305 : Ref sig .tc := ⟨.hbm, 461, rfl⟩
abbrev main_v306 : Ref sig .tc := ⟨.hbm, 462, rfl⟩
abbrev main_v307 : Ref sig .tc := ⟨.hbm, 463, rfl⟩
abbrev main_v308 : Ref sig .tc := ⟨.hbm, 464, rfl⟩
abbrev main_v309 : Ref sig .tc := ⟨.hbm, 465, rfl⟩
abbrev main_v310 : Ref sig .tc := ⟨.hbm, 466, rfl⟩
abbrev main_c : Ref sig .tc := ⟨.hbm, 467, rfl⟩
abbrev main_call0_v0 : Ref sig .tc := ⟨.hbm, 468, rfl⟩
abbrev main_v311 : Ref sig .tc := ⟨.hbm, 469, rfl⟩
abbrev main_v312 : Ref sig .tc := ⟨.hbm, 470, rfl⟩
abbrev main_v313 : Ref sig .tc := ⟨.hbm, 471, rfl⟩
abbrev main_v314 : Ref sig .tc := ⟨.hbm, 472, rfl⟩
abbrev main_v315 : Ref sig .tc := ⟨.hbm, 473, rfl⟩
abbrev main_v316 : Ref sig .tc := ⟨.hbm, 474, rfl⟩
abbrev main_v317 : Ref sig .tc := ⟨.hbm, 475, rfl⟩
abbrev main_v318 : Ref sig .tc := ⟨.hbm, 476, rfl⟩
abbrev main_v319 : Ref sig .tc := ⟨.hbm, 477, rfl⟩
abbrev main_v320 : Ref sig .tc := ⟨.hbm, 478, rfl⟩
abbrev main_v321 : Ref sig .tc := ⟨.hbm, 479, rfl⟩
abbrev main_v322 : Ref sig .tc := ⟨.hbm, 480, rfl⟩
abbrev main_v323 : Ref sig .tc := ⟨.hbm, 481, rfl⟩
abbrev main_v324 : Ref sig .tc := ⟨.hbm, 482, rfl⟩
abbrev main_c_107 : Ref sig .tc := ⟨.hbm, 483, rfl⟩
abbrev main_call1_v0 : Ref sig .tc := ⟨.hbm, 484, rfl⟩
abbrev main_v325 : Ref sig .tc := ⟨.hbm, 485, rfl⟩
abbrev main_v326 : Ref sig .tc := ⟨.hbm, 486, rfl⟩
abbrev main_v327 : Ref sig .tc := ⟨.hbm, 487, rfl⟩
abbrev main_v328 : Ref sig .tc := ⟨.hbm, 488, rfl⟩
abbrev main_v329 : Ref sig .tc := ⟨.hbm, 489, rfl⟩
abbrev main_v330 : Ref sig .tc := ⟨.hbm, 490, rfl⟩
abbrev main_v331 : Ref sig .tc := ⟨.hbm, 491, rfl⟩
abbrev main_v332 : Ref sig .tc := ⟨.hbm, 492, rfl⟩
abbrev main_v333 : Ref sig .tc := ⟨.hbm, 493, rfl⟩
abbrev main_v334 : Ref sig .tc := ⟨.hbm, 494, rfl⟩
abbrev main_v335 : Ref sig .tc := ⟨.hbm, 495, rfl⟩
abbrev main_v336 : Ref sig .tc := ⟨.hbm, 496, rfl⟩
abbrev main_v337 : Ref sig .tc := ⟨.hbm, 497, rfl⟩
abbrev main_v338 : Ref sig .tc := ⟨.hbm, 498, rfl⟩
abbrev main_c_108 : Ref sig .tc := ⟨.hbm, 499, rfl⟩
abbrev main_call2_v0 : Ref sig .tc := ⟨.hbm, 500, rfl⟩
abbrev main_v339 : Ref sig .tc := ⟨.hbm, 501, rfl⟩
abbrev main_v340 : Ref sig .tc := ⟨.hbm, 502, rfl⟩

abbrev nD : Nat := 1
abbrev τ : Topo := Topo.v7x

variable {F : FTy → Type} [FloatOps F]
-- ==== KernelCond.lean ====
abbrev S8x1024 : Shape := ⟨2, ![8, 1024]⟩
abbrev S1024x768 : Shape := ⟨2, ![1024, 768]⟩
abbrev S1x768 : Shape := ⟨2, ![1, 768]⟩
abbrev S8x768 : Shape := ⟨2, ![8, 768]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x768, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceCondIdeal.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩
abbrev S8x768 : Shape := ⟨2, ![8, 768]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S8x768, .f32⟩
  | .hbm, ⟨14, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== KernelCondW.lean ====
abbrev S8x1024 : Shape := ⟨2, ![8, 1024]⟩
abbrev S8x768 : Shape := ⟨2, ![8, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .local _ .vmem, ⟨0, _⟩ => ⟨S8x1024, .f32⟩
  | .local _ .vmem, ⟨1, _⟩ => ⟨S8x768, .f32⟩
  | .local _ .vmem, ⟨2, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceCondWIdeal.lean ====
abbrev S8x1024 : Shape := ⟨2, ![8, 1024]⟩
abbrev S8x768 : Shape := ⟨2, ![8, 768]⟩
abbrev S_ : Shape := ⟨0, ![]⟩
abbrev S1024x768 : Shape := ⟨2, ![1024, 768]⟩
abbrev S1x768 : Shape := ⟨2, ![1, 768]⟩
abbrev S768x1024 : Shape := ⟨2, ![768, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S_, .f32⟩
  | .hbm, ⟨3, _⟩ => ⟨S1024x768, .f32⟩
  | .hbm, ⟨4, _⟩ => ⟨S_, .f32⟩
  | .hbm, ⟨5, _⟩ => ⟨S1x768, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x768, .f32⟩
  | .hbm, ⟨16, _⟩ => ⟨S8x768, .f32⟩
  | .hbm, ⟨17, _⟩ => ⟨S8x768, .f32⟩
  | .hbm, ⟨18, _⟩ => ⟨S768x1024, .f32⟩
  | .hbm, ⟨19, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== KernelPost.lean ====
abbrev S8192x2048 : Shape := ⟨2, ![8192, 2048]⟩
abbrev S8192x15360 : Shape := ⟨2, ![8192, 15360]⟩
abbrev S1x2048 : Shape := ⟨2, ![1, 2048]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S256x512 : Shape := ⟨2, ![256, 512]⟩

abbrev nBuf : Space → Nat
  | .hbm => 7
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x15360, .bf16⟩
  | .hbm, ⟨3, _⟩ => ⟨S1x2048, .f32⟩
  | .hbm, ⟨4, _⟩ => ⟨S1x2048, .f32⟩
  | .hbm, ⟨5, _⟩ => ⟨S8192x2048, .bf16⟩
  | .hbm, ⟨6, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferencePostIdeal.lean ====
abbrev S8192x2048 : Shape := ⟨2, ![8192, 2048]⟩
abbrev S8192x15360 : Shape := ⟨2, ![8192, 15360]⟩
abbrev S1x2048 : Shape := ⟨2, ![1, 2048]⟩
abbrev S8192x8x256 : Shape := ⟨3, ![8192, 8, 256]⟩
abbrev S8x256 : Shape := ⟨2, ![8, 256]⟩
abbrev S_ : Shape := ⟨0, ![]⟩
abbrev S8192x8 : Shape := ⟨2, ![8192, 8]⟩
abbrev S8192x8x1 : Shape := ⟨3, ![8192, 8, 1]⟩
abbrev S1x8x256 : Shape := ⟨3, ![1, 8, 256]⟩
abbrev S8192x4x512 : Shape := ⟨3, ![8192, 4, 512]⟩
abbrev S4x512 : Shape := ⟨2, ![4, 512]⟩
abbrev S8192x4 : Shape := ⟨2, ![8192, 4]⟩
abbrev S8192x4x1 : Shape := ⟨3, ![8192, 4, 1]⟩
abbrev S1x4x512 : Shape := ⟨3, ![1, 4, 512]⟩

abbrev nBuf : Space → Nat
  | .hbm => 80
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x15360, .bf16⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x15360, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x8x256, .f32⟩
  | .hbm, ⟨12, _⟩ => ⟨S8x256, .f32⟩
  | .hbm, ⟨13, _⟩ => ⟨S8192x8x256, .f32⟩
  | .hbm, ⟨14, _⟩ => ⟨S_, .f32⟩
  | .hbm, ⟨15, _⟩ => ⟨S8192x8, .f32⟩
  | .hbm, ⟨16, _⟩ => ⟨S8192x8x1, .f32⟩
  | .hbm, ⟨17, _⟩ => ⟨S_, .f32⟩
  | .hbm, ⟨18, _⟩ => ⟨S8192x8x1, .f32⟩
  | .hbm, ⟨19, _⟩ => ⟨S8192x8x1, .f32⟩
  | .hbm, ⟨20, _⟩ => ⟨S_, .f32⟩
  | .hbm, ⟨21, _⟩ => ⟨S8192x8x1, .f32⟩
  | .hbm, ⟨22, _⟩ => ⟨S8192x8x1, .f32⟩
  | .hbm, ⟨23, _⟩ => ⟨S8192x8x1, .f32⟩
  | .hbm, ⟨24, _⟩ => ⟨S8192x8x256, .f32⟩
  | .hbm, ⟨25, _⟩ => ⟨S8192x8x256, .f32⟩
  | .hbm, ⟨26, _⟩ => ⟨S1x8x256, .f32⟩
  | .hbm, ⟨27, _⟩ => ⟨S8192x8x256, .f32⟩
  | .hbm, ⟨28, _⟩ => ⟨S8192x8x256, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x4x512, .f32⟩
  | .hbm, ⟨60, _⟩ => ⟨S4x512, .f32⟩
  | .hbm, ⟨61, _⟩ => ⟨S8192x4x512, .f32⟩
  | .hbm, ⟨62, _⟩ => ⟨S_, .f32⟩
  | .hbm, ⟨63, _⟩ => ⟨S8192x4, .f32⟩
  | .hbm, ⟨64, _⟩ => ⟨S8192x4x1, .f32⟩
  | .hbm, ⟨65, _⟩ => ⟨S_, .f32⟩
  | .hbm, ⟨66, _⟩ => ⟨S8192x4x1, .f32⟩
  | .hbm, ⟨67, _⟩ => ⟨S8192x4x1, .f32⟩
  | .hbm, ⟨68, _⟩ => ⟨S_, .f32⟩
  | .hbm, ⟨69, _⟩ => ⟨S8192x4x1, .f32⟩
  | .hbm, ⟨70, _⟩ => ⟨S8192x4x1, .f32⟩
  | .hbm, ⟨71, _⟩ => ⟨S8192x4x1, .f32⟩
  | .hbm, ⟨72, _⟩ => ⟨S8192x4x512, .f32⟩
  | .hbm, ⟨73, _⟩ => ⟨S8192x4x512, .f32⟩
  | .hbm, ⟨74, _⟩ => ⟨S1x4x512, .f32⟩
  | .hbm, ⟨75, _⟩ => ⟨S8192x4x512, .f32⟩
  | .hbm, ⟨76, _⟩ => ⟨S8192x4x512, .f32⟩
  | .hbm, ⟨77, _⟩ => ⟨S8192x2048, .f32⟩
  | .hbm, ⟨78, _⟩ => ⟨S8192x2048, .bf16⟩
  | .hbm, ⟨79, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== Proof.Adam.Step.lean ====
module

public import Idealize.ShloMosaic.Lib.Pointwise
public import Idealize.ShloMosaic.Lib.IdealHost

/-! # One optimiser step on one number -/

@[expose] public section

noncomputable section

open Idealize.ShloMosaic

namespace Cert.Adam

/-- The constant of a float word. -/
def lit (b : BitVec 32) : EReal := (FloatOps.ofBits (F := Ideal) .f32 b : EReal)

/-- The first moment after the step. -/
def stepM (g a : EReal) : EReal := lit 0x3F666666#32 * a + lit 0x3DCCCCCD#32 * g

/-- The second moment after the step. -/
def stepV (g v : EReal) : EReal := lit 0x3F7FBE77#32 * v + lit 0x3A83126F#32 * (g * g)

/-- The weight's change, from the weight and the two new moments. -/
def change (w a v : EReal) : EReal :=
  lit 0xBA83126F#32 * (Ideal.div (Ideal.div a (lit 0x3F26BD02#32)) (Ideal.sqrt (Ideal.div v (lit 0x3C231ACC#32)) + lit 0x322BCC77#32)
    + lit 0x3C23D70A#32 * w)

def stepD (w g a v : EReal) : EReal := change w (stepM g a) (stepV g v)

end Cert.Adam

end
-- ==== Proof.AdamAda.Claim.lean ====
module

public import proofs.«01_k».proof.Defs
public import proofs.«01_k».proof.Proof.Gen.KernelAdamAdaIdeal.Value
public import proofs.«01_k».proof.Proof.Gen.ReferenceAdamAdaIdeal
public import proofs.«01_k».proof.Proof.Gen.ReferenceAdamAdaIdeal.Run
public import proofs.«01_k».proof.Proof.Gen.ReferenceAdamAdaIdeal.Read
public import proofs.«01_k».proof.Proof.Adam.Step
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # One optimiser step on a large weight's shard -/

@[expose] public section

set_option maxRecDepth 16384

noncomputable section

open Idealize.ShloMosaic Idealize.ShloMosaic.TcCoe Idealize.SL.Sem
open Idealize.ShloMosaic.Pipeline (Dat)
open Cert.Adam (stepD stepM stepV)

namespace Cert.AdamAda

open Cert.KernelAdamAdaIdeal Cert.KernelAdamAdaIdeal.Gen

variable (m : (ℓ : Loc nD τ sig) → Buf (Elt Ideal) ℓ)

/-- Every window's block at every grid point. -/
theorem idx : ∀ t : Fin cfg0.N, win0_0.index t = ![0, t.val, 0] ∧ win0_1.index t = ![0, t.val, 0] ∧
    win0_2.index t = ![0, t.val, 0] ∧ win0_3.index t = ![0, t.val, 0] ∧ win0_4.index t = ![0, t.val, 0] ∧
    win0_5.index t = ![0, t.val, 0] ∧ win0_6.index t = ![0, t.val, 0] :=
  (by decide +kernel : ∀ t : Fin grid0.N, _)

theorem point_lt (t : Fin cfg0.N) : t.val < 4 := lt_of_lt_of_eq t.isLt N_0

def row (t : Fin cfg0.N) (r : Fin 256) : Fin 1024 := ⟨t.val * 256 + r, by have := point_lt t; omega⟩

abbrev W : Type := FVec Ideal S1x1024x768 .f32
abbrev G : Type := FVec Ideal S1024x768 .f32
abbrev B : Type := FVec Ideal S1x256x768 .f32

def arrD (w : W) (g : G) (a v : W) : W := fun i => stepD (w i) (g (ix2 (i 1) (i 2))) (a i) (v i)
def arrM (g : G) (a : W) : W := fun i => stepM (g (ix2 (i 1) (i 2))) (a i)
def arrV (g : G) (v : W) : W := fun i => stepV (g (ix2 (i 1) (i 2))) (v i)

theorem emb (t : Fin cfg0.N) (r : Fin 256) (l : Fin 768) (f : W) :
    f (((cfg0.win 4).blk t).view.emb (ix3 (0 : Fin 1) r l)) = f (ix3 (0 : Fin 1) (row t r) l) := by
  unfold row
  blk_ext [idx t]

theorem rd0 (c : Dev nD) (t : Fin cfg0.N) (r : Fin 256) (l : Fin 768) :
    (iblk m c 0 t : B) (ix3 (0 : Fin 1) r l) = (m ((c : Thread nD τ).loc main_arg0) : W) (ix3 (0 : Fin 1) (row t r) l) := by
  unfold row
  blk_ext [iblk, V, idx t]

theorem rd1 (c : Dev nD) (t : Fin cfg0.N) (r : Fin 256) (l : Fin 768) :
    (iblk m c 1 t : B) (ix3 (0 : Fin 1) r l) = (m ((c : Thread nD τ).loc main_arg1) : G) (ix2 (row t r) l) := by
  trans (V m c main_v0 : W) (ix3 (0 : Fin 1) (row t r) l)
  · unfold row
    blk_ext [iblk, idx t]
  · entry_read
    pointwise

theorem rd2 (c : Dev nD) (t : Fin cfg0.N) (r : Fin 256) (l : Fin 768) :
    (iblk m c 2 t : B) (ix3 (0 : Fin 1) r l) = (m ((c : Thread nD τ).loc main_arg2) : W) (ix3 (0 : Fin 1) (row t r) l) := by
  unfold row
  blk_ext [iblk, V, idx t]

theorem rd3 (c : Dev nD) (t : Fin cfg0.N) (r : Fin 256) (l : Fin 768) :
    (iblk m c 3 t : B) (ix3 (0 : Fin 1) r l) = (m ((c : Thread nD τ).loc main_arg3) : W) (ix3 (0 : Fin 1) (row t r) l) := by
  unfold row
  blk_ext [iblk, V, idx t]

theorem payD (w g a v : B) (r : Fin 256) (l : Fin 768) : (out0_4 (F := Ideal) w g a v : B) (ix3 (0 : Fin 1) r l)
    = stepD (w (ix3 (0 : Fin 1) r l)) (g (ix3 (0 : Fin 1) r l)) (a (ix3 (0 : Fin 1) r l)) (v (ix3 (0 : Fin 1) r l)) := by
  trans k0_pay6 (F := Ideal) g a v w (ix3 (0 : Fin 1) r l)
  · frame_out
    try pointwise
  · pointwise [k0_pay6, k0_pay5, k0_pay4, k0_pay3, stepD, stepM, stepV, Cert.Adam.change, Cert.Adam.lit]

theorem payM (w g a v : B) (r : Fin 256) (l : Fin 768) : (out0_5 (F := Ideal) w g a v : B) (ix3 (0 : Fin 1) r l)
    = stepM (g (ix3 (0 : Fin 1) r l)) (a (ix3 (0 : Fin 1) r l)) := by
  trans k0_pay1 (F := Ideal) (k0_pay4 (F := Ideal) g a) (ix3 (0 : Fin 1) r l)
  · frame_out
    try pointwise
  · pointwise [k0_pay1, k0_pay4, k0_pay3, stepM, Cert.Adam.lit]

theorem payV (w g a v : B) (r : Fin 256) (l : Fin 768) : (out0_6 (F := Ideal) w g a v : B) (ix3 (0 : Fin 1) r l)
    = stepV (g (ix3 (0 : Fin 1) r l)) (v (ix3 (0 : Fin 1) r l)) := by
  trans k0_pay2 (F := Ideal) (k0_pay5 (F := Ideal) g v) (ix3 (0 : Fin 1) r l)
  · frame_out
    try pointwise
  · pointwise [k0_pay2, k0_pay5, k0_pay3, stepV, Cert.Adam.lit]

theorem finalD (c : Dev nD) : (dats m 0 c).arrAt 4 (cfgs 0).N
    = arrD (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  obtain ⟨z, r, l, rfl⟩ : ∃ (z : Fin 1) (r : Fin 256) (l : Fin 768), y = ix3 z r l := ⟨y 0, y 1, y 2, eq_ix3 y⟩
  obtain rfl : z = 0 := Subsingleton.elim _ _
  blk_simp
  rw [after0_4]
  refine (payD _ _ _ _ r l).trans (Eq.trans ?_ (emb t r l (arrD (m ((c : Thread nD τ).loc main_arg0))
    (m ((c : Thread nD τ).loc main_arg1)) (m ((c : Thread nD τ).loc main_arg2)) (m ((c : Thread nD τ).loc main_arg3)))).symm)
  rw [rd0 m c t r l, rd1 m c t r l, rd2 m c t r l, rd3 m c t r l]
  rfl

theorem finalM (c : Dev nD) : (dats m 0 c).arrAt 5 (cfgs 0).N
    = arrM (m ((c : Thread nD τ).loc main_arg1)) (m ((c : Thread nD τ).loc main_arg2)) := by
  refine (dats m 0 c).arrAt_eq_of_covers 5 _ (by decide +kernel) fun t hf y => ?_
  obtain ⟨z, r, l, rfl⟩ : ∃ (z : Fin 1) (r : Fin 256) (l : Fin 768), y = ix3 z r l := ⟨y 0, y 1, y 2, eq_ix3 y⟩
  obtain rfl : z = 0 := Subsingleton.elim _ _
  blk_simp
  rw [after0_5]
  refine (payM (iblk m c 0 t) _ _ (iblk m c 3 t) r l).trans (Eq.trans ?_ (emb t r l (arrM (m ((c : Thread nD τ).loc main_arg1))
    (m ((c : Thread nD τ).loc main_arg2)))).symm)
  rw [rd1 m c t r l, rd2 m c t r l]
  rfl

theorem finalV (c : Dev nD) : (dats m 0 c).arrAt 6 (cfgs 0).N
    = arrV (m ((c : Thread nD τ).loc main_arg1)) (m ((c : Thread nD τ).loc main_arg3)) := by
  refine (dats m 0 c).arrAt_eq_of_covers 6 _ (by decide +kernel) fun t hf y => ?_
  obtain ⟨z, r, l, rfl⟩ : ∃ (z : Fin 1) (r : Fin 256) (l : Fin 768), y = ix3 z r l := ⟨y 0, y 1, y 2, eq_ix3 y⟩
  obtain rfl : z = 0 := Subsingleton.elim _ _
  blk_simp
  rw [after0_6]
  refine (payV (iblk m c 0 t) _ (iblk m c 2 t) _ r l).trans (Eq.trans ?_ (emb t r l (arrV (m ((c : Thread nD τ).loc main_arg1))
    (m ((c : Thread nD τ).loc main_arg3)))).symm)
  rw [rd1 m c t r l, rd3 m c t r l]
  rfl

/-- Equal arguments give equal results. -/
theorem cgD {w w' : W} {g g' : G} {a a' v v' : W} (e0 : w' = w) (e1 : g' = g) (e2 : a' = a) (e3 : v' = v) :
    arrD w' g' a' v' = arrD w g a v := by
  subst e0 e1 e2 e3; rfl

theorem cgM {g g' : G} {a a' : W} (e1 : g' = g) (e2 : a' = a) : arrM g' a' = arrM g a := by
  subst e1 e2; rfl

theorem cgV {g g' : G} {v v' : W} (e1 : g' = g) (e3 : v' = v) : arrV g' v' = arrV g v := by
  subst e1 e3; rfl

open Cert.ReferenceAdamAdaIdeal.Read

theorem refM (g : G) (a : W) : val_main_v5 (F := Ideal) g a = arrM g a := by
  funext i
  obtain ⟨z, r, l, rfl⟩ : ∃ (z : Fin 1) (r : Fin 1024) (l : Fin 768), i = ix3 z r l := ⟨i 0, i 1, i 2, eq_ix3 i⟩
  obtain rfl : z = 0 := Subsingleton.elim _ _
  show _ = stepM (g (ix2 r l)) (a (ix3 (0 : Fin 1) r l))
  pointwise [val_main_v5, val_main_v4, val_main_v3, val_main_v2, val_main_v1, val_main_v0, val_main_cst, val_main_cst_0, stepM, Cert.Adam.lit]

theorem refV (g : G) (v : W) : val_main_v11 (F := Ideal) g v = arrV g v := by
  funext i
  obtain ⟨z, r, l, rfl⟩ : ∃ (z : Fin 1) (r : Fin 1024) (l : Fin 768), i = ix3 z r l := ⟨i 0, i 1, i 2, eq_ix3 i⟩
  obtain rfl : z = 0 := Subsingleton.elim _ _
  show _ = stepV (g (ix2 r l)) (v (ix3 (0 : Fin 1) r l))
  pointwise [val_main_v11, val_main_v10, val_main_v9, val_main_v8, val_main_v7, val_main_v6, val_main_v0, val_main_cst_1, val_main_cst_2, stepV, Cert.Adam.lit]

theorem refD (w : W) (g : G) (a v : W) : val_main_v24 (F := Ideal) w g a v = arrD w g a v := by
  funext i
  have e1 := congrFun (refM g a) i
  have e2 := congrFun (refV g v) i
  show _ = stepD (w i) (g (ix2 (i 1) (i 2))) (a i) (v i)
  simp only [arrM, arrV] at e1 e2
  rw [stepD, ← e1, ← e2]
  obtain ⟨z, r, l, rfl⟩ : ∃ (z : Fin 1) (r : Fin 1024) (l : Fin 768), i = ix3 z r l := ⟨i 0, i 1, i 2, eq_ix3 i⟩
  pointwise [val_main_v24, val_main_v23, val_main_v22, val_main_v21, val_main_v20, val_main_v19, val_main_v18, val_main_v17, val_main_v16, val_main_v15, val_main_v14, val_main_v13, val_main_v12, val_main_cst_3, val_main_cst_4, val_main_cst_5, val_main_cst_6, val_main_cst_7, Cert.Adam.change, Cert.Adam.lit]

end Cert.AdamAda

namespace Cert.AdamAda.Claim

open Cert.AdamAda

theorem quiescent_RefI : quiescent_ReferenceAdamAdaIdeal := by
  intro m g _
  refine (θ_run _ _ _).mono (fun r h => ⟨fun c => ?_, sem_eq_zero_of_no_sems (by decide) _⟩) (Cert.ReferenceAdamAdaIdeal.Value.run m g)
  obtain ⟨_, _, _, h⟩ := h c
  exact h

theorem value : algebraic_KernelAdamAdaIdeal_ReferenceAdamAdaIdeal := by
  intro m g m' g' _ hagree
  refine ⟨fun c => arrD (m ((c.tc : Thread Cert.KernelAdamAdaIdeal.nD Cert.KernelAdamAdaIdeal.τ).loc Cert.KernelAdamAdaIdeal.main_arg0)) (m ((c.tc : Thread Cert.KernelAdamAdaIdeal.nD Cert.KernelAdamAdaIdeal.τ).loc Cert.KernelAdamAdaIdeal.main_arg1)) (m ((c.tc : Thread Cert.KernelAdamAdaIdeal.nD Cert.KernelAdamAdaIdeal.τ).loc Cert.KernelAdamAdaIdeal.main_arg2)) (m ((c.tc : Thread Cert.KernelAdamAdaIdeal.nD Cert.KernelAdamAdaIdeal.τ).loc Cert.KernelAdamAdaIdeal.main_arg3)),
    fun c => arrM (m ((c.tc : Thread Cert.KernelAdamAdaIdeal.nD Cert.KernelAdamAdaIdeal.τ).loc Cert.KernelAdamAdaIdeal.main_arg1)) (m ((c.tc : Thread Cert.KernelAdamAdaIdeal.nD Cert.KernelAdamAdaIdeal.τ).loc Cert.KernelAdamAdaIdeal.main_arg2)),
    fun c => arrV (m ((c.tc : Thread Cert.KernelAdamAdaIdeal.nD Cert.KernelAdamAdaIdeal.τ).loc Cert.KernelAdamAdaIdeal.main_arg1)) (m ((c.tc : Thread Cert.KernelAdamAdaIdeal.nD Cert.KernelAdamAdaIdeal.τ).loc Cert.KernelAdamAdaIdeal.main_arg3)), ?_, ?_⟩
  · refine (θ_run _ _ _).mono (fun r h c => ?_) (Cert.KernelAdamAdaIdeal.Value.run_blocks m g)
    obtain ⟨h0, h1, h2, h⟩ := h c
    exact ⟨h0.trans (finalD m c), h1.trans (finalM m c), h2.trans (finalV m c), h⟩
  · refine (θ_run _ _ _).mono (fun r h c => ?_) (Cert.ReferenceAdamAdaIdeal.Value.run m' g')
    obtain ⟨h0, h1, h2, h⟩ := h c
    obtain ⟨e0, e1, e2, e3⟩ := hagree c
    exact ⟨(h0.trans (refD _ _ _ _)).trans (cgD e0 e1 e2 e3), (h1.trans (refM _ _)).trans (cgM e1 e2),
      (h2.trans (refV _ _)).trans (cgV e1 e3), h⟩

end Cert.AdamAda.Claim

end
-- ==== Proof.AdamIn.Claim.lean ====
module

public import proofs.«01_k».proof.Defs
public import proofs.«01_k».proof.Proof.Gen.KernelAdamInIdeal.Value
public import proofs.«01_k».proof.Proof.Gen.ReferenceAdamInIdeal
public import proofs.«01_k».proof.Proof.Gen.ReferenceAdamInIdeal.Run
public import proofs.«01_k».proof.Proof.Gen.ReferenceAdamInIdeal.Read
public import proofs.«01_k».proof.Proof.Adam.Step
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # One optimiser step on a large weight's shard -/

@[expose] public section

set_option maxRecDepth 16384

noncomputable section

open Idealize.ShloMosaic Idealize.ShloMosaic.TcCoe Idealize.SL.Sem
open Idealize.ShloMosaic.Pipeline (Dat)
open Cert.Adam (stepD stepM stepV)

namespace Cert.AdamIn

open Cert.KernelAdamInIdeal Cert.KernelAdamInIdeal.Gen

variable (m : (ℓ : Loc nD τ sig) → Buf (Elt Ideal) ℓ)

/-- Every window's block at every grid point. -/
theorem idx : ∀ t : Fin cfg0.N, win0_0.index t = ![0, t.val] ∧ win0_1.index t = ![0, t.val] ∧
    win0_2.index t = ![0, t.val] ∧ win0_3.index t = ![0, t.val] ∧ win0_4.index t = ![0, t.val] ∧
    win0_5.index t = ![0, t.val] ∧ win0_6.index t = ![0, t.val] :=
  (by decide +kernel : ∀ t : Fin grid0.N, _)

theorem point_lt (t : Fin cfg0.N) : t.val < 8 := lt_of_lt_of_eq t.isLt N_0

def row (t : Fin cfg0.N) (r : Fin 128) : Fin 1024 := ⟨t.val * 128 + r, by have := point_lt t; omega⟩

abbrev W : Type := FVec Ideal S1x1024x3852 .f32
abbrev O : Type := FVec Ideal S3852x1024 .f32
abbrev G : Type := FVec Ideal S1024x3852 .f32
abbrev B : Type := FVec Ideal S3852x128 .f32

def arrD (w : W) (g : G) (a v : W) : O := fun i => stepD (w (ix3 (0 : Fin 1) (i 1 : Fin 1024) (i 0 : Fin 3852))) (g (ix2 (i 1 : Fin 1024) (i 0 : Fin 3852))) (a (ix3 (0 : Fin 1) (i 1 : Fin 1024) (i 0 : Fin 3852))) (v (ix3 (0 : Fin 1) (i 1 : Fin 1024) (i 0 : Fin 3852)))
def arrM (g : G) (a : W) : O := fun i => stepM (g (ix2 (i 1 : Fin 1024) (i 0 : Fin 3852))) (a (ix3 (0 : Fin 1) (i 1 : Fin 1024) (i 0 : Fin 3852)))
def arrV (g : G) (v : W) : O := fun i => stepV (g (ix2 (i 1 : Fin 1024) (i 0 : Fin 3852))) (v (ix3 (0 : Fin 1) (i 1 : Fin 1024) (i 0 : Fin 3852)))

theorem emb (t : Fin cfg0.N) (l : Fin 3852) (r : Fin 128) (f : O) :
    f (((cfg0.win 4).blk t).view.emb (ix2 l r)) = f (ix2 l (row t r)) := by
  unfold row
  blk_ext [idx t]

theorem rd0 (c : Dev nD) (t : Fin cfg0.N) (l : Fin 3852) (r : Fin 128) :
    (iblk m c 0 t : B) (ix2 l r) = (m ((c : Thread nD τ).loc main_arg0) : W) (ix3 (0 : Fin 1) (row t r) l) := by
  trans (V m c main_v1 : O) (ix2 l (row t r))
  · unfold row
    blk_ext [iblk, idx t]
  · entry_read
    pointwise

theorem rd1 (c : Dev nD) (t : Fin cfg0.N) (l : Fin 3852) (r : Fin 128) :
    (iblk m c 1 t : B) (ix2 l r) = (m ((c : Thread nD τ).loc main_arg1) : G) (ix2 (row t r) l) := by
  trans (V m c main_v2 : O) (ix2 l (row t r))
  · unfold row
    blk_ext [iblk, idx t]
  · entry_read
    pointwise

theorem rd2 (c : Dev nD) (t : Fin cfg0.N) (l : Fin 3852) (r : Fin 128) :
    (iblk m c 2 t : B) (ix2 l r) = (m ((c : Thread nD τ).loc main_arg2) : W) (ix3 (0 : Fin 1) (row t r) l) := by
  trans (V m c main_v4 : O) (ix2 l (row t r))
  · unfold row
    blk_ext [iblk, idx t]
  · entry_read
    pointwise

theorem rd3 (c : Dev nD) (t : Fin cfg0.N) (l : Fin 3852) (r : Fin 128) :
    (iblk m c 3 t : B) (ix2 l r) = (m ((c : Thread nD τ).loc main_arg3) : W) (ix3 (0 : Fin 1) (row t r) l) := by
  trans (V m c main_v6 : O) (ix2 l (row t r))
  · unfold row
    blk_ext [iblk, idx t]
  · entry_read
    pointwise

theorem payD (w g a v : B) (l : Fin 3852) (r : Fin 128) : (out0_4 (F := Ideal) w g a v : B) (ix2 l r)
    = stepD (w (ix2 l r)) (g (ix2 l r)) (a (ix2 l r)) (v (ix2 l r)) := by
  trans k0_pay4 (F := Ideal) g a v w (ix2 l r)
  · frame_out
    try pointwise
  · pointwise [k0_pay4, k0_pay3, k0_pay2, k0_pay1, stepD, stepM, stepV, Cert.Adam.change, Cert.Adam.lit]

theorem payM (w g a v : B) (l : Fin 3852) (r : Fin 128) : (out0_5 (F := Ideal) w g a v : B) (ix2 l r)
    = stepM (g (ix2 l r)) (a (ix2 l r)) := by
  trans k0_pay2 (F := Ideal) g a (ix2 l r)
  · frame_out
    try pointwise
  · pointwise [k0_pay2, k0_pay1, stepM, Cert.Adam.lit]

theorem payV (w g a v : B) (l : Fin 3852) (r : Fin 128) : (out0_6 (F := Ideal) w g a v : B) (ix2 l r)
    = stepV (g (ix2 l r)) (v (ix2 l r)) := by
  trans k0_pay3 (F := Ideal) g v (ix2 l r)
  · frame_out
    try pointwise
  · pointwise [k0_pay3, k0_pay1, stepV, Cert.Adam.lit]

theorem finalD (c : Dev nD) : (dats m 0 c).arrAt 4 (cfgs 0).N
    = arrD (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  obtain ⟨l, r, rfl⟩ : ∃ (l : Fin 3852) (r : Fin 128), y = ix2 l r := ⟨y 0, y 1, eq_ix2 y⟩
  blk_simp
  rw [after0_4]
  refine (payD _ _ _ _ l r).trans (Eq.trans ?_ (emb t l r (arrD (m ((c : Thread nD τ).loc main_arg0))
    (m ((c : Thread nD τ).loc main_arg1)) (m ((c : Thread nD τ).loc main_arg2)) (m ((c : Thread nD τ).loc main_arg3)))).symm)
  rw [rd0 m c t l r, rd1 m c t l r, rd2 m c t l r, rd3 m c t l r]
  rfl

theorem finalM (c : Dev nD) : (dats m 0 c).arrAt 5 (cfgs 0).N
    = arrM (m ((c : Thread nD τ).loc main_arg1)) (m ((c : Thread nD τ).loc main_arg2)) := by
  refine (dats m 0 c).arrAt_eq_of_covers 5 _ (by decide +kernel) fun t hf y => ?_
  obtain ⟨l, r, rfl⟩ : ∃ (l : Fin 3852) (r : Fin 128), y = ix2 l r := ⟨y 0, y 1, eq_ix2 y⟩
  blk_simp
  rw [after0_5]
  refine (payM (iblk m c 0 t) _ _ (iblk m c 3 t) l r).trans (Eq.trans ?_ (emb t l r (arrM (m ((c : Thread nD τ).loc main_arg1))
    (m ((c : Thread nD τ).loc main_arg2)))).symm)
  rw [rd1 m c t l r, rd2 m c t l r]
  rfl

theorem finalV (c : Dev nD) : (dats m 0 c).arrAt 6 (cfgs 0).N
    = arrV (m ((c : Thread nD τ).loc main_arg1)) (m ((c : Thread nD τ).loc main_arg3)) := by
  refine (dats m 0 c).arrAt_eq_of_covers 6 _ (by decide +kernel) fun t hf y => ?_
  obtain ⟨l, r, rfl⟩ : ∃ (l : Fin 3852) (r : Fin 128), y = ix2 l r := ⟨y 0, y 1, eq_ix2 y⟩
  blk_simp
  rw [after0_6]
  refine (payV (iblk m c 0 t) _ (iblk m c 2 t) _ l r).trans (Eq.trans ?_ (emb t l r (arrV (m ((c : Thread nD τ).loc main_arg1))
    (m ((c : Thread nD τ).loc main_arg3)))).symm)
  rw [rd1 m c t l r, rd3 m c t l r]
  rfl

/-- Equal arguments give equal results. -/
theorem cgD {w w' : W} {g g' : G} {a a' v v' : W} (e0 : w' = w) (e1 : g' = g) (e2 : a' = a) (e3 : v' = v) :
    arrD w' g' a' v' = arrD w g a v := by
  subst e0 e1 e2 e3; rfl

theorem cgM {g g' : G} {a a' : W} (e1 : g' = g) (e2 : a' = a) : arrM g' a' = arrM g a := by
  subst e1 e2; rfl

theorem cgV {g g' : G} {v v' : W} (e1 : g' = g) (e3 : v' = v) : arrV g' v' = arrV g v := by
  subst e1 e3; rfl

open Cert.ReferenceAdamInIdeal.Read

theorem refM (g : G) (a : W) : val_main_v28 (F := Ideal) g a = arrM g a := by
  funext i
  obtain ⟨l, r, rfl⟩ : ∃ (l : Fin 3852) (r : Fin 1024), i = ix2 l r := ⟨i 0, i 1, eq_ix2 i⟩
  show _ = stepM (g (ix2 r l)) (a (ix3 (0 : Fin 1) r l))
  pointwise [val_main_v28, val_main_v27, val_main_v5, val_main_v4, val_main_v3, val_main_v2, val_main_v1, val_main_v0, val_main_cst, val_main_cst_0, stepM, Cert.Adam.lit]

theorem refV (g : G) (v : W) : val_main_v30 (F := Ideal) g v = arrV g v := by
  funext i
  obtain ⟨l, r, rfl⟩ : ∃ (l : Fin 3852) (r : Fin 1024), i = ix2 l r := ⟨i 0, i 1, eq_ix2 i⟩
  show _ = stepV (g (ix2 r l)) (v (ix3 (0 : Fin 1) r l))
  pointwise [val_main_v30, val_main_v29, val_main_v11, val_main_v10, val_main_v9, val_main_v8, val_main_v7, val_main_v6, val_main_v0, val_main_cst_1, val_main_cst_2, stepV, Cert.Adam.lit]

theorem refD (w : W) (g : G) (a v : W) : val_main_v26 (F := Ideal) w g a v = arrD w g a v := by
  funext i
  obtain ⟨l, r, rfl⟩ : ∃ (l : Fin 3852) (r : Fin 1024), i = ix2 l r := ⟨i 0, i 1, eq_ix2 i⟩
  show _ = stepD (w (ix3 (0 : Fin 1) r l)) (g (ix2 r l)) (a (ix3 (0 : Fin 1) r l)) (v (ix3 (0 : Fin 1) r l))
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, stepD, stepM, stepV, Cert.Adam.change, Cert.Adam.lit]

end Cert.AdamIn

namespace Cert.AdamIn.Claim

open Cert.AdamIn

theorem quiescent_RefI : quiescent_ReferenceAdamInIdeal := by
  intro m g _
  refine (θ_run _ _ _).mono (fun r h => ⟨fun c => ?_, sem_eq_zero_of_no_sems (by decide) _⟩) (Cert.ReferenceAdamInIdeal.Value.run m g)
  obtain ⟨_, _, _, h⟩ := h c
  exact h

theorem value : algebraic_KernelAdamInIdeal_ReferenceAdamInIdeal := by
  intro m g m' g' _ hagree
  refine ⟨fun c => arrD (m ((c.tc : Thread Cert.KernelAdamInIdeal.nD Cert.KernelAdamInIdeal.τ).loc Cert.KernelAdamInIdeal.main_arg0)) (m ((c.tc : Thread Cert.KernelAdamInIdeal.nD Cert.KernelAdamInIdeal.τ).loc Cert.KernelAdamInIdeal.main_arg1)) (m ((c.tc : Thread Cert.KernelAdamInIdeal.nD Cert.KernelAdamInIdeal.τ).loc Cert.KernelAdamInIdeal.main_arg2)) (m ((c.tc : Thread Cert.KernelAdamInIdeal.nD Cert.KernelAdamInIdeal.τ).loc Cert.KernelAdamInIdeal.main_arg3)),
    fun c => arrM (m ((c.tc : Thread Cert.KernelAdamInIdeal.nD Cert.KernelAdamInIdeal.τ).loc Cert.KernelAdamInIdeal.main_arg1)) (m ((c.tc : Thread Cert.KernelAdamInIdeal.nD Cert.KernelAdamInIdeal.τ).loc Cert.KernelAdamInIdeal.main_arg2)),
    fun c => arrV (m ((c.tc : Thread Cert.KernelAdamInIdeal.nD Cert.KernelAdamInIdeal.τ).loc Cert.KernelAdamInIdeal.main_arg1)) (m ((c.tc : Thread Cert.KernelAdamInIdeal.nD Cert.KernelAdamInIdeal.τ).loc Cert.KernelAdamInIdeal.main_arg3)), ?_, ?_⟩
  · refine (θ_run _ _ _).mono (fun r h c => ?_) (Cert.KernelAdamInIdeal.Value.run_blocks m g)
    obtain ⟨h0, h1, h2, h⟩ := h c
    exact ⟨h0.trans (finalD m c), h1.trans (finalM m c), h2.trans (finalV m c), h⟩
  · refine (θ_run _ _ _).mono (fun r h c => ?_) (Cert.ReferenceAdamInIdeal.Value.run m' g')
    obtain ⟨h0, h1, h2, h⟩ := h c
    obtain ⟨e0, e1, e2, e3⟩ := hagree c
    exact ⟨(h0.trans (refD _ _ _ _)).trans (cgD e0 e1 e2 e3), (h1.trans (refM _ _)).trans (cgM e1 e2),
      (h2.trans (refV _ _)).trans (cgV e1 e3), h⟩

end Cert.AdamIn.Claim

end
-- ==== Proof.AdamOut.Claim.lean ====
module

public import proofs.«01_k».proof.Defs
public import proofs.«01_k».proof.Proof.Gen.KernelAdamOutIdeal.Value
public import proofs.«01_k».proof.Proof.Gen.ReferenceAdamOutIdeal
public import proofs.«01_k».proof.Proof.Gen.ReferenceAdamOutIdeal.Run
public import proofs.«01_k».proof.Proof.Gen.ReferenceAdamOutIdeal.Read
public import proofs.«01_k».proof.Proof.Adam.Step
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # One optimiser step on a large weight's shard -/

@[expose] public section

set_option maxRecDepth 16384

noncomputable section

open Idealize.ShloMosaic Idealize.ShloMosaic.TcCoe Idealize.SL.Sem
open Idealize.ShloMosaic.Pipeline (Dat)
open Cert.Adam (stepD stepM stepV)

namespace Cert.AdamOut

open Cert.KernelAdamOutIdeal Cert.KernelAdamOutIdeal.Gen

variable (m : (ℓ : Loc nD τ sig) → Buf (Elt Ideal) ℓ)

/-- Every window's block at every grid point. -/
theorem idx : ∀ t : Fin cfg0.N, win0_0.index t = ![0, t.val, 0] ∧ win0_1.index t = ![0, t.val, 0] ∧
    win0_2.index t = ![0, t.val, 0] ∧ win0_3.index t = ![0, t.val, 0] ∧ win0_4.index t = ![0, t.val, 0] ∧
    win0_5.index t = ![0, t.val, 0] ∧ win0_6.index t = ![0, t.val, 0] :=
  (by decide +kernel : ∀ t : Fin grid0.N, _)

theorem point_lt (t : Fin cfg0.N) : t.val < 1 := lt_of_lt_of_eq t.isLt N_0

def row (t : Fin cfg0.N) (r : Fin 256) : Fin 256 := ⟨t.val * 256 + r, by have := point_lt t; omega⟩

abbrev W : Type := FVec Ideal S1x256x1024 .f32
abbrev G : Type := FVec Ideal S256x1024 .f32
abbrev B : Type := FVec Ideal S1x256x1024 .f32

def arrD (w : W) (g : G) (a v : W) : W := fun i => stepD (w i) (g (ix2 (i 1) (i 2))) (a i) (v i)
def arrM (g : G) (a : W) : W := fun i => stepM (g (ix2 (i 1) (i 2))) (a i)
def arrV (g : G) (v : W) : W := fun i => stepV (g (ix2 (i 1) (i 2))) (v i)

theorem emb (t : Fin cfg0.N) (r : Fin 256) (l : Fin 1024) (f : W) :
    f (((cfg0.win 4).blk t).view.emb (ix3 (0 : Fin 1) r l)) = f (ix3 (0 : Fin 1) (row t r) l) := by
  unfold row
  blk_ext [idx t]

theorem rd0 (c : Dev nD) (t : Fin cfg0.N) (r : Fin 256) (l : Fin 1024) :
    (iblk m c 0 t : B) (ix3 (0 : Fin 1) r l) = (m ((c : Thread nD τ).loc main_arg0) : W) (ix3 (0 : Fin 1) (row t r) l) := by
  unfold row
  blk_ext [iblk, V, idx t]

theorem rd1 (c : Dev nD) (t : Fin cfg0.N) (r : Fin 256) (l : Fin 1024) :
    (iblk m c 1 t : B) (ix3 (0 : Fin 1) r l) = (m ((c : Thread nD τ).loc main_arg1) : G) (ix2 (row t r) l) := by
  trans (V m c main_v0 : W) (ix3 (0 : Fin 1) (row t r) l)
  · unfold row
    blk_ext [iblk, idx t]
  · entry_read
    pointwise

theorem rd2 (c : Dev nD) (t : Fin cfg0.N) (r : Fin 256) (l : Fin 1024) :
    (iblk m c 2 t : B) (ix3 (0 : Fin 1) r l) = (m ((c : Thread nD τ).loc main_arg2) : W) (ix3 (0 : Fin 1) (row t r) l) := by
  unfold row
  blk_ext [iblk, V, idx t]

theorem rd3 (c : Dev nD) (t : Fin cfg0.N) (r : Fin 256) (l : Fin 1024) :
    (iblk m c 3 t : B) (ix3 (0 : Fin 1) r l) = (m ((c : Thread nD τ).loc main_arg3) : W) (ix3 (0 : Fin 1) (row t r) l) := by
  unfold row
  blk_ext [iblk, V, idx t]

theorem payD (w g a v : B) (r : Fin 256) (l : Fin 1024) : (out0_4 (F := Ideal) w g a v : B) (ix3 (0 : Fin 1) r l)
    = stepD (w (ix3 (0 : Fin 1) r l)) (g (ix3 (0 : Fin 1) r l)) (a (ix3 (0 : Fin 1) r l)) (v (ix3 (0 : Fin 1) r l)) := by
  trans k0_pay6 (F := Ideal) g a v w (ix3 (0 : Fin 1) r l)
  · frame_out
    try pointwise
  · pointwise [k0_pay6, k0_pay5, k0_pay4, k0_pay3, stepD, stepM, stepV, Cert.Adam.change, Cert.Adam.lit]

theorem payM (w g a v : B) (r : Fin 256) (l : Fin 1024) : (out0_5 (F := Ideal) w g a v : B) (ix3 (0 : Fin 1) r l)
    = stepM (g (ix3 (0 : Fin 1) r l)) (a (ix3 (0 : Fin 1) r l)) := by
  trans k0_pay1 (F := Ideal) (k0_pay4 (F := Ideal) g a) (ix3 (0 : Fin 1) r l)
  · frame_out
    try pointwise
  · pointwise [k0_pay1, k0_pay4, k0_pay3, stepM, Cert.Adam.lit]

theorem payV (w g a v : B) (r : Fin 256) (l : Fin 1024) : (out0_6 (F := Ideal) w g a v : B) (ix3 (0 : Fin 1) r l)
    = stepV (g (ix3 (0 : Fin 1) r l)) (v (ix3 (0 : Fin 1) r l)) := by
  trans k0_pay2 (F := Ideal) (k0_pay5 (F := Ideal) g v) (ix3 (0 : Fin 1) r l)
  · frame_out
    try pointwise
  · pointwise [k0_pay2, k0_pay5, k0_pay3, stepV, Cert.Adam.lit]

theorem finalD (c : Dev nD) : (dats m 0 c).arrAt 4 (cfgs 0).N
    = arrD (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  obtain ⟨z, r, l, rfl⟩ : ∃ (z : Fin 1) (r : Fin 256) (l : Fin 1024), y = ix3 z r l := ⟨y 0, y 1, y 2, eq_ix3 y⟩
  obtain rfl : z = 0 := Subsingleton.elim _ _
  blk_simp
  rw [after0_4]
  refine (payD _ _ _ _ r l).trans (Eq.trans ?_ (emb t r l (arrD (m ((c : Thread nD τ).loc main_arg0))
    (m ((c : Thread nD τ).loc main_arg1)) (m ((c : Thread nD τ).loc main_arg2)) (m ((c : Thread nD τ).loc main_arg3)))).symm)
  rw [rd0 m c t r l, rd1 m c t r l, rd2 m c t r l, rd3 m c t r l]
  rfl

theorem finalM (c : Dev nD) : (dats m 0 c).arrAt 5 (cfgs 0).N
    = arrM (m ((c : Thread nD τ).loc main_arg1)) (m ((c : Thread nD τ).loc main_arg2)) := by
  refine (dats m 0 c).arrAt_eq_of_covers 5 _ (by decide +kernel) fun t hf y => ?_
  obtain ⟨z, r, l, rfl⟩ : ∃ (z : Fin 1) (r : Fin 256) (l : Fin 1024), y = ix3 z r l := ⟨y 0, y 1, y 2, eq_ix3 y⟩
  obtain rfl : z = 0 := Subsingleton.elim _ _
  blk_simp
  rw [after0_5]
  refine (payM (iblk m c 0 t) _ _ (iblk m c 3 t) r l).trans (Eq.trans ?_ (emb t r l (arrM (m ((c : Thread nD τ).loc main_arg1))
    (m ((c : Thread nD τ).loc main_arg2)))).symm)
  rw [rd1 m c t r l, rd2 m c t r l]
  rfl

theorem finalV (c : Dev nD) : (dats m 0 c).arrAt 6 (cfgs 0).N
    = arrV (m ((c : Thread nD τ).loc main_arg1)) (m ((c : Thread nD τ).loc main_arg3)) := by
  refine (dats m 0 c).arrAt_eq_of_covers 6 _ (by decide +kernel) fun t hf y => ?_
  obtain ⟨z, r, l, rfl⟩ : ∃ (z : Fin 1) (r : Fin 256) (l : Fin 1024), y = ix3 z r l := ⟨y 0, y 1, y 2, eq_ix3 y⟩
  obtain rfl : z = 0 := Subsingleton.elim _ _
  blk_simp
  rw [after0_6]
  refine (payV (iblk m c 0 t) _ (iblk m c 2 t) _ r l).trans (Eq.trans ?_ (emb t r l (arrV (m ((c : Thread nD τ).loc main_arg1))
    (m ((c : Thread nD τ).loc main_arg3)))).symm)
  rw [rd1 m c t r l, rd3 m c t r l]
  rfl

/-- Equal arguments give equal results. -/
theorem cgD {w w' : W} {g g' : G} {a a' v v' : W} (e0 : w' = w) (e1 : g' = g) (e2 : a' = a) (e3 : v' = v) :
    arrD w' g' a' v' = arrD w g a v := by
  subst e0 e1 e2 e3; rfl

theorem cgM {g g' : G} {a a' : W} (e1 : g' = g) (e2 : a' = a) : arrM g' a' = arrM g a := by
  subst e1 e2; rfl

theorem cgV {g g' : G} {v v' : W} (e1 : g' = g) (e3 : v' = v) : arrV g' v' = arrV g v := by
  subst e1 e3; rfl

open Cert.ReferenceAdamOutIdeal.Read

theorem refM (g : G) (a : W) : val_main_v5 (F := Ideal) g a = arrM g a := by
  funext i
  obtain ⟨z, r, l, rfl⟩ : ∃ (z : Fin 1) (r : Fin 256) (l : Fin 1024), i = ix3 z r l := ⟨i 0, i 1, i 2, eq_ix3 i⟩
  obtain rfl : z = 0 := Subsingleton.elim _ _
  show _ = stepM (g (ix2 r l)) (a (ix3 (0 : Fin 1) r l))
  pointwise [val_main_v5, val_main_v4, val_main_v3, val_main_v2, val_main_v1, val_main_v0, val_main_cst, val_main_cst_0, stepM, Cert.Adam.lit]

theorem refV (g : G) (v : W) : val_main_v11 (F := Ideal) g v = arrV g v := by
  funext i
  obtain ⟨z, r, l, rfl⟩ : ∃ (z : Fin 1) (r : Fin 256) (l : Fin 1024), i = ix3 z r l := ⟨i 0, i 1, i 2, eq_ix3 i⟩
  obtain rfl : z = 0 := Subsingleton.elim _ _
  show _ = stepV (g (ix2 r l)) (v (ix3 (0 : Fin 1) r l))
  pointwise [val_main_v11, val_main_v10, val_main_v9, val_main_v8, val_main_v7, val_main_v6, val_main_v0, val_main_cst_1, val_main_cst_2, stepV, Cert.Adam.lit]

theorem refD (w : W) (g : G) (a v : W) : val_main_v24 (F := Ideal) w g a v = arrD w g a v := by
  funext i
  have e1 := congrFun (refM g a) i
  have e2 := congrFun (refV g v) i
  show _ = stepD (w i) (g (ix2 (i 1) (i 2))) (a i) (v i)
  simp only [arrM, arrV] at e1 e2
  rw [stepD, ← e1, ← e2]
  obtain ⟨z, r, l, rfl⟩ : ∃ (z : Fin 1) (r : Fin 256) (l : Fin 1024), i = ix3 z r l := ⟨i 0, i 1, i 2, eq_ix3 i⟩
  pointwise [val_main_v24, val_main_v23, val_main_v22, val_main_v21, val_main_v20, val_main_v19, val_main_v18, val_main_v17, val_main_v16, val_main_v15, val_main_v14, val_main_v13, val_main_v12, val_main_cst_3, val_main_cst_4, val_main_cst_5, val_main_cst_6, val_main_cst_7, Cert.Adam.change, Cert.Adam.lit]

end Cert.AdamOut

namespace Cert.AdamOut.Claim

open Cert.AdamOut

theorem quiescent_RefI : quiescent_ReferenceAdamOutIdeal := by
  intro m g _
  refine (θ_run _ _ _).mono (fun r h => ⟨fun c => ?_, sem_eq_zero_of_no_sems (by decide) _⟩) (Cert.ReferenceAdamOutIdeal.Value.run m g)
  obtain ⟨_, _, _, h⟩ := h c
  exact h

theorem value : algebraic_KernelAdamOutIdeal_ReferenceAdamOutIdeal := by
  intro m g m' g' _ hagree
  refine ⟨fun c => arrD (m ((c.tc : Thread Cert.KernelAdamOutIdeal.nD Cert.KernelAdamOutIdeal.τ).loc Cert.KernelAdamOutIdeal.main_arg0)) (m ((c.tc : Thread Cert.KernelAdamOutIdeal.nD Cert.KernelAdamOutIdeal.τ).loc Cert.KernelAdamOutIdeal.main_arg1)) (m ((c.tc : Thread Cert.KernelAdamOutIdeal.nD Cert.KernelAdamOutIdeal.τ).loc Cert.KernelAdamOutIdeal.main_arg2)) (m ((c.tc : Thread Cert.KernelAdamOutIdeal.nD Cert.KernelAdamOutIdeal.τ).loc Cert.KernelAdamOutIdeal.main_arg3)),
    fun c => arrM (m ((c.tc : Thread Cert.KernelAdamOutIdeal.nD Cert.KernelAdamOutIdeal.τ).loc Cert.KernelAdamOutIdeal.main_arg1)) (m ((c.tc : Thread Cert.KernelAdamOutIdeal.nD Cert.KernelAdamOutIdeal.τ).loc Cert.KernelAdamOutIdeal.main_arg2)),
    fun c => arrV (m ((c.tc : Thread Cert.KernelAdamOutIdeal.nD Cert.KernelAdamOutIdeal.τ).loc Cert.KernelAdamOutIdeal.main_arg1)) (m ((c.tc : Thread Cert.KernelAdamOutIdeal.nD Cert.KernelAdamOutIdeal.τ).loc Cert.KernelAdamOutIdeal.main_arg3)), ?_, ?_⟩
  · refine (θ_run _ _ _).mono (fun r h c => ?_) (Cert.KernelAdamOutIdeal.Value.run_blocks m g)
    obtain ⟨h0, h1, h2, h⟩ := h c
    exact ⟨h0.trans (finalD m c), h1.trans (finalM m c), h2.trans (finalV m c), h⟩
  · refine (θ_run _ _ _).mono (fun r h c => ?_) (Cert.ReferenceAdamOutIdeal.Value.run m' g')
    obtain ⟨h0, h1, h2, h⟩ := h c
    obtain ⟨e0, e1, e2, e3⟩ := hagree c
    exact ⟨(h0.trans (refD _ _ _ _)).trans (cgD e0 e1 e2 e3), (h1.trans (refM _ _)).trans (cgM e1 e2),
      (h2.trans (refV _ _)).trans (cgV e1 e3), h⟩

end Cert.AdamOut.Claim

end
-- ==== Proof.AdamProj.Claim.lean ====
module

public import proofs.«01_k».proof.Defs
public import proofs.«01_k».proof.Proof.Gen.KernelAdamProjIdeal.Value
public import proofs.«01_k».proof.Proof.Gen.ReferenceAdamProjIdeal
public import proofs.«01_k».proof.Proof.Gen.ReferenceAdamProjIdeal.Run
public import proofs.«01_k».proof.Proof.Gen.ReferenceAdamProjIdeal.Read
public import proofs.«01_k».proof.Proof.Adam.Step
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # One optimiser step on a large weight's shard -/

@[expose] public section

set_option maxRecDepth 16384

noncomputable section

open Idealize.ShloMosaic Idealize.ShloMosaic.TcCoe Idealize.SL.Sem
open Idealize.ShloMosaic.Pipeline (Dat)
open Cert.Adam (stepD stepM stepV)

namespace Cert.AdamProj

open Cert.KernelAdamProjIdeal Cert.KernelAdamProjIdeal.Gen

variable (m : (ℓ : Loc nD τ sig) → Buf (Elt Ideal) ℓ)

/-- Every window's block at every grid point. -/
theorem idx : ∀ t : Fin cfg0.N, win0_0.index t = ![0, t.val, 0] ∧ win0_1.index t = ![0, t.val, 0] ∧
    win0_2.index t = ![0, t.val, 0] ∧ win0_3.index t = ![0, t.val, 0] ∧ win0_4.index t = ![0, t.val, 0] ∧
    win0_5.index t = ![0, t.val, 0] ∧ win0_6.index t = ![0, t.val, 0] :=
  (by decide +kernel : ∀ t : Fin grid0.N, _)

theorem point_lt (t : Fin cfg0.N) : t.val < 2 := lt_of_lt_of_eq t.isLt N_0

def row (t : Fin cfg0.N) (r : Fin 256) : Fin 512 := ⟨t.val * 256 + r, by have := point_lt t; omega⟩

abbrev W : Type := FVec Ideal S1x512x1024 .f32
abbrev G : Type := FVec Ideal S512x1024 .f32
abbrev B : Type := FVec Ideal S1x256x1024 .f32

def arrD (w : W) (g : G) (a v : W) : W := fun i => stepD (w i) (g (ix2 (i 1) (i 2))) (a i) (v i)
def arrM (g : G) (a : W) : W := fun i => stepM (g (ix2 (i 1) (i 2))) (a i)
def arrV (g : G) (v : W) : W := fun i => stepV (g (ix2 (i 1) (i 2))) (v i)

theorem emb (t : Fin cfg0.N) (r : Fin 256) (l : Fin 1024) (f : W) :
    f (((cfg0.win 4).blk t).view.emb (ix3 (0 : Fin 1) r l)) = f (ix3 (0 : Fin 1) (row t r) l) := by
  unfold row
  blk_ext [idx t]

theorem rd0 (c : Dev nD) (t : Fin cfg0.N) (r : Fin 256) (l : Fin 1024) :
    (iblk m c 0 t : B) (ix3 (0 : Fin 1) r l) = (m ((c : Thread nD τ).loc main_arg0) : W) (ix3 (0 : Fin 1) (row t r) l) := by
  unfold row
  blk_ext [iblk, V, idx t]

theorem rd1 (c : Dev nD) (t : Fin cfg0.N) (r : Fin 256) (l : Fin 1024) :
    (iblk m c 1 t : B) (ix3 (0 : Fin 1) r l) = (m ((c : Thread nD τ).loc main_arg1) : G) (ix2 (row t r) l) := by
  trans (V m c main_v0 : W) (ix3 (0 : Fin 1) (row t r) l)
  · unfold row
    blk_ext [iblk, idx t]
  · entry_read
    pointwise

theorem rd2 (c : Dev nD) (t : Fin cfg0.N) (r : Fin 256) (l : Fin 1024) :
    (iblk m c 2 t : B) (ix3 (0 : Fin 1) r l) = (m ((c : Thread nD τ).loc main_arg2) : W) (ix3 (0 : Fin 1) (row t r) l) := by
  unfold row
  blk_ext [iblk, V, idx t]

theorem rd3 (c : Dev nD) (t : Fin cfg0.N) (r : Fin 256) (l : Fin 1024) :
    (iblk m c 3 t : B) (ix3 (0 : Fin 1) r l) = (m ((c : Thread nD τ).loc main_arg3) : W) (ix3 (0 : Fin 1) (row t r) l) := by
  unfold row
  blk_ext [iblk, V, idx t]

theorem payD (w g a v : B) (r : Fin 256) (l : Fin 1024) : (out0_4 (F := Ideal) w g a v : B) (ix3 (0 : Fin 1) r l)
    = stepD (w (ix3 (0 : Fin 1) r l)) (g (ix3 (0 : Fin 1) r l)) (a (ix3 (0 : Fin 1) r l)) (v (ix3 (0 : Fin 1) r l)) := by
  trans k0_pay6 (F := Ideal) g a v w (ix3 (0 : Fin 1) r l)
  · frame_out
    try pointwise
  · pointwise [k0_pay6, k0_pay5, k0_pay4, k0_pay3, stepD, stepM, stepV, Cert.Adam.change, Cert.Adam.lit]

theorem payM (w g a v : B) (r : Fin 256) (l : Fin 1024) : (out0_5 (F := Ideal) w g a v : B) (ix3 (0 : Fin 1) r l)
    = stepM (g (ix3 (0 : Fin 1) r l)) (a (ix3 (0 : Fin 1) r l)) := by
  trans k0_pay1 (F := Ideal) (k0_pay4 (F := Ideal) g a) (ix3 (0 : Fin 1) r l)
  · frame_out
    try pointwise
  · pointwise [k0_pay1, k0_pay4, k0_pay3, stepM, Cert.Adam.lit]

theorem payV (w g a v : B) (r : Fin 256) (l : Fin 1024) : (out0_6 (F := Ideal) w g a v : B) (ix3 (0 : Fin 1) r l)
    = stepV (g (ix3 (0 : Fin 1) r l)) (v (ix3 (0 : Fin 1) r l)) := by
  trans k0_pay2 (F := Ideal) (k0_pay5 (F := Ideal) g v) (ix3 (0 : Fin 1) r l)
  · frame_out
    try pointwise
  · pointwise [k0_pay2, k0_pay5, k0_pay3, stepV, Cert.Adam.lit]

theorem finalD (c : Dev nD) : (dats m 0 c).arrAt 4 (cfgs 0).N
    = arrD (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  obtain ⟨z, r, l, rfl⟩ : ∃ (z : Fin 1) (r : Fin 256) (l : Fin 1024), y = ix3 z r l := ⟨y 0, y 1, y 2, eq_ix3 y⟩
  obtain rfl : z = 0 := Subsingleton.elim _ _
  blk_simp
  rw [after0_4]
  refine (payD _ _ _ _ r l).trans (Eq.trans ?_ (emb t r l (arrD (m ((c : Thread nD τ).loc main_arg0))
    (m ((c : Thread nD τ).loc main_arg1)) (m ((c : Thread nD τ).loc main_arg2)) (m ((c : Thread nD τ).loc main_arg3)))).symm)
  rw [rd0 m c t r l, rd1 m c t r l, rd2 m c t r l, rd3 m c t r l]
  rfl

theorem finalM (c : Dev nD) : (dats m 0 c).arrAt 5 (cfgs 0).N
    = arrM (m ((c : Thread nD τ).loc main_arg1)) (m ((c : Thread nD τ).loc main_arg2)) := by
  refine (dats m 0 c).arrAt_eq_of_covers 5 _ (by decide +kernel) fun t hf y => ?_
  obtain ⟨z, r, l, rfl⟩ : ∃ (z : Fin 1) (r : Fin 256) (l : Fin 1024), y = ix3 z r l := ⟨y 0, y 1, y 2, eq_ix3 y⟩
  obtain rfl : z = 0 := Subsingleton.elim _ _
  blk_simp
  rw [after0_5]
  refine (payM (iblk m c 0 t) _ _ (iblk m c 3 t) r l).trans (Eq.trans ?_ (emb t r l (arrM (m ((c : Thread nD τ).loc main_arg1))
    (m ((c : Thread nD τ).loc main_arg2)))).symm)
  rw [rd1 m c t r l, rd2 m c t r l]
  rfl

theorem finalV (c : Dev nD) : (dats m 0 c).arrAt 6 (cfgs 0).N
    = arrV (m ((c : Thread nD τ).loc main_arg1)) (m ((c : Thread nD τ).loc main_arg3)) := by
  refine (dats m 0 c).arrAt_eq_of_covers 6 _ (by decide +kernel) fun t hf y => ?_
  obtain ⟨z, r, l, rfl⟩ : ∃ (z : Fin 1) (r : Fin 256) (l : Fin 1024), y = ix3 z r l := ⟨y 0, y 1, y 2, eq_ix3 y⟩
  obtain rfl : z = 0 := Subsingleton.elim _ _
  blk_simp
  rw [after0_6]
  refine (payV (iblk m c 0 t) _ (iblk m c 2 t) _ r l).trans (Eq.trans ?_ (emb t r l (arrV (m ((c : Thread nD τ).loc main_arg1))
    (m ((c : Thread nD τ).loc main_arg3)))).symm)
  rw [rd1 m c t r l, rd3 m c t r l]
  rfl

/-- Equal arguments give equal results. -/
theorem cgD {w w' : W} {g g' : G} {a a' v v' : W} (e0 : w' = w) (e1 : g' = g) (e2 : a' = a) (e3 : v' = v) :
    arrD w' g' a' v' = arrD w g a v := by
  subst e0 e1 e2 e3; rfl

theorem cgM {g g' : G} {a a' : W} (e1 : g' = g) (e2 : a' = a) : arrM g' a' = arrM g a := by
  subst e1 e2; rfl

theorem cgV {g g' : G} {v v' : W} (e1 : g' = g) (e3 : v' = v) : arrV g' v' = arrV g v := by
  subst e1 e3; rfl

open Cert.ReferenceAdamProjIdeal.Read

theorem refM (g : G) (a : W) : val_main_v5 (F := Ideal) g a = arrM g a := by
  funext i
  obtain ⟨z, r, l, rfl⟩ : ∃ (z : Fin 1) (r : Fin 512) (l : Fin 1024), i = ix3 z r l := ⟨i 0, i 1, i 2, eq_ix3 i⟩
  obtain rfl : z = 0 := Subsingleton.elim _ _
  show _ = stepM (g (ix2 r l)) (a (ix3 (0 : Fin 1) r l))
  pointwise [val_main_v5, val_main_v4, val_main_v3, val_main_v2, val_main_v1, val_main_v0, val_main_cst, val_main_cst_0, stepM, Cert.Adam.lit]

theorem refV (g : G) (v : W) : val_main_v11 (F := Ideal) g v = arrV g v := by
  funext i
  obtain ⟨z, r, l, rfl⟩ : ∃ (z : Fin 1) (r : Fin 512) (l : Fin 1024), i = ix3 z r l := ⟨i 0, i 1, i 2, eq_ix3 i⟩
  obtain rfl : z = 0 := Subsingleton.elim _ _
  show _ = stepV (g (ix2 r l)) (v (ix3 (0 : Fin 1) r l))
  pointwise [val_main_v11, val_main_v10, val_main_v9, val_main_v8, val_main_v7, val_main_v6, val_main_v0, val_main_cst_1, val_main_cst_2, stepV, Cert.Adam.lit]

theorem refD (w : W) (g : G) (a v : W) : val_main_v24 (F := Ideal) w g a v = arrD w g a v := by
  funext i
  have e1 := congrFun (refM g a) i
  have e2 := congrFun (refV g v) i
  show _ = stepD (w i) (g (ix2 (i 1) (i 2))) (a i) (v i)
  simp only [arrM, arrV] at e1 e2
  rw [stepD, ← e1, ← e2]
  obtain ⟨z, r, l, rfl⟩ : ∃ (z : Fin 1) (r : Fin 512) (l : Fin 1024), i = ix3 z r l := ⟨i 0, i 1, i 2, eq_ix3 i⟩
  pointwise [val_main_v24, val_main_v23, val_main_v22, val_main_v21, val_main_v20, val_main_v19, val_main_v18, val_main_v17, val_main_v16, val_main_v15, val_main_v14, val_main_v13, val_main_v12, val_main_cst_3, val_main_cst_4, val_main_cst_5, val_main_cst_6, val_main_cst_7, Cert.Adam.change, Cert.Adam.lit]

end Cert.AdamProj

namespace Cert.AdamProj.Claim

open Cert.AdamProj

theorem quiescent_RefI : quiescent_ReferenceAdamProjIdeal := by
  intro m g _
  refine (θ_run _ _ _).mono (fun r h => ⟨fun c => ?_, sem_eq_zero_of_no_sems (by decide) _⟩) (Cert.ReferenceAdamProjIdeal.Value.run m g)
  obtain ⟨_, _, _, h⟩ := h c
  exact h

theorem value : algebraic_KernelAdamProjIdeal_ReferenceAdamProjIdeal := by
  intro m g m' g' _ hagree
  refine ⟨fun c => arrD (m ((c.tc : Thread Cert.KernelAdamProjIdeal.nD Cert.KernelAdamProjIdeal.τ).loc Cert.KernelAdamProjIdeal.main_arg0)) (m ((c.tc : Thread Cert.KernelAdamProjIdeal.nD Cert.KernelAdamProjIdeal.τ).loc Cert.KernelAdamProjIdeal.main_arg1)) (m ((c.tc : Thread Cert.KernelAdamProjIdeal.nD Cert.KernelAdamProjIdeal.τ).loc Cert.KernelAdamProjIdeal.main_arg2)) (m ((c.tc : Thread Cert.KernelAdamProjIdeal.nD Cert.KernelAdamProjIdeal.τ).loc Cert.KernelAdamProjIdeal.main_arg3)),
    fun c => arrM (m ((c.tc : Thread Cert.KernelAdamProjIdeal.nD Cert.KernelAdamProjIdeal.τ).loc Cert.KernelAdamProjIdeal.main_arg1)) (m ((c.tc : Thread Cert.KernelAdamProjIdeal.nD Cert.KernelAdamProjIdeal.τ).loc Cert.KernelAdamProjIdeal.main_arg2)),
    fun c => arrV (m ((c.tc : Thread Cert.KernelAdamProjIdeal.nD Cert.KernelAdamProjIdeal.τ).loc Cert.KernelAdamProjIdeal.main_arg1)) (m ((c.tc : Thread Cert.KernelAdamProjIdeal.nD Cert.KernelAdamProjIdeal.τ).loc Cert.KernelAdamProjIdeal.main_arg3)), ?_, ?_⟩
  · refine (θ_run _ _ _).mono (fun r h c => ?_) (Cert.KernelAdamProjIdeal.Value.run_blocks m g)
    obtain ⟨h0, h1, h2, h⟩ := h c
    exact ⟨h0.trans (finalD m c), h1.trans (finalM m c), h2.trans (finalV m c), h⟩
  · refine (θ_run _ _ _).mono (fun r h c => ?_) (Cert.ReferenceAdamProjIdeal.Value.run m' g')
    obtain ⟨h0, h1, h2, h⟩ := h c
    obtain ⟨e0, e1, e2, e3⟩ := hagree c
    exact ⟨(h0.trans (refD _ _ _ _)).trans (cgD e0 e1 e2 e3), (h1.trans (refM _ _)).trans (cgM e1 e2),
      (h2.trans (refV _ _)).trans (cgV e1 e3), h⟩

end Cert.AdamProj.Claim

end
-- ==== Proof.AdamRest.Pack.lean ====
module

public import proofs.«01_k».proof.Defs
public import proofs.«01_k».proof.Proof.Gen.KernelAdamRestIdeal.Value
public import proofs.«01_k».proof.Proof.Adam.Step
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # Twelve weights packed into one array, and a function of the entries under the packing -/

@[expose] public section

set_option maxRecDepth 16384

noncomputable section

open Idealize.ShloMosaic Idealize.ShloMosaic.TcCoe Idealize.SL.Sem

namespace Cert.AdamRest

open Cert.KernelAdamRestIdeal Cert.KernelAdamRestIdeal.Gen

/-- The twelve flat weights' shapes. -/
abbrev sh : Fin 12 → Shape := ![S1024, S3072, S15408, S2048, S2048, S2048, S3072, S3072, S32, S32, S2048, S1024]

/-- Twelve flat weights. -/
abbrev Fl (α : Type) : Type := (k : Fin 12) → (sh k).Idx → α

/-- The flat weights end to end. -/
def glue {α : Type} (x : Fl α) : S34928.Idx → α :=
  concatenate S34928 0 [⟨S1024, x 0⟩, ⟨S3072, x 1⟩, ⟨S15408, x 2⟩, ⟨S2048, x 3⟩, ⟨S2048, x 4⟩, ⟨S2048, x 5⟩, ⟨S3072, x 6⟩,
    ⟨S3072, x 7⟩, ⟨S32, x 8⟩, ⟨S32, x 9⟩, ⟨S2048, x 10⟩, ⟨S1024, x 11⟩]
    concatenates_S1024_S3072_S15408_S2048_S2048_S2048_S3072_S3072_S32_S32_S2048_S1024_S34928_d0

/-- The packed array, padded with `z`. -/
def pack {α : Type} (z : α) (x : Fl α) : S280x128.Idx → α :=
  shapeCast S280x128 (pad S35840 ![0] ![912] ![0] (glue x) (fun _ : S_.Idx => z) pads_S34928_S35840_09120 h_S_)
    shapeCasts_S35840_S280x128

/-- The extents of the pieces along the axis. -/
abbrev ext {t : Shape} (a : Fin t.rank) (ss : List Shape) : List Nat :=
  ss.map fun s => if h : s.rank = t.rank then s.size (a.cast h.symm) else 0

/-- The entry of the glued array that lies in a given piece. -/
def pick {α : Type} {t : Shape} {a : Fin t.rank} (xs : List ((s : Shape) × (s.Idx → α)))
    (h : Shape.Concatenates (xs.map (·.1)) t a) (j : t.Idx)
    (kr : (k : Fin (ext a (xs.map (·.1))).length) × Fin (ext a (xs.map (·.1)))[k]) : α :=
  have hk : kr.1.val < xs.length := by simpa [ext] using kr.1.isLt
  let p := xs[kr.1.val]
  have hp : p.1 ∈ xs.map (·.1) := List.mem_map.2 ⟨p, List.getElem_mem hk, rfl⟩
  have hr : p.1.rank = t.rank := (h.2.1 p.1 hp).1
  p.2 fun b =>
    if hb : b.cast hr = a then
      kr.2.cast (by
        have : (ext a (xs.map (·.1)))[kr.1.val] = if h : p.1.rank = t.rank then p.1.size (a.cast h.symm) else 0 := by
          simp [ext, p]
        rw [Fin.getElem_fin, this, dif_pos hr, ← hb]; rfl)
    else (j (b.cast hr)).cast ((h.2.1 p.1 hp).2 (b.cast hr) hb).symm

theorem concatenate_pick {α : Type} {t : Shape} {a : Fin t.rank} (xs : List ((s : Shape) × (s.Idx → α)))
    (h : Shape.Concatenates (xs.map (·.1)) t a) (j : t.Idx) :
    concatenate t a xs h j = pick xs h j (locate (ext a (xs.map (·.1))) (j a).val (by rw [h.2.2]; exact (j a).isLt)) := rfl

/-- The pieces in a list. -/
abbrev pieces {α : Type} (x : Fl α) : List ((s : Shape) × (s.Idx → α)) :=
  [⟨S1024, x 0⟩, ⟨S3072, x 1⟩, ⟨S15408, x 2⟩, ⟨S2048, x 3⟩, ⟨S2048, x 4⟩, ⟨S2048, x 5⟩, ⟨S3072, x 6⟩,
    ⟨S3072, x 7⟩, ⟨S32, x 8⟩, ⟨S32, x 9⟩, ⟨S2048, x 10⟩, ⟨S1024, x 11⟩]

/-- The shapes of a list of pieces. -/
abbrev shapes {α : Type} (xs : List ((s : Shape) × (s.Idx → α))) : List Shape := xs.map fun p => p.1

theorem pick_map {α β : Type} (g : α → β) (x : Fl α) (j : S34928.Idx)
    (h : Shape.Concatenates (shapes (pieces x)) S34928 0)
    (h' : Shape.Concatenates (shapes (pieces fun k i => g (x k i))) S34928 0)
    (kr : (k : Fin (ext (t := S34928) 0 (shapes (pieces x))).length) × Fin (ext (t := S34928) 0 (shapes (pieces x)))[k]) :
    pick (t := S34928) (a := 0) (pieces fun k i => g (x k i)) h' j kr = g (pick (t := S34928) (a := 0) (pieces x) h j kr) := by
  obtain ⟨⟨k, hk⟩, r⟩ := kr
  match k, hk, r with
  | 0, _, _ => rfl
  | 1, _, _ => rfl
  | 2, _, _ => rfl
  | 3, _, _ => rfl
  | 4, _, _ => rfl
  | 5, _, _ => rfl
  | 6, _, _ => rfl
  | 7, _, _ => rfl
  | 8, _, _ => rfl
  | 9, _, _ => rfl
  | 10, _, _ => rfl
  | 11, _, _ => rfl

theorem glue_map {α β : Type} (g : α → β) (x : Fl α) (j : S34928.Idx) : glue (fun k i => g (x k i)) j = g (glue x j) := by
  refine (concatenate_pick (pieces fun k i => g (x k i)) _ j).trans (Eq.trans ?_ (congrArg g (concatenate_pick (pieces x) _ j)).symm)
  exact pick_map g x j _ _ _

/-- Packing commutes with a function of the entries. -/
theorem pack_map {α β : Type} (g : α → β) (z : α) (x : Fl α) (i : S280x128.Idx) :
    pack (g z) (fun k i => g (x k i)) i = g (pack z x i) := by
  unfold pack shapeCast pad
  dsimp only
  split
  · exact glue_map g x _
  · rfl

/-- Two functions of packed arrays agree when they agree entry by entry. -/
theorem pack_map4 (f : EReal → EReal → EReal → EReal → EReal) (h0 : f 0 0 0 0 = 0) (w g a v : Fl EReal) (i : S280x128.Idx) :
    f (pack 0 w i) (pack 0 g i) (pack 0 a i) (pack 0 v i) = pack 0 (fun k i => f (w k i) (g k i) (a k i) (v k i)) i := by
  have key := fun h => pack_map (β := EReal) (α := EReal × EReal × EReal × EReal) h (0, 0, 0, 0)
    (fun k i => (w k i, g k i, a k i, v k i)) i
  have e := key fun p => f p.1 p.2.1 p.2.2.1 p.2.2.2
  have e0 := key fun p => p.1
  have e1 := key fun p => p.2.1
  have e2 := key fun p => p.2.2.1
  have e3 := key fun p => p.2.2.2
  dsimp only at e e0 e1 e2 e3
  rw [h0] at e
  rw [e, e0, e1, e2, e3]

end Cert.AdamRest

end
-- ==== Proof.AdamRest.Zero.lean ====
module

public import proofs.«01_k».proof.Proof.Adam.Step

/-! # The optimiser step on zeros is zero -/

@[expose] public section

noncomputable section

open Idealize.ShloMosaic

namespace Cert.AdamRest

theorem stepM_zero : Cert.Adam.stepM 0 0 = 0 := by
  simp [Cert.Adam.stepM]

theorem stepV_zero : Cert.Adam.stepV 0 0 = 0 := by
  simp [Cert.Adam.stepV]

theorem sqrt_zero : Ideal.sqrt 0 = 0 := by
  show (if (0 : ℝ) < 0 then (⊥ : EReal) else (Real.sqrt 0 : EReal)) = 0
  simp

theorem lit1 : Cert.Adam.lit 0x3F26BD02#32 ≠ 0 := by
  show Ideal.ofBits .f32 0x3F26BD02#32 ≠ 0
  simp [Ideal.ofBits, Ideal.ieee, -EReal.coe_mul]

theorem lit2 : Cert.Adam.lit 0x3C231ACC#32 ≠ 0 := by
  show Ideal.ofBits .f32 0x3C231ACC#32 ≠ 0
  simp [Ideal.ofBits, Ideal.ieee, -EReal.coe_mul]

theorem lit3 : Cert.Adam.lit 0x322BCC77#32 ≠ 0 := by
  show Ideal.ofBits .f32 0x322BCC77#32 ≠ 0
  simp [Ideal.ofBits, Ideal.ieee, -EReal.coe_mul]

theorem stepD_zero : Cert.Adam.stepD 0 0 0 0 = 0 := by
  unfold Cert.Adam.stepD Cert.Adam.change
  rw [stepM_zero, stepV_zero]
  have h : ∀ x : EReal, x ≠ 0 → Ideal.div 0 x = 0 := fun x hx => by simp [Ideal.div, hx]
  rw [h _ lit1, h _ lit2, sqrt_zero, zero_add, h _ lit3, mul_zero, add_zero, mul_zero]

end Cert.AdamRest

end
-- ==== Proof.AdamRest.Ref.lean ====
module

public import proofs.«01_k».proof.Defs
public import proofs.«01_k».proof.Proof.Gen.ReferenceAdamRestIdeal
public import proofs.«01_k».proof.Proof.Gen.ReferenceAdamRestIdeal.Read
public import proofs.«01_k».proof.Proof.AdamRest.Pack
public import proofs.«01_k».proof.Proof.AdamRest.Zero

/-! # The reference's steps, weight by weight, and their packing -/

@[expose] public section

set_option maxRecDepth 16384

noncomputable section

open Idealize.ShloMosaic Idealize.ShloMosaic.TcCoe Idealize.SL.Sem
open Cert.Adam (stepD stepM stepV)

namespace Cert.AdamRest

open Cert.ReferenceAdamRestIdeal Cert.ReferenceAdamRestIdeal.Gen Cert.ReferenceAdamRestIdeal.Read

/-- The weights, or their moments, each flat. -/
def flW (x0 : FVec Ideal S1x1024 .f32) (x1 : FVec Ideal S1x3072 .f32) (x2 : FVec Ideal S1x15408 .f32) (x3 : FVec Ideal S1x4x512 .f32) (x4 : FVec Ideal S1x2048 .f32) (x5 : FVec Ideal S1x2048 .f32) (x6 : FVec Ideal S1x4x768 .f32) (x7 : FVec Ideal S1x3072 .f32) (x8 : FVec Ideal S1x32 .f32) (x9 : FVec Ideal S1x32 .f32) (x10 : FVec Ideal S1x2048 .f32) (x11 : FVec Ideal S1024 .f32) : Fl EReal
  | ⟨0, _⟩ => (shapeCast S1024 x0 shapeCasts_S1x1024_S1024 : FVec Ideal S1024 .f32)
  | ⟨1, _⟩ => (shapeCast S3072 x1 shapeCasts_S1x3072_S3072 : FVec Ideal S3072 .f32)
  | ⟨2, _⟩ => (shapeCast S15408 x2 shapeCasts_S1x15408_S15408 : FVec Ideal S15408 .f32)
  | ⟨3, _⟩ => (shapeCast S2048 x3 shapeCasts_S1x4x512_S2048 : FVec Ideal S2048 .f32)
  | ⟨4, _⟩ => (shapeCast S2048 x4 shapeCasts_S1x2048_S2048 : FVec Ideal S2048 .f32)
  | ⟨5, _⟩ => (shapeCast S2048 x5 shapeCasts_S1x2048_S2048 : FVec Ideal S2048 .f32)
  | ⟨6, _⟩ => (shapeCast S3072 x6 shapeCasts_S1x4x768_S3072 : FVec Ideal S3072 .f32)
  | ⟨7, _⟩ => (shapeCast S3072 x7 shapeCasts_S1x3072_S3072 : FVec Ideal S3072 .f32)
  | ⟨8, _⟩ => (shapeCast S32 x8 shapeCasts_S1x32_S32 : FVec Ideal S32 .f32)
  | ⟨9, _⟩ => (shapeCast S32 x9 shapeCasts_S1x32_S32 : FVec Ideal S32 .f32)
  | ⟨10, _⟩ => (shapeCast S2048 x10 shapeCasts_S1x2048_S2048 : FVec Ideal S2048 .f32)
  | ⟨11, _⟩ => (x11 : FVec Ideal S1024 .f32)
  | ⟨n + 12, h⟩ => absurd h (by omega)

/-- The gradients, each flat. -/
def flG (g0 : FVec Ideal S1024 .f32) (g1 : FVec Ideal S3072 .f32) (g2 : FVec Ideal S15408 .f32) (g3 : FVec Ideal S4x512 .f32) (g4 : FVec Ideal S2048 .f32) (g5 : FVec Ideal S2048 .f32) (g6 : FVec Ideal S4x768 .f32) (g7 : FVec Ideal S3072 .f32) (g8 : FVec Ideal S32 .f32) (g9 : FVec Ideal S32 .f32) (g10 : FVec Ideal S2048 .f32) (g11 : FVec Ideal S1024 .f32) : Fl EReal
  | ⟨0, _⟩ => (g0 : FVec Ideal S1024 .f32)
  | ⟨1, _⟩ => (g1 : FVec Ideal S3072 .f32)
  | ⟨2, _⟩ => (g2 : FVec Ideal S15408 .f32)
  | ⟨3, _⟩ => (shapeCast S2048 g3 (by decide) : FVec Ideal S2048 .f32)
  | ⟨4, _⟩ => (g4 : FVec Ideal S2048 .f32)
  | ⟨5, _⟩ => (g5 : FVec Ideal S2048 .f32)
  | ⟨6, _⟩ => (shapeCast S3072 g6 (by decide) : FVec Ideal S3072 .f32)
  | ⟨7, _⟩ => (g7 : FVec Ideal S3072 .f32)
  | ⟨8, _⟩ => (g8 : FVec Ideal S32 .f32)
  | ⟨9, _⟩ => (g9 : FVec Ideal S32 .f32)
  | ⟨10, _⟩ => (g10 : FVec Ideal S2048 .f32)
  | ⟨11, _⟩ => (g11 : FVec Ideal S1024 .f32)
  | ⟨n + 12, h⟩ => absurd h (by omega)

theorem hG0 (g : FVec Ideal S1024 .f32) : shapeCast S1024 (val_main_v0 (F := Ideal) g) shapeCasts_S1x1024_S1024 = (g : FVec Ideal S1024 .f32) :=
  shapeCast_shapeCast _ _ _

theorem hG1 (g : FVec Ideal S3072 .f32) : shapeCast S3072 (val_main_v25 (F := Ideal) g) shapeCasts_S1x3072_S3072 = (g : FVec Ideal S3072 .f32) :=
  shapeCast_shapeCast _ _ _

theorem hG2 (g : FVec Ideal S15408 .f32) : shapeCast S15408 (val_main_v50 (F := Ideal) g) shapeCasts_S1x15408_S15408 = (g : FVec Ideal S15408 .f32) :=
  shapeCast_shapeCast _ _ _

theorem hG3 (g : FVec Ideal S4x512 .f32) : shapeCast S2048 (val_main_v75 (F := Ideal) g) shapeCasts_S1x4x512_S2048 = (shapeCast S2048 g (by decide) : FVec Ideal S2048 .f32) :=
  shapeCast_comp _ _ _

theorem hG4 (g : FVec Ideal S2048 .f32) : shapeCast S2048 (val_main_v100 (F := Ideal) g) shapeCasts_S1x2048_S2048 = (g : FVec Ideal S2048 .f32) :=
  shapeCast_shapeCast _ _ _

theorem hG5 (g : FVec Ideal S2048 .f32) : shapeCast S2048 (val_main_v125 (F := Ideal) g) shapeCasts_S1x2048_S2048 = (g : FVec Ideal S2048 .f32) :=
  shapeCast_shapeCast _ _ _

theorem hG6 (g : FVec Ideal S4x768 .f32) : shapeCast S3072 (val_main_v150 (F := Ideal) g) shapeCasts_S1x4x768_S3072 = (shapeCast S3072 g (by decide) : FVec Ideal S3072 .f32) :=
  shapeCast_comp _ _ _

theorem hG7 (g : FVec Ideal S3072 .f32) : shapeCast S3072 (val_main_v175 (F := Ideal) g) shapeCasts_S1x3072_S3072 = (g : FVec Ideal S3072 .f32) :=
  shapeCast_shapeCast _ _ _

theorem hG8 (g : FVec Ideal S32 .f32) : shapeCast S32 (val_main_v200 (F := Ideal) g) shapeCasts_S1x32_S32 = (g : FVec Ideal S32 .f32) :=
  shapeCast_shapeCast _ _ _

theorem hG9 (g : FVec Ideal S32 .f32) : shapeCast S32 (val_main_v225 (F := Ideal) g) shapeCasts_S1x32_S32 = (g : FVec Ideal S32 .f32) :=
  shapeCast_shapeCast _ _ _

theorem hG10 (g : FVec Ideal S2048 .f32) : shapeCast S2048 (val_main_v250 (F := Ideal) g) shapeCasts_S1x2048_S2048 = (g : FVec Ideal S2048 .f32) :=
  shapeCast_shapeCast _ _ _

theorem rM0 (g : FVec Ideal S1024 .f32) (a : FVec Ideal S1x1024 .f32) : val_main_v313 (F := Ideal) g a
    = fun j => stepM ((g : FVec Ideal S1024 .f32) j) ((shapeCast S1024 a shapeCasts_S1x1024_S1024 : FVec Ideal S1024 .f32) j) :=
  funext fun j => congrArg (fun t : FVec Ideal S1024 .f32 => stepM (t j) ((shapeCast S1024 a shapeCasts_S1x1024_S1024 : FVec Ideal S1024 .f32) j)) (hG0 g)

theorem rV0 (g : FVec Ideal S1024 .f32) (v : FVec Ideal S1x1024 .f32) : val_main_v327 (F := Ideal) g v
    = fun j => stepV ((g : FVec Ideal S1024 .f32) j) ((shapeCast S1024 v shapeCasts_S1x1024_S1024 : FVec Ideal S1024 .f32) j) :=
  funext fun j => congrArg (fun t : FVec Ideal S1024 .f32 => stepV (t j) ((shapeCast S1024 v shapeCasts_S1x1024_S1024 : FVec Ideal S1024 .f32) j)) (hG0 g)

theorem uD0 (w : FVec Ideal S1x1024 .f32) (g : FVec Ideal S1024 .f32) (a : FVec Ideal S1x1024 .f32) (v : FVec Ideal S1x1024 .f32) (i : S1x1024.Idx) : val_main_v24 (F := Ideal) w g a v i
    = Cert.Adam.change (w i) (val_main_v5 (F := Ideal) g a i) (val_main_v11 (F := Ideal) g v i) := rfl

theorem rD0 (w : FVec Ideal S1x1024 .f32) (g : FVec Ideal S1024 .f32) (a : FVec Ideal S1x1024 .f32) (v : FVec Ideal S1x1024 .f32) : val_main_v299 (F := Ideal) w g a v
    = fun j => stepD ((shapeCast S1024 w shapeCasts_S1x1024_S1024 : FVec Ideal S1024 .f32) j) ((g : FVec Ideal S1024 .f32) j) ((shapeCast S1024 a shapeCasts_S1x1024_S1024 : FVec Ideal S1024 .f32) j) ((shapeCast S1024 v shapeCasts_S1x1024_S1024 : FVec Ideal S1024 .f32) j) :=
  by
  funext j
  have e1 := congrFun (rM0 g a) j
  have e2 := congrFun (rV0 g v) j
  unfold val_main_v313 at e1
  unfold val_main_v327 at e2
  unfold val_main_v299
  unfold shapeCast at e1 e2 ⊢
  rw [uD0, e1, e2]
  rfl

theorem rM1 (g : FVec Ideal S3072 .f32) (a : FVec Ideal S1x3072 .f32) : val_main_v314 (F := Ideal) g a
    = fun j => stepM ((g : FVec Ideal S3072 .f32) j) ((shapeCast S3072 a shapeCasts_S1x3072_S3072 : FVec Ideal S3072 .f32) j) :=
  funext fun j => congrArg (fun t : FVec Ideal S3072 .f32 => stepM (t j) ((shapeCast S3072 a shapeCasts_S1x3072_S3072 : FVec Ideal S3072 .f32) j)) (hG1 g)

theorem rV1 (g : FVec Ideal S3072 .f32) (v : FVec Ideal S1x3072 .f32) : val_main_v328 (F := Ideal) g v
    = fun j => stepV ((g : FVec Ideal S3072 .f32) j) ((shapeCast S3072 v shapeCasts_S1x3072_S3072 : FVec Ideal S3072 .f32) j) :=
  funext fun j => congrArg (fun t : FVec Ideal S3072 .f32 => stepV (t j) ((shapeCast S3072 v shapeCasts_S1x3072_S3072 : FVec Ideal S3072 .f32) j)) (hG1 g)

theorem uD1 (w : FVec Ideal S1x3072 .f32) (g : FVec Ideal S3072 .f32) (a : FVec Ideal S1x3072 .f32) (v : FVec Ideal S1x3072 .f32) (i : S1x3072.Idx) : val_main_v49 (F := Ideal) w g a v i
    = Cert.Adam.change (w i) (val_main_v30 (F := Ideal) g a i) (val_main_v36 (F := Ideal) g v i) := rfl

theorem rD1 (w : FVec Ideal S1x3072 .f32) (g : FVec Ideal S3072 .f32) (a : FVec Ideal S1x3072 .f32) (v : FVec Ideal S1x3072 .f32) : val_main_v300 (F := Ideal) w g a v
    = fun j => stepD ((shapeCast S3072 w shapeCasts_S1x3072_S3072 : FVec Ideal S3072 .f32) j) ((g : FVec Ideal S3072 .f32) j) ((shapeCast S3072 a shapeCasts_S1x3072_S3072 : FVec Ideal S3072 .f32) j) ((shapeCast S3072 v shapeCasts_S1x3072_S3072 : FVec Ideal S3072 .f32) j) :=
  by
  funext j
  have e1 := congrFun (rM1 g a) j
  have e2 := congrFun (rV1 g v) j
  unfold val_main_v314 at e1
  unfold val_main_v328 at e2
  unfold val_main_v300
  unfold shapeCast at e1 e2 ⊢
  rw [uD1, e1, e2]
  rfl

theorem rM2 (g : FVec Ideal S15408 .f32) (a : FVec Ideal S1x15408 .f32) : val_main_v315 (F := Ideal) g a
    = fun j => stepM ((g : FVec Ideal S15408 .f32) j) ((shapeCast S15408 a shapeCasts_S1x15408_S15408 : FVec Ideal S15408 .f32) j) :=
  funext fun j => congrArg (fun t : FVec Ideal S15408 .f32 => stepM (t j) ((shapeCast S15408 a shapeCasts_S1x15408_S15408 : FVec Ideal S15408 .f32) j)) (hG2 g)

theorem rV2 (g : FVec Ideal S15408 .f32) (v : FVec Ideal S1x15408 .f32) : val_main_v329 (F := Ideal) g v
    = fun j => stepV ((g : FVec Ideal S15408 .f32) j) ((shapeCast S15408 v shapeCasts_S1x15408_S15408 : FVec Ideal S15408 .f32) j) :=
  funext fun j => congrArg (fun t : FVec Ideal S15408 .f32 => stepV (t j) ((shapeCast S15408 v shapeCasts_S1x15408_S15408 : FVec Ideal S15408 .f32) j)) (hG2 g)

theorem uD2 (w : FVec Ideal S1x15408 .f32) (g : FVec Ideal S15408 .f32) (a : FVec Ideal S1x15408 .f32) (v : FVec Ideal S1x15408 .f32) (i : S1x15408.Idx) : val_main_v74 (F := Ideal) w g a v i
    = Cert.Adam.change (w i) (val_main_v55 (F := Ideal) g a i) (val_main_v61 (F := Ideal) g v i) := rfl

theorem rD2 (w : FVec Ideal S1x15408 .f32) (g : FVec Ideal S15408 .f32) (a : FVec Ideal S1x15408 .f32) (v : FVec Ideal S1x15408 .f32) : val_main_v301 (F := Ideal) w g a v
    = fun j => stepD ((shapeCast S15408 w shapeCasts_S1x15408_S15408 : FVec Ideal S15408 .f32) j) ((g : FVec Ideal S15408 .f32) j) ((shapeCast S15408 a shapeCasts_S1x15408_S15408 : FVec Ideal S15408 .f32) j) ((shapeCast S15408 v shapeCasts_S1x15408_S15408 : FVec Ideal S15408 .f32) j) :=
  by
  funext j
  have e1 := congrFun (rM2 g a) j
  have e2 := congrFun (rV2 g v) j
  unfold val_main_v315 at e1
  unfold val_main_v329 at e2
  unfold val_main_v301
  unfold shapeCast at e1 e2 ⊢
  rw [uD2, e1, e2]
  rfl

theorem rM3 (g : FVec Ideal S4x512 .f32) (a : FVec Ideal S1x4x512 .f32) : val_main_v316 (F := Ideal) g a
    = fun j => stepM ((shapeCast S2048 g (by decide) : FVec Ideal S2048 .f32) j) ((shapeCast S2048 a shapeCasts_S1x4x512_S2048 : FVec Ideal S2048 .f32) j) :=
  funext fun j => congrArg (fun t : FVec Ideal S2048 .f32 => stepM (t j) ((shapeCast S2048 a shapeCasts_S1x4x512_S2048 : FVec Ideal S2048 .f32) j)) (hG3 g)

theorem rV3 (g : FVec Ideal S4x512 .f32) (v : FVec Ideal S1x4x512 .f32) : val_main_v330 (F := Ideal) g v
    = fun j => stepV ((shapeCast S2048 g (by decide) : FVec Ideal S2048 .f32) j) ((shapeCast S2048 v shapeCasts_S1x4x512_S2048 : FVec Ideal S2048 .f32) j) :=
  funext fun j => congrArg (fun t : FVec Ideal S2048 .f32 => stepV (t j) ((shapeCast S2048 v shapeCasts_S1x4x512_S2048 : FVec Ideal S2048 .f32) j)) (hG3 g)

theorem uD3 (w : FVec Ideal S1x4x512 .f32) (g : FVec Ideal S4x512 .f32) (a : FVec Ideal S1x4x512 .f32) (v : FVec Ideal S1x4x512 .f32) (i : S1x4x512.Idx) : val_main_v99 (F := Ideal) w g a v i
    = Cert.Adam.change (w i) (val_main_v80 (F := Ideal) g a i) (val_main_v86 (F := Ideal) g v i) := rfl

theorem rD3 (w : FVec Ideal S1x4x512 .f32) (g : FVec Ideal S4x512 .f32) (a : FVec Ideal S1x4x512 .f32) (v : FVec Ideal S1x4x512 .f32) : val_main_v302 (F := Ideal) w g a v
    = fun j => stepD ((shapeCast S2048 w shapeCasts_S1x4x512_S2048 : FVec Ideal S2048 .f32) j) ((shapeCast S2048 g (by decide) : FVec Ideal S2048 .f32) j) ((shapeCast S2048 a shapeCasts_S1x4x512_S2048 : FVec Ideal S2048 .f32) j) ((shapeCast S2048 v shapeCasts_S1x4x512_S2048 : FVec Ideal S2048 .f32) j) :=
  by
  funext j
  have e1 := congrFun (rM3 g a) j
  have e2 := congrFun (rV3 g v) j
  unfold val_main_v316 at e1
  unfold val_main_v330 at e2
  unfold val_main_v302
  unfold shapeCast at e1 e2 ⊢
  rw [uD3, e1, e2]
  rfl

theorem rM4 (g : FVec Ideal S2048 .f32) (a : FVec Ideal S1x2048 .f32) : val_main_v317 (F := Ideal) g a
    = fun j => stepM ((g : FVec Ideal S2048 .f32) j) ((shapeCast S2048 a shapeCasts_S1x2048_S2048 : FVec Ideal S2048 .f32) j) :=
  funext fun j => congrArg (fun t : FVec Ideal S2048 .f32 => stepM (t j) ((shapeCast S2048 a shapeCasts_S1x2048_S2048 : FVec Ideal S2048 .f32) j)) (hG4 g)

theorem rV4 (g : FVec Ideal S2048 .f32) (v : FVec Ideal S1x2048 .f32) : val_main_v331 (F := Ideal) g v
    = fun j => stepV ((g : FVec Ideal S2048 .f32) j) ((shapeCast S2048 v shapeCasts_S1x2048_S2048 : FVec Ideal S2048 .f32) j) :=
  funext fun j => congrArg (fun t : FVec Ideal S2048 .f32 => stepV (t j) ((shapeCast S2048 v shapeCasts_S1x2048_S2048 : FVec Ideal S2048 .f32) j)) (hG4 g)

theorem uD4 (w : FVec Ideal S1x2048 .f32) (g : FVec Ideal S2048 .f32) (a : FVec Ideal S1x2048 .f32) (v : FVec Ideal S1x2048 .f32) (i : S1x2048.Idx) : val_main_v124 (F := Ideal) w g a v i
    = Cert.Adam.change (w i) (val_main_v105 (F := Ideal) g a i) (val_main_v111 (F := Ideal) g v i) := rfl

theorem rD4 (w : FVec Ideal S1x2048 .f32) (g : FVec Ideal S2048 .f32) (a : FVec Ideal S1x2048 .f32) (v : FVec Ideal S1x2048 .f32) : val_main_v303 (F := Ideal) w g a v
    = fun j => stepD ((shapeCast S2048 w shapeCasts_S1x2048_S2048 : FVec Ideal S2048 .f32) j) ((g : FVec Ideal S2048 .f32) j) ((shapeCast S2048 a shapeCasts_S1x2048_S2048 : FVec Ideal S2048 .f32) j) ((shapeCast S2048 v shapeCasts_S1x2048_S2048 : FVec Ideal S2048 .f32) j) :=
  by
  funext j
  have e1 := congrFun (rM4 g a) j
  have e2 := congrFun (rV4 g v) j
  unfold val_main_v317 at e1
  unfold val_main_v331 at e2
  unfold val_main_v303
  unfold shapeCast at e1 e2 ⊢
  rw [uD4, e1, e2]
  rfl

theorem rM5 (g : FVec Ideal S2048 .f32) (a : FVec Ideal S1x2048 .f32) : val_main_v318 (F := Ideal) g a
    = fun j => stepM ((g : FVec Ideal S2048 .f32) j) ((shapeCast S2048 a shapeCasts_S1x2048_S2048 : FVec Ideal S2048 .f32) j) :=
  funext fun j => congrArg (fun t : FVec Ideal S2048 .f32 => stepM (t j) ((shapeCast S2048 a shapeCasts_S1x2048_S2048 : FVec Ideal S2048 .f32) j)) (hG5 g)

theorem rV5 (g : FVec Ideal S2048 .f32) (v : FVec Ideal S1x2048 .f32) : val_main_v332 (F := Ideal) g v
    = fun j => stepV ((g : FVec Ideal S2048 .f32) j) ((shapeCast S2048 v shapeCasts_S1x2048_S2048 : FVec Ideal S2048 .f32) j) :=
  funext fun j => congrArg (fun t : FVec Ideal S2048 .f32 => stepV (t j) ((shapeCast S2048 v shapeCasts_S1x2048_S2048 : FVec Ideal S2048 .f32) j)) (hG5 g)

theorem uD5 (w : FVec Ideal S1x2048 .f32) (g : FVec Ideal S2048 .f32) (a : FVec Ideal S1x2048 .f32) (v : FVec Ideal S1x2048 .f32) (i : S1x2048.Idx) : val_main_v149 (F := Ideal) w g a v i
    = Cert.Adam.change (w i) (val_main_v130 (F := Ideal) g a i) (val_main_v136 (F := Ideal) g v i) := rfl

theorem rD5 (w : FVec Ideal S1x2048 .f32) (g : FVec Ideal S2048 .f32) (a : FVec Ideal S1x2048 .f32) (v : FVec Ideal S1x2048 .f32) : val_main_v304 (F := Ideal) w g a v
    = fun j => stepD ((shapeCast S2048 w shapeCasts_S1x2048_S2048 : FVec Ideal S2048 .f32) j) ((g : FVec Ideal S2048 .f32) j) ((shapeCast S2048 a shapeCasts_S1x2048_S2048 : FVec Ideal S2048 .f32) j) ((shapeCast S2048 v shapeCasts_S1x2048_S2048 : FVec Ideal S2048 .f32) j) :=
  by
  funext j
  have e1 := congrFun (rM5 g a) j
  have e2 := congrFun (rV5 g v) j
  unfold val_main_v318 at e1
  unfold val_main_v332 at e2
  unfold val_main_v304
  unfold shapeCast at e1 e2 ⊢
  rw [uD5, e1, e2]
  rfl

theorem rM6 (g : FVec Ideal S4x768 .f32) (a : FVec Ideal S1x4x768 .f32) : val_main_v319 (F := Ideal) g a
    = fun j => stepM ((shapeCast S3072 g (by decide) : FVec Ideal S3072 .f32) j) ((shapeCast S3072 a shapeCasts_S1x4x768_S3072 : FVec Ideal S3072 .f32) j) :=
  funext fun j => congrArg (fun t : FVec Ideal S3072 .f32 => stepM (t j) ((shapeCast S3072 a shapeCasts_S1x4x768_S3072 : FVec Ideal S3072 .f32) j)) (hG6 g)

theorem rV6 (g : FVec Ideal S4x768 .f32) (v : FVec Ideal S1x4x768 .f32) : val_main_v333 (F := Ideal) g v
    = fun j => stepV ((shapeCast S3072 g (by decide) : FVec Ideal S3072 .f32) j) ((shapeCast S3072 v shapeCasts_S1x4x768_S3072 : FVec Ideal S3072 .f32) j) :=
  funext fun j => congrArg (fun t : FVec Ideal S3072 .f32 => stepV (t j) ((shapeCast S3072 v shapeCasts_S1x4x768_S3072 : FVec Ideal S3072 .f32) j)) (hG6 g)

theorem uD6 (w : FVec Ideal S1x4x768 .f32) (g : FVec Ideal S4x768 .f32) (a : FVec Ideal S1x4x768 .f32) (v : FVec Ideal S1x4x768 .f32) (i : S1x4x768.Idx) : val_main_v174 (F := Ideal) w g a v i
    = Cert.Adam.change (w i) (val_main_v155 (F := Ideal) g a i) (val_main_v161 (F := Ideal) g v i) := rfl

theorem rD6 (w : FVec Ideal S1x4x768 .f32) (g : FVec Ideal S4x768 .f32) (a : FVec Ideal S1x4x768 .f32) (v : FVec Ideal S1x4x768 .f32) : val_main_v305 (F := Ideal) w g a v
    = fun j => stepD ((shapeCast S3072 w shapeCasts_S1x4x768_S3072 : FVec Ideal S3072 .f32) j) ((shapeCast S3072 g (by decide) : FVec Ideal S3072 .f32) j) ((shapeCast S3072 a shapeCasts_S1x4x768_S3072 : FVec Ideal S3072 .f32) j) ((shapeCast S3072 v shapeCasts_S1x4x768_S3072 : FVec Ideal S3072 .f32) j) :=
  by
  funext j
  have e1 := congrFun (rM6 g a) j
  have e2 := congrFun (rV6 g v) j
  unfold val_main_v319 at e1
  unfold val_main_v333 at e2
  unfold val_main_v305
  unfold shapeCast at e1 e2 ⊢
  rw [uD6, e1, e2]
  rfl

theorem rM7 (g : FVec Ideal S3072 .f32) (a : FVec Ideal S1x3072 .f32) : val_main_v320 (F := Ideal) g a
    = fun j => stepM ((g : FVec Ideal S3072 .f32) j) ((shapeCast S3072 a shapeCasts_S1x3072_S3072 : FVec Ideal S3072 .f32) j) :=
  funext fun j => congrArg (fun t : FVec Ideal S3072 .f32 => stepM (t j) ((shapeCast S3072 a shapeCasts_S1x3072_S3072 : FVec Ideal S3072 .f32) j)) (hG7 g)

theorem rV7 (g : FVec Ideal S3072 .f32) (v : FVec Ideal S1x3072 .f32) : val_main_v334 (F := Ideal) g v
    = fun j => stepV ((g : FVec Ideal S3072 .f32) j) ((shapeCast S3072 v shapeCasts_S1x3072_S3072 : FVec Ideal S3072 .f32) j) :=
  funext fun j => congrArg (fun t : FVec Ideal S3072 .f32 => stepV (t j) ((shapeCast S3072 v shapeCasts_S1x3072_S3072 : FVec Ideal S3072 .f32) j)) (hG7 g)

theorem uD7 (w : FVec Ideal S1x3072 .f32) (g : FVec Ideal S3072 .f32) (a : FVec Ideal S1x3072 .f32) (v : FVec Ideal S1x3072 .f32) (i : S1x3072.Idx) : val_main_v199 (F := Ideal) w g a v i
    = Cert.Adam.change (w i) (val_main_v180 (F := Ideal) g a i) (val_main_v186 (F := Ideal) g v i) := rfl

theorem rD7 (w : FVec Ideal S1x3072 .f32) (g : FVec Ideal S3072 .f32) (a : FVec Ideal S1x3072 .f32) (v : FVec Ideal S1x3072 .f32) : val_main_v306 (F := Ideal) w g a v
    = fun j => stepD ((shapeCast S3072 w shapeCasts_S1x3072_S3072 : FVec Ideal S3072 .f32) j) ((g : FVec Ideal S3072 .f32) j) ((shapeCast S3072 a shapeCasts_S1x3072_S3072 : FVec Ideal S3072 .f32) j) ((shapeCast S3072 v shapeCasts_S1x3072_S3072 : FVec Ideal S3072 .f32) j) :=
  by
  funext j
  have e1 := congrFun (rM7 g a) j
  have e2 := congrFun (rV7 g v) j
  unfold val_main_v320 at e1
  unfold val_main_v334 at e2
  unfold val_main_v306
  unfold shapeCast at e1 e2 ⊢
  rw [uD7, e1, e2]
  rfl

theorem rM8 (g : FVec Ideal S32 .f32) (a : FVec Ideal S1x32 .f32) : val_main_v321 (F := Ideal) g a
    = fun j => stepM ((g : FVec Ideal S32 .f32) j) ((shapeCast S32 a shapeCasts_S1x32_S32 : FVec Ideal S32 .f32) j) :=
  funext fun j => congrArg (fun t : FVec Ideal S32 .f32 => stepM (t j) ((shapeCast S32 a shapeCasts_S1x32_S32 : FVec Ideal S32 .f32) j)) (hG8 g)

theorem rV8 (g : FVec Ideal S32 .f32) (v : FVec Ideal S1x32 .f32) : val_main_v335 (F := Ideal) g v
    = fun j => stepV ((g : FVec Ideal S32 .f32) j) ((shapeCast S32 v shapeCasts_S1x32_S32 : FVec Ideal S32 .f32) j) :=
  funext fun j => congrArg (fun t : FVec Ideal S32 .f32 => stepV (t j) ((shapeCast S32 v shapeCasts_S1x32_S32 : FVec Ideal S32 .f32) j)) (hG8 g)

theorem uD8 (w : FVec Ideal S1x32 .f32) (g : FVec Ideal S32 .f32) (a : FVec Ideal S1x32 .f32) (v : FVec Ideal S1x32 .f32) (i : S1x32.Idx) : val_main_v224 (F := Ideal) w g a v i
    = Cert.Adam.change (w i) (val_main_v205 (F := Ideal) g a i) (val_main_v211 (F := Ideal) g v i) := rfl

theorem rD8 (w : FVec Ideal S1x32 .f32) (g : FVec Ideal S32 .f32) (a : FVec Ideal S1x32 .f32) (v : FVec Ideal S1x32 .f32) : val_main_v307 (F := Ideal) w g a v
    = fun j => stepD ((shapeCast S32 w shapeCasts_S1x32_S32 : FVec Ideal S32 .f32) j) ((g : FVec Ideal S32 .f32) j) ((shapeCast S32 a shapeCasts_S1x32_S32 : FVec Ideal S32 .f32) j) ((shapeCast S32 v shapeCasts_S1x32_S32 : FVec Ideal S32 .f32) j) :=
  by
  funext j
  have e1 := congrFun (rM8 g a) j
  have e2 := congrFun (rV8 g v) j
  unfold val_main_v321 at e1
  unfold val_main_v335 at e2
  unfold val_main_v307
  unfold shapeCast at e1 e2 ⊢
  rw [uD8, e1, e2]
  rfl

theorem rM9 (g : FVec Ideal S32 .f32) (a : FVec Ideal S1x32 .f32) : val_main_v322 (F := Ideal) g a
    = fun j => stepM ((g : FVec Ideal S32 .f32) j) ((shapeCast S32 a shapeCasts_S1x32_S32 : FVec Ideal S32 .f32) j) :=
  funext fun j => congrArg (fun t : FVec Ideal S32 .f32 => stepM (t j) ((shapeCast S32 a shapeCasts_S1x32_S32 : FVec Ideal S32 .f32) j)) (hG9 g)

theorem rV9 (g : FVec Ideal S32 .f32) (v : FVec Ideal S1x32 .f32) : val_main_v336 (F := Ideal) g v
    = fun j => stepV ((g : FVec Ideal S32 .f32) j) ((shapeCast S32 v shapeCasts_S1x32_S32 : FVec Ideal S32 .f32) j) :=
  funext fun j => congrArg (fun t : FVec Ideal S32 .f32 => stepV (t j) ((shapeCast S32 v shapeCasts_S1x32_S32 : FVec Ideal S32 .f32) j)) (hG9 g)

theorem uD9 (w : FVec Ideal S1x32 .f32) (g : FVec Ideal S32 .f32) (a : FVec Ideal S1x32 .f32) (v : FVec Ideal S1x32 .f32) (i : S1x32.Idx) : val_main_v249 (F := Ideal) w g a v i
    = Cert.Adam.change (w i) (val_main_v230 (F := Ideal) g a i) (val_main_v236 (F := Ideal) g v i) := rfl

theorem rD9 (w : FVec Ideal S1x32 .f32) (g : FVec Ideal S32 .f32) (a : FVec Ideal S1x32 .f32) (v : FVec Ideal S1x32 .f32) : val_main_v308 (F := Ideal) w g a v
    = fun j => stepD ((shapeCast S32 w shapeCasts_S1x32_S32 : FVec Ideal S32 .f32) j) ((g : FVec Ideal S32 .f32) j) ((shapeCast S32 a shapeCasts_S1x32_S32 : FVec Ideal S32 .f32) j) ((shapeCast S32 v shapeCasts_S1x32_S32 : FVec Ideal S32 .f32) j) :=
  by
  funext j
  have e1 := congrFun (rM9 g a) j
  have e2 := congrFun (rV9 g v) j
  unfold val_main_v322 at e1
  unfold val_main_v336 at e2
  unfold val_main_v308
  unfold shapeCast at e1 e2 ⊢
  rw [uD9, e1, e2]
  rfl

theorem rM10 (g : FVec Ideal S2048 .f32) (a : FVec Ideal S1x2048 .f32) : val_main_v323 (F := Ideal) g a
    = fun j => stepM ((g : FVec Ideal S2048 .f32) j) ((shapeCast S2048 a shapeCasts_S1x2048_S2048 : FVec Ideal S2048 .f32) j) :=
  funext fun j => congrArg (fun t : FVec Ideal S2048 .f32 => stepM (t j) ((shapeCast S2048 a shapeCasts_S1x2048_S2048 : FVec Ideal S2048 .f32) j)) (hG10 g)

theorem rV10 (g : FVec Ideal S2048 .f32) (v : FVec Ideal S1x2048 .f32) : val_main_v337 (F := Ideal) g v
    = fun j => stepV ((g : FVec Ideal S2048 .f32) j) ((shapeCast S2048 v shapeCasts_S1x2048_S2048 : FVec Ideal S2048 .f32) j) :=
  funext fun j => congrArg (fun t : FVec Ideal S2048 .f32 => stepV (t j) ((shapeCast S2048 v shapeCasts_S1x2048_S2048 : FVec Ideal S2048 .f32) j)) (hG10 g)

theorem uD10 (w : FVec Ideal S1x2048 .f32) (g : FVec Ideal S2048 .f32) (a : FVec Ideal S1x2048 .f32) (v : FVec Ideal S1x2048 .f32) (i : S1x2048.Idx) : val_main_v274 (F := Ideal) w g a v i
    = Cert.Adam.change (w i) (val_main_v255 (F := Ideal) g a i) (val_main_v261 (F := Ideal) g v i) := rfl

theorem rD10 (w : FVec Ideal S1x2048 .f32) (g : FVec Ideal S2048 .f32) (a : FVec Ideal S1x2048 .f32) (v : FVec Ideal S1x2048 .f32) : val_main_v309 (F := Ideal) w g a v
    = fun j => stepD ((shapeCast S2048 w shapeCasts_S1x2048_S2048 : FVec Ideal S2048 .f32) j) ((g : FVec Ideal S2048 .f32) j) ((shapeCast S2048 a shapeCasts_S1x2048_S2048 : FVec Ideal S2048 .f32) j) ((shapeCast S2048 v shapeCasts_S1x2048_S2048 : FVec Ideal S2048 .f32) j) :=
  by
  funext j
  have e1 := congrFun (rM10 g a) j
  have e2 := congrFun (rV10 g v) j
  unfold val_main_v323 at e1
  unfold val_main_v337 at e2
  unfold val_main_v309
  unfold shapeCast at e1 e2 ⊢
  rw [uD10, e1, e2]
  rfl

theorem rM11 (g : FVec Ideal S1024 .f32) (a : FVec Ideal S1024 .f32) : val_main_v279 (F := Ideal) g a
    = fun j => stepM ((g : FVec Ideal S1024 .f32) j) ((a : FVec Ideal S1024 .f32) j) :=
  rfl

theorem rV11 (g : FVec Ideal S1024 .f32) (v : FVec Ideal S1024 .f32) : val_main_v285 (F := Ideal) g v
    = fun j => stepV ((g : FVec Ideal S1024 .f32) j) ((v : FVec Ideal S1024 .f32) j) :=
  rfl

theorem rD11 (w : FVec Ideal S1024 .f32) (g : FVec Ideal S1024 .f32) (a : FVec Ideal S1024 .f32) (v : FVec Ideal S1024 .f32) : val_main_v298 (F := Ideal) w g a v
    = fun j => stepD ((w : FVec Ideal S1024 .f32) j) ((g : FVec Ideal S1024 .f32) j) ((a : FVec Ideal S1024 .f32) j) ((v : FVec Ideal S1024 .f32) j) :=
  rfl

theorem z0 : val_main_call0_v0 (F := Ideal) = fun _ => (0 : EReal) := by
  funext i
  show ((((0#32 : BitVec 32).toInt : ℤ) : ℝ) : EReal) = 0
  simp

theorem z1 : val_main_call1_v0 (F := Ideal) = fun _ => (0 : EReal) := by
  funext i
  show ((((0#32 : BitVec 32).toInt : ℤ) : ℝ) : EReal) = 0
  simp

theorem z2 : val_main_call2_v0 (F := Ideal) = fun _ => (0 : EReal) := by
  funext i
  show ((((0#32 : BitVec 32).toInt : ℤ) : ℝ) : EReal) = 0
  simp

theorem refM (g0 : FVec Ideal S1024 .f32) (g1 : FVec Ideal S3072 .f32) (g2 : FVec Ideal S15408 .f32) (g3 : FVec Ideal S4x512 .f32) (g4 : FVec Ideal S2048 .f32) (g5 : FVec Ideal S2048 .f32) (g6 : FVec Ideal S4x768 .f32) (g7 : FVec Ideal S3072 .f32) (g8 : FVec Ideal S32 .f32) (g9 : FVec Ideal S32 .f32) (g10 : FVec Ideal S2048 .f32) (g11 : FVec Ideal S1024 .f32) (a0 : FVec Ideal S1x1024 .f32) (a1 : FVec Ideal S1x3072 .f32) (a2 : FVec Ideal S1x15408 .f32) (a3 : FVec Ideal S1x4x512 .f32) (a4 : FVec Ideal S1x2048 .f32) (a5 : FVec Ideal S1x2048 .f32) (a6 : FVec Ideal S1x4x768 .f32) (a7 : FVec Ideal S1x3072 .f32) (a8 : FVec Ideal S1x32 .f32) (a9 : FVec Ideal S1x32 .f32) (a10 : FVec Ideal S1x2048 .f32) (a11 : FVec Ideal S1024 .f32) : val_main_v326 (F := Ideal) g0 g1 g2 g3 g4 g5 g6 g7 g8 g9 g10 g11 a0 a1 a2 a3 a4 a5 a6 a7 a8 a9 a10 a11
    = pack 0 fun k i => stepM (flG g0 g1 g2 g3 g4 g5 g6 g7 g8 g9 g10 g11 k i) (flW a0 a1 a2 a3 a4 a5 a6 a7 a8 a9 a10 a11 k i) := by
  unfold val_main_v326 val_main_v325 val_main_v324
  rw [rM0, rM1, rM2, rM3, rM4, rM5, rM6, rM7, rM8, rM9, rM10, rM11, z1]
  rfl

theorem refV (g0 : FVec Ideal S1024 .f32) (g1 : FVec Ideal S3072 .f32) (g2 : FVec Ideal S15408 .f32) (g3 : FVec Ideal S4x512 .f32) (g4 : FVec Ideal S2048 .f32) (g5 : FVec Ideal S2048 .f32) (g6 : FVec Ideal S4x768 .f32) (g7 : FVec Ideal S3072 .f32) (g8 : FVec Ideal S32 .f32) (g9 : FVec Ideal S32 .f32) (g10 : FVec Ideal S2048 .f32) (g11 : FVec Ideal S1024 .f32) (v0 : FVec Ideal S1x1024 .f32) (v1 : FVec Ideal S1x3072 .f32) (v2 : FVec Ideal S1x15408 .f32) (v3 : FVec Ideal S1x4x512 .f32) (v4 : FVec Ideal S1x2048 .f32) (v5 : FVec Ideal S1x2048 .f32) (v6 : FVec Ideal S1x4x768 .f32) (v7 : FVec Ideal S1x3072 .f32) (v8 : FVec Ideal S1x32 .f32) (v9 : FVec Ideal S1x32 .f32) (v10 : FVec Ideal S1x2048 .f32) (v11 : FVec Ideal S1024 .f32) : val_main_v340 (F := Ideal) g0 g1 g2 g3 g4 g5 g6 g7 g8 g9 g10 g11 v0 v1 v2 v3 v4 v5 v6 v7 v8 v9 v10 v11
    = pack 0 fun k i => stepV (flG g0 g1 g2 g3 g4 g5 g6 g7 g8 g9 g10 g11 k i) (flW v0 v1 v2 v3 v4 v5 v6 v7 v8 v9 v10 v11 k i) := by
  unfold val_main_v340 val_main_v339 val_main_v338
  rw [rV0, rV1, rV2, rV3, rV4, rV5, rV6, rV7, rV8, rV9, rV10, rV11, z2]
  rfl

theorem refD (w0 : FVec Ideal S1x1024 .f32) (w1 : FVec Ideal S1x3072 .f32) (w2 : FVec Ideal S1x15408 .f32) (w3 : FVec Ideal S1x4x512 .f32) (w4 : FVec Ideal S1x2048 .f32) (w5 : FVec Ideal S1x2048 .f32) (w6 : FVec Ideal S1x4x768 .f32) (w7 : FVec Ideal S1x3072 .f32) (w8 : FVec Ideal S1x32 .f32) (w9 : FVec Ideal S1x32 .f32) (w10 : FVec Ideal S1x2048 .f32) (w11 : FVec Ideal S1024 .f32) (g0 : FVec Ideal S1024 .f32) (g1 : FVec Ideal S3072 .f32) (g2 : FVec Ideal S15408 .f32) (g3 : FVec Ideal S4x512 .f32) (g4 : FVec Ideal S2048 .f32) (g5 : FVec Ideal S2048 .f32) (g6 : FVec Ideal S4x768 .f32) (g7 : FVec Ideal S3072 .f32) (g8 : FVec Ideal S32 .f32) (g9 : FVec Ideal S32 .f32) (g10 : FVec Ideal S2048 .f32) (g11 : FVec Ideal S1024 .f32) (a0 : FVec Ideal S1x1024 .f32) (a1 : FVec Ideal S1x3072 .f32) (a2 : FVec Ideal S1x15408 .f32) (a3 : FVec Ideal S1x4x512 .f32) (a4 : FVec Ideal S1x2048 .f32) (a5 : FVec Ideal S1x2048 .f32) (a6 : FVec Ideal S1x4x768 .f32) (a7 : FVec Ideal S1x3072 .f32) (a8 : FVec Ideal S1x32 .f32) (a9 : FVec Ideal S1x32 .f32) (a10 : FVec Ideal S1x2048 .f32) (a11 : FVec Ideal S1024 .f32) (v0 : FVec Ideal S1x1024 .f32) (v1 : FVec Ideal S1x3072 .f32) (v2 : FVec Ideal S1x15408 .f32) (v3 : FVec Ideal S1x4x512 .f32) (v4 : FVec Ideal S1x2048 .f32) (v5 : FVec Ideal S1x2048 .f32) (v6 : FVec Ideal S1x4x768 .f32) (v7 : FVec Ideal S1x3072 .f32) (v8 : FVec Ideal S1x32 .f32) (v9 : FVec Ideal S1x32 .f32) (v10 : FVec Ideal S1x2048 .f32) (v11 : FVec Ideal S1024 .f32) : val_main_v312 (F := Ideal) w0 w1 w2 w3 w4 w5 w6 w7 w8 w9 w10 w11 g0 g1 g2 g3 g4 g5 g6 g7 g8 g9 g10 g11 a0 a1 a2 a3 a4 a5 a6 a7 a8 a9 a10 a11 v0 v1 v2 v3 v4 v5 v6 v7 v8 v9 v10 v11
    = pack 0 fun k i => stepD (flW w0 w1 w2 w3 w4 w5 w6 w7 w8 w9 w10 w11 k i) (flG g0 g1 g2 g3 g4 g5 g6 g7 g8 g9 g10 g11 k i) (flW a0 a1 a2 a3 a4 a5 a6 a7 a8 a9 a10 a11 k i) (flW v0 v1 v2 v3 v4 v5 v6 v7 v8 v9 v10 v11 k i) := by
  unfold val_main_v312 val_main_v311 val_main_v310
  rw [rD0, rD1, rD2, rD3, rD4, rD5, rD6, rD7, rD8, rD9, rD10, rD11, z0]
  rfl

end Cert.AdamRest

end
-- ==== Proof.AdamRest.Kern.lean ====
module

public import proofs.«01_k».proof.Defs
public import proofs.«01_k».proof.Proof.Gen.KernelAdamRestIdeal.Value
public import proofs.«01_k».proof.Proof.AdamRest.Ref

/-! # What the packed call stores -/

@[expose] public section

set_option maxRecDepth 16384

noncomputable section

open Idealize.ShloMosaic Idealize.ShloMosaic.TcCoe Idealize.SL.Sem
open Idealize.ShloMosaic.Pipeline (Dat)
open Cert.Adam (stepD stepM stepV)

namespace Cert.AdamRest

open Cert.KernelAdamRestIdeal Cert.KernelAdamRestIdeal.Gen

variable (m : (ℓ : Loc nD τ sig) → Buf (Elt Ideal) ℓ)

theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] ∧ win0_6.index t = ![0, 0] :=
  (by decide +kernel : ∀ t : Fin grid0.N, _)

abbrev A : Type := FVec Ideal S280x128 .f32

def arW (c : Dev nD) : Fl EReal := flW
  (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))
def arG (c : Dev nD) : Fl EReal := flG
  (m ((c : Thread nD τ).loc main_arg12)) (m ((c : Thread nD τ).loc main_arg13)) (m ((c : Thread nD τ).loc main_arg14))
  (m ((c : Thread nD τ).loc main_arg15)) (m ((c : Thread nD τ).loc main_arg16)) (m ((c : Thread nD τ).loc main_arg17))
  (m ((c : Thread nD τ).loc main_arg18)) (m ((c : Thread nD τ).loc main_arg19)) (m ((c : Thread nD τ).loc main_arg20))
  (m ((c : Thread nD τ).loc main_arg21)) (m ((c : Thread nD τ).loc main_arg22)) (m ((c : Thread nD τ).loc main_arg23))
def arA (c : Dev nD) : Fl EReal := flW
  (m ((c : Thread nD τ).loc main_arg24)) (m ((c : Thread nD τ).loc main_arg25)) (m ((c : Thread nD τ).loc main_arg26))
  (m ((c : Thread nD τ).loc main_arg27)) (m ((c : Thread nD τ).loc main_arg28)) (m ((c : Thread nD τ).loc main_arg29))
  (m ((c : Thread nD τ).loc main_arg30)) (m ((c : Thread nD τ).loc main_arg31)) (m ((c : Thread nD τ).loc main_arg32))
  (m ((c : Thread nD τ).loc main_arg33)) (m ((c : Thread nD τ).loc main_arg34)) (m ((c : Thread nD τ).loc main_arg35))
def arV (c : Dev nD) : Fl EReal := flW
  (m ((c : Thread nD τ).loc main_arg36)) (m ((c : Thread nD τ).loc main_arg37)) (m ((c : Thread nD τ).loc main_arg38))
  (m ((c : Thread nD τ).loc main_arg39)) (m ((c : Thread nD τ).loc main_arg40)) (m ((c : Thread nD τ).loc main_arg41))
  (m ((c : Thread nD τ).loc main_arg42)) (m ((c : Thread nD τ).loc main_arg43)) (m ((c : Thread nD τ).loc main_arg44))
  (m ((c : Thread nD τ).loc main_arg45)) (m ((c : Thread nD τ).loc main_arg46)) (m ((c : Thread nD τ).loc main_arg47))

theorem zero (i : S_.Idx) : (sitofp (F := Ideal) .f32 (constantI S_ 32 0#32) : FVec Ideal S_ .f32) i = (0 : EReal) := by
  show ((((0#32 : BitVec 32).toInt : ℤ) : ℝ) : EReal) = 0
  simp

theorem zeros : (sitofp (F := Ideal) .f32 (constantI S_ 32 0#32) : FVec Ideal S_ .f32) = fun _ => (0 : EReal) := funext zero

set_option maxHeartbeats 2000000 in
theorem entW (c : Dev nD) : (V m c main_v13 : A) = pack 0 (arW m c) := by
  simp only [V, hostOps0, hostOps0_1, hostOps0_2, hostOps0_3, hostOps0_4, hostOps0_5, hostOps0_6, hostOps0_7, hostOps0_8,
    List.flatten_cons, List.flatten_nil, List.cons_append, List.nil_append, List.append_nil,
    StableHlo.TRef.binary, StableHlo.TRef.unary, StableHlo.TRef.toBuf, StableHlo.TRef.ofBuf, cast_eq]
  after_results_simp
  try dsimp only [Matrix.cons_val]
  try after_results_simp
  rw [zeros]
  rfl

set_option maxHeartbeats 2000000 in
theorem entG (c : Dev nD) : (V m c main_v18 : A) = pack 0 (arG m c) := by
  simp only [V, hostOps0, hostOps0_1, hostOps0_2, hostOps0_3, hostOps0_4, hostOps0_5, hostOps0_6, hostOps0_7, hostOps0_8,
    List.flatten_cons, List.flatten_nil, List.cons_append, List.nil_append, List.append_nil,
    StableHlo.TRef.binary, StableHlo.TRef.unary, StableHlo.TRef.toBuf, StableHlo.TRef.ofBuf, cast_eq]
  after_results_simp
  try dsimp only [Matrix.cons_val]
  try after_results_simp
  rw [zeros]
  rfl

set_option maxHeartbeats 2000000 in
theorem entA (c : Dev nD) : (V m c main_v32 : A) = pack 0 (arA m c) := by
  simp only [V, hostOps0, hostOps0_1, hostOps0_2, hostOps0_3, hostOps0_4, hostOps0_5, hostOps0_6, hostOps0_7, hostOps0_8,
    List.flatten_cons, List.flatten_nil, List.cons_append, List.nil_append, List.append_nil,
    StableHlo.TRef.binary, StableHlo.TRef.unary, StableHlo.TRef.toBuf, StableHlo.TRef.ofBuf, cast_eq]
  after_results_simp
  try dsimp only [Matrix.cons_val]
  try after_results_simp
  rw [zeros]
  rfl

set_option maxHeartbeats 2000000 in
theorem entV (c : Dev nD) : (V m c main_v46 : A) = pack 0 (arV m c) := by
  simp only [V, hostOps0, hostOps0_1, hostOps0_2, hostOps0_3, hostOps0_4, hostOps0_5, hostOps0_6, hostOps0_7, hostOps0_8,
    List.flatten_cons, List.flatten_nil, List.cons_append, List.nil_append, List.append_nil,
    StableHlo.TRef.binary, StableHlo.TRef.unary, StableHlo.TRef.toBuf, StableHlo.TRef.ofBuf, cast_eq]
  after_results_simp
  try dsimp only [Matrix.cons_val]
  try after_results_simp
  rw [zeros]
  rfl

theorem emb (t : Fin cfg0.N) (r : Fin 280) (l : Fin 128) (f : A) :
    f (((cfg0.win 4).blk t).view.emb (ix2 r l)) = f (ix2 r l) := by
  blk_ext [idx t]

theorem rd0 (c : Dev nD) (t : Fin cfg0.N) (r : Fin 280) (l : Fin 128) :
    (iblk m c 0 t : A) (ix2 r l) = pack 0 (arW m c) (ix2 r l) := by
  trans (V m c main_v13 : A) (ix2 r l)
  · blk_ext [iblk, idx t]
  · rw [entW]

theorem rd1 (c : Dev nD) (t : Fin cfg0.N) (r : Fin 280) (l : Fin 128) :
    (iblk m c 1 t : A) (ix2 r l) = pack 0 (arG m c) (ix2 r l) := by
  trans (V m c main_v18 : A) (ix2 r l)
  · blk_ext [iblk, idx t]
  · rw [entG]

theorem rd2 (c : Dev nD) (t : Fin cfg0.N) (r : Fin 280) (l : Fin 128) :
    (iblk m c 2 t : A) (ix2 r l) = pack 0 (arA m c) (ix2 r l) := by
  trans (V m c main_v32 : A) (ix2 r l)
  · blk_ext [iblk, idx t]
  · rw [entA]

theorem rd3 (c : Dev nD) (t : Fin cfg0.N) (r : Fin 280) (l : Fin 128) :
    (iblk m c 3 t : A) (ix2 r l) = pack 0 (arV m c) (ix2 r l) := by
  trans (V m c main_v46 : A) (ix2 r l)
  · blk_ext [iblk, idx t]
  · rw [entV]

theorem payD (w g a v : A) (r : Fin 280) (l : Fin 128) : (out0_4 (F := Ideal) w g a v : A) (ix2 r l)
    = stepD (w (ix2 r l)) (g (ix2 r l)) (a (ix2 r l)) (v (ix2 r l)) := by
  trans k0_pay4 (F := Ideal) g a v w (ix2 r l)
  · frame_out
    try pointwise
  · pointwise [k0_pay4, k0_pay3, k0_pay2, k0_pay1, stepD, stepM, stepV, Cert.Adam.change, Cert.Adam.lit]

theorem payM (w g a v : A) (r : Fin 280) (l : Fin 128) : (out0_5 (F := Ideal) w g a v : A) (ix2 r l)
    = stepM (g (ix2 r l)) (a (ix2 r l)) := by
  trans k0_pay2 (F := Ideal) g a (ix2 r l)
  · frame_out
    try pointwise
  · pointwise [k0_pay2, k0_pay1, stepM, Cert.Adam.lit]

theorem payV (w g a v : A) (r : Fin 280) (l : Fin 128) : (out0_6 (F := Ideal) w g a v : A) (ix2 r l)
    = stepV (g (ix2 r l)) (v (ix2 r l)) := by
  trans k0_pay3 (F := Ideal) g v (ix2 r l)
  · frame_out
    try pointwise
  · pointwise [k0_pay3, k0_pay1, stepV, Cert.Adam.lit]

theorem finalD (c : Dev nD) : (dats m 0 c).arrAt 4 (cfgs 0).N
    = (pack 0 fun k i => stepD (arW m c k i) (arG m c k i) (arA m c k i) (arV m c k i) : A) := by
  refine (dats m 0 c).arrAt_eq_of_covers 4 _ (by decide +kernel) fun t hf y => ?_
  obtain ⟨r, l, rfl⟩ : ∃ (r : Fin 280) (l : Fin 128), y = ix2 r l := ⟨y 0, y 1, eq_ix2 y⟩
  blk_simp
  rw [after0_4]
  refine (payD _ _ _ _ r l).trans (Eq.trans ?_
    (emb t r l (pack 0 fun k i => stepD (arW m c k i) (arG m c k i) (arA m c k i) (arV m c k i))).symm)
  rw [rd0 m c t r l, rd1 m c t r l, rd2 m c t r l, rd3 m c t r l]
  exact pack_map4 stepD stepD_zero _ _ _ _ _

theorem finalM (c : Dev nD) : (dats m 0 c).arrAt 5 (cfgs 0).N
    = (pack 0 fun k i => stepM (arG m c k i) (arA m c k i) : A) := by
  refine (dats m 0 c).arrAt_eq_of_covers 5 _ (by decide +kernel) fun t hf y => ?_
  obtain ⟨r, l, rfl⟩ : ∃ (r : Fin 280) (l : Fin 128), y = ix2 r l := ⟨y 0, y 1, eq_ix2 y⟩
  blk_simp
  rw [after0_5]
  refine (payM (iblk m c 0 t) _ _ (iblk m c 3 t) r l).trans (Eq.trans ?_
    (emb t r l (pack 0 fun k i => stepM (arG m c k i) (arA m c k i))).symm)
  rw [rd1 m c t r l, rd2 m c t r l]
  exact pack_map4 (fun _ g a _ => stepM g a) stepM_zero (arG m c) _ _ (arG m c) _

theorem finalV (c : Dev nD) : (dats m 0 c).arrAt 6 (cfgs 0).N
    = (pack 0 fun k i => stepV (arG m c k i) (arV m c k i) : A) := by
  refine (dats m 0 c).arrAt_eq_of_covers 6 _ (by decide +kernel) fun t hf y => ?_
  obtain ⟨r, l, rfl⟩ : ∃ (r : Fin 280) (l : Fin 128), y = ix2 r l := ⟨y 0, y 1, eq_ix2 y⟩
  blk_simp
  rw [after0_6]
  refine (payV (iblk m c 0 t) _ (iblk m c 2 t) _ r l).trans (Eq.trans ?_
    (emb t r l (pack 0 fun k i => stepV (arG m c k i) (arV m c k i))).symm)
  rw [rd1 m c t r l, rd3 m c t r l]
  exact pack_map4 (fun _ g _ v => stepV g v) stepV_zero (arG m c) _ (arG m c) _ _

end Cert.AdamRest

end
-- ==== Proof.AdamRest.Claim.lean ====
module

public import proofs.«01_k».proof.Defs
public import proofs.«01_k».proof.Proof.Gen.ReferenceAdamRestIdeal.Run
public import proofs.«01_k».proof.Proof.AdamRest.Kern

/-! # One optimiser step on the twelve small weights -/

@[expose] public section

set_option maxRecDepth 16384

noncomputable section

open Idealize.ShloMosaic Idealize.ShloMosaic.TcCoe Idealize.SL.Sem
open Cert.Adam (stepD stepM stepV)

namespace Cert.AdamRest.Claim

open Cert.KernelAdamRestIdeal Cert.KernelAdamRestIdeal.Gen
open Cert.AdamRest

/-! Equal arguments give equal results. -/

theorem cgD {p0 q0 : FVec Ideal S1x1024 .f32} (e0 : q0 = p0) {p1 q1 : FVec Ideal S1x3072 .f32} (e1 : q1 = p1) {p2 q2 : FVec Ideal S1x15408 .f32} (e2 : q2 = p2) {p3 q3 : FVec Ideal S1x4x512 .f32} (e3 : q3 = p3) {p4 q4 : FVec Ideal S1x2048 .f32} (e4 : q4 = p4) {p5 q5 : FVec Ideal S1x2048 .f32} (e5 : q5 = p5) {p6 q6 : FVec Ideal S1x4x768 .f32} (e6 : q6 = p6) {p7 q7 : FVec Ideal S1x3072 .f32} (e7 : q7 = p7) {p8 q8 : FVec Ideal S1x32 .f32} (e8 : q8 = p8) {p9 q9 : FVec Ideal S1x32 .f32} (e9 : q9 = p9) {p10 q10 : FVec Ideal S1x2048 .f32} (e10 : q10 = p10) {p11 q11 : FVec Ideal S1024 .f32} (e11 : q11 = p11)
    {p12 q12 : FVec Ideal S1024 .f32} (e12 : q12 = p12) {p13 q13 : FVec Ideal S3072 .f32} (e13 : q13 = p13) {p14 q14 : FVec Ideal S15408 .f32} (e14 : q14 = p14) {p15 q15 : FVec Ideal S4x512 .f32} (e15 : q15 = p15) {p16 q16 : FVec Ideal S2048 .f32} (e16 : q16 = p16) {p17 q17 : FVec Ideal S2048 .f32} (e17 : q17 = p17) {p18 q18 : FVec Ideal S4x768 .f32} (e18 : q18 = p18) {p19 q19 : FVec Ideal S3072 .f32} (e19 : q19 = p19) {p20 q20 : FVec Ideal S32 .f32} (e20 : q20 = p20) {p21 q21 : FVec Ideal S32 .f32} (e21 : q21 = p21) {p22 q22 : FVec Ideal S2048 .f32} (e22 : q22 = p22) {p23 q23 : FVec Ideal S1024 .f32} (e23 : q23 = p23)
    {p24 q24 : FVec Ideal S1x1024 .f32} (e24 : q24 = p24) {p25 q25 : FVec Ideal S1x3072 .f32} (e25 : q25 = p25) {p26 q26 : FVec Ideal S1x15408 .f32} (e26 : q26 = p26) {p27 q27 : FVec Ideal S1x4x512 .f32} (e27 : q27 = p27) {p28 q28 : FVec Ideal S1x2048 .f32} (e28 : q28 = p28) {p29 q29 : FVec Ideal S1x2048 .f32} (e29 : q29 = p29) {p30 q30 : FVec Ideal S1x4x768 .f32} (e30 : q30 = p30) {p31 q31 : FVec Ideal S1x3072 .f32} (e31 : q31 = p31) {p32 q32 : FVec Ideal S1x32 .f32} (e32 : q32 = p32) {p33 q33 : FVec Ideal S1x32 .f32} (e33 : q33 = p33) {p34 q34 : FVec Ideal S1x2048 .f32} (e34 : q34 = p34) {p35 q35 : FVec Ideal S1024 .f32} (e35 : q35 = p35)
    {p36 q36 : FVec Ideal S1x1024 .f32} (e36 : q36 = p36) {p37 q37 : FVec Ideal S1x3072 .f32} (e37 : q37 = p37) {p38 q38 : FVec Ideal S1x15408 .f32} (e38 : q38 = p38) {p39 q39 : FVec Ideal S1x4x512 .f32} (e39 : q39 = p39) {p40 q40 : FVec Ideal S1x2048 .f32} (e40 : q40 = p40) {p41 q41 : FVec Ideal S1x2048 .f32} (e41 : q41 = p41) {p42 q42 : FVec Ideal S1x4x768 .f32} (e42 : q42 = p42) {p43 q43 : FVec Ideal S1x3072 .f32} (e43 : q43 = p43) {p44 q44 : FVec Ideal S1x32 .f32} (e44 : q44 = p44) {p45 q45 : FVec Ideal S1x32 .f32} (e45 : q45 = p45) {p46 q46 : FVec Ideal S1x2048 .f32} (e46 : q46 = p46) {p47 q47 : FVec Ideal S1024 .f32} (e47 : q47 = p47) :
    (pack 0 fun k i => stepD (flW q0 q1 q2 q3 q4 q5 q6 q7 q8 q9 q10 q11 k i) (flG q12 q13 q14 q15 q16 q17 q18 q19 q20 q21 q22 q23 k i) (flW q24 q25 q26 q27 q28 q29 q30 q31 q32 q33 q34 q35 k i) (flW q36 q37 q38 q39 q40 q41 q42 q43 q44 q45 q46 q47 k i) : A) = (pack 0 fun k i => stepD (flW p0 p1 p2 p3 p4 p5 p6 p7 p8 p9 p10 p11 k i) (flG p12 p13 p14 p15 p16 p17 p18 p19 p20 p21 p22 p23 k i) (flW p24 p25 p26 p27 p28 p29 p30 p31 p32 p33 p34 p35 k i) (flW p36 p37 p38 p39 p40 p41 p42 p43 p44 p45 p46 p47 k i) : A) := by
  subst e0 e1 e2 e3 e4 e5 e6 e7 e8 e9 e10 e11 e12 e13 e14 e15 e16 e17 e18 e19 e20 e21 e22 e23 e24 e25 e26 e27 e28 e29 e30 e31 e32 e33 e34 e35 e36 e37 e38 e39 e40 e41 e42 e43 e44 e45 e46 e47
  rfl

theorem cgM {p12 q12 : FVec Ideal S1024 .f32} (e12 : q12 = p12) {p13 q13 : FVec Ideal S3072 .f32} (e13 : q13 = p13) {p14 q14 : FVec Ideal S15408 .f32} (e14 : q14 = p14) {p15 q15 : FVec Ideal S4x512 .f32} (e15 : q15 = p15) {p16 q16 : FVec Ideal S2048 .f32} (e16 : q16 = p16) {p17 q17 : FVec Ideal S2048 .f32} (e17 : q17 = p17) {p18 q18 : FVec Ideal S4x768 .f32} (e18 : q18 = p18) {p19 q19 : FVec Ideal S3072 .f32} (e19 : q19 = p19) {p20 q20 : FVec Ideal S32 .f32} (e20 : q20 = p20) {p21 q21 : FVec Ideal S32 .f32} (e21 : q21 = p21) {p22 q22 : FVec Ideal S2048 .f32} (e22 : q22 = p22) {p23 q23 : FVec Ideal S1024 .f32} (e23 : q23 = p23)
    {p24 q24 : FVec Ideal S1x1024 .f32} (e24 : q24 = p24) {p25 q25 : FVec Ideal S1x3072 .f32} (e25 : q25 = p25) {p26 q26 : FVec Ideal S1x15408 .f32} (e26 : q26 = p26) {p27 q27 : FVec Ideal S1x4x512 .f32} (e27 : q27 = p27) {p28 q28 : FVec Ideal S1x2048 .f32} (e28 : q28 = p28) {p29 q29 : FVec Ideal S1x2048 .f32} (e29 : q29 = p29) {p30 q30 : FVec Ideal S1x4x768 .f32} (e30 : q30 = p30) {p31 q31 : FVec Ideal S1x3072 .f32} (e31 : q31 = p31) {p32 q32 : FVec Ideal S1x32 .f32} (e32 : q32 = p32) {p33 q33 : FVec Ideal S1x32 .f32} (e33 : q33 = p33) {p34 q34 : FVec Ideal S1x2048 .f32} (e34 : q34 = p34) {p35 q35 : FVec Ideal S1024 .f32} (e35 : q35 = p35) :
    (pack 0 fun k i => stepM (flG q12 q13 q14 q15 q16 q17 q18 q19 q20 q21 q22 q23 k i) (flW q24 q25 q26 q27 q28 q29 q30 q31 q32 q33 q34 q35 k i) : A) = (pack 0 fun k i => stepM (flG p12 p13 p14 p15 p16 p17 p18 p19 p20 p21 p22 p23 k i) (flW p24 p25 p26 p27 p28 p29 p30 p31 p32 p33 p34 p35 k i) : A) := by
  subst e12 e13 e14 e15 e16 e17 e18 e19 e20 e21 e22 e23 e24 e25 e26 e27 e28 e29 e30 e31 e32 e33 e34 e35
  rfl

theorem cgV {p12 q12 : FVec Ideal S1024 .f32} (e12 : q12 = p12) {p13 q13 : FVec Ideal S3072 .f32} (e13 : q13 = p13) {p14 q14 : FVec Ideal S15408 .f32} (e14 : q14 = p14) {p15 q15 : FVec Ideal S4x512 .f32} (e15 : q15 = p15) {p16 q16 : FVec Ideal S2048 .f32} (e16 : q16 = p16) {p17 q17 : FVec Ideal S2048 .f32} (e17 : q17 = p17) {p18 q18 : FVec Ideal S4x768 .f32} (e18 : q18 = p18) {p19 q19 : FVec Ideal S3072 .f32} (e19 : q19 = p19) {p20 q20 : FVec Ideal S32 .f32} (e20 : q20 = p20) {p21 q21 : FVec Ideal S32 .f32} (e21 : q21 = p21) {p22 q22 : FVec Ideal S2048 .f32} (e22 : q22 = p22) {p23 q23 : FVec Ideal S1024 .f32} (e23 : q23 = p23)
    {p36 q36 : FVec Ideal S1x1024 .f32} (e36 : q36 = p36) {p37 q37 : FVec Ideal S1x3072 .f32} (e37 : q37 = p37) {p38 q38 : FVec Ideal S1x15408 .f32} (e38 : q38 = p38) {p39 q39 : FVec Ideal S1x4x512 .f32} (e39 : q39 = p39) {p40 q40 : FVec Ideal S1x2048 .f32} (e40 : q40 = p40) {p41 q41 : FVec Ideal S1x2048 .f32} (e41 : q41 = p41) {p42 q42 : FVec Ideal S1x4x768 .f32} (e42 : q42 = p42) {p43 q43 : FVec Ideal S1x3072 .f32} (e43 : q43 = p43) {p44 q44 : FVec Ideal S1x32 .f32} (e44 : q44 = p44) {p45 q45 : FVec Ideal S1x32 .f32} (e45 : q45 = p45) {p46 q46 : FVec Ideal S1x2048 .f32} (e46 : q46 = p46) {p47 q47 : FVec Ideal S1024 .f32} (e47 : q47 = p47) :
    (pack 0 fun k i => stepV (flG q12 q13 q14 q15 q16 q17 q18 q19 q20 q21 q22 q23 k i) (flW q36 q37 q38 q39 q40 q41 q42 q43 q44 q45 q46 q47 k i) : A) = (pack 0 fun k i => stepV (flG p12 p13 p14 p15 p16 p17 p18 p19 p20 p21 p22 p23 k i) (flW p36 p37 p38 p39 p40 p41 p42 p43 p44 p45 p46 p47 k i) : A) := by
  subst e12 e13 e14 e15 e16 e17 e18 e19 e20 e21 e22 e23 e36 e37 e38 e39 e40 e41 e42 e43 e44 e45 e46 e47
  rfl

theorem quiescent_RefI : quiescent_ReferenceAdamRestIdeal := by
  intro m g _
  refine (θ_run _ _ _).mono (fun r h => ⟨fun c => ?_, sem_eq_zero_of_no_sems (by decide) _⟩) (Cert.ReferenceAdamRestIdeal.Value.run m g)
  obtain ⟨_, _, _, h⟩ := h c
  exact h

theorem value : algebraic_KernelAdamRestIdeal_ReferenceAdamRestIdeal := by
  intro m g m' g' _ hagree
  refine ⟨fun c => (pack 0 fun k i => stepD (arW m c k i) (arG m c k i) (arA m c k i) (arV m c k i) : A),
    fun c => (pack 0 fun k i => stepM (arG m c k i) (arA m c k i) : A),
    fun c => (pack 0 fun k i => stepV (arG m c k i) (arV m c k i) : A), ?_, ?_⟩
  · refine (θ_run _ _ _).mono (fun r h c => ?_) (Cert.KernelAdamRestIdeal.Value.run_blocks m g)
    obtain ⟨h0, h1, h2, h⟩ := h c
    exact ⟨h0.trans (finalD m c), h1.trans (finalM m c), h2.trans (finalV m c), h⟩
  · refine (θ_run _ _ _).mono (fun r h c => ?_) (Cert.ReferenceAdamRestIdeal.Value.run m' g')
    obtain ⟨h0, h1, h2, h⟩ := h c
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47⟩ := hagree c
    refine ⟨?_, ?_, ?_, h⟩
    · exact ((h0.trans (Cert.ReferenceAdamRestIdeal.Read.val_main_v312_eq _)).trans (refD _ _ _ _ _ _ _ _ _ _ _ _ _ _ _ _ _ _ _ _ _ _ _ _ _ _ _ _ _ _ _ _ _ _ _ _ _ _ _ _ _ _ _ _ _ _ _ _)).trans
        (cgD e0 e1 e2 e3 e4 e5 e6 e7 e8 e9 e10 e11 e12 e13 e14 e15 e16 e17 e18 e19 e20 e21 e22 e23 e24 e25 e26 e27 e28 e29 e30 e31 e32 e33 e34 e35 e36 e37 e38 e39 e40 e41 e42 e43 e44 e45 e46 e47)
    · exact ((h1.trans (Cert.ReferenceAdamRestIdeal.Read.val_main_v326_eq _)).trans (refM _ _ _ _ _ _ _ _ _ _ _ _ _ _ _ _ _ _ _ _ _ _ _ _)).trans
        (cgM e12 e13 e14 e15 e16 e17 e18 e19 e20 e21 e22 e23 e24 e25 e26 e27 e28 e29 e30 e31 e32 e33 e34 e35)
    · exact ((h2.trans (Cert.ReferenceAdamRestIdeal.Read.val_main_v340_eq _)).trans (refV _ _ _ _ _ _ _ _ _ _ _ _ _ _ _ _ _ _ _ _ _ _ _ _)).trans
        (cgV e12 e13 e14 e15 e16 e17 e18 e19 e20 e21 e22 e23 e36 e37 e38 e39 e40 e41 e42 e43 e44 e45 e46 e47)

end Cert.AdamRest.Claim

end
-- ==== Proof.Merge.Row.lean ====
module

public import Idealize.ShloMosaic.Lib.Pointwise
public import Idealize.ShloMosaic.Lib.IdealHost

/-! # One row of the gated merge, its head and its gradient

Every result of the call belongs to one row of the activations or is a sum over rows.  This module says what the
kernel computes for a row (`Ins`), what the reference's derivative computes for it, and that the two agree where the
arguments are real numbers. -/

@[expose] public section

noncomputable section

open Idealize.ShloMosaic
open scoped BigOperators

namespace Cert.Merge

/-! ## The constants -/

abbrev half : EReal := Ideal.ofBits .f32 0x3F000000#32
abbrev width : EReal := Ideal.ofBits .f32 0x44800000#32
abbrev eps : EReal := Ideal.ofBits .f32 0x358637BD#32
abbrev inv : EReal := Ideal.ofBits .f32 0x3A800000#32
abbrev two : EReal := Ideal.ofBits .f32 0x40000000#32
abbrev mhalf : EReal := Ideal.ofBits .f32 0xBF000000#32

theorem half_eq : half = ((1 / 2 : ℝ) : EReal) := by
  simp [half, Ideal.ofBits, Ideal.ieee, -EReal.coe_mul]; norm_num
theorem width_eq : width = ((1024 : ℝ) : EReal) := by
  simp [width, Ideal.ofBits, Ideal.ieee, -EReal.coe_mul]; norm_num
theorem inv_eq : inv = ((1 / 1024 : ℝ) : EReal) := by
  simp [inv, Ideal.ofBits, Ideal.ieee, -EReal.coe_mul]; norm_num
theorem two_eq : two = ((2 : ℝ) : EReal) := by
  simp [two, Ideal.ofBits, Ideal.ieee, -EReal.coe_mul]; norm_num
theorem mhalf_eq : mhalf = ((-(1 / 2) : ℝ) : EReal) := by
  simp [mhalf, Ideal.ofBits, Ideal.ieee, -EReal.coe_mul, -EReal.coe_neg]; norm_num
theorem eps_eq : ∃ e : ℝ, 0 < e ∧ eps = (e : EReal) := by
  refine ⟨8796093 / 8796093022208, by norm_num, ?_⟩
  simp [eps, Ideal.ofBits, Ideal.ieee, -EReal.coe_mul]; norm_num

theorem div_real (a : ℝ) {b : ℝ} (hb : b ≠ 0) : Ideal.div (a : EReal) (b : EReal) = ((a / b : ℝ) : EReal) := by
  rw [Ideal.div_coe hb, ← EReal.coe_mul, mul_one_div]

/-! ## The logistic gate -/

/-- The kernel's logistic function, by the hyperbolic tangent. -/
def sgK (p : EReal) : EReal := half * Ideal.tanh (half * p) + half
/-- The reference's. -/
def sgR (p : EReal) : EReal := Ideal.div 1 (1 + Ideal.exp (-p))

theorem sg_real (p : ℝ) : sgK p = ((1 / (1 + Real.exp (-p)) : ℝ) : EReal) := by
  unfold sgK
  rw [half_eq, ← EReal.coe_mul, Ideal.tanh_coe, ← EReal.coe_mul, ← EReal.coe_add]
  congr 1
  rw [Real.tanh_eq_sinh_div_cosh, Real.sinh_eq, Real.cosh_eq]
  have h1 : Real.exp (1 / 2 * p) * Real.exp (-(1 / 2 * p)) = 1 := by rw [← Real.exp_add]; simp
  have h2 : Real.exp (-p) = Real.exp (-(1 / 2 * p)) * Real.exp (-(1 / 2 * p)) := by rw [← Real.exp_add]; congr 1; ring
  have h3 := Real.exp_pos (1 / 2 * p)
  have h4 := Real.exp_pos (-(1 / 2 * p))
  rw [h2]
  generalize Real.exp (1 / 2 * p) = u at *
  generalize Real.exp (-(1 / 2 * p)) = w at *
  have hu : u = 1 / w := by field_simp; linarith
  subst hu
  field_simp
  ring

theorem sg_eq (p : EReal) : sgR p = sgK p := by
  induction p using EReal.rec with
  | bot =>
    unfold sgR sgK
    rw [half_eq, EReal.coe_mul_bot_of_pos (by norm_num), EReal.neg_bot, Ideal.exp_top, Ideal.tanh_bot, ← EReal.coe_one, EReal.coe_add_top]
    rw [Ideal.div, if_neg (by simp), EReal.inv_top, mul_zero, ← EReal.coe_neg, ← EReal.coe_mul, ← EReal.coe_add]
    norm_num
  | top =>
    unfold sgR sgK
    rw [half_eq, EReal.coe_mul_top_of_pos (by norm_num), EReal.neg_top, Ideal.exp_bot, Ideal.tanh_top, add_zero, ← EReal.coe_one, div_real _ one_ne_zero,
      ← EReal.coe_mul, ← EReal.coe_add]
    norm_num
  | coe r => rw [sg_real, sgR, ← EReal.coe_neg, Ideal.exp_coe, ← EReal.coe_one, ← EReal.coe_add, div_real _ (by positivity)]

/-- A real factor that is not negative goes through a sum. -/
theorem coe_mul_sum {ι : Type} (s : Finset ι) {a : ℝ} (ha : 0 ≤ a) (f : ι → EReal) : (a : EReal) * ∑ k ∈ s, f k = ∑ k ∈ s, (a : EReal) * f k := by
  classical
  induction s using Finset.induction_on with
  | empty => simp
  | insert b s hb ih => rw [Finset.sum_insert hb, Finset.sum_insert hb, EReal.left_distrib_of_nonneg_of_ne_top (by exact_mod_cast ha) (EReal.coe_ne_top _), ih]

/-- A quotient by a real is a product with its inverse. -/
theorem div_width (x : EReal) : Ideal.div x width = x * ((1 / 1024 : ℝ) : EReal) := by
  rw [width_eq, Ideal.div_coe (by norm_num)]

/-! ## The normalised head of one row: `o` the residual stream, `f` the norm's weight, `t` the target -/

/-- The reciprocal root of the mean square. -/
def rs (o : Fin 1024 → EReal) : EReal := Ideal.rsqrt (Ideal.div (∑ k, o k * o k) width + eps)
/-- The output less the target. -/
def df (o f t : Fin 1024 → EReal) (l : Fin 1024) : EReal := o l * rs o * f l - t l
/-- The kernel's cotangent of the normalised stream. -/
def dnK (o f t : Fin 1024 → EReal) (l : Fin 1024) : EReal := df o f t l * inv * f l
/-- The kernel's cotangent of the stream. -/
def dxK (o f t : Fin 1024 → EReal) (l : Fin 1024) : EReal :=
  rs o * (dnK o f t l - o l * rs o * Ideal.div (∑ k, dnK o f t k * (o k * rs o)) width)
/-- The reference's cotangent of the output. -/
def dyR (o f t : Fin 1024 → EReal) (l : Fin 1024) : EReal := Ideal.div (half * 1) width * (two * df o f t l)
/-- The reference's cotangent of the mean square. -/
def dvR (o f t : Fin 1024 → EReal) : EReal :=
  Ideal.div ((∑ k, o k * (dyR o f t k * f k)) * (mhalf * Ideal.div (rs o) (Ideal.div (∑ k, o k * o k) width + eps))) width
/-- The reference's cotangent of the stream. -/
def dxR (o f t : Fin 1024 → EReal) (l : Fin 1024) : EReal :=
  dyR o f t l * f l * rs o + o l * dvR o f t + dvR o f t * o l

/-- The mean square with its offset is a positive real with a real reciprocal root, or it is infinite and the root zero. -/
theorem rs_cases (o : Fin 1024 → EReal) :
    (∃ v : ℝ, 0 < v ∧ Ideal.div (∑ k, o k * o k) width + eps = (v : EReal) ∧ rs o = (((Real.sqrt v)⁻¹ : ℝ) : EReal))
      ∨ (Ideal.div (∑ k, o k * o k) width + eps = ⊤ ∧ rs o = 0) := by
  obtain ⟨e, he, hE⟩ := eps_eq
  have hsq : ∀ x : EReal, 0 ≤ x * x := fun x => by
    rcases le_total 0 x with h | h
    · exact mul_nonneg h h
    · rw [← neg_mul_neg]
      have h' : 0 ≤ -x := by rwa [EReal.neg_nonneg]
      exact mul_nonneg h' h'
  have h0 : 0 ≤ ∑ k, o k * o k := Finset.sum_nonneg fun k _ => hsq (o k)
  unfold rs
  rw [div_width, hE]
  generalize (∑ k, o k * o k) = S at h0 ⊢
  induction S using EReal.rec with
  | bot => simp at h0
  | top =>
    refine Or.inr ?_
    rw [EReal.top_mul_coe_of_pos (by norm_num), EReal.top_add_coe]
    exact ⟨rfl, Ideal.rsqrt_top⟩
  | coe r =>
    have hr : 0 ≤ r := by exact_mod_cast h0
    have hv : 0 < r * (1 / 1024) + e := by positivity
    refine Or.inl ⟨r * (1 / 1024) + e, hv, ?_, ?_⟩
    · rw [EReal.coe_add, EReal.coe_mul]
    · rw [← EReal.coe_mul, ← EReal.coe_add, Ideal.rsqrt_coe, if_neg (not_lt.mpr hv.le), if_neg hv.ne']

theorem dy_eq (o f t : Fin 1024 → EReal) (l : Fin 1024) : dyR o f t l = df o f t l * inv := by
  unfold dyR
  have h : Ideal.div (half * 1) width * two = inv := by
    rw [div_width, half_eq, two_eq, inv_eq, mul_one, ← EReal.coe_mul, ← EReal.coe_mul]; norm_num
  rw [← mul_assoc, h, mul_comm]

theorem twice (x : EReal) : x + x = ((2 : ℝ) : EReal) * x := by
  have h := EReal.right_distrib_of_nonneg (a := 1) (b := 1) (c := x) zero_le_one zero_le_one
  rw [one_mul] at h
  rw [← h, show ((2 : ℝ) : EReal) = 1 + 1 by rw [← EReal.coe_one, ← EReal.coe_add]; norm_num]

/-- The stream's cotangent of a normalised stream's cotangent `d`, by the kernel's formula. -/
def gxK (o d : Fin 1024 → EReal) (l : Fin 1024) : EReal :=
  rs o * (d l - o l * rs o * Ideal.div (∑ k, d k * (o k * rs o)) width)
/-- The mean square's cotangent, and the stream's, by the reference's formula. -/
def gvR (o d : Fin 1024 → EReal) : EReal :=
  Ideal.div ((∑ k, o k * d k) * (mhalf * Ideal.div (rs o) (Ideal.div (∑ k, o k * o k) width + eps))) width
def gxR (o d : Fin 1024 → EReal) (l : Fin 1024) : EReal := d l * rs o + o l * gvR o d + gvR o d * o l

theorem gx_eq (o d : Fin 1024 → EReal) (l : Fin 1024) : gxR o d l = gxK o d l := by
  unfold gxR gxK gvR
  rcases rs_cases o with ⟨v, hv, hval, hrs⟩ | ⟨hval, hrs⟩
  · set q : ℝ := (Real.sqrt v)⁻¹ with hq
    have hq0 : 0 ≤ q := by positivity
    have hqv : q * q = 1 / v := by rw [hq, ← mul_inv, Real.mul_self_sqrt hv.le, one_div]
    have hS : (∑ k, d k * (o k * (q : EReal))) = (q : EReal) * ∑ k, o k * d k := by
      rw [coe_mul_sum _ hq0]
      exact Finset.sum_congr rfl fun k _ => by ac_rfl
    rw [hval, hrs, hS, div_width, div_width, div_real _ hv.ne', mhalf_eq, ← EReal.coe_mul]
    generalize (∑ k, o k * d k) = S
    rw [sub_eq_add_neg, EReal.left_distrib_of_nonneg_of_ne_top (by exact_mod_cast hq0) (EReal.coe_ne_top _), add_assoc]
    congr 1
    · exact mul_comm _ _
    · have h1 : ∀ x y : EReal, x * y + y * x = ((2 : ℝ) : EReal) * (x * y) := fun x y => by rw [mul_comm y x]; exact twice _
      rw [h1, ← neg_one_mul (o l * (q : EReal) * _), show (-1 : EReal) = ((-1 : ℝ) : EReal) by simp]
      have e1 : ((2 : ℝ) : EReal) * (o l * (S * ((-(1 / 2) * (q / v) : ℝ) : EReal) * ((1 / 1024 : ℝ) : EReal)))
          = ((2 * (-(1 / 2) * (q / v)) * (1 / 1024) : ℝ) : EReal) * (o l * S) := by
        rw [EReal.coe_mul (2 * _), EReal.coe_mul 2]; ac_rfl
      have e2 : (q : EReal) * (((-1 : ℝ) : EReal) * (o l * (q : EReal) * ((q : EReal) * S * ((1 / 1024 : ℝ) : EReal))))
          = ((q * -1 * q * q * (1 / 1024) : ℝ) : EReal) * (o l * S) := by
        rw [EReal.coe_mul, EReal.coe_mul, EReal.coe_mul, EReal.coe_mul]; ac_rfl
      rw [e1, e2]
      congr 2
      have : q / v = q * (q * q) := by rw [hqv]; ring
      rw [this]; ring
  · rw [hval, hrs]
    have h0 : Ideal.div 0 ⊤ = 0 := by rw [Ideal.div, if_neg (by simp), zero_mul]
    simp [h0, div_width]

theorem dx_eq (o f t : Fin 1024 → EReal) (l : Fin 1024) : dxR o f t l = dxK o f t l := by
  have hdn : (fun k => dyR o f t k * f k) = dnK o f t := funext fun k => by rw [dy_eq]; rfl
  exact (gx_eq o (fun k => dyR o f t k * f k) l).trans (by rw [hdn]; rfl)

/-! ## The loss -/

/-- The kernel's share of the loss from one row. -/
def lossK (o f t : Fin 1024 → EReal) : EReal := Ideal.div (half * ∑ k, df o f t k * df o f t k) width

/-- Half the sum of the rows' means is the sum of the rows' shares. -/
theorem loss_eq {n : ℕ} (o t : Fin n → Fin 1024 → EReal) (f : Fin 1024 → EReal) :
    half * ∑ r, Ideal.div (∑ k, df (o r) f (t r) k * df (o r) f (t r) k) width = ∑ r, lossK (o r) f (t r) := by
  rw [half_eq, coe_mul_sum _ (by norm_num)]
  refine Finset.sum_congr rfl fun r _ => ?_
  unfold lossK
  rw [div_width, div_width, half_eq, mul_assoc]

/-! ## The whole row -/

/-- What a row of the results is computed from. -/
structure Ins where
  x : Fin 1024 → EReal
  t : Fin 1024 → EReal
  g : Fin 1024 → EReal
  f : Fin 1024 → EReal
  qm : Fin 1024 → EReal
  qs : Fin 1024 → EReal
  ym : Fin 2048 → EReal
  ys : Fin 2048 → EReal
  wpm : Fin 2048 → Fin 1024 → EReal
  wps : Fin 2048 → Fin 1024 → EReal
  wo : Fin 1024 → Fin 1024 → EReal

/-- The inputs of row `r` of the whole arrays; the gates' preactivations are the columns 6144 to 8191 of the packed projections. -/
def insA (X : FVec Ideal ⟨2, ![8192, 1024]⟩ .f32) (YM YS : FVec Ideal ⟨2, ![8192, 2048]⟩ .bf16) (PJ : FVec Ideal ⟨2, ![8192, 15872]⟩ .bf16)
    (T : FVec Ideal ⟨2, ![8192, 1024]⟩ .f32) (G W : FVec Ideal ⟨2, ![1, 1024]⟩ .f32) (WM WS : FVec Ideal ⟨2, ![2048, 1024]⟩ .bf16)
    (WO : FVec Ideal ⟨2, ![1024, 1024]⟩ .bf16) (r : Fin 8192) : Ins where
  x k := X (ix2 r k)
  t k := T (ix2 r k)
  g k := G (ix2 0 k)
  f k := W (ix2 0 k)
  qm k := PJ (ix2 r ⟨6144 + k, by omega⟩)
  qs k := PJ (ix2 r ⟨6144 + (1024 + k), by omega⟩)
  ym k := YM (ix2 r k)
  ys k := YS (ix2 r k)
  wpm k l := WM (ix2 k l)
  wps k l := WS (ix2 k l)
  wo k l := WO (ix2 k l)

namespace Ins

variable (I : Ins)

def pm (l : Fin 1024) : EReal := ∑ k, I.ym k * I.wpm k l
def ps (l : Fin 1024) : EReal := ∑ k, I.ys k * I.wps k l
/-- The merged stream, and its product with the output weights; with the reference's gates the second time. -/
def mrg (l : Fin 1024) : EReal := sgK (I.qm l) * I.pm l + sgK (I.qs l) * I.ps l
def mrgR (l : Fin 1024) : EReal := sgR (I.qm l) * I.pm l + sgR (I.qs l) * I.ps l
def mo (l : Fin 1024) : EReal := ∑ k, I.mrg k * I.wo k l
def moR (l : Fin 1024) : EReal := ∑ k, I.mrgR k * I.wo k l
def out (l : Fin 1024) : EReal := I.x l + I.g l * I.mo l
def outR (l : Fin 1024) : EReal := I.x l + I.g l * I.moR l
def dx (l : Fin 1024) : EReal := dxK I.out I.f I.t l
def dmo (l : Fin 1024) : EReal := I.dx l * I.g l
def dmer (l : Fin 1024) : EReal := ∑ k, I.dmo k * I.wo l k
def dpm (l : Fin 1024) : EReal := I.dmer l * sgK (I.qm l)
def dps (l : Fin 1024) : EReal := I.dmer l * sgK (I.qs l)
def dqm (l : Fin 1024) : EReal := I.dmer l * I.pm l * sgK (I.qm l) * (1 - sgK (I.qm l))
def dqs (l : Fin 1024) : EReal := I.dmer l * I.ps l * sgK (I.qs l) * (1 - sgK (I.qs l))
def dym (j : Fin 2048) : EReal := ∑ k, I.dpm k * I.wpm j k
def dys (j : Fin 2048) : EReal := ∑ k, I.dps k * I.wps j k
/-- The row's shares of the loss, of the norm weight's gradient and of the gate's. -/
def loss : EReal := lossK I.out I.f I.t
def df' (l : Fin 1024) : EReal := df I.out I.f I.t l * inv * (I.out l * rs I.out)
def dg' (l : Fin 1024) : EReal := I.dx l * I.mo l

variable {I}

end Ins

/-- The accumulated block: the loss along row 0, the norm weight's gradient along row 1, the gate's along row 2. -/
def accA {n : ℕ} (J : Fin n → Ins) (a : Fin 8) (l : Fin 1024) : EReal :=
  if (a : ℕ) = 0 then ∑ r, (J r).loss else if (a : ℕ) = 1 then ∑ r, (J r).df' l else if (a : ℕ) = 2 then ∑ r, (J r).dg' l else 0

namespace Ins

variable {I : Ins}

theorem mrg_eq : I.mrgR = I.mrg := funext fun l => by
  unfold mrgR mrg; rw [sg_eq, sg_eq]

theorem mo_eq : I.moR = I.mo := funext fun l => by
  unfold moR mo; rw [mrg_eq]

theorem out_eq : I.outR = I.out := funext fun l => by
  unfold outR out; rw [mo_eq]

/-- The stream's cotangent, by either formula. -/
theorem dx_eq (l : Fin 1024) : dxR I.outR I.f I.t l = I.dx l := by
  rw [out_eq]; exact Merge.dx_eq _ _ _ l

theorem df_eq (l : Fin 1024) : I.outR l * rs I.outR * dyR I.outR I.f I.t l = I.df' l := by
  rw [out_eq, dy_eq]; exact mul_comm _ _

end Ins

end Cert.Merge
-- ==== Proof.Cond.Claim.lean ====
module

public import proofs.«01_k».proof.Defs
public import proofs.«01_k».proof.Proof.Merge.Row
public import proofs.«01_k».proof.Proof.Gen.KernelCondIdeal.Value
public import proofs.«01_k».proof.Proof.Gen.ReferenceCondIdeal
public import proofs.«01_k».proof.Proof.Gen.ReferenceCondIdeal.Run
public import proofs.«01_k».proof.Proof.Gen.ReferenceCondIdeal.Read
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # The modulation: the product of the gated conditioning with its weight -/

@[expose] public section

set_option maxRecDepth 16384

noncomputable section

open Idealize.ShloMosaic Idealize.ShloMosaic.TcCoe Idealize.SL.Sem
open Idealize.ShloMosaic.Pipeline (Dat)
open scoped BigOperators

namespace Cert.Cond

open Cert.KernelCondIdeal Cert.KernelCondIdeal.Gen
open Cert.Merge (sgK sgR sg_eq)

variable (m : (ℓ : Loc nD τ sig) → Buf (Elt Ideal) ℓ)

/-- Every window's block at the one grid point. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

abbrev C : Type := FVec Ideal S8x1024 .f32
abbrev W : Type := FVec Ideal S1024x768 .f32
abbrev B : Type := FVec Ideal S1x768 .f32

/-- One entry: `silu` of the conditioning's row times the weight's column, and the bias. -/
def mm (x : C) (w : W) (b : B) (r : Fin 8) (l : Fin 768) : EReal :=
  (∑ k : Fin 1024, x (ix2 r k) * sgK (x (ix2 r k)) * w (ix2 k l)) + b (ix2 (0 : Fin 1) l)

def arr (x : C) (w : W) (b : B) : FVec Ideal S8x768 .f32 := fun i => mm x w b (i 0) (i 1)

theorem pay (x : C) (w : W) (b : B) (r : Fin 8) (l : Fin 768) : (k0_pay1 (F := Ideal) x w b (ix2 r l) : EReal) = mm x w b r l := by
  pointwise [k0_pay1, mm, sgK]

theorem emb (t : Fin cfg0.N) (r : Fin 8) (l : Fin 768) (f : FVec Ideal S8x768 .f32) :
    f (((cfg0.win 3).blk t).view.emb (ix2 r l)) = f (ix2 r l) := by
  blk_ext [idx t]

theorem rd0 (c : Dev nD) (t : Fin cfg0.N) : (iblk m c 0 t : C) = m ((c : Thread nD τ).loc main_arg0) := by
  funext i
  obtain ⟨r, l, rfl⟩ : ∃ (r : Fin 8) (l : Fin 1024), i = ix2 r l := ⟨i 0, i 1, eq_ix2 i⟩
  blk_ext [iblk, V, idx t]

theorem rd1 (c : Dev nD) (t : Fin cfg0.N) : (iblk m c 1 t : W) = m ((c : Thread nD τ).loc main_arg1) := by
  funext i
  obtain ⟨r, l, rfl⟩ : ∃ (r : Fin 1024) (l : Fin 768), i = ix2 r l := ⟨i 0, i 1, eq_ix2 i⟩
  blk_ext [iblk, V, idx t]

theorem rd2 (c : Dev nD) (t : Fin cfg0.N) : (iblk m c 2 t : B) = m ((c : Thread nD τ).loc main_arg2) := by
  funext i
  obtain ⟨r, l, rfl⟩ : ∃ (r : Fin 1) (l : Fin 768), i = ix2 r l := ⟨i 0, i 1, eq_ix2 i⟩
  blk_ext [iblk, V, idx t]

theorem point (c : Dev nD) (t : Fin cfg0.N) (r : Fin 8) (l : Fin 768) :
    (out0_3 (F := Ideal) (iblk m c 0 t) (iblk m c 1 t) (iblk m c 2 t) : FVec Ideal S8x768 .f32) (ix2 r l) = mm (m ((c : Thread nD τ).loc main_arg0)) (m ((c : Thread nD τ).loc main_arg1)) (m ((c : Thread nD τ).loc main_arg2)) r l := by
  trans k0_pay1 (F := Ideal) (iblk m c 0 t) (iblk m c 1 t) (iblk m c 2 t) (ix2 r l)
  · frame_out
    try pointwise
  · rw [pay, rd0 m c t, rd1 m c t, rd2 m c t]

theorem final (c : Dev nD) : (dats m 0 c).arrAt 3 (cfgs 0).N = arr (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, l, rfl⟩ : ∃ (r : Fin 8) (l : Fin 768), y = ix2 r l := ⟨y 0, y 1, eq_ix2 y⟩
  blk_simp
  rw [after0_3]
  exact (point m c t r l).trans (emb t r l (arr (m ((c : Thread nD τ).loc main_arg0)) (m ((c : Thread nD τ).loc main_arg1)) (m ((c : Thread nD τ).loc main_arg2)))).symm

/-- Equal arguments give equal results. -/
theorem cg {x x' : C} {w w' : W} {b b' : B} (e0 : x' = x) (e1 : w' = w) (e2 : b' = b) : arr x' w' b' = arr x w b := by
  subst e0 e1 e2; rfl

open Cert.ReferenceCondIdeal.Read in
theorem ref (x : C) (w : W) (b : B) : val_main_v3 (F := Ideal) x w b = arr x w b := by
  funext i
  obtain ⟨r, l, rfl⟩ : ∃ (r : Fin 8) (l : Fin 768), i = ix2 r l := ⟨i 0, i 1, eq_ix2 i⟩
  trans (∑ k : Fin 1024, x (ix2 r k) * sgR (x (ix2 r k)) * w (ix2 k l)) + b (ix2 (0 : Fin 1) l)
  · pointwise [val_main_v3, val_main_v2, val_main_v1, val_main_v0, val_main_call0_v5, val_main_call0_v4, val_main_call0_v3, val_main_call0_v2, val_main_call0_v1, val_main_call0_v0, val_main_call0_cst, val_main_call0_cst_0, sgR]
  · simp only [sg_eq]
    rfl

end Cert.Cond

namespace Cert.Cond.Claim

open Cert.Cond

theorem quiescent_RefI : quiescent_ReferenceCondIdeal := by
  intro m g _
  refine (θ_run _ _ _).mono (fun r h => ⟨fun c => ?_, sem_eq_zero_of_no_sems (by decide) _⟩) (Cert.ReferenceCondIdeal.Value.run m g)
  obtain ⟨_, h⟩ := h c
  exact h

theorem value : algebraic_KernelCondIdeal_ReferenceCondIdeal := by
  intro m g m' g' _ hagree
  refine ⟨fun c => arr (m ((c.tc : Thread Cert.KernelCondIdeal.nD Cert.KernelCondIdeal.τ).loc Cert.KernelCondIdeal.main_arg0)) (m ((c.tc : Thread Cert.KernelCondIdeal.nD Cert.KernelCondIdeal.τ).loc Cert.KernelCondIdeal.main_arg1)) (m ((c.tc : Thread Cert.KernelCondIdeal.nD Cert.KernelCondIdeal.τ).loc Cert.KernelCondIdeal.main_arg2)), ?_, ?_⟩
  · refine (θ_run _ _ _).mono (fun r h c => ?_) (Cert.KernelCondIdeal.Value.run_blocks m g)
    obtain ⟨h0, h⟩ := h c
    exact ⟨h0.trans (final m c), h⟩
  · refine (θ_run _ _ _).mono (fun r h c => ?_) (Cert.ReferenceCondIdeal.Value.run m' g')
    obtain ⟨h0, h⟩ := h c
    obtain ⟨e0, e1, e2⟩ := hagree c
    exact ⟨(h0.trans (ref _ _ _ )).trans (cg e0 e1 e2), h⟩

end Cert.Cond.Claim

end
-- ==== Proof.CondW.Claim.lean ====
module

public import proofs.«01_k».proof.Defs
public import proofs.«01_k».proof.Proof.Merge.Row
public import proofs.«01_k».proof.Proof.Gen.KernelCondWIdeal.Value
public import proofs.«01_k».proof.Proof.Gen.ReferenceCondWIdeal
public import proofs.«01_k».proof.Proof.Gen.ReferenceCondWIdeal.Run
public import proofs.«01_k».proof.Proof.Gen.ReferenceCondWIdeal.Read
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # The gradient of the modulation's weight -/

@[expose] public section

set_option maxRecDepth 16384

noncomputable section

open Idealize.ShloMosaic Idealize.ShloMosaic.TcCoe Idealize.SL.Sem
open Idealize.ShloMosaic.Pipeline (Dat)
open scoped BigOperators

namespace Cert.CondW

open Cert.KernelCondWIdeal Cert.KernelCondWIdeal.Gen
open Cert.Merge (sgK sgR sg_eq)

variable (m : (ℓ : Loc nD τ sig) → Buf (Elt Ideal) ℓ)

/-- Every window's block at the one grid point. -/
theorem idx : ∀ t : Fin cfg0.N, win0_0.index t = ![0, 0] ∧ win0_1.index t = ![0, 0] ∧ win0_2.index t = ![0, 0] :=
  (by decide +kernel : ∀ t : Fin grid0.N, _)

abbrev C : Type := FVec Ideal S8x1024 .f32
abbrev D : Type := FVec Ideal S8x768 .f32

/-- One entry: `silu` of a column of the conditioning times a column of the cotangent. -/
def mm (x : C) (d : D) (r : Fin 1024) (l : Fin 768) : EReal :=
  ∑ k : Fin 8, x (ix2 k r) * sgK (x (ix2 k r)) * d (ix2 k l)

def arr (x : C) (d : D) : FVec Ideal S1024x768 .f32 := fun i => mm x d (i 0) (i 1)

theorem pay (x : C) (d : D) (r : Fin 1024) (l : Fin 768) : (k0_pay1 (F := Ideal) x d (ix2 r l) : EReal) = mm x d r l := by
  pointwise [k0_pay1, mm, sgK]

theorem emb (t : Fin cfg0.N) (r : Fin 1024) (l : Fin 768) (f : FVec Ideal S1024x768 .f32) :
    f (((cfg0.win 2).blk t).view.emb (ix2 r l)) = f (ix2 r l) := by
  blk_ext [idx t]

theorem rd0 (c : Dev nD) (t : Fin cfg0.N) : (iblk m c 0 t : C) = m ((c : Thread nD τ).loc main_arg0) := by
  funext i
  obtain ⟨r, l, rfl⟩ : ∃ (r : Fin 8) (l : Fin 1024), i = ix2 r l := ⟨i 0, i 1, eq_ix2 i⟩
  blk_ext [iblk, V, idx t]

theorem rd1 (c : Dev nD) (t : Fin cfg0.N) : (iblk m c 1 t : D) = m ((c : Thread nD τ).loc main_arg1) := by
  funext i
  obtain ⟨r, l, rfl⟩ : ∃ (r : Fin 8) (l : Fin 768), i = ix2 r l := ⟨i 0, i 1, eq_ix2 i⟩
  blk_ext [iblk, V, idx t]

theorem point (c : Dev nD) (t : Fin cfg0.N) (r : Fin 1024) (l : Fin 768) :
    (out0_2 (F := Ideal) (iblk m c 0 t) (iblk m c 1 t) : FVec Ideal S1024x768 .f32) (ix2 r l) = mm (m ((c : Thread nD τ).loc main_arg0)) (m ((c : Thread nD τ).loc main_arg1)) r l := by
  trans k0_pay1 (F := Ideal) (iblk m c 0 t) (iblk m c 1 t) (ix2 r l)
  · frame_out
    try pointwise
  · rw [pay, rd0 m c t, rd1 m c t]

theorem final (c : Dev nD) : (dats m 0 c).arrAt 2 (cfgs 0).N = arr (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 1024) (l : Fin 768), y = ix2 r l := ⟨y 0, y 1, eq_ix2 y⟩
  blk_simp
  rw [after0_2]
  exact (point m c t r l).trans (emb t r l (arr (m ((c : Thread nD τ).loc main_arg0)) (m ((c : Thread nD τ).loc main_arg1)))).symm

/-- Equal arguments give equal results. -/
theorem cg {x x' : C} {d d' : D} (e0 : x' = x) (e1 : d' = d) : arr x' d' = arr x d := by
  subst e0 e1; rfl

open Cert.ReferenceCondWIdeal.Read in
theorem ref (x : C) (d : D) : val_main_v7 (F := Ideal) x d = arr x d := by
  funext i
  obtain ⟨r, l, rfl⟩ : ∃ (r : Fin 1024) (l : Fin 768), i = ix2 r l := ⟨i 0, i 1, eq_ix2 i⟩
  trans ∑ k : Fin 8, d (ix2 k l) * (x (ix2 k r) * sgR (x (ix2 k r)))
  · pointwise [val_main_v7, val_main_v6, val_main_v2, val_main_call0_v5, val_main_call0_v4, val_main_call0_v3, val_main_call0_v2, val_main_call0_v1, val_main_call0_v0, val_main_call0_cst, val_main_call0_cst_0, sgR]
  · show _ = mm x d r l
    unfold mm
    exact Finset.sum_congr rfl fun k _ => by rw [sg_eq, mul_comm]

end Cert.CondW

namespace Cert.CondW.Claim

open Cert.CondW

theorem quiescent_RefI : quiescent_ReferenceCondWIdeal := by
  intro m g _
  refine (θ_run _ _ _).mono (fun r h => ⟨fun c => ?_, sem_eq_zero_of_no_sems (by decide) _⟩) (Cert.ReferenceCondWIdeal.Value.run m g)
  obtain ⟨_, h⟩ := h c
  exact h

theorem value : algebraic_KernelCondWIdeal_ReferenceCondWIdeal := by
  intro m g m' g' _ hagree
  refine ⟨fun c => arr (m ((c.tc : Thread Cert.KernelCondWIdeal.nD Cert.KernelCondWIdeal.τ).loc Cert.KernelCondWIdeal.main_arg0)) (m ((c.tc : Thread Cert.KernelCondWIdeal.nD Cert.KernelCondWIdeal.τ).loc Cert.KernelCondWIdeal.main_arg1)), ?_, ?_⟩
  · refine (θ_run _ _ _).mono (fun r h c => ?_) (Cert.KernelCondWIdeal.Value.run_blocks m g)
    obtain ⟨h0, h⟩ := h c
    exact ⟨h0.trans (final m c), h⟩
  · refine (θ_run _ _ _).mono (fun r h c => ?_) (Cert.ReferenceCondWIdeal.Value.run m' g')
    obtain ⟨h0, h⟩ := h c
    obtain ⟨e0, e1⟩ := hagree c
    exact ⟨(h0.trans (ref _ _ )).trans (cg e0 e1), h⟩

end Cert.CondW.Claim

end
-- ==== Proof.Merge.Block.lean ====
module

public import proofs.«01_k».proof.Proof.Gen.KernelIdeal.Skeleton
public import proofs.«01_k».proof.Proof.Merge.Row

/-! # The kernel's vectors at one block of 256 rows, read row by row -/

@[expose] public section

set_option maxRecDepth 16384

noncomputable section

open Idealize.ShloMosaic Idealize.ShloMosaic.TcCoe
open scoped BigOperators

namespace Cert.Merge

open Cert.KernelIdeal Cert.KernelIdeal.Gen

variable (v3 v12 : FVec Ideal S256x1024 .bf16) (YM YS : FVec Ideal S256x2048 .bf16) (WM WS : FVec Ideal S2048x1024 .bf16)
  (WO WOT : FVec Ideal S1024x1024 .bf16) (WMT WST : FVec Ideal S1024x2048 .bf16) (G W : FVec Ideal S1x1024 .f32) (X T : FVec Ideal S256x1024 .f32)

/-- The inputs of row `r` of a block. -/
def insB (r : Fin 256) : Ins where
  x k := X (ix2 r k)
  t k := T (ix2 r k)
  g k := G (ix2 0 k)
  f k := W (ix2 0 k)
  qm k := v3 (ix2 r k)
  qs k := v12 (ix2 r k)
  ym k := YM (ix2 r k)
  ys k := YS (ix2 r k)
  wpm k l := WM (ix2 k l)
  wps k l := WS (ix2 k l)
  wo k l := WO (ix2 k l)

theorem gm_at (r : Fin 256) (l : Fin 1024) : k0_pay7 (F := Ideal) v3 (ix2 r l) = sgK ((insB v3 v12 YM YS WM WS WO G W X T r).qm l) := by
  pointwise [k0_pay7, insB, sgK]

theorem gs_at (r : Fin 256) (l : Fin 1024) : k0_pay8 (F := Ideal) v12 (ix2 r l) = sgK ((insB v3 v12 YM YS WM WS WO G W X T r).qs l) := by
  pointwise [k0_pay8, insB, sgK]

theorem pm_at (r : Fin 256) (l : Fin 1024) : k0_pay9 (F := Ideal) YM WM (ix2 r l) = (insB v3 v12 YM YS WM WS WO G W X T r).pm l := by
  pointwise [k0_pay9, insB, Ins.pm]

theorem ps_at (r : Fin 256) (l : Fin 1024) : k0_pay10 (F := Ideal) YS WS (ix2 r l) = (insB v3 v12 YM YS WM WS WO G W X T r).ps l := by
  pointwise [k0_pay10, insB, Ins.ps]

theorem mrg_at (r : Fin 256) (l : Fin 1024) : (k0_pay11 (F := Ideal) v3 v12 YM WM YS WS) (ix2 r l) = (insB v3 v12 YM YS WM WS WO G W X T r).mrg l := by
  pointwise [k0_pay11, gm_at v3 v12 YM YS WM WS WO G W X T, gs_at v3 v12 YM YS WM WS WO G W X T,
    pm_at v3 v12 YM YS WM WS WO G W X T, ps_at v3 v12 YM YS WM WS WO G W X T, Ins.mrg]

theorem mo_at (r : Fin 256) (l : Fin 1024) : k0_pay12 (F := Ideal) (k0_pay11 (F := Ideal) v3 v12 YM WM YS WS) WO (ix2 r l) = (insB v3 v12 YM YS WM WS WO G W X T r).mo l := by
  pointwise [k0_pay12, mrg_at v3 v12 YM YS WM WS WO G W X T, Ins.mo]
  rfl

theorem out_at (r : Fin 256) (l : Fin 1024) : k0_pay13 (F := Ideal) (k0_pay11 (F := Ideal) v3 v12 YM WM YS WS) WO G X (ix2 r l) = (insB v3 v12 YM YS WM WS WO G W X T r).out l := by
  pointwise [k0_pay13, mo_at v3 v12 YM YS WM WS WO G W X T, Ins.out]
  rfl

theorem rs_at (r : Fin 256) (z : Fin 1) : (k0_pay14 (F := Ideal) (k0_pay11 (F := Ideal) v3 v12 YM WM YS WS) WO G X) (ix2 r z) = rs (insB v3 v12 YM YS WM WS WO G W X T r).out := by
  pointwise [k0_pay14, out_at v3 v12 YM YS WM WS WO G W X T, rs]

theorem on_at (r : Fin 256) (l : Fin 1024) : (k0_pay15 (F := Ideal) (k0_pay11 (F := Ideal) v3 v12 YM WM YS WS) WO G X) (ix2 r l) = (insB v3 v12 YM YS WM WS WO G W X T r).out l * rs (insB v3 v12 YM YS WM WS WO G W X T r).out := by
  pointwise [k0_pay15, out_at v3 v12 YM YS WM WS WO G W X T, rs_at v3 v12 YM YS WM WS WO G W X T]

theorem df_at (r : Fin 256) (l : Fin 1024) : (k0_pay16 (F := Ideal) (k0_pay11 (F := Ideal) v3 v12 YM WM YS WS) WO G W X T) (ix2 r l) = df (insB v3 v12 YM YS WM WS WO G W X T r).out (insB v3 v12 YM YS WM WS WO G W X T r).f (insB v3 v12 YM YS WM WS WO G W X T r).t l := by
  pointwise [k0_pay16, on_at v3 v12 YM YS WM WS WO G W X T, df]
  rfl

theorem dx_at (r : Fin 256) (l : Fin 1024) : k0_pay21 (F := Ideal) W (k0_pay14 (F := Ideal) (k0_pay11 (F := Ideal) v3 v12 YM WM YS WS) WO G X) (k0_pay15 (F := Ideal) (k0_pay11 (F := Ideal) v3 v12 YM WM YS WS) WO G X) (k0_pay16 (F := Ideal) (k0_pay11 (F := Ideal) v3 v12 YM WM YS WS) WO G W X T) k0_pay18 (ix2 r l) = (insB v3 v12 YM YS WM WS WO G W X T r).dx l := by
  pointwise [k0_pay21, k0_pay19, k0_pay18, on_at v3 v12 YM YS WM WS WO G W X T, df_at v3 v12 YM YS WM WS WO G W X T,
    rs_at v3 v12 YM YS WM WS WO G W X T, Ins.dx, dxK, dnK]
  rfl

theorem dmo_at (r : Fin 256) (l : Fin 1024) : k0_pay23 (F := Ideal) G W (k0_pay14 (F := Ideal) (k0_pay11 (F := Ideal) v3 v12 YM WM YS WS) WO G X) (k0_pay15 (F := Ideal) (k0_pay11 (F := Ideal) v3 v12 YM WM YS WS) WO G X) (k0_pay16 (F := Ideal) (k0_pay11 (F := Ideal) v3 v12 YM WM YS WS) WO G W X T) k0_pay18 (ix2 r l) = (insB v3 v12 YM YS WM WS WO G W X T r).dmo l := by
  pointwise [k0_pay23, dx_at v3 v12 YM YS WM WS WO G W X T, Ins.dmo]
  rfl

variable (hO : ∀ k l : Fin 1024, WOT (ix2 k l) = WO (ix2 l k)) (hM : ∀ (k : Fin 1024) (j : Fin 2048), WMT (ix2 k j) = WM (ix2 j k))
  (hS : ∀ (k : Fin 1024) (j : Fin 2048), WST (ix2 k j) = WS (ix2 j k))

include hO in
theorem dmer_at (r : Fin 256) (l : Fin 1024) : (k0_pay24 (F := Ideal) G W (k0_pay14 (F := Ideal) (k0_pay11 (F := Ideal) v3 v12 YM WM YS WS) WO G X) (k0_pay15 (F := Ideal) (k0_pay11 (F := Ideal) v3 v12 YM WM YS WS) WO G X) (k0_pay16 (F := Ideal) (k0_pay11 (F := Ideal) v3 v12 YM WM YS WS) WO G W X T) k0_pay18 WOT) (ix2 r l) = (insB v3 v12 YM YS WM WS WO G W X T r).dmer l := by
  pointwise [k0_pay24, dmo_at v3 v12 YM YS WM WS WO G W X T, hO, Ins.dmer]
  rfl

include hO in
theorem dpm_at (r : Fin 256) (l : Fin 1024) :
    k0_pay25 (F := Ideal) (k0_pay7 v3) G W (k0_pay14 (F := Ideal) (k0_pay11 (F := Ideal) v3 v12 YM WM YS WS) WO G X) (k0_pay15 (F := Ideal) (k0_pay11 (F := Ideal) v3 v12 YM WM YS WS) WO G X) (k0_pay16 (F := Ideal) (k0_pay11 (F := Ideal) v3 v12 YM WM YS WS) WO G W X T) k0_pay18 WOT (ix2 r l) = (insB v3 v12 YM YS WM WS WO G W X T r).dpm l := by
  pointwise [k0_pay25, dmer_at v3 v12 YM YS WM WS WO WOT G W X T hO, gm_at v3 v12 YM YS WM WS WO G W X T, Ins.dpm]

include hO in
theorem dps_at (r : Fin 256) (l : Fin 1024) : k0_pay1 (F := Ideal) (k0_pay8 v12) (k0_pay24 (F := Ideal) G W (k0_pay14 (F := Ideal) (k0_pay11 (F := Ideal) v3 v12 YM WM YS WS) WO G X) (k0_pay15 (F := Ideal) (k0_pay11 (F := Ideal) v3 v12 YM WM YS WS) WO G X) (k0_pay16 (F := Ideal) (k0_pay11 (F := Ideal) v3 v12 YM WM YS WS) WO G W X T) k0_pay18 WOT) (ix2 r l) = (insB v3 v12 YM YS WM WS WO G W X T r).dps l := by
  pointwise [k0_pay1, dmer_at v3 v12 YM YS WM WS WO WOT G W X T hO, gs_at v3 v12 YM YS WM WS WO G W X T, Ins.dps]

include hO hM in
theorem dym_at (r : Fin 256) (j : Fin 2048) :
    k0_pay4 (F := Ideal) (k0_pay25 (k0_pay7 v3) G W (k0_pay14 (F := Ideal) (k0_pay11 (F := Ideal) v3 v12 YM WM YS WS) WO G X) (k0_pay15 (F := Ideal) (k0_pay11 (F := Ideal) v3 v12 YM WM YS WS) WO G X) (k0_pay16 (F := Ideal) (k0_pay11 (F := Ideal) v3 v12 YM WM YS WS) WO G W X T) k0_pay18 WOT) WMT (ix2 r j) = (insB v3 v12 YM YS WM WS WO G W X T r).dym j := by
  pointwise [k0_pay4, dpm_at v3 v12 YM YS WM WS WO WOT G W X T hO, hM, Ins.dym]
  rfl

include hO hS in
theorem dys_at (r : Fin 256) (j : Fin 2048) : k0_pay5 (F := Ideal) (k0_pay8 v12) (k0_pay24 (F := Ideal) G W (k0_pay14 (F := Ideal) (k0_pay11 (F := Ideal) v3 v12 YM WM YS WS) WO G X) (k0_pay15 (F := Ideal) (k0_pay11 (F := Ideal) v3 v12 YM WM YS WS) WO G X) (k0_pay16 (F := Ideal) (k0_pay11 (F := Ideal) v3 v12 YM WM YS WS) WO G W X T) k0_pay18 WOT) WST (ix2 r j) = (insB v3 v12 YM YS WM WS WO G W X T r).dys j := by
  pointwise [k0_pay5, dps_at v3 v12 YM YS WM WS WO WOT G W X T hO, hS, Ins.dys]
  rfl

include hO in
theorem dqm_at (r : Fin 256) (l : Fin 1024) : k0_pay2 (F := Ideal) (k0_pay7 v3) (k0_pay9 YM WM) (k0_pay24 (F := Ideal) G W (k0_pay14 (F := Ideal) (k0_pay11 (F := Ideal) v3 v12 YM WM YS WS) WO G X) (k0_pay15 (F := Ideal) (k0_pay11 (F := Ideal) v3 v12 YM WM YS WS) WO G X) (k0_pay16 (F := Ideal) (k0_pay11 (F := Ideal) v3 v12 YM WM YS WS) WO G W X T) k0_pay18 WOT) (ix2 r l) = (insB v3 v12 YM YS WM WS WO G W X T r).dqm l := by
  pointwise [k0_pay2, dmer_at v3 v12 YM YS WM WS WO WOT G W X T hO, gm_at v3 v12 YM YS WM WS WO G W X T,
    pm_at v3 v12 YM YS WM WS WO G W X T, Ins.dqm]

include hO in
theorem dqs_at (r : Fin 256) (l : Fin 1024) : k0_pay3 (F := Ideal) (k0_pay8 v12) (k0_pay10 YS WS) (k0_pay24 (F := Ideal) G W (k0_pay14 (F := Ideal) (k0_pay11 (F := Ideal) v3 v12 YM WM YS WS) WO G X) (k0_pay15 (F := Ideal) (k0_pay11 (F := Ideal) v3 v12 YM WM YS WS) WO G X) (k0_pay16 (F := Ideal) (k0_pay11 (F := Ideal) v3 v12 YM WM YS WS) WO G W X T) k0_pay18 WOT) (ix2 r l) = (insB v3 v12 YM YS WM WS WO G W X T r).dqs l := by
  pointwise [k0_pay3, dmer_at v3 v12 YM YS WM WS WO WOT G W X T hO, gs_at v3 v12 YM YS WM WS WO G W X T,
    ps_at v3 v12 YM YS WM WS WO G W X T, Ins.dqs]

/-- The three accumulated rows: what the block adds to each. -/
theorem loss_at (P : FVec Ideal S1x1024 .f32) (z : Fin 1) (l : Fin 1024) :
    k0_pay17 (F := Ideal) (k0_pay11 (F := Ideal) v3 v12 YM WM YS WS) WO G W X T P (ix2 z l) = P (ix2 z l) + ∑ r, (insB v3 v12 YM YS WM WS WO G W X T r).loss := by
  pointwise [k0_pay17, df_at v3 v12 YM YS WM WS WO G W X T, Ins.loss, lossK]

theorem df'_at (P : FVec Ideal S1x1024 .f32) (z : Fin 1) (l : Fin 1024) :
    k0_pay20 (F := Ideal) (k0_pay15 (F := Ideal) (k0_pay11 (F := Ideal) v3 v12 YM WM YS WS) WO G X) (k0_pay16 (F := Ideal) (k0_pay11 (F := Ideal) v3 v12 YM WM YS WS) WO G W X T) k0_pay18 P (ix2 z l) = P (ix2 z l) + ∑ r, (insB v3 v12 YM YS WM WS WO G W X T r).df' l := by
  pointwise [k0_pay20, k0_pay19, k0_pay18, on_at v3 v12 YM YS WM WS WO G W X T, df_at v3 v12 YM YS WM WS WO G W X T, Ins.df']

theorem dg'_at (P : FVec Ideal S1x1024 .f32) (z : Fin 1) (l : Fin 1024) :
    k0_pay22 (F := Ideal) (k0_pay12 (k0_pay11 (F := Ideal) v3 v12 YM WM YS WS) WO) W (k0_pay14 (F := Ideal) (k0_pay11 (F := Ideal) v3 v12 YM WM YS WS) WO G X) (k0_pay15 (F := Ideal) (k0_pay11 (F := Ideal) v3 v12 YM WM YS WS) WO G X) (k0_pay16 (F := Ideal) (k0_pay11 (F := Ideal) v3 v12 YM WM YS WS) WO G W X T) k0_pay18 P (ix2 z l) = P (ix2 z l) + ∑ r, (insB v3 v12 YM YS WM WS WO G W X T r).dg' l := by
  pointwise [k0_pay22, dx_at v3 v12 YM YS WM WS WO G W X T, mo_at v3 v12 YM YS WM WS WO G W X T, Ins.dg']

end Cert.Merge
-- ==== Proof.Merge.Arrays.lean ====
module

public import proofs.«01_k».proof.Proof.Gen.KernelIdeal.Value
public import proofs.«01_k».proof.Proof.Merge.Block
public import Idealize.ShloMosaic.Lib.Pipeline.ValueKit
public import Idealize.ShloMosaic.Lib.Pointwise
public import Idealize.ShloMosaic.Lib.Claim

/-! # What the run leaves in each result, as a function of the arguments -/

@[expose] public section

set_option maxRecDepth 16384

noncomputable section

open Idealize.ShloMosaic Idealize.ShloMosaic.TcCoe Idealize.SL.Sem
open Idealize.ShloMosaic.Pipeline (Dat)
open scoped BigOperators

namespace Cert.Merge.Arr

open Cert.KernelIdeal Cert.KernelIdeal.Gen

variable (m : (ℓ : Loc nD τ sig) → Buf (Elt Ideal) ℓ)

/-- Every window's block at every grid point. -/
theorem idx : ∀ t : Fin cfg0.N, win0_0.index t = ![t.val, 0] ∧
    win0_1.index t = ![t.val, 0] ∧
    win0_2.index t = ![t.val, 0] ∧
    win0_3.index t = ![t.val, 3] ∧
    win0_4.index t = ![t.val, 0] ∧
    win0_5.index t = ![0, 0] ∧
    win0_6.index t = ![0, 0] ∧
    win0_7.index t = ![0, 0] ∧
    win0_8.index t = ![0, 0] ∧
    win0_9.index t = ![0, 0] ∧
    win0_10.index t = ![0, 0] ∧
    win0_11.index t = ![0, 0] ∧
    win0_12.index t = ![0, 0] ∧
    win0_13.index t = ![t.val, 0] ∧
    win0_14.index t = ![t.val, 0] ∧
    win0_15.index t = ![t.val, 0] ∧
    win0_16.index t = ![t.val, 0] ∧
    win0_17.index t = ![t.val, 0] ∧
    win0_18.index t = ![t.val, 0] ∧
    win0_19.index t = ![t.val, 0] ∧
    win0_20.index t = ![t.val, 3] ∧
    win0_21.index t = ![0, 0] :=
  (by decide +kernel : ∀ t : Fin grid0.N, _)

/-- The grid has 32 points. -/
theorem point_lt (t : Fin cfg0.N) : t.val < 32 := lt_of_lt_of_eq t.isLt N_0

/-- Row `r` of the block at point `t`, in the arrays. -/
def row (t : Fin cfg0.N) (r : Fin 256) : Fin 8192 := ⟨t.val * 256 + r, by have := point_lt t; omega⟩

/-- The inputs of a row, of the arguments in memory. -/
def insM (c : Dev nD) (r : Fin 8192) : Ins :=
  insA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) r

/-- An array given row by row. -/
def outF {n : ℕ} (F : Fin 8192 → Fin n → EReal) : (⟨2, ![8192, n]⟩ : Shape).Idx → EReal := fun i => F (i 0) (i 1)

/-- The two halves of the gates' block, as the body loads them. -/
def ldm (c : Dev nD) (t : Fin cfg0.N) : FVec Ideal S256x1024 .bf16 :=
  View.ld (X0_3 m c t) (Rect.unit ![0, 0] ![256, 1024] inb_S256x2048_S256x1024_0_0)
def lds (c : Dev nD) (t : Fin cfg0.N) : FVec Ideal S256x1024 .bf16 :=
  View.ld (X0_3 m c t) (Rect.unit ![0, 1024] ![256, 1024] inb_S256x2048_S256x1024_0_1024)

/-- The inputs of row `r` of the block at point `t`. -/
theorem insB_eq (c : Dev nD) (t : Fin cfg0.N) (r : Fin 256) :
    insB (ldm m c t) (lds m c t) (iblk m c 1 t) (iblk m c 2 t) (iblk m c 7 t) (iblk m c 8 t) (iblk m c 9 t) (iblk m c 5 t) (iblk m c 6 t)
      (iblk m c 0 t) (iblk m c 4 t) r = insM m c (row t r) := by
  unfold insB insM insA row
  congr 1
  · funext k; blk_ext [iblk, V, idx t]
  · funext k; blk_ext [iblk, V, idx t]
  · funext k; blk_ext [iblk, V, idx t]
  · funext k; blk_ext [iblk, V, idx t]
  · funext k
    unfold ldm
    pointwise
    unfold X0_3 Pipeline.Window.fill
    rw [dif_pos (moved0_3 t _)]
    blk_ext [iblk, V, idx t]
  · funext k
    unfold lds
    pointwise
    unfold X0_3 Pipeline.Window.fill
    rw [dif_pos (moved0_3 t _)]
    blk_ext [iblk, V, idx t]
  · funext k; blk_ext [iblk, V, idx t]
  · funext k; blk_ext [iblk, V, idx t]
  · funext k l; blk_ext [iblk, V, idx t]
  · funext k l; blk_ext [iblk, V, idx t]
  · funext k l; blk_ext [iblk, V, idx t]

theorem wmt (c : Dev nD) (t : Fin cfg0.N) (k : Fin 1024) (j : Fin 2048) :
    (iblk m c 10 t : FVec Ideal S1024x2048 .bf16) (ix2 k j) = (iblk m c 7 t : FVec Ideal S2048x1024 .bf16) (ix2 j k) := by
  trans (V m c main_v0 : FVec Ideal S1024x2048 .bf16) (ix2 k j)
  · blk_ext [iblk, idx t]
  · entry_read
    pointwise
    blk_ext [iblk, V, idx t]

theorem wst (c : Dev nD) (t : Fin cfg0.N) (k : Fin 1024) (j : Fin 2048) :
    (iblk m c 11 t : FVec Ideal S1024x2048 .bf16) (ix2 k j) = (iblk m c 8 t : FVec Ideal S2048x1024 .bf16) (ix2 j k) := by
  trans (V m c main_v1 : FVec Ideal S1024x2048 .bf16) (ix2 k j)
  · blk_ext [iblk, idx t]
  · entry_read
    pointwise
    blk_ext [iblk, V, idx t]

theorem wot (c : Dev nD) (t : Fin cfg0.N) (k : Fin 1024) (j : Fin 1024) :
    (iblk m c 12 t : FVec Ideal S1024x1024 .bf16) (ix2 k j) = (iblk m c 9 t : FVec Ideal S1024x1024 .bf16) (ix2 j k) := by
  trans (V m c main_v2 : FVec Ideal S1024x1024 .bf16) (ix2 k j)
  · blk_ext [iblk, idx t]
  · entry_read
    pointwise
    blk_ext [iblk, V, idx t]

end Cert.Merge.Arr
-- ==== Proof.Merge.Final.lean ====
module

public import proofs.«01_k».proof.Proof.Gen.KernelIdeal.Value
public import proofs.«01_k».proof.Proof.Merge.Arrays
public import Idealize.ShloMosaic.Lib.Pipeline.ValueKit
public import Idealize.ShloMosaic.Lib.Pointwise
public import Idealize.ShloMosaic.Lib.Claim

/-! # The results written once -/

@[expose] public section

set_option maxRecDepth 16384

noncomputable section

open Idealize.ShloMosaic Idealize.ShloMosaic.TcCoe Idealize.SL.Sem
open Idealize.ShloMosaic.Pipeline (Dat)
open scoped BigOperators

namespace Cert.Merge.Arr

open Cert.KernelIdeal Cert.KernelIdeal.Gen

variable (m : (ℓ : Loc nD τ sig) → Buf (Elt Ideal) ℓ)

theorem emb_13 (t : Fin cfg0.N) (r : Fin 256) (l : Fin 1024) (f : FVec Ideal S8192x1024 .f32) :
    f (((cfg0.win 13).blk t).view.emb (ix2 r l)) = f (ix2 (row t r) l) := by
  unfold row
  blk_ext [idx t]

theorem point_13 (c : Dev nD) (t : Fin cfg0.N) (r : Fin 256) (l : Fin 1024) :
    (outsAt0 m c t.val t.isLt).1 (ix2 r l) = (insM m c (row t r)).dx l := by
  refine Eq.trans ?_ (congrArg (fun I : Ins => I.dx l) (insB_eq m c t r))
  by_cases h : t.val % 32 = 0
  · rw [outsAt0_A m c t h]; frame_out
    exact dx_at (ldm m c t) (lds m c t) (iblk m c 1 t) (iblk m c 2 t) (iblk m c 7 t) (iblk m c 8 t) (iblk m c 9 t)  (iblk m c 5 t) (iblk m c 6 t) (iblk m c 0 t) (iblk m c 4 t)  r l
  · rw [outsAt0_B m c t h]; frame_out
    exact dx_at (ldm m c t) (lds m c t) (iblk m c 1 t) (iblk m c 2 t) (iblk m c 7 t) (iblk m c 8 t) (iblk m c 9 t)  (iblk m c 5 t) (iblk m c 6 t) (iblk m c 0 t) (iblk m c 4 t)  r l

/-- What result window 13 ends holding. -/
theorem final_13 (c : Dev nD) : (dats m 0 c).arrAt 13 (cfgs 0).N
    = (outF fun r (l : Fin 1024) => (insM m c r).dx l : FVec Ideal S8192x1024 .f32) := by
  refine (dats m 0 c).arrAt_eq_of_covers 13 _ (by decide +kernel) fun t hf y => ?_
  obtain ⟨r, l, rfl⟩ : ∃ (r : Fin 256) (l : Fin 1024), y = ix2 r l := ⟨y 0, y 1, eq_ix2 y⟩
  rw [after0_13]
  exact (point_13 m c t r l).trans (emb_13 t r l (outF fun r (l : Fin 1024) => (insM m c r).dx l)).symm

theorem emb_14 (t : Fin cfg0.N) (r : Fin 256) (l : Fin 1024) (f : FVec Ideal S8192x1024 .bf16) :
    f (((cfg0.win 14).blk t).view.emb (ix2 r l)) = f (ix2 (row t r) l) := by
  unfold row
  blk_ext [idx t]

theorem point_14 (c : Dev nD) (t : Fin cfg0.N) (r : Fin 256) (l : Fin 1024) :
    (outsAt0 m c t.val t.isLt).2.1 (ix2 r l) = (insM m c (row t r)).mrg l := by
  refine Eq.trans ?_ (congrArg (fun I : Ins => I.mrg l) (insB_eq m c t r))
  by_cases h : t.val % 32 = 0
  · rw [outsAt0_A m c t h]; frame_out
    exact mrg_at (ldm m c t) (lds m c t) (iblk m c 1 t) (iblk m c 2 t) (iblk m c 7 t) (iblk m c 8 t) (iblk m c 9 t)  (iblk m c 5 t) (iblk m c 6 t) (iblk m c 0 t) (iblk m c 4 t)  r l
  · rw [outsAt0_B m c t h]; frame_out
    exact mrg_at (ldm m c t) (lds m c t) (iblk m c 1 t) (iblk m c 2 t) (iblk m c 7 t) (iblk m c 8 t) (iblk m c 9 t)  (iblk m c 5 t) (iblk m c 6 t) (iblk m c 0 t) (iblk m c 4 t)  r l

/-- What result window 14 ends holding. -/
theorem final_14 (c : Dev nD) : (dats m 0 c).arrAt 14 (cfgs 0).N
    = (outF fun r (l : Fin 1024) => (insM m c r).mrg l : FVec Ideal S8192x1024 .bf16) := by
  refine (dats m 0 c).arrAt_eq_of_covers 14 _ (by decide +kernel) fun t hf y => ?_
  obtain ⟨r, l, rfl⟩ : ∃ (r : Fin 256) (l : Fin 1024), y = ix2 r l := ⟨y 0, y 1, eq_ix2 y⟩
  rw [after0_14]
  exact (point_14 m c t r l).trans (emb_14 t r l (outF fun r (l : Fin 1024) => (insM m c r).mrg l)).symm

theorem emb_15 (t : Fin cfg0.N) (r : Fin 256) (l : Fin 1024) (f : FVec Ideal S8192x1024 .bf16) :
    f (((cfg0.win 15).blk t).view.emb (ix2 r l)) = f (ix2 (row t r) l) := by
  unfold row
  blk_ext [idx t]

theorem point_15 (c : Dev nD) (t : Fin cfg0.N) (r : Fin 256) (l : Fin 1024) :
    (outsAt0 m c t.val t.isLt).2.2.1 (ix2 r l) = (insM m c (row t r)).dmo l := by
  refine Eq.trans ?_ (congrArg (fun I : Ins => I.dmo l) (insB_eq m c t r))
  by_cases h : t.val % 32 = 0
  · rw [outsAt0_A m c t h]; frame_out
    exact dmo_at (ldm m c t) (lds m c t) (iblk m c 1 t) (iblk m c 2 t) (iblk m c 7 t) (iblk m c 8 t) (iblk m c 9 t)  (iblk m c 5 t) (iblk m c 6 t) (iblk m c 0 t) (iblk m c 4 t)  r l
  · rw [outsAt0_B m c t h]; frame_out
    exact dmo_at (ldm m c t) (lds m c t) (iblk m c 1 t) (iblk m c 2 t) (iblk m c 7 t) (iblk m c 8 t) (iblk m c 9 t)  (iblk m c 5 t) (iblk m c 6 t) (iblk m c 0 t) (iblk m c 4 t)  r l

/-- What result window 15 ends holding. -/
theorem final_15 (c : Dev nD) : (dats m 0 c).arrAt 15 (cfgs 0).N
    = (outF fun r (l : Fin 1024) => (insM m c r).dmo l : FVec Ideal S8192x1024 .bf16) := by
  refine (dats m 0 c).arrAt_eq_of_covers 15 _ (by decide +kernel) fun t hf y => ?_
  obtain ⟨r, l, rfl⟩ : ∃ (r : Fin 256) (l : Fin 1024), y = ix2 r l := ⟨y 0, y 1, eq_ix2 y⟩
  rw [after0_15]
  exact (point_15 m c t r l).trans (emb_15 t r l (outF fun r (l : Fin 1024) => (insM m c r).dmo l)).symm

theorem emb_16 (t : Fin cfg0.N) (r : Fin 256) (l : Fin 1024) (f : FVec Ideal S8192x1024 .bf16) :
    f (((cfg0.win 16).blk t).view.emb (ix2 r l)) = f (ix2 (row t r) l) := by
  unfold row
  blk_ext [idx t]

theorem point_16 (c : Dev nD) (t : Fin cfg0.N) (r : Fin 256) (l : Fin 1024) :
    (outsAt0 m c t.val t.isLt).2.2.2.1 (ix2 r l) = (insM m c (row t r)).dpm l := by
  refine Eq.trans ?_ (congrArg (fun I : Ins => I.dpm l) (insB_eq m c t r))
  by_cases h : t.val % 32 = 0
  · rw [outsAt0_A m c t h]; frame_out
    exact dpm_at (ldm m c t) (lds m c t) (iblk m c 1 t) (iblk m c 2 t) (iblk m c 7 t) (iblk m c 8 t) (iblk m c 9 t) (iblk m c 12 t) (iblk m c 5 t) (iblk m c 6 t) (iblk m c 0 t) (iblk m c 4 t) (wot m c t) r l
  · rw [outsAt0_B m c t h]; frame_out
    exact dpm_at (ldm m c t) (lds m c t) (iblk m c 1 t) (iblk m c 2 t) (iblk m c 7 t) (iblk m c 8 t) (iblk m c 9 t) (iblk m c 12 t) (iblk m c 5 t) (iblk m c 6 t) (iblk m c 0 t) (iblk m c 4 t) (wot m c t) r l

/-- What result window 16 ends holding. -/
theorem final_16 (c : Dev nD) : (dats m 0 c).arrAt 16 (cfgs 0).N
    = (outF fun r (l : Fin 1024) => (insM m c r).dpm l : FVec Ideal S8192x1024 .bf16) := by
  refine (dats m 0 c).arrAt_eq_of_covers 16 _ (by decide +kernel) fun t hf y => ?_
  obtain ⟨r, l, rfl⟩ : ∃ (r : Fin 256) (l : Fin 1024), y = ix2 r l := ⟨y 0, y 1, eq_ix2 y⟩
  rw [after0_16]
  exact (point_16 m c t r l).trans (emb_16 t r l (outF fun r (l : Fin 1024) => (insM m c r).dpm l)).symm

theorem emb_17 (t : Fin cfg0.N) (r : Fin 256) (l : Fin 1024) (f : FVec Ideal S8192x1024 .bf16) :
    f (((cfg0.win 17).blk t).view.emb (ix2 r l)) = f (ix2 (row t r) l) := by
  unfold row
  blk_ext [idx t]

theorem point_17 (c : Dev nD) (t : Fin cfg0.N) (r : Fin 256) (l : Fin 1024) :
    (outsAt0 m c t.val t.isLt).2.2.2.2.1 (ix2 r l) = (insM m c (row t r)).dps l := by
  refine Eq.trans ?_ (congrArg (fun I : Ins => I.dps l) (insB_eq m c t r))
  by_cases h : t.val % 32 = 0
  · rw [outsAt0_A m c t h]; frame_out
    exact dps_at (ldm m c t) (lds m c t) (iblk m c 1 t) (iblk m c 2 t) (iblk m c 7 t) (iblk m c 8 t) (iblk m c 9 t) (iblk m c 12 t) (iblk m c 5 t) (iblk m c 6 t) (iblk m c 0 t) (iblk m c 4 t) (wot m c t) r l
  · rw [outsAt0_B m c t h]; frame_out
    exact dps_at (ldm m c t) (lds m c t) (iblk m c 1 t) (iblk m c 2 t) (iblk m c 7 t) (iblk m c 8 t) (iblk m c 9 t) (iblk m c 12 t) (iblk m c 5 t) (iblk m c 6 t) (iblk m c 0 t) (iblk m c 4 t) (wot m c t) r l

/-- What result window 17 ends holding. -/
theorem final_17 (c : Dev nD) : (dats m 0 c).arrAt 17 (cfgs 0).N
    = (outF fun r (l : Fin 1024) => (insM m c r).dps l : FVec Ideal S8192x1024 .bf16) := by
  refine (dats m 0 c).arrAt_eq_of_covers 17 _ (by decide +kernel) fun t hf y => ?_
  obtain ⟨r, l, rfl⟩ : ∃ (r : Fin 256) (l : Fin 1024), y = ix2 r l := ⟨y 0, y 1, eq_ix2 y⟩
  rw [after0_17]
  exact (point_17 m c t r l).trans (emb_17 t r l (outF fun r (l : Fin 1024) => (insM m c r).dps l)).symm

theorem emb_18 (t : Fin cfg0.N) (r : Fin 256) (l : Fin 2048) (f : FVec Ideal S8192x2048 .bf16) :
    f (((cfg0.win 18).blk t).view.emb (ix2 r l)) = f (ix2 (row t r) l) := by
  unfold row
  blk_ext [idx t]

theorem point_18 (c : Dev nD) (t : Fin cfg0.N) (r : Fin 256) (l : Fin 2048) :
    (outsAt0 m c t.val t.isLt).2.2.2.2.2.1 (ix2 r l) = (insM m c (row t r)).dym l := by
  refine Eq.trans ?_ (congrArg (fun I : Ins => I.dym l) (insB_eq m c t r))
  by_cases h : t.val % 32 = 0
  · rw [outsAt0_A m c t h]; frame_out
    exact dym_at (ldm m c t) (lds m c t) (iblk m c 1 t) (iblk m c 2 t) (iblk m c 7 t) (iblk m c 8 t) (iblk m c 9 t) (iblk m c 12 t) (iblk m c 10 t) (iblk m c 5 t) (iblk m c 6 t) (iblk m c 0 t) (iblk m c 4 t) (wot m c t) (wmt m c t) r l
  · rw [outsAt0_B m c t h]; frame_out
    exact dym_at (ldm m c t) (lds m c t) (iblk m c 1 t) (iblk m c 2 t) (iblk m c 7 t) (iblk m c 8 t) (iblk m c 9 t) (iblk m c 12 t) (iblk m c 10 t) (iblk m c 5 t) (iblk m c 6 t) (iblk m c 0 t) (iblk m c 4 t) (wot m c t) (wmt m c t) r l

/-- What result window 18 ends holding. -/
theorem final_18 (c : Dev nD) : (dats m 0 c).arrAt 18 (cfgs 0).N
    = (outF fun r (l : Fin 2048) => (insM m c r).dym l : FVec Ideal S8192x2048 .bf16) := by
  refine (dats m 0 c).arrAt_eq_of_covers 18 _ (by decide +kernel) fun t hf y => ?_
  obtain ⟨r, l, rfl⟩ : ∃ (r : Fin 256) (l : Fin 2048), y = ix2 r l := ⟨y 0, y 1, eq_ix2 y⟩
  rw [after0_18]
  exact (point_18 m c t r l).trans (emb_18 t r l (outF fun r (l : Fin 2048) => (insM m c r).dym l)).symm

theorem emb_19 (t : Fin cfg0.N) (r : Fin 256) (l : Fin 2048) (f : FVec Ideal S8192x2048 .bf16) :
    f (((cfg0.win 19).blk t).view.emb (ix2 r l)) = f (ix2 (row t r) l) := by
  unfold row
  blk_ext [idx t]

theorem point_19 (c : Dev nD) (t : Fin cfg0.N) (r : Fin 256) (l : Fin 2048) :
    (outsAt0 m c t.val t.isLt).2.2.2.2.2.2.1 (ix2 r l) = (insM m c (row t r)).dys l := by
  refine Eq.trans ?_ (congrArg (fun I : Ins => I.dys l) (insB_eq m c t r))
  by_cases h : t.val % 32 = 0
  · rw [outsAt0_A m c t h]; frame_out
    exact dys_at (ldm m c t) (lds m c t) (iblk m c 1 t) (iblk m c 2 t) (iblk m c 7 t) (iblk m c 8 t) (iblk m c 9 t) (iblk m c 12 t) (iblk m c 11 t) (iblk m c 5 t) (iblk m c 6 t) (iblk m c 0 t) (iblk m c 4 t) (wot m c t) (wst m c t) r l
  · rw [outsAt0_B m c t h]; frame_out
    exact dys_at (ldm m c t) (lds m c t) (iblk m c 1 t) (iblk m c 2 t) (iblk m c 7 t) (iblk m c 8 t) (iblk m c 9 t) (iblk m c 12 t) (iblk m c 11 t) (iblk m c 5 t) (iblk m c 6 t) (iblk m c 0 t) (iblk m c 4 t) (wot m c t) (wst m c t) r l

/-- What result window 19 ends holding. -/
theorem final_19 (c : Dev nD) : (dats m 0 c).arrAt 19 (cfgs 0).N
    = (outF fun r (l : Fin 2048) => (insM m c r).dys l : FVec Ideal S8192x2048 .bf16) := by
  refine (dats m 0 c).arrAt_eq_of_covers 19 _ (by decide +kernel) fun t hf y => ?_
  obtain ⟨r, l, rfl⟩ : ∃ (r : Fin 256) (l : Fin 2048), y = ix2 r l := ⟨y 0, y 1, eq_ix2 y⟩
  rw [after0_19]
  exact (point_19 m c t r l).trans (emb_19 t r l (outF fun r (l : Fin 2048) => (insM m c r).dys l)).symm

end Cert.Merge.Arr
-- ==== Proof.Merge.Parts.lean ====
module

public import proofs.«01_k».proof.Proof.Gen.KernelIdeal.Value
public import Idealize.ShloMosaic.Lib.WritesUnit
public import Idealize.ShloMosaic.Lib.Pipeline.ReadBack
public import proofs.«01_k».proof.Proof.Merge.Arrays
public import Idealize.ShloMosaic.Lib.Pipeline.ValueKit
public import Idealize.ShloMosaic.Lib.Pointwise
public import Idealize.ShloMosaic.Lib.Claim

/-! # The result written in part, and the three accumulated rows -/

@[expose] public section

set_option maxRecDepth 16384

noncomputable section

open Idealize.ShloMosaic Idealize.ShloMosaic.TcCoe Idealize.SL.Sem
open Idealize.ShloMosaic.Pipeline (Dat)
open scoped BigOperators

namespace Cert.Merge.Arr

open Cert.KernelIdeal Cert.KernelIdeal.Gen

variable (m : (ℓ : Loc nD τ sig) → Buf (Elt Ideal) ℓ)

/-- The gradient of the two gates' preactivations, side by side. -/
def dq (I : Ins) (j : ℕ) : EReal := if h : j < 1024 then I.dqm ⟨j, h⟩ else if h : j - 1024 < 1024 then I.dqs ⟨j - 1024, h⟩ else 0

theorem dq_lo (I : Ins) (l : Fin 1024) : dq I l = I.dqm l := by unfold dq; rw [dif_pos l.isLt]
theorem dq_hi (I : Ins) (l : Fin 1024) : dq I (1024 + l) = I.dqs l := by
  unfold dq; rw [dif_neg (by omega), dif_pos (by omega)]; exact congrArg _ (Fin.ext (by simp))

theorem point_20 (c : Dev nD) (t : Fin cfg0.N) (r : Fin 256) (l : Fin 2048) :
    (outsAt0 m c t.val t.isLt).2.2.2.2.2.2.2.1 (ix2 r l) = dq (insM m c (row t r)) l := by
  refine Eq.trans ?_ (congrArg (fun I : Ins => dq I l) (insB_eq m c t r))
  by_cases h : t.val % 32 = 0
  · rw [outsAt0_A m c t h]; frame_out
    clear h
    canon_tiles x h
    · obtain ⟨r', l', rfl⟩ : ∃ (r : Fin 256) (l : Fin 1024), x = ix2 r l := ⟨x 0, x 1, eq_ix2 x⟩
      obtain rfl : r = r' := Fin.ext h0
      have h1' : (l : ℕ) = 1024 + l' := h1
      rw [h1', dq_hi]
      exact dqs_at (ldm m c t) (lds m c t) (iblk m c 1 t) (iblk m c 2 t) (iblk m c 7 t) (iblk m c 8 t) (iblk m c 9 t) (iblk m c 12 t) (iblk m c 5 t) (iblk m c 6 t) (iblk m c 0 t) (iblk m c 4 t) (wot m c t) r l'
    · obtain ⟨r', l', rfl⟩ : ∃ (r : Fin 256) (l : Fin 1024), x = ix2 r l := ⟨x 0, x 1, eq_ix2 x⟩
      obtain rfl : r = r' := Fin.ext h0
      have h1' : (l : ℕ) = l' := h1
      rw [h1', dq_lo]
      exact dqm_at (ldm m c t) (lds m c t) (iblk m c 1 t) (iblk m c 2 t) (iblk m c 7 t) (iblk m c 8 t) (iblk m c 9 t) (iblk m c 12 t) (iblk m c 5 t) (iblk m c 6 t) (iblk m c 0 t) (iblk m c 4 t) (wot m c t) r l'
  · rw [outsAt0_B m c t h]; frame_out
    clear h
    canon_tiles x h
    · obtain ⟨r', l', rfl⟩ : ∃ (r : Fin 256) (l : Fin 1024), x = ix2 r l := ⟨x 0, x 1, eq_ix2 x⟩
      obtain rfl : r = r' := Fin.ext h0
      have h1' : (l : ℕ) = 1024 + l' := h1
      rw [h1', dq_hi]
      exact dqs_at (ldm m c t) (lds m c t) (iblk m c 1 t) (iblk m c 2 t) (iblk m c 7 t) (iblk m c 8 t) (iblk m c 9 t) (iblk m c 12 t) (iblk m c 5 t) (iblk m c 6 t) (iblk m c 0 t) (iblk m c 4 t) (wot m c t) r l'
    · obtain ⟨r', l', rfl⟩ : ∃ (r : Fin 256) (l : Fin 1024), x = ix2 r l := ⟨x 0, x 1, eq_ix2 x⟩
      obtain rfl : r = r' := Fin.ext h0
      have h1' : (l : ℕ) = l' := h1
      rw [h1', dq_lo]
      exact dqm_at (ldm m c t) (lds m c t) (iblk m c 1 t) (iblk m c 2 t) (iblk m c 7 t) (iblk m c 8 t) (iblk m c 9 t) (iblk m c 12 t) (iblk m c 5 t) (iblk m c 6 t) (iblk m c 0 t) (iblk m c 4 t) (wot m c t) r l'

theorem idx20 : ∀ t : Fin cfg0.N, win0_20.index t = ![t.val, 3] ∧ ∀ a, (cfg0.win 20).xsize (cfg0.grid.coords t) a = (cfg0.win 20).size a :=
  (by decide +kernel : ∀ t : Fin grid0.N, _)

theorem emb_20 (t : Fin cfg0.N) (y : ((cfg0.win 20).xblock (cfg0.grid.coords t)).Idx) (h0 : (y 0).val < 256) (h1 : (y 1).val < 2048) :
    (((cfg0.win 20).blk t).view.emb y : S8192x15872.Idx) = ix2 (row t ⟨(y 0).val, h0⟩) ⟨6144 + (y 1).val, by omega⟩ := by
  funext a
  refine Fin.ext (((cfg0.win 20).rect_emb_val t y a).trans ?_)
  fin_cases a
  · show win0_20.index t 0 * 256 + (y 0).val = t.val * 256 + (y 0).val
    rw [(idx20 t).1]; rfl
  · show win0_20.index t 1 * 2048 + (y 1).val = 6144 + (y 1).val
    rw [(idx20 t).1]; rfl

/-- What the window over the gates' columns ends holding. -/
theorem final_20 (c : Dev nD) : (dats m 0 c).arrAt 20 (cfgs 0).N
    = fun i => if 6144 ≤ (i 1).val ∧ (i 1).val < 8192 then (outF (fun r (l : Fin 15872) => dq (insM m c r) (l.val - 6144)) : FVec Ideal S8192x15872 .bf16) i
        else V m c main_v3_7 i := by
  refine (dats m 0 c).arrAt_eq_of_coversWhere 20 _ (fun β => 3 ≤ β (1 : Fin 2) ∧ β (1 : Fin 2) < 4) (by decide +kernel) (fun t hf y => ?_)
    (fun j => by blk_simp [Pipeline.Window.cell_apply]; omega)
  have h0 : (y 0).val < 256 := lt_of_lt_of_le (y 0).isLt (le_of_eq ((idx20 t).2 0))
  have h1 : (y 1).val < 2048 := lt_of_lt_of_le (y 1).isLt (le_of_eq ((idx20 t).2 1))
  rw [after0_20]
  refine Eq.trans ?_ (congrArg (outF fun r (l : Fin 15872) => dq (insM m c r) (l.val - 6144)) (emb_20 t y h0 h1)).symm
  refine Eq.trans ?_ ((point_20 m c t ⟨(y 0).val, h0⟩ ⟨(y 1).val, h1⟩).trans ?_)
  · show (outsAt0 m c t.val t.isLt).2.2.2.2.2.2.2.1 ((cfg0.win 20).xinj (cfg0.grid.coords t) y) = _
    refine congrArg _ ?_
    funext a
    fin_cases a <;> rfl
  show _ = dq _ (6144 + (y 1).val - 6144)
  rw [Nat.add_sub_cancel_left]
  rfl

theorem accA_row {n : ℕ} (J : Fin n → Ins) (l : Fin 1024) : accA J 0 l = ∑ r, (J r).loss ∧ accA J 1 l = ∑ r, (J r).df' l ∧ accA J 2 l = ∑ r, (J r).dg' l := by
  refine ⟨?_, ?_, ?_⟩ <;> simp [accA]
theorem accA_else {n : ℕ} (J : Fin n → Ins) (a : Fin 8) (h : 3 ≤ (a : ℕ)) (l : Fin 1024) : accA J a l = 0 := by
  unfold accA
  rw [if_neg (by omega), if_neg (by omega), if_neg (by omega)]

/-- A later point adds its rows. -/
theorem step_21 (c : Dev nD) (t : Fin cfg0.N) (h : ¬ t.val % 32 = 0) (a : Fin 8) (l : Fin 1024) :
    (outsAt0 m c t.val t.isLt).2.2.2.2.2.2.2.2 (ix2 a l)
      = (outsAt0 m c (t.val - 1) (Nat.lt_of_le_of_lt (Nat.sub_le _ _) t.isLt)).2.2.2.2.2.2.2.2 (ix2 a l)
        + accA (fun r => insM m c (row t r)) a l := by
  rw [show (fun r => insM m c (row t r)) = fun r => insB (ldm m c t) (lds m c t) (iblk m c 1 t) (iblk m c 2 t) (iblk m c 7 t) (iblk m c 8 t) (iblk m c 9 t) (iblk m c 5 t) (iblk m c 6 t) (iblk m c 0 t) (iblk m c 4 t) r from (funext fun r => insB_eq m c t r).symm]
  rw [outsAt0_B m c t h]; frame_out
  generalize (outsAt0 m c (t.val - 1) _).2.2.2.2.2.2.2.2 = P
  by_cases h0 : a = 0
  · subst h0
    refine (View.read_writes_cons_rows_of_not_mem (o := 2) (W := 1) (ms0_21 t).view _ _ _ _ (ix2 0 l) rfl rfl (by first | (left; exact Nat.zero_lt_succ _) | (left; exact Nat.lt_succ_self _))).trans ?_
    refine (View.read_writes_cons_rows_of_not_mem (o := 1) (W := 1) (ms0_21 t).view _ _ _ _ (ix2 0 l) rfl rfl (by first | (left; exact Nat.zero_lt_succ _) | (left; exact Nat.lt_succ_self _))).trans ?_
    refine (View.read_writes_cons_rows_of_mem (o := 0) (ms0_21 t).view _ _ _ _ (ix2 0 l) (ix2 (0 : Fin 1) l) rfl rfl rfl).trans ?_
    refine (loss_at (ldm m c t) (lds m c t) (iblk m c 1 t) (iblk m c 2 t) (iblk m c 7 t) (iblk m c 8 t) (iblk m c 9 t) (iblk m c 5 t) (iblk m c 6 t) (iblk m c 0 t) (iblk m c 4 t) _ 0 l).trans ?_
    rw [(accA_row _ l).1]
    congr 1
    pointwise
  by_cases h1 : a = 1
  · subst h1
    refine (View.read_writes_cons_rows_of_not_mem (o := 2) (W := 1) (ms0_21 t).view _ _ _ _ (ix2 1 l) rfl rfl (by first | (left; exact Nat.zero_lt_succ _) | (left; exact Nat.lt_succ_self _))).trans ?_
    refine (View.read_writes_cons_rows_of_mem (o := 1) (ms0_21 t).view _ _ _ _ (ix2 1 l) (ix2 (0 : Fin 1) l) rfl rfl rfl).trans ?_
    refine (df'_at (ldm m c t) (lds m c t) (iblk m c 1 t) (iblk m c 2 t) (iblk m c 7 t) (iblk m c 8 t) (iblk m c 9 t) (iblk m c 5 t) (iblk m c 6 t) (iblk m c 0 t) (iblk m c 4 t) _ 0 l).trans ?_
    rw [(accA_row _ l).2.1]
    congr 1
    pointwise
  by_cases h2 : a = 2
  · subst h2
    refine (View.read_writes_cons_rows_of_mem (o := 2) (ms0_21 t).view _ _ _ _ (ix2 2 l) (ix2 (0 : Fin 1) l) rfl rfl rfl).trans ?_
    refine (dg'_at (ldm m c t) (lds m c t) (iblk m c 1 t) (iblk m c 2 t) (iblk m c 7 t) (iblk m c 8 t) (iblk m c 9 t) (iblk m c 5 t) (iblk m c 6 t) (iblk m c 0 t) (iblk m c 4 t) _ 0 l).trans ?_
    rw [(accA_row _ l).2.2]
    congr 1
    pointwise
  have h3 : 3 ≤ (a : ℕ) := by omega
  rw [accA_else _ _ h3, add_zero]
  refine (View.read_writes_cons_rows_of_not_mem (o := 2) (W := 1) (ms0_21 t).view _ _ _ _ (ix2 a l) rfl rfl (by right; exact h3)).trans ?_
  refine (View.read_writes_cons_rows_of_not_mem (o := 1) (W := 1) (ms0_21 t).view _ _ _ _ (ix2 a l) rfl rfl (by right; show 2 ≤ (a : ℕ); omega)).trans ?_
  refine (View.read_writes_cons_rows_of_not_mem (o := 0) (W := 1) (ms0_21 t).view _ _ _ _ (ix2 a l) rfl rfl (by right; show 1 ≤ (a : ℕ); omega)).trans ?_
  exact congrFun (Memref.IsWhole.read_unread _ _) _

/-- The first point starts from zero. -/
theorem reset_21 (c : Dev nD) (t : Fin cfg0.N) (h : t.val % 32 = 0) (a : Fin 8) (l : Fin 1024) :
    (outsAt0 m c t.val t.isLt).2.2.2.2.2.2.2.2 (ix2 a l) = 0 + accA (fun r => insM m c (row t r)) a l := by
  rw [show (fun r => insM m c (row t r)) = fun r => insB (ldm m c t) (lds m c t) (iblk m c 1 t) (iblk m c 2 t) (iblk m c 7 t) (iblk m c 8 t) (iblk m c 9 t) (iblk m c 5 t) (iblk m c 6 t) (iblk m c 0 t) (iblk m c 4 t) r from (funext fun r => insB_eq m c t r).symm]
  rw [outsAt0_A m c t h]; frame_out
  rw [← View.read_writes_junk_eq_canon (ms0_21 t).view]
  by_cases h0 : a = 0
  · subst h0
    refine (View.read_writes_cons_rows_of_not_mem (o := 2) (W := 1) (ms0_21 t).view _ _ _ _ (ix2 0 l) rfl rfl (by first | (left; exact Nat.zero_lt_succ _) | (left; exact Nat.lt_succ_self _))).trans ?_
    refine (View.read_writes_cons_rows_of_not_mem (o := 1) (W := 1) (ms0_21 t).view _ _ _ _ (ix2 0 l) rfl rfl (by first | (left; exact Nat.zero_lt_succ _) | (left; exact Nat.lt_succ_self _))).trans ?_
    refine (View.read_writes_cons_rows_of_mem (o := 0) (ms0_21 t).view _ _ _ _ (ix2 0 l) (ix2 (0 : Fin 1) l) rfl rfl rfl).trans ?_
    refine (loss_at (ldm m c t) (lds m c t) (iblk m c 1 t) (iblk m c 2 t) (iblk m c 7 t) (iblk m c 8 t) (iblk m c 9 t) (iblk m c 5 t) (iblk m c 6 t) (iblk m c 0 t) (iblk m c 4 t) _ 0 l).trans ?_
    rw [(accA_row _ l).1]
    congr 1
    rw [View.readCov_fill _ _ _ _ _ (by decide)]
    pointwise [k0_pay6]
  by_cases h1 : a = 1
  · subst h1
    refine (View.read_writes_cons_rows_of_not_mem (o := 2) (W := 1) (ms0_21 t).view _ _ _ _ (ix2 1 l) rfl rfl (by first | (left; exact Nat.zero_lt_succ _) | (left; exact Nat.lt_succ_self _))).trans ?_
    refine (View.read_writes_cons_rows_of_mem (o := 1) (ms0_21 t).view _ _ _ _ (ix2 1 l) (ix2 (0 : Fin 1) l) rfl rfl rfl).trans ?_
    refine (df'_at (ldm m c t) (lds m c t) (iblk m c 1 t) (iblk m c 2 t) (iblk m c 7 t) (iblk m c 8 t) (iblk m c 9 t) (iblk m c 5 t) (iblk m c 6 t) (iblk m c 0 t) (iblk m c 4 t) _ 0 l).trans ?_
    rw [(accA_row _ l).2.1]
    congr 1
    rw [View.readCov_skip _ _ _ _ _ (by decide +kernel), View.readCov_fill _ _ _ _ _ (by decide)]
    pointwise [k0_pay6]
  by_cases h2 : a = 2
  · subst h2
    refine (View.read_writes_cons_rows_of_mem (o := 2) (ms0_21 t).view _ _ _ _ (ix2 2 l) (ix2 (0 : Fin 1) l) rfl rfl rfl).trans ?_
    refine (dg'_at (ldm m c t) (lds m c t) (iblk m c 1 t) (iblk m c 2 t) (iblk m c 7 t) (iblk m c 8 t) (iblk m c 9 t) (iblk m c 5 t) (iblk m c 6 t) (iblk m c 0 t) (iblk m c 4 t) _ 0 l).trans ?_
    rw [(accA_row _ l).2.2]
    congr 1
    rw [View.readCov_skip _ _ _ _ _ (by decide +kernel), View.readCov_skip _ _ _ _ _ (by decide +kernel), View.readCov_fill _ _ _ _ _ (by decide)]
    pointwise [k0_pay6]
  have h3 : 3 ≤ (a : ℕ) := by omega
  rw [accA_else _ _ h3, add_zero]
  refine (View.read_writes_cons_rows_of_not_mem (o := 2) (W := 1) (ms0_21 t).view _ _ _ _ (ix2 a l) rfl rfl (by right; exact h3)).trans ?_
  refine (View.read_writes_cons_rows_of_not_mem (o := 1) (W := 1) (ms0_21 t).view _ _ _ _ (ix2 a l) rfl rfl (by right; show 2 ≤ (a : ℕ); omega)).trans ?_
  refine (View.read_writes_cons_rows_of_not_mem (o := 0) (W := 1) (ms0_21 t).view _ _ _ _ (ix2 a l) rfl rfl (by right; show 1 ≤ (a : ℕ); omega)).trans ?_
  refine (View.read_writes_cons_rows_of_mem (o := 0) (ms0_21 t).view _ _ _ _ (ix2 a l) (ix2 a l) rfl (Nat.zero_add _).symm rfl).trans ?_
  pointwise [k0_pay6]

theorem accA_sum (J : Fin 8192 → Ins) (a : Fin 8) (l : Fin 1024) :
    ∑ s : Fin 32, accA (fun r : Fin 256 => J ⟨s.val * 256 + r, by omega⟩) a l = accA J a l := by
  unfold accA
  by_cases h0 : (a : ℕ) = 0
  · simp only [if_pos h0]
    exact Fin.sum_mul_add_congr fun s k hl => rfl
  by_cases h1 : (a : ℕ) = 1
  · simp only [if_neg h0, if_pos h1]
    exact Fin.sum_mul_add_congr fun s k hl => rfl
  by_cases h2 : (a : ℕ) = 2
  · simp only [if_neg h0, if_neg h1, if_pos h2]
    exact Fin.sum_mul_add_congr fun s k hl => rfl
  simp only [if_neg h0, if_neg h1, if_neg h2, Finset.sum_const_zero]

theorem emb_21 (t : Fin cfg0.N) (a : Fin 8) (l : Fin 1024) (f : FVec Ideal S8x1024 .f32) :
    f (((cfg0.win 21).blk t).view.emb (ix2 a l)) = f (ix2 a l) := by
  blk_ext [idx t]

theorem sum_21 (c : Dev nD) (t : Fin cfg0.N) (hf : (cfg0.win 21).flush t = true) (a : Fin 8) (l : Fin 1024) :
    (outsAt0 m c t.val t.isLt).2.2.2.2.2.2.2.2 (ix2 a l) = accA (insM m c) a l := by
  rw [Pipeline.eq_sum_fin_of_reset_step_apply_of_flush (fun n h => (outsAt0 m c n h).2.2.2.2.2.2.2.2) 32 (fun _ => 0)
    (fun n j => accA (fun r => insM m c (row n r)) (j 0) (j 1))
    (fun t h j => by
      obtain ⟨a, l, rfl⟩ : ∃ (a : Fin 8) (l : Fin 1024), j = ix2 a l := ⟨j 0, j 1, eq_ix2 j⟩
      exact reset_21 m c t h a l)
    (fun t h j => by
      obtain ⟨a, l, rfl⟩ : ∃ (a : Fin 8) (l : Fin 1024), j = ix2 a l := ⟨j 0, j 1, eq_ix2 j⟩
      exact step_21 m c t h a l)
    t ((flush0_21 t).mp hf) _, zero_add]
  refine Eq.trans (Finset.sum_congr rfl fun s _ => ?_) (accA_sum (insM m c) a l)
  refine congrArg (fun J : Fin 256 → Ins => accA J a l) (funext fun r => congrArg (insM m c) (Fin.ext ?_))
  show (32 * (t.val / 32) + s.val) * 256 + r.val = s.val * 256 + r.val
  have := point_lt t
  omega

/-- What the window of the three accumulated rows ends holding. -/
theorem final_21 (c : Dev nD) : (dats m 0 c).arrAt 21 (cfgs 0).N = (fun i => accA (insM m c) (i 0) (i 1) : FVec Ideal S8x1024 .f32) := by
  refine (dats m 0 c).arrAt_eq_of_covers 21 _ (by decide +kernel) fun t hf y => ?_
  obtain ⟨a, l, rfl⟩ : ∃ (a : Fin 8) (l : Fin 1024), y = ix2 a l := ⟨y 0, y 1, eq_ix2 y⟩
  rw [after0_21]
  exact (sum_21 m c t hf a l).trans (emb_21 t a l (fun i => accA (insM m c) (i 0) (i 1))).symm

end Cert.Merge.Arr
-- ==== Proof.Merge.Ref.lean ====
module

public import proofs.«01_k».proof.Proof.Gen.ReferenceIdeal.Read
public import proofs.«01_k».proof.Proof.Merge.Row

/-! # The reference's arrays, read row by row -/

@[expose] public section

set_option maxRecDepth 16384

noncomputable section

open Idealize.ShloMosaic Idealize.ShloMosaic.TcCoe
open scoped BigOperators

namespace Cert.Merge.Ref

open Cert.ReferenceIdeal Cert.ReferenceIdeal.Gen Cert.ReferenceIdeal.Read

variable (x0 : FVec Ideal S8192x1024 .f32) (x1 x2 : FVec Ideal S8192x2048 .bf16) (x3 : FVec Ideal S8192x15872 .bf16) (x4 : FVec Ideal S8192x1024 .f32)
  (x5 x6 : FVec Ideal S1x1024 .f32) (x7 x8 : FVec Ideal S2048x1024 .bf16) (x9 : FVec Ideal S1024x1024 .bf16)

theorem gm (r : Fin 8192) (l : Fin 1024) : val_main_v18 (F := Ideal) x3 (ix2 r l) = sgR ((insA x0 x1 x2 x3 x4 x5 x6 x7 x8 x9 r).qm l) := by
  pointwise [val_main_v18, val_main_v14, val_main_v13, val_main_v12, val_main_v11, val_main_v10, val_main_v9, val_main_v6, val_main_v5, val_main_cst, val_main_cst_0, insA, sgR]

theorem gs (r : Fin 8192) (l : Fin 1024) : val_main_v19 (F := Ideal) x3 (ix2 r l) = sgR ((insA x0 x1 x2 x3 x4 x5 x6 x7 x8 x9 r).qs l) := by
  pointwise [val_main_v19, val_main_v14, val_main_v13, val_main_v12, val_main_v11, val_main_v10, val_main_v9, val_main_v6, val_main_v5, val_main_cst, val_main_cst_0, insA, sgR]

theorem pm (r : Fin 8192) (l : Fin 1024) : val_main_v7 (F := Ideal) x1 x7 (ix2 r l) = (insA x0 x1 x2 x3 x4 x5 x6 x7 x8 x9 r).pm l := by
  pointwise [val_main_v7, val_main_v0, val_main_v2, insA, Ins.pm]

theorem ps (r : Fin 8192) (l : Fin 1024) : val_main_v8 (F := Ideal) x2 x8 (ix2 r l) = (insA x0 x1 x2 x3 x4 x5 x6 x7 x8 x9 r).ps l := by
  pointwise [val_main_v8, val_main_v1, val_main_v3, insA, Ins.ps]

theorem mrgR (r : Fin 8192) (l : Fin 1024) : val_main_v22 (F := Ideal) x1 x2 x3 x7 x8 (ix2 r l) = (insA x0 x1 x2 x3 x4 x5 x6 x7 x8 x9 r).mrgR l := by
  pointwise [val_main_v22, val_main_v21, val_main_v20, gm x0 x1 x2 x3 x4 x5 x6 x7 x8 x9, gs x0 x1 x2 x3 x4 x5 x6 x7 x8 x9, pm x0 x1 x2 x3 x4 x5 x6 x7 x8 x9, ps x0 x1 x2 x3 x4 x5 x6 x7 x8 x9, Ins.mrgR]

theorem moR (r : Fin 8192) (l : Fin 1024) : val_main_v23 (F := Ideal) x1 x2 x3 x7 x8 x9 (ix2 r l) = (insA x0 x1 x2 x3 x4 x5 x6 x7 x8 x9 r).moR l := by
  pointwise [val_main_v23, val_main_v4, mrgR x0 x1 x2 x3 x4 x5 x6 x7 x8 x9, Ins.moR]
  rfl

theorem outR (r : Fin 8192) (l : Fin 1024) : val_main_v26 (F := Ideal) x0 x1 x2 x3 x5 x7 x8 x9 (ix2 r l) = (insA x0 x1 x2 x3 x4 x5 x6 x7 x8 x9 r).outR l := by
  pointwise [val_main_v26, val_main_v25, val_main_v24, moR x0 x1 x2 x3 x4 x5 x6 x7 x8 x9, Ins.outR]
  rfl

theorem ms (r : Fin 8192) (z : Fin 1) : val_main_v33 (F := Ideal) x0 x1 x2 x3 x5 x7 x8 x9 (ix2 r z) = Ideal.div (∑ k, (insA x0 x1 x2 x3 x4 x5 x6 x7 x8 x9 r).outR k * (insA x0 x1 x2 x3 x4 x5 x6 x7 x8 x9 r).outR k) width + eps := by
  pointwise [val_main_v33, val_main_v32, val_main_v31, val_main_v30, val_main_v29, val_main_v28, val_main_v27, val_main_cst_2, val_main_cst_3, val_main_cst_4, outR x0 x1 x2 x3 x4 x5 x6 x7 x8 x9]

theorem rsq (r : Fin 8192) (z : Fin 1) : val_main_v34 (F := Ideal) x0 x1 x2 x3 x5 x7 x8 x9 (ix2 r z) = rs (insA x0 x1 x2 x3 x4 x5 x6 x7 x8 x9 r).outR := by
  pointwise [val_main_v34, ms x0 x1 x2 x3 x4 x5 x6 x7 x8 x9, rs]

theorem on (r : Fin 8192) (l : Fin 1024) : val_main_v39 (F := Ideal) x0 x1 x2 x3 x5 x7 x8 x9 (ix2 r l) = (insA x0 x1 x2 x3 x4 x5 x6 x7 x8 x9 r).outR l * rs (insA x0 x1 x2 x3 x4 x5 x6 x7 x8 x9 r).outR := by
  pointwise [val_main_v39, val_main_v38, outR x0 x1 x2 x3 x4 x5 x6 x7 x8 x9, rsq x0 x1 x2 x3 x4 x5 x6 x7 x8 x9]

theorem dif (r : Fin 8192) (l : Fin 1024) : val_main_v42 (F := Ideal) x0 x1 x2 x3 x4 x5 x6 x7 x8 x9 (ix2 r l) = df (insA x0 x1 x2 x3 x4 x5 x6 x7 x8 x9 r).outR (insA x0 x1 x2 x3 x4 x5 x6 x7 x8 x9 r).f (insA x0 x1 x2 x3 x4 x5 x6 x7 x8 x9 r).t l := by
  pointwise [val_main_v42, val_main_v41, val_main_v40, on x0 x1 x2 x3 x4 x5 x6 x7 x8 x9, df]
  rfl

theorem dyv (r : Fin 8192) (l : Fin 1024) : val_main_v56 (F := Ideal) x0 x1 x2 x3 x4 x5 x6 x7 x8 x9 (ix2 r l) = dyR (insA x0 x1 x2 x3 x4 x5 x6 x7 x8 x9 r).outR (insA x0 x1 x2 x3 x4 x5 x6 x7 x8 x9 r).f (insA x0 x1 x2 x3 x4 x5 x6 x7 x8 x9 r).t l := by
  pointwise [val_main_v56, val_main_v55, val_main_v54, val_main_v53, val_main_v52, val_main_v51, val_main_v45, val_main_v44, val_main_cst_6, val_main_cst_11, val_main_cst_12, val_main_cst_13, dif x0 x1 x2 x3 x4 x5 x6 x7 x8 x9, dyR]

theorem don (r : Fin 8192) (l : Fin 1024) : val_main_v61 (F := Ideal) x0 x1 x2 x3 x4 x5 x6 x7 x8 x9 (ix2 r l) = dyR (insA x0 x1 x2 x3 x4 x5 x6 x7 x8 x9 r).outR (insA x0 x1 x2 x3 x4 x5 x6 x7 x8 x9 r).f (insA x0 x1 x2 x3 x4 x5 x6 x7 x8 x9 r).t l * (insA x0 x1 x2 x3 x4 x5 x6 x7 x8 x9 r).f l := by
  pointwise [val_main_v61, val_main_v60, dyv x0 x1 x2 x3 x4 x5 x6 x7 x8 x9]
  rfl

theorem dms (r : Fin 8192) (l : Fin 1024) : val_main_v71 (F := Ideal) x0 x1 x2 x3 x4 x5 x6 x7 x8 x9 (ix2 r l) = dvR (insA x0 x1 x2 x3 x4 x5 x6 x7 x8 x9 r).outR (insA x0 x1 x2 x3 x4 x5 x6 x7 x8 x9 r).f (insA x0 x1 x2 x3 x4 x5 x6 x7 x8 x9 r).t := by
  pointwise [val_main_v71, val_main_v70, val_main_v69, val_main_v68, val_main_v67, val_main_v64, val_main_v63, val_main_v62, val_main_v37, val_main_v36, val_main_v35, val_main_cst_5, val_main_cst_15, val_main_cst_16, val_main_cst_17, outR x0 x1 x2 x3 x4 x5 x6 x7 x8 x9, don x0 x1 x2 x3 x4 x5 x6 x7 x8 x9, ms x0 x1 x2 x3 x4 x5 x6 x7 x8 x9, rsq x0 x1 x2 x3 x4 x5 x6 x7 x8 x9, dvR]
  simp

theorem dx (r : Fin 8192) (l : Fin 1024) : val_main_v75 (F := Ideal) x0 x1 x2 x3 x4 x5 x6 x7 x8 x9 (ix2 r l) = dxR (insA x0 x1 x2 x3 x4 x5 x6 x7 x8 x9 r).outR (insA x0 x1 x2 x3 x4 x5 x6 x7 x8 x9 r).f (insA x0 x1 x2 x3 x4 x5 x6 x7 x8 x9 r).t l := by
  pointwise [val_main_v75, val_main_v74, val_main_v73, val_main_v72, val_main_v66, val_main_v65, outR x0 x1 x2 x3 x4 x5 x6 x7 x8 x9, don x0 x1 x2 x3 x4 x5 x6 x7 x8 x9, rsq x0 x1 x2 x3 x4 x5 x6 x7 x8 x9, dms x0 x1 x2 x3 x4 x5 x6 x7 x8 x9, dxR]

/-- From here on the reference's row is the kernel's. -/
theorem dx' (r : Fin 8192) (l : Fin 1024) : val_main_v75 (F := Ideal) x0 x1 x2 x3 x4 x5 x6 x7 x8 x9 (ix2 r l) = (insA x0 x1 x2 x3 x4 x5 x6 x7 x8 x9 r).dx l :=
  (dx x0 x1 x2 x3 x4 x5 x6 x7 x8 x9 r l).trans (Ins.dx_eq l)

theorem mrg' (r : Fin 8192) (l : Fin 1024) : val_main_v22 (F := Ideal) x1 x2 x3 x7 x8 (ix2 r l) = (insA x0 x1 x2 x3 x4 x5 x6 x7 x8 x9 r).mrg l :=
  (mrgR x0 x1 x2 x3 x4 x5 x6 x7 x8 x9 r l).trans (congrFun (Ins.mrg_eq) l)

theorem mo' (r : Fin 8192) (l : Fin 1024) : val_main_v23 (F := Ideal) x1 x2 x3 x7 x8 x9 (ix2 r l) = (insA x0 x1 x2 x3 x4 x5 x6 x7 x8 x9 r).mo l :=
  (moR x0 x1 x2 x3 x4 x5 x6 x7 x8 x9 r l).trans (congrFun (Ins.mo_eq) l)

theorem gm' (r : Fin 8192) (l : Fin 1024) : val_main_v18 (F := Ideal) x3 (ix2 r l) = sgK ((insA x0 x1 x2 x3 x4 x5 x6 x7 x8 x9 r).qm l) :=
  (gm x0 x1 x2 x3 x4 x5 x6 x7 x8 x9 r l).trans (sg_eq _)

theorem gs' (r : Fin 8192) (l : Fin 1024) : val_main_v19 (F := Ideal) x3 (ix2 r l) = sgK ((insA x0 x1 x2 x3 x4 x5 x6 x7 x8 x9 r).qs l) :=
  (gs x0 x1 x2 x3 x4 x5 x6 x7 x8 x9 r l).trans (sg_eq _)

theorem dmo (r : Fin 8192) (l : Fin 1024) : val_main_v77 (F := Ideal) x0 x1 x2 x3 x4 x5 x6 x7 x8 x9 (ix2 r l) = (insA x0 x1 x2 x3 x4 x5 x6 x7 x8 x9 r).dmo l := by
  pointwise [val_main_v77, val_main_v76, dx' x0 x1 x2 x3 x4 x5 x6 x7 x8 x9 r, Ins.dmo]
  exact mul_comm _ _

theorem dmer (r : Fin 8192) (l : Fin 1024) : val_main_v81 (F := Ideal) x0 x1 x2 x3 x4 x5 x6 x7 x8 x9 (ix2 r l) = (insA x0 x1 x2 x3 x4 x5 x6 x7 x8 x9 r).dmer l := by
  pointwise [val_main_v81, val_main_v4, dmo x0 x1 x2 x3 x4 x5 x6 x7 x8 x9 r, Ins.dmer]
  rfl

theorem dpm (r : Fin 8192) (l : Fin 1024) : val_main_v84 (F := Ideal) x0 x1 x2 x3 x4 x5 x6 x7 x8 x9 (ix2 r l) = (insA x0 x1 x2 x3 x4 x5 x6 x7 x8 x9 r).dpm l := by
  pointwise [val_main_v84, dmer x0 x1 x2 x3 x4 x5 x6 x7 x8 x9 r, gm' x0 x1 x2 x3 x4 x5 x6 x7 x8 x9 r, Ins.dpm]
  exact mul_comm _ _

theorem dps (r : Fin 8192) (l : Fin 1024) : val_main_v82 (F := Ideal) x0 x1 x2 x3 x4 x5 x6 x7 x8 x9 (ix2 r l) = (insA x0 x1 x2 x3 x4 x5 x6 x7 x8 x9 r).dps l := by
  pointwise [val_main_v82, dmer x0 x1 x2 x3 x4 x5 x6 x7 x8 x9 r, gs' x0 x1 x2 x3 x4 x5 x6 x7 x8 x9 r, Ins.dps]
  exact mul_comm _ _

theorem dym (r : Fin 8192) (j : Fin 2048) : val_main_v88 (F := Ideal) x0 x1 x2 x3 x4 x5 x6 x7 x8 x9 (ix2 r j) = (insA x0 x1 x2 x3 x4 x5 x6 x7 x8 x9 r).dym j := by
  pointwise [val_main_v88, val_main_v2, dpm x0 x1 x2 x3 x4 x5 x6 x7 x8 x9 r, Ins.dym]
  rfl

theorem dys (r : Fin 8192) (j : Fin 2048) : val_main_v89 (F := Ideal) x0 x1 x2 x3 x4 x5 x6 x7 x8 x9 (ix2 r j) = (insA x0 x1 x2 x3 x4 x5 x6 x7 x8 x9 r).dys j := by
  pointwise [val_main_v89, val_main_v3, dps x0 x1 x2 x3 x4 x5 x6 x7 x8 x9 r, Ins.dys]
  rfl

/-- The gates' derivatives, both halves. -/
theorem sder (r : Fin 8192) (j : Fin 2048) :
    val_main_v17 (F := Ideal) x3 (ix2 r j) = sgR (x3 (ix2 r ⟨6144 + j, by omega⟩)) * (1 - sgR (x3 (ix2 r ⟨6144 + j, by omega⟩))) := by
  pointwise [val_main_v17, val_main_v16, val_main_v15, val_main_v14, val_main_v13, val_main_v12, val_main_v11, val_main_v10, val_main_v9, val_main_v6, val_main_v5, val_main_cst, val_main_cst_0, val_main_cst_1, sgR]

theorem dqm (r : Fin 8192) (l : Fin 1024) : val_main_v87 (F := Ideal) x0 x1 x2 x3 x4 x5 x6 x7 x8 x9 (ix2 r ⟨l, by omega⟩) = (insA x0 x1 x2 x3 x4 x5 x6 x7 x8 x9 r).dqm l := by
  pointwise [val_main_v87, val_main_v86, val_main_v85, sder x3, dmer x0 x1 x2 x3 x4 x5 x6 x7 x8 x9 r, pm x0 x1 x2 x3 x4 x5 x6 x7 x8 x9, Ins.dqm]
  rw [show x3 (ix2 r ⟨6144 + ↑l, by omega⟩) = (insA x0 x1 x2 x3 x4 x5 x6 x7 x8 x9 r).qm l from rfl, sg_eq]
  ac_rfl

theorem dqs (r : Fin 8192) (l : Fin 1024) : val_main_v87 (F := Ideal) x0 x1 x2 x3 x4 x5 x6 x7 x8 x9 (ix2 r ⟨1024 + l, by omega⟩) = (insA x0 x1 x2 x3 x4 x5 x6 x7 x8 x9 r).dqs l := by
  pointwise [val_main_v87, val_main_v86, val_main_v83, sder x3, dmer x0 x1 x2 x3 x4 x5 x6 x7 x8 x9 r, ps x0 x1 x2 x3 x4 x5 x6 x7 x8 x9, Ins.dqs]
  rw [show x3 (ix2 r ⟨6144 + (1024 + ↑l), by omega⟩) = (insA x0 x1 x2 x3 x4 x5 x6 x7 x8 x9 r).qs l from rfl, sg_eq]
  ac_rfl

theorem accd (z : Fin 1) (l : Fin 1024) : val_main_v59 (F := Ideal) x0 x1 x2 x3 x4 x5 x6 x7 x8 x9 (ix2 z l) = ∑ r, (insA x0 x1 x2 x3 x4 x5 x6 x7 x8 x9 r).df' l := by
  pointwise [val_main_v59, val_main_v58, val_main_v57, val_main_cst_14, on x0 x1 x2 x3 x4 x5 x6 x7 x8 x9, dyv x0 x1 x2 x3 x4 x5 x6 x7 x8 x9]
  exact Finset.sum_congr rfl fun r _ => Ins.df_eq l

theorem accg (z : Fin 1) (l : Fin 1024) : val_main_v80 (F := Ideal) x0 x1 x2 x3 x4 x5 x6 x7 x8 x9 (ix2 z l) = ∑ r, (insA x0 x1 x2 x3 x4 x5 x6 x7 x8 x9 r).dg' l := by
  pointwise [val_main_v80, val_main_v79, val_main_v78, val_main_cst_18]
  exact Finset.sum_congr rfl fun r _ => by rw [dx' x0 x1 x2 x3 x4 x5 x6 x7 x8 x9 r, mo' x0 x1 x2 x3 x4 x5 x6 x7 x8 x9 r]; rfl

theorem accl (z : Fin 1) (l : Fin 1024) : val_main_v91 (F := Ideal) x0 x1 x2 x3 x4 x5 x6 x7 x8 x9 (ix2 z l) = ∑ r, (insA x0 x1 x2 x3 x4 x5 x6 x7 x8 x9 r).loss := by
  pointwise [val_main_v91, val_main_v90, val_main_v50, val_main_v49, val_main_v48, val_main_v47, val_main_v46, val_main_v43, val_main_cst_7, val_main_cst_8, val_main_cst_9, val_main_cst_10, dif x0 x1 x2 x3 x4 x5 x6 x7 x8 x9]
  simp only [Ins.out_eq]
  exact loss_eq (fun r => (insA x0 x1 x2 x3 x4 x5 x6 x7 x8 x9 r).out) (fun r => (insA x0 x1 x2 x3 x4 x5 x6 x7 x8 x9 r).t) (insA x0 x1 x2 x3 x4 x5 x6 x7 x8 x9 0).f

theorem acc (a : Fin 8) (l : Fin 1024) : val_main_v93 (F := Ideal) x0 x1 x2 x3 x4 x5 x6 x7 x8 x9 (ix2 a l) = accA (insA x0 x1 x2 x3 x4 x5 x6 x7 x8 x9) a l := by
  pointwise [val_main_v93, val_main_v92, val_main_cst_19, accd x0 x1 x2 x3 x4 x5 x6 x7 x8 x9, accg x0 x1 x2 x3 x4 x5 x6 x7 x8 x9, accl x0 x1 x2 x3 x4 x5 x6 x7 x8 x9]
  unfold accA
  fin_vals a with ha
  all_goals simp [ha]

/-- The gradient of the gates' preactivations stands in the columns it was read from. -/
theorem dmgm (r : Fin 8192) (l : Fin 1024) : val_main_v101 (F := Ideal) x0 x1 x2 x3 x4 x5 x6 x7 x8 x9 (ix2 r ⟨6144 + l, by omega⟩) = (insA x0 x1 x2 x3 x4 x5 x6 x7 x8 x9 r).dqm l := by
  pointwise [val_main_v101, val_main_v94]
  rw [dif_pos (by omega)]; exact dqm x0 x1 x2 x3 x4 x5 x6 x7 x8 x9 r l

theorem dmgs (r : Fin 8192) (l : Fin 1024) : val_main_v101 (F := Ideal) x0 x1 x2 x3 x4 x5 x6 x7 x8 x9 (ix2 r ⟨6144 + (1024 + l), by omega⟩) = (insA x0 x1 x2 x3 x4 x5 x6 x7 x8 x9 r).dqs l := by
  pointwise [val_main_v101, val_main_v94]
  rw [dif_pos (by omega)]; exact dqs x0 x1 x2 x3 x4 x5 x6 x7 x8 x9 r l

end Cert.Merge.Ref
-- ==== Proof.Merge.Values.lean ====
module

public import proofs.«01_k».proof.On_written
public import proofs.«01_k».proof.Proof.Merge.Final
public import proofs.«01_k».proof.Proof.Merge.Parts
public import proofs.«01_k».proof.Proof.Merge.Ref
public import Idealize.ShloMosaic.Lib.Pointwise
public import Idealize.ShloMosaic.Lib.Affine

/-! # Each result of the kernel is the reference's -/

@[expose] public section

set_option maxRecDepth 16384

noncomputable section

open Idealize.ShloMosaic Idealize.ShloMosaic.TcCoe Idealize.SL.Sem

namespace Cert.Merge.Val

open Cert.KernelIdeal Cert.KernelIdeal.Gen Cert.Merge.Arr Cert.ReferenceIdeal.Read

variable (m : (ℓ : Loc nD τ sig) → Buf (Elt Ideal) ℓ) (c : Dev nD)

theorem and_one : ∀ {c d : BitVec 1}, IntOp.andi c d = 1#1 ↔ c = 1#1 ∧ d = 1#1 := by decide

/-- The written columns are those of the gates. -/
theorem cols {x0 : FVec Ideal ⟨2, ![8192, 1024]⟩ .f32} {x1 x2 : FVec Ideal ⟨2, ![8192, 2048]⟩ .bf16} {x3 : FVec Ideal ⟨2, ![8192, 15872]⟩ .bf16}
    {x4 : FVec Ideal ⟨2, ![8192, 1024]⟩ .f32} {x5 x6 : FVec Ideal ⟨2, ![1, 1024]⟩ .f32} {x7 x8 : FVec Ideal ⟨2, ![2048, 1024]⟩ .bf16}
    {x9 : FVec Ideal ⟨2, ![1024, 1024]⟩ .bf16} [Cert.On_written.Facts] {i : (⟨2, ![8192, 15872]⟩ : Shape).Idx}
    (e : (Cert.On_written.fn (F := Ideal) x0 x1 x2 x3 x4 x5 x6 x7 x8 x9).2.2.2.2.2.2.2.1 i = 1#1) : 6144 ≤ (i 1).val ∧ (i 1).val < 8192 := by
  obtain ⟨r, l, rfl⟩ : ∃ (r : Fin 8192) (l : Fin 15872), i = ix2 r l := ⟨i 0, i 1, eq_ix2 i⟩
  have hl : l.val < 15872 := l.isLt
  revert e
  unfold Cert.On_written.fn
  simp only [andi_apply, and_one]
  rintro ⟨e1, e2⟩
  have g1 : IntOp.cmpi .sge (BitVec.ofNat 32 l.val) 6144#32 = 1#1 := e1
  have g2 : IntOp.cmpi .slt (BitVec.ofNat 32 l.val) 8192#32 = 1#1 := e2
  rw [IntOp.cmpi_sge] at g1
  rw [IntOp.cmpi_slt] at g2
  have hi : (BitVec.ofNat 32 l.val).toInt = (l.val : ℤ) := by
    rw [BitVec.toInt_ofNat', Int.bmod_eq_of_le] <;> omega
  rw [hi] at g1 g2
  have k1 : (6144 : ℤ) ≤ l.val := g1
  have k2 : (l.val : ℤ) < 8192 := g2
  show 6144 ≤ l.val ∧ l.val < 8192
  omega

theorem res_0 : (dats m 0 c).arrAt 13 cfg0.N = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [final_13 m c]
  funext i
  obtain ⟨r, l, rfl⟩ : ∃ (r : Fin 8192) (l : Fin 1024), i = ix2 r l := ⟨i 0, i 1, eq_ix2 i⟩
  exact (Ref.dx' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r l).symm

theorem res_1 : (dats m 0 c).arrAt 14 cfg0.N = val_main_v95 (F := Ideal) (m ((c : Thread nD τ).loc main_arg1)) (m ((c : Thread nD τ).loc main_arg2)) (m ((c : Thread nD τ).loc main_arg3)) (m ((c : Thread nD τ).loc main_arg7)) (m ((c : Thread nD τ).loc main_arg8)) := by
  rw [final_14 m c]
  funext i
  obtain ⟨r, l, rfl⟩ : ∃ (r : Fin 8192) (l : Fin 1024), i = ix2 r l := ⟨i 0, i 1, eq_ix2 i⟩
  have e : val_main_v95 (F := Ideal) (m ((c : Thread nD τ).loc main_arg1)) (m ((c : Thread nD τ).loc main_arg2)) (m ((c : Thread nD τ).loc main_arg3)) (m ((c : Thread nD τ).loc main_arg7)) (m ((c : Thread nD τ).loc main_arg8)) (ix2 r l) = (insM m c r).mrg l := by
    pointwise [val_main_v95]
    exact Ref.mrg' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r l
  exact e.symm

theorem res_2 : (dats m 0 c).arrAt 15 cfg0.N = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [final_15 m c]
  funext i
  obtain ⟨r, l, rfl⟩ : ∃ (r : Fin 8192) (l : Fin 1024), i = ix2 r l := ⟨i 0, i 1, eq_ix2 i⟩
  have e : val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r l) = (insM m c r).dmo l := by
    pointwise [val_main_v96]
    exact Ref.dmo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r l
  exact e.symm

theorem res_3 : (dats m 0 c).arrAt 16 cfg0.N = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [final_16 m c]
  funext i
  obtain ⟨r, l, rfl⟩ : ∃ (r : Fin 8192) (l : Fin 1024), i = ix2 r l := ⟨i 0, i 1, eq_ix2 i⟩
  have e : val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r l) = (insM m c r).dpm l := by
    pointwise [val_main_v97]
    exact Ref.dpm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r l
  exact e.symm

theorem res_4 : (dats m 0 c).arrAt 17 cfg0.N = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [final_17 m c]
  funext i
  obtain ⟨r, l, rfl⟩ : ∃ (r : Fin 8192) (l : Fin 1024), i = ix2 r l := ⟨i 0, i 1, eq_ix2 i⟩
  have e : val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r l) = (insM m c r).dps l := by
    pointwise [val_main_v98]
    exact Ref.dps (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r l
  exact e.symm

theorem res_5 : (dats m 0 c).arrAt 18 cfg0.N = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [final_18 m c]
  funext i
  obtain ⟨r, l, rfl⟩ : ∃ (r : Fin 8192) (l : Fin 2048), i = ix2 r l := ⟨i 0, i 1, eq_ix2 i⟩
  have e : val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r l) = (insM m c r).dym l := by
    pointwise [val_main_v99]
    exact Ref.dym (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r l
  exact e.symm

theorem res_6 : (dats m 0 c).arrAt 19 cfg0.N = val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [final_19 m c]
  funext i
  obtain ⟨r, l, rfl⟩ : ∃ (r : Fin 8192) (l : Fin 2048), i = ix2 r l := ⟨i 0, i 1, eq_ix2 i⟩
  have e : val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r l) = (insM m c r).dys l := by
    pointwise [val_main_v100]
    exact Ref.dys (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r l
  exact e.symm

theorem res_7 (i : (⟨2, ![8192, 15872]⟩ : Shape).Idx) (hi : 6144 ≤ (i 1).val ∧ (i 1).val < 8192) :
    ((dats m 0 c).arrAt 20 cfg0.N : FVec Ideal S8192x15872 .bf16) i = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) i := by
  rw [final_20 m c]
  refine (if_pos hi).trans ?_
  obtain ⟨r, l, rfl⟩ : ∃ (r : Fin 8192) (l : Fin 15872), i = ix2 r l := ⟨i 0, i 1, eq_ix2 i⟩
  have h1 : 6144 ≤ l.val := hi.1
  have h2 : l.val < 8192 := hi.2
  show dq (insM m c r) (l.val - 6144) = _
  rcases Nat.lt_or_ge (l.val - 6144) 1024 with hl | hl
  · have e := Ref.dmgm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r ⟨l.val - 6144, hl⟩
    have el : (⟨6144 + (l.val - 6144), by omega⟩ : Fin 15872) = l := Fin.ext (Nat.add_sub_cancel' h1)
    simp only [el] at e
    exact (dq_lo (insM m c r) ⟨l.val - 6144, hl⟩).trans e.symm
  · have hl' : l.val - 7168 < 1024 := by omega
    have e := Ref.dmgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r ⟨l.val - 7168, hl'⟩
    have el : (⟨6144 + (1024 + (l.val - 7168)), by omega⟩ : Fin 15872) = l := Fin.ext (by show 6144 + (1024 + (l.val - 7168)) = l.val; omega)
    simp only [el] at e
    have ek : l.val - 6144 = 1024 + (⟨l.val - 7168, hl'⟩ : Fin 1024).val := by show l.val - 6144 = 1024 + (l.val - 7168); omega
    rw [ek]
    exact (dq_hi (insM m c r) ⟨l.val - 7168, hl'⟩).trans e.symm

theorem res_8 : (dats m 0 c).arrAt 21 cfg0.N = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [final_21 m c]
  funext i
  obtain ⟨r, l, rfl⟩ : ∃ (r : Fin 8) (l : Fin 1024), i = ix2 r l := ⟨i 0, i 1, eq_ix2 i⟩
  exact (Ref.acc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r l).symm

end Cert.Merge.Val
-- ==== Proof.Merge.Claim.lean ====
module

public import proofs.«01_k».proof.Defs
public import proofs.«01_k».proof.Proof.Gen.ReferenceIdeal
public import proofs.«01_k».proof.Proof.Gen.On_written
public import proofs.«01_k».proof.Proof.Gen.ReferenceIdeal.Run
public import proofs.«01_k».proof.Proof.Gen.ReferenceIdeal.Read
public import proofs.«01_k».proof.Proof.Merge.Values
public import Idealize.ShloMosaic.Lib.Quiescent

/-! # The gated merge's certificate: frames and the value claim -/

@[expose] public section

set_option maxRecDepth 16384

noncomputable section

open Idealize.ShloMosaic Idealize.ShloMosaic.TcCoe Idealize.SL.Sem

namespace Cert.Merge.Claim

open Cert.Merge.Arr Cert.Merge.Val Cert.ReferenceIdeal.Read

/-! Equal arguments give equal results. -/
theorem cg_v75 {x0 y0 : FVec Ideal ⟨2, ![8192, 1024]⟩ .f32} {x1 y1 : FVec Ideal ⟨2, ![8192, 2048]⟩ .bf16} {x2 y2 : FVec Ideal ⟨2, ![8192, 2048]⟩ .bf16} {x3 y3 : FVec Ideal ⟨2, ![8192, 15872]⟩ .bf16} {x4 y4 : FVec Ideal ⟨2, ![8192, 1024]⟩ .f32} {x5 y5 : FVec Ideal ⟨2, ![1, 1024]⟩ .f32} {x6 y6 : FVec Ideal ⟨2, ![1, 1024]⟩ .f32} {x7 y7 : FVec Ideal ⟨2, ![2048, 1024]⟩ .bf16} {x8 y8 : FVec Ideal ⟨2, ![2048, 1024]⟩ .bf16} {x9 y9 : FVec Ideal ⟨2, ![1024, 1024]⟩ .bf16} (e0 : y0 = x0) (e1 : y1 = x1) (e2 : y2 = x2) (e3 : y3 = x3) (e4 : y4 = x4) (e5 : y5 = x5) (e6 : y6 = x6) (e7 : y7 = x7) (e8 : y8 = x8) (e9 : y9 = x9) :
    val_main_v75 (F := Ideal) y0 y1 y2 y3 y4 y5 y6 y7 y8 y9 = val_main_v75 (F := Ideal) x0 x1 x2 x3 x4 x5 x6 x7 x8 x9 := by
  subst e0 e1 e2 e3 e4 e5 e6 e7 e8 e9; rfl

theorem cg_v95 {x1 y1 : FVec Ideal ⟨2, ![8192, 2048]⟩ .bf16} {x2 y2 : FVec Ideal ⟨2, ![8192, 2048]⟩ .bf16} {x3 y3 : FVec Ideal ⟨2, ![8192, 15872]⟩ .bf16} {x7 y7 : FVec Ideal ⟨2, ![2048, 1024]⟩ .bf16} {x8 y8 : FVec Ideal ⟨2, ![2048, 1024]⟩ .bf16} (e1 : y1 = x1) (e2 : y2 = x2) (e3 : y3 = x3) (e7 : y7 = x7) (e8 : y8 = x8) :
    val_main_v95 (F := Ideal) y1 y2 y3 y7 y8 = val_main_v95 (F := Ideal) x1 x2 x3 x7 x8 := by
  subst e1 e2 e3 e7 e8; rfl

theorem cg_v96 {x0 y0 : FVec Ideal ⟨2, ![8192, 1024]⟩ .f32} {x1 y1 : FVec Ideal ⟨2, ![8192, 2048]⟩ .bf16} {x2 y2 : FVec Ideal ⟨2, ![8192, 2048]⟩ .bf16} {x3 y3 : FVec Ideal ⟨2, ![8192, 15872]⟩ .bf16} {x4 y4 : FVec Ideal ⟨2, ![8192, 1024]⟩ .f32} {x5 y5 : FVec Ideal ⟨2, ![1, 1024]⟩ .f32} {x6 y6 : FVec Ideal ⟨2, ![1, 1024]⟩ .f32} {x7 y7 : FVec Ideal ⟨2, ![2048, 1024]⟩ .bf16} {x8 y8 : FVec Ideal ⟨2, ![2048, 1024]⟩ .bf16} {x9 y9 : FVec Ideal ⟨2, ![1024, 1024]⟩ .bf16} (e0 : y0 = x0) (e1 : y1 = x1) (e2 : y2 = x2) (e3 : y3 = x3) (e4 : y4 = x4) (e5 : y5 = x5) (e6 : y6 = x6) (e7 : y7 = x7) (e8 : y8 = x8) (e9 : y9 = x9) :
    val_main_v96 (F := Ideal) y0 y1 y2 y3 y4 y5 y6 y7 y8 y9 = val_main_v96 (F := Ideal) x0 x1 x2 x3 x4 x5 x6 x7 x8 x9 := by
  subst e0 e1 e2 e3 e4 e5 e6 e7 e8 e9; rfl

theorem cg_v97 {x0 y0 : FVec Ideal ⟨2, ![8192, 1024]⟩ .f32} {x1 y1 : FVec Ideal ⟨2, ![8192, 2048]⟩ .bf16} {x2 y2 : FVec Ideal ⟨2, ![8192, 2048]⟩ .bf16} {x3 y3 : FVec Ideal ⟨2, ![8192, 15872]⟩ .bf16} {x4 y4 : FVec Ideal ⟨2, ![8192, 1024]⟩ .f32} {x5 y5 : FVec Ideal ⟨2, ![1, 1024]⟩ .f32} {x6 y6 : FVec Ideal ⟨2, ![1, 1024]⟩ .f32} {x7 y7 : FVec Ideal ⟨2, ![2048, 1024]⟩ .bf16} {x8 y8 : FVec Ideal ⟨2, ![2048, 1024]⟩ .bf16} {x9 y9 : FVec Ideal ⟨2, ![1024, 1024]⟩ .bf16} (e0 : y0 = x0) (e1 : y1 = x1) (e2 : y2 = x2) (e3 : y3 = x3) (e4 : y4 = x4) (e5 : y5 = x5) (e6 : y6 = x6) (e7 : y7 = x7) (e8 : y8 = x8) (e9 : y9 = x9) :
    val_main_v97 (F := Ideal) y0 y1 y2 y3 y4 y5 y6 y7 y8 y9 = val_main_v97 (F := Ideal) x0 x1 x2 x3 x4 x5 x6 x7 x8 x9 := by
  subst e0 e1 e2 e3 e4 e5 e6 e7 e8 e9; rfl

theorem cg_v98 {x0 y0 : FVec Ideal ⟨2, ![8192, 1024]⟩ .f32} {x1 y1 : FVec Ideal ⟨2, ![8192, 2048]⟩ .bf16} {x2 y2 : FVec Ideal ⟨2, ![8192, 2048]⟩ .bf16} {x3 y3 : FVec Ideal ⟨2, ![8192, 15872]⟩ .bf16} {x4 y4 : FVec Ideal ⟨2, ![8192, 1024]⟩ .f32} {x5 y5 : FVec Ideal ⟨2, ![1, 1024]⟩ .f32} {x6 y6 : FVec Ideal ⟨2, ![1, 1024]⟩ .f32} {x7 y7 : FVec Ideal ⟨2, ![2048, 1024]⟩ .bf16} {x8 y8 : FVec Ideal ⟨2, ![2048, 1024]⟩ .bf16} {x9 y9 : FVec Ideal ⟨2, ![1024, 1024]⟩ .bf16} (e0 : y0 = x0) (e1 : y1 = x1) (e2 : y2 = x2) (e3 : y3 = x3) (e4 : y4 = x4) (e5 : y5 = x5) (e6 : y6 = x6) (e7 : y7 = x7) (e8 : y8 = x8) (e9 : y9 = x9) :
    val_main_v98 (F := Ideal) y0 y1 y2 y3 y4 y5 y6 y7 y8 y9 = val_main_v98 (F := Ideal) x0 x1 x2 x3 x4 x5 x6 x7 x8 x9 := by
  subst e0 e1 e2 e3 e4 e5 e6 e7 e8 e9; rfl

theorem cg_v99 {x0 y0 : FVec Ideal ⟨2, ![8192, 1024]⟩ .f32} {x1 y1 : FVec Ideal ⟨2, ![8192, 2048]⟩ .bf16} {x2 y2 : FVec Ideal ⟨2, ![8192, 2048]⟩ .bf16} {x3 y3 : FVec Ideal ⟨2, ![8192, 15872]⟩ .bf16} {x4 y4 : FVec Ideal ⟨2, ![8192, 1024]⟩ .f32} {x5 y5 : FVec Ideal ⟨2, ![1, 1024]⟩ .f32} {x6 y6 : FVec Ideal ⟨2, ![1, 1024]⟩ .f32} {x7 y7 : FVec Ideal ⟨2, ![2048, 1024]⟩ .bf16} {x8 y8 : FVec Ideal ⟨2, ![2048, 1024]⟩ .bf16} {x9 y9 : FVec Ideal ⟨2, ![1024, 1024]⟩ .bf16} (e0 : y0 = x0) (e1 : y1 = x1) (e2 : y2 = x2) (e3 : y3 = x3) (e4 : y4 = x4) (e5 : y5 = x5) (e6 : y6 = x6) (e7 : y7 = x7) (e8 : y8 = x8) (e9 : y9 = x9) :
    val_main_v99 (F := Ideal) y0 y1 y2 y3 y4 y5 y6 y7 y8 y9 = val_main_v99 (F := Ideal) x0 x1 x2 x3 x4 x5 x6 x7 x8 x9 := by
  subst e0 e1 e2 e3 e4 e5 e6 e7 e8 e9; rfl

theorem cg_v100 {x0 y0 : FVec Ideal ⟨2, ![8192, 1024]⟩ .f32} {x1 y1 : FVec Ideal ⟨2, ![8192, 2048]⟩ .bf16} {x2 y2 : FVec Ideal ⟨2, ![8192, 2048]⟩ .bf16} {x3 y3 : FVec Ideal ⟨2, ![8192, 15872]⟩ .bf16} {x4 y4 : FVec Ideal ⟨2, ![8192, 1024]⟩ .f32} {x5 y5 : FVec Ideal ⟨2, ![1, 1024]⟩ .f32} {x6 y6 : FVec Ideal ⟨2, ![1, 1024]⟩ .f32} {x7 y7 : FVec Ideal ⟨2, ![2048, 1024]⟩ .bf16} {x8 y8 : FVec Ideal ⟨2, ![2048, 1024]⟩ .bf16} {x9 y9 : FVec Ideal ⟨2, ![1024, 1024]⟩ .bf16} (e0 : y0 = x0) (e1 : y1 = x1) (e2 : y2 = x2) (e3 : y3 = x3) (e4 : y4 = x4) (e5 : y5 = x5) (e6 : y6 = x6) (e7 : y7 = x7) (e8 : y8 = x8) (e9 : y9 = x9) :
    val_main_v100 (F := Ideal) y0 y1 y2 y3 y4 y5 y6 y7 y8 y9 = val_main_v100 (F := Ideal) x0 x1 x2 x3 x4 x5 x6 x7 x8 x9 := by
  subst e0 e1 e2 e3 e4 e5 e6 e7 e8 e9; rfl

theorem cg_v101 {x0 y0 : FVec Ideal ⟨2, ![8192, 1024]⟩ .f32} {x1 y1 : FVec Ideal ⟨2, ![8192, 2048]⟩ .bf16} {x2 y2 : FVec Ideal ⟨2, ![8192, 2048]⟩ .bf16} {x3 y3 : FVec Ideal ⟨2, ![8192, 15872]⟩ .bf16} {x4 y4 : FVec Ideal ⟨2, ![8192, 1024]⟩ .f32} {x5 y5 : FVec Ideal ⟨2, ![1, 1024]⟩ .f32} {x6 y6 : FVec Ideal ⟨2, ![1, 1024]⟩ .f32} {x7 y7 : FVec Ideal ⟨2, ![2048, 1024]⟩ .bf16} {x8 y8 : FVec Ideal ⟨2, ![2048, 1024]⟩ .bf16} {x9 y9 : FVec Ideal ⟨2, ![1024, 1024]⟩ .bf16} (e0 : y0 = x0) (e1 : y1 = x1) (e2 : y2 = x2) (e3 : y3 = x3) (e4 : y4 = x4) (e5 : y5 = x5) (e6 : y6 = x6) (e7 : y7 = x7) (e8 : y8 = x8) (e9 : y9 = x9) :
    val_main_v101 (F := Ideal) y0 y1 y2 y3 y4 y5 y6 y7 y8 y9 = val_main_v101 (F := Ideal) x0 x1 x2 x3 x4 x5 x6 x7 x8 x9 := by
  subst e0 e1 e2 e3 e4 e5 e6 e7 e8 e9; rfl

theorem cg_v93 {x0 y0 : FVec Ideal ⟨2, ![8192, 1024]⟩ .f32} {x1 y1 : FVec Ideal ⟨2, ![8192, 2048]⟩ .bf16} {x2 y2 : FVec Ideal ⟨2, ![8192, 2048]⟩ .bf16} {x3 y3 : FVec Ideal ⟨2, ![8192, 15872]⟩ .bf16} {x4 y4 : FVec Ideal ⟨2, ![8192, 1024]⟩ .f32} {x5 y5 : FVec Ideal ⟨2, ![1, 1024]⟩ .f32} {x6 y6 : FVec Ideal ⟨2, ![1, 1024]⟩ .f32} {x7 y7 : FVec Ideal ⟨2, ![2048, 1024]⟩ .bf16} {x8 y8 : FVec Ideal ⟨2, ![2048, 1024]⟩ .bf16} {x9 y9 : FVec Ideal ⟨2, ![1024, 1024]⟩ .bf16} (e0 : y0 = x0) (e1 : y1 = x1) (e2 : y2 = x2) (e3 : y3 = x3) (e4 : y4 = x4) (e5 : y5 = x5) (e6 : y6 = x6) (e7 : y7 = x7) (e8 : y8 = x8) (e9 : y9 = x9) :
    val_main_v93 (F := Ideal) y0 y1 y2 y3 y4 y5 y6 y7 y8 y9 = val_main_v93 (F := Ideal) x0 x1 x2 x3 x4 x5 x6 x7 x8 x9 := by
  subst e0 e1 e2 e3 e4 e5 e6 e7 e8 e9; rfl

/-- The reference changes no argument and ends with all counters at zero. -/
theorem frameR : Cert.quiescent_ReferenceIdeal := by
  intro m g _
  refine (θ_run _ _ _).mono (fun r h => ⟨fun c => ?_, sem_eq_zero_of_no_sems (by decide) _⟩) (Cert.ReferenceIdeal.Value.run m g)
  obtain ⟨h0, h1, h2, h3, h4, h5, h6, h7, h8, ha⟩ := h c
  exact ha

/-- Both programs end with the same results. -/
theorem algebraic : Cert.algebraic_KernelIdeal_ReferenceIdeal_on_written := by
  intro m g m' g' hpre hagree
  refine ⟨fun c => val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => val_main_v95 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), fun c => val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => val_main_v97 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => val_main_v101 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run _ _ _).mono (fun r h c => ?_) (Cert.KernelIdeal.Value.run_blocks m g)
    obtain ⟨h0, h1, h2, h3, h4, h5, h6, h7, h8, ha⟩ := h c
    exact ⟨fun i _ => congrFun (h0.trans (res_0 m c)) i, fun i _ => congrFun (h1.trans (res_1 m c)) i, fun i _ => congrFun (h2.trans (res_2 m c)) i, fun i _ => congrFun (h3.trans (res_3 m c)) i, fun i _ => congrFun (h4.trans (res_4 m c)) i, fun i _ => congrFun (h5.trans (res_5 m c)) i, fun i _ => congrFun (h6.trans (res_6 m c)) i, fun i hi => (congrFun h7 i).trans (res_7 m c i (cols hi)), fun i _ => congrFun (h8.trans (res_8 m c)) i, ha⟩
  · refine (θ_run _ _ _).mono (fun r h c => ?_) (Cert.ReferenceIdeal.Value.run m' g')
    obtain ⟨h0, h1, h2, h3, h4, h5, h6, h7, h8, ha⟩ := h c
    obtain ⟨e0, e1, e2, e3, e4, e5, e6, e7, e8, e9⟩ := hagree c
    exact ⟨fun i _ => congrFun ((h0.trans (val_main_v75_eq m' c)).trans (cg_v75 e0 e1 e2 e3 e4 e5 e6 e7 e8 e9)) i,
      fun i _ => congrFun ((h1.trans (val_main_v95_eq _ _ _ _ _)).trans (cg_v95 e1 e2 e3 e7 e8)) i,
      fun i _ => congrFun ((h2.trans (val_main_v96_eq m' c)).trans (cg_v96 e0 e1 e2 e3 e4 e5 e6 e7 e8 e9)) i,
      fun i _ => congrFun ((h3.trans (val_main_v97_eq m' c)).trans (cg_v97 e0 e1 e2 e3 e4 e5 e6 e7 e8 e9)) i,
      fun i _ => congrFun ((h4.trans (val_main_v98_eq m' c)).trans (cg_v98 e0 e1 e2 e3 e4 e5 e6 e7 e8 e9)) i,
      fun i _ => congrFun ((h5.trans (val_main_v99_eq m' c)).trans (cg_v99 e0 e1 e2 e3 e4 e5 e6 e7 e8 e9)) i,
      fun i _ => congrFun ((h6.trans (val_main_v100_eq m' c)).trans (cg_v100 e0 e1 e2 e3 e4 e5 e6 e7 e8 e9)) i,
      fun i _ => congrFun ((h7.trans (val_main_v101_eq m' c)).trans (cg_v101 e0 e1 e2 e3 e4 e5 e6 e7 e8 e9)) i,
      fun i _ => congrFun ((h8.trans (val_main_v93_eq m' c)).trans (cg_v93 e0 e1 e2 e3 e4 e5 e6 e7 e8 e9)) i, ha⟩

end Cert.Merge.Claim
-- ==== Proof.Norm.Row.lean ====
module

public import proofs.«01_k».proof.Proof.Merge.Row
public import Idealize.ShloMosaic.Lib.Pipeline.ValueKit

/-! # The input norm's gradient, row by row -/

@[expose] public section

set_option maxRecDepth 16384

noncomputable section

open Idealize.ShloMosaic Idealize.ShloMosaic.TcCoe Idealize.SL.Sem
open Idealize.ShloMosaic.Pipeline (Dat)
open Cert.Merge (rs width eps mhalf gxK gxR gvR gx_eq rs_cases)
open scoped BigOperators

namespace Cert.Norm

/-- The accumulated rows' shares of `n` rows: the weight's gradient, the scale's, the shift's. -/
def part {n : ℕ} (D X : Fin n → Fin 1024 → EReal) (w s : Fin 1024 → EReal) (a : Fin 8) (l : Fin 1024) : EReal :=
  if (a : ℕ) = 0 then (∑ r, D r l * (X r l * rs (X r))) * (1 + s l)
  else if (a : ℕ) = 1 then (∑ r, D r l * (X r l * rs (X r))) * w l
  else if (a : ℕ) = 2 then ∑ r, D r l else 0

/-- The same three gradients, as the reference adds them. -/
def total (D X : Fin 8192 → Fin 1024 → EReal) (w s : Fin 1024 → EReal) (a : Fin 8) (l : Fin 1024) : EReal :=
  if (a : ℕ) = 0 then ∑ r, X r l * rs (X r) * (D r l * (1 + s l))
  else if (a : ℕ) = 1 then ∑ r, X r l * rs (X r) * w l * D r l
  else if (a : ℕ) = 2 then ∑ r, D r l else 0

/-- The kernel's: block by block. -/
def blocks (D X : Fin 8192 → Fin 1024 → EReal) (w s : Fin 1024 → EReal) (a : Fin 8) (l : Fin 1024) : EReal :=
  ∑ b : Fin 16, part (fun r : Fin 512 => D ⟨b.val * 512 + r, by omega⟩) (fun r : Fin 512 => X ⟨b.val * 512 + r, by omega⟩) w s a l

variable {D X : Fin 8192 → Fin 1024 → EReal} {w s : Fin 1024 → EReal}

/-- The shift's row, and the empty ones, agree. -/
theorem rest (a : Fin 8) (h : 2 ≤ (a : ℕ)) (l : Fin 1024) : blocks D X w s a l = total D X w s a l := by
  unfold blocks part total
  simp only [if_neg (show ¬ (a : ℕ) = 0 by omega), if_neg (show ¬ (a : ℕ) = 1 by omega)]
  by_cases h2 : (a : ℕ) = 2
  · simp only [if_pos h2]
    exact Fin.sum_mul_add_congr fun b k hl => rfl
  · simp only [if_neg h2, Finset.sum_const_zero]

/-- A sum of numbers times a number. -/
theorem sum_coe_mul {n : ℕ} (f : Fin n → EReal) (c : EReal) (hf : ∀ r, ∃ q : ℝ, f r = q) (hc : ∃ q : ℝ, c = q) :
    (∑ r, f r) * c = ∑ r, f r * c := by
  obtain ⟨q, rfl⟩ := hc
  choose g hg using hf
  have e : f = fun r => ((g r : ℝ) : EReal) := funext hg
  subst e
  simp only [← EReal.coe_mul]
  have hs : ∀ h : Fin n → ℝ, ∑ r, ((h r : ℝ) : EReal) = ((∑ r, h r : ℝ) : EReal) := fun h => by
    induction (Finset.univ : Finset (Fin n)) using Finset.induction_on with
    | empty => simp
    | insert i t hi ih => rw [Finset.sum_insert hi, Finset.sum_insert hi, ih, EReal.coe_add]
  rw [hs, hs, ← EReal.coe_mul, Finset.sum_mul]

theorem rs_num (o : Fin 1024 → EReal) : ∃ q : ℝ, rs o = q := by
  rcases rs_cases o with ⟨v, _, _, h⟩ | ⟨_, h⟩
  · exact ⟨_, h⟩
  · exact ⟨0, by rw [h, EReal.coe_zero]⟩

/-- Where the arguments are numbers every row agrees. -/
theorem all (hD : ∀ r l, ∃ q : ℝ, D r l = q) (hX : ∀ r l, ∃ q : ℝ, X r l = q) (hw : ∀ l, ∃ q : ℝ, w l = q)
    (hs : ∀ l, ∃ q : ℝ, s l = q) (a : Fin 8) (l : Fin 1024) : blocks D X w s a l = total D X w s a l := by
  by_cases h : 2 ≤ (a : ℕ)
  · exact rest a h l
  have ht : ∀ r, ∃ q : ℝ, D r l * (X r l * rs (X r)) = q := fun r => by
    obtain ⟨d, hd⟩ := hD r l
    obtain ⟨x, hx⟩ := hX r l
    obtain ⟨q, hq⟩ := rs_num (X r)
    exact ⟨d * (x * q), by rw [hd, hx, hq, ← EReal.coe_mul, ← EReal.coe_mul]⟩
  unfold blocks part total
  by_cases h0 : (a : ℕ) = 0
  · simp only [if_pos h0]
    obtain ⟨q, hq⟩ := hs l
    have hc : ∃ q : ℝ, 1 + s l = q := ⟨1 + q, by rw [hq, EReal.coe_add, EReal.coe_one]⟩
    simp only [fun b : Fin 16 => sum_coe_mul (fun r : Fin 512 => D ⟨b.val * 512 + r, by omega⟩ l * (X ⟨b.val * 512 + r, by omega⟩ l * rs (X ⟨b.val * 512 + r, by omega⟩))) _ (fun r => ht _) hc]
    refine Fin.sum_mul_add_congr (L := 8192) (S := 16) (n := 512) fun b k hl => ?_
    ac_rfl
  · have h1 : (a : ℕ) = 1 := by omega
    simp only [if_neg h0, if_pos h1]
    simp only [fun b : Fin 16 => sum_coe_mul (fun r : Fin 512 => D ⟨b.val * 512 + r, by omega⟩ l * (X ⟨b.val * 512 + r, by omega⟩ l * rs (X ⟨b.val * 512 + r, by omega⟩))) _ (fun r => ht _) (hw l)]
    refine Fin.sum_mul_add_congr (L := 8192) (S := 16) (n := 512) fun b k hl => ?_
    ac_rfl

end Cert.Norm

end
-- ==== Proof.Norm.Kernel.lean ====
module

public import proofs.«01_k».proof.Proof.Gen.KernelNormIdeal.Value
public import Idealize.ShloMosaic.Lib.WritesUnit
public import Idealize.ShloMosaic.Lib.Pipeline.ReadBack
public import proofs.«01_k».proof.Proof.Norm.Row
public import Idealize.ShloMosaic.Lib.Pipeline.ValueKit
public import Idealize.ShloMosaic.Lib.Pointwise
public import Idealize.ShloMosaic.Lib.Claim

/-! # What the input norm's gradient call leaves in its two results -/

@[expose] public section

set_option maxRecDepth 16384

noncomputable section

open Idealize.ShloMosaic Idealize.ShloMosaic.TcCoe Idealize.SL.Sem
open Idealize.ShloMosaic.Pipeline (Dat)
open Cert.Merge (rs width eps mhalf gxK gxR gvR gx_eq rs_cases)
open scoped BigOperators

namespace Cert.Norm

open Cert.KernelNormIdeal Cert.KernelNormIdeal.Gen

section block

variable (x d : FVec Ideal S512x1024 .f32) (w s : FVec Ideal S1x1024 .f32) (e : FVec Ideal S512x1024 .f32) (acc : FVec Ideal S1x1024 .f32)

theorem rs_at (r : Fin 512) (z : Fin 1) : k0_pay5 (F := Ideal) x (ix2 r z) = rs (fun k => x (ix2 r k)) := by
  pointwise [k0_pay5, rs]

theorem xn_at (r : Fin 512) (l : Fin 1024) : k0_pay6 (F := Ideal) x (ix2 r l) = x (ix2 r l) * rs (fun k => x (ix2 r k)) := by
  pointwise [k0_pay6, rs_at x]

theorem gx_at (r : Fin 512) (l : Fin 1024) : k0_pay8 (F := Ideal) x d w s e (ix2 r l)
    = gxK (fun k => x (ix2 r k)) (fun k => d (ix2 r k) * (w (ix2 0 k) * (1 + s (ix2 0 k)))) l + e (ix2 r l) := by
  pointwise [k0_pay8, k0_pay7, rs_at x, xn_at x, gxK]
  try rfl

theorem t_at (r : Fin 512) (l : Fin 1024) : k0_pay9 (F := Ideal) x d (ix2 r l) = d (ix2 r l) * (x (ix2 r l) * rs (fun k => x (ix2 r k))) := by
  pointwise [k0_pay9, xn_at x]

abbrev partB (a : Fin 8) (l : Fin 1024) : EReal :=
  part (fun (r : Fin 512) k => d (ix2 r k)) (fun (r : Fin 512) k => x (ix2 r k)) (fun k => w (ix2 0 k)) (fun k => s (ix2 0 k)) a l

theorem row0_at (z : Fin 1) (l : Fin 1024) : k0_pay1 (F := Ideal) (k0_pay7 s) (k0_pay9 x d) acc (ix2 z l) = acc (ix2 z l) + partB x d w s 0 l := by
  obtain rfl : z = 0 := Subsingleton.elim _ _
  pointwise [k0_pay1, k0_pay7, t_at x d, partB, part]
  try rfl

theorem row1_at (z : Fin 1) (l : Fin 1024) : k0_pay2 (F := Ideal) w (k0_pay9 x d) acc (ix2 z l) = acc (ix2 z l) + partB x d w s 1 l := by
  obtain rfl : z = 0 := Subsingleton.elim _ _
  pointwise [k0_pay2, t_at x d, partB, part]
  try rfl

theorem row2_at (z : Fin 1) (l : Fin 1024) : k0_pay3 (F := Ideal) d acc (ix2 z l) = acc (ix2 z l) + partB x d w s 2 l := by
  pointwise [k0_pay3, partB, part]
  try rfl

theorem part_else (a : Fin 8) (h : 3 ≤ (a : ℕ)) (l : Fin 1024) : partB x d w s a l = 0 := by
  unfold partB part
  rw [if_neg (by omega), if_neg (by omega), if_neg (by omega)]

end block

variable (m : (ℓ : Loc nD τ sig) → Buf (Elt Ideal) ℓ)

/-- Every window's block at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] :=
  (by decide +kernel : ∀ t : Fin grid0.N, _)

theorem point_lt (t : Fin cfg0.N) : t.val < 16 := lt_of_lt_of_eq t.isLt N_0

def row (t : Fin cfg0.N) (r : Fin 512) : Fin 8192 := ⟨t.val * 512 + r, by have := point_lt t; omega⟩

section args

variable (du x dres : FVec Ideal S8192x1024 .f32) (w s : FVec Ideal S1x1024 .f32)

/-- The gradient of the input, of the arguments. -/
def gradx (r : Fin 8192) (l : Fin 1024) : EReal :=
  gxK (fun k => x (ix2 r k)) (fun k => du (ix2 r k) * (w (ix2 0 k) * (1 + s (ix2 0 k)))) l + dres (ix2 r l)
def gradxA : FVec Ideal S8192x1024 .f32 := fun i => gradx du x dres w s (i 0) (i 1)
def sums (a : Fin 8) (l : Fin 1024) : EReal :=
  blocks (fun r k => du (ix2 r k)) (fun r k => x (ix2 r k)) (fun k => w (ix2 0 k)) (fun k => s (ix2 0 k)) a l
def sumsA : FVec Ideal S8x1024 .f32 := fun i => sums du x w s (i 0) (i 1)

end args

abbrev aD (c : Dev nD) : FVec Ideal S8192x1024 .f32 := m ((c : Thread nD τ).loc main_arg0)
abbrev aX (c : Dev nD) : FVec Ideal S8192x1024 .f32 := m ((c : Thread nD τ).loc main_arg1)
abbrev aE (c : Dev nD) : FVec Ideal S8192x1024 .f32 := m ((c : Thread nD τ).loc main_arg2)
abbrev aW (c : Dev nD) : FVec Ideal S1x1024 .f32 := m ((c : Thread nD τ).loc main_arg3)
abbrev aS (c : Dev nD) : FVec Ideal S1x1024 .f32 := m ((c : Thread nD τ).loc main_arg4)

theorem rdD (c : Dev nD) (t : Fin cfg0.N) (r : Fin 512) (k : Fin 1024) : (iblk m c 0 t : FVec Ideal S512x1024 .f32) (ix2 r k) = aD m c (ix2 (row t r) k) := by
  unfold row; blk_ext [iblk, V, idx t]
theorem rdX (c : Dev nD) (t : Fin cfg0.N) (r : Fin 512) (k : Fin 1024) : (iblk m c 1 t : FVec Ideal S512x1024 .f32) (ix2 r k) = aX m c (ix2 (row t r) k) := by
  unfold row; blk_ext [iblk, V, idx t]
theorem rdE (c : Dev nD) (t : Fin cfg0.N) (r : Fin 512) (k : Fin 1024) : (iblk m c 2 t : FVec Ideal S512x1024 .f32) (ix2 r k) = aE m c (ix2 (row t r) k) := by
  unfold row; blk_ext [iblk, V, idx t]
theorem rdW (c : Dev nD) (t : Fin cfg0.N) (k : Fin 1024) : (iblk m c 3 t : FVec Ideal S1x1024 .f32) (ix2 0 k) = aW m c (ix2 0 k) := by
  blk_ext [iblk, V, idx t]
theorem rdS (c : Dev nD) (t : Fin cfg0.N) (k : Fin 1024) : (iblk m c 4 t : FVec Ideal S1x1024 .f32) (ix2 0 k) = aS m c (ix2 0 k) := by
  blk_ext [iblk, V, idx t]

/-! ## The gradient of the input -/

theorem blk_gx (c : Dev nD) (t : Fin cfg0.N) (r : Fin 512) (l : Fin 1024) :
    k0_pay8 (F := Ideal) (iblk m c 1 t) (iblk m c 0 t) (iblk m c 3 t) (iblk m c 4 t) (iblk m c 2 t) (ix2 r l)
      = gradx (aD m c) (aX m c) (aE m c) (aW m c) (aS m c) (row t r) l := by
  refine (gx_at (iblk m c 1 t) (iblk m c 0 t) (iblk m c 3 t) (iblk m c 4 t) (iblk m c 2 t) r l).trans ?_
  unfold gradx
  simp only [rdD m c t, rdX m c t, rdE m c t, rdW m c t, rdS m c t]

theorem point_5 (c : Dev nD) (t : Fin cfg0.N) (r : Fin 512) (l : Fin 1024) :
    (outsAt0 m c t.val t.isLt).1 (ix2 r l) = gradx (aD m c) (aX m c) (aE m c) (aW m c) (aS m c) (row t r) l := by
  refine Eq.trans ?_ (blk_gx m c t r l)
  by_cases h : t.val % 16 = 0
  · rw [outsAt0_A m c t h]; frame_out
  · rw [outsAt0_B m c t h]; frame_out

theorem emb_5 (t : Fin cfg0.N) (r : Fin 512) (l : Fin 1024) (f : FVec Ideal S8192x1024 .f32) :
    f (((cfg0.win 5).blk t).view.emb (ix2 r l)) = f (ix2 (row t r) l) := by
  unfold row; blk_ext [idx t]

theorem final_5 (c : Dev nD) : (dats m 0 c).arrAt 5 (cfgs 0).N = gradxA (aD m c) (aX m c) (aE m c) (aW m c) (aS m c) := by
  refine (dats m 0 c).arrAt_eq_of_covers 5 _ (by decide +kernel) fun t hf y => ?_
  obtain ⟨r, l, rfl⟩ : ∃ (r : Fin 512) (l : Fin 1024), y = ix2 r l := ⟨y 0, y 1, eq_ix2 y⟩
  rw [after0_5]
  exact (point_5 m c t r l).trans (emb_5 t r l (gradxA (aD m c) (aX m c) (aE m c) (aW m c) (aS m c))).symm

/-! ## The accumulated rows -/

/-- One block's share. -/
def share (c : Dev nD) (t : Fin cfg0.N) (a : Fin 8) (l : Fin 1024) : EReal :=
  partB (iblk m c 1 t) (iblk m c 0 t) (iblk m c 3 t) (iblk m c 4 t) a l

theorem share_eq (c : Dev nD) (t : Fin cfg0.N) (a : Fin 8) (l : Fin 1024) : share m c t a l
    = part (fun (r : Fin 512) k => aD m c (ix2 (row t r) k)) (fun (r : Fin 512) k => aX m c (ix2 (row t r) k)) (fun k => aW m c (ix2 0 k)) (fun k => aS m c (ix2 0 k)) a l := by
  unfold share partB
  simp only [rdD m c t, rdX m c t, rdW m c t, rdS m c t]

theorem step_6 (c : Dev nD) (t : Fin cfg0.N) (h : ¬ t.val % 16 = 0) (a : Fin 8) (l : Fin 1024) :
    (outsAt0 m c t.val t.isLt).2 (ix2 a l)
      = (outsAt0 m c (t.val - 1) (Nat.lt_of_le_of_lt (Nat.sub_le _ _) t.isLt)).2 (ix2 a l) + share m c t a l := by
  unfold share
  rw [outsAt0_B m c t h]; frame_out
  generalize (outsAt0 m c (t.val - 1) _).2 = P
  by_cases h0 : a = 0
  · subst h0
    refine (View.read_writes_cons_rows_of_not_mem (o := 2) (W := 1) (ms0_6 t).view _ _ _ _ (ix2 0 l) rfl rfl (by first | (left; exact Nat.zero_lt_succ _) | (left; exact Nat.lt_succ_self _))).trans ?_
    refine (View.read_writes_cons_rows_of_not_mem (o := 1) (W := 1) (ms0_6 t).view _ _ _ _ (ix2 0 l) rfl rfl (by first | (left; exact Nat.zero_lt_succ _) | (left; exact Nat.lt_succ_self _))).trans ?_
    refine (View.read_writes_cons_rows_of_mem (o := 0) (ms0_6 t).view _ _ _ _ (ix2 0 l) (ix2 (0 : Fin 1) l) rfl rfl rfl).trans ?_
    refine (row0_at (iblk m c 1 t) (iblk m c 0 t) (iblk m c 3 t) (iblk m c 4 t) _ 0 l).trans ?_
    congr 1
    pointwise
  by_cases h1 : a = 1
  · subst h1
    refine (View.read_writes_cons_rows_of_not_mem (o := 2) (W := 1) (ms0_6 t).view _ _ _ _ (ix2 1 l) rfl rfl (by first | (left; exact Nat.zero_lt_succ _) | (left; exact Nat.lt_succ_self _))).trans ?_
    refine (View.read_writes_cons_rows_of_mem (o := 1) (ms0_6 t).view _ _ _ _ (ix2 1 l) (ix2 (0 : Fin 1) l) rfl rfl rfl).trans ?_
    refine (row1_at (iblk m c 1 t) (iblk m c 0 t) (iblk m c 3 t) (iblk m c 4 t) _ 0 l).trans ?_
    congr 1
    pointwise
  by_cases h2 : a = 2
  · subst h2
    refine (View.read_writes_cons_rows_of_mem (o := 2) (ms0_6 t).view _ _ _ _ (ix2 2 l) (ix2 (0 : Fin 1) l) rfl rfl rfl).trans ?_
    refine (row2_at (iblk m c 1 t) (iblk m c 0 t) (iblk m c 3 t) (iblk m c 4 t) _ 0 l).trans ?_
    congr 1
    pointwise
  have h3 : 3 ≤ (a : ℕ) := by omega
  rw [part_else _ _ _ _ _ h3, add_zero]
  refine (View.read_writes_cons_rows_of_not_mem (o := 2) (W := 1) (ms0_6 t).view _ _ _ _ (ix2 a l) rfl rfl (by right; exact h3)).trans ?_
  refine (View.read_writes_cons_rows_of_not_mem (o := 1) (W := 1) (ms0_6 t).view _ _ _ _ (ix2 a l) rfl rfl (by right; show 2 ≤ (a : ℕ); omega)).trans ?_
  refine (View.read_writes_cons_rows_of_not_mem (o := 0) (W := 1) (ms0_6 t).view _ _ _ _ (ix2 a l) rfl rfl (by right; show 1 ≤ (a : ℕ); omega)).trans ?_
  exact congrFun (Memref.IsWhole.read_unread _ _) _

theorem reset_6 (c : Dev nD) (t : Fin cfg0.N) (h : t.val % 16 = 0) (a : Fin 8) (l : Fin 1024) :
    (outsAt0 m c t.val t.isLt).2 (ix2 a l) = 0 + share m c t a l := by
  unfold share
  rw [outsAt0_A m c t h]; frame_out
  rw [← View.read_writes_junk_eq_canon (ms0_6 t).view]
  by_cases h0 : a = 0
  · subst h0
    refine (View.read_writes_cons_rows_of_not_mem (o := 2) (W := 1) (ms0_6 t).view _ _ _ _ (ix2 0 l) rfl rfl (by first | (left; exact Nat.zero_lt_succ _) | (left; exact Nat.lt_succ_self _))).trans ?_
    refine (View.read_writes_cons_rows_of_not_mem (o := 1) (W := 1) (ms0_6 t).view _ _ _ _ (ix2 0 l) rfl rfl (by first | (left; exact Nat.zero_lt_succ _) | (left; exact Nat.lt_succ_self _))).trans ?_
    refine (View.read_writes_cons_rows_of_mem (o := 0) (ms0_6 t).view _ _ _ _ (ix2 0 l) (ix2 (0 : Fin 1) l) rfl rfl rfl).trans ?_
    refine (row0_at (iblk m c 1 t) (iblk m c 0 t) (iblk m c 3 t) (iblk m c 4 t) _ 0 l).trans ?_
    congr 1
    rw [View.readCov_fill _ _ _ _ _ (by decide)]
    pointwise [k0_pay4]
  by_cases h1 : a = 1
  · subst h1
    refine (View.read_writes_cons_rows_of_not_mem (o := 2) (W := 1) (ms0_6 t).view _ _ _ _ (ix2 1 l) rfl rfl (by first | (left; exact Nat.zero_lt_succ _) | (left; exact Nat.lt_succ_self _))).trans ?_
    refine (View.read_writes_cons_rows_of_mem (o := 1) (ms0_6 t).view _ _ _ _ (ix2 1 l) (ix2 (0 : Fin 1) l) rfl rfl rfl).trans ?_
    refine (row1_at (iblk m c 1 t) (iblk m c 0 t) (iblk m c 3 t) (iblk m c 4 t) _ 0 l).trans ?_
    congr 1
    rw [View.readCov_skip _ _ _ _ _ (by decide +kernel), View.readCov_fill _ _ _ _ _ (by decide)]
    pointwise [k0_pay4]
  by_cases h2 : a = 2
  · subst h2
    refine (View.read_writes_cons_rows_of_mem (o := 2) (ms0_6 t).view _ _ _ _ (ix2 2 l) (ix2 (0 : Fin 1) l) rfl rfl rfl).trans ?_
    refine (row2_at (iblk m c 1 t) (iblk m c 0 t) (iblk m c 3 t) (iblk m c 4 t) _ 0 l).trans ?_
    congr 1
    rw [View.readCov_skip _ _ _ _ _ (by decide +kernel), View.readCov_skip _ _ _ _ _ (by decide +kernel), View.readCov_fill _ _ _ _ _ (by decide)]
    pointwise [k0_pay4]
  have h3 : 3 ≤ (a : ℕ) := by omega
  rw [part_else _ _ _ _ _ h3, add_zero]
  refine (View.read_writes_cons_rows_of_not_mem (o := 2) (W := 1) (ms0_6 t).view _ _ _ _ (ix2 a l) rfl rfl (by right; exact h3)).trans ?_
  refine (View.read_writes_cons_rows_of_not_mem (o := 1) (W := 1) (ms0_6 t).view _ _ _ _ (ix2 a l) rfl rfl (by right; show 2 ≤ (a : ℕ); omega)).trans ?_
  refine (View.read_writes_cons_rows_of_not_mem (o := 0) (W := 1) (ms0_6 t).view _ _ _ _ (ix2 a l) rfl rfl (by right; show 1 ≤ (a : ℕ); omega)).trans ?_
  refine (View.read_writes_cons_rows_of_mem (o := 0) (ms0_6 t).view _ _ _ _ (ix2 a l) (ix2 a l) rfl (Nat.zero_add _).symm rfl).trans ?_
  pointwise [k0_pay4]

theorem emb_6 (t : Fin cfg0.N) (a : Fin 8) (l : Fin 1024) (f : FVec Ideal S8x1024 .f32) :
    f (((cfg0.win 6).blk t).view.emb (ix2 a l)) = f (ix2 a l) := by
  blk_ext [idx t]

theorem sum_6 (c : Dev nD) (t : Fin cfg0.N) (hf : (cfg0.win 6).flush t = true) (a : Fin 8) (l : Fin 1024) :
    (outsAt0 m c t.val t.isLt).2 (ix2 a l) = sums (aD m c) (aX m c) (aW m c) (aS m c) a l := by
  rw [Pipeline.eq_sum_fin_of_reset_step_apply_of_flush (fun n h => (outsAt0 m c n h).2) 16 (fun _ => 0)
    (fun n j => share m c n (j 0) (j 1))
    (fun t h j => by
      obtain ⟨a, l, rfl⟩ : ∃ (a : Fin 8) (l : Fin 1024), j = ix2 a l := ⟨j 0, j 1, eq_ix2 j⟩
      exact reset_6 m c t h a l)
    (fun t h j => by
      obtain ⟨a, l, rfl⟩ : ∃ (a : Fin 8) (l : Fin 1024), j = ix2 a l := ⟨j 0, j 1, eq_ix2 j⟩
      exact step_6 m c t h a l)
    t ((flush0_6 t).mp hf) _, zero_add]
  unfold sums blocks
  refine Finset.sum_congr rfl fun b _ => ?_
  refine (share_eq m c _ a l).trans ?_
  have hr : ∀ r : Fin 512, row (⟨16 * (t.val / 16) + b.val, Pipeline.run_point_lt_of_flush t ((flush0_6 t).mp hf) b⟩ : Fin cfg0.N) r = ⟨b.val * 512 + r, by omega⟩ := fun r => Fin.ext (by
    show (16 * (t.val / 16) + b.val) * 512 + r.val = b.val * 512 + r.val
    have := point_lt t
    omega)
  simp only [hr]

theorem final_6 (c : Dev nD) : (dats m 0 c).arrAt 6 (cfgs 0).N = sumsA (aD m c) (aX m c) (aW m c) (aS m c) := by
  refine (dats m 0 c).arrAt_eq_of_covers 6 _ (by decide +kernel) fun t hf y => ?_
  obtain ⟨a, l, rfl⟩ : ∃ (a : Fin 8) (l : Fin 1024), y = ix2 a l := ⟨y 0, y 1, eq_ix2 y⟩
  rw [after0_6]
  exact (sum_6 m c t hf a l).trans (emb_6 t a l (sumsA (aD m c) (aX m c) (aW m c) (aS m c))).symm

end Cert.Norm

end
-- ==== Proof.Norm.Ref.lean ====
module

public import proofs.«01_k».proof.Proof.Gen.ReferenceNormIdeal.Read
public import proofs.«01_k».proof.Proof.Norm.Row
public import Idealize.ShloMosaic.Lib.Pointwise
public import Idealize.ShloMosaic.Lib.IdealHost

/-! # The reference's input norm gradient, row by row -/

@[expose] public section

set_option maxRecDepth 16384

noncomputable section

open Idealize.ShloMosaic Idealize.ShloMosaic.TcCoe Idealize.SL.Sem
open Idealize.ShloMosaic.Pipeline (Dat)
open Cert.Merge (rs width eps mhalf gxK gxR gvR gx_eq rs_cases)
open scoped BigOperators

namespace Cert.Norm.Ref

open Cert.ReferenceNormIdeal Cert.ReferenceNormIdeal.Read

variable (x0 x1 x2 : FVec Ideal ⟨2, ![8192, 1024]⟩ .f32) (x3 x4 : FVec Ideal ⟨2, ![1, 1024]⟩ .f32)

/-- The arguments' rows. -/
abbrev D (r : Fin 8192) (k : Fin 1024) : EReal := x0 (ix2 r k)
abbrev X (r : Fin 8192) (k : Fin 1024) : EReal := x1 (ix2 r k)
abbrev W (k : Fin 1024) : EReal := x3 (ix2 0 k)
abbrev S (k : Fin 1024) : EReal := x4 (ix2 0 k)
abbrev dn (r : Fin 8192) (k : Fin 1024) : EReal := D x0 r k * (1 + S x4 k) * W x3 k

theorem ms (r : Fin 8192) (z : Fin 1) : val_main_v7 (F := Ideal) x1 (ix2 r z) = Ideal.div (∑ k, X x1 r k * X x1 r k) width + eps := by
  pointwise [val_main_v7, val_main_v6, val_main_v5, val_main_v4, val_main_v3, val_main_v2, val_main_v1, val_main_cst_0, val_main_cst_1, val_main_cst_2]
  try simp

theorem rsq (r : Fin 8192) (z : Fin 1) : val_main_v8 (F := Ideal) x1 (ix2 r z) = rs (X x1 r) := by
  pointwise [val_main_v8, ms x1, rs]

theorem xn (r : Fin 8192) (l : Fin 1024) : val_main_v13 (F := Ideal) x1 (ix2 r l) = X x1 r l * rs (X x1 r) := by
  pointwise [val_main_v13, val_main_v12, rsq x1]

theorem dsc (r : Fin 8192) (l : Fin 1024) : val_main_v29 (F := Ideal) x0 x4 (ix2 r l) = D x0 r l * (1 + S x4 l) := by
  pointwise [val_main_v29, val_main_v28, val_main_v22, val_main_v17, val_main_v16, val_main_cst_4]

theorem don (r : Fin 8192) (l : Fin 1024) : val_main_v34 (F := Ideal) x0 x3 x4 (ix2 r l) = dn x0 x3 x4 r l := by
  pointwise [val_main_v34, val_main_v33, dsc x0 x4]

theorem dms (r : Fin 8192) (l : Fin 1024) : val_main_v44 (F := Ideal) x0 x1 x3 x4 (ix2 r l) = gvR (X x1 r) (dn x0 x3 x4 r) := by
  pointwise [val_main_v44, val_main_v43, val_main_v42, val_main_v41, val_main_v40, val_main_v37, val_main_v36, val_main_v35, val_main_v11, val_main_v10, val_main_v9, val_main_cst_3, val_main_cst_8, val_main_cst_9, val_main_cst_10, don x0 x3 x4, ms x1, rsq x1, gvR]
  try simp

theorem gx (r : Fin 8192) (l : Fin 1024) : val_main_v49 (F := Ideal) x0 x1 x2 x3 x4 (ix2 r l) = gxK (X x1 r) (fun k => D x0 r k * (W x3 k * (1 + S x4 k))) l + x2 (ix2 r l) := by
  have e : (fun k => D x0 r k * (W x3 k * (1 + S x4 k))) = dn x0 x3 x4 r := funext fun k => by unfold dn; ac_rfl
  rw [e, ← gx_eq]
  pointwise [val_main_v49, val_main_v48, val_main_v47, val_main_v46, val_main_v45, val_main_v39, val_main_v38, don x0 x3 x4, rsq x1, dms x0 x1 x3 x4, gxR]

theorem r0 (z : Fin 1) (l : Fin 1024) : val_main_v32 (F := Ideal) x0 x1 x4 (ix2 z l) = total (D x0) (X x1) (W x3) (S x4) 0 l := by
  pointwise [val_main_v32, val_main_v31, val_main_v30, val_main_cst_7, xn x1, dsc x0 x4, total]
  try simp

theorem r1 (z : Fin 1) (l : Fin 1024) : val_main_v27 (F := Ideal) x0 x1 x3 (ix2 z l) = total (D x0) (X x1) (W x3) (S x4) 1 l := by
  pointwise [val_main_v27, val_main_v26, val_main_v25, val_main_v22, val_main_v15, val_main_v14, val_main_cst_6, xn x1, total]
  try simp

theorem r2 (z : Fin 1) (l : Fin 1024) : val_main_v24 (F := Ideal) x0 (ix2 z l) = total (D x0) (X x1) (W x3) (S x4) 2 l := by
  pointwise [val_main_v24, val_main_v23, val_main_cst_5, total]
  try simp

theorem acc (a : Fin 8) (l : Fin 1024) : val_main_v51 (F := Ideal) x0 x1 x3 x4 (ix2 a l) = total (D x0) (X x1) (W x3) (S x4) a l := by
  unfold val_main_v51
  fin_cases a
  · exact r0 x0 x1 x3 x4 0 l
  · exact r1 x0 x1 x3 x4 0 l
  · exact r2 x0 x1 x3 x4 0 l
  all_goals pointwise [val_main_v50, val_main_cst_11, total]

end Cert.Norm.Ref

end
-- ==== Proof.Norm.Pre.lean ====
module

public import proofs.«01_k».proof.Pre_numbers
public import proofs.«01_k».proof.On_shifts
public import Idealize.ShloMosaic.Lib.ReduceAll
public import Idealize.ShloMosaic.Lib.IdealHost
public import Idealize.ShloMosaic.Lib.Pointwise
public import Idealize.ShloMosaic.Lib.Affine

/-! # What the precondition and the mask say -/

@[expose] public section

noncomputable section

namespace Cert.Norm

open Idealize.ShloMosaic

theorem inf_f32 : Ideal.ofBits .f32 0x7F800000#32 = ⊤ := by simp [Ideal.ofBits, Ideal.ieee]

theorem both : ∀ {c d : BitVec 1}, IntOp.andi c d = 1#1 ↔ c = 1#1 ∧ d = 1#1 := by decide

/-- A value whose size is below infinity is a number. -/
theorem num_of_abs {x : EReal} (h : max x (-x) < ⊤) : ∃ q : ℝ, x = q := by
  induction x using EReal.rec with
  | bot => simp at h
  | top => simp at h
  | coe r => exact ⟨r, rfl⟩

/-- One array's part of the precondition. -/
theorem num_of {s : Shape} (X : FVec Ideal s .f32)
    {bc : Cert.Pre_numbers.S_.BroadcastsInDim s (![] : Fin 0 → Fin s.rank)} {axes : List (Fin s.rank)} {c : IVec Cert.Pre_numbers.S_ 1}
    {h : s.ReducesTo axes Cert.Pre_numbers.S_} {hu : 0 < Cert.Pre_numbers.S_.numel} {j : Cert.Pre_numbers.S_.Idx}
    (e : Host.reduce IntOp.andi (cmpf .olt (Host.absf X) (broadcastInDim s ![] bc (constant Cert.Pre_numbers.S_ .f32 0x7F800000#32))) c h hu j = 1#1)
    (i : s.Idx) : ∃ q : ℝ, (X i : EReal) = q := by
  have h1 := Host.reduce_andi_all _ _ _ _ j e i
  refine num_of_abs ?_
  have h2 : Ideal.cmp .olt (max (X i) (-(X i))) (Ideal.ofBits .f32 0x7F800000#32) = 1#1 := h1
  rw [inf_f32] at h2
  exact (Ideal.cmp_olt_eq_one (x := max (X i) (-(X i))) (y := ⊤)).mp h2

theorem num_of_pre [Cert.Pre_numbers.Facts] {x0 x1 x2 : FVec Ideal ⟨2, ![8192, 1024]⟩ .f32} {x3 x4 : FVec Ideal ⟨2, ![1, 1024]⟩ .f32}
    (hp : Cert.Pre_numbers.fn (F := Ideal) x0 x1 x2 x3 x4 = fun _ => 1#1) :
    (∀ i, ∃ q : ℝ, (x0 i : EReal) = q) ∧ (∀ i, ∃ q : ℝ, (x1 i : EReal) = q) ∧ (∀ i, ∃ q : ℝ, (x3 i : EReal) = q) ∧ (∀ i, ∃ q : ℝ, (x4 i : EReal) = q) := by
  have h := congrFun hp ix0
  unfold Cert.Pre_numbers.fn Cert.Pre_numbers.fn_part1 at h
  simp only [andi_apply, both] at h
  obtain ⟨⟨⟨⟨-, h0⟩, h1⟩, h3⟩, h4⟩ := h
  exact ⟨num_of x0 h0, num_of x1 h1, num_of x3 h3, num_of x4 h4⟩

/-- The masked rows are those from the third on. -/
theorem rows [Cert.On_shifts.Facts] {x0 x1 x2 : FVec Ideal ⟨2, ![8192, 1024]⟩ .f32} {x3 x4 : FVec Ideal ⟨2, ![1, 1024]⟩ .f32}
    {i : (⟨2, ![8, 1024]⟩ : Shape).Idx} (e : (Cert.On_shifts.fn (F := Ideal) x0 x1 x2 x3 x4).2 i = 1#1) : 2 ≤ (i 0).val := by
  obtain ⟨a, l, rfl⟩ : ∃ (a : Fin 8) (l : Fin 1024), i = ix2 a l := ⟨i 0, i 1, eq_ix2 i⟩
  have g : IntOp.cmpi .sge (BitVec.ofNat 32 a.val) 2#32 = 1#1 := e
  clear e
  show 2 ≤ a.val
  revert g
  revert a
  decide

end Cert.Norm

end
-- ==== Proof.Norm.Claim.lean ====
module

public import proofs.«01_k».proof.Defs
public import proofs.«01_k».proof.Proof.Gen.ReferenceNormIdeal
public import proofs.«01_k».proof.Proof.Gen.ReferenceNormIdeal.Run
public import proofs.«01_k».proof.Proof.Gen.Pre_numbers
public import proofs.«01_k».proof.Proof.Gen.On_shifts
public import proofs.«01_k».proof.Proof.Norm.Kernel
public import proofs.«01_k».proof.Proof.Norm.Ref
public import proofs.«01_k».proof.Proof.Norm.Pre
public import Idealize.ShloMosaic.Lib.Quiescent

/-! # The input norm's gradient: its claims -/

@[expose] public section

set_option maxRecDepth 16384

noncomputable section

open Idealize.ShloMosaic Idealize.ShloMosaic.TcCoe Idealize.SL.Sem

namespace Cert.Norm.Claim

open Cert.Norm Cert.ReferenceNormIdeal.Read

variable {x0 x1 x2 y0 y1 y2 : FVec Ideal ⟨2, ![8192, 1024]⟩ .f32} {x3 x4 y3 y4 : FVec Ideal ⟨2, ![1, 1024]⟩ .f32}

/-- The reference's first result, from equal arguments. -/
theorem ref0 (e0 : y0 = x0) (e1 : y1 = x1) (e2 : y2 = x2) (e3 : y3 = x3) (e4 : y4 = x4) :
    val_main_v49 (F := Ideal) y0 y1 y2 y3 y4 = gradxA x0 x1 x2 x3 x4 := by
  subst e0 e1 e2 e3 e4
  funext i
  obtain ⟨r, l, rfl⟩ : ∃ (r : Fin 8192) (l : Fin 1024), i = ix2 r l := ⟨i 0, i 1, eq_ix2 i⟩
  exact Ref.gx y0 y1 y2 y3 y4 r l

/-- The reference's second result, where the blocks' sums are its sums. -/
theorem ref1 (e0 : y0 = x0) (e1 : y1 = x1) (e3 : y3 = x3) (e4 : y4 = x4) (i : (⟨2, ![8, 1024]⟩ : Shape).Idx)
    (h : sums x0 x1 x3 x4 (i 0) (i 1) = total (fun r k => x0 (ix2 r k)) (fun r k => x1 (ix2 r k)) (fun k => x3 (ix2 0 k)) (fun k => x4 (ix2 0 k)) (i 0) (i 1)) :
    val_main_v51 (F := Ideal) y0 y1 y3 y4 i = sumsA x0 x1 x3 x4 i := by
  subst e0 e1 e3 e4
  obtain ⟨a, l, rfl⟩ : ∃ (a : Fin 8) (l : Fin 1024), i = ix2 a l := ⟨i 0, i 1, eq_ix2 i⟩
  exact (Ref.acc y0 y1 y3 y4 a l).trans h.symm

theorem quiescent_RefI : quiescent_ReferenceNormIdeal := by
  intro m g _
  refine (θ_run _ _ _).mono (fun r h => ⟨fun c => ?_, sem_eq_zero_of_no_sems (by decide) _⟩) (Cert.ReferenceNormIdeal.Value.run m g)
  obtain ⟨_, _, ha⟩ := h c
  exact ha

/-- Without a precondition: the input's gradient, the shift's, and the empty rows. -/
theorem value_shifts : algebraic_KernelNormIdeal_ReferenceNormIdeal_on_shifts := by
  intro m g m' g' _ hagree
  refine ⟨fun c => gradxA (aD m c) (aX m c) (aE m c) (aW m c) (aS m c), fun c => sumsA (aD m c) (aX m c) (aW m c) (aS m c), ?_, ?_⟩
  · refine (θ_run _ _ _).mono (fun r h c => ?_) (Cert.KernelNormIdeal.Value.run_blocks m g)
    obtain ⟨h0, h1, ha⟩ := h c
    exact ⟨fun i _ => congrFun (h0.trans (final_5 m c)) i, fun i _ => congrFun (h1.trans (final_6 m c)) i, ha⟩
  · refine (θ_run _ _ _).mono (fun r h c => ?_) (Cert.ReferenceNormIdeal.Value.run m' g')
    obtain ⟨h0, h1, ha⟩ := h c
    obtain ⟨e0, e1, e2, e3, e4⟩ := hagree c
    exact ⟨fun i _ => congrFun ((h0.trans (val_main_v49_eq m' c)).trans (ref0 e0 e1 e2 e3 e4)) i,
      fun i hi => (congrFun (h1.trans (val_main_v51_eq _ _ _ _)) i).trans (ref1 e0 e1 e3 e4 i (rest (i 0) (rows hi) (i 1))), ha⟩

/-- Where the arguments are numbers: both results whole. -/
theorem value_numbers : algebraic_KernelNormIdeal_ReferenceNormIdeal_pre_numbers := by
  intro m g m' g' hpre hagree
  refine ⟨fun c => gradxA (aD m c) (aX m c) (aE m c) (aW m c) (aS m c), fun c => sumsA (aD m c) (aX m c) (aW m c) (aS m c), ?_, ?_⟩
  · refine (θ_run _ _ _).mono (fun r h c => ?_) (Cert.KernelNormIdeal.Value.run_blocks m g)
    obtain ⟨h0, h1, ha⟩ := h c
    exact ⟨h0.trans (final_5 m c), h1.trans (final_6 m c), ha⟩
  · refine (θ_run _ _ _).mono (fun r h c => ?_) (Cert.ReferenceNormIdeal.Value.run m' g')
    obtain ⟨h0, h1, ha⟩ := h c
    obtain ⟨e0, e1, e2, e3, e4⟩ := hagree c
    obtain ⟨n0, n1, n3, n4⟩ := num_of_pre (hpre c)
    exact ⟨(h0.trans (val_main_v49_eq m' c)).trans (ref0 e0 e1 e2 e3 e4),
      (h1.trans (val_main_v51_eq _ _ _ _)).trans (funext fun i => ref1 e0 e1 e3 e4 i
        (all (fun r l => n0 _) (fun r l => n1 _) (fun l => n3 _) (fun l => n4 _) (i 0) (i 1))), ha⟩

end Cert.Norm.Claim

end
-- ==== Proof.Post.Kernel.lean ====
module

public import proofs.«01_k».proof.Defs
public import proofs.«01_k».proof.Proof.Merge.Row
public import proofs.«01_k».proof.Proof.Gen.KernelPostIdeal.Value
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # The head norms and the output gates: what the kernel computes -/

@[expose] public section

set_option maxRecDepth 16384

noncomputable section

open Idealize.ShloMosaic Idealize.ShloMosaic.TcCoe Idealize.SL.Sem
open Idealize.ShloMosaic.Pipeline (Dat)
open scoped BigOperators

namespace Cert.Post

open Cert.KernelPostIdeal Cert.KernelPostIdeal.Gen
open Cert.Merge (sgK sgR sg_eq)

variable (m : (ℓ : Loc nD τ sig) → Buf (Elt Ideal) ℓ)

abbrev X : Type := FVec Ideal S8192x2048 .bf16
abbrev P : Type := FVec Ideal S8192x15360 .bf16
abbrev R : Type := FVec Ideal S1x2048 .f32
abbrev B : Type := FVec Ideal S256x2048 .bf16

/-- Column `j` of group `g`, of the eight groups and of the four. -/
def cm (g : Fin 8) (j : Fin 256) : Fin 2048 := ⟨g.val * 256 + j.val, by omega⟩
def cs (g : Fin 4) (j : Fin 512) : Fin 2048 := ⟨g.val * 512 + j.val, by omega⟩
def gm (l : Fin 2048) : Fin 8 := ⟨l.val / 256, by omega⟩
def gs (l : Fin 2048) : Fin 4 := ⟨l.val / 512, by omega⟩

theorem gm_cm (g : Fin 8) (j : Fin 256) : gm (cm g j) = g := Fin.ext (by show (g.val * 256 + j.val) / 256 = g.val; omega)
theorem gs_cs (g : Fin 4) (j : Fin 512) : gs (cs g j) = g := Fin.ext (by show (g.val * 512 + j.val) / 512 = g.val; omega)
theorem ex_cm (l : Fin 2048) : ∃ g j, l = cm g j := ⟨gm l, ⟨l.val % 256, by omega⟩, Fin.ext (by show l.val = l.val / 256 * 256 + l.val % 256; omega)⟩
theorem ex_cs (l : Fin 2048) : ∃ g j, l = cs g j := ⟨gs l, ⟨l.val % 512, by omega⟩, Fin.ext (by show l.val = l.val / 512 * 512 + l.val % 512; omega)⟩

/-- The reciprocal root of a group's mean square. -/
def rsm (x : Fin 256 → EReal) : EReal :=
  Ideal.rsqrt (Ideal.div (∑ k, x k * x k) (Ideal.ofBits .f32 0x43800000#32) + Ideal.ofBits .f32 0x358637BD#32)
def rss (x : Fin 512 → EReal) : EReal :=
  Ideal.rsqrt (Ideal.div (∑ k, x k * x k) (Ideal.ofBits .f32 0x44000000#32) + Ideal.ofBits .f32 0x358637BD#32)

/-- The product with the logistic function. -/
def silu (z : EReal) : EReal := z * sgK z

/-- An entry of the first branch: the gate, the normalised state, its weight, and the second gate. -/
def ym (h o z w : Fin 2048 → EReal) (l : Fin 2048) : EReal :=
  sgK (o l) * (h l * rsm (fun k => h (cm (gm l) k))) * w l * silu (z l)

/-- An entry of the second branch: the gated state normalised, and its weight. -/
def yz (y z : Fin 2048 → EReal) (l : Fin 2048) : EReal := y l * silu (z l)
def ys (y z w : Fin 2048 → EReal) (l : Fin 2048) : EReal :=
  yz y z l * rss (fun k => yz y z (cs (gs l) k)) * w l

/-- The pieces end to end, read at an entry. -/
theorem catm (f : Fin 8 → FVec Ideal S256x256 .f32) (r : Fin 256) (g : Fin 8) (j : Fin 256) :
    concatenate S256x2048 1 [⟨S256x256, f 0⟩, ⟨S256x256, f 1⟩, ⟨S256x256, f 2⟩, ⟨S256x256, f 3⟩, ⟨S256x256, f 4⟩, ⟨S256x256, f 5⟩, ⟨S256x256, f 6⟩, ⟨S256x256, f 7⟩] concatenates_S256x256_S256x256_S256x256_S256x256_S256x256_S256x256_S256x256_S256x256_S256x2048_d1 (ix2 r (cm g j)) = f g (ix2 r j) := by
  refine concatenate_ofFn_apply (t := S256x2048) (s₁ := S256x256) 1 f _ rfl 256 rfl (ix2 r (cm g j)) g ?_ (ix2 r j) ?_ ?_
  · show (g.val * 256 + j.val) / 256 = g.val
    omega
  · show j.val = (g.val * 256 + j.val) % 256
    omega
  · intro b hb
    match b with
    | 0 => rfl
    | 1 => exact absurd rfl hb

/-- A group of columns, normalised. -/
def Gm (s : FVec Ideal S256x256 .f32) : FVec Ideal S256x256 .f32 :=
  mulf s (broadcastTo S256x256 (rsqrt (addf (divf (shapeCast S256x1 (multiReduction .add [1] S256 (mulf s s) 0x00000000#32 reduces_S256x256_S256 (.inl rfl) rfl)
    shapeCasts_S256_S256x1) (broadcast S256x1 (Scalar.ofBits .f32 0x43800000#32))) (broadcast S256x1 (Scalar.ofBits .f32 0x358637BD#32)))) broadcasts_S256x1_S256x256)

theorem Gm_apply (s : FVec Ideal S256x256 .f32) (r : Fin 256) (j : Fin 256) :
    Gm s (ix2 r j) = s (ix2 r j) * rsm (fun k => s (ix2 r k)) := by
  pointwise [Gm, rsm]

theorem slm (o : ℕ) (x : FVec Ideal S256x2048 .f32) (h) (r : Fin 256) (j : Fin 256) (ho : o + 256 ≤ 2048) :
    extractStridedSlice S256x256 ![0, o] x h (ix2 r j) = x (ix2 r (⟨o + j, by omega⟩ : Fin 2048)) := by
  pointwise

/-- The pieces end to end, read at an entry. -/
theorem cats (f : Fin 4 → FVec Ideal S256x512 .f32) (r : Fin 256) (g : Fin 4) (j : Fin 512) :
    concatenate S256x2048 1 [⟨S256x512, f 0⟩, ⟨S256x512, f 1⟩, ⟨S256x512, f 2⟩, ⟨S256x512, f 3⟩] concatenates_S256x512_S256x512_S256x512_S256x512_S256x2048_d1 (ix2 r (cs g j)) = f g (ix2 r j) := by
  refine concatenate_ofFn_apply (t := S256x2048) (s₁ := S256x512) 1 f _ rfl 512 rfl (ix2 r (cs g j)) g ?_ (ix2 r j) ?_ ?_
  · show (g.val * 512 + j.val) / 512 = g.val
    omega
  · show j.val = (g.val * 512 + j.val) % 512
    omega
  · intro b hb
    match b with
    | 0 => rfl
    | 1 => exact absurd rfl hb

/-- A group of columns, normalised. -/
def Gs (s : FVec Ideal S256x512 .f32) : FVec Ideal S256x512 .f32 :=
  mulf s (broadcastTo S256x512 (rsqrt (addf (divf (shapeCast S256x1 (multiReduction .add [1] S256 (mulf s s) 0x00000000#32 reduces_S256x512_S256 (.inl rfl) rfl)
    shapeCasts_S256_S256x1) (broadcast S256x1 (Scalar.ofBits .f32 0x44000000#32))) (broadcast S256x1 (Scalar.ofBits .f32 0x358637BD#32)))) broadcasts_S256x1_S256x512)

theorem Gs_apply (s : FVec Ideal S256x512 .f32) (r : Fin 256) (j : Fin 512) :
    Gs s (ix2 r j) = s (ix2 r j) * rss (fun k => s (ix2 r k)) := by
  pointwise [Gs, rss]

theorem sls (o : ℕ) (x : FVec Ideal S256x2048 .f32) (h) (r : Fin 256) (j : Fin 512) (ho : o + 512 ≤ 2048) :
    extractStridedSlice S256x512 ![0, o] x h (ix2 r j) = x (ix2 r (⟨o + j, by omega⟩ : Fin 2048)) := by
  pointwise

/-- The eight groups of a block's columns, normalised. -/
def fm (x : B) : Fin 8 → FVec Ideal S256x256 .f32 :=
  ![Gm (extractStridedSlice S256x256 ![0, 0] (k0_pay2 (F := Ideal) x) slices_S256x2048_o0_0_S256x256), Gm (extractStridedSlice S256x256 ![0, 256] (k0_pay2 (F := Ideal) x) slices_S256x2048_o0_256_S256x256), Gm (extractStridedSlice S256x256 ![0, 512] (k0_pay2 (F := Ideal) x) slices_S256x2048_o0_512_S256x256), Gm (extractStridedSlice S256x256 ![0, 768] (k0_pay2 (F := Ideal) x) slices_S256x2048_o0_768_S256x256), Gm (extractStridedSlice S256x256 ![0, 1024] (k0_pay2 (F := Ideal) x) slices_S256x2048_o0_1024_S256x256), Gm (extractStridedSlice S256x256 ![0, 1280] (k0_pay2 (F := Ideal) x) slices_S256x2048_o0_1280_S256x256), Gm (extractStridedSlice S256x256 ![0, 1536] (k0_pay2 (F := Ideal) x) slices_S256x2048_o0_1536_S256x256), Gm (extractStridedSlice S256x256 ![0, 1792] (k0_pay2 (F := Ideal) x) slices_S256x2048_o0_1792_S256x256)]

theorem fm_eq (x : B) : k0_pay8 (F := Ideal) (k0_pay2 (F := Ideal) x) (k0_pay3 (F := Ideal) x) (k0_pay4 (F := Ideal) x) (k0_pay5 (F := Ideal) x) (k0_pay6 (F := Ideal) x) (k0_pay7 (F := Ideal) x)
    = concatenate S256x2048 1 [⟨S256x256, fm x 0⟩, ⟨S256x256, fm x 1⟩, ⟨S256x256, fm x 2⟩, ⟨S256x256, fm x 3⟩, ⟨S256x256, fm x 4⟩, ⟨S256x256, fm x 5⟩, ⟨S256x256, fm x 6⟩, ⟨S256x256, fm x 7⟩] concatenates_S256x256_S256x256_S256x256_S256x256_S256x256_S256x256_S256x256_S256x256_S256x2048_d1 := rfl

/-- The four groups of a block's columns, normalised. -/
def fs (v : FVec Ideal S256x2048 .f32) : Fin 4 → FVec Ideal S256x512 .f32 :=
  ![Gs (extractStridedSlice S256x512 ![0, 0] v slices_S256x2048_o0_0_S256x512), Gs (extractStridedSlice S256x512 ![0, 512] v slices_S256x2048_o0_512_S256x512), Gs (extractStridedSlice S256x512 ![0, 1024] v slices_S256x2048_o0_1024_S256x512), Gs (extractStridedSlice S256x512 ![0, 1536] v slices_S256x2048_o0_1536_S256x512)]

theorem fs_eq (v : FVec Ideal S256x2048 .f32) : k0_pay12 (F := Ideal) v (extractStridedSlice S256x512 ![0, 0] v slices_S256x2048_o0_0_S256x512)
    = concatenate S256x2048 1 [⟨S256x512, fs v 0⟩, ⟨S256x512, fs v 1⟩, ⟨S256x512, fs v 2⟩, ⟨S256x512, fs v 3⟩] concatenates_S256x512_S256x512_S256x512_S256x512_S256x2048_d1 := rfl

theorem norms (x : B) (r : Fin 256) (l : Fin 2048) :
    k0_pay8 (F := Ideal) (k0_pay2 (F := Ideal) x) (k0_pay3 (F := Ideal) x) (k0_pay4 (F := Ideal) x) (k0_pay5 (F := Ideal) x) (k0_pay6 (F := Ideal) x) (k0_pay7 (F := Ideal) x) (ix2 r l)
      = x (ix2 r l) * rsm (fun k => x (ix2 r (cm (gm l) k))) := by
  obtain ⟨g, j, rfl⟩ := ex_cm l
  rw [gm_cm]
  have e : ∀ (o : ℕ) (h) (ho : o + 256 ≤ 2048) (hg : g.val * 256 = o),
      Gm (extractStridedSlice S256x256 ![0, o] (k0_pay2 (F := Ideal) x) h) (ix2 r j) = x (ix2 r (cm g j)) * rsm (fun k => x (ix2 r (cm g k))) := by
    intro o h ho hg
    subst hg
    rw [Gm_apply]
    simp only [slm _ _ h _ _ ho]
    rfl
  refine Eq.trans (Eq.trans (congrFun (fm_eq x) _) (catm (fm x) r g j)) ?_
  match g with
  | 0 => exact e 0 _ (by omega) rfl
  | 1 => exact e 256 _ (by omega) rfl
  | 2 => exact e 512 _ (by omega) rfl
  | 3 => exact e 768 _ (by omega) rfl
  | 4 => exact e 1024 _ (by omega) rfl
  | 5 => exact e 1280 _ (by omega) rfl
  | 6 => exact e 1536 _ (by omega) rfl
  | 7 => exact e 1792 _ (by omega) rfl

theorem normsS (v : FVec Ideal S256x2048 .f32) (r : Fin 256) (l : Fin 2048) :
    k0_pay12 (F := Ideal) v (extractStridedSlice S256x512 ![0, 0] v slices_S256x2048_o0_0_S256x512) (ix2 r l)
      = v (ix2 r l) * rss (fun k => v (ix2 r (cs (gs l) k))) := by
  obtain ⟨g, j, rfl⟩ := ex_cs l
  rw [gs_cs]
  have e : ∀ (o : ℕ) (h) (ho : o + 512 ≤ 2048) (hg : g.val * 512 = o),
      Gs (extractStridedSlice S256x512 ![0, o] v h) (ix2 r j) = v (ix2 r (cs g j)) * rss (fun k => v (ix2 r (cs g k))) := by
    intro o h ho hg
    subst hg
    rw [Gs_apply]
    simp only [sls _ _ h _ _ ho]
    rfl
  refine Eq.trans (Eq.trans (congrFun (fs_eq v) _) (cats (fs v) r g j)) ?_
  match g with
  | 0 => exact e 0 _ (by omega) rfl
  | 1 => exact e 512 _ (by omega) rfl
  | 2 => exact e 1024 _ (by omega) rfl
  | 3 => exact e 1536 _ (by omega) rfl

/-- What the kernel stores in the first branch. -/
def blkM (x0 x2 x3 : B) (x5 : R) : B :=
  k0_pay9 (F := Ideal) (k0_pay8 (F := Ideal) (k0_pay2 (F := Ideal) x0) (k0_pay3 (F := Ideal) x0) (k0_pay4 (F := Ideal) x0) (k0_pay5 (F := Ideal) x0) (k0_pay6 (F := Ideal) x0) (k0_pay7 (F := Ideal) x0)) x2 x5 x3

/-- And in the second. -/
def blkS (x1 x4 : B) (x6 : R) : B :=
  k0_pay1 (F := Ideal) (k0_pay12 (F := Ideal) (k0_pay10 (F := Ideal) x1 x4) (k0_pay11 (F := Ideal) x1 x4)) (k0_pay13 (F := Ideal) x6)

theorem blkM_apply (x0 x2 x3 : B) (x5 : R) (r : Fin 256) (l : Fin 2048) :
    blkM x0 x2 x3 x5 (ix2 r l) = ym (fun k => x0 (ix2 r k)) (fun k => x2 (ix2 r k)) (fun k => x3 (ix2 r k)) (fun k => x5 (ix2 (0 : Fin 1) k)) l := by
  unfold blkM ym
  rw [← norms x0 r l]
  generalize k0_pay8 (F := Ideal) (k0_pay2 (F := Ideal) x0) (k0_pay3 (F := Ideal) x0) (k0_pay4 (F := Ideal) x0) (k0_pay5 (F := Ideal) x0) (k0_pay6 (F := Ideal) x0) (k0_pay7 (F := Ideal) x0) = v
  pointwise [k0_pay9, sgK, silu]

theorem pay10 (x1 x4 : B) (r : Fin 256) (l : Fin 2048) :
    k0_pay10 (F := Ideal) x1 x4 (ix2 r l) = yz (fun k => x1 (ix2 r k)) (fun k => x4 (ix2 r k)) l := by
  pointwise [k0_pay10, yz, sgK, silu]

theorem blkS_apply (x1 x4 : B) (x6 : R) (r : Fin 256) (l : Fin 2048) :
    blkS x1 x4 x6 (ix2 r l) = ys (fun k => x1 (ix2 r k)) (fun k => x4 (ix2 r k)) (fun k => x6 (ix2 (0 : Fin 1) k)) l := by
  unfold blkS ys
  trans k0_pay12 (F := Ideal) (k0_pay10 (F := Ideal) x1 x4) (k0_pay11 (F := Ideal) x1 x4) (ix2 r l) * x6 (ix2 (0 : Fin 1) l)
  · pointwise [k0_pay1, k0_pay13]
  · refine congrArg (· * _) ((normsS (k0_pay10 (F := Ideal) x1 x4) r l).trans ?_)
    simp only [pay10]

end Cert.Post

end
-- ==== Proof.Post.Ref.lean ====
module

public import proofs.«01_k».proof.Defs
public import proofs.«01_k».proof.Proof.Merge.Row
public import proofs.«01_k».proof.Proof.Post.Kernel
public import proofs.«01_k».proof.Proof.Gen.ReferencePostIdeal
public import proofs.«01_k».proof.Proof.Gen.ReferencePostIdeal.Run
public import proofs.«01_k».proof.Proof.Gen.ReferencePostIdeal.Read
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # The head norms and the output gates: what the reference computes -/

@[expose] public section

set_option maxRecDepth 16384

noncomputable section

open Idealize.ShloMosaic Idealize.ShloMosaic.TcCoe Idealize.SL.Sem
open Idealize.ShloMosaic.Pipeline (Dat)
open scoped BigOperators

namespace Cert.Post

open Cert.KernelPostIdeal Cert.KernelPostIdeal.Gen
open Cert.Merge (sgK sgR sg_eq)

variable (m : (ℓ : Loc nD τ sig) → Buf (Elt Ideal) ℓ)

open Cert.ReferencePostIdeal.Read

theorem v6 (x : X) (r : Fin 8192) (g : Fin 8) (k : Fin 256) : val_main_v6 (F := Ideal) x (ix3 r g k) = x (ix2 r (cm g k)) := by
  pointwise [val_main_v6, val_main_v0, cm]

theorem v7 (w : R) (g : Fin 8) (k : Fin 256) : val_main_v7 (F := Ideal) w (ix2 g k) = w (ix2 (0 : Fin 1) (cm g k)) := by
  pointwise [val_main_v7, cm]

theorem v15 (x : X) (r : Fin 8192) (g : Fin 8) (z : Fin 1) :
    val_main_v15 (F := Ideal) x (ix3 r g z) = rsm (fun k => x (ix2 r (cm g k))) := by
  pointwise [val_main_v15, val_main_v14, val_main_v13, val_main_v12, val_main_v11, val_main_v10, val_main_v9, val_main_v8, val_main_cst, val_main_cst_0, val_main_cst_1, v6 x, rsm]
  try simp

theorem v20 (x : X) (w : R) (r : Fin 8192) (g : Fin 8) (j : Fin 256) :
    val_main_v20 (F := Ideal) x w (ix3 r g j) = x (ix2 r (cm g j)) * rsm (fun k => x (ix2 r (cm g k))) * w (ix2 (0 : Fin 1) (cm g j)) := by
  pointwise [val_main_v20, val_main_v19, val_main_v18, val_main_v17, val_main_v16, v6 x, v7 w, v15 x]

theorem v21 (x : X) (w : R) (r : Fin 8192) (g : Fin 8) (j : Fin 256) :
    val_main_v21 (F := Ideal) x w (ix2 r (cm g j)) = val_main_v20 (F := Ideal) x w (ix3 r g j) := by
  pointwise [val_main_v21, cm]

/-- The columns of the projection. -/
def colO (l : Fin 2048) : Fin 15360 := ⟨l, by omega⟩
def colM (l : Fin 2048) : Fin 15360 := ⟨2048 + l, by omega⟩
def colS (l : Fin 2048) : Fin 15360 := ⟨4096 + l, by omega⟩

theorem v27 (p : P) (r : Fin 8192) (l : Fin 2048) : val_main_v27 (F := Ideal) p (ix2 r l) = sgR (p (ix2 r (colO l))) := by
  pointwise [val_main_v27, val_main_v26, val_main_v25, val_main_v24, val_main_v23, val_main_v22, val_main_v3, val_main_v2, val_main_cst_2, val_main_cst_3, sgR, colO]

theorem v29 (p : P) (r : Fin 8192) (l : Fin 2048) : val_main_v29 (F := Ideal) p (ix2 r l) = p (ix2 r (colM l)) * sgR (p (ix2 r (colM l))) := by
  pointwise [val_main_v29, val_main_call0_v5, val_main_call0_v4, val_main_call0_v3, val_main_call0_v2, val_main_call0_v1, val_main_call0_v0, val_main_call0_cst, val_main_call0_cst_0, val_main_v4, val_main_v2, sgR, colM]

theorem v31 (p : P) (r : Fin 8192) (l : Fin 2048) : val_main_v31 (F := Ideal) p (ix2 r l) = p (ix2 r (colS l)) * sgR (p (ix2 r (colS l))) := by
  pointwise [val_main_v31, val_main_call1_v5, val_main_call1_v4, val_main_call1_v3, val_main_call1_v2, val_main_call1_v1, val_main_call1_v0, val_main_call1_cst, val_main_call1_cst_0, val_main_v5, val_main_v2, sgR, colS]

/-- The first branch's array. -/
def arrM (x : X) (p : P) (w : R) : X := fun i =>
  ym (fun k => x (ix2 (i 0) k)) (fun k => p (ix2 (i 0) (colO k))) (fun k => p (ix2 (i 0) (colM k))) (fun k => w (ix2 (0 : Fin 1) k)) (i 1)

/-- The second's. -/
def arrS (y : X) (p : P) (w : R) : X := fun i =>
  ys (fun k => y (ix2 (i 0) k)) (fun k => p (ix2 (i 0) (colS k))) (fun k => w (ix2 (0 : Fin 1) k)) (i 1)

theorem refM (x : X) (p : P) (w : R) : val_main_v49 (F := Ideal) x p w = arrM x p w := by
  funext i
  obtain ⟨r, l, rfl⟩ : ∃ (r : Fin 8192) (l : Fin 2048), i = ix2 r l := ⟨i 0, i 1, eq_ix2 i⟩
  obtain ⟨g, j, rfl⟩ := ex_cm l
  trans sgR (p (ix2 r (colO (cm g j)))) * (x (ix2 r (cm g j)) * rsm (fun k => x (ix2 r (cm g k))) * w (ix2 (0 : Fin 1) (cm g j)))
    * (p (ix2 r (colM (cm g j))) * sgR (p (ix2 r (colM (cm g j)))))
  · rw [← v20, ← v21, ← v27, ← v29]
    pointwise [val_main_v49, val_main_v30, val_main_v28]
  · show _ = ym (fun k => x (ix2 r k)) (fun k => p (ix2 r (colO k))) (fun k => p (ix2 r (colM k))) (fun k => w (ix2 (0 : Fin 1) k)) (cm g j)
    unfold ym silu
    rw [gm_cm, sg_eq, sg_eq, ← mul_assoc (sgK _)]

theorem v32 (y : X) (p : P) (r : Fin 8192) (l : Fin 2048) :
    val_main_v32 (F := Ideal) y p (ix2 r l) = yz (fun k => y (ix2 r k)) (fun k => p (ix2 r (colS k))) l := by
  trans y (ix2 r l) * (p (ix2 r (colS l)) * sgR (p (ix2 r (colS l))))
  · rw [← v31]
    pointwise [val_main_v32, val_main_v1]
  · rw [sg_eq]
    rfl

theorem v33 (y : X) (p : P) (r : Fin 8192) (g : Fin 4) (k : Fin 512) :
    val_main_v33 (F := Ideal) y p (ix3 r g k) = yz (fun k => y (ix2 r k)) (fun k => p (ix2 r (colS k))) (cs g k) := by
  rw [← v32]
  pointwise [val_main_v33, cs]

theorem v34 (w : R) (g : Fin 4) (k : Fin 512) : val_main_v34 (F := Ideal) w (ix2 g k) = w (ix2 (0 : Fin 1) (cs g k)) := by
  pointwise [val_main_v34, cs]

theorem v42 (y : X) (p : P) (r : Fin 8192) (g : Fin 4) (z : Fin 1) :
    val_main_v42 (F := Ideal) y p (ix3 r g z) = rss (fun k => yz (fun k => y (ix2 r k)) (fun k => p (ix2 r (colS k))) (cs g k)) := by
  simp only [← v33 y p r g]
  pointwise [val_main_v42, val_main_v41, val_main_v40, val_main_v39, val_main_v38, val_main_v37, val_main_v36, val_main_v35, val_main_cst_4, val_main_cst_5, val_main_cst_6, rss]
  try simp

theorem v47 (y : X) (p : P) (w : R) (r : Fin 8192) (g : Fin 4) (j : Fin 512) :
    val_main_v47 (F := Ideal) y p w (ix3 r g j) = yz (fun k => y (ix2 r k)) (fun k => p (ix2 r (colS k))) (cs g j)
      * rss (fun k => yz (fun k => y (ix2 r k)) (fun k => p (ix2 r (colS k))) (cs g k)) * w (ix2 (0 : Fin 1) (cs g j)) := by
  rw [← v42 y p r g 0, ← v33 y p r g j, ← v34 w g j]
  pointwise [val_main_v47, val_main_v46, val_main_v45, val_main_v44, val_main_v43]

theorem v48 (y : X) (p : P) (w : R) (r : Fin 8192) (g : Fin 4) (j : Fin 512) :
    val_main_v48 (F := Ideal) y p w (ix2 r (cs g j)) = val_main_v47 (F := Ideal) y p w (ix3 r g j) := by
  pointwise [val_main_v48, cs]

theorem refS (y : X) (p : P) (w : R) : val_main_v50 (F := Ideal) y p w = arrS y p w := by
  funext i
  obtain ⟨r, l, rfl⟩ : ∃ (r : Fin 8192) (l : Fin 2048), i = ix2 r l := ⟨i 0, i 1, eq_ix2 i⟩
  obtain ⟨g, j, rfl⟩ := ex_cs l
  trans val_main_v48 (F := Ideal) y p w (ix2 r (cs g j))
  · pointwise [val_main_v50]
  · rw [v48, v47]
    show _ = ys (fun k => y (ix2 r k)) (fun k => p (ix2 r (colS k))) (fun k => w (ix2 (0 : Fin 1) k)) (cs g j)
    unfold ys
    rw [gs_cs]

end Cert.Post

end
-- ==== Proof.Post.Claim.lean ====
module

public import proofs.«01_k».proof.Defs
public import proofs.«01_k».proof.Proof.Merge.Row
public import proofs.«01_k».proof.Proof.Gen.KernelPostIdeal.Value
public import proofs.«01_k».proof.Proof.Post.Ref
public import proofs.«01_k».proof.Proof.Gen.ReferencePostIdeal
public import proofs.«01_k».proof.Proof.Gen.ReferencePostIdeal.Run
public import proofs.«01_k».proof.Proof.Gen.ReferencePostIdeal.Read
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # The head norms and the output gates: the claim -/

@[expose] public section

set_option maxRecDepth 16384

noncomputable section

open Idealize.ShloMosaic Idealize.ShloMosaic.TcCoe Idealize.SL.Sem
open Idealize.ShloMosaic.Pipeline (Dat)
open scoped BigOperators

namespace Cert.Post

open Cert.KernelPostIdeal Cert.KernelPostIdeal.Gen
open Cert.Merge (sgK sgR sg_eq)

variable (m : (ℓ : Loc nD τ sig) → Buf (Elt Ideal) ℓ)

/-- Every window's block at every grid point. -/
theorem idx : ∀ t : Fin cfg0.N, win0_0.index t = ![t.val, 0] ∧ win0_1.index t = ![t.val, 0] ∧ win0_2.index t = ![t.val, 0] ∧
    win0_3.index t = ![t.val, 1] ∧ win0_4.index t = ![t.val, 2] ∧ win0_5.index t = ![0, 0] ∧ win0_6.index t = ![0, 0] ∧
    win0_7.index t = ![t.val, 0] ∧ win0_8.index t = ![t.val, 0] :=
  (by decide +kernel : ∀ t : Fin grid0.N, _)

theorem point_lt (t : Fin cfg0.N) : t.val < 32 := lt_of_lt_of_eq t.isLt N_0

def row (t : Fin cfg0.N) (r : Fin 256) : Fin 8192 := ⟨t.val * 256 + r, by have := point_lt t; omega⟩

theorem emb7 (t : Fin cfg0.N) (r : Fin 256) (l : Fin 2048) (f : X) :
    f (((cfg0.win 7).blk t).view.emb (ix2 r l)) = f (ix2 (row t r) l) := by
  unfold row
  blk_ext [idx t]

theorem emb8 (t : Fin cfg0.N) (r : Fin 256) (l : Fin 2048) (f : X) :
    f (((cfg0.win 8).blk t).view.emb (ix2 r l)) = f (ix2 (row t r) l) := by
  unfold row
  blk_ext [idx t]

theorem rd0 (c : Dev nD) (t : Fin cfg0.N) (r : Fin 256) (l : Fin 2048) :
    (iblk m c 0 t : B) (ix2 r l) = ((m ((c : Thread nD τ).loc main_arg0)) : X) (ix2 (row t r) l) := by
  unfold row
  blk_ext [iblk, V, idx t]

theorem rd1 (c : Dev nD) (t : Fin cfg0.N) (r : Fin 256) (l : Fin 2048) :
    (iblk m c 1 t : B) (ix2 r l) = ((m ((c : Thread nD τ).loc main_arg1)) : X) (ix2 (row t r) l) := by
  unfold row
  blk_ext [iblk, V, idx t]

theorem rd2 (c : Dev nD) (t : Fin cfg0.N) (r : Fin 256) (l : Fin 2048) :
    (X0_2 m c t : B) (ix2 r l) = ((m ((c : Thread nD τ).loc main_arg2)) : P) (ix2 (row t r) (colO l)) := by
  unfold row colO X0_2 Pipeline.Window.fill
  rw [dif_pos (moved0_2 t _)]
  blk_ext [iblk, V, idx t]

theorem rd3 (c : Dev nD) (t : Fin cfg0.N) (r : Fin 256) (l : Fin 2048) :
    (X0_3 m c t : B) (ix2 r l) = ((m ((c : Thread nD τ).loc main_arg2)) : P) (ix2 (row t r) (colM l)) := by
  unfold row colM X0_3 Pipeline.Window.fill
  rw [dif_pos (moved0_3 t _)]
  blk_ext [iblk, V, idx t]

theorem rd4 (c : Dev nD) (t : Fin cfg0.N) (r : Fin 256) (l : Fin 2048) :
    (X0_4 m c t : B) (ix2 r l) = ((m ((c : Thread nD τ).loc main_arg2)) : P) (ix2 (row t r) (colS l)) := by
  unfold row colS X0_4 Pipeline.Window.fill
  rw [dif_pos (moved0_4 t _)]
  blk_ext [iblk, V, idx t]

theorem rd5 (c : Dev nD) (t : Fin cfg0.N) (l : Fin 2048) :
    (iblk m c 5 t : R) (ix2 (0 : Fin 1) l) = ((m ((c : Thread nD τ).loc main_arg3)) : R) (ix2 (0 : Fin 1) l) := by
  blk_ext [iblk, V, idx t]

theorem rd6 (c : Dev nD) (t : Fin cfg0.N) (l : Fin 2048) :
    (iblk m c 6 t : R) (ix2 (0 : Fin 1) l) = ((m ((c : Thread nD τ).loc main_arg4)) : R) (ix2 (0 : Fin 1) l) := by
  blk_ext [iblk, V, idx t]

theorem afterM (c : Dev nD) (t : Fin cfg0.N) (r : Fin 256) (l : Fin 2048) :
    ((outsAt0 m c t).1 : B) (ix2 r l) = blkM (iblk m c 0 t) (X0_2 m c t) (X0_3 m c t) (iblk m c 5 t) (ix2 r l) := by
  unfold outsAt0
  dsimp only
  frame_out
  try rfl

theorem afterS (c : Dev nD) (t : Fin cfg0.N) (r : Fin 256) (l : Fin 2048) :
    ((outsAt0 m c t).2 : B) (ix2 r l) = blkS (iblk m c 1 t) (X0_4 m c t) (iblk m c 6 t) (ix2 r l) := by
  unfold outsAt0
  dsimp only
  frame_out
  try rfl

theorem pointM (c : Dev nD) (t : Fin cfg0.N) (r : Fin 256) (l : Fin 2048) :
    ((outsAt0 m c t).1 : B) (ix2 r l) = (arrM (m ((c : Thread nD τ).loc main_arg0)) (m ((c : Thread nD τ).loc main_arg2)) (m ((c : Thread nD τ).loc main_arg3))) (ix2 (row t r) l) := by
  rw [afterM, blkM_apply]
  simp only [rd0 m c t, rd2 m c t, rd3 m c t, rd5 m c t]
  rfl

theorem pointS (c : Dev nD) (t : Fin cfg0.N) (r : Fin 256) (l : Fin 2048) :
    ((outsAt0 m c t).2 : B) (ix2 r l) = (arrS (m ((c : Thread nD τ).loc main_arg1)) (m ((c : Thread nD τ).loc main_arg2)) (m ((c : Thread nD τ).loc main_arg4))) (ix2 (row t r) l) := by
  rw [afterS, blkS_apply]
  simp only [rd1 m c t, rd4 m c t, rd6 m c t]
  rfl

theorem finalM (c : Dev nD) : (dats m 0 c).arrAt 7 (cfgs 0).N = (arrM (m ((c : Thread nD τ).loc main_arg0)) (m ((c : Thread nD τ).loc main_arg2)) (m ((c : Thread nD τ).loc main_arg3))) := by
  refine (dats m 0 c).arrAt_eq_of_covers 7 _ (by decide +kernel) fun t hf y => ?_
  obtain ⟨r, l, rfl⟩ : ∃ (r : Fin 256) (l : Fin 2048), y = ix2 r l := ⟨y 0, y 1, eq_ix2 y⟩
  blk_simp
  rw [after0_7]
  exact (pointM m c t r l).trans (emb7 t r l (arrM (m ((c : Thread nD τ).loc main_arg0)) (m ((c : Thread nD τ).loc main_arg2)) (m ((c : Thread nD τ).loc main_arg3)))).symm

theorem finalS (c : Dev nD) : (dats m 0 c).arrAt 8 (cfgs 0).N = (arrS (m ((c : Thread nD τ).loc main_arg1)) (m ((c : Thread nD τ).loc main_arg2)) (m ((c : Thread nD τ).loc main_arg4))) := by
  refine (dats m 0 c).arrAt_eq_of_covers 8 _ (by decide +kernel) fun t hf y => ?_
  obtain ⟨r, l, rfl⟩ : ∃ (r : Fin 256) (l : Fin 2048), y = ix2 r l := ⟨y 0, y 1, eq_ix2 y⟩
  blk_simp
  rw [after0_8]
  exact (pointS m c t r l).trans (emb8 t r l (arrS (m ((c : Thread nD τ).loc main_arg1)) (m ((c : Thread nD τ).loc main_arg2)) (m ((c : Thread nD τ).loc main_arg4)))).symm

/-- Equal arguments give equal results. -/
theorem cgM {x x' : X} {p p' : P} {w w' : R} (e0 : x' = x) (e1 : p' = p) (e2 : w' = w) : arrM x' p' w' = arrM x p w := by
  subst e0 e1 e2; rfl

theorem cgS {x x' : X} {p p' : P} {w w' : R} (e0 : x' = x) (e1 : p' = p) (e2 : w' = w) : arrS x' p' w' = arrS x p w := by
  subst e0 e1 e2; rfl

end Cert.Post

namespace Cert.Post.Claim

open Cert.Post

theorem quiescent_RefI : quiescent_ReferencePostIdeal := by
  intro m g _
  refine (θ_run _ _ _).mono (fun r h => ⟨fun c => ?_, sem_eq_zero_of_no_sems (by decide) _⟩) (Cert.ReferencePostIdeal.Value.run m g)
  obtain ⟨_, _, h⟩ := h c
  exact h

theorem value : algebraic_KernelPostIdeal_ReferencePostIdeal := by
  intro m g m' g' _ hagree
  refine ⟨fun c => arrM (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)), fun c => arrS (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg4)), ?_, ?_⟩
  · refine (θ_run _ _ _).mono (fun r h c => ?_) (Cert.KernelPostIdeal.Value.run_blocks m g)
    obtain ⟨h0, h1, h⟩ := h c
    exact ⟨h0.trans (finalM m c), h1.trans (finalS m c), h⟩
  · refine (θ_run _ _ _).mono (fun r h c => ?_) (Cert.ReferencePostIdeal.Value.run m' g')
    obtain ⟨h0, h1, h⟩ := h c
    obtain ⟨e0, e1, e2, e3, e4⟩ := hagree c
    exact ⟨(h0.trans (refM _ _ _)).trans (cgM e0 e2 e3), (h1.trans (refS _ _ _)).trans (cgS e1 e2 e4), h⟩

end Cert.Post.Claim

end
-- ==== Proof.Pre.Claim.lean ====
module

public import proofs.«01_k».proof.Defs
public import proofs.«01_k».proof.Proof.Gen.KernelPreIdeal.Value
public import proofs.«01_k».proof.Proof.Gen.ReferencePreIdeal
public import proofs.«01_k».proof.Proof.Gen.ReferencePreIdeal.Run
public import proofs.«01_k».proof.Proof.Gen.ReferencePreIdeal.Read
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # The input norm with its modulation -/

@[expose] public section

set_option maxRecDepth 16384

noncomputable section

open Idealize.ShloMosaic Idealize.ShloMosaic.TcCoe Idealize.SL.Sem
open Idealize.ShloMosaic.Pipeline (Dat)
open scoped BigOperators

namespace Cert.Pre

open Cert.KernelPreIdeal Cert.KernelPreIdeal.Gen

variable (m : (ℓ : Loc nD τ sig) → Buf (Elt Ideal) ℓ)

/-- Every window's block at every grid point. -/
theorem idx : ∀ t : Fin cfg0.N, win0_0.index t = ![t.val, 0] ∧ win0_1.index t = ![0, 0] ∧ win0_2.index t = ![0, 0] ∧
    win0_3.index t = ![0, 0] ∧ win0_4.index t = ![t.val, 0] ∧ win0_5.index t = ![0, t.val] :=
  (by decide +kernel : ∀ t : Fin grid0.N, _)

theorem point_lt (t : Fin cfg0.N) : t.val < 16 := lt_of_lt_of_eq t.isLt N_0

def row (t : Fin cfg0.N) (r : Fin 512) : Fin 8192 := ⟨t.val * 512 + r, by have := point_lt t; omega⟩

abbrev X : Type := FVec Ideal S8192x1024 .f32
abbrev R : Type := FVec Ideal S1x1024 .f32
abbrev B : Type := FVec Ideal S512x1024 .f32

/-- The reciprocal root of a row's mean square. -/
def rs (x : Fin 1024 → EReal) : EReal :=
  Ideal.rsqrt (Ideal.div (∑ k, x k * x k) (Ideal.ofBits .f32 0x44800000#32) + Ideal.ofBits .f32 0x358637BD#32)

/-- A row normalised, weighed, scaled and shifted. -/
def norm (x w s h : Fin 1024 → EReal) (l : Fin 1024) : EReal := x l * rs x * w l * (1 + s l) + h l

def at1 (x : R) (l : Fin 1024) : EReal := x (ix2 (0 : Fin 1) l)

def arr (x : X) (w s h : R) : FVec Ideal S8192x1024 .bf16 := fun i => norm (fun k => x (ix2 (i 0) k)) (at1 w) (at1 s) (at1 h) (i 1)
def arrT (x : X) (w s h : R) : FVec Ideal S1024x8192 .bf16 := fun i => norm (fun k => x (ix2 (i 1) k)) (at1 w) (at1 s) (at1 h) (i 0)

theorem emb (t : Fin cfg0.N) (r : Fin 512) (l : Fin 1024) (f : FVec Ideal S8192x1024 .bf16) :
    f (((cfg0.win 4).blk t).view.emb (ix2 r l)) = f (ix2 (row t r) l) := by
  unfold row
  blk_ext [idx t]

theorem embT (t : Fin cfg0.N) (l : Fin 1024) (r : Fin 512) (f : FVec Ideal S1024x8192 .bf16) :
    f (((cfg0.win 5).blk t).view.emb (ix2 l r)) = f (ix2 l (row t r)) := by
  unfold row
  blk_ext [idx t]

theorem rd0 (c : Dev nD) (t : Fin cfg0.N) (r : Fin 512) (l : Fin 1024) :
    (iblk m c 0 t : B) (ix2 r l) = (m ((c : Thread nD τ).loc main_arg0) : X) (ix2 (row t r) l) := by
  unfold row
  blk_ext [iblk, V, idx t]

theorem rd1 (c : Dev nD) (t : Fin cfg0.N) : at1 (iblk m c 1 t : R) = at1 (m ((c : Thread nD τ).loc main_arg1) : R) := by
  funext l
  unfold at1
  blk_ext [iblk, V, idx t]

theorem rd2 (c : Dev nD) (t : Fin cfg0.N) : at1 (iblk m c 2 t : R) = at1 (m ((c : Thread nD τ).loc main_arg2) : R) := by
  funext l
  unfold at1
  blk_ext [iblk, V, idx t]

theorem rd3 (c : Dev nD) (t : Fin cfg0.N) : at1 (iblk m c 3 t : R) = at1 (m ((c : Thread nD τ).loc main_arg3) : R) := by
  funext l
  unfold at1
  blk_ext [iblk, V, idx t]

theorem pay1 (x : B) (w s h : R) (r : Fin 512) (l : Fin 1024) :
    k0_pay1 (F := Ideal) x w s h (ix2 r l) = norm (fun k => x (ix2 r k)) (at1 w) (at1 s) (at1 h) l := by
  pointwise [k0_pay1, norm, rs, at1]

theorem pay (x : B) (w s h : R) (r : Fin 512) (l : Fin 1024) :
    (out0_4 (F := Ideal) x w s h : FVec Ideal S512x1024 .bf16) (ix2 r l) = norm (fun k => x (ix2 r k)) (at1 w) (at1 s) (at1 h) l := by
  trans k0_pay2 (F := Ideal) x w s h (ix2 r l)
  · frame_out
    try pointwise
  · rw [← pay1]
    pointwise [k0_pay2]

theorem payT (x : B) (w s h : R) (r : Fin 512) (l : Fin 1024) :
    (out0_5 (F := Ideal) x w s h : FVec Ideal S1024x512 .bf16) (ix2 l r) = norm (fun k => x (ix2 r k)) (at1 w) (at1 s) (at1 h) l := by
  trans k0_pay3 (F := Ideal) x w s h (ix2 l r)
  · frame_out
    try pointwise
  · rw [← pay1]
    pointwise [k0_pay3]

theorem final (c : Dev nD) : (dats m 0 c).arrAt 4 (cfgs 0).N = arr (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨r, l, rfl⟩ : ∃ (r : Fin 512) (l : Fin 1024), y = ix2 r l := ⟨y 0, y 1, eq_ix2 y⟩
  blk_simp
  rw [after0_4]
  refine (pay _ _ _ _ r l).trans (Eq.trans ?_ (emb t r l (arr (m ((c : Thread nD τ).loc main_arg0)) (m ((c : Thread nD τ).loc main_arg1)) (m ((c : Thread nD τ).loc main_arg2)) (m ((c : Thread nD τ).loc main_arg3)))).symm)
  rw [rd1 m c t, rd2 m c t, rd3 m c t, funext (rd0 m c t r)]
  rfl

theorem finalT (c : Dev nD) : (dats m 0 c).arrAt 5 (cfgs 0).N = arrT (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨l, r, rfl⟩ : ∃ (l : Fin 1024) (r : Fin 512), y = ix2 l r := ⟨y 0, y 1, eq_ix2 y⟩
  blk_simp
  rw [after0_5]
  refine (payT _ _ _ _ r l).trans (Eq.trans ?_ (embT t l r (arrT (m ((c : Thread nD τ).loc main_arg0)) (m ((c : Thread nD τ).loc main_arg1)) (m ((c : Thread nD τ).loc main_arg2)) (m ((c : Thread nD τ).loc main_arg3)))).symm)
  rw [rd1 m c t, rd2 m c t, rd3 m c t, funext (rd0 m c t r)]
  rfl

/-- Equal arguments give equal results. -/
theorem cg {x x' : X} {w w' s s' h h' : R} (e0 : x' = x) (e1 : w' = w) (e2 : s' = s) (e3 : h' = h) :
    arr x' w' s' h' = arr x w s h := by
  subst e0 e1 e2 e3; rfl

theorem cgT {x x' : X} {w w' s s' h h' : R} (e0 : x' = x) (e1 : w' = w) (e2 : s' = s) (e3 : h' = h) :
    arrT x' w' s' h' = arrT x w s h := by
  subst e0 e1 e2 e3; rfl

open Cert.ReferencePreIdeal.Read

theorem rsq (x : X) (r : Fin 8192) (z : Fin 1) : val_main_v7 (F := Ideal) x (ix2 r z) = rs (fun k => x (ix2 r k)) := by
  pointwise [val_main_v7, val_main_v6, val_main_v5, val_main_v4, val_main_v3, val_main_v2, val_main_v1, val_main_v0, val_main_cst, val_main_cst_0, val_main_cst_1, rs]
  try simp

theorem ref (x : X) (w s h : R) : val_main_v18 (F := Ideal) x w s h = arr x w s h := by
  funext i
  obtain ⟨r, l, rfl⟩ : ∃ (r : Fin 8192) (l : Fin 1024), i = ix2 r l := ⟨i 0, i 1, eq_ix2 i⟩
  show _ = norm (fun k => x (ix2 r k)) (at1 w) (at1 s) (at1 h) l
  pointwise [val_main_v18, val_main_v17, val_main_v16, val_main_v15, val_main_v14, val_main_v13, val_main_v12, val_main_v11, val_main_v10, val_main_v9, val_main_v8, val_main_cst_2, rsq x, norm, at1]

theorem refT (x : X) (w s h : R) : val_main_v19 (F := Ideal) x w s h = arrT x w s h := by
  funext i
  obtain ⟨l, r, rfl⟩ : ∃ (l : Fin 1024) (r : Fin 8192), i = ix2 l r := ⟨i 0, i 1, eq_ix2 i⟩
  refine Eq.trans ?_ (congrFun (ref x w s h) (ix2 r l))
  pointwise [val_main_v19]

end Cert.Pre

namespace Cert.Pre.Claim

open Cert.Pre

theorem quiescent_RefI : quiescent_ReferencePreIdeal := by
  intro m g _
  refine (θ_run _ _ _).mono (fun r h => ⟨fun c => ?_, sem_eq_zero_of_no_sems (by decide) _⟩) (Cert.ReferencePreIdeal.Value.run m g)
  obtain ⟨_, _, h⟩ := h c
  exact h

theorem value : algebraic_KernelPreIdeal_ReferencePreIdeal := by
  intro m g m' g' _ hagree
  refine ⟨fun c => arr (m ((c.tc : Thread Cert.KernelPreIdeal.nD Cert.KernelPreIdeal.τ).loc Cert.KernelPreIdeal.main_arg0)) (m ((c.tc : Thread Cert.KernelPreIdeal.nD Cert.KernelPreIdeal.τ).loc Cert.KernelPreIdeal.main_arg1)) (m ((c.tc : Thread Cert.KernelPreIdeal.nD Cert.KernelPreIdeal.τ).loc Cert.KernelPreIdeal.main_arg2)) (m ((c.tc : Thread Cert.KernelPreIdeal.nD Cert.KernelPreIdeal.τ).loc Cert.KernelPreIdeal.main_arg3)),
    fun c => arrT (m ((c.tc : Thread Cert.KernelPreIdeal.nD Cert.KernelPreIdeal.τ).loc Cert.KernelPreIdeal.main_arg0)) (m ((c.tc : Thread Cert.KernelPreIdeal.nD Cert.KernelPreIdeal.τ).loc Cert.KernelPreIdeal.main_arg1)) (m ((c.tc : Thread Cert.KernelPreIdeal.nD Cert.KernelPreIdeal.τ).loc Cert.KernelPreIdeal.main_arg2)) (m ((c.tc : Thread Cert.KernelPreIdeal.nD Cert.KernelPreIdeal.τ).loc Cert.KernelPreIdeal.main_arg3)), ?_, ?_⟩
  · refine (θ_run _ _ _).mono (fun r h c => ?_) (Cert.KernelPreIdeal.Value.run_blocks m g)
    obtain ⟨h0, h1, h⟩ := h c
    exact ⟨h0.trans (final m c), h1.trans (finalT m c), h⟩
  · refine (θ_run _ _ _).mono (fun r h c => ?_) (Cert.ReferencePreIdeal.Value.run m' g')
    obtain ⟨h0, h1, h⟩ := h c
    obtain ⟨e0, e1, e2, e3⟩ := hagree c
    exact ⟨(h0.trans (ref _ _ _ _)).trans (cg e0 e1 e2 e3), (h1.trans (refT _ _ _ _)).trans (cgT e0 e1 e2 e3), h⟩

end Cert.Pre.Claim

end
-- ==== Proof.Prod.Du.lean ====
module

public import proofs.«01_k».proof.Defs
public import proofs.«01_k».proof.Proof.Gen.KernelDuIdeal.Value
public import proofs.«01_k».proof.Proof.Gen.ReferenceDuIdeal
public import proofs.«01_k».proof.Proof.Gen.ReferenceDuIdeal.Run
public import proofs.«01_k».proof.Proof.Gen.ReferenceDuIdeal.Read
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # The gradient of the projection's input -/

@[expose] public section

set_option maxRecDepth 16384

noncomputable section

open Idealize.ShloMosaic Idealize.ShloMosaic.TcCoe Idealize.SL.Sem
open Idealize.ShloMosaic.Pipeline (Dat)
open scoped BigOperators

namespace Cert.Du

open Cert.KernelDuIdeal Cert.KernelDuIdeal.Gen

variable (m : (ℓ : Loc nD τ sig) → Buf (Elt Ideal) ℓ)

/-- Every window's block at every grid point. -/
theorem idx : ∀ t : Fin cfg0.N, win0_0.index t = ![t.val / 31, t.val % 31] ∧
    win0_1.index t = ![0, t.val % 31] ∧
    win0_2.index t = ![t.val / 31, 0] :=
  (by decide +kernel : ∀ t : Fin grid0.N, _)

theorem point_lt (t : Fin cfg0.N) : t.val < 124 := lt_of_lt_of_eq t.isLt N_0

def row (t : Fin cfg0.N) (r : Fin 2048) : Fin 8192 := ⟨(t.val / 31) * 2048 + r, by have := point_lt t; omega⟩
def col (t : Fin cfg0.N) (s : Fin 512) : Fin 15872 := ⟨(t.val % 31) * 512 + s, by omega⟩

/-- The left factor times the transposed right one. -/
def mm (d : FVec Ideal S8192x15872 .bf16) (w : FVec Ideal S1024x15872 .bf16) (r : Fin 8192) (l : Fin 1024) : EReal :=
  ∑ s : Fin 15872, d (ix2 r s) * w (ix2 l s)

def arr (d : FVec Ideal S8192x15872 .bf16) (w : FVec Ideal S1024x15872 .bf16) : FVec Ideal S8192x1024 .f32 := fun i => mm d w (i 0) (i 1)

/-- What one block of columns adds. -/
def part (d : FVec Ideal S8192x15872 .bf16) (w : FVec Ideal S1024x15872 .bf16) (t : Fin cfg0.N) (r : Fin 2048) (l : Fin 1024) : EReal :=
  ∑ s : Fin 512, d (ix2 (row t r) (col t s)) * w (ix2 l (col t s))

/-- A block's product. -/
def dotB (d : FVec Ideal S2048x512 .bf16) (w : FVec Ideal S1024x512 .bf16) (r : Fin 2048) (l : Fin 1024) : EReal :=
  ∑ s : Fin 512, d (ix2 r s) * w (ix2 l s)

theorem pay1 (r : Fin 2048) (l : Fin 1024) : k0_pay1 (F := Ideal) (ix2 r l) = 0 := by
  pointwise [k0_pay1]

theorem pay2 (a : FVec Ideal S2048x1024 .f32) (d : FVec Ideal S2048x512 .bf16) (w : FVec Ideal S1024x512 .bf16) (r : Fin 2048) (l : Fin 1024) :
    k0_pay2 a d w (ix2 r l) = a (ix2 r l) + dotB d w r l := by
  unfold dotB
  pointwise [k0_pay2]

theorem rd0 (c : Dev nD) (t : Fin cfg0.N) (r : Fin 2048) (s : Fin 512) :
    (iblk m c 0 t : FVec Ideal S2048x512 .bf16) (ix2 r s) = (m ((c : Thread nD τ).loc main_arg0) : FVec Ideal S8192x15872 .bf16) (ix2 (row t r) (col t s)) := by
  unfold row col
  blk_ext [iblk, V, idx t]

theorem rd1 (c : Dev nD) (t : Fin cfg0.N) (l : Fin 1024) (s : Fin 512) :
    (iblk m c 1 t : FVec Ideal S1024x512 .bf16) (ix2 l s) = (m ((c : Thread nD τ).loc main_arg1) : FVec Ideal S1024x15872 .bf16) (ix2 l (col t s)) := by
  unfold col
  blk_ext [iblk, V, idx t]

theorem adds (c : Dev nD) (t : Fin cfg0.N) (r : Fin 2048) (l : Fin 1024) :
    dotB (iblk m c 0 t) (iblk m c 1 t) r l
      = part (m ((c : Thread nD τ).loc main_arg0)) (m ((c : Thread nD τ).loc main_arg1)) t r l :=
  Finset.sum_congr rfl fun s _ => by rw [rd0 m c t r s, rd1 m c t l s]

/-- The running sum restarts with every block of rows. -/
theorem reset (c : Dev nD) (t : Fin cfg0.N) (h : t.val % 31 = 0) (r : Fin 2048) (l : Fin 1024) :
    (outsAt0 m c t.val t.isLt : FVec Ideal S2048x1024 .f32) (ix2 r l)
      = 0 + part (m ((c : Thread nD τ).loc main_arg0)) (m ((c : Thread nD τ).loc main_arg1)) t r l := by
  rw [outsAt0_A m c t h]
  trans k0_pay2 (k0_pay1 (F := Ideal)) (iblk m c 0 t) (iblk m c 1 t) (ix2 r l)
  · frame_out
  · rw [pay2, pay1, adds m c t r l]

/-- Every other point adds to what the point before left. -/
theorem step (c : Dev nD) (t : Fin cfg0.N) (h : ¬t.val % 31 = 0) (r : Fin 2048) (l : Fin 1024) :
    (outsAt0 m c t.val t.isLt : FVec Ideal S2048x1024 .f32) (ix2 r l)
      = (outsAt0 m c (t.val - 1) (Nat.lt_of_le_of_lt (Nat.sub_le _ _) t.isLt) : FVec Ideal S2048x1024 .f32) (ix2 r l)
        + part (m ((c : Thread nD τ).loc main_arg0)) (m ((c : Thread nD τ).loc main_arg1)) t r l := by
  trans k0_pay2 (outsAt0 m c (t.val - 1) (Nat.lt_of_le_of_lt (Nat.sub_le _ _) t.isLt)) (iblk m c 0 t) (iblk m c 1 t) (ix2 r l)
  · rw [outsAt0_B m c t h]
    frame_out
  · rw [pay2, adds m c t r l]

theorem total (c : Dev nD) (t : Fin cfg0.N) (h : t.val % 31 = 30) (r : Fin 2048) (l : Fin 1024) :
    (outsAt0 m c t.val t.isLt : FVec Ideal S2048x1024 .f32) (ix2 r l)
      = mm (m ((c : Thread nD τ).loc main_arg0)) (m ((c : Thread nD τ).loc main_arg1)) (row t r) l := by
  rw [Pipeline.eq_sum_fin_of_reset_step_apply_of_flush (fun n h => (outsAt0 m c n h : FVec Ideal S2048x1024 .f32)) 31 (fun _ => 0)
    (fun n j => part (m ((c : Thread nD τ).loc main_arg0)) (m ((c : Thread nD τ).loc main_arg1)) n (j 0) (j 1))
    (fun t h j => by
      obtain ⟨a, l, rfl⟩ : ∃ (a : Fin 2048) (l : Fin 1024), j = ix2 a l := ⟨j 0, j 1, eq_ix2 j⟩
      exact reset m c t h a l)
    (fun t h j => by
      obtain ⟨a, l, rfl⟩ : ∃ (a : Fin 2048) (l : Fin 1024), j = ix2 a l := ⟨j 0, j 1, eq_ix2 j⟩
      exact step m c t h a l)
    t h _, zero_add]
  unfold mm
  show (∑ s : Fin 31, part (m ((c : Thread nD τ).loc main_arg0)) (m ((c : Thread nD τ).loc main_arg1)) (⟨31 * (t.val / 31) + s.val, Pipeline.run_point_lt_of_flush t h s⟩ : Fin cfg0.N) r l) = _
  unfold part
  refine Fin.sum_mul_add_congr (L := 15872) (S := 31) (n := 512) fun s k hl => ?_
  have hr : col (⟨31 * (t.val / 31) + s.val, Pipeline.run_point_lt_of_flush t h s⟩ : Fin cfg0.N) k = ⟨s.val * 512 + k.val, by omega⟩ :=
    Fin.ext (by show (31 * (t.val / 31) + s.val) % 31 * 512 + k.val = s.val * 512 + k.val; omega)
  have hc : row (⟨31 * (t.val / 31) + s.val, Pipeline.run_point_lt_of_flush t h s⟩ : Fin cfg0.N) r = row t r :=
    Fin.ext (by show (31 * (t.val / 31) + s.val) / 31 * 2048 + r.val = t.val / 31 * 2048 + r.val; omega)
  rw [hr, hc]

theorem emb (t : Fin cfg0.N) (r : Fin 2048) (l : Fin 1024) (f : FVec Ideal S8192x1024 .f32) :
    f (((cfg0.win 2).blk t).view.emb (ix2 r l)) = f (ix2 (row t r) l) := by
  unfold row
  blk_ext [idx t]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 2048) (l : Fin 1024), y = ix2 r l := ⟨y 0, y 1, eq_ix2 y⟩
  rw [after0_2]
  exact (total m c t ((flush0_2 t).mp hf) r l).trans (emb t r l (arr (m ((c : Thread nD τ).loc main_arg0)) (m ((c : Thread nD τ).loc main_arg1)))).symm

/-- Equal arguments give equal results. -/
theorem cg {d d' : FVec Ideal S8192x15872 .bf16} {w w' : FVec Ideal S1024x15872 .bf16} (e0 : d' = d) (e1 : w' = w) : arr d' w' = arr d w := by
  subst e0 e1; rfl

open Cert.ReferenceDuIdeal.Read in
theorem ref (d : FVec Ideal S8192x15872 .bf16) (w : FVec Ideal S1024x15872 .bf16) : val_main_v7 (F := Ideal) d w = arr d w := by
  funext i
  obtain ⟨r, l, rfl⟩ : ∃ (r : Fin 8192) (l : Fin 1024), i = ix2 r l := ⟨i 0, i 1, eq_ix2 i⟩
  show _ = mm d w r l
  pointwise [val_main_v7, val_main_v6, val_main_v0, mm]

end Cert.Du

namespace Cert.Du.Claim

open Cert.Du

theorem quiescent_KernelI : quiescent_KernelDuIdeal := fun m g _ => Cert.KernelDuIdeal.Gen.frame m g
theorem quiescent_RefI : quiescent_ReferenceDuIdeal := by
  intro m g _
  refine (θ_run _ _ _).mono (fun r h => ⟨fun c => ?_, sem_eq_zero_of_no_sems (by decide) _⟩) (Cert.ReferenceDuIdeal.Value.run m g)
  obtain ⟨_, h⟩ := h c
  exact h

theorem value : algebraic_KernelDuIdeal_ReferenceDuIdeal := by
  intro m g m' g' _ hagree
  refine ⟨fun c => arr (m ((c.tc : Thread Cert.KernelDuIdeal.nD Cert.KernelDuIdeal.τ).loc Cert.KernelDuIdeal.main_arg0)) (m ((c.tc : Thread Cert.KernelDuIdeal.nD Cert.KernelDuIdeal.τ).loc Cert.KernelDuIdeal.main_arg1)), ?_, ?_⟩
  · refine (θ_run _ _ _).mono (fun r h c => ?_) (Cert.KernelDuIdeal.Value.run_blocks m g)
    obtain ⟨h0, h⟩ := h c
    exact ⟨h0.trans (final m c), h⟩
  · refine (θ_run _ _ _).mono (fun r h c => ?_) (Cert.ReferenceDuIdeal.Value.run m' g')
    obtain ⟨h0, h⟩ := h c
    obtain ⟨e0, e1⟩ := hagree c
    refine ⟨(h0.trans (ref _ _)).trans (cg e0 e1), h⟩

end Cert.Du.Claim

end
-- ==== Proof.Prod.Gates.lean ====
module

public import proofs.«01_k».proof.Defs
public import proofs.«01_k».proof.Proof.Gen.KernelGatesIdeal.Value
public import proofs.«01_k».proof.Proof.Gen.ReferenceGatesIdeal
public import proofs.«01_k».proof.Proof.Gen.ReferenceGatesIdeal.Run
public import proofs.«01_k».proof.Proof.Gen.ReferenceGatesIdeal.Read
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # The projection's product and bias: the gates' columns -/

@[expose] public section

set_option maxRecDepth 16384

noncomputable section

open Idealize.ShloMosaic Idealize.ShloMosaic.TcCoe Idealize.SL.Sem
open Idealize.ShloMosaic.Pipeline (Dat)
open scoped BigOperators

namespace Cert.Gates

open Cert.KernelGatesIdeal Cert.KernelGatesIdeal.Gen

variable (m : (ℓ : Loc nD τ sig) → Buf (Elt Ideal) ℓ)

/-- Every window's block at every grid point. -/
theorem idx : ∀ t : Fin cfg0.N, win0_0.index t = ![t.val / 1, 0] ∧
    win0_1.index t = ![0, t.val % 1 + 30] ∧
    win0_2.index t = ![0, t.val % 1 + 30] ∧
    win0_3.index t = ![t.val / 1, t.val % 1] :=
  (by decide +kernel : ∀ t : Fin grid0.N, _)

theorem point_lt (t : Fin cfg0.N) : t.val < 2 * 1 := lt_of_lt_of_eq t.isLt N_0

def row (t : Fin cfg0.N) (r : Fin 4096) : Fin 8192 := ⟨(t.val / 1) * 4096 + r, by have := point_lt t; omega⟩
def col (t : Fin cfg0.N) (l : Fin 512) : Fin 512 := ⟨(t.val % 1) * 512 + l, by have := point_lt t; omega⟩

/-- The product with its bias, columns 15360 onwards. -/
def mm (x : FVec Ideal S8192x1024 .bf16) (w : FVec Ideal S1024x15872 .bf16) (b : FVec Ideal S1x15872 .f32) (r : Fin 8192)
    (l : Fin 512) : EReal :=
  (∑ k : Fin 1024, x (ix2 r k) * w (ix2 k (⟨15360 + l, by omega⟩ : Fin 15872))) + b (ix2 (0 : Fin 1) (⟨15360 + l, by omega⟩ : Fin 15872))

def arr (x : FVec Ideal S8192x1024 .bf16) (w : FVec Ideal S1024x15872 .bf16) (b : FVec Ideal S1x15872 .f32) :
    FVec Ideal S8192x512 .f32 := fun i => mm x w b (i 0) (i 1)

theorem pay (x : FVec Ideal S4096x1024 .bf16) (w : FVec Ideal S1024x512 .bf16) (b : FVec Ideal S1x512 .f32) (r : Fin 4096) (l : Fin 512) :
    (k0_pay1 (F := Ideal) x w b (ix2 r l) : EReal) = (∑ k : Fin 1024, x (ix2 r k) * w (ix2 k l)) + b (ix2 (0 : Fin 1) l) := by
  pointwise [k0_pay1]

theorem emb (t : Fin cfg0.N) (r : Fin 4096) (l : Fin 512) (f : FVec Ideal S8192x512 .f32) :
    f (((cfg0.win 3).blk t).view.emb (ix2 r l)) = f (ix2 (row t r) (col t l)) := by
  unfold row col
  blk_ext [idx t]

theorem rd0 (c : Dev nD) (t : Fin cfg0.N) (r : Fin 4096) (k : Fin 1024) :
    (iblk m c 0 t : FVec Ideal S4096x1024 .bf16) (ix2 r k) = (m ((c : Thread nD τ).loc main_arg0) : FVec Ideal S8192x1024 .bf16) (ix2 (row t r) k) := by
  unfold row
  blk_ext [iblk, V, idx t]

theorem rd1 (c : Dev nD) (t : Fin cfg0.N) (k : Fin 1024) (l : Fin 512) :
    (iblk m c 1 t : FVec Ideal S1024x512 .bf16) (ix2 k l)
      = (m ((c : Thread nD τ).loc main_arg1) : FVec Ideal S1024x15872 .bf16) (ix2 k (⟨15360 + col t l, by omega⟩ : Fin 15872)) := by
  unfold col
  blk_ext [iblk, V, idx t]

theorem rd2 (c : Dev nD) (t : Fin cfg0.N) (l : Fin 512) :
    (iblk m c 2 t : FVec Ideal S1x512 .f32) (ix2 (0 : Fin 1) l)
      = (m ((c : Thread nD τ).loc main_arg2) : FVec Ideal S1x15872 .f32) (ix2 (0 : Fin 1) (⟨15360 + col t l, by omega⟩ : Fin 15872)) := by
  unfold col
  blk_ext [iblk, V, idx t]

theorem point (c : Dev nD) (t : Fin cfg0.N) (r : Fin 4096) (l : Fin 512) :
    (out0_3 (iblk m c 0 t) (iblk m c 1 t) (iblk m c 2 t) : FVec Ideal S4096x512 .f32) (ix2 r l)
      = mm (m ((c : Thread nD τ).loc main_arg0)) (m ((c : Thread nD τ).loc main_arg1)) (m ((c : Thread nD τ).loc main_arg2)) (row t r) (col t l) := by
  trans k0_pay1 (iblk m c 0 t) (iblk m c 1 t) (iblk m c 2 t) (ix2 r l)
  · frame_out
    try pointwise
  · rw [pay, mm, ← rd2 m c t l]
    refine congrArg (· + _) (Finset.sum_congr rfl fun k _ => ?_)
    rw [rd0 m c t r k, rd1 m c t k l]

theorem final (c : Dev nD) : (dats m 0 c).arrAt 3 (cfgs 0).N
    = arr (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, l, rfl⟩ : ∃ (r : Fin 4096) (l : Fin 512), y = ix2 r l := ⟨y 0, y 1, eq_ix2 y⟩
  blk_simp
  rw [after0_3]
  exact (point m c t r l).trans (emb t r l (arr (m ((c : Thread nD τ).loc main_arg0)) (m ((c : Thread nD τ).loc main_arg1)) (m ((c : Thread nD τ).loc main_arg2)))).symm

/-- Equal arguments give equal results. -/
theorem cg {x x' : FVec Ideal S8192x1024 .bf16} {w w' : FVec Ideal S1024x15872 .bf16} {b b' : FVec Ideal S1x15872 .f32}
    (e0 : x' = x) (e1 : w' = w) (e2 : b' = b) : arr x' w' b' = arr x w b := by
  subst e0 e1 e2; rfl

open Cert.ReferenceGatesIdeal.Read in
theorem ref (x : FVec Ideal S8192x1024 .bf16) (w : FVec Ideal S1024x15872 .bf16) (b : FVec Ideal S1x15872 .f32) :
    val_main_v5 (F := Ideal) x w b = arr x w b := by
  funext i
  obtain ⟨r, l, rfl⟩ : ∃ (r : Fin 8192) (l : Fin 512), i = ix2 r l := ⟨i 0, i 1, eq_ix2 i⟩
  show _ = mm x w b r l
  pointwise [val_main_v5, val_main_v4, val_main_v3, val_main_v2, val_main_v1, val_main_v0, mm]

end Cert.Gates

namespace Cert.Gates.Claim

open Cert.Gates

theorem quiescent_KernelI : quiescent_KernelGatesIdeal := fun m g _ => Cert.KernelGatesIdeal.Gen.frame m g
theorem quiescent_RefI : quiescent_ReferenceGatesIdeal := by
  intro m g _
  refine (θ_run _ _ _).mono (fun r h => ⟨fun c => ?_, sem_eq_zero_of_no_sems (by decide) _⟩) (Cert.ReferenceGatesIdeal.Value.run m g)
  obtain ⟨_, h⟩ := h c
  exact h

theorem value : algebraic_KernelGatesIdeal_ReferenceGatesIdeal := by
  intro m g m' g' _ hagree
  refine ⟨fun c => arr (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)), ?_, ?_⟩
  · refine (θ_run _ _ _).mono (fun r h c => ?_) (Cert.KernelGatesIdeal.Value.run_blocks m g)
    obtain ⟨h0, h⟩ := h c
    exact ⟨h0.trans (final m c), h⟩
  · refine (θ_run _ _ _).mono (fun r h c => ?_) (Cert.ReferenceGatesIdeal.Value.run m' g')
    obtain ⟨h0, h⟩ := h c
    obtain ⟨e0, e1, e2⟩ := hagree c
    refine ⟨(h0.trans (ref _ _ _)).trans (cg e0 e1 e2), h⟩

end Cert.Gates.Claim

end
-- ==== Proof.Prod.Gm.lean ====
module

public import proofs.«01_k».proof.Defs
public import proofs.«01_k».proof.Proof.Gen.KernelGmIdeal.Value
public import proofs.«01_k».proof.Proof.Gen.ReferenceGmIdeal
public import proofs.«01_k».proof.Proof.Gen.ReferenceGmIdeal.Run
public import proofs.«01_k».proof.Proof.Gen.ReferenceGmIdeal.Read
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # The gradient of a branch projection's weights -/

@[expose] public section

set_option maxRecDepth 16384

noncomputable section

open Idealize.ShloMosaic Idealize.ShloMosaic.TcCoe Idealize.SL.Sem
open Idealize.ShloMosaic.Pipeline (Dat)
open scoped BigOperators

namespace Cert.Gm

open Cert.KernelGmIdeal Cert.KernelGmIdeal.Gen

variable (m : (ℓ : Loc nD τ sig) → Buf (Elt Ideal) ℓ)

/-- Every window's block at every grid point. -/
theorem idx : ∀ t : Fin cfg0.N, win0_0.index t = ![t.val % 4, 0] ∧
    win0_1.index t = ![t.val % 4, t.val / 4] ∧
    win0_2.index t = ![0, t.val / 4] :=
  (by decide +kernel : ∀ t : Fin grid0.N, _)

theorem point_lt (t : Fin cfg0.N) : t.val < 8 := lt_of_lt_of_eq t.isLt N_0

def row (t : Fin cfg0.N) (s : Fin 2048) : Fin 8192 := ⟨(t.val % 4) * 2048 + s, by omega⟩
def col (t : Fin cfg0.N) (l : Fin 512) : Fin 1024 := ⟨(t.val / 4) * 512 + l, by have := point_lt t; omega⟩

/-- The transposed left factor times the right one. -/
def mm (y : FVec Ideal S8192x2048 .bf16) (d : FVec Ideal S8192x1024 .bf16) (r : Fin 2048) (l : Fin 1024) : EReal :=
  ∑ s : Fin 8192, y (ix2 s r) * d (ix2 s l)

def arr (y : FVec Ideal S8192x2048 .bf16) (d : FVec Ideal S8192x1024 .bf16) : FVec Ideal S2048x1024 .bf16 := fun i => mm y d (i 0) (i 1)

/-- What one block of rows adds. -/
def part (y : FVec Ideal S8192x2048 .bf16) (d : FVec Ideal S8192x1024 .bf16) (t : Fin cfg0.N) (r : Fin 2048) (l : Fin 512) : EReal :=
  ∑ s : Fin 2048, y (ix2 (row t s) r) * d (ix2 (row t s) (col t l))

/-- A block's product. -/
def dotB (y : FVec Ideal S2048x2048 .bf16) (d : FVec Ideal S2048x512 .bf16) (r : Fin 2048) (l : Fin 512) : EReal :=
  ∑ s : Fin 2048, y (ix2 s r) * d (ix2 s l)

theorem pay1 (r : Fin 2048) (l : Fin 512) : k0_pay1 (F := Ideal) (ix2 r l) = 0 := by
  pointwise [k0_pay1]

theorem pay2 (a : FVec Ideal S2048x512 .f32) (y : FVec Ideal S2048x2048 .bf16) (d : FVec Ideal S2048x512 .bf16) (r : Fin 2048) (l : Fin 512) :
    k0_pay2 a y d (ix2 r l) = a (ix2 r l) + dotB y d r l := by
  unfold dotB
  pointwise [k0_pay2]

theorem rd0 (c : Dev nD) (t : Fin cfg0.N) (s : Fin 2048) (r : Fin 2048) :
    (iblk m c 0 t : FVec Ideal S2048x2048 .bf16) (ix2 s r) = (m ((c : Thread nD τ).loc main_arg0) : FVec Ideal S8192x2048 .bf16) (ix2 (row t s) r) := by
  unfold row
  blk_ext [iblk, V, idx t]

theorem rd1 (c : Dev nD) (t : Fin cfg0.N) (s : Fin 2048) (l : Fin 512) :
    (iblk m c 1 t : FVec Ideal S2048x512 .bf16) (ix2 s l) = (m ((c : Thread nD τ).loc main_arg1) : FVec Ideal S8192x1024 .bf16) (ix2 (row t s) (col t l)) := by
  unfold row col
  blk_ext [iblk, V, idx t]

theorem adds (c : Dev nD) (t : Fin cfg0.N) (r : Fin 2048) (l : Fin 512) :
    dotB (iblk m c 0 t) (iblk m c 1 t) r l
      = part (m ((c : Thread nD τ).loc main_arg0)) (m ((c : Thread nD τ).loc main_arg1)) t r l :=
  Finset.sum_congr rfl fun s _ => by rw [rd0 m c t s r, rd1 m c t s l]

/-- The running sum restarts at every fourth point. -/
theorem reset (c : Dev nD) (t : Fin cfg0.N) (h : t.val % 4 = 0) (r : Fin 2048) (l : Fin 512) :
    (outsAt0 m c t.val t.isLt).2 (ix2 r l)
      = 0 + part (m ((c : Thread nD τ).loc main_arg0)) (m ((c : Thread nD τ).loc main_arg1)) t r l := by
  rw [outsAt0_A m c t h (by omega)]
  trans k0_pay2 (k0_pay1 (F := Ideal)) (iblk m c 0 t) (iblk m c 1 t) (ix2 r l)
  · frame_out
  · rw [pay2, pay1, adds m c t r l]

/-- Every other point adds to what the point before left. -/
theorem step (c : Dev nD) (t : Fin cfg0.N) (h : ¬t.val % 4 = 0) (r : Fin 2048) (l : Fin 512) :
    (outsAt0 m c t.val t.isLt).2 (ix2 r l)
      = (outsAt0 m c (t.val - 1) (Nat.lt_of_le_of_lt (Nat.sub_le _ _) t.isLt)).2 (ix2 r l)
        + part (m ((c : Thread nD τ).loc main_arg0)) (m ((c : Thread nD τ).loc main_arg1)) t r l := by
  trans k0_pay2 (outsAt0 m c (t.val - 1) (Nat.lt_of_le_of_lt (Nat.sub_le _ _) t.isLt)).2 (iblk m c 0 t) (iblk m c 1 t) (ix2 r l)
  · by_cases h3 : t.val % 4 = 3
    · rw [outsAt0_C m c t h h3]
      frame_out
      exact congrArg (fun a => k0_pay2 (F := Ideal) a (iblk m c 0 t) (iblk m c 1 t) (ix2 r l)) (Memref.IsWhole.read_unread _ _)
    · rw [outsAt0_B m c t h h3]
      frame_out
      exact congrArg (fun a => k0_pay2 (F := Ideal) a (iblk m c 0 t) (iblk m c 1 t) (ix2 r l)) (Memref.IsWhole.read_unread _ _)
  · rw [pay2, adds m c t r l]

/-- At a run's last point the output holds the running sum. -/
theorem last (c : Dev nD) (t : Fin cfg0.N) (h : t.val % 4 = 3) (r : Fin 2048) (l : Fin 512) :
    (outsAt0 m c t.val t.isLt).1 (ix2 r l) = (outsAt0 m c t.val t.isLt).2 (ix2 r l) := by
  rw [outsAt0_C m c t (by omega) h]
  frame_out
  all_goals pointwise [k0_pay3]

theorem total (c : Dev nD) (t : Fin cfg0.N) (h : t.val % 4 = 3) (r : Fin 2048) (l : Fin 512) :
    (outsAt0 m c t.val t.isLt).2 (ix2 r l)
      = mm (m ((c : Thread nD τ).loc main_arg0)) (m ((c : Thread nD τ).loc main_arg1)) r (col t l) := by
  rw [Pipeline.eq_sum_fin_of_reset_step_apply_of_flush (fun n h => (outsAt0 m c n h).2) 4 (fun _ => 0)
    (fun n j => part (m ((c : Thread nD τ).loc main_arg0)) (m ((c : Thread nD τ).loc main_arg1)) n (j 0) (j 1))
    (fun t h j => by
      obtain ⟨a, l, rfl⟩ : ∃ (a : Fin 2048) (l : Fin 512), j = ix2 a l := ⟨j 0, j 1, eq_ix2 j⟩
      exact reset m c t h a l)
    (fun t h j => by
      obtain ⟨a, l, rfl⟩ : ∃ (a : Fin 2048) (l : Fin 512), j = ix2 a l := ⟨j 0, j 1, eq_ix2 j⟩
      exact step m c t h a l)
    t h _, zero_add]
  unfold mm
  show (∑ s : Fin 4, part (m ((c : Thread nD τ).loc main_arg0)) (m ((c : Thread nD τ).loc main_arg1)) (⟨4 * (t.val / 4) + s.val, Pipeline.run_point_lt_of_flush t h s⟩ : Fin cfg0.N) r l) = _
  unfold part
  refine Fin.sum_mul_add_congr (L := 8192) (S := 4) (n := 2048) fun s k hl => ?_
  have hr : row (⟨4 * (t.val / 4) + s.val, Pipeline.run_point_lt_of_flush t h s⟩ : Fin cfg0.N) k = ⟨s.val * 2048 + k.val, by omega⟩ :=
    Fin.ext (by show (4 * (t.val / 4) + s.val) % 4 * 2048 + k.val = s.val * 2048 + k.val; omega)
  have hc : col (⟨4 * (t.val / 4) + s.val, Pipeline.run_point_lt_of_flush t h s⟩ : Fin cfg0.N) l = col t l :=
    Fin.ext (by show (4 * (t.val / 4) + s.val) / 4 * 512 + l.val = t.val / 4 * 512 + l.val; omega)
  rw [hr, hc]

theorem emb (t : Fin cfg0.N) (r : Fin 2048) (l : Fin 512) (f : FVec Ideal S2048x1024 .bf16) :
    f (((cfg0.win 2).blk t).view.emb (ix2 r l)) = f (ix2 r (col t l)) := by
  unfold col
  blk_ext [idx t]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 2048) (l : Fin 512), y = ix2 r l := ⟨y 0, y 1, eq_ix2 y⟩
  have h := (flush0_2 t).mp hf
  rw [after0_2]
  exact ((last m c t h r l).trans (total m c t h r l)).trans (emb t r l (arr (m ((c : Thread nD τ).loc main_arg0)) (m ((c : Thread nD τ).loc main_arg1)))).symm

/-- Equal arguments give equal results. -/
theorem cg {y y' : FVec Ideal S8192x2048 .bf16} {d d' : FVec Ideal S8192x1024 .bf16} (e0 : y' = y) (e1 : d' = d) : arr y' d' = arr y d := by
  subst e0 e1; rfl

open Cert.ReferenceGmIdeal.Read in
theorem ref (y : FVec Ideal S8192x2048 .bf16) (d : FVec Ideal S8192x1024 .bf16) :
    val_main_v6 (F := Ideal) y d = arr y d := by
  funext i
  obtain ⟨r, l, rfl⟩ : ∃ (r : Fin 2048) (l : Fin 1024), i = ix2 r l := ⟨i 0, i 1, eq_ix2 i⟩
  show _ = mm y d r l
  unfold mm
  trans ∑ s : Fin 8192, d (ix2 s l) * y (ix2 s r)
  · pointwise [val_main_v6, val_main_v5, val_main_v4, val_main_v3, val_main_v0]
  · exact Finset.sum_congr rfl fun s _ => mul_comm _ _

end Cert.Gm

namespace Cert.Gm.Claim

open Cert.Gm

theorem quiescent_KernelI : quiescent_KernelGmIdeal := fun m g _ => Cert.KernelGmIdeal.Gen.frame m g
theorem quiescent_RefI : quiescent_ReferenceGmIdeal := by
  intro m g _
  refine (θ_run _ _ _).mono (fun r h => ⟨fun c => ?_, sem_eq_zero_of_no_sems (by decide) _⟩) (Cert.ReferenceGmIdeal.Value.run m g)
  obtain ⟨_, h⟩ := h c
  exact h

theorem value : algebraic_KernelGmIdeal_ReferenceGmIdeal := by
  intro m g m' g' _ hagree
  refine ⟨fun c => arr (m ((c.tc : Thread Cert.KernelGmIdeal.nD Cert.KernelGmIdeal.τ).loc Cert.KernelGmIdeal.main_arg0)) (m ((c.tc : Thread Cert.KernelGmIdeal.nD Cert.KernelGmIdeal.τ).loc Cert.KernelGmIdeal.main_arg1)), ?_, ?_⟩
  · refine (θ_run _ _ _).mono (fun r h c => ?_) (Cert.KernelGmIdeal.Value.run_blocks m g)
    obtain ⟨h0, h⟩ := h c
    exact ⟨h0.trans (final m c), h⟩
  · refine (θ_run _ _ _).mono (fun r h c => ?_) (Cert.ReferenceGmIdeal.Value.run m' g')
    obtain ⟨h0, h⟩ := h c
    obtain ⟨e0, e1⟩ := hagree c
    refine ⟨(h0.trans (ref _ _)).trans (cg e0 e1), h⟩

end Cert.Gm.Claim

end
-- ==== Proof.Prod.Go.lean ====
module

public import proofs.«01_k».proof.Defs
public import proofs.«01_k».proof.Proof.Gen.KernelGoIdeal.Value
public import proofs.«01_k».proof.Proof.Gen.ReferenceGoIdeal
public import proofs.«01_k».proof.Proof.Gen.ReferenceGoIdeal.Run
public import proofs.«01_k».proof.Proof.Gen.ReferenceGoIdeal.Read
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # The gradient of the output projection's weights -/

@[expose] public section

set_option maxRecDepth 16384

noncomputable section

open Idealize.ShloMosaic Idealize.ShloMosaic.TcCoe Idealize.SL.Sem
open Idealize.ShloMosaic.Pipeline (Dat)
open scoped BigOperators

namespace Cert.Go

open Cert.KernelGoIdeal Cert.KernelGoIdeal.Gen

variable (m : (ℓ : Loc nD τ sig) → Buf (Elt Ideal) ℓ)

/-- Every window's block at every grid point. -/
theorem idx : ∀ t : Fin cfg0.N, win0_0.index t = ![t.val % 4, 0] ∧
    win0_1.index t = ![t.val % 4, t.val / 4] ∧
    win0_2.index t = ![0, t.val / 4] :=
  (by decide +kernel : ∀ t : Fin grid0.N, _)

theorem point_lt (t : Fin cfg0.N) : t.val < 8 := lt_of_lt_of_eq t.isLt N_0

def row (t : Fin cfg0.N) (s : Fin 2048) : Fin 8192 := ⟨(t.val % 4) * 2048 + s, by omega⟩
def col (t : Fin cfg0.N) (l : Fin 512) : Fin 1024 := ⟨(t.val / 4) * 512 + l, by have := point_lt t; omega⟩

/-- The transposed left factor times the right one. -/
def mm (y : FVec Ideal S8192x1024 .bf16) (d : FVec Ideal S8192x1024 .bf16) (r : Fin 1024) (l : Fin 1024) : EReal :=
  ∑ s : Fin 8192, y (ix2 s r) * d (ix2 s l)

def arr (y : FVec Ideal S8192x1024 .bf16) (d : FVec Ideal S8192x1024 .bf16) : FVec Ideal S1024x1024 .bf16 := fun i => mm y d (i 0) (i 1)

/-- What one block of rows adds. -/
def part (y : FVec Ideal S8192x1024 .bf16) (d : FVec Ideal S8192x1024 .bf16) (t : Fin cfg0.N) (r : Fin 1024) (l : Fin 512) : EReal :=
  ∑ s : Fin 2048, y (ix2 (row t s) r) * d (ix2 (row t s) (col t l))

/-- A block's product. -/
def dotB (y : FVec Ideal S2048x1024 .bf16) (d : FVec Ideal S2048x512 .bf16) (r : Fin 1024) (l : Fin 512) : EReal :=
  ∑ s : Fin 2048, y (ix2 s r) * d (ix2 s l)

theorem pay1 (r : Fin 1024) (l : Fin 512) : k0_pay1 (F := Ideal) (ix2 r l) = 0 := by
  pointwise [k0_pay1]

theorem pay2 (a : FVec Ideal S1024x512 .f32) (y : FVec Ideal S2048x1024 .bf16) (d : FVec Ideal S2048x512 .bf16) (r : Fin 1024) (l : Fin 512) :
    k0_pay2 a y d (ix2 r l) = a (ix2 r l) + dotB y d r l := by
  unfold dotB
  pointwise [k0_pay2]

theorem rd0 (c : Dev nD) (t : Fin cfg0.N) (s : Fin 2048) (r : Fin 1024) :
    (iblk m c 0 t : FVec Ideal S2048x1024 .bf16) (ix2 s r) = (m ((c : Thread nD τ).loc main_arg0) : FVec Ideal S8192x1024 .bf16) (ix2 (row t s) r) := by
  unfold row
  blk_ext [iblk, V, idx t]

theorem rd1 (c : Dev nD) (t : Fin cfg0.N) (s : Fin 2048) (l : Fin 512) :
    (iblk m c 1 t : FVec Ideal S2048x512 .bf16) (ix2 s l) = (m ((c : Thread nD τ).loc main_arg1) : FVec Ideal S8192x1024 .bf16) (ix2 (row t s) (col t l)) := by
  unfold row col
  blk_ext [iblk, V, idx t]

theorem adds (c : Dev nD) (t : Fin cfg0.N) (r : Fin 1024) (l : Fin 512) :
    dotB (iblk m c 0 t) (iblk m c 1 t) r l
      = part (m ((c : Thread nD τ).loc main_arg0)) (m ((c : Thread nD τ).loc main_arg1)) t r l :=
  Finset.sum_congr rfl fun s _ => by rw [rd0 m c t s r, rd1 m c t s l]

/-- The running sum restarts at every fourth point. -/
theorem reset (c : Dev nD) (t : Fin cfg0.N) (h : t.val % 4 = 0) (r : Fin 1024) (l : Fin 512) :
    (outsAt0 m c t.val t.isLt).2 (ix2 r l)
      = 0 + part (m ((c : Thread nD τ).loc main_arg0)) (m ((c : Thread nD τ).loc main_arg1)) t r l := by
  rw [outsAt0_A m c t h (by omega)]
  trans k0_pay2 (k0_pay1 (F := Ideal)) (iblk m c 0 t) (iblk m c 1 t) (ix2 r l)
  · frame_out
  · rw [pay2, pay1, adds m c t r l]

/-- Every other point adds to what the point before left. -/
theorem step (c : Dev nD) (t : Fin cfg0.N) (h : ¬t.val % 4 = 0) (r : Fin 1024) (l : Fin 512) :
    (outsAt0 m c t.val t.isLt).2 (ix2 r l)
      = (outsAt0 m c (t.val - 1) (Nat.lt_of_le_of_lt (Nat.sub_le _ _) t.isLt)).2 (ix2 r l)
        + part (m ((c : Thread nD τ).loc main_arg0)) (m ((c : Thread nD τ).loc main_arg1)) t r l := by
  trans k0_pay2 (outsAt0 m c (t.val - 1) (Nat.lt_of_le_of_lt (Nat.sub_le _ _) t.isLt)).2 (iblk m c 0 t) (iblk m c 1 t) (ix2 r l)
  · by_cases h3 : t.val % 4 = 3
    · rw [outsAt0_C m c t h h3]
      frame_out
      exact congrArg (fun a => k0_pay2 (F := Ideal) a (iblk m c 0 t) (iblk m c 1 t) (ix2 r l)) (Memref.IsWhole.read_unread _ _)
    · rw [outsAt0_B m c t h h3]
      frame_out
      exact congrArg (fun a => k0_pay2 (F := Ideal) a (iblk m c 0 t) (iblk m c 1 t) (ix2 r l)) (Memref.IsWhole.read_unread _ _)
  · rw [pay2, adds m c t r l]

/-- At a run's last point the output holds the running sum. -/
theorem last (c : Dev nD) (t : Fin cfg0.N) (h : t.val % 4 = 3) (r : Fin 1024) (l : Fin 512) :
    (outsAt0 m c t.val t.isLt).1 (ix2 r l) = (outsAt0 m c t.val t.isLt).2 (ix2 r l) := by
  rw [outsAt0_C m c t (by omega) h]
  frame_out
  all_goals pointwise [k0_pay3]

theorem total (c : Dev nD) (t : Fin cfg0.N) (h : t.val % 4 = 3) (r : Fin 1024) (l : Fin 512) :
    (outsAt0 m c t.val t.isLt).2 (ix2 r l)
      = mm (m ((c : Thread nD τ).loc main_arg0)) (m ((c : Thread nD τ).loc main_arg1)) r (col t l) := by
  rw [Pipeline.eq_sum_fin_of_reset_step_apply_of_flush (fun n h => (outsAt0 m c n h).2) 4 (fun _ => 0)
    (fun n j => part (m ((c : Thread nD τ).loc main_arg0)) (m ((c : Thread nD τ).loc main_arg1)) n (j 0) (j 1))
    (fun t h j => by
      obtain ⟨a, l, rfl⟩ : ∃ (a : Fin 1024) (l : Fin 512), j = ix2 a l := ⟨j 0, j 1, eq_ix2 j⟩
      exact reset m c t h a l)
    (fun t h j => by
      obtain ⟨a, l, rfl⟩ : ∃ (a : Fin 1024) (l : Fin 512), j = ix2 a l := ⟨j 0, j 1, eq_ix2 j⟩
      exact step m c t h a l)
    t h _, zero_add]
  unfold mm
  show (∑ s : Fin 4, part (m ((c : Thread nD τ).loc main_arg0)) (m ((c : Thread nD τ).loc main_arg1)) (⟨4 * (t.val / 4) + s.val, Pipeline.run_point_lt_of_flush t h s⟩ : Fin cfg0.N) r l) = _
  unfold part
  refine Fin.sum_mul_add_congr (L := 8192) (S := 4) (n := 2048) fun s k hl => ?_
  have hr : row (⟨4 * (t.val / 4) + s.val, Pipeline.run_point_lt_of_flush t h s⟩ : Fin cfg0.N) k = ⟨s.val * 2048 + k.val, by omega⟩ :=
    Fin.ext (by show (4 * (t.val / 4) + s.val) % 4 * 2048 + k.val = s.val * 2048 + k.val; omega)
  have hc : col (⟨4 * (t.val / 4) + s.val, Pipeline.run_point_lt_of_flush t h s⟩ : Fin cfg0.N) l = col t l :=
    Fin.ext (by show (4 * (t.val / 4) + s.val) / 4 * 512 + l.val = t.val / 4 * 512 + l.val; omega)
  rw [hr, hc]

theorem emb (t : Fin cfg0.N) (r : Fin 1024) (l : Fin 512) (f : FVec Ideal S1024x1024 .bf16) :
    f (((cfg0.win 2).blk t).view.emb (ix2 r l)) = f (ix2 r (col t l)) := by
  unfold col
  blk_ext [idx t]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 1024) (l : Fin 512), y = ix2 r l := ⟨y 0, y 1, eq_ix2 y⟩
  have h := (flush0_2 t).mp hf
  rw [after0_2]
  exact ((last m c t h r l).trans (total m c t h r l)).trans (emb t r l (arr (m ((c : Thread nD τ).loc main_arg0)) (m ((c : Thread nD τ).loc main_arg1)))).symm

/-- Equal arguments give equal results. -/
theorem cg {y y' : FVec Ideal S8192x1024 .bf16} {d d' : FVec Ideal S8192x1024 .bf16} (e0 : y' = y) (e1 : d' = d) : arr y' d' = arr y d := by
  subst e0 e1; rfl

open Cert.ReferenceGoIdeal.Read in
theorem ref (y : FVec Ideal S8192x1024 .bf16) (d : FVec Ideal S8192x1024 .bf16) :
    val_main_v6 (F := Ideal) y d = arr y d := by
  funext i
  obtain ⟨r, l, rfl⟩ : ∃ (r : Fin 1024) (l : Fin 1024), i = ix2 r l := ⟨i 0, i 1, eq_ix2 i⟩
  show _ = mm y d r l
  unfold mm
  trans ∑ s : Fin 8192, d (ix2 s l) * y (ix2 s r)
  · pointwise [val_main_v6, val_main_v5, val_main_v4, val_main_v3, val_main_v0]
  · exact Finset.sum_congr rfl fun s _ => mul_comm _ _

end Cert.Go

namespace Cert.Go.Claim

open Cert.Go

theorem quiescent_KernelI : quiescent_KernelGoIdeal := fun m g _ => Cert.KernelGoIdeal.Gen.frame m g
theorem quiescent_RefI : quiescent_ReferenceGoIdeal := by
  intro m g _
  refine (θ_run _ _ _).mono (fun r h => ⟨fun c => ?_, sem_eq_zero_of_no_sems (by decide) _⟩) (Cert.ReferenceGoIdeal.Value.run m g)
  obtain ⟨_, h⟩ := h c
  exact h

theorem value : algebraic_KernelGoIdeal_ReferenceGoIdeal := by
  intro m g m' g' _ hagree
  refine ⟨fun c => arr (m ((c.tc : Thread Cert.KernelGoIdeal.nD Cert.KernelGoIdeal.τ).loc Cert.KernelGoIdeal.main_arg0)) (m ((c.tc : Thread Cert.KernelGoIdeal.nD Cert.KernelGoIdeal.τ).loc Cert.KernelGoIdeal.main_arg1)), ?_, ?_⟩
  · refine (θ_run _ _ _).mono (fun r h c => ?_) (Cert.KernelGoIdeal.Value.run_blocks m g)
    obtain ⟨h0, h⟩ := h c
    exact ⟨h0.trans (final m c), h⟩
  · refine (θ_run _ _ _).mono (fun r h c => ?_) (Cert.ReferenceGoIdeal.Value.run m' g')
    obtain ⟨h0, h⟩ := h c
    obtain ⟨e0, e1⟩ := hagree c
    refine ⟨(h0.trans (ref _ _)).trans (cg e0 e1), h⟩

end Cert.Go.Claim

end
-- ==== Proof.Prod.Gw.lean ====
module

public import proofs.«01_k».proof.Defs
public import proofs.«01_k».proof.Proof.Gen.KernelGwIdeal.Value
public import proofs.«01_k».proof.Proof.Gen.ReferenceGwIdeal
public import proofs.«01_k».proof.Proof.Gen.ReferenceGwIdeal.Run
public import proofs.«01_k».proof.Proof.Gen.ReferenceGwIdeal.Read
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # The gradients of the projection's weights and bias -/

@[expose] public section

set_option maxRecDepth 16384

noncomputable section

open Idealize.ShloMosaic Idealize.ShloMosaic.TcCoe Idealize.SL.Sem
open Idealize.ShloMosaic.Pipeline (Dat)
open scoped BigOperators

namespace Cert.Gw

open Cert.KernelGwIdeal Cert.KernelGwIdeal.Gen

variable (m : (ℓ : Loc nD τ sig) → Buf (Elt Ideal) ℓ)

/-- Every window's block at every grid point. -/
theorem idx : ∀ t : Fin cfg0.N, win0_0.index t = ![0, t.val % 2] ∧
    win0_1.index t = ![t.val % 2, t.val / 2] ∧
    win0_2.index t = ![0, t.val / 2] ∧
    win0_3.index t = ![0, t.val / 2] :=
  (by decide +kernel : ∀ t : Fin grid0.N, _)

theorem point_lt (t : Fin cfg0.N) : t.val < 62 := lt_of_lt_of_eq t.isLt N_0

def row (t : Fin cfg0.N) (s : Fin 4096) : Fin 8192 := ⟨(t.val % 2) * 4096 + s, by omega⟩
def col (t : Fin cfg0.N) (l : Fin 512) : Fin 15872 := ⟨(t.val / 2) * 512 + l, by have := point_lt t; omega⟩

/-- The transposed left factor times the right one. -/
def mm (u : FVec Ideal S8192x1024 .bf16) (d : FVec Ideal S8192x15872 .bf16) (r : Fin 1024) (l : Fin 15872) : EReal :=
  ∑ s : Fin 8192, u (ix2 s r) * d (ix2 s l)

/-- The right factor's column sums. -/
def cs (d : FVec Ideal S8192x15872 .bf16) (l : Fin 15872) : EReal := ∑ s : Fin 8192, d (ix2 s l)

/-- A one-row array's index. -/
theorem row0 {n : ℕ} (j : (⟨2, ![1, n]⟩ : Shape).Idx) : ∃ l : Fin n, j = ix2 (0 : Fin 1) l :=
  ⟨j 1, (eq_ix2 j).trans (congrArg (fun a : Fin 1 => ix2 a (j 1)) (Subsingleton.elim (α := Fin 1) _ _))⟩

def arr (u : FVec Ideal S8192x1024 .bf16) (d : FVec Ideal S8192x15872 .bf16) : FVec Ideal S1024x15872 .bf16 := fun i => mm u d (i 0) (i 1)
def arrC (d : FVec Ideal S8192x15872 .bf16) : FVec Ideal S1x15872 .f32 := fun i => cs d (i 1)

/-- What one block of rows adds. -/
def part (u : FVec Ideal S8192x1024 .bf16) (d : FVec Ideal S8192x15872 .bf16) (t : Fin cfg0.N) (r : Fin 1024) (l : Fin 512) : EReal :=
  ∑ s : Fin 4096, u (ix2 (row t s) r) * d (ix2 (row t s) (col t l))
def partC (d : FVec Ideal S8192x15872 .bf16) (t : Fin cfg0.N) (l : Fin 512) : EReal := ∑ s : Fin 4096, d (ix2 (row t s) (col t l))

/-- A block's product and its column sums. -/
def dotB (u : FVec Ideal S1024x4096 .bf16) (d : FVec Ideal S4096x512 .bf16) (r : Fin 1024) (l : Fin 512) : EReal :=
  ∑ s : Fin 4096, u (ix2 r s) * d (ix2 s l)
def sumB (d : FVec Ideal S4096x512 .bf16) (l : Fin 512) : EReal := ∑ s : Fin 4096, d (ix2 s l)

theorem pay1 (r : Fin 1024) (l : Fin 512) : k0_pay1 (F := Ideal) (ix2 r l) = 0 := by
  pointwise [k0_pay1]

theorem pay2 (a : FVec Ideal S1024x512 .f32) (u : FVec Ideal S1024x4096 .bf16) (d : FVec Ideal S4096x512 .bf16) (r : Fin 1024) (l : Fin 512) :
    k0_pay2 a u d (ix2 r l) = a (ix2 r l) + dotB u d r l := by
  unfold dotB
  pointwise [k0_pay2]

theorem pay4 (l : Fin 512) : k0_pay4 (F := Ideal) (ix2 (0 : Fin 1) l) = 0 := by
  pointwise [k0_pay4]

theorem pay5 (a : FVec Ideal S1x512 .f32) (d : FVec Ideal S4096x512 .bf16) (l : Fin 512) :
    k0_pay5 a d (ix2 (0 : Fin 1) l) = a (ix2 (0 : Fin 1) l) + sumB d l := by
  unfold sumB
  pointwise [k0_pay5]

theorem rd0 (c : Dev nD) (t : Fin cfg0.N) (r : Fin 1024) (s : Fin 4096) :
    (iblk m c 0 t : FVec Ideal S1024x4096 .bf16) (ix2 r s) = (m ((c : Thread nD τ).loc main_arg0) : FVec Ideal S8192x1024 .bf16) (ix2 (row t s) r) := by
  trans (V m c main_v0 : FVec Ideal S1024x8192 .bf16) (ix2 r (row t s))
  · unfold row
    blk_ext [iblk, idx t]
  · entry_read
    pointwise

theorem rd1 (c : Dev nD) (t : Fin cfg0.N) (s : Fin 4096) (l : Fin 512) :
    (iblk m c 1 t : FVec Ideal S4096x512 .bf16) (ix2 s l) = (m ((c : Thread nD τ).loc main_arg1) : FVec Ideal S8192x15872 .bf16) (ix2 (row t s) (col t l)) := by
  unfold row col
  blk_ext [iblk, V, idx t]

theorem adds (c : Dev nD) (t : Fin cfg0.N) (r : Fin 1024) (l : Fin 512) :
    dotB (iblk m c 0 t) (iblk m c 1 t) r l
      = part (m ((c : Thread nD τ).loc main_arg0)) (m ((c : Thread nD τ).loc main_arg1)) t r l :=
  Finset.sum_congr rfl fun s _ => by rw [rd0 m c t r s, rd1 m c t s l]

theorem addsC (c : Dev nD) (t : Fin cfg0.N) (l : Fin 512) :
    sumB (iblk m c 1 t) l = partC (m ((c : Thread nD τ).loc main_arg1)) t l :=
  Finset.sum_congr rfl fun s _ => by rw [rd1 m c t s l]

/-- The running sums restart at every second point. -/
theorem reset (c : Dev nD) (t : Fin cfg0.N) (h : t.val % 2 = 0) (r : Fin 1024) (l : Fin 512) :
    (outsAt0 m c t.val t.isLt).2.2 (ix2 r l)
      = 0 + part (m ((c : Thread nD τ).loc main_arg0)) (m ((c : Thread nD τ).loc main_arg1)) t r l := by
  rw [outsAt0_A m c t h (by omega) h]
  trans k0_pay2 (k0_pay1 (F := Ideal)) (iblk m c 0 t) (iblk m c 1 t) (ix2 r l)
  · frame_out
  · rw [pay2, pay1, adds m c t r l]

theorem resetC (c : Dev nD) (t : Fin cfg0.N) (h : t.val % 2 = 0) (l : Fin 512) :
    (outsAt0 m c t.val t.isLt).2.1 (ix2 (0 : Fin 1) l) = 0 + partC (m ((c : Thread nD τ).loc main_arg1)) t l := by
  rw [outsAt0_A m c t h (by omega) h]
  trans k0_pay5 (k0_pay4 (F := Ideal)) (iblk m c 1 t) (ix2 (0 : Fin 1) l)
  · frame_out
  · rw [pay5, pay4, addsC m c t l]

/-- Every other point adds to what the point before left. -/
theorem step (c : Dev nD) (t : Fin cfg0.N) (h : ¬t.val % 2 = 0) (r : Fin 1024) (l : Fin 512) :
    (outsAt0 m c t.val t.isLt).2.2 (ix2 r l)
      = (outsAt0 m c (t.val - 1) (Nat.lt_of_le_of_lt (Nat.sub_le _ _) t.isLt)).2.2 (ix2 r l)
        + part (m ((c : Thread nD τ).loc main_arg0)) (m ((c : Thread nD τ).loc main_arg1)) t r l := by
  trans k0_pay2 (outsAt0 m c (t.val - 1) (Nat.lt_of_le_of_lt (Nat.sub_le _ _) t.isLt)).2.2 (iblk m c 0 t) (iblk m c 1 t) (ix2 r l)
  · rw [outsAt0_B m c t h (by omega) h]
    frame_out
    exact congrArg (fun a => k0_pay2 (F := Ideal) a (iblk m c 0 t) (iblk m c 1 t) (ix2 r l)) (Memref.IsWhole.read_unread _ _)
  · rw [pay2, adds m c t r l]

theorem stepC (c : Dev nD) (t : Fin cfg0.N) (h : ¬t.val % 2 = 0) (l : Fin 512) :
    (outsAt0 m c t.val t.isLt).2.1 (ix2 (0 : Fin 1) l)
      = (outsAt0 m c (t.val - 1) (Nat.lt_of_le_of_lt (Nat.sub_le _ _) t.isLt)).2.1 (ix2 (0 : Fin 1) l)
        + partC (m ((c : Thread nD τ).loc main_arg1)) t l := by
  trans k0_pay5 (outsAt0 m c (t.val - 1) (Nat.lt_of_le_of_lt (Nat.sub_le _ _) t.isLt)).2.1 (iblk m c 1 t) (ix2 (0 : Fin 1) l)
  · rw [outsAt0_B m c t h (by omega) h]
    frame_out
  · rw [pay5, addsC m c t l]

/-- At a run's last point the output holds the running sum. -/
theorem last (c : Dev nD) (t : Fin cfg0.N) (h : t.val % 2 = 1) (r : Fin 1024) (l : Fin 512) :
    (outsAt0 m c t.val t.isLt).1 (ix2 r l) = (outsAt0 m c t.val t.isLt).2.2 (ix2 r l) := by
  rw [outsAt0_B m c t (by omega) h (by omega)]
  frame_out
  all_goals pointwise [k0_pay3]

theorem row_run (t : Fin cfg0.N) (s : Fin 2) (h : t.val % 2 = 1) (hs : 2 * (t.val / 2) + s.val < cfg0.N) (k : Fin 4096) :
    row (⟨2 * (t.val / 2) + s.val, hs⟩ : Fin cfg0.N) k = ⟨s.val * 4096 + k.val, by omega⟩ :=
  Fin.ext (by show (2 * (t.val / 2) + s.val) % 2 * 4096 + k.val = s.val * 4096 + k.val; omega)

theorem col_run (t : Fin cfg0.N) (s : Fin 2) (hs : 2 * (t.val / 2) + s.val < cfg0.N) (l : Fin 512) :
    col (⟨2 * (t.val / 2) + s.val, hs⟩ : Fin cfg0.N) l = col t l :=
  Fin.ext (by show (2 * (t.val / 2) + s.val) / 2 * 512 + l.val = t.val / 2 * 512 + l.val; omega)

theorem total (c : Dev nD) (t : Fin cfg0.N) (h : t.val % 2 = 1) (r : Fin 1024) (l : Fin 512) :
    (outsAt0 m c t.val t.isLt).2.2 (ix2 r l)
      = mm (m ((c : Thread nD τ).loc main_arg0)) (m ((c : Thread nD τ).loc main_arg1)) r (col t l) := by
  rw [Pipeline.eq_sum_fin_of_reset_step_apply_of_flush (fun n h => (outsAt0 m c n h).2.2) 2 (fun _ => 0)
    (fun n j => part (m ((c : Thread nD τ).loc main_arg0)) (m ((c : Thread nD τ).loc main_arg1)) n (j 0) (j 1))
    (fun t h j => by
      obtain ⟨a, l, rfl⟩ : ∃ (a : Fin 1024) (l : Fin 512), j = ix2 a l := ⟨j 0, j 1, eq_ix2 j⟩
      exact reset m c t h a l)
    (fun t h j => by
      obtain ⟨a, l, rfl⟩ : ∃ (a : Fin 1024) (l : Fin 512), j = ix2 a l := ⟨j 0, j 1, eq_ix2 j⟩
      exact step m c t h a l)
    t h _, zero_add]
  unfold mm
  show (∑ s : Fin 2, part (m ((c : Thread nD τ).loc main_arg0)) (m ((c : Thread nD τ).loc main_arg1)) (⟨2 * (t.val / 2) + s.val, Pipeline.run_point_lt_of_flush t h s⟩ : Fin cfg0.N) r l) = _
  unfold part
  refine Fin.sum_mul_add_congr (L := 8192) (S := 2) (n := 4096) fun s k hl => ?_
  rw [row_run t s h, col_run t s]

theorem totalC (c : Dev nD) (t : Fin cfg0.N) (h : t.val % 2 = 1) (l : Fin 512) :
    (outsAt0 m c t.val t.isLt).2.1 (ix2 (0 : Fin 1) l) = cs (m ((c : Thread nD τ).loc main_arg1)) (col t l) := by
  rw [Pipeline.eq_sum_fin_of_reset_step_apply_of_flush (fun n h => (outsAt0 m c n h).2.1) 2 (fun _ => 0)
    (fun n j => partC (m ((c : Thread nD τ).loc main_arg1)) n (j 1))
    (fun t h j => by
      obtain ⟨l, rfl⟩ : ∃ (l : Fin 512), j = ix2 (0 : Fin 1) l := row0 j
      exact resetC m c t h l)
    (fun t h j => by
      obtain ⟨l, rfl⟩ : ∃ (l : Fin 512), j = ix2 (0 : Fin 1) l := row0 j
      exact stepC m c t h l)
    t h _, zero_add]
  unfold cs
  show (∑ s : Fin 2, partC (m ((c : Thread nD τ).loc main_arg1)) (⟨2 * (t.val / 2) + s.val, Pipeline.run_point_lt_of_flush t h s⟩ : Fin cfg0.N) l) = _
  unfold partC
  refine Fin.sum_mul_add_congr (L := 8192) (S := 2) (n := 4096) fun s k hl => ?_
  rw [row_run t s h, col_run t s]

theorem emb (t : Fin cfg0.N) (r : Fin 1024) (l : Fin 512) (f : FVec Ideal S1024x15872 .bf16) :
    f (((cfg0.win 2).blk t).view.emb (ix2 r l)) = f (ix2 r (col t l)) := by
  unfold col
  blk_ext [idx t]

theorem embC (t : Fin cfg0.N) (l : Fin 512) (f : FVec Ideal S1x15872 .f32) :
    f (((cfg0.win 3).blk t).view.emb (ix2 (0 : Fin 1) l)) = f (ix2 (0 : Fin 1) (col t l)) := by
  unfold col
  blk_ext [idx t]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 1024) (l : Fin 512), y = ix2 r l := ⟨y 0, y 1, eq_ix2 y⟩
  have h := (flush0_2 t).mp hf
  rw [after0_2]
  exact ((last m c t h r l).trans (total m c t h r l)).trans (emb t r l (arr (m ((c : Thread nD τ).loc main_arg0)) (m ((c : Thread nD τ).loc main_arg1)))).symm

theorem finalC (c : Dev nD) : (dats m 0 c).arrAt 3 (cfgs 0).N = arrC (m ((c : Thread nD τ).loc main_arg1)) := by
  refine (dats m 0 c).arrAt_eq_of_covers 3 _ (by decide +kernel) fun t hf y => ?_
  obtain ⟨l, rfl⟩ : ∃ (l : Fin 512), y = ix2 (0 : Fin 1) l := row0 y
  have h := (flush0_3 t).mp hf
  rw [after0_3]
  exact (totalC m c t h l).trans (embC t l (arrC (m ((c : Thread nD τ).loc main_arg1)))).symm

/-- Equal arguments give equal results. -/
theorem cg {u u' : FVec Ideal S8192x1024 .bf16} {d d' : FVec Ideal S8192x15872 .bf16} (e0 : u' = u) (e1 : d' = d) : arr u' d' = arr u d := by
  subst e0 e1; rfl
theorem cgC {d d' : FVec Ideal S8192x15872 .bf16} (e1 : d' = d) : arrC d' = arrC d := by
  subst e1; rfl

open Cert.ReferenceGwIdeal.Read in
theorem ref (u : FVec Ideal S8192x1024 .bf16) (d : FVec Ideal S8192x15872 .bf16) : val_main_v11 (F := Ideal) u d = arr u d := by
  funext i
  obtain ⟨r, l, rfl⟩ : ∃ (r : Fin 1024) (l : Fin 15872), i = ix2 r l := ⟨i 0, i 1, eq_ix2 i⟩
  show _ = mm u d r l
  unfold mm
  trans ∑ s : Fin 8192, d (ix2 s l) * u (ix2 s r)
  · pointwise [val_main_v11, val_main_v10, val_main_v9, val_main_v6, val_main_v0]
  · exact Finset.sum_congr rfl fun s _ => mul_comm _ _

open Cert.ReferenceGwIdeal.Read in
theorem refC (d : FVec Ideal S8192x15872 .bf16) : val_main_v8 (F := Ideal) d = arrC d := by
  funext i
  obtain ⟨l, rfl⟩ : ∃ (l : Fin 15872), i = ix2 (0 : Fin 1) l := row0 i
  show _ = cs d l
  unfold cs
  pointwise [val_main_v8, val_main_v7, val_main_v6, val_main_cst_1]

end Cert.Gw

namespace Cert.Gw.Claim

open Cert.Gw

theorem quiescent_KernelI : quiescent_KernelGwIdeal := fun m g _ => Cert.KernelGwIdeal.Gen.frame m g
theorem quiescent_RefI : quiescent_ReferenceGwIdeal := by
  intro m g _
  refine (θ_run _ _ _).mono (fun r h => ⟨fun c => ?_, sem_eq_zero_of_no_sems (by decide) _⟩) (Cert.ReferenceGwIdeal.Value.run m g)
  obtain ⟨_, _, h⟩ := h c
  exact h

theorem value : algebraic_KernelGwIdeal_ReferenceGwIdeal := by
  intro m g m' g' _ hagree
  refine ⟨fun c => arr (m ((c.tc : Thread Cert.KernelGwIdeal.nD Cert.KernelGwIdeal.τ).loc Cert.KernelGwIdeal.main_arg0)) (m ((c.tc : Thread Cert.KernelGwIdeal.nD Cert.KernelGwIdeal.τ).loc Cert.KernelGwIdeal.main_arg1)),
    fun c => arrC (m ((c.tc : Thread Cert.KernelGwIdeal.nD Cert.KernelGwIdeal.τ).loc Cert.KernelGwIdeal.main_arg1)), ?_, ?_⟩
  · refine (θ_run _ _ _).mono (fun r h c => ?_) (Cert.KernelGwIdeal.Value.run_blocks m g)
    obtain ⟨h0, h1, h⟩ := h c
    exact ⟨h0.trans (final m c), h1.trans (finalC m c), h⟩
  · refine (θ_run _ _ _).mono (fun r h c => ?_) (Cert.ReferenceGwIdeal.Value.run m' g')
    obtain ⟨h0, h1, h⟩ := h c
    obtain ⟨e0, e1⟩ := hagree c
    refine ⟨(h0.trans (ref _ _)).trans (cg e0 e1), (h1.trans (refC _)).trans (cgC e1), h⟩

end Cert.Gw.Claim

end
-- ==== Proof.Prod.Proj.lean ====
module

public import proofs.«01_k».proof.Defs
public import proofs.«01_k».proof.Proof.Gen.KernelProjIdeal.Value
public import proofs.«01_k».proof.Proof.Gen.ReferenceProjIdeal
public import proofs.«01_k».proof.Proof.Gen.ReferenceProjIdeal.Run
public import proofs.«01_k».proof.Proof.Gen.ReferenceProjIdeal.Read
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

/-! # The projection's product and bias: every column but the gates' -/

@[expose] public section

set_option maxRecDepth 16384

noncomputable section

open Idealize.ShloMosaic Idealize.ShloMosaic.TcCoe Idealize.SL.Sem
open Idealize.ShloMosaic.Pipeline (Dat)
open scoped BigOperators

namespace Cert.Proj

open Cert.KernelProjIdeal Cert.KernelProjIdeal.Gen

variable (m : (ℓ : Loc nD τ sig) → Buf (Elt Ideal) ℓ)

/-- Every window's block at every grid point. -/
theorem idx : ∀ t : Fin cfg0.N, win0_0.index t = ![t.val / 30, 0] ∧
    win0_1.index t = ![0, t.val % 30 + 0] ∧
    win0_2.index t = ![0, t.val % 30 + 0] ∧
    win0_3.index t = ![t.val / 30, t.val % 30] :=
  (by decide +kernel : ∀ t : Fin grid0.N, _)

theorem point_lt (t : Fin cfg0.N) : t.val < 2 * 30 := lt_of_lt_of_eq t.isLt N_0

def row (t : Fin cfg0.N) (r : Fin 4096) : Fin 8192 := ⟨(t.val / 30) * 4096 + r, by have := point_lt t; omega⟩
def col (t : Fin cfg0.N) (l : Fin 512) : Fin 15360 := ⟨(t.val % 30) * 512 + l, by have := point_lt t; omega⟩

/-- The product with its bias, columns 0 onwards. -/
def mm (x : FVec Ideal S8192x1024 .bf16) (w : FVec Ideal S1024x15872 .bf16) (b : FVec Ideal S1x15872 .f32) (r : Fin 8192)
    (l : Fin 15360) : EReal :=
  (∑ k : Fin 1024, x (ix2 r k) * w (ix2 k (⟨l + 0, by omega⟩ : Fin 15872))) + b (ix2 (0 : Fin 1) (⟨l + 0, by omega⟩ : Fin 15872))

def arr (x : FVec Ideal S8192x1024 .bf16) (w : FVec Ideal S1024x15872 .bf16) (b : FVec Ideal S1x15872 .f32) :
    FVec Ideal S8192x15360 .bf16 := fun i => mm x w b (i 0) (i 1)

theorem pay (x : FVec Ideal S4096x1024 .bf16) (w : FVec Ideal S1024x512 .bf16) (b : FVec Ideal S1x512 .f32) (r : Fin 4096) (l : Fin 512) :
    k0_pay1 x w b (ix2 r l) = (∑ k : Fin 1024, x (ix2 r k) * w (ix2 k l)) + b (ix2 (0 : Fin 1) l) := by
  pointwise [k0_pay1]

theorem emb (t : Fin cfg0.N) (r : Fin 4096) (l : Fin 512) (f : FVec Ideal S8192x15360 .bf16) :
    f (((cfg0.win 3).blk t).view.emb (ix2 r l)) = f (ix2 (row t r) (col t l)) := by
  unfold row col
  blk_ext [idx t]

theorem rd0 (c : Dev nD) (t : Fin cfg0.N) (r : Fin 4096) (k : Fin 1024) :
    (iblk m c 0 t : FVec Ideal S4096x1024 .bf16) (ix2 r k) = (m ((c : Thread nD τ).loc main_arg0) : FVec Ideal S8192x1024 .bf16) (ix2 (row t r) k) := by
  unfold row
  blk_ext [iblk, V, idx t]

theorem rd1 (c : Dev nD) (t : Fin cfg0.N) (k : Fin 1024) (l : Fin 512) :
    (iblk m c 1 t : FVec Ideal S1024x512 .bf16) (ix2 k l)
      = (m ((c : Thread nD τ).loc main_arg1) : FVec Ideal S1024x15872 .bf16) (ix2 k (⟨col t l + 0, by omega⟩ : Fin 15872)) := by
  unfold col
  blk_ext [iblk, V, idx t]

theorem rd2 (c : Dev nD) (t : Fin cfg0.N) (l : Fin 512) :
    (iblk m c 2 t : FVec Ideal S1x512 .f32) (ix2 (0 : Fin 1) l)
      = (m ((c : Thread nD τ).loc main_arg2) : FVec Ideal S1x15872 .f32) (ix2 (0 : Fin 1) (⟨col t l + 0, by omega⟩ : Fin 15872)) := by
  unfold col
  blk_ext [iblk, V, idx t]

theorem point (c : Dev nD) (t : Fin cfg0.N) (r : Fin 4096) (l : Fin 512) :
    (out0_3 (iblk m c 0 t) (iblk m c 1 t) (iblk m c 2 t) : FVec Ideal S4096x512 .bf16) (ix2 r l)
      = mm (m ((c : Thread nD τ).loc main_arg0)) (m ((c : Thread nD τ).loc main_arg1)) (m ((c : Thread nD τ).loc main_arg2)) (row t r) (col t l) := by
  trans k0_pay1 (iblk m c 0 t) (iblk m c 1 t) (iblk m c 2 t) (ix2 r l)
  · frame_out
    try pointwise
  · rw [pay, mm, ← rd2 m c t l]
    refine congrArg (· + _) (Finset.sum_congr rfl fun k _ => ?_)
    rw [rd0 m c t r k, rd1 m c t k l]

theorem final (c : Dev nD) : (dats m 0 c).arrAt 3 (cfgs 0).N
    = arr (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, l, rfl⟩ : ∃ (r : Fin 4096) (l : Fin 512), y = ix2 r l := ⟨y 0, y 1, eq_ix2 y⟩
  blk_simp
  rw [after0_3]
  exact (point m c t r l).trans (emb t r l (arr (m ((c : Thread nD τ).loc main_arg0)) (m ((c : Thread nD τ).loc main_arg1)) (m ((c : Thread nD τ).loc main_arg2)))).symm

/-- Equal arguments give equal results. -/
theorem cg {x x' : FVec Ideal S8192x1024 .bf16} {w w' : FVec Ideal S1024x15872 .bf16} {b b' : FVec Ideal S1x15872 .f32}
    (e0 : x' = x) (e1 : w' = w) (e2 : b' = b) : arr x' w' b' = arr x w b := by
  subst e0 e1 e2; rfl

open Cert.ReferenceProjIdeal.Read in
theorem ref (x : FVec Ideal S8192x1024 .bf16) (w : FVec Ideal S1024x15872 .bf16) (b : FVec Ideal S1x15872 .f32) :
    val_main_v6 (F := Ideal) x w b = arr x w b := by
  funext i
  obtain ⟨r, l, rfl⟩ : ∃ (r : Fin 8192) (l : Fin 15360), i = ix2 r l := ⟨i 0, i 1, eq_ix2 i⟩
  show _ = mm x w b r l
  pointwise [val_main_v6, val_main_v5, val_main_v4, val_main_v3, val_main_v2, val_main_v1, val_main_v0, mm]

end Cert.Proj

namespace Cert.Proj.Claim

open Cert.Proj

theorem quiescent_KernelI : quiescent_KernelProjIdeal := fun m g _ => Cert.KernelProjIdeal.Gen.frame m g
theorem quiescent_RefI : quiescent_ReferenceProjIdeal := by
  intro m g _
  refine (θ_run _ _ _).mono (fun r h => ⟨fun c => ?_, sem_eq_zero_of_no_sems (by decide) _⟩) (Cert.ReferenceProjIdeal.Value.run m g)
  obtain ⟨_, h⟩ := h c
  exact h

theorem value : algebraic_KernelProjIdeal_ReferenceProjIdeal := by
  intro m g m' g' _ hagree
  refine ⟨fun c => arr (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg1)) (m ((c.tc : Thread Cert.KernelProjIdeal.nD Cert.KernelProjIdeal.τ).loc Cert.KernelProjIdeal.main_arg2)), ?_, ?_⟩
  · refine (θ_run _ _ _).mono (fun r h c => ?_) (Cert.KernelProjIdeal.Value.run_blocks m g)
    obtain ⟨h0, h⟩ := h c
    exact ⟨h0.trans (final m c), h⟩
  · refine (θ_run _ _ _).mono (fun r h c => ?_) (Cert.ReferenceProjIdeal.Value.run m' g')
    obtain ⟨h0, h⟩ := h c
    obtain ⟨e0, e1, e2⟩ := hagree c
    refine ⟨(h0.trans (ref _ _ _)).trans (cg e0 e1 e2), h⟩

end Cert.Proj.Claim

end
-- ==== Proof.lean ====
module

public import proofs.«01_k».proof.Defs
public import proofs.«01_k».proof.Proof.AdamAda.Claim
public import proofs.«01_k».proof.Proof.AdamIn.Claim
public import proofs.«01_k».proof.Proof.AdamOut.Claim
public import proofs.«01_k».proof.Proof.AdamProj.Claim
public import proofs.«01_k».proof.Proof.AdamRest.Claim
public import proofs.«01_k».proof.Proof.Cond.Claim
public import proofs.«01_k».proof.Proof.CondW.Claim
public import proofs.«01_k».proof.Proof.Gen.Kernel
public import proofs.«01_k».proof.Proof.Gen.Kernel.Frame
public import proofs.«01_k».proof.Proof.Gen.KernelAdamAda
public import proofs.«01_k».proof.Proof.Gen.KernelAdamAda.Frame
public import proofs.«01_k».proof.Proof.Gen.KernelAdamAdaIdeal
public import proofs.«01_k».proof.Proof.Gen.KernelAdamAdaIdeal.Frame
public import proofs.«01_k».proof.Proof.Gen.KernelAdamIn
public import proofs.«01_k».proof.Proof.Gen.KernelAdamIn.Frame
public import proofs.«01_k».proof.Proof.Gen.KernelAdamInIdeal
public import proofs.«01_k».proof.Proof.Gen.KernelAdamInIdeal.Frame
public import proofs.«01_k».proof.Proof.Gen.KernelAdamOut
public import proofs.«01_k».proof.Proof.Gen.KernelAdamOut.Frame
public import proofs.«01_k».proof.Proof.Gen.KernelAdamOutIdeal
public import proofs.«01_k».proof.Proof.Gen.KernelAdamOutIdeal.Frame
public import proofs.«01_k».proof.Proof.Gen.KernelAdamProj
public import proofs.«01_k».proof.Proof.Gen.KernelAdamProj.Frame
public import proofs.«01_k».proof.Proof.Gen.KernelAdamProjIdeal
public import proofs.«01_k».proof.Proof.Gen.KernelAdamProjIdeal.Frame
public import proofs.«01_k».proof.Proof.Gen.KernelAdamRest
public import proofs.«01_k».proof.Proof.Gen.KernelAdamRest.Frame
public import proofs.«01_k».proof.Proof.Gen.KernelAdamRestIdeal
public import proofs.«01_k».proof.Proof.Gen.KernelAdamRestIdeal.Frame
public import proofs.«01_k».proof.Proof.Gen.KernelCond
public import proofs.«01_k».proof.Proof.Gen.KernelCond.Frame
public import proofs.«01_k».proof.Proof.Gen.KernelCondIdeal
public import proofs.«01_k».proof.Proof.Gen.KernelCondIdeal.Frame
public import proofs.«01_k».proof.Proof.Gen.KernelCondW
public import proofs.«01_k».proof.Proof.Gen.KernelCondW.Frame
public import proofs.«01_k».proof.Proof.Gen.KernelCondWIdeal
public import proofs.«01_k».proof.Proof.Gen.KernelCondWIdeal.Frame
public import proofs.«01_k».proof.Proof.Gen.KernelDu
public import proofs.«01_k».proof.Proof.Gen.KernelDu.Frame
public import proofs.«01_k».proof.Proof.Gen.KernelDuIdeal
public import proofs.«01_k».proof.Proof.Gen.KernelDuIdeal.Frame
public import proofs.«01_k».proof.Proof.Gen.KernelGates
public import proofs.«01_k».proof.Proof.Gen.KernelGates.Frame
public import proofs.«01_k».proof.Proof.Gen.KernelGatesIdeal
public import proofs.«01_k».proof.Proof.Gen.KernelGatesIdeal.Frame
public import proofs.«01_k».proof.Proof.Gen.KernelGm
public import proofs.«01_k».proof.Proof.Gen.KernelGm.Frame
public import proofs.«01_k».proof.Proof.Gen.KernelGmIdeal
public import proofs.«01_k».proof.Proof.Gen.KernelGmIdeal.Frame
public import proofs.«01_k».proof.Proof.Gen.KernelGo
public import proofs.«01_k».proof.Proof.Gen.KernelGo.Frame
public import proofs.«01_k».proof.Proof.Gen.KernelGoIdeal
public import proofs.«01_k».proof.Proof.Gen.KernelGoIdeal.Frame
public import proofs.«01_k».proof.Proof.Gen.KernelGw
public import proofs.«01_k».proof.Proof.Gen.KernelGw.Frame
public import proofs.«01_k».proof.Proof.Gen.KernelGwIdeal
public import proofs.«01_k».proof.Proof.Gen.KernelGwIdeal.Frame
public import proofs.«01_k».proof.Proof.Gen.KernelIdeal
public import proofs.«01_k».proof.Proof.Gen.KernelIdeal.Frame
public import proofs.«01_k».proof.Proof.Gen.KernelNorm
public import proofs.«01_k».proof.Proof.Gen.KernelNorm.Frame
public import proofs.«01_k».proof.Proof.Gen.KernelNormIdeal
public import proofs.«01_k».proof.Proof.Gen.KernelNormIdeal.Frame
public import proofs.«01_k».proof.Proof.Gen.KernelPost
public import proofs.«01_k».proof.Proof.Gen.KernelPost.Frame
public import proofs.«01_k».proof.Proof.Gen.KernelPostIdeal
public import proofs.«01_k».proof.Proof.Gen.KernelPostIdeal.Frame
public import proofs.«01_k».proof.Proof.Gen.KernelPre
public import proofs.«01_k».proof.Proof.Gen.KernelPre.Frame
public import proofs.«01_k».proof.Proof.Gen.KernelPreIdeal
public import proofs.«01_k».proof.Proof.Gen.KernelPreIdeal.Frame
public import proofs.«01_k».proof.Proof.Gen.KernelProj
public import proofs.«01_k».proof.Proof.Gen.KernelProj.Frame
public import proofs.«01_k».proof.Proof.Gen.KernelProjIdeal
public import proofs.«01_k».proof.Proof.Gen.KernelProjIdeal.Frame
public import proofs.«01_k».proof.Proof.Gen.KernelSsd
public import proofs.«01_k».proof.Proof.Gen.KernelSsd.Frame
public import proofs.«01_k».proof.Proof.Gen.KernelSsdIdeal
public import proofs.«01_k».proof.Proof.Gen.KernelSsdIdeal.Frame
public import proofs.«01_k».proof.Proof.Gen.On_shifts
public import proofs.«01_k».proof.Proof.Gen.On_written
public import proofs.«01_k».proof.Proof.Gen.Pre_numbers
public import proofs.«01_k».proof.Proof.Gen.ReferenceAdamAdaIdeal
public import proofs.«01_k».proof.Proof.Gen.ReferenceAdamInIdeal
public import proofs.«01_k».proof.Proof.Gen.ReferenceAdamOutIdeal
public import proofs.«01_k».proof.Proof.Gen.ReferenceAdamProjIdeal
public import proofs.«01_k».proof.Proof.Gen.ReferenceAdamRestIdeal
public import proofs.«01_k».proof.Proof.Gen.ReferenceCondIdeal
public import proofs.«01_k».proof.Proof.Gen.ReferenceCondWIdeal
public import proofs.«01_k».proof.Proof.Gen.ReferenceDuIdeal
public import proofs.«01_k».proof.Proof.Gen.ReferenceGatesIdeal
public import proofs.«01_k».proof.Proof.Gen.ReferenceGmIdeal
public import proofs.«01_k».proof.Proof.Gen.ReferenceGoIdeal
public import proofs.«01_k».proof.Proof.Gen.ReferenceGwIdeal
public import proofs.«01_k».proof.Proof.Gen.ReferenceIdeal
public import proofs.«01_k».proof.Proof.Gen.ReferenceNormIdeal
public import proofs.«01_k».proof.Proof.Gen.ReferencePostIdeal
public import proofs.«01_k».proof.Proof.Gen.ReferencePreIdeal
public import proofs.«01_k».proof.Proof.Gen.ReferenceProjIdeal
public import proofs.«01_k».proof.Proof.Merge.Claim
public import proofs.«01_k».proof.Proof.Norm.Claim
public import proofs.«01_k».proof.Proof.Post.Claim
public import proofs.«01_k».proof.Proof.Pre.Claim
public import proofs.«01_k».proof.Proof.Prod.Du
public import proofs.«01_k».proof.Proof.Prod.Gates
public import proofs.«01_k».proof.Proof.Prod.Gm
public import proofs.«01_k».proof.Proof.Prod.Go
public import proofs.«01_k».proof.Proof.Prod.Gw
public import proofs.«01_k».proof.Proof.Prod.Proj
public import Idealize.ShloMosaic.Lib.Claim

@[expose] public section

noncomputable section

namespace Cert.Proof

open Idealize.ShloMosaic Idealize.SL.Sem

/-- Every claim, each from the module that proves it. -/
theorem claim : Cert.Claim := ⟨Cert.Kernel.Gen.facts, Cert.KernelIdeal.Gen.facts, Cert.ReferenceIdeal.Gen.facts, Cert.KernelGw.Gen.facts, Cert.KernelGwIdeal.Gen.facts, Cert.ReferenceGwIdeal.Gen.facts, Cert.KernelDu.Gen.facts, Cert.KernelDuIdeal.Gen.facts, Cert.ReferenceDuIdeal.Gen.facts, Cert.KernelGm.Gen.facts, Cert.KernelGmIdeal.Gen.facts, Cert.ReferenceGmIdeal.Gen.facts, Cert.KernelGo.Gen.facts, Cert.KernelGoIdeal.Gen.facts, Cert.ReferenceGoIdeal.Gen.facts, Cert.KernelProj.Gen.facts, Cert.KernelProjIdeal.Gen.facts, Cert.ReferenceProjIdeal.Gen.facts, Cert.KernelGates.Gen.facts, Cert.KernelGatesIdeal.Gen.facts, Cert.ReferenceGatesIdeal.Gen.facts, Cert.KernelNorm.Gen.facts, Cert.KernelNormIdeal.Gen.facts, Cert.ReferenceNormIdeal.Gen.facts, Cert.KernelSsd.Gen.facts, Cert.KernelSsdIdeal.Gen.facts, Cert.KernelAdamIn.Gen.facts, Cert.KernelAdamInIdeal.Gen.facts, Cert.ReferenceAdamInIdeal.Gen.facts, Cert.KernelAdamAda.Gen.facts, Cert.KernelAdamAdaIdeal.Gen.facts, Cert.ReferenceAdamAdaIdeal.Gen.facts, Cert.KernelAdamProj.Gen.facts, Cert.KernelAdamProjIdeal.Gen.facts, Cert.ReferenceAdamProjIdeal.Gen.facts, Cert.KernelAdamOut.Gen.facts, Cert.KernelAdamOutIdeal.Gen.facts, Cert.ReferenceAdamOutIdeal.Gen.facts, Cert.KernelPre.Gen.facts, Cert.KernelPreIdeal.Gen.facts, Cert.ReferencePreIdeal.Gen.facts, Cert.KernelAdamRest.Gen.facts, Cert.KernelAdamRestIdeal.Gen.facts, Cert.ReferenceAdamRestIdeal.Gen.facts, Cert.KernelCond.Gen.facts, Cert.KernelCondIdeal.Gen.facts, Cert.ReferenceCondIdeal.Gen.facts, Cert.KernelCondW.Gen.facts, Cert.KernelCondWIdeal.Gen.facts, Cert.ReferenceCondWIdeal.Gen.facts, Cert.KernelPost.Gen.facts, Cert.KernelPostIdeal.Gen.facts, Cert.ReferencePostIdeal.Gen.facts, Cert.Pre_numbers.Gen.facts, Cert.On_written.Gen.facts, Cert.On_shifts.Gen.facts,
  fun m g _ => Cert.Kernel.Gen.frame m g,
  fun m g _ => Cert.KernelIdeal.Gen.frame m g,
  Cert.Merge.Claim.frameR,
  fun m g _ => Cert.KernelGw.Gen.frame m g,
  fun m g _ => Cert.KernelGwIdeal.Gen.frame m g,
  Cert.Gw.Claim.quiescent_RefI,
  fun m g _ => Cert.KernelDu.Gen.frame m g,
  fun m g _ => Cert.KernelDuIdeal.Gen.frame m g,
  Cert.Du.Claim.quiescent_RefI,
  fun m g _ => Cert.KernelGm.Gen.frame m g,
  fun m g _ => Cert.KernelGmIdeal.Gen.frame m g,
  Cert.Gm.Claim.quiescent_RefI,
  fun m g _ => Cert.KernelGo.Gen.frame m g,
  fun m g _ => Cert.KernelGoIdeal.Gen.frame m g,
  Cert.Go.Claim.quiescent_RefI,
  fun m g _ => Cert.KernelProj.Gen.frame m g,
  fun m g _ => Cert.KernelProjIdeal.Gen.frame m g,
  Cert.Proj.Claim.quiescent_RefI,
  fun m g _ => Cert.KernelGates.Gen.frame m g,
  fun m g _ => Cert.KernelGatesIdeal.Gen.frame m g,
  Cert.Gates.Claim.quiescent_RefI,
  fun m g _ => Cert.KernelNorm.Gen.frame m g,
  fun m g _ => Cert.KernelNormIdeal.Gen.frame m g,
  fun m g _ => Cert.KernelNormIdeal.Gen.frame m g,
  Cert.Norm.Claim.quiescent_RefI,
  fun m g _ => Cert.Norm.Claim.quiescent_RefI m g trivial,
  fun m g _ => Cert.KernelSsd.Gen.frame m g,
  fun m g _ => Cert.KernelSsdIdeal.Gen.frame m g,
  fun m g _ => Cert.KernelAdamIn.Gen.frame m g,
  fun m g _ => Cert.KernelAdamInIdeal.Gen.frame m g,
  Cert.AdamIn.Claim.quiescent_RefI,
  fun m g _ => Cert.KernelAdamAda.Gen.frame m g,
  fun m g _ => Cert.KernelAdamAdaIdeal.Gen.frame m g,
  Cert.AdamAda.Claim.quiescent_RefI,
  fun m g _ => Cert.KernelAdamProj.Gen.frame m g,
  fun m g _ => Cert.KernelAdamProjIdeal.Gen.frame m g,
  Cert.AdamProj.Claim.quiescent_RefI,
  fun m g _ => Cert.KernelAdamOut.Gen.frame m g,
  fun m g _ => Cert.KernelAdamOutIdeal.Gen.frame m g,
  Cert.AdamOut.Claim.quiescent_RefI,
  fun m g _ => Cert.KernelPre.Gen.frame m g,
  fun m g _ => Cert.KernelPreIdeal.Gen.frame m g,
  Cert.Pre.Claim.quiescent_RefI,
  fun m g _ => Cert.KernelAdamRest.Gen.frame m g,
  fun m g _ => Cert.KernelAdamRestIdeal.Gen.frame m g,
  Cert.AdamRest.Claim.quiescent_RefI,
  fun m g _ => Cert.KernelCond.Gen.frame m g,
  fun m g _ => Cert.KernelCondIdeal.Gen.frame m g,
  Cert.Cond.Claim.quiescent_RefI,
  fun m g _ => Cert.KernelCondW.Gen.frame m g,
  fun m g _ => Cert.KernelCondWIdeal.Gen.frame m g,
  Cert.CondW.Claim.quiescent_RefI,
  fun m g _ => Cert.KernelPost.Gen.frame m g,
  fun m g _ => Cert.KernelPostIdeal.Gen.frame m g,
  Cert.Post.Claim.quiescent_RefI,
  trivial,
  Cert.Merge.Claim.algebraic,
  trivial,
  Cert.Gw.Claim.value,
  trivial,
  Cert.Du.Claim.value,
  trivial,
  Cert.Gm.Claim.value,
  trivial,
  Cert.Go.Claim.value,
  trivial,
  Cert.Proj.Claim.value,
  trivial,
  Cert.Gates.Claim.value,
  trivial,
  Cert.Norm.Claim.value_shifts,
  Cert.Norm.Claim.value_numbers,
  trivial,
  trivial,
  Cert.AdamIn.Claim.value,
  trivial,
  Cert.AdamAda.Claim.value,
  trivial,
  Cert.AdamProj.Claim.value,
  trivial,
  Cert.AdamOut.Claim.value,
  trivial,
  Cert.Pre.Claim.value,
  trivial,
  Cert.AdamRest.Claim.value,
  trivial,
  Cert.Cond.Claim.value,
  trivial,
  Cert.CondW.Claim.value,
  trivial,
  Cert.Post.Claim.value⟩

end Cert.Proof

end
